-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))) = (fun _ => 1#1)

def Pre_XaMem (m : (ℓ : Loc Cert.XaMem.nD Cert.XaMem.τ Cert.XaMem.sig) → Buf (Elt Bits) ℓ) : Prop :=
  True

def Pre_XaMemIdeal (m : (ℓ : Loc Cert.XaMemIdeal.nD Cert.XaMemIdeal.τ Cert.XaMemIdeal.sig) → Buf (Elt Ideal) ℓ) : Prop :=
  True

def Pre_XaMemRefIdeal (m : (ℓ : Loc Cert.XaMemRefIdeal.nD Cert.XaMemRefIdeal.τ Cert.XaMemRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaIdeal_finite_xa [hPre_finite_xa : Cert.Pre_finite_xa.Facts] (m : (ℓ : Loc Cert.XaIdeal.nD Cert.XaIdeal.τ Cert.XaIdeal.sig) → Buf (Elt Ideal) ℓ) : Prop :=
  ∀ c : Dev Cert.XaIdeal.nD,
    (Cert.Pre_finite_xa.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4)) (m ((c.tc : Thread Cert.XaIdeal.nD Cert.XaIdeal.τ).loc Cert.XaIdeal.main_arg5)) (m ((c.tc : Thread Cert.XaIdeal.nD Cert.XaIdeal.τ).loc Cert.XaIdeal.main_arg6)) (m ((c.tc : Thread Cert.XaIdeal.nD Cert.XaIdeal.τ).loc Cert.XaIdeal.main_arg7))) = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_finite_xa [hPre_finite_xa : Cert.Pre_finite_xa.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4)) (m ((c.tc : Thread Cert.XaRefIdeal.nD Cert.XaRefIdeal.τ).loc Cert.XaRefIdeal.main_arg5)) (m ((c.tc : Thread Cert.XaRefIdeal.nD Cert.XaRefIdeal.τ).loc Cert.XaRefIdeal.main_arg6)) (m ((c.tc : Thread Cert.XaRefIdeal.nD Cert.XaRefIdeal.τ).loc Cert.XaRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mixin [hPre_finite_mixin : Cert.Pre_finite_mixin.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mixin [hPre_finite_mixin : Cert.Pre_finite_mixin.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SsmPrep (m : (ℓ : Loc Cert.SsmPrep.nD Cert.SsmPrep.τ Cert.SsmPrep.sig) → Buf (Elt Bits) ℓ) : Prop :=
  True

def Pre_SsmPrepIdeal (m : (ℓ : Loc Cert.SsmPrepIdeal.nD Cert.SsmPrepIdeal.τ Cert.SsmPrepIdeal.sig) → Buf (Elt Ideal) ℓ) : Prop :=
  True

def Pre_SsmPrepRefIdeal (m : (ℓ : Loc Cert.SsmPrepRefIdeal.nD Cert.SsmPrepRefIdeal.τ Cert.SsmPrepRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_mixout [hPre_finite_mixout : Cert.Pre_finite_mixout.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_mixout.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_mixout [hPre_finite_mixout : Cert.Pre_finite_mixout.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_mixout.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10))) = (fun _ => 1#1)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_XaMem [hXaMem : Cert.XaMem.Facts] : Prop :=
  ∀ (m : (ℓ : Loc Cert.XaMem.nD Cert.XaMem.τ Cert.XaMem.sig) → Buf (Elt Bits) ℓ) (g : Dev Cert.XaMem.nD → PrngReg), Pre_XaMem m →
    θ_run (Cert.XaMem.defs (F := Bits)) (onTc (τ := Cert.XaMem.τ) (Cert.XaMem.main (F := Bits))) ⟨m, fun _ => 0, g⟩ (fun r => (∀ c : Dev Cert.XaMem.nD,
      r.2.mem ((c.tc : Thread Cert.XaMem.nD Cert.XaMem.τ).loc Cert.XaMem.main_arg0) = m ((c.tc : Thread Cert.XaMem.nD Cert.XaMem.τ).loc Cert.XaMem.main_arg0)
      ∧ r.2.mem ((c.tc : Thread Cert.XaMem.nD Cert.XaMem.τ).loc Cert.XaMem.main_arg1) = m ((c.tc : Thread Cert.XaMem.nD Cert.XaMem.τ).loc Cert.XaMem.main_arg1)
      ∧ r.2.mem ((c.tc : Thread Cert.XaMem.nD Cert.XaMem.τ).loc Cert.XaMem.main_arg2) = m ((c.tc : Thread Cert.XaMem.nD Cert.XaMem.τ).loc Cert.XaMem.main_arg2)
      ∧ r.2.mem ((c.tc : Thread Cert.XaMem.nD Cert.XaMem.τ).loc Cert.XaMem.main_arg3) = m ((c.tc : Thread Cert.XaMem.nD Cert.XaMem.τ).loc Cert.XaMem.main_arg3)
      ∧ r.2.mem ((c.tc : Thread Cert.XaMem.nD Cert.XaMem.τ).loc Cert.XaMem.main_arg4) = m ((c.tc : Thread Cert.XaMem.nD Cert.XaMem.τ).loc Cert.XaMem.main_arg4)
      ∧ r.2.mem ((c.tc : Thread Cert.XaMem.nD Cert.XaMem.τ).loc Cert.XaMem.main_arg5) = m ((c.tc : Thread Cert.XaMem.nD Cert.XaMem.τ).loc Cert.XaMem.main_arg5)
      ∧ r.2.mem ((c.tc : Thread Cert.XaMem.nD Cert.XaMem.τ).loc Cert.XaMem.main_arg6) = m ((c.tc : Thread Cert.XaMem.nD Cert.XaMem.τ).loc Cert.XaMem.main_arg6))
      ∧ r.2.sem = fun _ => 0)

def quiescent_XaMemIdeal [hXaMemIdeal : Cert.XaMemIdeal.Facts] : Prop :=
  ∀ (m : (ℓ : Loc Cert.XaMemIdeal.nD Cert.XaMemIdeal.τ Cert.XaMemIdeal.sig) → Buf (Elt Ideal) ℓ) (g : Dev Cert.XaMemIdeal.nD → PrngReg), Pre_XaMemIdeal m →
    θ_run (Cert.XaMemIdeal.defs (F := Ideal)) (onTc (τ := Cert.XaMemIdeal.τ) (Cert.XaMemIdeal.main (F := Ideal))) ⟨m, fun _ => 0, g⟩ (fun r => (∀ c : Dev Cert.XaMemIdeal.nD,
      r.2.mem ((c.tc : Thread Cert.XaMemIdeal.nD Cert.XaMemIdeal.τ).loc Cert.XaMemIdeal.main_arg0) = m ((c.tc : Thread Cert.XaMemIdeal.nD Cert.XaMemIdeal.τ).loc Cert.XaMemIdeal.main_arg0)
      ∧ r.2.mem ((c.tc : Thread Cert.XaMemIdeal.nD Cert.XaMemIdeal.τ).loc Cert.XaMemIdeal.main_arg1) = m ((c.tc : Thread Cert.XaMemIdeal.nD Cert.XaMemIdeal.τ).loc Cert.XaMemIdeal.main_arg1)
      ∧ r.2.mem ((c.tc : Thread Cert.XaMemIdeal.nD Cert.XaMemIdeal.τ).loc Cert.XaMemIdeal.main_arg2) = m ((c.tc : Thread Cert.XaMemIdeal.nD Cert.XaMemIdeal.τ).loc Cert.XaMemIdeal.main_arg2)
      ∧ r.2.mem ((c.tc : Thread Cert.XaMemIdeal.nD Cert.XaMemIdeal.τ).loc Cert.XaMemIdeal.main_arg3) = m ((c.tc : Thread Cert.XaMemIdeal.nD Cert.XaMemIdeal.τ).loc Cert.XaMemIdeal.main_arg3)
      ∧ r.2.mem ((c.tc : Thread Cert.XaMemIdeal.nD Cert.XaMemIdeal.τ).loc Cert.XaMemIdeal.main_arg4) = m ((c.tc : Thread Cert.XaMemIdeal.nD Cert.XaMemIdeal.τ).loc Cert.XaMemIdeal.main_arg4)
      ∧ r.2.mem ((c.tc : Thread Cert.XaMemIdeal.nD Cert.XaMemIdeal.τ).loc Cert.XaMemIdeal.main_arg5) = m ((c.tc : Thread Cert.XaMemIdeal.nD Cert.XaMemIdeal.τ).loc Cert.XaMemIdeal.main_arg5)
      ∧ r.2.mem ((c.tc : Thread Cert.XaMemIdeal.nD Cert.XaMemIdeal.τ).loc Cert.XaMemIdeal.main_arg6) = m ((c.tc : Thread Cert.XaMemIdeal.nD Cert.XaMemIdeal.τ).loc Cert.XaMemIdeal.main_arg6))
      ∧ r.2.sem = fun _ => 0)

def quiescent_XaMemRefIdeal [hXaMemRefIdeal : Cert.XaMemRefIdeal.Facts] : Prop :=
  ∀ (m : (ℓ : Loc Cert.XaMemRefIdeal.nD Cert.XaMemRefIdeal.τ Cert.XaMemRefIdeal.sig) → Buf (Elt Ideal) ℓ) (g : Dev Cert.XaMemRefIdeal.nD → PrngReg), Pre_XaMemRefIdeal m →
    θ_run (Cert.XaMemRefIdeal.defs (F := Ideal)) (onTc (τ := Cert.XaMemRefIdeal.τ) (Cert.XaMemRefIdeal.main (F := Ideal))) ⟨m, fun _ => 0, g⟩ (fun r => (∀ c : Dev Cert.XaMemRefIdeal.nD,
      r.2.mem ((c.tc : Thread Cert.XaMemRefIdeal.nD Cert.XaMemRefIdeal.τ).loc Cert.XaMemRefIdeal.main_arg0) = m ((c.tc : Thread Cert.XaMemRefIdeal.nD Cert.XaMemRefIdeal.τ).loc Cert.XaMemRefIdeal.main_arg0)
      ∧ r.2.mem ((c.tc : Thread Cert.XaMemRefIdeal.nD Cert.XaMemRefIdeal.τ).loc Cert.XaMemRefIdeal.main_arg1) = m ((c.tc : Thread Cert.XaMemRefIdeal.nD Cert.XaMemRefIdeal.τ).loc Cert.XaMemRefIdeal.main_arg1)
      ∧ r.2.mem ((c.tc : Thread Cert.XaMemRefIdeal.nD Cert.XaMemRefIdeal.τ).loc Cert.XaMemRefIdeal.main_arg2) = m ((c.tc : Thread Cert.XaMemRefIdeal.nD Cert.XaMemRefIdeal.τ).loc Cert.XaMemRefIdeal.main_arg2)
      ∧ r.2.mem ((c.tc : Thread Cert.XaMemRefIdeal.nD Cert.XaMemRefIdeal.τ).loc Cert.XaMemRefIdeal.main_arg3) = m ((c.tc : Thread Cert.XaMemRefIdeal.nD Cert.XaMemRefIdeal.τ).loc Cert.XaMemRefIdeal.main_arg3)
      ∧ r.2.mem ((c.tc : Thread Cert.XaMemRefIdeal.nD Cert.XaMemRefIdeal.τ).loc Cert.XaMemRefIdeal.main_arg4) = m ((c.tc : Thread Cert.XaMemRefIdeal.nD Cert.XaMemRefIdeal.τ).loc Cert.XaMemRefIdeal.main_arg4)
      ∧ r.2.mem ((c.tc : Thread Cert.XaMemRefIdeal.nD Cert.XaMemRefIdeal.τ).loc Cert.XaMemRefIdeal.main_arg5) = m ((c.tc : Thread Cert.XaMemRefIdeal.nD Cert.XaMemRefIdeal.τ).loc Cert.XaMemRefIdeal.main_arg5)
      ∧ r.2.mem ((c.tc : Thread Cert.XaMemRefIdeal.nD Cert.XaMemRefIdeal.τ).loc Cert.XaMemRefIdeal.main_arg6) = m ((c.tc : Thread Cert.XaMemRefIdeal.nD Cert.XaMemRefIdeal.τ).loc Cert.XaMemRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4)
      ∧ r.2.mem ((c.tc : Thread Cert.Xa.nD Cert.Xa.τ).loc Cert.Xa.main_arg5) = m ((c.tc : Thread Cert.Xa.nD Cert.Xa.τ).loc Cert.Xa.main_arg5)
      ∧ r.2.mem ((c.tc : Thread Cert.Xa.nD Cert.Xa.τ).loc Cert.Xa.main_arg6) = m ((c.tc : Thread Cert.Xa.nD Cert.Xa.τ).loc Cert.Xa.main_arg6)
      ∧ r.2.mem ((c.tc : Thread Cert.Xa.nD Cert.Xa.τ).loc Cert.Xa.main_arg7) = m ((c.tc : Thread Cert.Xa.nD Cert.Xa.τ).loc Cert.Xa.main_arg7))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6)
      ∧ r.2.mem ((c.tc : Thread Cert.XaIdeal.nD Cert.XaIdeal.τ).loc Cert.XaIdeal.main_arg7) = m ((c.tc : Thread Cert.XaIdeal.nD Cert.XaIdeal.τ).loc Cert.XaIdeal.main_arg7))
      ∧ r.2.sem = fun _ => 0)

def quiescent_XaIdeal_pre_finite_xa [hXaIdeal : Cert.XaIdeal.Facts] [hPre_finite_xa : Cert.Pre_finite_xa.Facts] : Prop :=
  ∀ (m : (ℓ : Loc Cert.XaIdeal.nD Cert.XaIdeal.τ Cert.XaIdeal.sig) → Buf (Elt Ideal) ℓ) (g : Dev Cert.XaIdeal.nD → PrngReg), Pre_XaIdeal_finite_xa m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6)
      ∧ r.2.mem ((c.tc : Thread Cert.XaIdeal.nD Cert.XaIdeal.τ).loc Cert.XaIdeal.main_arg7) = m ((c.tc : Thread Cert.XaIdeal.nD Cert.XaIdeal.τ).loc Cert.XaIdeal.main_arg7))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6)
      ∧ r.2.mem ((c.tc : Thread Cert.XaRefIdeal.nD Cert.XaRefIdeal.τ).loc Cert.XaRefIdeal.main_arg7) = m ((c.tc : Thread Cert.XaRefIdeal.nD Cert.XaRefIdeal.τ).loc Cert.XaRefIdeal.main_arg7))
      ∧ r.2.sem = fun _ => 0)

def quiescent_XaRefIdeal_pre_finite_xa [hXaRefIdeal : Cert.XaRefIdeal.Facts] [hPre_finite_xa : Cert.Pre_finite_xa.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_finite_xa m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5)
      ∧ r.2.mem ((c.tc : Thread Cert.XaRefIdeal.nD Cert.XaRefIdeal.τ).loc Cert.XaRefIdeal.main_arg6) = m ((c.tc : Thread Cert.XaRefIdeal.nD Cert.XaRefIdeal.τ).loc Cert.XaRefIdeal.main_arg6)
      ∧ r.2.mem ((c.tc : Thread Cert.XaRefIdeal.nD Cert.XaRefIdeal.τ).loc Cert.XaRefIdeal.main_arg7) = m ((c.tc : Thread Cert.XaRefIdeal.nD Cert.XaRefIdeal.τ).loc Cert.XaRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ r.2.sem = fun _ => 0)

def quiescent_MixInIdeal_pre_finite_mixin [hMixInIdeal : Cert.MixInIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mixin m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10))
      ∧ r.2.sem = fun _ => 0)

def quiescent_MixInRefIdeal_pre_finite_mixin [hMixInRefIdeal : Cert.MixInRefIdeal.Facts] [hPre_finite_mixin : Cert.Pre_finite_mixin.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mixin m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_SsmPrep [hSsmPrep : Cert.SsmPrep.Facts] : Prop :=
  ∀ (m : (ℓ : Loc Cert.SsmPrep.nD Cert.SsmPrep.τ Cert.SsmPrep.sig) → Buf (Elt Bits) ℓ) (g : Dev Cert.SsmPrep.nD → PrngReg), Pre_SsmPrep m →
    θ_run (Cert.SsmPrep.defs (F := Bits)) (onTc (τ := Cert.SsmPrep.τ) (Cert.SsmPrep.main (F := Bits))) ⟨m, fun _ => 0, g⟩ (fun r => (∀ c : Dev Cert.SsmPrep.nD,
      r.2.mem ((c.tc : Thread Cert.SsmPrep.nD Cert.SsmPrep.τ).loc Cert.SsmPrep.main_arg0) = m ((c.tc : Thread Cert.SsmPrep.nD Cert.SsmPrep.τ).loc Cert.SsmPrep.main_arg0)
      ∧ r.2.mem ((c.tc : Thread Cert.SsmPrep.nD Cert.SsmPrep.τ).loc Cert.SsmPrep.main_arg1) = m ((c.tc : Thread Cert.SsmPrep.nD Cert.SsmPrep.τ).loc Cert.SsmPrep.main_arg1)
      ∧ r.2.mem ((c.tc : Thread Cert.SsmPrep.nD Cert.SsmPrep.τ).loc Cert.SsmPrep.main_arg2) = m ((c.tc : Thread Cert.SsmPrep.nD Cert.SsmPrep.τ).loc Cert.SsmPrep.main_arg2)
      ∧ r.2.mem ((c.tc : Thread Cert.SsmPrep.nD Cert.SsmPrep.τ).loc Cert.SsmPrep.main_arg3) = m ((c.tc : Thread Cert.SsmPrep.nD Cert.SsmPrep.τ).loc Cert.SsmPrep.main_arg3)
      ∧ r.2.mem ((c.tc : Thread Cert.SsmPrep.nD Cert.SsmPrep.τ).loc Cert.SsmPrep.main_arg4) = m ((c.tc : Thread Cert.SsmPrep.nD Cert.SsmPrep.τ).loc Cert.SsmPrep.main_arg4)
      ∧ r.2.mem ((c.tc : Thread Cert.SsmPrep.nD Cert.SsmPrep.τ).loc Cert.SsmPrep.main_arg5) = m ((c.tc : Thread Cert.SsmPrep.nD Cert.SsmPrep.τ).loc Cert.SsmPrep.main_arg5)
      ∧ r.2.mem ((c.tc : Thread Cert.SsmPrep.nD Cert.SsmPrep.τ).loc Cert.SsmPrep.main_arg6) = m ((c.tc : Thread Cert.SsmPrep.nD Cert.SsmPrep.τ).loc Cert.SsmPrep.main_arg6)
      ∧ r.2.mem ((c.tc : Thread Cert.SsmPrep.nD Cert.SsmPrep.τ).loc Cert.SsmPrep.main_arg7) = m ((c.tc : Thread Cert.SsmPrep.nD Cert.SsmPrep.τ).loc Cert.SsmPrep.main_arg7)
      ∧ r.2.mem ((c.tc : Thread Cert.SsmPrep.nD Cert.SsmPrep.τ).loc Cert.SsmPrep.main_arg8) = m ((c.tc : Thread Cert.SsmPrep.nD Cert.SsmPrep.τ).loc Cert.SsmPrep.main_arg8)
      ∧ r.2.mem ((c.tc : Thread Cert.SsmPrep.nD Cert.SsmPrep.τ).loc Cert.SsmPrep.main_arg9) = m ((c.tc : Thread Cert.SsmPrep.nD Cert.SsmPrep.τ).loc Cert.SsmPrep.main_arg9)
      ∧ r.2.mem ((c.tc : Thread Cert.SsmPrep.nD Cert.SsmPrep.τ).loc Cert.SsmPrep.main_arg10) = m ((c.tc : Thread Cert.SsmPrep.nD Cert.SsmPrep.τ).loc Cert.SsmPrep.main_arg10)
      ∧ r.2.mem ((c.tc : Thread Cert.SsmPrep.nD Cert.SsmPrep.τ).loc Cert.SsmPrep.main_arg11) = m ((c.tc : Thread Cert.SsmPrep.nD Cert.SsmPrep.τ).loc Cert.SsmPrep.main_arg11)
      ∧ r.2.mem ((c.tc : Thread Cert.SsmPrep.nD Cert.SsmPrep.τ).loc Cert.SsmPrep.main_arg12) = m ((c.tc : Thread Cert.SsmPrep.nD Cert.SsmPrep.τ).loc Cert.SsmPrep.main_arg12))
      ∧ r.2.sem = fun _ => 0)

def quiescent_SsmPrepIdeal [hSsmPrepIdeal : Cert.SsmPrepIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg), Pre_SsmPrepIdeal m →
    θ_run (Cert.SsmPrepIdeal.defs (F := Ideal)) (onTc (τ := Cert.SsmPrepIdeal.τ) (Cert.SsmPrepIdeal.main (F := Ideal))) ⟨m, fun _ => 0, g⟩ (fun r => (∀ c : Dev Cert.SsmPrepIdeal.nD,
      r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
      ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
      ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
      ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
      ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4)
      ∧ r.2.mem ((c.tc : Thread Cert.SsmPrepIdeal.nD Cert.SsmPrepIdeal.τ).loc Cert.SsmPrepIdeal.main_arg5) = m ((c.tc : Thread Cert.SsmPrepIdeal.nD Cert.SsmPrepIdeal.τ).loc Cert.SsmPrepIdeal.main_arg5)
      ∧ r.2.mem ((c.tc : Thread Cert.SsmPrepIdeal.nD Cert.SsmPrepIdeal.τ).loc Cert.SsmPrepIdeal.main_arg6) = m ((c.tc : Thread Cert.SsmPrepIdeal.nD Cert.SsmPrepIdeal.τ).loc Cert.SsmPrepIdeal.main_arg6)
      ∧ r.2.mem ((c.tc : Thread Cert.SsmPrepIdeal.nD Cert.SsmPrepIdeal.τ).loc Cert.SsmPrepIdeal.main_arg7) = m ((c.tc : Thread Cert.SsmPrepIdeal.nD Cert.SsmPrepIdeal.τ).loc Cert.SsmPrepIdeal.main_arg7)
      ∧ r.2.mem ((c.tc : Thread Cert.SsmPrepIdeal.nD Cert.SsmPrepIdeal.τ).loc Cert.SsmPrepIdeal.main_arg8) = m ((c.tc : Thread Cert.SsmPrepIdeal.nD Cert.SsmPrepIdeal.τ).loc Cert.SsmPrepIdeal.main_arg8)
      ∧ r.2.mem ((c.tc : Thread Cert.SsmPrepIdeal.nD Cert.SsmPrepIdeal.τ).loc Cert.SsmPrepIdeal.main_arg9) = m ((c.tc : Thread Cert.SsmPrepIdeal.nD Cert.SsmPrepIdeal.τ).loc Cert.SsmPrepIdeal.main_arg9)
      ∧ r.2.mem ((c.tc : Thread Cert.SsmPrepIdeal.nD Cert.SsmPrepIdeal.τ).loc Cert.SsmPrepIdeal.main_arg10) = m ((c.tc : Thread Cert.SsmPrepIdeal.nD Cert.SsmPrepIdeal.τ).loc Cert.SsmPrepIdeal.main_arg10)
      ∧ r.2.mem ((c.tc : Thread Cert.SsmPrepIdeal.nD Cert.SsmPrepIdeal.τ).loc Cert.SsmPrepIdeal.main_arg11) = m ((c.tc : Thread Cert.SsmPrepIdeal.nD Cert.SsmPrepIdeal.τ).loc Cert.SsmPrepIdeal.main_arg11)
      ∧ r.2.mem ((c.tc : Thread Cert.SsmPrepIdeal.nD Cert.SsmPrepIdeal.τ).loc Cert.SsmPrepIdeal.main_arg12) = m ((c.tc : Thread Cert.SsmPrepIdeal.nD Cert.SsmPrepIdeal.τ).loc Cert.SsmPrepIdeal.main_arg12))
      ∧ r.2.sem = fun _ => 0)

def quiescent_SsmPrepRefIdeal [hSsmPrepRefIdeal : Cert.SsmPrepRefIdeal.Facts] : Prop :=
  ∀ (m : (ℓ : Loc Cert.SsmPrepRefIdeal.nD Cert.SsmPrepRefIdeal.τ Cert.SsmPrepRefIdeal.sig) → Buf (Elt Ideal) ℓ) (g : Dev Cert.SsmPrepRefIdeal.nD → PrngReg), Pre_SsmPrepRefIdeal m →
    θ_run (Cert.SsmPrepRefIdeal.defs (F := Ideal)) (onTc (τ := Cert.SsmPrepRefIdeal.τ) (Cert.SsmPrepRefIdeal.main (F := Ideal))) ⟨m, fun _ => 0, g⟩ (fun r => (∀ c : Dev Cert.SsmPrepRefIdeal.nD,
      r.2.mem ((c.tc : Thread Cert.SsmPrepRefIdeal.nD Cert.SsmPrepRefIdeal.τ).loc Cert.SsmPrepRefIdeal.main_arg0) = m ((c.tc : Thread Cert.SsmPrepRefIdeal.nD Cert.SsmPrepRefIdeal.τ).loc Cert.SsmPrepRefIdeal.main_arg0)
      ∧ r.2.mem ((c.tc : Thread Cert.SsmPrepRefIdeal.nD Cert.SsmPrepRefIdeal.τ).loc Cert.SsmPrepRefIdeal.main_arg1) = m ((c.tc : Thread Cert.SsmPrepRefIdeal.nD Cert.SsmPrepRefIdeal.τ).loc Cert.SsmPrepRefIdeal.main_arg1)
      ∧ r.2.mem ((c.tc : Thread Cert.SsmPrepRefIdeal.nD Cert.SsmPrepRefIdeal.τ).loc Cert.SsmPrepRefIdeal.main_arg2) = m ((c.tc : Thread Cert.SsmPrepRefIdeal.nD Cert.SsmPrepRefIdeal.τ).loc Cert.SsmPrepRefIdeal.main_arg2)
      ∧ r.2.mem ((c.tc : Thread Cert.SsmPrepRefIdeal.nD Cert.SsmPrepRefIdeal.τ).loc Cert.SsmPrepRefIdeal.main_arg3) = m ((c.tc : Thread Cert.SsmPrepRefIdeal.nD Cert.SsmPrepRefIdeal.τ).loc Cert.SsmPrepRefIdeal.main_arg3)
      ∧ r.2.mem ((c.tc : Thread Cert.SsmPrepRefIdeal.nD Cert.SsmPrepRefIdeal.τ).loc Cert.SsmPrepRefIdeal.main_arg4) = m ((c.tc : Thread Cert.SsmPrepRefIdeal.nD Cert.SsmPrepRefIdeal.τ).loc Cert.SsmPrepRefIdeal.main_arg4)
      ∧ r.2.mem ((c.tc : Thread Cert.SsmPrepRefIdeal.nD Cert.SsmPrepRefIdeal.τ).loc Cert.SsmPrepRefIdeal.main_arg5) = m ((c.tc : Thread Cert.SsmPrepRefIdeal.nD Cert.SsmPrepRefIdeal.τ).loc Cert.SsmPrepRefIdeal.main_arg5)
      ∧ r.2.mem ((c.tc : Thread Cert.SsmPrepRefIdeal.nD Cert.SsmPrepRefIdeal.τ).loc Cert.SsmPrepRefIdeal.main_arg6) = m ((c.tc : Thread Cert.SsmPrepRefIdeal.nD Cert.SsmPrepRefIdeal.τ).loc Cert.SsmPrepRefIdeal.main_arg6)
      ∧ r.2.mem ((c.tc : Thread Cert.SsmPrepRefIdeal.nD Cert.SsmPrepRefIdeal.τ).loc Cert.SsmPrepRefIdeal.main_arg7) = m ((c.tc : Thread Cert.SsmPrepRefIdeal.nD Cert.SsmPrepRefIdeal.τ).loc Cert.SsmPrepRefIdeal.main_arg7)
      ∧ r.2.mem ((c.tc : Thread Cert.SsmPrepRefIdeal.nD Cert.SsmPrepRefIdeal.τ).loc Cert.SsmPrepRefIdeal.main_arg8) = m ((c.tc : Thread Cert.SsmPrepRefIdeal.nD Cert.SsmPrepRefIdeal.τ).loc Cert.SsmPrepRefIdeal.main_arg8)
      ∧ r.2.mem ((c.tc : Thread Cert.SsmPrepRefIdeal.nD Cert.SsmPrepRefIdeal.τ).loc Cert.SsmPrepRefIdeal.main_arg9) = m ((c.tc : Thread Cert.SsmPrepRefIdeal.nD Cert.SsmPrepRefIdeal.τ).loc Cert.SsmPrepRefIdeal.main_arg9)
      ∧ r.2.mem ((c.tc : Thread Cert.SsmPrepRefIdeal.nD Cert.SsmPrepRefIdeal.τ).loc Cert.SsmPrepRefIdeal.main_arg10) = m ((c.tc : Thread Cert.SsmPrepRefIdeal.nD Cert.SsmPrepRefIdeal.τ).loc Cert.SsmPrepRefIdeal.main_arg10)
      ∧ r.2.mem ((c.tc : Thread Cert.SsmPrepRefIdeal.nD Cert.SsmPrepRefIdeal.τ).loc Cert.SsmPrepRefIdeal.main_arg11) = m ((c.tc : Thread Cert.SsmPrepRefIdeal.nD Cert.SsmPrepRefIdeal.τ).loc Cert.SsmPrepRefIdeal.main_arg11)
      ∧ r.2.mem ((c.tc : Thread Cert.SsmPrepRefIdeal.nD Cert.SsmPrepRefIdeal.τ).loc Cert.SsmPrepRefIdeal.main_arg12) = m ((c.tc : Thread Cert.SsmPrepRefIdeal.nD Cert.SsmPrepRefIdeal.τ).loc Cert.SsmPrepRefIdeal.main_arg12))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ r.2.sem = fun _ => 0)

def quiescent_MixOutIdeal_pre_finite_mixout [hMixOutIdeal : Cert.MixOutIdeal.Facts] [hPre_finite_mixout : Cert.Pre_finite_mixout.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_mixout m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10))
      ∧ r.2.sem = fun _ => 0)

def quiescent_MixOutRefIdeal_pre_finite_mixout [hMixOutRefIdeal : Cert.MixOutRefIdeal.Facts] [hPre_finite_mixout : Cert.Pre_finite_mixout.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_mixout m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10))
      ∧ r.2.sem = fun _ => 0)

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)) →
    ∃ (v0 : (c : Dev Cert.SbIdeal.nD) → Buf (Elt Ideal) ((c.tc : Thread Cert.SbIdeal.nD Cert.SbIdeal.τ).loc Cert.SbIdeal.main_v56_0)) (v1 : (c : Dev Cert.SbIdeal.nD) → Buf (Elt Ideal) ((c.tc : Thread Cert.SbIdeal.nD Cert.SbIdeal.τ).loc Cert.SbIdeal.main_v56_1)) (v2 : (c : Dev Cert.SbIdeal.nD) → Buf (Elt Ideal) ((c.tc : Thread Cert.SbIdeal.nD Cert.SbIdeal.τ).loc Cert.SbIdeal.main_v56_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v56_0) = v0 c
          ∧ r.2.mem ((c.tc : Thread Cert.SbIdeal.nD Cert.SbIdeal.τ).loc Cert.SbIdeal.main_v56_1) = v1 c
          ∧ r.2.mem ((c.tc : Thread Cert.SbIdeal.nD Cert.SbIdeal.τ).loc Cert.SbIdeal.main_v56_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v47) = v0 c
          ∧ r.2.mem ((c.tc : Thread Cert.SbRefIdeal.nD Cert.SbRefIdeal.τ).loc Cert.SbRefIdeal.main_v46) = v1 c
          ∧ r.2.mem ((c.tc : Thread Cert.SbRefIdeal.nD Cert.SbRefIdeal.τ).loc Cert.SbRefIdeal.main_v29) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3))

def preserves_XaMem_XaMemIdeal : Prop :=
  True

def algebraic_XaMemIdeal_XaMemRefIdeal [hXaMemIdeal : Cert.XaMemIdeal.Facts] [hXaMemRefIdeal : Cert.XaMemRefIdeal.Facts] : Prop :=
  ∀ (m : (ℓ : Loc Cert.XaMemIdeal.nD Cert.XaMemIdeal.τ Cert.XaMemIdeal.sig) → Buf (Elt Ideal) ℓ) (g : Dev Cert.XaMemIdeal.nD → PrngReg)
    (m' : (ℓ : Loc Cert.XaMemRefIdeal.nD Cert.XaMemRefIdeal.τ Cert.XaMemRefIdeal.sig) → Buf (Elt Ideal) ℓ) (g' : Dev Cert.XaMemRefIdeal.nD → PrngReg), Pre_XaMemIdeal m →
    (∀ c : Dev Cert.XaMemIdeal.nD,
      m' ((c.tc : Thread Cert.XaMemRefIdeal.nD Cert.XaMemRefIdeal.τ).loc Cert.XaMemRefIdeal.main_arg0) = m ((c.tc : Thread Cert.XaMemIdeal.nD Cert.XaMemIdeal.τ).loc Cert.XaMemIdeal.main_arg0)
      ∧ m' ((c.tc : Thread Cert.XaMemRefIdeal.nD Cert.XaMemRefIdeal.τ).loc Cert.XaMemRefIdeal.main_arg1) = m ((c.tc : Thread Cert.XaMemIdeal.nD Cert.XaMemIdeal.τ).loc Cert.XaMemIdeal.main_arg1)
      ∧ m' ((c.tc : Thread Cert.XaMemRefIdeal.nD Cert.XaMemRefIdeal.τ).loc Cert.XaMemRefIdeal.main_arg2) = m ((c.tc : Thread Cert.XaMemIdeal.nD Cert.XaMemIdeal.τ).loc Cert.XaMemIdeal.main_arg2)
      ∧ m' ((c.tc : Thread Cert.XaMemRefIdeal.nD Cert.XaMemRefIdeal.τ).loc Cert.XaMemRefIdeal.main_arg3) = m ((c.tc : Thread Cert.XaMemIdeal.nD Cert.XaMemIdeal.τ).loc Cert.XaMemIdeal.main_arg3)
      ∧ m' ((c.tc : Thread Cert.XaMemRefIdeal.nD Cert.XaMemRefIdeal.τ).loc Cert.XaMemRefIdeal.main_arg4) = m ((c.tc : Thread Cert.XaMemIdeal.nD Cert.XaMemIdeal.τ).loc Cert.XaMemIdeal.main_arg4)
      ∧ m' ((c.tc : Thread Cert.XaMemRefIdeal.nD Cert.XaMemRefIdeal.τ).loc Cert.XaMemRefIdeal.main_arg5) = m ((c.tc : Thread Cert.XaMemIdeal.nD Cert.XaMemIdeal.τ).loc Cert.XaMemIdeal.main_arg5)
      ∧ m' ((c.tc : Thread Cert.XaMemRefIdeal.nD Cert.XaMemRefIdeal.τ).loc Cert.XaMemRefIdeal.main_arg6) = m ((c.tc : Thread Cert.XaMemIdeal.nD Cert.XaMemIdeal.τ).loc Cert.XaMemIdeal.main_arg6)) →
    ∃ (v0 : (c : Dev Cert.XaMemIdeal.nD) → Buf (Elt Ideal) ((c.tc : Thread Cert.XaMemIdeal.nD Cert.XaMemIdeal.τ).loc Cert.XaMemIdeal.main_v2_0)) (v1 : (c : Dev Cert.XaMemIdeal.nD) → Buf (Elt Ideal) ((c.tc : Thread Cert.XaMemIdeal.nD Cert.XaMemIdeal.τ).loc Cert.XaMemIdeal.main_v2_1)) (v2 : (c : Dev Cert.XaMemIdeal.nD) → Buf (Elt Ideal) ((c.tc : Thread Cert.XaMemIdeal.nD Cert.XaMemIdeal.τ).loc Cert.XaMemIdeal.main_v2_2)) (v3 : (c : Dev Cert.XaMemIdeal.nD) → Buf (Elt Ideal) ((c.tc : Thread Cert.XaMemIdeal.nD Cert.XaMemIdeal.τ).loc Cert.XaMemIdeal.main_v2_3)),
      θ_run (Cert.XaMemIdeal.defs (F := Ideal)) (onTc (τ := Cert.XaMemIdeal.τ) (Cert.XaMemIdeal.main (F := Ideal))) ⟨m, fun _ => 0, g⟩ (fun r => ∀ c : Dev Cert.XaMemIdeal.nD,
          r.2.mem ((c.tc : Thread Cert.XaMemIdeal.nD Cert.XaMemIdeal.τ).loc Cert.XaMemIdeal.main_v2_0) = v0 c
          ∧ r.2.mem ((c.tc : Thread Cert.XaMemIdeal.nD Cert.XaMemIdeal.τ).loc Cert.XaMemIdeal.main_v2_1) = v1 c
          ∧ r.2.mem ((c.tc : Thread Cert.XaMemIdeal.nD Cert.XaMemIdeal.τ).loc Cert.XaMemIdeal.main_v2_2) = v2 c
          ∧ r.2.mem ((c.tc : Thread Cert.XaMemIdeal.nD Cert.XaMemIdeal.τ).loc Cert.XaMemIdeal.main_v2_3) = v3 c
          ∧ r.2.mem ((c.tc : Thread Cert.XaMemIdeal.nD Cert.XaMemIdeal.τ).loc Cert.XaMemIdeal.main_arg0) = m ((c.tc : Thread Cert.XaMemIdeal.nD Cert.XaMemIdeal.τ).loc Cert.XaMemIdeal.main_arg0)
          ∧ r.2.mem ((c.tc : Thread Cert.XaMemIdeal.nD Cert.XaMemIdeal.τ).loc Cert.XaMemIdeal.main_arg1) = m ((c.tc : Thread Cert.XaMemIdeal.nD Cert.XaMemIdeal.τ).loc Cert.XaMemIdeal.main_arg1)
          ∧ r.2.mem ((c.tc : Thread Cert.XaMemIdeal.nD Cert.XaMemIdeal.τ).loc Cert.XaMemIdeal.main_arg2) = m ((c.tc : Thread Cert.XaMemIdeal.nD Cert.XaMemIdeal.τ).loc Cert.XaMemIdeal.main_arg2)
          ∧ r.2.mem ((c.tc : Thread Cert.XaMemIdeal.nD Cert.XaMemIdeal.τ).loc Cert.XaMemIdeal.main_arg3) = m ((c.tc : Thread Cert.XaMemIdeal.nD Cert.XaMemIdeal.τ).loc Cert.XaMemIdeal.main_arg3)
          ∧ r.2.mem ((c.tc : Thread Cert.XaMemIdeal.nD Cert.XaMemIdeal.τ).loc Cert.XaMemIdeal.main_arg4) = m ((c.tc : Thread Cert.XaMemIdeal.nD Cert.XaMemIdeal.τ).loc Cert.XaMemIdeal.main_arg4)
          ∧ r.2.mem ((c.tc : Thread Cert.XaMemIdeal.nD Cert.XaMemIdeal.τ).loc Cert.XaMemIdeal.main_arg5) = m ((c.tc : Thread Cert.XaMemIdeal.nD Cert.XaMemIdeal.τ).loc Cert.XaMemIdeal.main_arg5)
          ∧ r.2.mem ((c.tc : Thread Cert.XaMemIdeal.nD Cert.XaMemIdeal.τ).loc Cert.XaMemIdeal.main_arg6) = m ((c.tc : Thread Cert.XaMemIdeal.nD Cert.XaMemIdeal.τ).loc Cert.XaMemIdeal.main_arg6))
      ∧ θ_run (Cert.XaMemRefIdeal.defs (F := Ideal)) (onTc (τ := Cert.XaMemRefIdeal.τ) (Cert.XaMemRefIdeal.main (F := Ideal))) ⟨m', fun _ => 0, g'⟩ (fun r => ∀ c : Dev Cert.XaMemRefIdeal.nD,
          r.2.mem ((c.tc : Thread Cert.XaMemRefIdeal.nD Cert.XaMemRefIdeal.τ).loc Cert.XaMemRefIdeal.main_v63) = v0 c
          ∧ r.2.mem ((c.tc : Thread Cert.XaMemRefIdeal.nD Cert.XaMemRefIdeal.τ).loc Cert.XaMemRefIdeal.main_v39) = v1 c
          ∧ r.2.mem ((c.tc : Thread Cert.XaMemRefIdeal.nD Cert.XaMemRefIdeal.τ).loc Cert.XaMemRefIdeal.main_v70) = v2 c
          ∧ r.2.mem ((c.tc : Thread Cert.XaMemRefIdeal.nD Cert.XaMemRefIdeal.τ).loc Cert.XaMemRefIdeal.main_v71) = v3 c
          ∧ r.2.mem ((c.tc : Thread Cert.XaMemRefIdeal.nD Cert.XaMemRefIdeal.τ).loc Cert.XaMemRefIdeal.main_arg0) = m' ((c.tc : Thread Cert.XaMemRefIdeal.nD Cert.XaMemRefIdeal.τ).loc Cert.XaMemRefIdeal.main_arg0)
          ∧ r.2.mem ((c.tc : Thread Cert.XaMemRefIdeal.nD Cert.XaMemRefIdeal.τ).loc Cert.XaMemRefIdeal.main_arg1) = m' ((c.tc : Thread Cert.XaMemRefIdeal.nD Cert.XaMemRefIdeal.τ).loc Cert.XaMemRefIdeal.main_arg1)
          ∧ r.2.mem ((c.tc : Thread Cert.XaMemRefIdeal.nD Cert.XaMemRefIdeal.τ).loc Cert.XaMemRefIdeal.main_arg2) = m' ((c.tc : Thread Cert.XaMemRefIdeal.nD Cert.XaMemRefIdeal.τ).loc Cert.XaMemRefIdeal.main_arg2)
          ∧ r.2.mem ((c.tc : Thread Cert.XaMemRefIdeal.nD Cert.XaMemRefIdeal.τ).loc Cert.XaMemRefIdeal.main_arg3) = m' ((c.tc : Thread Cert.XaMemRefIdeal.nD Cert.XaMemRefIdeal.τ).loc Cert.XaMemRefIdeal.main_arg3)
          ∧ r.2.mem ((c.tc : Thread Cert.XaMemRefIdeal.nD Cert.XaMemRefIdeal.τ).loc Cert.XaMemRefIdeal.main_arg4) = m' ((c.tc : Thread Cert.XaMemRefIdeal.nD Cert.XaMemRefIdeal.τ).loc Cert.XaMemRefIdeal.main_arg4)
          ∧ r.2.mem ((c.tc : Thread Cert.XaMemRefIdeal.nD Cert.XaMemRefIdeal.τ).loc Cert.XaMemRefIdeal.main_arg5) = m' ((c.tc : Thread Cert.XaMemRefIdeal.nD Cert.XaMemRefIdeal.τ).loc Cert.XaMemRefIdeal.main_arg5)
          ∧ r.2.mem ((c.tc : Thread Cert.XaMemRefIdeal.nD Cert.XaMemRefIdeal.τ).loc Cert.XaMemRefIdeal.main_arg6) = m' ((c.tc : Thread Cert.XaMemRefIdeal.nD Cert.XaMemRefIdeal.τ).loc Cert.XaMemRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)) (v4 : (c : Dev Cert.LossIdeal.nD) → Buf (Elt Ideal) ((c.tc : Thread Cert.LossIdeal.nD Cert.LossIdeal.τ).loc Cert.LossIdeal.main_v2_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_v2_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v34) = v0 c
          ∧ r.2.mem ((c.tc : Thread Cert.LossRefIdeal.nD Cert.LossRefIdeal.τ).loc Cert.LossRefIdeal.main_v35) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_v37) = v3 c
          ∧ r.2.mem ((c.tc : Thread Cert.LossRefIdeal.nD Cert.LossRefIdeal.τ).loc Cert.LossRefIdeal.main_v38) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Xa_XaIdeal : Prop :=
  True

def algebraic_XaIdeal_XaRefIdeal_pre_finite_xa [hXaIdeal : Cert.XaIdeal.Facts] [hXaRefIdeal : Cert.XaRefIdeal.Facts] [hPre_finite_xa : Cert.Pre_finite_xa.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal_finite_xa m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)
      ∧ m' ((c.tc : Thread Cert.XaRefIdeal.nD Cert.XaRefIdeal.τ).loc Cert.XaRefIdeal.main_arg3) = m ((c.tc : Thread Cert.XaIdeal.nD Cert.XaIdeal.τ).loc Cert.XaIdeal.main_arg3)
      ∧ m' ((c.tc : Thread Cert.XaRefIdeal.nD Cert.XaRefIdeal.τ).loc Cert.XaRefIdeal.main_arg4) = m ((c.tc : Thread Cert.XaIdeal.nD Cert.XaIdeal.τ).loc Cert.XaIdeal.main_arg4)
      ∧ m' ((c.tc : Thread Cert.XaRefIdeal.nD Cert.XaRefIdeal.τ).loc Cert.XaRefIdeal.main_arg5) = m ((c.tc : Thread Cert.XaIdeal.nD Cert.XaIdeal.τ).loc Cert.XaIdeal.main_arg5)
      ∧ m' ((c.tc : Thread Cert.XaRefIdeal.nD Cert.XaRefIdeal.τ).loc Cert.XaRefIdeal.main_arg6) = m ((c.tc : Thread Cert.XaIdeal.nD Cert.XaIdeal.τ).loc Cert.XaIdeal.main_arg6)
      ∧ m' ((c.tc : Thread Cert.XaRefIdeal.nD Cert.XaRefIdeal.τ).loc Cert.XaRefIdeal.main_arg7) = m ((c.tc : Thread Cert.XaIdeal.nD Cert.XaIdeal.τ).loc Cert.XaIdeal.main_arg7)) →
    ∃ (v0 : (c : Dev Cert.XaIdeal.nD) → Buf (Elt Ideal) ((c.tc : Thread Cert.XaIdeal.nD Cert.XaIdeal.τ).loc Cert.XaIdeal.main_v17_0)) (v1 : (c : Dev Cert.XaIdeal.nD) → Buf (Elt Ideal) ((c.tc : Thread Cert.XaIdeal.nD Cert.XaIdeal.τ).loc Cert.XaIdeal.main_v17_1)) (v2 : (c : Dev Cert.XaIdeal.nD) → Buf (Elt Ideal) ((c.tc : Thread Cert.XaIdeal.nD Cert.XaIdeal.τ).loc Cert.XaIdeal.main_v17_2)) (v3 : (c : Dev Cert.XaIdeal.nD) → Buf (Elt Ideal) ((c.tc : Thread Cert.XaIdeal.nD Cert.XaIdeal.τ).loc Cert.XaIdeal.main_v17_5)) (v4 : (c : Dev Cert.XaIdeal.nD) → Buf (Elt Ideal) ((c.tc : Thread Cert.XaIdeal.nD Cert.XaIdeal.τ).loc Cert.XaIdeal.main_v17_3)) (v5 : (c : Dev Cert.XaIdeal.nD) → Buf (Elt Ideal) ((c.tc : Thread Cert.XaIdeal.nD Cert.XaIdeal.τ).loc Cert.XaIdeal.main_v17_6)) (v6 : (c : Dev Cert.XaIdeal.nD) → Buf (Elt Ideal) ((c.tc : Thread Cert.XaIdeal.nD Cert.XaIdeal.τ).loc Cert.XaIdeal.main_v17_4)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v17_0) = v0 c
          ∧ r.2.mem ((c.tc : Thread Cert.XaIdeal.nD Cert.XaIdeal.τ).loc Cert.XaIdeal.main_v17_1) = v1 c
          ∧ r.2.mem ((c.tc : Thread Cert.XaIdeal.nD Cert.XaIdeal.τ).loc Cert.XaIdeal.main_v17_2) = v2 c
          ∧ r.2.mem ((c.tc : Thread Cert.XaIdeal.nD Cert.XaIdeal.τ).loc Cert.XaIdeal.main_v17_5) = v3 c
          ∧ r.2.mem ((c.tc : Thread Cert.XaIdeal.nD Cert.XaIdeal.τ).loc Cert.XaIdeal.main_v17_3) = v4 c
          ∧ r.2.mem ((c.tc : Thread Cert.XaIdeal.nD Cert.XaIdeal.τ).loc Cert.XaIdeal.main_v17_6) = v5 c
          ∧ r.2.mem ((c.tc : Thread Cert.XaIdeal.nD Cert.XaIdeal.τ).loc Cert.XaIdeal.main_v17_4) = v6 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
          ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
          ∧ r.2.mem ((c.tc : Thread Cert.XaIdeal.nD Cert.XaIdeal.τ).loc Cert.XaIdeal.main_arg6) = m ((c.tc : Thread Cert.XaIdeal.nD Cert.XaIdeal.τ).loc Cert.XaIdeal.main_arg6)
          ∧ r.2.mem ((c.tc : Thread Cert.XaIdeal.nD Cert.XaIdeal.τ).loc Cert.XaIdeal.main_arg7) = m ((c.tc : Thread Cert.XaIdeal.nD Cert.XaIdeal.τ).loc Cert.XaIdeal.main_arg7))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v145) = v0 c
          ∧ r.2.mem ((c.tc : Thread Cert.XaRefIdeal.nD Cert.XaRefIdeal.τ).loc Cert.XaRefIdeal.main_v100) = v1 c
          ∧ r.2.mem ((c.tc : Thread Cert.XaRefIdeal.nD Cert.XaRefIdeal.τ).loc Cert.XaRefIdeal.main_v81) = v2 c
          ∧ r.2.mem ((c.tc : Thread Cert.XaRefIdeal.nD Cert.XaRefIdeal.τ).loc Cert.XaRefIdeal.main_v146) = v3 c
          ∧ r.2.mem ((c.tc : Thread Cert.XaRefIdeal.nD Cert.XaRefIdeal.τ).loc Cert.XaRefIdeal.main_v123) = v4 c
          ∧ r.2.mem ((c.tc : Thread Cert.XaRefIdeal.nD Cert.XaRefIdeal.τ).loc Cert.XaRefIdeal.main_v147) = v5 c
          ∧ r.2.mem ((c.tc : Thread Cert.XaRefIdeal.nD Cert.XaRefIdeal.τ).loc Cert.XaRefIdeal.main_v74) = v6 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4)
          ∧ r.2.mem ((c.tc : Thread Cert.XaRefIdeal.nD Cert.XaRefIdeal.τ).loc Cert.XaRefIdeal.main_arg5) = m' ((c.tc : Thread Cert.XaRefIdeal.nD Cert.XaRefIdeal.τ).loc Cert.XaRefIdeal.main_arg5)
          ∧ r.2.mem ((c.tc : Thread Cert.XaRefIdeal.nD Cert.XaRefIdeal.τ).loc Cert.XaRefIdeal.main_arg6) = m' ((c.tc : Thread Cert.XaRefIdeal.nD Cert.XaRefIdeal.τ).loc Cert.XaRefIdeal.main_arg6)
          ∧ r.2.mem ((c.tc : Thread Cert.XaRefIdeal.nD Cert.XaRefIdeal.τ).loc Cert.XaRefIdeal.main_arg7) = m' ((c.tc : Thread Cert.XaRefIdeal.nD Cert.XaRefIdeal.τ).loc Cert.XaRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v17_0)) (v1 : (c : Dev Cert.FfnIdeal.nD) → Buf (Elt Ideal) ((c.tc : Thread Cert.FfnIdeal.nD Cert.FfnIdeal.τ).loc Cert.FfnIdeal.main_v17_1)) (v2 : (c : Dev Cert.FfnIdeal.nD) → Buf (Elt Ideal) ((c.tc : Thread Cert.FfnIdeal.nD Cert.FfnIdeal.τ).loc Cert.FfnIdeal.main_v17_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v17_0) = v0 c
          ∧ r.2.mem ((c.tc : Thread Cert.FfnIdeal.nD Cert.FfnIdeal.τ).loc Cert.FfnIdeal.main_v17_1) = v1 c
          ∧ r.2.mem ((c.tc : Thread Cert.FfnIdeal.nD Cert.FfnIdeal.τ).loc Cert.FfnIdeal.main_v17_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v77) = v0 c
          ∧ r.2.mem ((c.tc : Thread Cert.FfnRefIdeal.nD Cert.FfnRefIdeal.τ).loc Cert.FfnRefIdeal.main_v78) = v1 c
          ∧ r.2.mem ((c.tc : Thread Cert.FfnRefIdeal.nD Cert.FfnRefIdeal.τ).loc Cert.FfnRefIdeal.main_v79) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MixIn_MixInIdeal : Prop :=
  True

def algebraic_MixInIdeal_MixInRefIdeal_pre_finite_mixin [hMixInIdeal : Cert.MixInIdeal.Facts] [hMixInRefIdeal : Cert.MixInRefIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mixin m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)
      ∧ m' ((c.tc : Thread Cert.MixInRefIdeal.nD Cert.MixInRefIdeal.τ).loc Cert.MixInRefIdeal.main_arg8) = m ((c.tc : Thread Cert.MixInIdeal.nD Cert.MixInIdeal.τ).loc Cert.MixInIdeal.main_arg8)
      ∧ m' ((c.tc : Thread Cert.MixInRefIdeal.nD Cert.MixInRefIdeal.τ).loc Cert.MixInRefIdeal.main_arg9) = m ((c.tc : Thread Cert.MixInIdeal.nD Cert.MixInIdeal.τ).loc Cert.MixInIdeal.main_arg9)
      ∧ m' ((c.tc : Thread Cert.MixInRefIdeal.nD Cert.MixInRefIdeal.τ).loc Cert.MixInRefIdeal.main_arg10) = m ((c.tc : Thread Cert.MixInIdeal.nD Cert.MixInIdeal.τ).loc Cert.MixInIdeal.main_arg10)) →
    ∃ (v0 : (c : Dev Cert.MixInIdeal.nD) → Buf (Elt Ideal) ((c.tc : Thread Cert.MixInIdeal.nD Cert.MixInIdeal.τ).loc Cert.MixInIdeal.main_v34_0)) (v1 : (c : Dev Cert.MixInIdeal.nD) → Buf (Elt Ideal) ((c.tc : Thread Cert.MixInIdeal.nD Cert.MixInIdeal.τ).loc Cert.MixInIdeal.main_v34_1)) (v2 : (c : Dev Cert.MixInIdeal.nD) → Buf (Elt Ideal) ((c.tc : Thread Cert.MixInIdeal.nD Cert.MixInIdeal.τ).loc Cert.MixInIdeal.main_v34_2)) (v3 : (c : Dev Cert.MixInIdeal.nD) → Buf (Elt Ideal) ((c.tc : Thread Cert.MixInIdeal.nD Cert.MixInIdeal.τ).loc Cert.MixInIdeal.main_v34_3)) (v4 : (c : Dev Cert.MixInIdeal.nD) → Buf (Elt Ideal) ((c.tc : Thread Cert.MixInIdeal.nD Cert.MixInIdeal.τ).loc Cert.MixInIdeal.main_v34_4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v34_0) = v0 c
          ∧ r.2.mem ((c.tc : Thread Cert.MixInIdeal.nD Cert.MixInIdeal.τ).loc Cert.MixInIdeal.main_v34_1) = v1 c
          ∧ r.2.mem ((c.tc : Thread Cert.MixInIdeal.nD Cert.MixInIdeal.τ).loc Cert.MixInIdeal.main_v34_2) = v2 c
          ∧ r.2.mem ((c.tc : Thread Cert.MixInIdeal.nD Cert.MixInIdeal.τ).loc Cert.MixInIdeal.main_v34_3) = v3 c
          ∧ r.2.mem ((c.tc : Thread Cert.MixInIdeal.nD Cert.MixInIdeal.τ).loc Cert.MixInIdeal.main_v34_4) = v4 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v152) = v0 c
          ∧ r.2.mem ((c.tc : Thread Cert.MixInRefIdeal.nD Cert.MixInRefIdeal.τ).loc Cert.MixInRefIdeal.main_v153) = v1 c
          ∧ r.2.mem ((c.tc : Thread Cert.MixInRefIdeal.nD Cert.MixInRefIdeal.τ).loc Cert.MixInRefIdeal.main_v154) = v2 c
          ∧ r.2.mem ((c.tc : Thread Cert.MixInRefIdeal.nD Cert.MixInRefIdeal.τ).loc Cert.MixInRefIdeal.main_v155) = v3 c
          ∧ r.2.mem ((c.tc : Thread Cert.MixInRefIdeal.nD Cert.MixInRefIdeal.τ).loc Cert.MixInRefIdeal.main_v156) = v4 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7)
          ∧ r.2.mem ((c.tc : Thread Cert.MixInRefIdeal.nD Cert.MixInRefIdeal.τ).loc Cert.MixInRefIdeal.main_arg8) = m' ((c.tc : Thread Cert.MixInRefIdeal.nD Cert.MixInRefIdeal.τ).loc Cert.MixInRefIdeal.main_arg8)
          ∧ r.2.mem ((c.tc : Thread Cert.MixInRefIdeal.nD Cert.MixInRefIdeal.τ).loc Cert.MixInRefIdeal.main_arg9) = m' ((c.tc : Thread Cert.MixInRefIdeal.nD Cert.MixInRefIdeal.τ).loc Cert.MixInRefIdeal.main_arg9)
          ∧ r.2.mem ((c.tc : Thread Cert.MixInRefIdeal.nD Cert.MixInRefIdeal.τ).loc Cert.MixInRefIdeal.main_arg10) = m' ((c.tc : Thread Cert.MixInRefIdeal.nD Cert.MixInRefIdeal.τ).loc Cert.MixInRefIdeal.main_arg10))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v561) = v0 c
          ∧ r.2.mem ((c.tc : Thread Cert.ConvRefIdeal.nD Cert.ConvRefIdeal.τ).loc Cert.ConvRefIdeal.main_v559) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_SsmPrep_SsmPrepIdeal : Prop :=
  True

def algebraic_SsmPrepIdeal_SsmPrepRefIdeal [hSsmPrepIdeal : Cert.SsmPrepIdeal.Facts] [hSsmPrepRefIdeal : Cert.SsmPrepRefIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg)
    (m' : (ℓ : Loc Cert.SsmPrepRefIdeal.nD Cert.SsmPrepRefIdeal.τ Cert.SsmPrepRefIdeal.sig) → Buf (Elt Ideal) ℓ) (g' : Dev Cert.SsmPrepRefIdeal.nD → PrngReg), Pre_SsmPrepIdeal m →
    (∀ c : Dev Cert.SsmPrepIdeal.nD,
      m' ((c.tc : Thread Cert.SsmPrepRefIdeal.nD Cert.SsmPrepRefIdeal.τ).loc Cert.SsmPrepRefIdeal.main_arg0) = m ((c.tc : Thread Cert.SsmPrepIdeal.nD Cert.SsmPrepIdeal.τ).loc Cert.SsmPrepIdeal.main_arg0)
      ∧ m' ((c.tc : Thread Cert.SsmPrepRefIdeal.nD Cert.SsmPrepRefIdeal.τ).loc Cert.SsmPrepRefIdeal.main_arg1) = m ((c.tc : Thread Cert.SsmPrepIdeal.nD Cert.SsmPrepIdeal.τ).loc Cert.SsmPrepIdeal.main_arg1)
      ∧ m' ((c.tc : Thread Cert.SsmPrepRefIdeal.nD Cert.SsmPrepRefIdeal.τ).loc Cert.SsmPrepRefIdeal.main_arg2) = m ((c.tc : Thread Cert.SsmPrepIdeal.nD Cert.SsmPrepIdeal.τ).loc Cert.SsmPrepIdeal.main_arg2)
      ∧ m' ((c.tc : Thread Cert.SsmPrepRefIdeal.nD Cert.SsmPrepRefIdeal.τ).loc Cert.SsmPrepRefIdeal.main_arg3) = m ((c.tc : Thread Cert.SsmPrepIdeal.nD Cert.SsmPrepIdeal.τ).loc Cert.SsmPrepIdeal.main_arg3)
      ∧ m' ((c.tc : Thread Cert.SsmPrepRefIdeal.nD Cert.SsmPrepRefIdeal.τ).loc Cert.SsmPrepRefIdeal.main_arg4) = m ((c.tc : Thread Cert.SsmPrepIdeal.nD Cert.SsmPrepIdeal.τ).loc Cert.SsmPrepIdeal.main_arg4)
      ∧ m' ((c.tc : Thread Cert.SsmPrepRefIdeal.nD Cert.SsmPrepRefIdeal.τ).loc Cert.SsmPrepRefIdeal.main_arg5) = m ((c.tc : Thread Cert.SsmPrepIdeal.nD Cert.SsmPrepIdeal.τ).loc Cert.SsmPrepIdeal.main_arg5)
      ∧ m' ((c.tc : Thread Cert.SsmPrepRefIdeal.nD Cert.SsmPrepRefIdeal.τ).loc Cert.SsmPrepRefIdeal.main_arg6) = m ((c.tc : Thread Cert.SsmPrepIdeal.nD Cert.SsmPrepIdeal.τ).loc Cert.SsmPrepIdeal.main_arg6)
      ∧ m' ((c.tc : Thread Cert.SsmPrepRefIdeal.nD Cert.SsmPrepRefIdeal.τ).loc Cert.SsmPrepRefIdeal.main_arg7) = m ((c.tc : Thread Cert.SsmPrepIdeal.nD Cert.SsmPrepIdeal.τ).loc Cert.SsmPrepIdeal.main_arg7)
      ∧ m' ((c.tc : Thread Cert.SsmPrepRefIdeal.nD Cert.SsmPrepRefIdeal.τ).loc Cert.SsmPrepRefIdeal.main_arg8) = m ((c.tc : Thread Cert.SsmPrepIdeal.nD Cert.SsmPrepIdeal.τ).loc Cert.SsmPrepIdeal.main_arg8)
      ∧ m' ((c.tc : Thread Cert.SsmPrepRefIdeal.nD Cert.SsmPrepRefIdeal.τ).loc Cert.SsmPrepRefIdeal.main_arg9) = m ((c.tc : Thread Cert.SsmPrepIdeal.nD Cert.SsmPrepIdeal.τ).loc Cert.SsmPrepIdeal.main_arg9)
      ∧ m' ((c.tc : Thread Cert.SsmPrepRefIdeal.nD Cert.SsmPrepRefIdeal.τ).loc Cert.SsmPrepRefIdeal.main_arg10) = m ((c.tc : Thread Cert.SsmPrepIdeal.nD Cert.SsmPrepIdeal.τ).loc Cert.SsmPrepIdeal.main_arg10)
      ∧ m' ((c.tc : Thread Cert.SsmPrepRefIdeal.nD Cert.SsmPrepRefIdeal.τ).loc Cert.SsmPrepRefIdeal.main_arg11) = m ((c.tc : Thread Cert.SsmPrepIdeal.nD Cert.SsmPrepIdeal.τ).loc Cert.SsmPrepIdeal.main_arg11)
      ∧ m' ((c.tc : Thread Cert.SsmPrepRefIdeal.nD Cert.SsmPrepRefIdeal.τ).loc Cert.SsmPrepRefIdeal.main_arg12) = m ((c.tc : Thread Cert.SsmPrepIdeal.nD Cert.SsmPrepIdeal.τ).loc Cert.SsmPrepIdeal.main_arg12)) →
    ∃ (v0 : (c : Dev Cert.SsmPrepIdeal.nD) → Buf (Elt Ideal) ((c.tc : Thread Cert.SsmPrepIdeal.nD Cert.SsmPrepIdeal.τ).loc Cert.SsmPrepIdeal.main_v20_0)) (v1 : (c : Dev Cert.SsmPrepIdeal.nD) → Buf (Elt Ideal) ((c.tc : Thread Cert.SsmPrepIdeal.nD Cert.SsmPrepIdeal.τ).loc Cert.SsmPrepIdeal.main_v20_1)) (v2 : (c : Dev Cert.SsmPrepIdeal.nD) → Buf (Elt Ideal) ((c.tc : Thread Cert.SsmPrepIdeal.nD Cert.SsmPrepIdeal.τ).loc Cert.SsmPrepIdeal.main_v20_2)) (v3 : (c : Dev Cert.SsmPrepIdeal.nD) → Buf (Elt Ideal) ((c.tc : Thread Cert.SsmPrepIdeal.nD Cert.SsmPrepIdeal.τ).loc Cert.SsmPrepIdeal.main_v20_3)) (v4 : (c : Dev Cert.SsmPrepIdeal.nD) → Buf (Elt Ideal) ((c.tc : Thread Cert.SsmPrepIdeal.nD Cert.SsmPrepIdeal.τ).loc Cert.SsmPrepIdeal.main_v20_4)) (v5 : (c : Dev Cert.SsmPrepIdeal.nD) → Buf (Elt Ideal) ((c.tc : Thread Cert.SsmPrepIdeal.nD Cert.SsmPrepIdeal.τ).loc Cert.SsmPrepIdeal.main_v20_5)) (v6 : (c : Dev Cert.SsmPrepIdeal.nD) → Buf (Elt Ideal) ((c.tc : Thread Cert.SsmPrepIdeal.nD Cert.SsmPrepIdeal.τ).loc Cert.SsmPrepIdeal.main_v20_6)),
      θ_run (Cert.SsmPrepIdeal.defs (F := Ideal)) (onTc (τ := Cert.SsmPrepIdeal.τ) (Cert.SsmPrepIdeal.main (F := Ideal))) ⟨m, fun _ => 0, g⟩ (fun r => ∀ c : Dev Cert.SsmPrepIdeal.nD,
          r.2.mem ((c.tc : Thread Cert.SsmPrepIdeal.nD Cert.SsmPrepIdeal.τ).loc Cert.SsmPrepIdeal.main_v20_0) = v0 c
          ∧ r.2.mem ((c.tc : Thread Cert.SsmPrepIdeal.nD Cert.SsmPrepIdeal.τ).loc Cert.SsmPrepIdeal.main_v20_1) = v1 c
          ∧ r.2.mem ((c.tc : Thread Cert.SsmPrepIdeal.nD Cert.SsmPrepIdeal.τ).loc Cert.SsmPrepIdeal.main_v20_2) = v2 c
          ∧ r.2.mem ((c.tc : Thread Cert.SsmPrepIdeal.nD Cert.SsmPrepIdeal.τ).loc Cert.SsmPrepIdeal.main_v20_3) = v3 c
          ∧ r.2.mem ((c.tc : Thread Cert.SsmPrepIdeal.nD Cert.SsmPrepIdeal.τ).loc Cert.SsmPrepIdeal.main_v20_4) = v4 c
          ∧ r.2.mem ((c.tc : Thread Cert.SsmPrepIdeal.nD Cert.SsmPrepIdeal.τ).loc Cert.SsmPrepIdeal.main_v20_5) = v5 c
          ∧ r.2.mem ((c.tc : Thread Cert.SsmPrepIdeal.nD Cert.SsmPrepIdeal.τ).loc Cert.SsmPrepIdeal.main_v20_6) = v6 c
          ∧ r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
          ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
          ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
          ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
          ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4)
          ∧ r.2.mem ((c.tc : Thread Cert.SsmPrepIdeal.nD Cert.SsmPrepIdeal.τ).loc Cert.SsmPrepIdeal.main_arg5) = m ((c.tc : Thread Cert.SsmPrepIdeal.nD Cert.SsmPrepIdeal.τ).loc Cert.SsmPrepIdeal.main_arg5)
          ∧ r.2.mem ((c.tc : Thread Cert.SsmPrepIdeal.nD Cert.SsmPrepIdeal.τ).loc Cert.SsmPrepIdeal.main_arg6) = m ((c.tc : Thread Cert.SsmPrepIdeal.nD Cert.SsmPrepIdeal.τ).loc Cert.SsmPrepIdeal.main_arg6)
          ∧ r.2.mem ((c.tc : Thread Cert.SsmPrepIdeal.nD Cert.SsmPrepIdeal.τ).loc Cert.SsmPrepIdeal.main_arg7) = m ((c.tc : Thread Cert.SsmPrepIdeal.nD Cert.SsmPrepIdeal.τ).loc Cert.SsmPrepIdeal.main_arg7)
          ∧ r.2.mem ((c.tc : Thread Cert.SsmPrepIdeal.nD Cert.SsmPrepIdeal.τ).loc Cert.SsmPrepIdeal.main_arg8) = m ((c.tc : Thread Cert.SsmPrepIdeal.nD Cert.SsmPrepIdeal.τ).loc Cert.SsmPrepIdeal.main_arg8)
          ∧ r.2.mem ((c.tc : Thread Cert.SsmPrepIdeal.nD Cert.SsmPrepIdeal.τ).loc Cert.SsmPrepIdeal.main_arg9) = m ((c.tc : Thread Cert.SsmPrepIdeal.nD Cert.SsmPrepIdeal.τ).loc Cert.SsmPrepIdeal.main_arg9)
          ∧ r.2.mem ((c.tc : Thread Cert.SsmPrepIdeal.nD Cert.SsmPrepIdeal.τ).loc Cert.SsmPrepIdeal.main_arg10) = m ((c.tc : Thread Cert.SsmPrepIdeal.nD Cert.SsmPrepIdeal.τ).loc Cert.SsmPrepIdeal.main_arg10)
          ∧ r.2.mem ((c.tc : Thread Cert.SsmPrepIdeal.nD Cert.SsmPrepIdeal.τ).loc Cert.SsmPrepIdeal.main_arg11) = m ((c.tc : Thread Cert.SsmPrepIdeal.nD Cert.SsmPrepIdeal.τ).loc Cert.SsmPrepIdeal.main_arg11)
          ∧ r.2.mem ((c.tc : Thread Cert.SsmPrepIdeal.nD Cert.SsmPrepIdeal.τ).loc Cert.SsmPrepIdeal.main_arg12) = m ((c.tc : Thread Cert.SsmPrepIdeal.nD Cert.SsmPrepIdeal.τ).loc Cert.SsmPrepIdeal.main_arg12))
      ∧ θ_run (Cert.SsmPrepRefIdeal.defs (F := Ideal)) (onTc (τ := Cert.SsmPrepRefIdeal.τ) (Cert.SsmPrepRefIdeal.main (F := Ideal))) ⟨m', fun _ => 0, g'⟩ (fun r => ∀ c : Dev Cert.SsmPrepRefIdeal.nD,
          r.2.mem ((c.tc : Thread Cert.SsmPrepRefIdeal.nD Cert.SsmPrepRefIdeal.τ).loc Cert.SsmPrepRefIdeal.main_v206) = v0 c
          ∧ r.2.mem ((c.tc : Thread Cert.SsmPrepRefIdeal.nD Cert.SsmPrepRefIdeal.τ).loc Cert.SsmPrepRefIdeal.main_v207) = v1 c
          ∧ r.2.mem ((c.tc : Thread Cert.SsmPrepRefIdeal.nD Cert.SsmPrepRefIdeal.τ).loc Cert.SsmPrepRefIdeal.main_v208) = v2 c
          ∧ r.2.mem ((c.tc : Thread Cert.SsmPrepRefIdeal.nD Cert.SsmPrepRefIdeal.τ).loc Cert.SsmPrepRefIdeal.main_v210) = v3 c
          ∧ r.2.mem ((c.tc : Thread Cert.SsmPrepRefIdeal.nD Cert.SsmPrepRefIdeal.τ).loc Cert.SsmPrepRefIdeal.main_v212) = v4 c
          ∧ r.2.mem ((c.tc : Thread Cert.SsmPrepRefIdeal.nD Cert.SsmPrepRefIdeal.τ).loc Cert.SsmPrepRefIdeal.main_v214) = v5 c
          ∧ r.2.mem ((c.tc : Thread Cert.SsmPrepRefIdeal.nD Cert.SsmPrepRefIdeal.τ).loc Cert.SsmPrepRefIdeal.main_v216) = v6 c
          ∧ r.2.mem ((c.tc : Thread Cert.SsmPrepRefIdeal.nD Cert.SsmPrepRefIdeal.τ).loc Cert.SsmPrepRefIdeal.main_arg0) = m' ((c.tc : Thread Cert.SsmPrepRefIdeal.nD Cert.SsmPrepRefIdeal.τ).loc Cert.SsmPrepRefIdeal.main_arg0)
          ∧ r.2.mem ((c.tc : Thread Cert.SsmPrepRefIdeal.nD Cert.SsmPrepRefIdeal.τ).loc Cert.SsmPrepRefIdeal.main_arg1) = m' ((c.tc : Thread Cert.SsmPrepRefIdeal.nD Cert.SsmPrepRefIdeal.τ).loc Cert.SsmPrepRefIdeal.main_arg1)
          ∧ r.2.mem ((c.tc : Thread Cert.SsmPrepRefIdeal.nD Cert.SsmPrepRefIdeal.τ).loc Cert.SsmPrepRefIdeal.main_arg2) = m' ((c.tc : Thread Cert.SsmPrepRefIdeal.nD Cert.SsmPrepRefIdeal.τ).loc Cert.SsmPrepRefIdeal.main_arg2)
          ∧ r.2.mem ((c.tc : Thread Cert.SsmPrepRefIdeal.nD Cert.SsmPrepRefIdeal.τ).loc Cert.SsmPrepRefIdeal.main_arg3) = m' ((c.tc : Thread Cert.SsmPrepRefIdeal.nD Cert.SsmPrepRefIdeal.τ).loc Cert.SsmPrepRefIdeal.main_arg3)
          ∧ r.2.mem ((c.tc : Thread Cert.SsmPrepRefIdeal.nD Cert.SsmPrepRefIdeal.τ).loc Cert.SsmPrepRefIdeal.main_arg4) = m' ((c.tc : Thread Cert.SsmPrepRefIdeal.nD Cert.SsmPrepRefIdeal.τ).loc Cert.SsmPrepRefIdeal.main_arg4)
          ∧ r.2.mem ((c.tc : Thread Cert.SsmPrepRefIdeal.nD Cert.SsmPrepRefIdeal.τ).loc Cert.SsmPrepRefIdeal.main_arg5) = m' ((c.tc : Thread Cert.SsmPrepRefIdeal.nD Cert.SsmPrepRefIdeal.τ).loc Cert.SsmPrepRefIdeal.main_arg5)
          ∧ r.2.mem ((c.tc : Thread Cert.SsmPrepRefIdeal.nD Cert.SsmPrepRefIdeal.τ).loc Cert.SsmPrepRefIdeal.main_arg6) = m' ((c.tc : Thread Cert.SsmPrepRefIdeal.nD Cert.SsmPrepRefIdeal.τ).loc Cert.SsmPrepRefIdeal.main_arg6)
          ∧ r.2.mem ((c.tc : Thread Cert.SsmPrepRefIdeal.nD Cert.SsmPrepRefIdeal.τ).loc Cert.SsmPrepRefIdeal.main_arg7) = m' ((c.tc : Thread Cert.SsmPrepRefIdeal.nD Cert.SsmPrepRefIdeal.τ).loc Cert.SsmPrepRefIdeal.main_arg7)
          ∧ r.2.mem ((c.tc : Thread Cert.SsmPrepRefIdeal.nD Cert.SsmPrepRefIdeal.τ).loc Cert.SsmPrepRefIdeal.main_arg8) = m' ((c.tc : Thread Cert.SsmPrepRefIdeal.nD Cert.SsmPrepRefIdeal.τ).loc Cert.SsmPrepRefIdeal.main_arg8)
          ∧ r.2.mem ((c.tc : Thread Cert.SsmPrepRefIdeal.nD Cert.SsmPrepRefIdeal.τ).loc Cert.SsmPrepRefIdeal.main_arg9) = m' ((c.tc : Thread Cert.SsmPrepRefIdeal.nD Cert.SsmPrepRefIdeal.τ).loc Cert.SsmPrepRefIdeal.main_arg9)
          ∧ r.2.mem ((c.tc : Thread Cert.SsmPrepRefIdeal.nD Cert.SsmPrepRefIdeal.τ).loc Cert.SsmPrepRefIdeal.main_arg10) = m' ((c.tc : Thread Cert.SsmPrepRefIdeal.nD Cert.SsmPrepRefIdeal.τ).loc Cert.SsmPrepRefIdeal.main_arg10)
          ∧ r.2.mem ((c.tc : Thread Cert.SsmPrepRefIdeal.nD Cert.SsmPrepRefIdeal.τ).loc Cert.SsmPrepRefIdeal.main_arg11) = m' ((c.tc : Thread Cert.SsmPrepRefIdeal.nD Cert.SsmPrepRefIdeal.τ).loc Cert.SsmPrepRefIdeal.main_arg11)
          ∧ r.2.mem ((c.tc : Thread Cert.SsmPrepRefIdeal.nD Cert.SsmPrepRefIdeal.τ).loc Cert.SsmPrepRefIdeal.main_arg12) = m' ((c.tc : Thread Cert.SsmPrepRefIdeal.nD Cert.SsmPrepRefIdeal.τ).loc Cert.SsmPrepRefIdeal.main_arg12))

def preserves_MixOut_MixOutIdeal : Prop :=
  True

def algebraic_MixOutIdeal_MixOutRefIdeal_pre_finite_mixout [hMixOutIdeal : Cert.MixOutIdeal.Facts] [hMixOutRefIdeal : Cert.MixOutRefIdeal.Facts] [hPre_finite_mixout : Cert.Pre_finite_mixout.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_mixout m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)) →
    ∃ (v0 : (c : Dev Cert.MixOutIdeal.nD) → Buf (Elt Ideal) ((c.tc : Thread Cert.MixOutIdeal.nD Cert.MixOutIdeal.τ).loc Cert.MixOutIdeal.main_v10_0)) (v1 : (c : Dev Cert.MixOutIdeal.nD) → Buf (Elt Ideal) ((c.tc : Thread Cert.MixOutIdeal.nD Cert.MixOutIdeal.τ).loc Cert.MixOutIdeal.main_v10_1)) (v2 : (c : Dev Cert.MixOutIdeal.nD) → Buf (Elt Ideal) ((c.tc : Thread Cert.MixOutIdeal.nD Cert.MixOutIdeal.τ).loc Cert.MixOutIdeal.main_v10_2)) (v3 : (c : Dev Cert.MixOutIdeal.nD) → Buf (Elt Ideal) ((c.tc : Thread Cert.MixOutIdeal.nD Cert.MixOutIdeal.τ).loc Cert.MixOutIdeal.main_v10_3)) (v4 : (c : Dev Cert.MixOutIdeal.nD) → Buf (Elt Ideal) ((c.tc : Thread Cert.MixOutIdeal.nD Cert.MixOutIdeal.τ).loc Cert.MixOutIdeal.main_v10_4)) (v5 : (c : Dev Cert.MixOutIdeal.nD) → Buf (Elt Ideal) ((c.tc : Thread Cert.MixOutIdeal.nD Cert.MixOutIdeal.τ).loc Cert.MixOutIdeal.main_v10_5)) (v6 : (c : Dev Cert.MixOutIdeal.nD) → Buf (Elt Ideal) ((c.tc : Thread Cert.MixOutIdeal.nD Cert.MixOutIdeal.τ).loc Cert.MixOutIdeal.main_v10_6)) (v7 : (c : Dev Cert.MixOutIdeal.nD) → Buf (Elt Ideal) ((c.tc : Thread Cert.MixOutIdeal.nD Cert.MixOutIdeal.τ).loc Cert.MixOutIdeal.main_v10_7)) (v8 : (c : Dev Cert.MixOutIdeal.nD) → Buf (Elt Ideal) ((c.tc : Thread Cert.MixOutIdeal.nD Cert.MixOutIdeal.τ).loc Cert.MixOutIdeal.main_v10_8)) (v9 : (c : Dev Cert.MixOutIdeal.nD) → Buf (Elt Ideal) ((c.tc : Thread Cert.MixOutIdeal.nD Cert.MixOutIdeal.τ).loc Cert.MixOutIdeal.main_v10_9)) (v10 : (c : Dev Cert.MixOutIdeal.nD) → Buf (Elt Ideal) ((c.tc : Thread Cert.MixOutIdeal.nD Cert.MixOutIdeal.τ).loc Cert.MixOutIdeal.main_v10_10)) (v11 : (c : Dev Cert.MixOutIdeal.nD) → Buf (Elt Ideal) ((c.tc : Thread Cert.MixOutIdeal.nD Cert.MixOutIdeal.τ).loc Cert.MixOutIdeal.main_v10_11)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v10_0) = v0 c
          ∧ r.2.mem ((c.tc : Thread Cert.MixOutIdeal.nD Cert.MixOutIdeal.τ).loc Cert.MixOutIdeal.main_v10_1) = v1 c
          ∧ r.2.mem ((c.tc : Thread Cert.MixOutIdeal.nD Cert.MixOutIdeal.τ).loc Cert.MixOutIdeal.main_v10_2) = v2 c
          ∧ r.2.mem ((c.tc : Thread Cert.MixOutIdeal.nD Cert.MixOutIdeal.τ).loc Cert.MixOutIdeal.main_v10_3) = v3 c
          ∧ r.2.mem ((c.tc : Thread Cert.MixOutIdeal.nD Cert.MixOutIdeal.τ).loc Cert.MixOutIdeal.main_v10_4) = v4 c
          ∧ r.2.mem ((c.tc : Thread Cert.MixOutIdeal.nD Cert.MixOutIdeal.τ).loc Cert.MixOutIdeal.main_v10_5) = v5 c
          ∧ r.2.mem ((c.tc : Thread Cert.MixOutIdeal.nD Cert.MixOutIdeal.τ).loc Cert.MixOutIdeal.main_v10_6) = v6 c
          ∧ r.2.mem ((c.tc : Thread Cert.MixOutIdeal.nD Cert.MixOutIdeal.τ).loc Cert.MixOutIdeal.main_v10_7) = v7 c
          ∧ r.2.mem ((c.tc : Thread Cert.MixOutIdeal.nD Cert.MixOutIdeal.τ).loc Cert.MixOutIdeal.main_v10_8) = v8 c
          ∧ r.2.mem ((c.tc : Thread Cert.MixOutIdeal.nD Cert.MixOutIdeal.τ).loc Cert.MixOutIdeal.main_v10_9) = v9 c
          ∧ r.2.mem ((c.tc : Thread Cert.MixOutIdeal.nD Cert.MixOutIdeal.τ).loc Cert.MixOutIdeal.main_v10_10) = v10 c
          ∧ r.2.mem ((c.tc : Thread Cert.MixOutIdeal.nD Cert.MixOutIdeal.τ).loc Cert.MixOutIdeal.main_v10_11) = v11 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v168) = v0 c
          ∧ r.2.mem ((c.tc : Thread Cert.MixOutRefIdeal.nD Cert.MixOutRefIdeal.τ).loc Cert.MixOutRefIdeal.main_v214) = v1 c
          ∧ r.2.mem ((c.tc : Thread Cert.MixOutRefIdeal.nD Cert.MixOutRefIdeal.τ).loc Cert.MixOutRefIdeal.main_v177) = v2 c
          ∧ r.2.mem ((c.tc : Thread Cert.MixOutRefIdeal.nD Cert.MixOutRefIdeal.τ).loc Cert.MixOutRefIdeal.main_v218) = v3 c
          ∧ r.2.mem ((c.tc : Thread Cert.MixOutRefIdeal.nD Cert.MixOutRefIdeal.τ).loc Cert.MixOutRefIdeal.main_v219) = v4 c
          ∧ r.2.mem ((c.tc : Thread Cert.MixOutRefIdeal.nD Cert.MixOutRefIdeal.τ).loc Cert.MixOutRefIdeal.main_v220) = v5 c
          ∧ r.2.mem ((c.tc : Thread Cert.MixOutRefIdeal.nD Cert.MixOutRefIdeal.τ).loc Cert.MixOutRefIdeal.main_v179) = v6 c
          ∧ r.2.mem ((c.tc : Thread Cert.MixOutRefIdeal.nD Cert.MixOutRefIdeal.τ).loc Cert.MixOutRefIdeal.main_v221) = v7 c
          ∧ r.2.mem ((c.tc : Thread Cert.MixOutRefIdeal.nD Cert.MixOutRefIdeal.τ).loc Cert.MixOutRefIdeal.main_v223) = v8 c
          ∧ r.2.mem ((c.tc : Thread Cert.MixOutRefIdeal.nD Cert.MixOutRefIdeal.τ).loc Cert.MixOutRefIdeal.main_v225) = v9 c
          ∧ r.2.mem ((c.tc : Thread Cert.MixOutRefIdeal.nD Cert.MixOutRefIdeal.τ).loc Cert.MixOutRefIdeal.main_v227) = v10 c
          ∧ r.2.mem ((c.tc : Thread Cert.MixOutRefIdeal.nD Cert.MixOutRefIdeal.τ).loc Cert.MixOutRefIdeal.main_v101) = v11 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10))

def Claim : Prop :=
  ∃ (hSb : Cert.Sb.Facts) (hSbIdeal : Cert.SbIdeal.Facts) (hSbRefIdeal : Cert.SbRefIdeal.Facts) (hXaMem : Cert.XaMem.Facts) (hXaMemIdeal : Cert.XaMemIdeal.Facts) (hXaMemRefIdeal : Cert.XaMemRefIdeal.Facts) (hLoss : Cert.Loss.Facts) (hLossIdeal : Cert.LossIdeal.Facts) (hLossRefIdeal : Cert.LossRefIdeal.Facts) (hXa : Cert.Xa.Facts) (hXaIdeal : Cert.XaIdeal.Facts) (hXaRefIdeal : Cert.XaRefIdeal.Facts) (hFfn : Cert.Ffn.Facts) (hFfnIdeal : Cert.FfnIdeal.Facts) (hFfnRefIdeal : Cert.FfnRefIdeal.Facts) (hMixIn : Cert.MixIn.Facts) (hMixInIdeal : Cert.MixInIdeal.Facts) (hMixInRefIdeal : Cert.MixInRefIdeal.Facts) (hConv : Cert.Conv.Facts) (hConvIdeal : Cert.ConvIdeal.Facts) (hConvRefIdeal : Cert.ConvRefIdeal.Facts) (hSsmPrep : Cert.SsmPrep.Facts) (hSsmPrepIdeal : Cert.SsmPrepIdeal.Facts) (hSsmPrepRefIdeal : Cert.SsmPrepRefIdeal.Facts) (hMixOut : Cert.MixOut.Facts) (hMixOutIdeal : Cert.MixOutIdeal.Facts) (hMixOutRefIdeal : Cert.MixOutRefIdeal.Facts) (hPre_finite_sb : Cert.Pre_finite_sb.Facts) (hPre_finite_xa : Cert.Pre_finite_xa.Facts) (hPre_finite_mixin : Cert.Pre_finite_mixin.Facts) (hPre_finite_mixout : Cert.Pre_finite_mixout.Facts),
    quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_XaMem (hXaMem := hXaMem)
    ∧ quiescent_XaMemIdeal (hXaMemIdeal := hXaMemIdeal)
    ∧ quiescent_XaMemRefIdeal (hXaMemRefIdeal := hXaMemRefIdeal)
    ∧ quiescent_Loss (hLoss := hLoss)
    ∧ quiescent_LossIdeal (hLossIdeal := hLossIdeal)
    ∧ quiescent_LossRefIdeal (hLossRefIdeal := hLossRefIdeal)
    ∧ quiescent_Xa (hXa := hXa)
    ∧ quiescent_XaIdeal (hXaIdeal := hXaIdeal)
    ∧ quiescent_XaIdeal_pre_finite_xa (hXaIdeal := hXaIdeal) (hPre_finite_xa := hPre_finite_xa)
    ∧ quiescent_XaRefIdeal (hXaRefIdeal := hXaRefIdeal)
    ∧ quiescent_XaRefIdeal_pre_finite_xa (hXaRefIdeal := hXaRefIdeal) (hPre_finite_xa := hPre_finite_xa)
    ∧ quiescent_Ffn (hFfn := hFfn)
    ∧ quiescent_FfnIdeal (hFfnIdeal := hFfnIdeal)
    ∧ quiescent_FfnRefIdeal (hFfnRefIdeal := hFfnRefIdeal)
    ∧ quiescent_MixIn (hMixIn := hMixIn)
    ∧ quiescent_MixInIdeal (hMixInIdeal := hMixInIdeal)
    ∧ quiescent_MixInIdeal_pre_finite_mixin (hMixInIdeal := hMixInIdeal) (hPre_finite_mixin := hPre_finite_mixin)
    ∧ quiescent_MixInRefIdeal (hMixInRefIdeal := hMixInRefIdeal)
    ∧ quiescent_MixInRefIdeal_pre_finite_mixin (hMixInRefIdeal := hMixInRefIdeal) (hPre_finite_mixin := hPre_finite_mixin)
    ∧ quiescent_Conv (hConv := hConv)
    ∧ quiescent_ConvIdeal (hConvIdeal := hConvIdeal)
    ∧ quiescent_ConvRefIdeal (hConvRefIdeal := hConvRefIdeal)
    ∧ quiescent_SsmPrep (hSsmPrep := hSsmPrep)
    ∧ quiescent_SsmPrepIdeal (hSsmPrepIdeal := hSsmPrepIdeal)
    ∧ quiescent_SsmPrepRefIdeal (hSsmPrepRefIdeal := hSsmPrepRefIdeal)
    ∧ quiescent_MixOut (hMixOut := hMixOut)
    ∧ quiescent_MixOutIdeal (hMixOutIdeal := hMixOutIdeal)
    ∧ quiescent_MixOutIdeal_pre_finite_mixout (hMixOutIdeal := hMixOutIdeal) (hPre_finite_mixout := hPre_finite_mixout)
    ∧ quiescent_MixOutRefIdeal (hMixOutRefIdeal := hMixOutRefIdeal)
    ∧ quiescent_MixOutRefIdeal_pre_finite_mixout (hMixOutRefIdeal := hMixOutRefIdeal) (hPre_finite_mixout := hPre_finite_mixout)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_XaMem_XaMemIdeal
    ∧ algebraic_XaMemIdeal_XaMemRefIdeal (hXaMemIdeal := hXaMemIdeal) (hXaMemRefIdeal := hXaMemRefIdeal)
    ∧ preserves_Loss_LossIdeal
    ∧ algebraic_LossIdeal_LossRefIdeal (hLossIdeal := hLossIdeal) (hLossRefIdeal := hLossRefIdeal)
    ∧ preserves_Xa_XaIdeal
    ∧ algebraic_XaIdeal_XaRefIdeal_pre_finite_xa (hXaIdeal := hXaIdeal) (hXaRefIdeal := hXaRefIdeal) (hPre_finite_xa := hPre_finite_xa)
    ∧ preserves_Ffn_FfnIdeal
    ∧ algebraic_FfnIdeal_FfnRefIdeal (hFfnIdeal := hFfnIdeal) (hFfnRefIdeal := hFfnRefIdeal)
    ∧ preserves_MixIn_MixInIdeal
    ∧ algebraic_MixInIdeal_MixInRefIdeal_pre_finite_mixin (hMixInIdeal := hMixInIdeal) (hMixInRefIdeal := hMixInRefIdeal) (hPre_finite_mixin := hPre_finite_mixin)
    ∧ preserves_Conv_ConvIdeal
    ∧ algebraic_ConvIdeal_ConvRefIdeal (hConvIdeal := hConvIdeal) (hConvRefIdeal := hConvRefIdeal)
    ∧ preserves_SsmPrep_SsmPrepIdeal
    ∧ algebraic_SsmPrepIdeal_SsmPrepRefIdeal (hSsmPrepIdeal := hSsmPrepIdeal) (hSsmPrepRefIdeal := hSsmPrepRefIdeal)
    ∧ preserves_MixOut_MixOutIdeal
    ∧ algebraic_MixOutIdeal_MixOutRefIdeal_pre_finite_mixout (hMixOutIdeal := hMixOutIdeal) (hMixOutRefIdeal := hMixOutRefIdeal) (hPre_finite_mixout := hPre_finite_mixout)
-- ==== Pre_finite_mixin.lean ====
abbrev S8192x1024 : Shape := ⟨2, ![8192, 1024]⟩
abbrev S1024 : Shape := ⟨1, ![1024]⟩
abbrev S1024x2304 : Shape := ⟨2, ![1024, 2304]⟩
abbrev S64 : Shape := ⟨1, ![64]⟩
abbrev S8192x512 : Shape := ⟨2, ![8192, 512]⟩
abbrev S8192x256 : Shape := ⟨2, ![8192, 256]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x2304 .f32) (main_arg3 : FVec F S64 .f32) (main_arg4 : FVec F S64 .f32) (main_arg5 : FVec F S8192x1024 .f32) (main_arg6 : FVec F S8192x512 .f32) (main_arg7 : FVec F S8192x512 .f32) (main_arg8 : FVec F S8192x512 .f32) (main_arg9 : FVec F S8192x256 .f32) (main_arg10 : FVec F S8192x256 .f32) : IVec S_ 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg4
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S8192x512 .f32 := Host.absf main_arg6
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg7
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite_mixout.lean ====
abbrev S8192x512 : Shape := ⟨2, ![8192, 512]⟩
abbrev S8192x256 : Shape := ⟨2, ![8192, 256]⟩
abbrev S256 : Shape := ⟨1, ![256]⟩
abbrev S256x256 : Shape := ⟨2, ![256, 256]⟩
abbrev S256x512 : Shape := ⟨2, ![256, 512]⟩
abbrev S1024 : Shape := ⟨1, ![1024]⟩
abbrev S1024x1024 : Shape := ⟨2, ![1024, 1024]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg10 : FVec F S8192x1024 .f32) (main_v33 : IVec S_ 1) : IVec S_ 1 :=
  let main_v34 : FVec F S8192x1024 .f32 := Host.absf main_arg10
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg6 : FVec F S256x256 .f32) (main_arg8 : FVec F S1024 .f32) (main_arg9 : FVec F S1024x1024 .f32) (main_arg10 : FVec F S8192x1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg9
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg10 main_v33

def fn {F : FTy → Type} [FloatOps F] (main_arg0 : FVec F S8192x512 .f32) (main_arg1 : FVec F S8192x256 .f32) (main_arg2 : FVec F S8192x256 .f32) (main_arg3 : FVec F S256 .f32) (main_arg4 : FVec F S256 .f32) (main_arg5 : FVec F S256 .f32) (main_arg6 : FVec F S256x256 .f32) (main_arg7 : FVec F S256x512 .f32) (main_arg8 : FVec F S1024 .f32) (main_arg9 : FVec F S1024x1024 .f32) (main_arg10 : FVec F S8192x1024 .f32) : IVec S_ 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg8 main_arg9 main_arg10 main_v13 main_v16
-- ==== Pre_finite_sb.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : IVec S8192x512 1 := andi main_v2 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : IVec S8192x512 1 := andi main_v6 main_v9
  let main_v11 : FVec F S8192x512 .f32 := Host.absf main_arg3
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_v14 : IVec S8192x512 1 := andi main_v10 main_v13
  main_v14
-- ==== Pre_finite_xa.lean ====
abbrev S8192x1024 : Shape := ⟨2, ![8192, 1024]⟩
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8192x1024 .f32) (main_arg1 : FVec F S256x1024 .f32) (main_arg2 : FVec F S256x1024 .f32) (main_arg3 : FVec F S1024 .f32) (main_arg4 : FVec F S1024x1024 .f32) (main_arg5 : FVec F S256 .f32) (main_arg6 : FVec F S1024x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Sb.lean ====
abbrev S8192x512 : Shape := ⟨2, ![8192, 512]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S32 : Shape := ⟨1, ![32]⟩
abbrev S2x32 : Shape := ⟨2, ![2, 32]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x64x128 : Shape := ⟨4, ![8, 8192, 64, 128]⟩
abbrev S8x8192x64 : Shape := ⟨3, ![8, 8192, 64]⟩
abbrev S8192x256 : Shape := ⟨2, ![8192, 256]⟩
abbrev S1x128 : Shape := ⟨2, ![1, 128]⟩
abbrev S256x128 : Shape := ⟨2, ![256, 128]⟩
abbrev S1x1 : Shape := ⟨2, ![1, 1]⟩
abbrev S128x128 : Shape := ⟨2, ![128, 128]⟩

abbrev nBuf : Space → Nat
  | .hbm => 116
  | .vmem => 16
  | .smem => 1
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S256, .i32⟩
  | .hbm, ⟨5, _⟩ => ⟨S256x1, .i32⟩
  | .hbm, ⟨6, _⟩ => ⟨S256, .i32⟩
  | .hbm, ⟨7, _⟩ => ⟨S1x256, .i32⟩
  | .hbm, ⟨8, _⟩ => ⟨S_, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x1, .i32⟩
  | .hbm, ⟨13, _⟩ => ⟨S_, .i32⟩
  | .hbm, ⟨14, _⟩ => ⟨S256x1, .i32⟩
  | .hbm, ⟨15, _⟩ => ⟨S256x1, .i1⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i1⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S256x256, .i1⟩
  | .hbm, ⟨51, _⟩ => ⟨S_, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S256x256, .bf16⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .i1⟩
  | .hbm, ⟨61, _⟩ => ⟨S_, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x256, .bf16⟩
  | .hbm, ⟨67, _⟩ => ⟨S32, .i32⟩
  | .hbm, ⟨68, _⟩ => ⟨S2x32, .i32⟩
  | .hbm, ⟨69, _⟩ => ⟨S_, .f32⟩
  | .hbm, ⟨70, _⟩ => ⟨S8192x512, .f32⟩
  | .hbm, ⟨71, _⟩ => ⟨S8192x512, .f32⟩
  | .hbm, ⟨72, _⟩ => ⟨S8192x512, .bf16⟩
  | .hbm, ⟨73, _⟩ => ⟨S8192x512, .bf16⟩
  | .hbm, ⟨74, _⟩ => ⟨S8192x512, .bf16⟩
  | .hbm, ⟨75, _⟩ => ⟨S8192x8x64, .f32⟩
  | .hbm, ⟨76, _⟩ => ⟨S8192x8x64, .f32⟩
  | .hbm, ⟨77, _⟩ => ⟨S8x8192x8192, .f32⟩
  | .hbm, ⟨78, _⟩ => ⟨S_, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S8192, .i32⟩
  | .hbm, ⟨85, _⟩ => ⟨S1x8192, .i32⟩
  | .hbm, ⟨86, _⟩ => ⟨S8192x1, .i32⟩
  | .hbm, ⟨87, _⟩ => ⟨S8192x8192, .i32⟩
  | .hbm, ⟨88, _⟩ => ⟨S8192x8192, .i32⟩
  | .hbm, ⟨89, _⟩ => ⟨S8192x8192, .i1⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S8x8192x8192, .f32⟩
  | .hbm, ⟨98, _⟩ => ⟨S8x8192x8192, .f32⟩
  | .hbm, ⟨99, _⟩ => ⟨S_, .f32⟩
  | .hbm, ⟨100, _⟩ => ⟨S_, .f32⟩
  | .hbm, ⟨101, _⟩ => ⟨S8x8192x8192, .i1⟩
  | .hbm, ⟨102, _⟩ => ⟨S8x8192x8192, .f32⟩
  | .hbm, ⟨103, _⟩ => ⟨S8x8192x8192, .f32⟩
  | .hbm, ⟨104, _⟩ => ⟨S8x8192x64x128, .f32⟩
  | .hbm, ⟨105, _⟩ => ⟨S_, .f32⟩
  | .hbm, ⟨106, _⟩ => ⟨S8x8192x64, .f32⟩
  | .hbm, ⟨107, _⟩ => ⟨S_, .f32⟩
  | .hbm, ⟨108, _⟩ => ⟨S_, .f32⟩
  | .hbm, ⟨109, _⟩ => ⟨S8x8192x64, .f32⟩
  | .hbm, ⟨110, _⟩ => ⟨S8x8192x64, .f32⟩
  | .hbm, ⟨111, _⟩ => ⟨S8192x8x64, .f32⟩
  | .hbm, ⟨112, _⟩ => ⟨S8192x512, .f32⟩
  | .hbm, ⟨113, _⟩ => ⟨S8192x512, .f32⟩
  | .hbm, ⟨114, _⟩ => ⟨S8192x512, .f32⟩
  | .hbm, ⟨115, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | .local _ .vmem, ⟨12, _⟩ => ⟨S8192x256, .f32⟩
  | .local _ .vmem, ⟨13, _⟩ => ⟨S8192x256, .f32⟩
  | .local _ .vmem, ⟨14, _⟩ => ⟨S8192x256, .f32⟩
  | .local _ .vmem, ⟨15, _⟩ => ⟨S8192x256, .f32⟩
  | .local _ .smem, ⟨0, _⟩ => ⟨S2x32, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_2 : Ref sig .tc := ⟨.hbm, 61, rfl⟩
abbrev main_cst_3 : Ref sig .tc := ⟨.hbm, 62, rfl⟩
abbrev main_call3_v0 : Ref sig .tc := ⟨.hbm, 63, rfl⟩
abbrev main_call3_v1 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_5 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_6 : Ref sig .tc := ⟨.hbm, 90, rfl⟩
abbrev main_v42 : Ref sig .tc := ⟨.hbm, 91, rfl⟩
abbrev main_v43 : Ref sig .tc := ⟨.hbm, 92, rfl⟩
abbrev main_cst_7 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_8 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v49 : Ref sig .tc := ⟨.hbm, 103, rfl⟩
abbrev main_v50 : Ref sig .tc := ⟨.hbm, 104, rfl⟩
abbrev main_cst_9 : Ref sig .tc := ⟨.hbm, 105, rfl⟩
abbrev main_v51 : Ref sig .tc := ⟨.hbm, 106, rfl⟩
abbrev main_call5_cst : Ref sig .tc := ⟨.hbm, 107, rfl⟩
abbrev main_call5_v0 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56_0 : Ref sig .tc := ⟨.hbm, 113, rfl⟩
abbrev main_v56_1 : Ref sig .tc := ⟨.hbm, 114, rfl⟩
abbrev main_v56_2 : Ref sig .tc := ⟨.hbm, 115, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg0 : BitVec 32 := BitVec.ofNat 32 (i 0).val
  let v29 : Index := Scalar.indexCast arg0
  let arg1 : BitVec 32 := BitVec.ofNat 32 (i 1).val
  let v30 : Index := Scalar.indexCast arg1
  ![v29.toNat, v30.toNat]
@[reducible] def k0_t1_loop (i : grid0.Coords) (v31 : BitVec 32) : Scf.Loop 32 :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_20 : BitVec 32 := 1#32
  ⟨v32, v37, c1_i32_20⟩

def k0_mult1 (i : grid0.Coords) (v31 : BitVec 32) (k0_t1 : Fin (k0_t1_loop i v31).trips) : BitVec 32 :=
  let c2_i32_154 : BitVec 32 := 2#32
  let arg1 : BitVec 32 := BitVec.ofNat 32 (i 1).val
  let v32 : BitVec 32 := Scalar.subi arg1 v31
  let c1_i32_20 : BitVec 32 := 1#32
  let arg13 : BitVec 32 := Scf.iv v32 c1_i32_20 k0_t1
  let v553 : BitVec 32 := Scalar.muli c2_i32_154 arg13
  let c0_i32_155 : BitVec 32 := 0#32
  let v554 : BitVec 32 := Scalar.addi v553 c0_i32_155
  let c128_i32_159 : BitVec 32 := 128#32
  let v558 : BitVec 32 := Scalar.muli v554 c128_i32_159
  v558
def k0_off2 (i : grid0.Coords) (v31 : BitVec 32) (k0_t1 : Fin (k0_t1_loop i v31).trips) (c0_i32_155 : BitVec 32) : Fin 2 → Nat :=
  let c2_i32_154 : BitVec 32 := 2#32
  let arg1 : BitVec 32 := BitVec.ofNat 32 (i 1).val
  let v32 : BitVec 32 := Scalar.subi arg1 v31
  let c1_i32_20 : BitVec 32 := 1#32
  let arg13 : BitVec 32 := Scf.iv v32 c1_i32_20 k0_t1
  let v553 : BitVec 32 := Scalar.muli c2_i32_154 arg13
  let v554 : BitVec 32 := Scalar.addi v553 c0_i32_155
  let c128_i32_159 : BitVec 32 := 128#32
  let v558 : BitVec 32 := Scalar.muli v554 c128_i32_159
  let v559 : BitVec 32 := v558
  let v560 : Index := Scalar.indexCast v559
  let c0_160 : Index := 0#32
  ![v560.toNat, 0]
def k0_mult2 (i : grid0.Coords) (v31 : BitVec 32) (k0_t1 : Fin (k0_t1_loop i v31).trips) : BitVec 32 :=
  let c2_i32_154 : BitVec 32 := 2#32
  let arg1 : BitVec 32 := BitVec.ofNat 32 (i 1).val
  let v32 : BitVec 32 := Scalar.subi arg1 v31
  let c1_i32_20 : BitVec 32 := 1#32
  let arg13 : BitVec 32 := Scf.iv v32 c1_i32_20 k0_t1
  let v553 : BitVec 32 := Scalar.muli c2_i32_154 arg13
  let c0_i32_156 : BitVec 32 := 0#32
  let v555 : BitVec 32 := Scalar.addi v553 c0_i32_156
  let c128_i32_166 : BitVec 32 := 128#32
  let v584 : BitVec 32 := Scalar.muli v555 c128_i32_166
  v584
def k0_off3 (i : grid0.Coords) (v31 : BitVec 32) (k0_t1 : Fin (k0_t1_loop i v31).trips) (c0_i32_156 : BitVec 32) : Fin 2 → Nat :=
  let c2_i32_154 : BitVec 32 := 2#32
  let arg1 : BitVec 32 := BitVec.ofNat 32 (i 1).val
  let v32 : BitVec 32 := Scalar.subi arg1 v31
  let c1_i32_20 : BitVec 32 := 1#32
  let arg13 : BitVec 32 := Scf.iv v32 c1_i32_20 k0_t1
  let v553 : BitVec 32 := Scalar.muli c2_i32_154 arg13
  let v555 : BitVec 32 := Scalar.addi v553 c0_i32_156
  let c128_i32_166 : BitVec 32 := 128#32
  let v584 : BitVec 32 := Scalar.muli v555 c128_i32_166
  let v585 : BitVec 32 := v584
  let v586 : Index := Scalar.indexCast v585
  let c128_167 : Index := 128#32
  ![v586.toNat, 128]
def k0_mult3 (i : grid0.Coords) (v31 : BitVec 32) (k0_t1 : Fin (k0_t1_loop i v31).trips) : BitVec 32 :=
  let c2_i32_154 : BitVec 32 := 2#32
  let arg1 : BitVec 32 := BitVec.ofNat 32 (i 1).val
  let v32 : BitVec 32 := Scalar.subi arg1 v31
  let c1_i32_20 : BitVec 32 := 1#32
  let arg13 : BitVec 32 := Scf.iv v32 c1_i32_20 k0_t1
  let v553 : BitVec 32 := Scalar.muli c2_i32_154 arg13
  let c1_i32_157 : BitVec 32 := 1#32
  let v556 : BitVec 32 := Scalar.addi v553 c1_i32_157
  let c128_i32_173 : BitVec 32 := 128#32
  let v610 : BitVec 32 := Scalar.muli v556 c128_i32_173
  v610
def k0_mult4 (i : grid0.Coords) (v31 : BitVec 32) (k0_t1 : Fin (k0_t1_loop i v31).trips) : BitVec 32 :=
  let c2_i32_154 : BitVec 32 := 2#32
  let arg1 : BitVec 32 := BitVec.ofNat 32 (i 1).val
  let v32 : BitVec 32 := Scalar.subi arg1 v31
  let c1_i32_20 : BitVec 32 := 1#32
  let arg13 : BitVec 32 := Scf.iv v32 c1_i32_20 k0_t1
  let v553 : BitVec 32 := Scalar.muli c2_i32_154 arg13
  let c1_i32_158 : BitVec 32 := 1#32
  let v557 : BitVec 32 := Scalar.addi v553 c1_i32_158
  let c128_i32_180 : BitVec 32 := 128#32
  let v636 : BitVec 32 := Scalar.muli v557 c128_i32_180
  v636
@[reducible] def k0_t2_loop (i : grid0.Coords) (v31 : BitVec 32) : Scf.Loop 32 :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let v34 : BitVec 32 := Scalar.addi v32 v33
  let c1_i32_21 : BitVec 32 := 1#32
  ⟨v37, v34, c1_i32_21⟩
def k0_mult5 (i : grid0.Coords) (v31 : BitVec 32) (k0_t2 : Fin (k0_t2_loop i v31).trips) : BitVec 32 :=
  let c2_i32_154 : BitVec 32 := 2#32
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_21 : BitVec 32 := 1#32
  let arg13 : BitVec 32 := Scf.iv v37 c1_i32_21 k0_t2
  let v553 : BitVec 32 := Scalar.muli c2_i32_154 arg13
  let c0_i32_155 : BitVec 32 := 0#32
  let v554 : BitVec 32 := Scalar.addi v553 c0_i32_155
  let c128_i32_159 : BitVec 32 := 128#32
  let v558 : BitVec 32 := Scalar.muli v554 c128_i32_159
  v558
def k0_off4 (i : grid0.Coords) (v31 : BitVec 32) (k0_t2 : Fin (k0_t2_loop i v31).trips) (c0_i32_155 : BitVec 32) : Fin 2 → Nat :=
  let c2_i32_154 : BitVec 32 := 2#32
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_21 : BitVec 32 := 1#32
  let arg13 : BitVec 32 := Scf.iv v37 c1_i32_21 k0_t2
  let v553 : BitVec 32 := Scalar.muli c2_i32_154 arg13
  let v554 : BitVec 32 := Scalar.addi v553 c0_i32_155
  let c128_i32_159 : BitVec 32 := 128#32
  let v558 : BitVec 32 := Scalar.muli v554 c128_i32_159
  let v559 : BitVec 32 := v558
  let v560 : Index := Scalar.indexCast v559
  let c0_160 : Index := 0#32
  ![v560.toNat, 0]
def k0_mult6 (i : grid0.Coords) (v31 : BitVec 32) (k0_t2 : Fin (k0_t2_loop i v31).trips) : BitVec 32 :=
  let c2_i32_154 : BitVec 32 := 2#32
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_21 : BitVec 32 := 1#32
  let arg13 : BitVec 32 := Scf.iv v37 c1_i32_21 k0_t2
  let v553 : BitVec 32 := Scalar.muli c2_i32_154 arg13
  let c0_i32_156 : BitVec 32 := 0#32
  let v555 : BitVec 32 := Scalar.addi v553 c0_i32_156
  let c128_i32_166 : BitVec 32 := 128#32
  let v584 : BitVec 32 := Scalar.muli v555 c128_i32_166
  v584
def k0_off5 (i : grid0.Coords) (v31 : BitVec 32) (k0_t2 : Fin (k0_t2_loop i v31).trips) (c0_i32_156 : BitVec 32) : Fin 2 → Nat :=
  let c2_i32_154 : BitVec 32 := 2#32
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_21 : BitVec 32 := 1#32
  let arg13 : BitVec 32 := Scf.iv v37 c1_i32_21 k0_t2
  let v553 : BitVec 32 := Scalar.muli c2_i32_154 arg13
  let v555 : BitVec 32 := Scalar.addi v553 c0_i32_156
  let c128_i32_166 : BitVec 32 := 128#32
  let v584 : BitVec 32 := Scalar.muli v555 c128_i32_166
  let v585 : BitVec 32 := v584
  let v586 : Index := Scalar.indexCast v585
  let c128_167 : Index := 128#32
  ![v586.toNat, 128]
def k0_mult7 (i : grid0.Coords) (v31 : BitVec 32) (k0_t2 : Fin (k0_t2_loop i v31).trips) : BitVec 32 :=
  let c2_i32_154 : BitVec 32 := 2#32
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_21 : BitVec 32 := 1#32
  let arg13 : BitVec 32 := Scf.iv v37 c1_i32_21 k0_t2
  let v553 : BitVec 32 := Scalar.muli c2_i32_154 arg13
  let c1_i32_157 : BitVec 32 := 1#32
  let v556 : BitVec 32 := Scalar.addi v553 c1_i32_157
  let c128_i32_173 : BitVec 32 := 128#32
  let v610 : BitVec 32 := Scalar.muli v556 c128_i32_173
  v610
def k0_mult8 (i : grid0.Coords) (v31 : BitVec 32) (k0_t2 : Fin (k0_t2_loop i v31).trips) : BitVec 32 :=
  let c2_i32_154 : BitVec 32 := 2#32
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_21 : BitVec 32 := 1#32
  let arg13 : BitVec 32 := Scf.iv v37 c1_i32_21 k0_t2
  let v553 : BitVec 32 := Scalar.muli c2_i32_154 arg13
  let c1_i32_158 : BitVec 32 := 1#32
  let v557 : BitVec 32 := Scalar.addi v553 c1_i32_158
  let c128_i32_180 : BitVec 32 := 128#32
  let v636 : BitVec 32 := Scalar.muli v557 c128_i32_180
  v636

def k0_chk1 (i : grid0.Coords) (v31 : BitVec 32) : Prop :=
  ((k0_t1_loop i v31).OK) ∧
  (∀ k0_t1 : Fin (k0_t1_loop i v31).trips, 128 ∣ (k0_mult1 i v31 k0_t1).toNat) ∧
  (∀ k0_t1 : Fin (k0_t1_loop i v31).trips, ∀ (r : Fin 2), ∀ a, (k0_off2 i v31 k0_t1 (BitVec.ofNat 32 r.val)) a + S128x128.size a ≤ S8192x256.size a) ∧
  (∀ k0_t1 : Fin (k0_t1_loop i v31).trips, 128 ∣ (k0_mult2 i v31 k0_t1).toNat) ∧
  (∀ k0_t1 : Fin (k0_t1_loop i v31).trips, ∀ (r : Fin 2), ∀ a, (k0_off3 i v31 k0_t1 (BitVec.ofNat 32 r.val)) a + S128x128.size a ≤ S8192x256.size a) ∧
  (∀ k0_t1 : Fin (k0_t1_loop i v31).trips, 128 ∣ (k0_mult3 i v31 k0_t1).toNat) ∧
  (∀ k0_t1 : Fin (k0_t1_loop i v31).trips, 128 ∣ (k0_mult4 i v31 k0_t1).toNat) ∧
  ((k0_t2_loop i v31).OK) ∧
  (∀ k0_t2 : Fin (k0_t2_loop i v31).trips, 128 ∣ (k0_mult5 i v31 k0_t2).toNat) ∧
  (∀ k0_t2 : Fin (k0_t2_loop i v31).trips, ∀ (r : Fin 2), ∀ a, (k0_off4 i v31 k0_t2 (BitVec.ofNat 32 r.val)) a + S128x128.size a ≤ S8192x256.size a) ∧
  (∀ k0_t2 : Fin (k0_t2_loop i v31).trips, 128 ∣ (k0_mult6 i v31 k0_t2).toNat) ∧
  (∀ k0_t2 : Fin (k0_t2_loop i v31).trips, ∀ (r : Fin 2), ∀ a, (k0_off5 i v31 k0_t2 (BitVec.ofNat 32 r.val)) a + S128x128.size a ≤ S8192x256.size a) ∧
  (∀ k0_t2 : Fin (k0_t2_loop i v31).trips, 128 ∣ (k0_mult7 i v31 k0_t2).toNat) ∧
  (∀ k0_t2 : Fin (k0_t2_loop i v31).trips, 128 ∣ (k0_mult8 i v31 k0_t2).toNat)
theorem k0_t1_ok : ∀ (i : grid0.Coords) (v31 : BitVec 32) (k0_hw1 : k0_chk1 i v31), (k0_t1_loop i v31).OK := fun i v31 k0_hw1 => k0_hw1.1
theorem k0_mult1_dvd : ∀ (i : grid0.Coords) (v31 : BitVec 32) (k0_hw1 : k0_chk1 i v31) (k0_t1 : Fin (k0_t1_loop i v31).trips), 128 ∣ (k0_mult1 i v31 k0_t1).toNat := fun i v31 k0_hw1 k0_t1 => k0_hw1.2.1 k0_t1
theorem k0_off2_inb : ∀ (i : grid0.Coords) (v31 : BitVec 32) (k0_hw1 : k0_chk1 i v31) (k0_t1 : Fin (k0_t1_loop i v31).trips), ∀ (r : Fin 2), ∀ a, (k0_off2 i v31 k0_t1 (BitVec.ofNat 32 r.val)) a + S128x128.size a ≤ S8192x256.size a := fun i v31 k0_hw1 k0_t1 r => k0_hw1.2.2.1 k0_t1 r
theorem k0_mult2_dvd : ∀ (i : grid0.Coords) (v31 : BitVec 32) (k0_hw1 : k0_chk1 i v31) (k0_t1 : Fin (k0_t1_loop i v31).trips), 128 ∣ (k0_mult2 i v31 k0_t1).toNat := fun i v31 k0_hw1 k0_t1 => k0_hw1.2.2.2.1 k0_t1
theorem k0_off3_inb : ∀ (i : grid0.Coords) (v31 : BitVec 32) (k0_hw1 : k0_chk1 i v31) (k0_t1 : Fin (k0_t1_loop i v31).trips), ∀ (r : Fin 2), ∀ a, (k0_off3 i v31 k0_t1 (BitVec.ofNat 32 r.val)) a + S128x128.size a ≤ S8192x256.size a := fun i v31 k0_hw1 k0_t1 r => k0_hw1.2.2.2.2.1 k0_t1 r
theorem k0_mult3_dvd : ∀ (i : grid0.Coords) (v31 : BitVec 32) (k0_hw1 : k0_chk1 i v31) (k0_t1 : Fin (k0_t1_loop i v31).trips), 128 ∣ (k0_mult3 i v31 k0_t1).toNat := fun i v31 k0_hw1 k0_t1 => k0_hw1.2.2.2.2.2.1 k0_t1
theorem k0_mult4_dvd : ∀ (i : grid0.Coords) (v31 : BitVec 32) (k0_hw1 : k0_chk1 i v31) (k0_t1 : Fin (k0_t1_loop i v31).trips), 128 ∣ (k0_mult4 i v31 k0_t1).toNat := fun i v31 k0_hw1 k0_t1 => k0_hw1.2.2.2.2.2.2.1 k0_t1
theorem k0_t2_ok : ∀ (i : grid0.Coords) (v31 : BitVec 32) (k0_hw1 : k0_chk1 i v31), (k0_t2_loop i v31).OK := fun i v31 k0_hw1 => k0_hw1.2.2.2.2.2.2.2.1
theorem k0_mult5_dvd : ∀ (i : grid0.Coords) (v31 : BitVec 32) (k0_hw1 : k0_chk1 i v31) (k0_t2 : Fin (k0_t2_loop i v31).trips), 128 ∣ (k0_mult5 i v31 k0_t2).toNat := fun i v31 k0_hw1 k0_t2 => k0_hw1.2.2.2.2.2.2.2.2.1 k0_t2
theorem k0_off4_inb : ∀ (i : grid0.Coords) (v31 : BitVec 32) (k0_hw1 : k0_chk1 i v31) (k0_t2 : Fin (k0_t2_loop i v31).trips), ∀ (r : Fin 2), ∀ a, (k0_off4 i v31 k0_t2 (BitVec.ofNat 32 r.val)) a + S128x128.size a ≤ S8192x256.size a := fun i v31 k0_hw1 k0_t2 r => k0_hw1.2.2.2.2.2.2.2.2.2.1 k0_t2 r
theorem k0_mult6_dvd : ∀ (i : grid0.Coords) (v31 : BitVec 32) (k0_hw1 : k0_chk1 i v31) (k0_t2 : Fin (k0_t2_loop i v31).trips), 128 ∣ (k0_mult6 i v31 k0_t2).toNat := fun i v31 k0_hw1 k0_t2 => k0_hw1.2.2.2.2.2.2.2.2.2.2.1 k0_t2
theorem k0_off5_inb : ∀ (i : grid0.Coords) (v31 : BitVec 32) (k0_hw1 : k0_chk1 i v31) (k0_t2 : Fin (k0_t2_loop i v31).trips), ∀ (r : Fin 2), ∀ a, (k0_off5 i v31 k0_t2 (BitVec.ofNat 32 r.val)) a + S128x128.size a ≤ S8192x256.size a := fun i v31 k0_hw1 k0_t2 r => k0_hw1.2.2.2.2.2.2.2.2.2.2.2.1 k0_t2 r
theorem k0_mult7_dvd : ∀ (i : grid0.Coords) (v31 : BitVec 32) (k0_hw1 : k0_chk1 i v31) (k0_t2 : Fin (k0_t2_loop i v31).trips), 128 ∣ (k0_mult7 i v31 k0_t2).toNat := fun i v31 k0_hw1 k0_t2 => k0_hw1.2.2.2.2.2.2.2.2.2.2.2.2.1 k0_t2
theorem k0_mult8_dvd : ∀ (i : grid0.Coords) (v31 : BitVec 32) (k0_hw1 : k0_chk1 i v31) (k0_t2 : Fin (k0_t2_loop i v31).trips), 128 ∣ (k0_mult8 i v31 k0_t2).toNat := fun i v31 k0_hw1 k0_t2 => k0_hw1.2.2.2.2.2.2.2.2.2.2.2.2.2 k0_t2

def k0_mult9 (i : grid0.Coords) : BitVec 32 :=
  let arg1 : BitVec 32 := BitVec.ofNat 32 (i 1).val
  let c2_i32 : BitVec 32 := 2#32
  let v40 : BitVec 32 := Scalar.muli arg1 c2_i32
  let c0_i32_22 : BitVec 32 := 0#32
  let v41 : BitVec 32 := Scalar.addi v40 c0_i32_22
  let c128_i32 : BitVec 32 := 128#32
  let v45 : BitVec 32 := Scalar.muli v41 c128_i32
  v45
def k0_off6 (i : grid0.Coords) (c0_i32_22 : BitVec 32) : Fin 2 → Nat :=
  let arg1 : BitVec 32 := BitVec.ofNat 32 (i 1).val
  let c2_i32 : BitVec 32 := 2#32
  let v40 : BitVec 32 := Scalar.muli arg1 c2_i32
  let v41 : BitVec 32 := Scalar.addi v40 c0_i32_22
  let c128_i32 : BitVec 32 := 128#32
  let v45 : BitVec 32 := Scalar.muli v41 c128_i32
  let v46 : BitVec 32 := v45
  let v47 : Index := Scalar.indexCast v46
  let c0_26 : Index := 0#32
  ![v47.toNat, 0]
def k0_mult10 (i : grid0.Coords) : BitVec 32 :=
  let arg1 : BitVec 32 := BitVec.ofNat 32 (i 1).val
  let c2_i32 : BitVec 32 := 2#32
  let v40 : BitVec 32 := Scalar.muli arg1 c2_i32
  let c0_i32_23 : BitVec 32 := 0#32
  let v42 : BitVec 32 := Scalar.addi v40 c0_i32_23
  let c128_i32_32 : BitVec 32 := 128#32
  let v71 : BitVec 32 := Scalar.muli v42 c128_i32_32
  v71
def k0_off7 (i : grid0.Coords) (c0_i32_23 : BitVec 32) : Fin 2 → Nat :=
  let arg1 : BitVec 32 := BitVec.ofNat 32 (i 1).val
  let c2_i32 : BitVec 32 := 2#32
  let v40 : BitVec 32 := Scalar.muli arg1 c2_i32
  let v42 : BitVec 32 := Scalar.addi v40 c0_i32_23
  let c128_i32_32 : BitVec 32 := 128#32
  let v71 : BitVec 32 := Scalar.muli v42 c128_i32_32
  let v72 : BitVec 32 := v71
  let v73 : Index := Scalar.indexCast v72
  let c128_33 : Index := 128#32
  ![v73.toNat, 128]
def k0_mult11 (i : grid0.Coords) : BitVec 32 :=
  let arg1 : BitVec 32 := BitVec.ofNat 32 (i 1).val
  let c2_i32 : BitVec 32 := 2#32
  let v40 : BitVec 32 := Scalar.muli arg1 c2_i32
  let c1_i32_24 : BitVec 32 := 1#32
  let v43 : BitVec 32 := Scalar.addi v40 c1_i32_24
  let c128_i32_39 : BitVec 32 := 128#32
  let v97 : BitVec 32 := Scalar.muli v43 c128_i32_39
  v97
def k0_mult12 (i : grid0.Coords) : BitVec 32 :=
  let arg1 : BitVec 32 := BitVec.ofNat 32 (i 1).val
  let c2_i32 : BitVec 32 := 2#32
  let v40 : BitVec 32 := Scalar.muli arg1 c2_i32
  let c1_i32_25 : BitVec 32 := 1#32
  let v44 : BitVec 32 := Scalar.addi v40 c1_i32_25
  let c128_i32_46 : BitVec 32 := 128#32
  let v123 : BitVec 32 := Scalar.muli v44 c128_i32_46
  v123
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S2x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== SbRefIdeal.lean ====
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 172
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8192x8x64, .f32⟩
  | 6 => ⟨S8x8192x8192, .f32⟩
  | 7 => ⟨S_, .f32⟩
  | 8 => ⟨S8x8192x8192, .f32⟩
  | 9 => ⟨S8x8192x8192, .f32⟩
  | 10 => ⟨S8192, .i32⟩
  | 11 => ⟨S1x8192, .i32⟩
  | 12 => ⟨S8192x1, .i32⟩
  | 13 => ⟨S8192x8192, .i32⟩
  | 14 => ⟨S8192x8192, .i32⟩
  | 15 => ⟨S8192x8192, .i1⟩
  | 16 => ⟨S8x8192x8192, .f32⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .i1⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S_, .f32⟩
  | 33 => ⟨S8x8192x8192, .f32⟩
  | 34 => ⟨S8x8192x8192, .i1⟩
  | 35 => ⟨S_, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .i1⟩
  | 41 => ⟨S_, .f32⟩
  | 42 => ⟨S8x8192x8192, .f32⟩
  | 43 => ⟨S8x8192x8192, .f32⟩
  | 44 => ⟨S8x8192x8192, .f32⟩
  | 45 => ⟨S8x8192x8192, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x8192x8192, .f32⟩
  | 54 => ⟨S8x8192x8192, .i1⟩
  | 55 => ⟨S_, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S8x8192x8192, .f32⟩
  | 63 => ⟨S8x8192x8192, .f32⟩
  | 64 => ⟨S8x8192x8192, .f32⟩
  | 65 => ⟨S_, .f32⟩
  | 66 => ⟨S_, .f32⟩
  | 67 => ⟨S8x8192x8192, .i1⟩
  | 68 => ⟨S8x8192x8192, .f32⟩
  | 69 => ⟨S8x8192x8192, .f32⟩
  | 70 => ⟨S_, .f32⟩
  | 71 => ⟨S8x8192x8192, .f32⟩
  | 72 => ⟨S_, .f32⟩
  | 73 => ⟨S_, .f32⟩
  | 74 => ⟨S8x8192x8192, .f32⟩
  | 75 => ⟨S8x8192x8192, .f32⟩
  | 76 => ⟨S8x8192x8192, .f32⟩
  | 77 => ⟨S_, .f32⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .i1⟩
  | 83 => ⟨S8x8192x8192, .f32⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S_, .f32⟩
  | 92 => ⟨S8x8192x8192, .f32⟩
  | 93 => ⟨S8x8192x8192, .i1⟩
  | 94 => ⟨S_, .f32⟩
  | 95 => ⟨S8x8192x8192, .f32⟩
  | 96 => ⟨S8x8192x8192, .f32⟩
  | 97 => ⟨S_, .f32⟩
  | 98 => ⟨S8x8192x8192, .f32⟩
  | 99 => ⟨S8x8192x8192, .i1⟩
  | 100 => ⟨S_, .f32⟩
  | 101 => ⟨S8x8192x8192, .f32⟩
  | 102 => ⟨S8x8192x8192, .f32⟩
  | 103 => ⟨S8x8192x8192, .f32⟩
  | 104 => ⟨S8x8192x8192, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S8x8192x8192, .f32⟩
  | 113 => ⟨S8x8192x8192, .i1⟩
  | 114 => ⟨S_, .f32⟩
  | 115 => ⟨S8x8192x8192, .f32⟩
  | 116 => ⟨S8x8192x8192, .f32⟩
  | 117 => ⟨S8x8192x8192, .f32⟩
  | 118 => ⟨S8x8192x8192, .f32⟩
  | 119 => ⟨S8x8192x8192, .f32⟩
  | 120 => ⟨S_, .f32⟩
  | 121 => ⟨S8x8192x8192, .f32⟩
  | 122 => ⟨S8x8192x8192, .f32⟩
  | 123 => ⟨S8x8192x8192, .f32⟩
  | 124 => ⟨S8x8192x8192, .f32⟩
  | 125 => ⟨S8x8192x8192, .f32⟩
  | 126 => ⟨S_, .f32⟩
  | 127 => ⟨S_, .f32⟩
  | _ => ⟨S8192x512, .f32⟩

abbrev hbmTy0_1 (i : Nat) : BufTy := match i % 128 with
  | 0 => ⟨S8x8192x8192, .i1⟩
  | 1 => ⟨S8x8192x8192, .f32⟩
  | 2 => ⟨S8x8192x8192, .f32⟩
  | 3 => ⟨S_, .f32⟩
  | 4 => ⟨S8x8192x8192, .f32⟩
  | 5 => ⟨S8192x8x64, .f32⟩
  | 6 => ⟨S8x64x8192, .f32⟩
  | 7 => ⟨S8192x8x64, .f32⟩
  | 8 => ⟨S8192x512, .f32⟩
  | 9 => ⟨S8192x8x64, .f32⟩
  | 10 => ⟨S8x64x8192, .f32⟩
  | 11 => ⟨S8x8192x8192, .f32⟩
  | 12 => ⟨S8x64x8192, .f32⟩
  | 13 => ⟨S8192x8x64, .f32⟩
  | 14 => ⟨S8192x512, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S_, .f32⟩
  | 24 => ⟨S_, .f32⟩
  | 25 => ⟨S8x8192x8192, .f32⟩
  | 26 => ⟨S8x8192x8192, .f32⟩
  | 27 => ⟨S_, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S_, .f32⟩
  | 36 => ⟨S8x8192x8192, .f32⟩
  | 37 => ⟨S8x8192x8192, .f32⟩
  | 38 => ⟨S8x8192x64, .f32⟩
  | 39 => ⟨S8192x8x64, .f32⟩
  | 40 => ⟨S8x8192x64, .f32⟩
  | 41 => ⟨S8192x8x64, .f32⟩
  | 42 => ⟨S8192x512, .f32⟩
  | 43 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v12_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v12_2 : Ref sig .tc := ⟨.hbm, 63, rfl⟩
abbrev main_v12_0 : Ref sig .tc := ⟨.hbm, 64, rfl⟩
abbrev main_cst_0 : Ref sig .tc := ⟨.hbm, 65, rfl⟩
abbrev main_call1_v0 : Ref sig .tc := ⟨.hbm, 66, rfl⟩
abbrev main_v13_1 : Ref sig .tc := ⟨.hbm, 67, rfl⟩
abbrev main_call1_v2 : Ref sig .tc := ⟨.hbm, 68, rfl⟩
abbrev main_v13_0 : Ref sig .tc := ⟨.hbm, 69, rfl⟩
abbrev main_call1_cst : Ref sig .tc := ⟨.hbm, 70, rfl⟩
abbrev main_v13_2 : Ref sig .tc := ⟨.hbm, 71, rfl⟩
abbrev main_call2_cst : Ref sig .tc := ⟨.hbm, 72, rfl⟩
abbrev main_call2_v0 : Ref sig .tc := ⟨.hbm, 73, rfl⟩
abbrev main_v14 : Ref sig .tc := ⟨.hbm, 74, rfl⟩
abbrev main_v15 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v16_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v16_2 : Ref sig .tc := ⟨.hbm, 122, rfl⟩
abbrev main_v16_0 : Ref sig .tc := ⟨.hbm, 123, rfl⟩
abbrev main_v17 : Ref sig .tc := ⟨.hbm, 124, rfl⟩
abbrev main_v18 : Ref sig .tc := ⟨.hbm, 125, rfl⟩
abbrev main_cst_1 : Ref sig .tc := ⟨.hbm, 126, rfl⟩
abbrev main_call4_v0 : Ref sig .tc := ⟨.hbm, 127, rfl⟩
abbrev main_v19_1 : Ref sig .tc := ⟨.hbm, 128, rfl⟩
abbrev main_call4_v2 : Ref sig .tc := ⟨.hbm, 129, rfl⟩
abbrev main_v19_0 : Ref sig .tc := ⟨.hbm, 130, rfl⟩
abbrev main_call4_cst : Ref sig .tc := ⟨.hbm, 131, rfl⟩
abbrev main_v19_2 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_call5_cst : Ref sig .tc := ⟨.hbm, 143, rfl⟩
abbrev main_call5_v0 : Ref sig .tc := ⟨.hbm, 144, rfl⟩
abbrev main_v30 : Ref sig .tc := ⟨.hbm, 145, rfl⟩
abbrev main_v31 : Ref sig .tc := ⟨.hbm, 146, rfl⟩
abbrev main_call6_v0 : Ref sig .tc := ⟨.hbm, 147, rfl⟩
abbrev main_call6_v1 : Ref sig .tc := ⟨.hbm, 148, rfl⟩
abbrev main_v32 : Ref sig .tc := ⟨.hbm, 149, rfl⟩
abbrev main_v33 : Ref sig .tc := ⟨.hbm, 150, rfl⟩
abbrev main_call7_cst : Ref sig .tc := ⟨.hbm, 151, rfl⟩
abbrev main_call7_v0 : Ref sig .tc := ⟨.hbm, 152, rfl⟩
abbrev main_v34 : Ref sig .tc := ⟨.hbm, 153, rfl⟩
abbrev main_v35 : Ref sig .tc := ⟨.hbm, 154, rfl⟩
abbrev main_call8_cst : Ref sig .tc := ⟨.hbm, 155, rfl⟩
abbrev main_call8_v0 : Ref sig .tc := ⟨.hbm, 156, rfl⟩
abbrev main_v36 : Ref sig .tc := ⟨.hbm, 157, rfl⟩
abbrev main_call9_v0 : Ref sig .tc := ⟨.hbm, 158, rfl⟩
abbrev main_call9_v1 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_cst_2 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩

abbrev nD : Nat := 1
abbrev τ : Topo := Topo.v7x

variable {F : FTy → Type} [FloatOps F]
-- ==== XaMem.lean ====
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S1x1024 : Shape := ⟨2, ![1, 1024]⟩
abbrev S1x256 : Shape := ⟨2, ![1, 256]⟩
abbrev S256x1 : Shape := ⟨2, ![256, 1]⟩
abbrev S256x256 : Shape := ⟨2, ![256, 256]⟩

abbrev nBuf : Space → Nat
  | .hbm => 13
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256, .f32⟩
  | .hbm, ⟨5, _⟩ => ⟨S256x1024, .f32⟩
  | .hbm, ⟨6, _⟩ => ⟨S256x1024, .f32⟩
  | .hbm, ⟨7, _⟩ => ⟨S1x1024, .f32⟩
  | .hbm, ⟨8, _⟩ => ⟨S1x256, .f32⟩
  | .hbm, ⟨9, _⟩ => ⟨S1024x1024, .f32⟩
  | .hbm, ⟨10, _⟩ => ⟨S1024x1024, .f32⟩
  | .hbm, ⟨11, _⟩ => ⟨S1x1024, .f32⟩
  | .hbm, ⟨12, _⟩ => ⟨S1x256, .f32⟩
  | .local _ .vmem, ⟨0, _⟩ => ⟨S256x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== XaMemRefIdeal.lean ====
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S256x1 : Shape := ⟨2, ![256, 1]⟩
abbrev S1x1024 : Shape := ⟨2, ![1, 1024]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x4x256, .f32⟩
  | .hbm, ⟨25, _⟩ => ⟨S256x4x256, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S_, .f32⟩
  | .hbm, ⟨38, _⟩ => ⟨S256x4x1, .f32⟩
  | .hbm, ⟨39, _⟩ => ⟨S256x4x1, .f32⟩
  | .hbm, ⟨40, _⟩ => ⟨S256x4x256, .f32⟩
  | .hbm, ⟨41, _⟩ => ⟨S256x4x256, .f32⟩
  | .hbm, ⟨42, _⟩ => ⟨S1x1x256, .f32⟩
  | .hbm, ⟨43, _⟩ => ⟨S256x4x256, .f32⟩
  | .hbm, ⟨44, _⟩ => ⟨S256x4x256, .f32⟩
  | .hbm, ⟨45, _⟩ => ⟨S256x1024, .f32⟩
  | .hbm, ⟨46, _⟩ => ⟨S256x4x256, .f32⟩
  | .hbm, ⟨47, _⟩ => ⟨S256x1024, .f32⟩
  | .hbm, ⟨48, _⟩ => ⟨S256x1024, .f32⟩
  | .hbm, ⟨49, _⟩ => ⟨S256x4x256, .f32⟩
  | .hbm, ⟨50, _⟩ => ⟨S256x4x256, .f32⟩
  | .hbm, ⟨51, _⟩ => ⟨S256x1024, .f32⟩
  | .hbm, ⟨52, _⟩ => ⟨S1024x1024, .f32⟩
  | .hbm, ⟨53, _⟩ => ⟨S1024x1024, .f32⟩
  | .hbm, ⟨54, _⟩ => ⟨S256x1024, .f32⟩
  | .hbm, ⟨55, _⟩ => ⟨S256x4x256, .f32⟩
  | .hbm, ⟨56, _⟩ => ⟨S_, .f32⟩
  | .hbm, ⟨57, _⟩ => ⟨S256, .f32⟩
  | .hbm, ⟨58, _⟩ => ⟨S1x1x256, .f32⟩
  | .hbm, ⟨59, _⟩ => ⟨S256x4x256, .f32⟩
  | .hbm, ⟨60, _⟩ => ⟨S256x4x256, .f32⟩
  | .hbm, ⟨61, _⟩ => ⟨S_, .f32⟩
  | .hbm, ⟨62, _⟩ => ⟨S256, .f32⟩
  | .hbm, ⟨63, _⟩ => ⟨S256x4x256, .f32⟩
  | .hbm, ⟨64, _⟩ => ⟨S_, .f32⟩
  | .hbm, ⟨65, _⟩ => ⟨S256x4, .f32⟩
  | .hbm, ⟨66, _⟩ => ⟨S256x4x1, .f32⟩
  | .hbm, ⟨67, _⟩ => ⟨S256x4x256, .f32⟩
  | .hbm, ⟨68, _⟩ => ⟨S256x4x256, .f32⟩
  | .hbm, ⟨69, _⟩ => ⟨S256x4x1, .f32⟩
  | .hbm, ⟨70, _⟩ => ⟨S_, .f32⟩
  | .hbm, ⟨71, _⟩ => ⟨S256x4x1, .f32⟩
  | .hbm, ⟨72, _⟩ => ⟨S256x4x1, .f32⟩
  | .hbm, ⟨73, _⟩ => ⟨S_, .f32⟩
  | .hbm, ⟨74, _⟩ => ⟨S256x4, .f32⟩
  | .hbm, ⟨75, _⟩ => ⟨S256x4x256, .f32⟩
  | .hbm, ⟨76, _⟩ => ⟨S256x4x256, .f32⟩
  | .hbm, ⟨77, _⟩ => ⟨S256x4x256, .f32⟩
  | .hbm, ⟨78, _⟩ => ⟨S256x4x256, .f32⟩
  | .hbm, ⟨79, _⟩ => ⟨S256x4x256, .f32⟩
  | .hbm, ⟨80, _⟩ => ⟨S256x1024, .f32⟩
  | .hbm, ⟨81, _⟩ => ⟨S1024x1024, .f32⟩
  | .hbm, ⟨82, _⟩ => ⟨S1024x1024, .f32⟩
  | .hbm, ⟨83, _⟩ => ⟨S256x1024, .f32⟩
  | .hbm, ⟨84, _⟩ => ⟨S256x1024, .f32⟩
  | .hbm, ⟨85, _⟩ => ⟨S256x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S1x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8192x5632 : Shape := ⟨2, ![8192, 5632]⟩
abbrev S8192x2816 : Shape := ⟨2, ![8192, 2816]⟩
abbrev S1x1 : Shape := ⟨2, ![1, 1]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1 : Shape := ⟨1, ![1]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1x1024, .f32⟩
  | .hbm, ⟨6, _⟩ => ⟨S5632x1024, .f32⟩
  | .hbm, ⟨7, _⟩ => ⟨S8192x1024, .f32⟩
  | .hbm, ⟨8, _⟩ => ⟨S8192x1024, .bf16⟩
  | .hbm, ⟨9, _⟩ => ⟨S8192x5632, .bf16⟩
  | .hbm, ⟨10, _⟩ => ⟨S8192x2816, .bf16⟩
  | .hbm, ⟨11, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .f32⟩
  | .local _ .vmem, ⟨4, _⟩ => ⟨S2816x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S1x1, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v54 : BitVec 1 := Scalar.cmpi .eq arg0 c31_i32
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x5632, .bf16⟩
  | .hbm, ⟨61, _⟩ => ⟨S8192x2816, .bf16⟩
  | .hbm, ⟨62, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Xa.lean ====
abbrev S8192x1024 : Shape := ⟨2, ![8192, 1024]⟩
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x256 : Shape := ⟨2, ![1, 256]⟩
abbrev S256x1 : Shape := ⟨2, ![256, 1]⟩
abbrev S256x256 : Shape := ⟨2, ![256, 256]⟩

abbrev nBuf : Space → Nat
  | .hbm => 35
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S256, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1x1024, .f32⟩
  | .hbm, ⟨27, _⟩ => ⟨S1x256, .f32⟩
  | .hbm, ⟨28, _⟩ => ⟨S8192x1024, .f32⟩
  | .hbm, ⟨29, _⟩ => ⟨S256x1024, .f32⟩
  | .hbm, ⟨30, _⟩ => ⟨S256x1024, .f32⟩
  | .hbm, ⟨31, _⟩ => ⟨S1024x1024, .f32⟩
  | .hbm, ⟨32, _⟩ => ⟨S1024x1024, .f32⟩
  | .hbm, ⟨33, _⟩ => ⟨S1x1024, .f32⟩
  | .hbm, ⟨34, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1024x1024, .f32⟩
  | .local _ .vmem, ⟨10, _⟩ => ⟨S1x256, .f32⟩
  | .local _ .vmem, ⟨11, _⟩ => ⟨S1024x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v364 : BitVec 1 := Scalar.cmpi .eq arg0 c0_i32
  let v365 : BitVec 32 := Scalar.extui v364
  let c0_i32_120 : BitVec 32 := 0#32
  let v366 : BitVec 1 := Scalar.cmpi .ne v365 c0_i32_120
  v366

def k0_cond2 (i : grid0.Coords) : BitVec 1 :=
  let arg0 : BitVec 32 := BitVec.ofNat 32 (i 0).val
  let c0_i32_121 : BitVec 32 := 0#32
  let v367 : BitVec 1 := Scalar.cmpi .sgt arg0 c0_i32_121
  let v368 : BitVec 32 := Scalar.extui v367
  let c0_i32_122 : BitVec 32 := 0#32
  let v369 : BitVec 1 := Scalar.cmpi .ne v368 c0_i32_122
  v369

def k0_cond3 (i : grid0.Coords) : BitVec 1 :=
  let arg0 : BitVec 32 := BitVec.ofNat 32 (i 0).val
  let c0_i32_123 : BitVec 32 := 0#32
  let v371 : BitVec 1 := Scalar.cmpi .eq arg0 c0_i32_123
  let v372 : BitVec 32 := Scalar.extui v371
  let c0_i32_124 : BitVec 32 := 0#32
  let v373 : BitVec 1 := Scalar.cmpi .ne v372 c0_i32_124
  v373

def k0_cond4 (i : grid0.Coords) : BitVec 1 :=
  let arg0 : BitVec 32 := BitVec.ofNat 32 (i 0).val
  let c0_i32_125 : BitVec 32 := 0#32
  let v374 : BitVec 1 := Scalar.cmpi .sgt arg0 c0_i32_125
  let v375 : BitVec 32 := Scalar.extui v374
  let c0_i32_126 : BitVec 32 := 0#32
  let v376 : BitVec 1 := Scalar.cmpi .ne v375 c0_i32_126
  v376

def k0_cond5 (i : grid0.Coords) : BitVec 1 :=
  let arg0 : BitVec 32 := BitVec.ofNat 32 (i 0).val
  let c0_i32_128 : BitVec 32 := 0#32
  let v380 : BitVec 1 := Scalar.cmpi .eq arg0 c0_i32_128
  let v381 : BitVec 32 := Scalar.extui v380
  let c0_i32_129 : BitVec 32 := 0#32
  let v382 : BitVec 1 := Scalar.cmpi .ne v381 c0_i32_129
  v382

def k0_cond6 (i : grid0.Coords) : BitVec 1 :=
  let arg0 : BitVec 32 := BitVec.ofNat 32 (i 0).val
  let c0_i32_130 : BitVec 32 := 0#32
  let v383 : BitVec 1 := Scalar.cmpi .sgt arg0 c0_i32_130
  let v384 : BitVec 32 := Scalar.extui v383
  let c0_i32_131 : BitVec 32 := 0#32
  let v385 : BitVec 1 := Scalar.cmpi .ne v384 c0_i32_131
  v385

def k0_cond7 (i : grid0.Coords) : BitVec 1 :=
  let arg0 : BitVec 32 := BitVec.ofNat 32 (i 0).val
  let c0_i32_133 : BitVec 32 := 0#32
  let v389 : BitVec 1 := Scalar.cmpi .eq arg0 c0_i32_133
  let v390 : BitVec 32 := Scalar.extui v389
  let c0_i32_134 : BitVec 32 := 0#32
  let v391 : BitVec 1 := Scalar.cmpi .ne v390 c0_i32_134
  v391

def k0_cond8 (i : grid0.Coords) : BitVec 1 :=
  let arg0 : BitVec 32 := BitVec.ofNat 32 (i 0).val
  let c0_i32_135 : BitVec 32 := 0#32
  let v392 : BitVec 1 := Scalar.cmpi .sgt arg0 c0_i32_135
  let v393 : BitVec 32 := Scalar.extui v392
  let c0_i32_136 : BitVec 32 := 0#32
  let v394 : BitVec 1 := Scalar.cmpi .ne v393 c0_i32_136
  v394

def k0_cond9 (i : grid0.Coords) : BitVec 1 :=
  let arg0 : BitVec 32 := BitVec.ofNat 32 (i 0).val
  let c0_i32_137 : BitVec 32 := 0#32
  let v395 : BitVec 1 := Scalar.cmpi .eq arg0 c0_i32_137
  let v396 : BitVec 32 := Scalar.extui v395
  let c0_i32_138 : BitVec 32 := 0#32
  let v397 : BitVec 1 := Scalar.cmpi .ne v396 c0_i32_138
  v397

def k0_cond10 (i : grid0.Coords) : BitVec 1 :=
  let arg0 : BitVec 32 := BitVec.ofNat 32 (i 0).val
  let c0_i32_139 : BitVec 32 := 0#32
  let v398 : BitVec 1 := Scalar.cmpi .sgt arg0 c0_i32_139
  let v399 : BitVec 32 := Scalar.extui v398
  let c0_i32_140 : BitVec 32 := 0#32
  let v400 : BitVec 1 := Scalar.cmpi .ne v399 c0_i32_140
  v400

def k0_cond11 (i : grid0.Coords) : BitVec 1 :=
  let arg0 : BitVec 32 := BitVec.ofNat 32 (i 0).val
  let c0_i32_141 : BitVec 32 := 0#32
  let v401 : BitVec 1 := Scalar.cmpi .eq arg0 c0_i32_141
  let v402 : BitVec 32 := Scalar.extui v401
  let c0_i32_142 : BitVec 32 := 0#32
  let v403 : BitVec 1 := Scalar.cmpi .ne v402 c0_i32_142
  v403

def k0_cond12 (i : grid0.Coords) : BitVec 1 :=
  let arg0 : BitVec 32 := BitVec.ofNat 32 (i 0).val
  let c0_i32_143 : BitVec 32 := 0#32
  let v404 : BitVec 1 := Scalar.cmpi .sgt arg0 c0_i32_143
  let v405 : BitVec 32 := Scalar.extui v404
  let c0_i32_144 : BitVec 32 := 0#32
  let v406 : BitVec 1 := Scalar.cmpi .ne v405 c0_i32_144
  v406

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== XaRefIdeal.lean ====
abbrev S8192x1024 : Shape := ⟨2, ![8192, 1024]⟩
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S8192x4 : Shape := ⟨2, ![8192, 4]⟩
abbrev S8192x4x1 : Shape := ⟨3, ![8192, 4, 1]⟩
abbrev S1x1x256 : Shape := ⟨3, ![1, 1, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1x256 : Shape := ⟨2, ![1, 256]⟩

abbrev nBuf : Space → Nat
  | .hbm => 188
  | .vmem => 0
  | .smem => 0
  | _ => 0

abbrev hbmTy0_0 (i : Nat) : BufTy := match i % 128 with
  | 0 => ⟨S8192x1024, .f32⟩
  | 1 => ⟨S256x1024, .f32⟩
  | 2 => ⟨S256x1024, .f32⟩
  | 3 => ⟨S1024, .f32⟩
  | 4 => ⟨S1024x1024, .f32⟩
  | 5 => ⟨S256, .f32⟩
  | 6 => ⟨S1024x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x4x256, .f32⟩
  | 30 => ⟨S8192x4x256, .f32⟩
  | 31 => ⟨S_, .f32⟩
  | 32 => ⟨S8192x4, .f32⟩
  | 33 => ⟨S8192x4x1, .f32⟩
  | 34 => ⟨S_, .f32⟩
  | 35 => ⟨S8192x4x1, .f32⟩
  | 36 => ⟨S8192x4x1, .f32⟩
  | 37 => ⟨S_, .f32⟩
  | 38 => ⟨S8192x4x1, .f32⟩
  | 39 => ⟨S8192x4x1, .f32⟩
  | 40 => ⟨S8192x4x1, .f32⟩
  | 41 => ⟨S8192x4x1, .f32⟩
  | 42 => ⟨S_, .f32⟩
  | 43 => ⟨S8192x4x1, .f32⟩
  | 44 => ⟨S8192x4x1, .f32⟩
  | 45 => ⟨S8192x4x256, .f32⟩
  | 46 => ⟨S8192x4x256, .f32⟩
  | 47 => ⟨S1x1x256, .f32⟩
  | 48 => ⟨S8192x4x256, .f32⟩
  | 49 => ⟨S8192x4x256, .f32⟩
  | 50 => ⟨S256x4x256, .f32⟩
  | 51 => ⟨S4x8192x256, .f32⟩
  | 52 => ⟨S_, .f32⟩
  | 53 => ⟨S4x8192x256, .f32⟩
  | 54 => ⟨S4x8192x256, .f32⟩
  | 55 => ⟨S_, .f32⟩
  | 56 => ⟨S4x8192, .f32⟩
  | 57 => ⟨S4x8192x1, .f32⟩
  | 58 => ⟨S4x8192x256, .f32⟩
  | 59 => ⟨S4x8192x256, .i1⟩
  | 60 => ⟨S4x8192x256, .f32⟩
  | 61 => ⟨S_, .f32⟩
  | 62 => ⟨S4x8192, .f32⟩
  | 63 => ⟨S_, .f32⟩
  | 64 => ⟨S4x8192, .f32⟩
  | 65 => ⟨S4x8192, .f32⟩
  | 66 => ⟨S_, .f32⟩
  | 67 => ⟨S4x8192, .f32⟩
  | 68 => ⟨S4x8192, .i1⟩
  | 69 => ⟨S_, .f32⟩
  | 70 => ⟨S4x8192, .f32⟩
  | 71 => ⟨S4x8192, .i1⟩
  | 72 => ⟨S_, .f32⟩
  | 73 => ⟨S4x8192, .f32⟩
  | 74 => ⟨S_, .f32⟩
  | 75 => ⟨S4x8192, .f32⟩
  | 76 => ⟨S_, .f32⟩
  | 77 => ⟨S4x8192, .f32⟩
  | 78 => ⟨S4x8192, .f32⟩
  | 79 => ⟨S4x8192, .f32⟩
  | 80 => ⟨S4x8192x1, .f32⟩
  | 81 => ⟨S4x8192x256, .f32⟩
  | 82 => ⟨S4x8192x256, .f32⟩
  | 83 => ⟨S4x8192x256, .f32⟩
  | 84 => ⟨S_, .f32⟩
  | 85 => ⟨S4x8192, .f32⟩
  | 86 => ⟨S4x8192x1, .f32⟩
  | 87 => ⟨S4x8192x256, .f32⟩
  | 88 => ⟨S4x8192x256, .f32⟩
  | 89 => ⟨S4x8192x1, .f32⟩
  | 90 => ⟨S_, .f32⟩
  | 91 => ⟨S4x8192x1, .f32⟩
  | 92 => ⟨S4x8192x1, .f32⟩
  | 93 => ⟨S256x4x256, .f32⟩
  | 94 => ⟨S4x256x8192, .f32⟩
  | 95 => ⟨S8192x4x256, .f32⟩
  | 96 => ⟨S8192x1024, .f32⟩
  | 97 => ⟨S8192x1024, .f32⟩
  | 98 => ⟨S8192x1024, .f32⟩
  | 99 => ⟨S8192x1024, .f32⟩
  | 100 => ⟨S1024x1024, .f32⟩
  | 101 => ⟨S1024x1024, .f32⟩
  | 102 => ⟨S8192x1024, .f32⟩
  | 103 => ⟨S8192x4x256, .f32⟩
  | 104 => ⟨S4x256x8192, .f32⟩
  | 105 => ⟨S4x8192x256, .f32⟩
  | 106 => ⟨S4x256x256, .f32⟩
  | 107 => ⟨S256x4x256, .f32⟩
  | 108 => ⟨S256x1024, .f32⟩
  | 109 => ⟨S4x8192x256, .f32⟩
  | 110 => ⟨S4x8192x256, .f32⟩
  | 111 => ⟨S4x8192x256, .f32⟩
  | 112 => ⟨S_, .f32⟩
  | 113 => ⟨S4x8192, .f32⟩
  | 114 => ⟨S4x8192x1, .f32⟩
  | 115 => ⟨S4x8192x1, .f32⟩
  | 116 => ⟨S4x8192x256, .f32⟩
  | 117 => ⟨S4x8192x256, .f32⟩
  | 118 => ⟨S_, .f32⟩
  | 119 => ⟨S4x8192, .f32⟩
  | 120 => ⟨S4x8192x256, .f32⟩
  | 121 => ⟨S4x8192x256, .f32⟩
  | 122 => ⟨S4x8192x256, .f32⟩
  | 123 => ⟨S_, .f32⟩
  | 124 => ⟨S4x8192x256, .f32⟩
  | 125 => ⟨S4x8192x256, .f32⟩
  | 126 => ⟨S4x256x256, .f32⟩
  | 127 => ⟨S256x4x256, .f32⟩
  | _ => ⟨S8192x1024, .f32⟩

abbrev hbmTy0_1 (i : Nat) : BufTy := match i % 128 with
  | 0 => ⟨S4x8192x256, .f32⟩
  | 1 => ⟨S8192x4x256, .f32⟩
  | 2 => ⟨S256x1024, .f32⟩
  | 3 => ⟨S8192x4x256, .f32⟩
  | 4 => ⟨S_, .f32⟩
  | 5 => ⟨S256, .f32⟩
  | 6 => ⟨S1x1x256, .f32⟩
  | 7 => ⟨S8192x4x256, .f32⟩
  | 8 => ⟨S8192x4x256, .f32⟩
  | 9 => ⟨S_, .f32⟩
  | 10 => ⟨S256, .f32⟩
  | 11 => ⟨S8192x4x256, .f32⟩
  | 12 => ⟨S_, .f32⟩
  | 13 => ⟨S8192x4, .f32⟩
  | 14 => ⟨S8192x4x1, .f32⟩
  | 15 => ⟨S8192x4x256, .f32⟩
  | 16 => ⟨S8192x4x256, .f32⟩
  | 17 => ⟨S8192x4x1, .f32⟩
  | 18 => ⟨S_, .f32⟩
  | 19 => ⟨S8192x4x1, .f32⟩
  | 20 => ⟨S8192x4x1, .f32⟩
  | 21 => ⟨S_, .f32⟩
  | 22 => ⟨S8192x4, .f32⟩
  | 23 => ⟨S8192x4x256, .f32⟩
  | 24 => ⟨S8192x4x256, .f32⟩
  | 25 => ⟨S8192x4x256, .f32⟩
  | 26 => ⟨S8192x4x256, .f32⟩
  | 27 => ⟨S8192x4x256, .f32⟩
  | 28 => ⟨S8192x1024, .f32⟩
  | 29 => ⟨S1024x1024, .f32⟩
  | 30 => ⟨S1024x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1024, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S1x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_21 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_22 : Ref sig .tc := ⟨.hbm, 137, rfl⟩
abbrev main_v106 : Ref sig .tc := ⟨.hbm, 138, rfl⟩
abbrev main_v107 : Ref sig .tc := ⟨.hbm, 139, rfl⟩
abbrev main_cst_23 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_24 : Ref sig .tc := ⟨.hbm, 146, rfl⟩
abbrev main_v113 : Ref sig .tc := ⟨.hbm, 147, rfl⟩
abbrev main_v114 : Ref sig .tc := ⟨.hbm, 148, rfl⟩
abbrev main_cst_25 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_26 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_27 : Ref sig .tc := ⟨.hbm, 166, rfl⟩
abbrev main_v130 : Ref sig .tc := ⟨.hbm, 167, rfl⟩
abbrev main_v131 : Ref sig .tc := ⟨.hbm, 168, rfl⟩
abbrev main_cst_28 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_29 : Ref sig .tc := ⟨.hbm, 176, rfl⟩
abbrev main_v138 : Ref sig .tc := ⟨.hbm, 177, rfl⟩
abbrev main_v139 : Ref sig .tc := ⟨.hbm, 178, rfl⟩
abbrev main_cst_30 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S5632x1024 : Shape := ⟨2, ![5632, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S256x2816 : Shape := ⟨2, ![256, 2816]⟩

abbrev nBuf : Space → Nat
  | .hbm => 28
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x5632, .bf16⟩
  | .hbm, ⟨23, _⟩ => ⟨S1x1024, .f32⟩
  | .hbm, ⟨24, _⟩ => ⟨S5632x1024, .f32⟩
  | .hbm, ⟨25, _⟩ => ⟨S8192x1024, .f32⟩
  | .hbm, ⟨26, _⟩ => ⟨S8192x5632, .bf16⟩
  | .hbm, ⟨27, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S1x1024, .f32⟩
  | .local _ .vmem, ⟨7, _⟩ => ⟨S5632x1024, .f32⟩
  | .local _ .vmem, ⟨8, _⟩ => ⟨S2816x1024, .f32⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_32 : BitVec 32 := 0#32
  let v82 : BitVec 1 := Scalar.cmpi .ne v81 c0_i32_32
  v82

def k0_cond2 (i : grid0.Coords) : BitVec 1 :=
  let arg0 : BitVec 32 := BitVec.ofNat 32 (i 0).val
  let c0_i32_33 : BitVec 32 := 0#32
  let v83 : BitVec 1 := Scalar.cmpi .sgt arg0 c0_i32_33
  let v84 : BitVec 32 := Scalar.extui v83
  let c0_i32_34 : BitVec 32 := 0#32
  let v85 : BitVec 1 := Scalar.cmpi .ne v84 c0_i32_34
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x5632, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x5632, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S_, .f32⟩
  | .hbm, ⟨80, _⟩ => ⟨S8192x2816, .f32⟩
  | .hbm, ⟨81, _⟩ => ⟨S8192x2816, .f32⟩
  | .hbm, ⟨82, _⟩ => ⟨S_, .f32⟩
  | .hbm, ⟨83, _⟩ => ⟨S8192x2816, .f32⟩
  | .hbm, ⟨84, _⟩ => ⟨S8192x2816, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x2816, .f32⟩
  | .hbm, ⟨92, _⟩ => ⟨S8192x2816, .f32⟩
  | .hbm, ⟨93, _⟩ => ⟨S8192x2816, .f32⟩
  | .hbm, ⟨94, _⟩ => ⟨S8192x2816, .f32⟩
  | .hbm, ⟨95, _⟩ => ⟨S8192x2816, .f32⟩
  | .hbm, ⟨96, _⟩ => ⟨S8192x2816, .f32⟩
  | .hbm, ⟨97, _⟩ => ⟨S8192x2816, .f32⟩
  | .hbm, ⟨98, _⟩ => ⟨S8192x5632, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S1024, .f32⟩
  | .hbm, ⟨108, _⟩ => ⟨S8192x1024, .f32⟩
  | .hbm, ⟨109, _⟩ => ⟨S_, .f32⟩
  | .hbm, ⟨110, _⟩ => ⟨S8192, .f32⟩
  | .hbm, ⟨111, _⟩ => ⟨S8192x1, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1, .f32⟩
  | .hbm, ⟨116, _⟩ => ⟨S_, .f32⟩
  | .hbm, ⟨117, _⟩ => ⟨S8192x1, .f32⟩
  | .hbm, ⟨118, _⟩ => ⟨S8192x1, .f32⟩
  | .hbm, ⟨119, _⟩ => ⟨S_, .f32⟩
  | .hbm, ⟨120, _⟩ => ⟨S8192, .f32⟩
  | .hbm, ⟨121, _⟩ => ⟨S8192x1024, .f32⟩
  | .hbm, ⟨122, _⟩ => ⟨S8192x1024, .f32⟩
  | .hbm, ⟨123, _⟩ => ⟨S8192x1024, .f32⟩
  | .hbm, ⟨124, _⟩ => ⟨S8192x1024, .f32⟩
  | .hbm, ⟨125, _⟩ => ⟨S8192x1024, .f32⟩
  | .hbm, ⟨126, _⟩ => ⟨S8192x5632, .bf16⟩
  | .hbm, ⟨127, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_v46_2 : Ref sig .tc := ⟨.hbm, 81, rfl⟩
abbrev main_call2_cst_1 : Ref sig .tc := ⟨.hbm, 82, rfl⟩
abbrev main_call2_v6 : Ref sig .tc := ⟨.hbm, 83, rfl⟩
abbrev main_call2_v7 : Ref sig .tc := ⟨.hbm, 84, rfl⟩
abbrev main_v46_1 : Ref sig .tc := ⟨.hbm, 85, rfl⟩
abbrev main_v46_0 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_7 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_8 : Ref sig .tc := ⟨.hbm, 106, rfl⟩
abbrev main_v62 : Ref sig .tc := ⟨.hbm, 107, rfl⟩
abbrev main_v63 : Ref sig .tc := ⟨.hbm, 108, rfl⟩
abbrev main_cst_9 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_10 : Ref sig .tc := ⟨.hbm, 116, rfl⟩
abbrev main_v70 : Ref sig .tc := ⟨.hbm, 117, rfl⟩
abbrev main_v71 : Ref sig .tc := ⟨.hbm, 118, rfl⟩
abbrev main_cst_11 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩

abbrev nD : Nat := 1
abbrev τ : Topo := Topo.v7x

variable {F : FTy → Type} [FloatOps F]
-- ==== MixIn.lean ====
abbrev S8192x1024 : Shape := ⟨2, ![8192, 1024]⟩
abbrev S1024 : Shape := ⟨1, ![1024]⟩
abbrev S1024x2304 : Shape := ⟨2, ![1024, 2304]⟩
abbrev S64 : Shape := ⟨1, ![64]⟩
abbrev S8192x512 : Shape := ⟨2, ![8192, 512]⟩
abbrev S8192x256 : Shape := ⟨2, ![8192, 256]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1x64 : Shape := ⟨2, ![1, 64]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S2304x1024 : Shape := ⟨2, ![2304, 1024]⟩
abbrev S256x1024 : Shape := ⟨2, ![256, 1024]⟩
abbrev S256x2304 : Shape := ⟨2, ![256, 2304]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 57
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x256, .f32⟩
  | .hbm, ⟨10, _⟩ => ⟨S8192x256, .f32⟩
  | .hbm, ⟨11, _⟩ => ⟨S8x64, .i32⟩
  | .hbm, ⟨12, _⟩ => ⟨S512, .i32⟩
  | .hbm, ⟨13, _⟩ => ⟨S512x1, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S1x64, .f32⟩
  | .hbm, ⟨29, _⟩ => ⟨S8x64, .f32⟩
  | .hbm, ⟨30, _⟩ => ⟨S512, .f32⟩
  | .hbm, ⟨31, _⟩ => ⟨S1x512, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x2304, .f32⟩
  | .hbm, ⟨49, _⟩ => ⟨S8192x2304, .bf16⟩
  | .hbm, ⟨50, _⟩ => ⟨S1x1024, .f32⟩
  | .hbm, ⟨51, _⟩ => ⟨S2304x1024, .f32⟩
  | .hbm, ⟨52, _⟩ => ⟨S8192x1024, .f32⟩
  | .hbm, ⟨53, _⟩ => ⟨S2304x1024, .f32⟩
  | .hbm, ⟨54, _⟩ => ⟨S1x1024, .f32⟩
  | .hbm, ⟨55, _⟩ => ⟨S1x512, .f32⟩
  | .hbm, ⟨56, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2304, .bf16⟩
  | .local _ .vmem, ⟨5, _⟩ => ⟨S256x2304, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x1024, .f32⟩
  | .local _ .vmem, ⟨17, _⟩ => ⟨S2304x1024, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S256x1024, .f32⟩
  | .local _ .vmem, ⟨22, _⟩ => ⟨S256x1024, .f32⟩
  | .local _ .vmem, ⟨23, _⟩ => ⟨S2304x1024, .f32⟩
  | .local _ .vmem, ⟨24, _⟩ => ⟨S1x1024, .f32⟩
  | .local _ .vmem, ⟨25, _⟩ => ⟨S1x512, .f32⟩
  | .local _ .vmem, ⟨26, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v34_3 : Ref sig .tc := ⟨.hbm, 55, rfl⟩
abbrev main_v34_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_53 : BitVec 32 := 0#32
  let v134 : BitVec 1 := Scalar.cmpi .ne v133 c0_i32_53
  v134

def k0_cond2 (i : grid0.Coords) : BitVec 1 :=
  let arg0 : BitVec 32 := BitVec.ofNat 32 (i 0).val
  let c0_i32_54 : BitVec 32 := 0#32
  let v135 : BitVec 1 := Scalar.cmpi .sgt arg0 c0_i32_54
  let v136 : BitVec 32 := Scalar.extui v135
  let c0_i32_55 : BitVec 32 := 0#32
  let v137 : BitVec 1 := Scalar.cmpi .ne v136 c0_i32_55
  v137

def k0_cond3 (i : grid0.Coords) : BitVec 1 :=
  let arg0 : BitVec 32 := BitVec.ofNat 32 (i 0).val
  let c0_i32_56 : BitVec 32 := 0#32
  let v138 : BitVec 1 := Scalar.cmpi .eq arg0 c0_i32_56
  let v139 : BitVec 32 := Scalar.extui v138
  let c0_i32_57 : BitVec 32 := 0#32
  let v140 : BitVec 1 := Scalar.cmpi .ne v139 c0_i32_57
  v140

def k0_cond4 (i : grid0.Coords) : BitVec 1 :=
  let arg0 : BitVec 32 := BitVec.ofNat 32 (i 0).val
  let c0_i32_58 : BitVec 32 := 0#32
  let v141 : BitVec 1 := Scalar.cmpi .sgt arg0 c0_i32_58
  let v142 : BitVec 32 := Scalar.extui v141
  let c0_i32_59 : BitVec 32 := 0#32
  let v143 : BitVec 1 := Scalar.cmpi .ne v142 c0_i32_59
  v143

def k0_cond5 (i : grid0.Coords) : BitVec 1 :=
  let arg0 : BitVec 32 := BitVec.ofNat 32 (i 0).val
  let c0_i32_60 : BitVec 32 := 0#32
  let v144 : BitVec 1 := Scalar.cmpi .eq arg0 c0_i32_60
  let v145 : BitVec 32 := Scalar.extui v144
  let c0_i32_61 : BitVec 32 := 0#32
  let v146 : BitVec 1 := Scalar.cmpi .ne v145 c0_i32_61
  v146

def k0_cond6 (i : grid0.Coords) : BitVec 1 :=
  let arg0 : BitVec 32 := BitVec.ofNat 32 (i 0).val
  let c0_i32_62 : BitVec 32 := 0#32
  let v147 : BitVec 1 := Scalar.cmpi .sgt arg0 c0_i32_62
  let v148 : BitVec 32 := Scalar.extui v147
  let c0_i32_63 : BitVec 32 := 0#32
  let v149 : BitVec 1 := Scalar.cmpi .ne v148 c0_i32_63
  v149

def k0_cond7 (i : grid0.Coords) : BitVec 1 :=
  let arg0 : BitVec 32 := BitVec.ofNat 32 (i 0).val
  let c0_i32_64 : BitVec 32 := 0#32
  let v150 : BitVec 1 := Scalar.cmpi .eq arg0 c0_i32_64
  let v151 : BitVec 32 := Scalar.extui v150
  let c0_i32_65 : BitVec 32 := 0#32
  let v152 : BitVec 1 := Scalar.cmpi .ne v151 c0_i32_65
  v152

def k0_cond8 (i : grid0.Coords) : BitVec 1 :=
  let arg0 : BitVec 32 := BitVec.ofNat 32 (i 0).val
  let c0_i32_66 : BitVec 32 := 0#32
  let v153 : BitVec 1 := Scalar.cmpi .sgt arg0 c0_i32_66
  let v154 : BitVec 32 := Scalar.extui v153
  let c0_i32_67 : BitVec 32 := 0#32
  let v155 : BitVec 1 := Scalar.cmpi .ne v154 c0_i32_67
  v155

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2304x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2304x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixInRefIdeal.lean ====
abbrev S8192x1024 : Shape := ⟨2, ![8192, 1024]⟩
abbrev S1024 : Shape := ⟨1, ![1024]⟩
abbrev S1024x2304 : Shape := ⟨2, ![1024, 2304]⟩
abbrev S64 : Shape := ⟨1, ![64]⟩
abbrev S8192x512 : Shape := ⟨2, ![8192, 512]⟩
abbrev S8192x256 : Shape := ⟨2, ![8192, 256]⟩
abbrev S8x64 : Shape := ⟨2, ![8, 64]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S8192x8x64 : Shape := ⟨3, ![8192, 8, 64]⟩
abbrev S8192x8 : Shape := ⟨2, ![8192, 8]⟩
abbrev S8192x8x1 : Shape := ⟨3, ![8192, 8, 1]⟩
abbrev S1x8x64 : Shape := ⟨3, ![1, 8, 64]⟩
abbrev S2304x1024 : Shape := ⟨2, ![2304, 1024]⟩
abbrev S1x512 : Shape := ⟨2, ![1, 512]⟩

abbrev nBuf : Space → Nat
  | .hbm => 203
  | .vmem => 0
  | .smem => 0
  | _ => 0

abbrev hbmTy0_0 (i : Nat) : BufTy := match i % 128 with
  | 0 => ⟨S8192x1024, .f32⟩
  | 1 => ⟨S1024, .f32⟩
  | 2 => ⟨S1024x2304, .f32⟩
  | 3 => ⟨S64, .f32⟩
  | 4 => ⟨S64, .f32⟩
  | 5 => ⟨S8192x1024, .f32⟩
  | 6 => ⟨S8192x512, .f32⟩
  | 7 => ⟨S8192x512, .f32⟩
  | 8 => ⟨S8192x512, .f32⟩
  | 9 => ⟨S8192x256, .f32⟩
  | 10 => ⟨S8192x256, .f32⟩
  | 11 => ⟨S8x64, .f32⟩
  | 12 => ⟨S8x64, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x2304, .f32⟩
  | 34 => ⟨S8192x512, .f32⟩
  | 35 => ⟨S8192x8x64, .f32⟩
  | 36 => ⟨S8192x8x64, .f32⟩
  | 37 => ⟨S_, .f32⟩
  | 38 => ⟨S8192x8, .f32⟩
  | 39 => ⟨S8192x8x1, .f32⟩
  | 40 => ⟨S_, .f32⟩
  | 41 => ⟨S8192x8x1, .f32⟩
  | 42 => ⟨S8192x8x1, .f32⟩
  | 43 => ⟨S_, .f32⟩
  | 44 => ⟨S8192x8x1, .f32⟩
  | 45 => ⟨S8192x8x1, .f32⟩
  | 46 => ⟨S8192x8x1, .f32⟩
  | 47 => ⟨S8192x8x1, .f32⟩
  | 48 => ⟨S_, .f32⟩
  | 49 => ⟨S8192x8x1, .f32⟩
  | 50 => ⟨S8192x8x1, .f32⟩
  | 51 => ⟨S8192x8x64, .f32⟩
  | 52 => ⟨S8192x8x64, .f32⟩
  | 53 => ⟨S1x8x64, .f32⟩
  | 54 => ⟨S8192x8x64, .f32⟩
  | 55 => ⟨S8192x8x64, .f32⟩
  | 56 => ⟨S8192x512, .f32⟩
  | 57 => ⟨S8192x8x64, .f32⟩
  | 58 => ⟨S8192x8x64, .f32⟩
  | 59 => ⟨S_, .f32⟩
  | 60 => ⟨S8192x8, .f32⟩
  | 61 => ⟨S8192x8x1, .f32⟩
  | 62 => ⟨S_, .f32⟩
  | 63 => ⟨S8192x8x1, .f32⟩
  | 64 => ⟨S8192x8x1, .f32⟩
  | 65 => ⟨S_, .f32⟩
  | 66 => ⟨S8192x8x1, .f32⟩
  | 67 => ⟨S8192x8x1, .f32⟩
  | 68 => ⟨S8192x8x1, .f32⟩
  | 69 => ⟨S8192x8x1, .f32⟩
  | 70 => ⟨S_, .f32⟩
  | 71 => ⟨S8192x8x1, .f32⟩
  | 72 => ⟨S8192x8x1, .f32⟩
  | 73 => ⟨S8192x8x64, .f32⟩
  | 74 => ⟨S8192x8x64, .f32⟩
  | 75 => ⟨S1x8x64, .f32⟩
  | 76 => ⟨S8192x8x64, .f32⟩
  | 77 => ⟨S8192x8x64, .f32⟩
  | 78 => ⟨S8192x512, .f32⟩
  | 79 => ⟨S8192x256, .f32⟩
  | 80 => ⟨S8192x256, .f32⟩
  | 81 => ⟨S8192x512, .f32⟩
  | 82 => ⟨S8192x512, .f32⟩
  | 83 => ⟨S8192x512, .f32⟩
  | 84 => ⟨S8192x256, .f32⟩
  | 85 => ⟨S8192x256, .f32⟩
  | 86 => ⟨S_, .f32⟩
  | 87 => ⟨S8192x256, .f32⟩
  | 88 => ⟨S8192x256, .f32⟩
  | 89 => ⟨S_, .f32⟩
  | 90 => ⟨S8192x256, .f32⟩
  | 91 => ⟨S8192x256, .f32⟩
  | 92 => ⟨S_, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S_, .f32⟩
  | 99 => ⟨S8192x2304, .f32⟩
  | 100 => ⟨S8192x256, .f32⟩
  | 101 => ⟨S8192x256, .f32⟩
  | 102 => ⟨S8192x256, .f32⟩
  | 103 => ⟨S_, .f32⟩
  | 104 => ⟨S8192x2304, .f32⟩
  | 105 => ⟨S8192x2304, .f32⟩
  | 106 => ⟨S8192x8x64, .f32⟩
  | 107 => ⟨S8192x8x64, .f32⟩
  | 108 => ⟨S8192x512, .f32⟩
  | 109 => ⟨S_, .f32⟩
  | 110 => ⟨S8192x2304, .f32⟩
  | 111 => ⟨S8192x2304, .f32⟩
  | 112 => ⟨S8192x8x64, .f32⟩
  | 113 => ⟨S_, .f32⟩
  | 114 => ⟨S8x64, .f32⟩
  | 115 => ⟨S1x8x64, .f32⟩
  | 116 => ⟨S8192x8x64, .f32⟩
  | 117 => ⟨S8192x8x64, .f32⟩
  | 118 => ⟨S_, .f32⟩
  | 119 => ⟨S8x64, .f32⟩
  | 120 => ⟨S8192x8x64, .f32⟩
  | 121 => ⟨S_, .f32⟩
  | 122 => ⟨S8192x8, .f32⟩
  | 123 => ⟨S8192x8x1, .f32⟩
  | 124 => ⟨S8192x8x64, .f32⟩
  | 125 => ⟨S8192x8x64, .f32⟩
  | 126 => ⟨S8192x8x1, .f32⟩
  | 127 => ⟨S_, .f32⟩
  | _ => ⟨S8192x1024, .f32⟩

abbrev hbmTy0_1 (i : Nat) : BufTy := match i % 128 with
  | 0 => ⟨S8192x8x1, .f32⟩
  | 1 => ⟨S8192x8x1, .f32⟩
  | 2 => ⟨S_, .f32⟩
  | 3 => ⟨S8192x8, .f32⟩
  | 4 => ⟨S8192x8x64, .f32⟩
  | 5 => ⟨S8192x8x64, .f32⟩
  | 6 => ⟨S8192x8x64, .f32⟩
  | 7 => ⟨S8192x8x64, .f32⟩
  | 8 => ⟨S8192x8x64, .f32⟩
  | 9 => ⟨S8192x512, .f32⟩
  | 10 => ⟨S_, .f32⟩
  | 11 => ⟨S8192x2304, .f32⟩
  | 12 => ⟨S8192x2304, .f32⟩
  | 13 => ⟨S8192x8x64, .f32⟩
  | 14 => ⟨S_, .f32⟩
  | 15 => ⟨S8x64, .f32⟩
  | 16 => ⟨S1x8x64, .f32⟩
  | 17 => ⟨S8192x8x64, .f32⟩
  | 18 => ⟨S8192x8x64, .f32⟩
  | 19 => ⟨S_, .f32⟩
  | 20 => ⟨S8x64, .f32⟩
  | 21 => ⟨S8192x8x64, .f32⟩
  | 22 => ⟨S_, .f32⟩
  | 23 => ⟨S8192x8, .f32⟩
  | 24 => ⟨S8192x8x1, .f32⟩
  | 25 => ⟨S8192x8x64, .f32⟩
  | 26 => ⟨S8192x8x64, .f32⟩
  | 27 => ⟨S8192x8x1, .f32⟩
  | 28 => ⟨S_, .f32⟩
  | 29 => ⟨S8192x8x1, .f32⟩
  | 30 => ⟨S8192x8x1, .f32⟩
  | 31 => ⟨S_, .f32⟩
  | 32 => ⟨S8192x8, .f32⟩
  | 33 => ⟨S8192x8x64, .f32⟩
  | 34 => ⟨S8192x8x64, .f32⟩
  | 35 => ⟨S8192x8x64, .f32⟩
  | 36 => ⟨S8192x8x64, .f32⟩
  | 37 => ⟨S8192x8x64, .f32⟩
  | 38 => ⟨S8192x512, .f32⟩
  | 39 => ⟨S_, .f32⟩
  | 40 => ⟨S8192x2304, .f32⟩
  | 41 => ⟨S8192x2304, .f32⟩
  | 42 => ⟨S2304x1024, .f32⟩
  | 43 => ⟨S1024x2304, .f32⟩
  | 44 => ⟨S8192x1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S_, .f32⟩
  | 52 => ⟨S1024, .f32⟩
  | 53 => ⟨S8192x1024, .f32⟩
  | 54 => ⟨S_, .f32⟩
  | 55 => ⟨S8192, .f32⟩
  | 56 => ⟨S8192x1, .f32⟩
  | 57 => ⟨S8192x1024, .f32⟩
  | 58 => ⟨S8192x1024, .f32⟩
  | 59 => ⟨S8192x1024, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S2304x1024, .f32⟩
  | 72 => ⟨S1x1024, .f32⟩
  | 73 => ⟨S1x512, .f32⟩
  | 74 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_v96 : Ref sig .tc := ⟨.hbm, 129, rfl⟩
abbrev main_cst_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_cst_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_28 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_29 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_30 : Ref sig .tc := ⟨.hbm, 179, rfl⟩
abbrev main_v137 : Ref sig .tc := ⟨.hbm, 180, rfl⟩
abbrev main_v138 : Ref sig .tc := ⟨.hbm, 181, rfl⟩
abbrev main_cst_31 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_32 : Ref sig .tc := ⟨.hbm, 189, rfl⟩
abbrev main_v145 : Ref sig .tc := ⟨.hbm, 190, rfl⟩
abbrev main_v146 : Ref sig .tc := ⟨.hbm, 191, rfl⟩
abbrev main_cst_33 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩

abbrev nD : Nat := 1
abbrev τ : Topo := Topo.v7x

variable {F : FTy → Type} [FloatOps F]
-- ==== Conv.lean ====
abbrev S8192x256 : Shape := ⟨2, ![8192, 256]⟩
abbrev S31x256 : Shape := ⟨2, ![31, 256]⟩
abbrev S_ : Shape := ⟨0, ![]⟩
abbrev S8224x256 : Shape := ⟨2, ![8224, 256]⟩
abbrev S512x256 : Shape := ⟨2, ![512, 256]⟩
abbrev S31x8x256 : Shape := ⟨3, ![31, 8, 256]⟩
abbrev S96x256 : Shape := ⟨2, ![96, 256]⟩
abbrev S64x256 : Shape := ⟨2, ![64, 256]⟩
abbrev S1x256 : Shape := ⟨2, ![1, 256]⟩
abbrev S8x256 : Shape := ⟨2, ![8, 256]⟩
abbrev S1x8x256 : Shape := ⟨3, ![1, 8, 256]⟩
abbrev S256 : Shape := ⟨1, ![256]⟩

abbrev nBuf : Space → Nat
  | .hbm => 11
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S31x256, .f32⟩
  | .hbm, ⟨2, _⟩ => ⟨S8192x256, .f32⟩
  | .hbm, ⟨3, _⟩ => ⟨S_, .i32⟩
  | .hbm, ⟨4, _⟩ => ⟨S_, .f32⟩
  | .hbm, ⟨5, _⟩ => ⟨S8224x256, .f32⟩
  | .hbm, ⟨6, _⟩ => ⟨S_, .i32⟩
  | .hbm, ⟨7, _⟩ => ⟨S_, .f32⟩
  | .hbm, ⟨8, _⟩ => ⟨S8224x256, .f32⟩
  | .hbm, ⟨9, _⟩ => ⟨S8192x256, .f32⟩
  | .hbm, ⟨10, _⟩ => ⟨S31x256, .f32⟩
  | .local _ .vmem, ⟨0, _⟩ => ⟨S8224x256, .f32⟩
  | .local _ .vmem, ⟨1, _⟩ => ⟨S8224x256, .f32⟩
  | .local _ .vmem, ⟨2, _⟩ => ⟨S31x256, .f32⟩
  | .local _ .vmem, ⟨3, _⟩ => ⟨S512x256, .f32⟩
  | .local _ .vmem, ⟨4, _⟩ => ⟨S512x256, .f32⟩
  | .local _ .vmem, ⟨5, _⟩ => ⟨S31x256, .f32⟩
  | .local _ .vmem, ⟨6, _⟩ => ⟨S31x8x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (i : grid0.Coords) (k0_t1 : Fin k0_t1_loop.trips) : BitVec 32 :=
  let arg0 : BitVec 32 := BitVec.ofNat 32 (i 0).val
  let c512_i32 : BitVec 32 := 512#32
  let v7 : BitVec 32 := Scalar.muli arg0 c512_i32
  let c0_i32_1 : BitVec 32 := 0#32
  let c1_i32 : BitVec 32 := 1#32
  let arg7 : BitVec 32 := Scf.iv c0_i32_1 c1_i32 k0_t1
  let c64_i32 : BitVec 32 := 64#32
  let v8 : BitVec 32 := Scalar.muli arg7 c64_i32
  let v9 : BitVec 32 := Scalar.addi v7 v8
  v9
def k0_off1 (i : grid0.Coords) (k0_t1 : Fin k0_t1_loop.trips) : Fin 2 → Nat :=
  let arg0 : BitVec 32 := BitVec.ofNat 32 (i 0).val
  let c512_i32 : BitVec 32 := 512#32
  let v7 : BitVec 32 := Scalar.muli arg0 c512_i32
  let c0_i32_1 : BitVec 32 := 0#32
  let c1_i32 : BitVec 32 := 1#32
  let arg7 : BitVec 32 := Scf.iv c0_i32_1 c1_i32 k0_t1
  let c64_i32 : BitVec 32 := 64#32
  let v8 : BitVec 32 := Scalar.muli arg7 c64_i32
  let v9 : BitVec 32 := Scalar.addi v7 v8
  let v10 : BitVec 32 := v9
  let v11 : Index := Scalar.indexCast v10
  let c0 : Index := 0#32
  ![v11.toNat, 0]
def k0_mult2 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c64_i32_226 : BitVec 32 := 64#32
  let v947 : BitVec 32 := Scalar.muli arg7 c64_i32_226
  v947
def k0_off2 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c64_i32_226 : BitVec 32 := 64#32
  let v947 : BitVec 32 := Scalar.muli arg7 c64_i32_226
  let v948 : BitVec 32 := v947
  let v949 : Index := Scalar.indexCast v948
  let c0_227 : Index := 0#32
  ![v949.toNat, 0]
def k0_cond2 (i : grid0.Coords) : BitVec 1 :=
  let arg0 : BitVec 32 := BitVec.ofNat 32 (i 0).val
  let c15_i32 : BitVec 32 := 15#32
  let v4 : BitVec 1 := Scalar.cmpi .eq arg0 c15_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8224x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8224x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ConvRefIdeal.lean ====
abbrev S8192x256 : Shape := ⟨2, ![8192, 256]⟩
abbrev S31x256 : Shape := ⟨2, ![31, 256]⟩
abbrev S_ : Shape := ⟨0, ![]⟩
abbrev S30x256 : Shape := ⟨2, ![30, 256]⟩
abbrev S8222x256 : Shape := ⟨2, ![8222, 256]⟩
abbrev S1x256 : Shape := ⟨2, ![1, 256]⟩
abbrev S256 : Shape := ⟨1, ![256]⟩

abbrev nBuf : Space → Nat
  | .hbm => 691
  | .vmem => 0
  | .smem => 0
  | _ => 0

abbrev hbmTy0_0 (i : Nat) : BufTy := match i % 128 with
  | 0 => ⟨S8192x256, .f32⟩
  | 1 => ⟨S31x256, .f32⟩
  | 2 => ⟨S8192x256, .f32⟩
  | 3 => ⟨S_, .f32⟩
  | 4 => ⟨S30x256, .f32⟩
  | 5 => ⟨S8222x256, .f32⟩
  | 6 => ⟨S_, .f32⟩
  | 7 => ⟨S30x256, .f32⟩
  | 8 => ⟨S1x256, .f32⟩
  | 9 => ⟨S256, .f32⟩
  | 10 => ⟨S8192x256, .f32⟩
  | 11 => ⟨S1x256, .f32⟩
  | 12 => ⟨S8192x256, .f32⟩
  | 13 => ⟨S8192x256, .f32⟩
  | 14 => ⟨S1x256, .f32⟩
  | 15 => ⟨S256, .f32⟩
  | 16 => ⟨S8192x256, .f32⟩
  | 17 => ⟨S1x256, .f32⟩
  | 18 => ⟨S8192x256, .f32⟩
  | 19 => ⟨S8192x256, .f32⟩
  | 20 => ⟨S8192x256, .f32⟩
  | 21 => ⟨S1x256, .f32⟩
  | 22 => ⟨S256, .f32⟩
  | 23 => ⟨S8192x256, .f32⟩
  | 24 => ⟨S1x256, .f32⟩
  | 25 => ⟨S8192x256, .f32⟩
  | 26 => ⟨S8192x256, .f32⟩
  | 27 => ⟨S8192x256, .f32⟩
  | 28 => ⟨S1x256, .f32⟩
  | 29 => ⟨S256, .f32⟩
  | 30 => ⟨S8192x256, .f32⟩
  | 31 => ⟨S1x256, .f32⟩
  | 32 => ⟨S8192x256, .f32⟩
  | 33 => ⟨S8192x256, .f32⟩
  | 34 => ⟨S8192x256, .f32⟩
  | 35 => ⟨S1x256, .f32⟩
  | 36 => ⟨S256, .f32⟩
  | 37 => ⟨S8192x256, .f32⟩
  | 38 => ⟨S1x256, .f32⟩
  | 39 => ⟨S8192x256, .f32⟩
  | 40 => ⟨S8192x256, .f32⟩
  | 41 => ⟨S8192x256, .f32⟩
  | 42 => ⟨S1x256, .f32⟩
  | 43 => ⟨S256, .f32⟩
  | 44 => ⟨S8192x256, .f32⟩
  | 45 => ⟨S1x256, .f32⟩
  | 46 => ⟨S8192x256, .f32⟩
  | 47 => ⟨S8192x256, .f32⟩
  | 48 => ⟨S8192x256, .f32⟩
  | 49 => ⟨S1x256, .f32⟩
  | 50 => ⟨S256, .f32⟩
  | 51 => ⟨S8192x256, .f32⟩
  | 52 => ⟨S1x256, .f32⟩
  | 53 => ⟨S8192x256, .f32⟩
  | 54 => ⟨S8192x256, .f32⟩
  | 55 => ⟨S8192x256, .f32⟩
  | 56 => ⟨S1x256, .f32⟩
  | 57 => ⟨S256, .f32⟩
  | 58 => ⟨S8192x256, .f32⟩
  | 59 => ⟨S1x256, .f32⟩
  | 60 => ⟨S8192x256, .f32⟩
  | 61 => ⟨S8192x256, .f32⟩
  | 62 => ⟨S8192x256, .f32⟩
  | 63 => ⟨S1x256, .f32⟩
  | 64 => ⟨S256, .f32⟩
  | 65 => ⟨S8192x256, .f32⟩
  | 66 => ⟨S1x256, .f32⟩
  | 67 => ⟨S8192x256, .f32⟩
  | 68 => ⟨S8192x256, .f32⟩
  | 69 => ⟨S8192x256, .f32⟩
  | 70 => ⟨S1x256, .f32⟩
  | 71 => ⟨S256, .f32⟩
  | 72 => ⟨S8192x256, .f32⟩
  | 73 => ⟨S1x256, .f32⟩
  | 74 => ⟨S8192x256, .f32⟩
  | 75 => ⟨S8192x256, .f32⟩
  | 76 => ⟨S8192x256, .f32⟩
  | 77 => ⟨S1x256, .f32⟩
  | 78 => ⟨S256, .f32⟩
  | 79 => ⟨S8192x256, .f32⟩
  | 80 => ⟨S1x256, .f32⟩
  | 81 => ⟨S8192x256, .f32⟩
  | 82 => ⟨S8192x256, .f32⟩
  | 83 => ⟨S8192x256, .f32⟩
  | 84 => ⟨S1x256, .f32⟩
  | 85 => ⟨S256, .f32⟩
  | 86 => ⟨S8192x256, .f32⟩
  | 87 => ⟨S1x256, .f32⟩
  | 88 => ⟨S8192x256, .f32⟩
  | 89 => ⟨S8192x256, .f32⟩
  | 90 => ⟨S8192x256, .f32⟩
  | 91 => ⟨S1x256, .f32⟩
  | 92 => ⟨S256, .f32⟩
  | 93 => ⟨S8192x256, .f32⟩
  | 94 => ⟨S1x256, .f32⟩
  | 95 => ⟨S8192x256, .f32⟩
  | 96 => ⟨S8192x256, .f32⟩
  | 97 => ⟨S8192x256, .f32⟩
  | 98 => ⟨S1x256, .f32⟩
  | 99 => ⟨S256, .f32⟩
  | 100 => ⟨S8192x256, .f32⟩
  | 101 => ⟨S1x256, .f32⟩
  | 102 => ⟨S8192x256, .f32⟩
  | 103 => ⟨S8192x256, .f32⟩
  | 104 => ⟨S8192x256, .f32⟩
  | 105 => ⟨S1x256, .f32⟩
  | 106 => ⟨S256, .f32⟩
  | 107 => ⟨S8192x256, .f32⟩
  | 108 => ⟨S1x256, .f32⟩
  | 109 => ⟨S8192x256, .f32⟩
  | 110 => ⟨S8192x256, .f32⟩
  | 111 => ⟨S8192x256, .f32⟩
  | 112 => ⟨S1x256, .f32⟩
  | 113 => ⟨S256, .f32⟩
  | 114 => ⟨S8192x256, .f32⟩
  | 115 => ⟨S1x256, .f32⟩
  | 116 => ⟨S8192x256, .f32⟩
  | 117 => ⟨S8192x256, .f32⟩
  | 118 => ⟨S8192x256, .f32⟩
  | 119 => ⟨S1x256, .f32⟩
  | 120 => ⟨S256, .f32⟩
  | 121 => ⟨S8192x256, .f32⟩
  | 122 => ⟨S1x256, .f32⟩
  | 123 => ⟨S8192x256, .f32⟩
  | 124 => ⟨S8192x256, .f32⟩
  | 125 => ⟨S8192x256, .f32⟩
  | 126 => ⟨S1x256, .f32⟩
  | 127 => ⟨S256, .f32⟩
  | _ => ⟨S8192x256, .f32⟩

abbrev hbmTy0_1 (i : Nat) : BufTy := match i % 128 with
  | 0 => ⟨S8192x256, .f32⟩
  | 1 => ⟨S1x256, .f32⟩
  | 2 => ⟨S8192x256, .f32⟩
  | 3 => ⟨S8192x256, .f32⟩
  | 4 => ⟨S8192x256, .f32⟩
  | 5 => ⟨S1x256, .f32⟩
  | 6 => ⟨S256, .f32⟩
  | 7 => ⟨S8192x256, .f32⟩
  | 8 => ⟨S1x256, .f32⟩
  | 9 => ⟨S8192x256, .f32⟩
  | 10 => ⟨S8192x256, .f32⟩
  | 11 => ⟨S8192x256, .f32⟩
  | 12 => ⟨S1x256, .f32⟩
  | 13 => ⟨S256, .f32⟩
  | 14 => ⟨S8192x256, .f32⟩
  | 15 => ⟨S1x256, .f32⟩
  | 16 => ⟨S8192x256, .f32⟩
  | 17 => ⟨S8192x256, .f32⟩
  | 18 => ⟨S8192x256, .f32⟩
  | 19 => ⟨S1x256, .f32⟩
  | 20 => ⟨S256, .f32⟩
  | 21 => ⟨S8192x256, .f32⟩
  | 22 => ⟨S1x256, .f32⟩
  | 23 => ⟨S8192x256, .f32⟩
  | 24 => ⟨S8192x256, .f32⟩
  | 25 => ⟨S8192x256, .f32⟩
  | 26 => ⟨S1x256, .f32⟩
  | 27 => ⟨S256, .f32⟩
  | 28 => ⟨S8192x256, .f32⟩
  | 29 => ⟨S1x256, .f32⟩
  | 30 => ⟨S8192x256, .f32⟩
  | 31 => ⟨S8192x256, .f32⟩
  | 32 => ⟨S8192x256, .f32⟩
  | 33 => ⟨S1x256, .f32⟩
  | 34 => ⟨S256, .f32⟩
  | 35 => ⟨S8192x256, .f32⟩
  | 36 => ⟨S1x256, .f32⟩
  | 37 => ⟨S8192x256, .f32⟩
  | 38 => ⟨S8192x256, .f32⟩
  | 39 => ⟨S8192x256, .f32⟩
  | 40 => ⟨S1x256, .f32⟩
  | 41 => ⟨S256, .f32⟩
  | 42 => ⟨S8192x256, .f32⟩
  | 43 => ⟨S1x256, .f32⟩
  | 44 => ⟨S8192x256, .f32⟩
  | 45 => ⟨S8192x256, .f32⟩
  | 46 => ⟨S8192x256, .f32⟩
  | 47 => ⟨S1x256, .f32⟩
  | 48 => ⟨S256, .f32⟩
  | 49 => ⟨S8192x256, .f32⟩
  | 50 => ⟨S1x256, .f32⟩
  | 51 => ⟨S8192x256, .f32⟩
  | 52 => ⟨S8192x256, .f32⟩
  | 53 => ⟨S8192x256, .f32⟩
  | 54 => ⟨S1x256, .f32⟩
  | 55 => ⟨S256, .f32⟩
  | 56 => ⟨S8192x256, .f32⟩
  | 57 => ⟨S1x256, .f32⟩
  | 58 => ⟨S8192x256, .f32⟩
  | 59 => ⟨S8192x256, .f32⟩
  | 60 => ⟨S8192x256, .f32⟩
  | 61 => ⟨S1x256, .f32⟩
  | 62 => ⟨S256, .f32⟩
  | 63 => ⟨S8192x256, .f32⟩
  | 64 => ⟨S1x256, .f32⟩
  | 65 => ⟨S8192x256, .f32⟩
  | 66 => ⟨S8192x256, .f32⟩
  | 67 => ⟨S8192x256, .f32⟩
  | 68 => ⟨S1x256, .f32⟩
  | 69 => ⟨S256, .f32⟩
  | 70 => ⟨S8192x256, .f32⟩
  | 71 => ⟨S1x256, .f32⟩
  | 72 => ⟨S8192x256, .f32⟩
  | 73 => ⟨S8192x256, .f32⟩
  | 74 => ⟨S8192x256, .f32⟩
  | 75 => ⟨S1x256, .f32⟩
  | 76 => ⟨S256, .f32⟩
  | 77 => ⟨S8192x256, .f32⟩
  | 78 => ⟨S1x256, .f32⟩
  | 79 => ⟨S8192x256, .f32⟩
  | 80 => ⟨S8192x256, .f32⟩
  | 81 => ⟨S8192x256, .f32⟩
  | 82 => ⟨S1x256, .f32⟩
  | 83 => ⟨S256, .f32⟩
  | 84 => ⟨S8192x256, .f32⟩
  | 85 => ⟨S1x256, .f32⟩
  | 86 => ⟨S8192x256, .f32⟩
  | 87 => ⟨S8192x256, .f32⟩
  | 88 => ⟨S8192x256, .f32⟩
  | 89 => ⟨S1x256, .f32⟩
  | 90 => ⟨S256, .f32⟩
  | 91 => ⟨S8192x256, .f32⟩
  | 92 => ⟨S1x256, .f32⟩
  | 93 => ⟨S8192x256, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S256, .f32⟩
  | 103 => ⟨S1x256, .f32⟩
  | 104 => ⟨S_, .f32⟩
  | 105 => ⟨S256, .f32⟩
  | 106 => ⟨S_, .f32⟩
  | 107 => ⟨S8222x256, .f32⟩
  | 108 => ⟨S1x256, .f32⟩
  | 109 => ⟨S_, .f32⟩
  | 110 => ⟨S31x256, .f32⟩
  | 111 => ⟨S8192x256, .f32⟩
  | 112 => ⟨S8192x256, .f32⟩
  | 113 => ⟨S8192x256, .f32⟩
  | 114 => ⟨S_, .f32⟩
  | 115 => ⟨S256, .f32⟩
  | 116 => ⟨S1x256, .f32⟩
  | 117 => ⟨S_, .f32⟩
  | 118 => ⟨S256, .f32⟩
  | 119 => ⟨S_, .f32⟩
  | 120 => ⟨S8222x256, .f32⟩
  | 121 => ⟨S8222x256, .f32⟩
  | 122 => ⟨S1x256, .f32⟩
  | 123 => ⟨S_, .f32⟩
  | 124 => ⟨S31x256, .f32⟩
  | 125 => ⟨S31x256, .f32⟩
  | 126 => ⟨S8192x256, .f32⟩
  | 127 => ⟨S8192x256, .f32⟩
  | _ => ⟨S8192x256, .f32⟩

abbrev hbmTy0_2 (i : Nat) : BufTy := match i % 128 with
  | 0 => ⟨S8192x256, .f32⟩
  | 1 => ⟨S_, .f32⟩
  | 2 => ⟨S256, .f32⟩
  | 3 => ⟨S1x256, .f32⟩
  | 4 => ⟨S_, .f32⟩
  | 5 => ⟨S256, .f32⟩
  | 6 => ⟨S_, .f32⟩
  | 7 => ⟨S8222x256, .f32⟩
  | 8 => ⟨S8222x256, .f32⟩
  | 9 => ⟨S1x256, .f32⟩
  | 10 => ⟨S_, .f32⟩
  | 11 => ⟨S31x256, .f32⟩
  | 12 => ⟨S31x256, .f32⟩
  | 13 => ⟨S8192x256, .f32⟩
  | 14 => ⟨S8192x256, .f32⟩
  | 15 => ⟨S8192x256, .f32⟩
  | 16 => ⟨S_, .f32⟩
  | 17 => ⟨S256, .f32⟩
  | 18 => ⟨S1x256, .f32⟩
  | 19 => ⟨S_, .f32⟩
  | 20 => ⟨S256, .f32⟩
  | 21 => ⟨S_, .f32⟩
  | 22 => ⟨S8222x256, .f32⟩
  | 23 => ⟨S8222x256, .f32⟩
  | 24 => ⟨S1x256, .f32⟩
  | 25 => ⟨S_, .f32⟩
  | 26 => ⟨S31x256, .f32⟩
  | 27 => ⟨S31x256, .f32⟩
  | 28 => ⟨S8192x256, .f32⟩
  | 29 => ⟨S8192x256, .f32⟩
  | 30 => ⟨S8192x256, .f32⟩
  | 31 => ⟨S_, .f32⟩
  | 32 => ⟨S256, .f32⟩
  | 33 => ⟨S1x256, .f32⟩
  | 34 => ⟨S_, .f32⟩
  | 35 => ⟨S256, .f32⟩
  | 36 => ⟨S_, .f32⟩
  | 37 => ⟨S8222x256, .f32⟩
  | 38 => ⟨S8222x256, .f32⟩
  | 39 => ⟨S1x256, .f32⟩
  | 40 => ⟨S_, .f32⟩
  | 41 => ⟨S31x256, .f32⟩
  | 42 => ⟨S31x256, .f32⟩
  | 43 => ⟨S8192x256, .f32⟩
  | 44 => ⟨S8192x256, .f32⟩
  | 45 => ⟨S8192x256, .f32⟩
  | 46 => ⟨S_, .f32⟩
  | 47 => ⟨S256, .f32⟩
  | 48 => ⟨S1x256, .f32⟩
  | 49 => ⟨S_, .f32⟩
  | 50 => ⟨S256, .f32⟩
  | 51 => ⟨S_, .f32⟩
  | 52 => ⟨S8222x256, .f32⟩
  | 53 => ⟨S8222x256, .f32⟩
  | 54 => ⟨S1x256, .f32⟩
  | 55 => ⟨S_, .f32⟩
  | 56 => ⟨S31x256, .f32⟩
  | 57 => ⟨S31x256, .f32⟩
  | 58 => ⟨S8192x256, .f32⟩
  | 59 => ⟨S8192x256, .f32⟩
  | 60 => ⟨S8192x256, .f32⟩
  | 61 => ⟨S_, .f32⟩
  | 62 => ⟨S256, .f32⟩
  | 63 => ⟨S1x256, .f32⟩
  | 64 => ⟨S_, .f32⟩
  | 65 => ⟨S256, .f32⟩
  | 66 => ⟨S_, .f32⟩
  | 67 => ⟨S8222x256, .f32⟩
  | 68 => ⟨S8222x256, .f32⟩
  | 69 => ⟨S1x256, .f32⟩
  | 70 => ⟨S_, .f32⟩
  | 71 => ⟨S31x256, .f32⟩
  | 72 => ⟨S31x256, .f32⟩
  | 73 => ⟨S8192x256, .f32⟩
  | 74 => ⟨S8192x256, .f32⟩
  | 75 => ⟨S8192x256, .f32⟩
  | 76 => ⟨S_, .f32⟩
  | 77 => ⟨S256, .f32⟩
  | 78 => ⟨S1x256, .f32⟩
  | 79 => ⟨S_, .f32⟩
  | 80 => ⟨S256, .f32⟩
  | 81 => ⟨S_, .f32⟩
  | 82 => ⟨S8222x256, .f32⟩
  | 83 => ⟨S8222x256, .f32⟩
  | 84 => ⟨S1x256, .f32⟩
  | 85 => ⟨S_, .f32⟩
  | 86 => ⟨S31x256, .f32⟩
  | 87 => ⟨S31x256, .f32⟩
  | 88 => ⟨S8192x256, .f32⟩
  | 89 => ⟨S8192x256, .f32⟩
  | 90 => ⟨S8192x256, .f32⟩
  | 91 => ⟨S_, .f32⟩
  | 92 => ⟨S256, .f32⟩
  | 93 => ⟨S1x256, .f32⟩
  | 94 => ⟨S_, .f32⟩
  | 95 => ⟨S256, .f32⟩
  | 96 => ⟨S_, .f32⟩
  | 97 => ⟨S8222x256, .f32⟩
  | 98 => ⟨S8222x256, .f32⟩
  | 99 => ⟨S1x256, .f32⟩
  | 100 => ⟨S_, .f32⟩
  | 101 => ⟨S31x256, .f32⟩
  | 102 => ⟨S31x256, .f32⟩
  | 103 => ⟨S8192x256, .f32⟩
  | 104 => ⟨S8192x256, .f32⟩
  | 105 => ⟨S8192x256, .f32⟩
  | 106 => ⟨S_, .f32⟩
  | 107 => ⟨S256, .f32⟩
  | 108 => ⟨S1x256, .f32⟩
  | 109 => ⟨S_, .f32⟩
  | 110 => ⟨S256, .f32⟩
  | 111 => ⟨S_, .f32⟩
  | 112 => ⟨S8222x256, .f32⟩
  | 113 => ⟨S8222x256, .f32⟩
  | 114 => ⟨S1x256, .f32⟩
  | 115 => ⟨S_, .f32⟩
  | 116 => ⟨S31x256, .f32⟩
  | 117 => ⟨S31x256, .f32⟩
  | 118 => ⟨S8192x256, .f32⟩
  | 119 => ⟨S8192x256, .f32⟩
  | 120 => ⟨S8192x256, .f32⟩
  | 121 => ⟨S_, .f32⟩
  | 122 => ⟨S256, .f32⟩
  | 123 => ⟨S1x256, .f32⟩
  | 124 => ⟨S_, .f32⟩
  | 125 => ⟨S256, .f32⟩
  | 126 => ⟨S_, .f32⟩
  | 127 => ⟨S8222x256, .f32⟩
  | _ => ⟨S8192x256, .f32⟩

abbrev hbmTy0_3 (i : Nat) : BufTy := match i % 128 with
  | 0 => ⟨S8222x256, .f32⟩
  | 1 => ⟨S1x256, .f32⟩
  | 2 => ⟨S_, .f32⟩
  | 3 => ⟨S31x256, .f32⟩
  | 4 => ⟨S31x256, .f32⟩
  | 5 => ⟨S8192x256, .f32⟩
  | 6 => ⟨S8192x256, .f32⟩
  | 7 => ⟨S8192x256, .f32⟩
  | 8 => ⟨S_, .f32⟩
  | 9 => ⟨S256, .f32⟩
  | 10 => ⟨S1x256, .f32⟩
  | 11 => ⟨S_, .f32⟩
  | 12 => ⟨S256, .f32⟩
  | 13 => ⟨S_, .f32⟩
  | 14 => ⟨S8222x256, .f32⟩
  | 15 => ⟨S8222x256, .f32⟩
  | 16 => ⟨S1x256, .f32⟩
  | 17 => ⟨S_, .f32⟩
  | 18 => ⟨S31x256, .f32⟩
  | 19 => ⟨S31x256, .f32⟩
  | 20 => ⟨S8192x256, .f32⟩
  | 21 => ⟨S8192x256, .f32⟩
  | 22 => ⟨S8192x256, .f32⟩
  | 23 => ⟨S_, .f32⟩
  | 24 => ⟨S256, .f32⟩
  | 25 => ⟨S1x256, .f32⟩
  | 26 => ⟨S_, .f32⟩
  | 27 => ⟨S256, .f32⟩
  | 28 => ⟨S_, .f32⟩
  | 29 => ⟨S8222x256, .f32⟩
  | 30 => ⟨S8222x256, .f32⟩
  | 31 => ⟨S1x256, .f32⟩
  | 32 => ⟨S_, .f32⟩
  | 33 => ⟨S31x256, .f32⟩
  | 34 => ⟨S31x256, .f32⟩
  | 35 => ⟨S8192x256, .f32⟩
  | 36 => ⟨S8192x256, .f32⟩
  | 37 => ⟨S8192x256, .f32⟩
  | 38 => ⟨S_, .f32⟩
  | 39 => ⟨S256, .f32⟩
  | 40 => ⟨S1x256, .f32⟩
  | 41 => ⟨S_, .f32⟩
  | 42 => ⟨S256, .f32⟩
  | 43 => ⟨S_, .f32⟩
  | 44 => ⟨S8222x256, .f32⟩
  | 45 => ⟨S8222x256, .f32⟩
  | 46 => ⟨S1x256, .f32⟩
  | 47 => ⟨S_, .f32⟩
  | 48 => ⟨S31x256, .f32⟩
  | 49 => ⟨S31x256, .f32⟩
  | 50 => ⟨S8192x256, .f32⟩
  | 51 => ⟨S8192x256, .f32⟩
  | 52 => ⟨S8192x256, .f32⟩
  | 53 => ⟨S_, .f32⟩
  | 54 => ⟨S256, .f32⟩
  | 55 => ⟨S1x256, .f32⟩
  | 56 => ⟨S_, .f32⟩
  | 57 => ⟨S256, .f32⟩
  | 58 => ⟨S_, .f32⟩
  | 59 => ⟨S8222x256, .f32⟩
  | 60 => ⟨S8222x256, .f32⟩
  | 61 => ⟨S1x256, .f32⟩
  | 62 => ⟨S_, .f32⟩
  | 63 => ⟨S31x256, .f32⟩
  | 64 => ⟨S31x256, .f32⟩
  | 65 => ⟨S8192x256, .f32⟩
  | 66 => ⟨S8192x256, .f32⟩
  | 67 => ⟨S8192x256, .f32⟩
  | 68 => ⟨S_, .f32⟩
  | 69 => ⟨S256, .f32⟩
  | 70 => ⟨S1x256, .f32⟩
  | 71 => ⟨S_, .f32⟩
  | 72 => ⟨S256, .f32⟩
  | 73 => ⟨S_, .f32⟩
  | 74 => ⟨S8222x256, .f32⟩
  | 75 => ⟨S8222x256, .f32⟩
  | 76 => ⟨S1x256, .f32⟩
  | 77 => ⟨S_, .f32⟩
  | 78 => ⟨S31x256, .f32⟩
  | 79 => ⟨S31x256, .f32⟩
  | 80 => ⟨S8192x256, .f32⟩
  | 81 => ⟨S8192x256, .f32⟩
  | 82 => ⟨S8192x256, .f32⟩
  | 83 => ⟨S_, .f32⟩
  | 84 => ⟨S256, .f32⟩
  | 85 => ⟨S1x256, .f32⟩
  | 86 => ⟨S_, .f32⟩
  | 87 => ⟨S256, .f32⟩
  | 88 => ⟨S_, .f32⟩
  | 89 => ⟨S8222x256, .f32⟩
  | 90 => ⟨S8222x256, .f32⟩
  | 91 => ⟨S1x256, .f32⟩
  | 92 => ⟨S_, .f32⟩
  | 93 => ⟨S31x256, .f32⟩
  | 94 => ⟨S31x256, .f32⟩
  | 95 => ⟨S8192x256, .f32⟩
  | 96 => ⟨S8192x256, .f32⟩
  | 97 => ⟨S8192x256, .f32⟩
  | 98 => ⟨S_, .f32⟩
  | 99 => ⟨S256, .f32⟩
  | 100 => ⟨S1x256, .f32⟩
  | 101 => ⟨S_, .f32⟩
  | 102 => ⟨S256, .f32⟩
  | 103 => ⟨S_, .f32⟩
  | 104 => ⟨S8222x256, .f32⟩
  | 105 => ⟨S8222x256, .f32⟩
  | 106 => ⟨S1x256, .f32⟩
  | 107 => ⟨S_, .f32⟩
  | 108 => ⟨S31x256, .f32⟩
  | 109 => ⟨S31x256, .f32⟩
  | 110 => ⟨S8192x256, .f32⟩
  | 111 => ⟨S8192x256, .f32⟩
  | 112 => ⟨S8192x256, .f32⟩
  | 113 => ⟨S_, .f32⟩
  | 114 => ⟨S256, .f32⟩
  | 115 => ⟨S1x256, .f32⟩
  | 116 => ⟨S_, .f32⟩
  | 117 => ⟨S256, .f32⟩
  | 118 => ⟨S_, .f32⟩
  | 119 => ⟨S8222x256, .f32⟩
  | 120 => ⟨S8222x256, .f32⟩
  | 121 => ⟨S1x256, .f32⟩
  | 122 => ⟨S_, .f32⟩
  | 123 => ⟨S31x256, .f32⟩
  | 124 => ⟨S31x256, .f32⟩
  | 125 => ⟨S8192x256, .f32⟩
  | 126 => ⟨S8192x256, .f32⟩
  | 127 => ⟨S8192x256, .f32⟩
  | _ => ⟨S8192x256, .f32⟩

abbrev hbmTy0_4 (i : Nat) : BufTy := match i % 128 with
  | 0 => ⟨S_, .f32⟩
  | 1 => ⟨S256, .f32⟩
  | 2 => ⟨S1x256, .f32⟩
  | 3 => ⟨S_, .f32⟩
  | 4 => ⟨S256, .f32⟩
  | 5 => ⟨S_, .f32⟩
  | 6 => ⟨S8222x256, .f32⟩
  | 7 => ⟨S8222x256, .f32⟩
  | 8 => ⟨S1x256, .f32⟩
  | 9 => ⟨S_, .f32⟩
  | 10 => ⟨S31x256, .f32⟩
  | 11 => ⟨S31x256, .f32⟩
  | 12 => ⟨S8192x256, .f32⟩
  | 13 => ⟨S8192x256, .f32⟩
  | 14 => ⟨S8192x256, .f32⟩
  | 15 => ⟨S_, .f32⟩
  | 16 => ⟨S256, .f32⟩
  | 17 => ⟨S1x256, .f32⟩
  | 18 => ⟨S_, .f32⟩
  | 19 => ⟨S256, .f32⟩
  | 20 => ⟨S_, .f32⟩
  | 21 => ⟨S8222x256, .f32⟩
  | 22 => ⟨S8222x256, .f32⟩
  | 23 => ⟨S1x256, .f32⟩
  | 24 => ⟨S_, .f32⟩
  | 25 => ⟨S31x256, .f32⟩
  | 26 => ⟨S31x256, .f32⟩
  | 27 => ⟨S8192x256, .f32⟩
  | 28 => ⟨S8192x256, .f32⟩
  | 29 => ⟨S8192x256, .f32⟩
  | 30 => ⟨S_, .f32⟩
  | 31 => ⟨S256, .f32⟩
  | 32 => ⟨S1x256, .f32⟩
  | 33 => ⟨S_, .f32⟩
  | 34 => ⟨S256, .f32⟩
  | 35 => ⟨S_, .f32⟩
  | 36 => ⟨S8222x256, .f32⟩
  | 37 => ⟨S8222x256, .f32⟩
  | 38 => ⟨S1x256, .f32⟩
  | 39 => ⟨S_, .f32⟩
  | 40 => ⟨S31x256, .f32⟩
  | 41 => ⟨S31x256, .f32⟩
  | 42 => ⟨S8192x256, .f32⟩
  | 43 => ⟨S8192x256, .f32⟩
  | 44 => ⟨S8192x256, .f32⟩
  | 45 => ⟨S_, .f32⟩
  | 46 => ⟨S256, .f32⟩
  | 47 => ⟨S1x256, .f32⟩
  | 48 => ⟨S_, .f32⟩
  | 49 => ⟨S256, .f32⟩
  | 50 => ⟨S_, .f32⟩
  | 51 => ⟨S8222x256, .f32⟩
  | 52 => ⟨S8222x256, .f32⟩
  | 53 => ⟨S1x256, .f32⟩
  | 54 => ⟨S_, .f32⟩
  | 55 => ⟨S31x256, .f32⟩
  | 56 => ⟨S31x256, .f32⟩
  | 57 => ⟨S8192x256, .f32⟩
  | 58 => ⟨S8192x256, .f32⟩
  | 59 => ⟨S8192x256, .f32⟩
  | 60 => ⟨S_, .f32⟩
  | 61 => ⟨S256, .f32⟩
  | 62 => ⟨S1x256, .f32⟩
  | 63 => ⟨S_, .f32⟩
  | 64 => ⟨S256, .f32⟩
  | 65 => ⟨S_, .f32⟩
  | 66 => ⟨S8222x256, .f32⟩
  | 67 => ⟨S8222x256, .f32⟩
  | 68 => ⟨S1x256, .f32⟩
  | 69 => ⟨S_, .f32⟩
  | 70 => ⟨S31x256, .f32⟩
  | 71 => ⟨S31x256, .f32⟩
  | 72 => ⟨S8192x256, .f32⟩
  | 73 => ⟨S8192x256, .f32⟩
  | 74 => ⟨S8192x256, .f32⟩
  | 75 => ⟨S_, .f32⟩
  | 76 => ⟨S256, .f32⟩
  | 77 => ⟨S1x256, .f32⟩
  | 78 => ⟨S_, .f32⟩
  | 79 => ⟨S256, .f32⟩
  | 80 => ⟨S_, .f32⟩
  | 81 => ⟨S8222x256, .f32⟩
  | 82 => ⟨S8222x256, .f32⟩
  | 83 => ⟨S1x256, .f32⟩
  | 84 => ⟨S_, .f32⟩
  | 85 => ⟨S31x256, .f32⟩
  | 86 => ⟨S31x256, .f32⟩
  | 87 => ⟨S8192x256, .f32⟩
  | 88 => ⟨S8192x256, .f32⟩
  | 89 => ⟨S8192x256, .f32⟩
  | 90 => ⟨S_, .f32⟩
  | 91 => ⟨S256, .f32⟩
  | 92 => ⟨S1x256, .f32⟩
  | 93 => ⟨S_, .f32⟩
  | 94 => ⟨S256, .f32⟩
  | 95 => ⟨S_, .f32⟩
  | 96 => ⟨S8222x256, .f32⟩
  | 97 => ⟨S8222x256, .f32⟩
  | 98 => ⟨S1x256, .f32⟩
  | 99 => ⟨S_, .f32⟩
  | 100 => ⟨S31x256, .f32⟩
  | 101 => ⟨S31x256, .f32⟩
  | 102 => ⟨S8192x256, .f32⟩
  | 103 => ⟨S8192x256, .f32⟩
  | 104 => ⟨S8192x256, .f32⟩
  | 105 => ⟨S_, .f32⟩
  | 106 => ⟨S256, .f32⟩
  | 107 => ⟨S1x256, .f32⟩
  | 108 => ⟨S_, .f32⟩
  | 109 => ⟨S256, .f32⟩
  | 110 => ⟨S_, .f32⟩
  | 111 => ⟨S8222x256, .f32⟩
  | 112 => ⟨S8222x256, .f32⟩
  | 113 => ⟨S1x256, .f32⟩
  | 114 => ⟨S_, .f32⟩
  | 115 => ⟨S31x256, .f32⟩
  | 116 => ⟨S31x256, .f32⟩
  | 117 => ⟨S8192x256, .f32⟩
  | 118 => ⟨S8192x256, .f32⟩
  | 119 => ⟨S8192x256, .f32⟩
  | 120 => ⟨S_, .f32⟩
  | 121 => ⟨S256, .f32⟩
  | 122 => ⟨S1x256, .f32⟩
  | 123 => ⟨S_, .f32⟩
  | 124 => ⟨S256, .f32⟩
  | 125 => ⟨S_, .f32⟩
  | 126 => ⟨S8222x256, .f32⟩
  | 127 => ⟨S8222x256, .f32⟩
  | _ => ⟨S8192x256, .f32⟩

abbrev hbmTy0_5 (i : Nat) : BufTy := match i % 128 with
  | 0 => ⟨S1x256, .f32⟩
  | 1 => ⟨S_, .f32⟩
  | 2 => ⟨S31x256, .f32⟩
  | 3 => ⟨S31x256, .f32⟩
  | 4 => ⟨S8192x256, .f32⟩
  | 5 => ⟨S8192x256, .f32⟩
  | 6 => ⟨S8192x256, .f32⟩
  | 7 => ⟨S_, .f32⟩
  | 8 => ⟨S256, .f32⟩
  | 9 => ⟨S1x256, .f32⟩
  | 10 => ⟨S_, .f32⟩
  | 11 => ⟨S256, .f32⟩
  | 12 => ⟨S_, .f32⟩
  | 13 => ⟨S8222x256, .f32⟩
  | 14 => ⟨S8222x256, .f32⟩
  | 15 => ⟨S1x256, .f32⟩
  | 16 => ⟨S_, .f32⟩
  | 17 => ⟨S31x256, .f32⟩
  | 18 => ⟨S31x256, .f32⟩
  | 19 => ⟨S8192x256, .f32⟩
  | 20 => ⟨S8192x256, .f32⟩
  | 21 => ⟨S8192x256, .f32⟩
  | 22 => ⟨S_, .f32⟩
  | 23 => ⟨S256, .f32⟩
  | 24 => ⟨S1x256, .f32⟩
  | 25 => ⟨S_, .f32⟩
  | 26 => ⟨S256, .f32⟩
  | 27 => ⟨S_, .f32⟩
  | 28 => ⟨S8222x256, .f32⟩
  | 29 => ⟨S8222x256, .f32⟩
  | 30 => ⟨S1x256, .f32⟩
  | 31 => ⟨S_, .f32⟩
  | 32 => ⟨S31x256, .f32⟩
  | 33 => ⟨S31x256, .f32⟩
  | 34 => ⟨S8192x256, .f32⟩
  | 35 => ⟨S8192x256, .f32⟩
  | 36 => ⟨S8192x256, .f32⟩
  | 37 => ⟨S_, .f32⟩
  | 38 => ⟨S256, .f32⟩
  | 39 => ⟨S1x256, .f32⟩
  | 40 => ⟨S_, .f32⟩
  | 41 => ⟨S256, .f32⟩
  | 42 => ⟨S_, .f32⟩
  | 43 => ⟨S8222x256, .f32⟩
  | 44 => ⟨S8222x256, .f32⟩
  | 45 => ⟨S1x256, .f32⟩
  | 46 => ⟨S_, .f32⟩
  | 47 => ⟨S31x256, .f32⟩
  | 48 => ⟨S31x256, .f32⟩
  | 49 => ⟨S30x256, .f32⟩
  | 50 => ⟨S8192x256, .f32⟩
  | _ => ⟨S8192x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_cst_1 : Ref sig .tc := ⟨.hbm, 229, rfl⟩
abbrev main_v224 : Ref sig .tc := ⟨.hbm, 230, rfl⟩
abbrev main_v225 : Ref sig .tc := ⟨.hbm, 231, rfl⟩
abbrev main_cst_2 : Ref sig .tc := ⟨.hbm, 232, rfl⟩
abbrev main_v226 : Ref sig .tc := ⟨.hbm, 233, rfl⟩
abbrev main_cst_3 : Ref sig .tc := ⟨.hbm, 234, rfl⟩
abbrev main_v227 : Ref sig .tc := ⟨.hbm, 235, rfl⟩
abbrev main_v228 : Ref sig .tc := ⟨.hbm, 236, rfl⟩
abbrev main_cst_4 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_5 : Ref sig .tc := ⟨.hbm, 242, rfl⟩
abbrev main_v233 : Ref sig .tc := ⟨.hbm, 243, rfl⟩
abbrev main_v234 : Ref sig .tc := ⟨.hbm, 244, rfl⟩
abbrev main_cst_6 : Ref sig .tc := ⟨.hbm, 245, rfl⟩
abbrev main_v235 : Ref sig .tc := ⟨.hbm, 246, rfl⟩
abbrev main_cst_7 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_cst_8 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_9 : Ref sig .tc := ⟨.hbm, 257, rfl⟩
abbrev main_v244 : Ref sig .tc := ⟨.hbm, 258, rfl⟩
abbrev main_v245 : Ref sig .tc := ⟨.hbm, 259, rfl⟩
abbrev main_cst_10 : Ref sig .tc := ⟨.hbm, 260, rfl⟩
abbrev main_v246 : Ref sig .tc := ⟨.hbm, 261, rfl⟩
abbrev main_cst_11 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_cst_12 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_cst_13 : Ref sig .tc := ⟨.hbm, 272, rfl⟩
abbrev main_v255 : Ref sig .tc := ⟨.hbm, 273, rfl⟩
abbrev main_v256 : Ref sig .tc := ⟨.hbm, 274, rfl⟩
abbrev main_cst_14 : Ref sig .tc := ⟨.hbm, 275, rfl⟩
abbrev main_v257 : Ref sig .tc := ⟨.hbm, 276, rfl⟩
abbrev main_cst_15 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_cst_16 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_cst_17 : Ref sig .tc := ⟨.hbm, 287, rfl⟩
abbrev main_v266 : Ref sig .tc := ⟨.hbm, 288, rfl⟩
abbrev main_v267 : Ref sig .tc := ⟨.hbm, 289, rfl⟩
abbrev main_cst_18 : Ref sig .tc := ⟨.hbm, 290, rfl⟩
abbrev main_v268 : Ref sig .tc := ⟨.hbm, 291, rfl⟩
abbrev main_cst_19 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_cst_20 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_cst_21 : Ref sig .tc := ⟨.hbm, 302, rfl⟩
abbrev main_v277 : Ref sig .tc := ⟨.hbm, 303, rfl⟩
abbrev main_v278 : Ref sig .tc := ⟨.hbm, 304, rfl⟩
abbrev main_cst_22 : Ref sig .tc := ⟨.hbm, 305, rfl⟩
abbrev main_v279 : Ref sig .tc := ⟨.hbm, 306, rfl⟩
abbrev main_cst_23 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_cst_24 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_cst_25 : Ref sig .tc := ⟨.hbm, 317, rfl⟩
abbrev main_v288 : Ref sig .tc := ⟨.hbm, 318, rfl⟩
abbrev main_v289 : Ref sig .tc := ⟨.hbm, 319, rfl⟩
abbrev main_cst_26 : Ref sig .tc := ⟨.hbm, 320, rfl⟩
abbrev main_v290 : Ref sig .tc := ⟨.hbm, 321, rfl⟩
abbrev main_cst_27 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_cst_28 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_cst_29 : Ref sig .tc := ⟨.hbm, 332, rfl⟩
abbrev main_v299 : Ref sig .tc := ⟨.hbm, 333, rfl⟩
abbrev main_v300 : Ref sig .tc := ⟨.hbm, 334, rfl⟩
abbrev main_cst_30 : Ref sig .tc := ⟨.hbm, 335, rfl⟩
abbrev main_v301 : Ref sig .tc := ⟨.hbm, 336, rfl⟩
abbrev main_cst_31 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_cst_32 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_33 : Ref sig .tc := ⟨.hbm, 347, rfl⟩
abbrev main_v310 : Ref sig .tc := ⟨.hbm, 348, rfl⟩
abbrev main_v311 : Ref sig .tc := ⟨.hbm, 349, rfl⟩
abbrev main_cst_34 : Ref sig .tc := ⟨.hbm, 350, rfl⟩
abbrev main_v312 : Ref sig .tc := ⟨.hbm, 351, rfl⟩
abbrev main_cst_35 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_cst_36 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_cst_37 : Ref sig .tc := ⟨.hbm, 362, rfl⟩
abbrev main_v321 : Ref sig .tc := ⟨.hbm, 363, rfl⟩
abbrev main_v322 : Ref sig .tc := ⟨.hbm, 364, rfl⟩
abbrev main_cst_38 : Ref sig .tc := ⟨.hbm, 365, rfl⟩
abbrev main_v323 : Ref sig .tc := ⟨.hbm, 366, rfl⟩
abbrev main_cst_39 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_cst_40 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_cst_41 : Ref sig .tc := ⟨.hbm, 377, rfl⟩
abbrev main_v332 : Ref sig .tc := ⟨.hbm, 378, rfl⟩
abbrev main_v333 : Ref sig .tc := ⟨.hbm, 379, rfl⟩
abbrev main_cst_42 : Ref sig .tc := ⟨.hbm, 380, rfl⟩
abbrev main_v334 : Ref sig .tc := ⟨.hbm, 381, rfl⟩
abbrev main_cst_43 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_cst_44 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_cst_45 : Ref sig .tc := ⟨.hbm, 392, rfl⟩
abbrev main_v343 : Ref sig .tc := ⟨.hbm, 393, rfl⟩
abbrev main_v344 : Ref sig .tc := ⟨.hbm, 394, rfl⟩
abbrev main_cst_46 : Ref sig .tc := ⟨.hbm, 395, rfl⟩
abbrev main_v345 : Ref sig .tc := ⟨.hbm, 396, rfl⟩
abbrev main_cst_47 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_cst_48 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_cst_49 : Ref sig .tc := ⟨.hbm, 407, rfl⟩
abbrev main_v354 : Ref sig .tc := ⟨.hbm, 408, rfl⟩
abbrev main_v355 : Ref sig .tc := ⟨.hbm, 409, rfl⟩
abbrev main_cst_50 : Ref sig .tc := ⟨.hbm, 410, rfl⟩
abbrev main_v356 : Ref sig .tc := ⟨.hbm, 411, rfl⟩
abbrev main_cst_51 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_cst_52 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_cst_53 : Ref sig .tc := ⟨.hbm, 422, rfl⟩
abbrev main_v365 : Ref sig .tc := ⟨.hbm, 423, rfl⟩
abbrev main_v366 : Ref sig .tc := ⟨.hbm, 424, rfl⟩
abbrev main_cst_54 : Ref sig .tc := ⟨.hbm, 425, rfl⟩
abbrev main_v367 : Ref sig .tc := ⟨.hbm, 426, rfl⟩
abbrev main_cst_55 : Ref sig .tc := ⟨.hbm, 427, rfl⟩
abbrev main_v368 : Ref sig .tc := ⟨.hbm, 428, rfl⟩
abbrev main_v369 : Ref sig .tc := ⟨.hbm, 429, rfl⟩
abbrev main_v370 : Ref sig .tc := ⟨.hbm, 430, rfl⟩
abbrev main_cst_56 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_cst_57 : Ref sig .tc := ⟨.hbm, 437, rfl⟩
abbrev main_v376 : Ref sig .tc := ⟨.hbm, 438, rfl⟩
abbrev main_v377 : Ref sig .tc := ⟨.hbm, 439, rfl⟩
abbrev main_cst_58 : Ref sig .tc := ⟨.hbm, 440, rfl⟩
abbrev main_v378 : Ref sig .tc := ⟨.hbm, 441, rfl⟩
abbrev main_cst_59 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_cst_60 : Ref sig .tc := ⟨.hbm, 446, rfl⟩
abbrev main_v382 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_cst_61 : Ref sig .tc := ⟨.hbm, 452, rfl⟩
abbrev main_v387 : Ref sig .tc := ⟨.hbm, 453, rfl⟩
abbrev main_v388 : Ref sig .tc := ⟨.hbm, 454, rfl⟩
abbrev main_cst_62 : Ref sig .tc := ⟨.hbm, 455, rfl⟩
abbrev main_v389 : Ref sig .tc := ⟨.hbm, 456, rfl⟩
abbrev main_cst_63 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_cst_64 : Ref sig .tc := ⟨.hbm, 461, rfl⟩
abbrev main_v393 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_cst_65 : Ref sig .tc := ⟨.hbm, 467, rfl⟩
abbrev main_v398 : Ref sig .tc := ⟨.hbm, 468, rfl⟩
abbrev main_v399 : Ref sig .tc := ⟨.hbm, 469, rfl⟩
abbrev main_cst_66 : Ref sig .tc := ⟨.hbm, 470, rfl⟩
abbrev main_v400 : Ref sig .tc := ⟨.hbm, 471, rfl⟩
abbrev main_cst_67 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_cst_68 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_cst_69 : Ref sig .tc := ⟨.hbm, 482, rfl⟩
abbrev main_v409 : Ref sig .tc := ⟨.hbm, 483, rfl⟩
abbrev main_v410 : Ref sig .tc := ⟨.hbm, 484, rfl⟩
abbrev main_cst_70 : Ref sig .tc := ⟨.hbm, 485, rfl⟩
abbrev main_v411 : Ref sig .tc := ⟨.hbm, 486, rfl⟩
abbrev main_cst_71 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_cst_72 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_cst_73 : Ref sig .tc := ⟨.hbm, 497, rfl⟩
abbrev main_v420 : Ref sig .tc := ⟨.hbm, 498, rfl⟩
abbrev main_v421 : Ref sig .tc := ⟨.hbm, 499, rfl⟩
abbrev main_cst_74 : Ref sig .tc := ⟨.hbm, 500, rfl⟩
abbrev main_v422 : Ref sig .tc := ⟨.hbm, 501, rfl⟩
abbrev main_cst_75 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_cst_76 : Ref sig .tc := ⟨.hbm, 506, rfl⟩
abbrev main_v426 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_cst_77 : Ref sig .tc := ⟨.hbm, 512, rfl⟩
abbrev main_v431 : Ref sig .tc := ⟨.hbm, 513, rfl⟩
abbrev main_v432 : Ref sig .tc := ⟨.hbm, 514, rfl⟩
abbrev main_cst_78 : Ref sig .tc := ⟨.hbm, 515, rfl⟩
abbrev main_v433 : Ref sig .tc := ⟨.hbm, 516, rfl⟩
abbrev main_cst_79 : Ref sig .tc := ⟨.hbm, 517, rfl⟩
abbrev main_v434 : Ref sig .tc := ⟨.hbm, 518, rfl⟩
abbrev main_v435 : Ref sig .tc := ⟨.hbm, 519, rfl⟩
abbrev main_v436 : Ref sig .tc := ⟨.hbm, 520, rfl⟩
abbrev main_cst_80 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_81 : Ref sig .tc := ⟨.hbm, 527, rfl⟩
abbrev main_v442 : Ref sig .tc := ⟨.hbm, 528, rfl⟩
abbrev main_v443 : Ref sig .tc := ⟨.hbm, 529, rfl⟩
abbrev main_cst_82 : Ref sig .tc := ⟨.hbm, 530, rfl⟩
abbrev main_v444 : Ref sig .tc := ⟨.hbm, 531, rfl⟩
abbrev main_cst_83 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_cst_84 : Ref sig .tc := ⟨.hbm, 536, rfl⟩
abbrev main_v448 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_cst_85 : Ref sig .tc := ⟨.hbm, 542, rfl⟩
abbrev main_v453 : Ref sig .tc := ⟨.hbm, 543, rfl⟩
abbrev main_v454 : Ref sig .tc := ⟨.hbm, 544, rfl⟩
abbrev main_cst_86 : Ref sig .tc := ⟨.hbm, 545, rfl⟩
abbrev main_v455 : Ref sig .tc := ⟨.hbm, 546, rfl⟩
abbrev main_cst_87 : Ref sig .tc := ⟨.hbm, 547, rfl⟩
abbrev main_v456 : Ref sig .tc := ⟨.hbm, 548, rfl⟩
abbrev main_v457 : Ref sig .tc := ⟨.hbm, 549, rfl⟩
abbrev main_v458 : Ref sig .tc := ⟨.hbm, 550, rfl⟩
abbrev main_cst_88 : Ref sig .tc := ⟨.hbm, 551, rfl⟩
abbrev main_v459 : Ref sig .tc := ⟨.hbm, 552, rfl⟩
abbrev main_v460 : Ref sig .tc := ⟨.hbm, 553, rfl⟩
abbrev main_v461 : Ref sig .tc := ⟨.hbm, 554, rfl⟩
abbrev main_v462 : Ref sig .tc := ⟨.hbm, 555, rfl⟩
abbrev main_v463 : Ref sig .tc := ⟨.hbm, 556, rfl⟩
abbrev main_cst_89 : Ref sig .tc := ⟨.hbm, 557, rfl⟩
abbrev main_v464 : Ref sig .tc := ⟨.hbm, 558, rfl⟩
abbrev main_v465 : Ref sig .tc := ⟨.hbm, 559, rfl⟩
abbrev main_cst_90 : Ref sig .tc := ⟨.hbm, 560, rfl⟩
abbrev main_v466 : Ref sig .tc := ⟨.hbm, 561, rfl⟩
abbrev main_cst_91 : Ref sig .tc := ⟨.hbm, 562, rfl⟩
abbrev main_v467 : Ref sig .tc := ⟨.hbm, 563, rfl⟩
abbrev main_v468 : Ref sig .tc := ⟨.hbm, 564, rfl⟩
abbrev main_v469 : Ref sig .tc := ⟨.hbm, 565, rfl⟩
abbrev main_cst_92 : Ref sig .tc := ⟨.hbm, 566, rfl⟩
abbrev main_v470 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_cst_93 : Ref sig .tc := ⟨.hbm, 572, rfl⟩
abbrev main_v475 : Ref sig .tc := ⟨.hbm, 573, rfl⟩
abbrev main_v476 : Ref sig .tc := ⟨.hbm, 574, rfl⟩
abbrev main_cst_94 : Ref sig .tc := ⟨.hbm, 575, rfl⟩
abbrev main_v477 : Ref sig .tc := ⟨.hbm, 576, rfl⟩
abbrev main_cst_95 : Ref sig .tc := ⟨.hbm, 577, rfl⟩
abbrev main_v478 : Ref sig .tc := ⟨.hbm, 578, rfl⟩
abbrev main_v479 : Ref sig .tc := ⟨.hbm, 579, rfl⟩
abbrev main_v480 : Ref sig .tc := ⟨.hbm, 580, rfl⟩
abbrev main_cst_96 : Ref sig .tc := ⟨.hbm, 581, rfl⟩
abbrev main_v481 : Ref sig .tc := ⟨.hbm, 582, rfl⟩
abbrev main_v482 : Ref sig .tc := ⟨.hbm, 583, rfl⟩
abbrev main_v483 : Ref sig .tc := ⟨.hbm, 584, rfl⟩
abbrev main_v484 : Ref sig .tc := ⟨.hbm, 585, rfl⟩
abbrev main_v485 : Ref sig .tc := ⟨.hbm, 586, rfl⟩
abbrev main_cst_97 : Ref sig .tc := ⟨.hbm, 587, rfl⟩
abbrev main_v486 : Ref sig .tc := ⟨.hbm, 588, rfl⟩
abbrev main_v487 : Ref sig .tc := ⟨.hbm, 589, rfl⟩
abbrev main_cst_98 : Ref sig .tc := ⟨.hbm, 590, rfl⟩
abbrev main_v488 : Ref sig .tc := ⟨.hbm, 591, rfl⟩
abbrev main_cst_99 : Ref sig .tc := ⟨.hbm, 592, rfl⟩
abbrev main_v489 : Ref sig .tc := ⟨.hbm, 593, rfl⟩
abbrev main_v490 : Ref sig .tc := ⟨.hbm, 594, rfl⟩
abbrev main_v491 : Ref sig .tc := ⟨.hbm, 595, rfl⟩
abbrev main_cst_100 : Ref sig .tc := ⟨.hbm, 596, rfl⟩
abbrev main_v492 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_cst_101 : Ref sig .tc := ⟨.hbm, 602, rfl⟩
abbrev main_v497 : Ref sig .tc := ⟨.hbm, 603, rfl⟩
abbrev main_v498 : Ref sig .tc := ⟨.hbm, 604, rfl⟩
abbrev main_cst_102 : Ref sig .tc := ⟨.hbm, 605, rfl⟩
abbrev main_v499 : Ref sig .tc := ⟨.hbm, 606, rfl⟩
abbrev main_cst_103 : Ref sig .tc := ⟨.hbm, 607, rfl⟩
abbrev main_v500 : Ref sig .tc := ⟨.hbm, 608, rfl⟩
abbrev main_v501 : Ref sig .tc := ⟨.hbm, 609, rfl⟩
abbrev main_v502 : Ref sig .tc := ⟨.hbm, 610, rfl⟩
abbrev main_cst_104 : Ref sig .tc := ⟨.hbm, 611, rfl⟩
abbrev main_v503 : Ref sig .tc := ⟨.hbm, 612, rfl⟩
abbrev main_v504 : Ref sig .tc := ⟨.hbm, 613, rfl⟩
abbrev main_v505 : Ref sig .tc := ⟨.hbm, 614, rfl⟩
abbrev main_v506 : Ref sig .tc := ⟨.hbm, 615, rfl⟩
abbrev main_v507 : Ref sig .tc := ⟨.hbm, 616, rfl⟩
abbrev main_cst_105 : Ref sig .tc := ⟨.hbm, 617, rfl⟩
abbrev main_v508 : Ref sig .tc := ⟨.hbm, 618, rfl⟩
abbrev main_v509 : Ref sig .tc := ⟨.hbm, 619, rfl⟩
abbrev main_cst_106 : Ref sig .tc := ⟨.hbm, 620, rfl⟩
abbrev main_v510 : Ref sig .tc := ⟨.hbm, 621, rfl⟩
abbrev main_cst_107 : Ref sig .tc := ⟨.hbm, 622, rfl⟩
abbrev main_v511 : Ref sig .tc := ⟨.hbm, 623, rfl⟩
abbrev main_v512 : Ref sig .tc := ⟨.hbm, 624, rfl⟩
abbrev main_v513 : Ref sig .tc := ⟨.hbm, 625, rfl⟩
abbrev main_cst_108 : Ref sig .tc := ⟨.hbm, 626, rfl⟩
abbrev main_v514 : Ref sig .tc := ⟨.hbm, 627, rfl⟩
abbrev main_v515 : Ref sig .tc := ⟨.hbm, 628, rfl⟩
abbrev main_v516 : Ref sig .tc := ⟨.hbm, 629, rfl⟩
abbrev main_v517 : Ref sig .tc := ⟨.hbm, 630, rfl⟩
abbrev main_v518 : Ref sig .tc := ⟨.hbm, 631, rfl⟩
abbrev main_cst_109 : Ref sig .tc := ⟨.hbm, 632, rfl⟩
abbrev main_v519 : Ref sig .tc := ⟨.hbm, 633, rfl⟩
abbrev main_v520 : Ref sig .tc := ⟨.hbm, 634, rfl⟩
abbrev main_cst_110 : Ref sig .tc := ⟨.hbm, 635, rfl⟩
abbrev main_v521 : Ref sig .tc := ⟨.hbm, 636, rfl⟩
abbrev main_cst_111 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_cst_112 : Ref sig .tc := ⟨.hbm, 641, rfl⟩
abbrev main_v525 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_cst_113 : Ref sig .tc := ⟨.hbm, 647, rfl⟩
abbrev main_v530 : Ref sig .tc := ⟨.hbm, 648, rfl⟩
abbrev main_v531 : Ref sig .tc := ⟨.hbm, 649, rfl⟩
abbrev main_cst_114 : Ref sig .tc := ⟨.hbm, 650, rfl⟩
abbrev main_v532 : Ref sig .tc := ⟨.hbm, 651, rfl⟩
abbrev main_cst_115 : Ref sig .tc := ⟨.hbm, 652, rfl⟩
abbrev main_v533 : Ref sig .tc := ⟨.hbm, 653, rfl⟩
abbrev main_v534 : Ref sig .tc := ⟨.hbm, 654, rfl⟩
abbrev main_v535 : Ref sig .tc := ⟨.hbm, 655, rfl⟩
abbrev main_cst_116 : Ref sig .tc := ⟨.hbm, 656, rfl⟩
abbrev main_v536 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_cst_117 : Ref sig .tc := ⟨.hbm, 662, rfl⟩
abbrev main_v541 : Ref sig .tc := ⟨.hbm, 663, rfl⟩
abbrev main_v542 : Ref sig .tc := ⟨.hbm, 664, rfl⟩
abbrev main_cst_118 : Ref sig .tc := ⟨.hbm, 665, rfl⟩
abbrev main_v543 : Ref sig .tc := ⟨.hbm, 666, rfl⟩
abbrev main_cst_119 : Ref sig .tc := ⟨.hbm, 667, rfl⟩
abbrev main_v544 : Ref sig .tc := ⟨.hbm, 668, rfl⟩
abbrev main_v545 : Ref sig .tc := ⟨.hbm, 669, rfl⟩
abbrev main_v546 : Ref sig .tc := ⟨.hbm, 670, rfl⟩
abbrev main_cst_120 : Ref sig .tc := ⟨.hbm, 671, rfl⟩
abbrev main_v547 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_cst_121 : Ref sig .tc := ⟨.hbm, 677, rfl⟩
abbrev main_v552 : Ref sig .tc := ⟨.hbm, 678, rfl⟩
abbrev main_v553 : Ref sig .tc := ⟨.hbm, 679, rfl⟩
abbrev main_cst_122 : Ref sig .tc := ⟨.hbm, 680, rfl⟩
abbrev main_v554 : Ref sig .tc := ⟨.hbm, 681, rfl⟩
abbrev main_cst_123 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_cst_124 : Ref sig .tc := ⟨.hbm, 686, rfl⟩
abbrev main_v558 : Ref sig .tc := ⟨.hbm, 687, rfl⟩
abbrev main_v559 : Ref sig .tc := ⟨.hbm, 688, rfl⟩
abbrev main_v560 : Ref sig .tc := ⟨.hbm, 689, rfl⟩
abbrev main_v561 : Ref sig .tc := ⟨.hbm, 690, rfl⟩

abbrev nD : Nat := 1
abbrev τ : Topo := Topo.v7x

variable {F : FTy → Type} [FloatOps F]
-- ==== SsmPrep.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x1024 : Shape := ⟨2, ![256, 1024]⟩
abbrev S1024 : Shape := ⟨1, ![1024]⟩
abbrev S16x1024 : Shape := ⟨2, ![16, 1024]⟩
abbrev S16x16x1024 : Shape := ⟨3, ![16, 16, 1024]⟩
abbrev S256x16x64 : Shape := ⟨3, ![256, 16, 64]⟩
abbrev S_ : Shape := ⟨0, ![]⟩

abbrev nBuf : Space → Nat
  | .hbm => 44
  | .vmem => 19
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S1x1024, .f32⟩
  | .hbm, ⟨14, _⟩ => ⟨S1x1024, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S16x16x64, .f32⟩
  | .hbm, ⟨19, _⟩ => ⟨S16x1024, .f32⟩
  | .hbm, ⟨20, _⟩ => ⟨S16x16x64, .f32⟩
  | .hbm, ⟨21, _⟩ => ⟨S16x1024, .f32⟩
  | .hbm, ⟨22, _⟩ => ⟨S16x16x64, .f32⟩
  | .hbm, ⟨23, _⟩ => ⟨S16x1024, .f32⟩
  | .hbm, ⟨24, _⟩ => ⟨S16x16x64, .f32⟩
  | .hbm, ⟨25, _⟩ => ⟨S16x1024, .f32⟩
  | .hbm, ⟨26, _⟩ => ⟨S16x16x1024, .i32⟩
  | .hbm, ⟨27, _⟩ => ⟨S256x1024, .i32⟩
  | .hbm, ⟨28, _⟩ => ⟨S256x16x64, .i32⟩
  | .hbm, ⟨29, _⟩ => ⟨S256x1024, .i32⟩
  | .hbm, ⟨30, _⟩ => ⟨S256x1024, .i1⟩
  | .hbm, ⟨31, _⟩ => ⟨S_, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S16x1024, .f32⟩
  | .hbm, ⟨41, _⟩ => ⟨S16x1024, .f32⟩
  | .hbm, ⟨42, _⟩ => ⟨S16x1024, .f32⟩
  | .hbm, ⟨43, _⟩ => ⟨S16x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev main_v20_4 : Ref sig .tc := ⟨.hbm, 41, rfl⟩
abbrev main_v20_5 : Ref sig .tc := ⟨.hbm, 42, rfl⟩
abbrev main_v20_6 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== SsmPrepRefIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S1x1024 : Shape := ⟨2, ![1, 1024]⟩
abbrev S256x1024 : Shape := ⟨2, ![256, 1024]⟩
abbrev S16x1 : Shape := ⟨2, ![16, 1]⟩
abbrev S_ : Shape := ⟨0, ![]⟩
abbrev S16x64x1 : Shape := ⟨3, ![16, 64, 1]⟩
abbrev S16x16 : Shape := ⟨2, ![16, 16]⟩
abbrev S16x1x16x1 : Shape := ⟨4, ![16, 1, 16, 1]⟩
abbrev S16x16x1x64 : Shape := ⟨4, ![16, 16, 1, 64]⟩
abbrev S16x16x16x64 : Shape := ⟨4, ![16, 16, 16, 64]⟩
abbrev S16x1024 : Shape := ⟨2, ![16, 1024]⟩

abbrev nBuf : Space → Nat
  | .hbm => 302
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x16x64, .f32⟩
  | 6 => ⟨S16x16x64, .f32⟩
  | 7 => ⟨S1x1024, .f32⟩
  | 8 => ⟨S1x1024, .f32⟩
  | 9 => ⟨S256x1024, .f32⟩
  | 10 => ⟨S256x1024, .f32⟩
  | 11 => ⟨S256x1024, .f32⟩
  | 12 => ⟨S256x1024, .f32⟩
  | 13 => ⟨S16x1, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S_, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S16x64, .f32⟩
  | 37 => ⟨S_, .f32⟩
  | 38 => ⟨S16x64, .f32⟩
  | 39 => ⟨S16x64, .f32⟩
  | 40 => ⟨S16x64, .f32⟩
  | 41 => ⟨S_, .f32⟩
  | 42 => ⟨S16x64, .f32⟩
  | 43 => ⟨S16x64, .f32⟩
  | 44 => ⟨S16x64, .f32⟩
  | 45 => ⟨S16x64, .f32⟩
  | 46 => ⟨S16x64, .f32⟩
  | 47 => ⟨S16x64, .f32⟩
  | 48 => ⟨S_, .f32⟩
  | 49 => ⟨S16x64, .f32⟩
  | 50 => ⟨S16x64, .f32⟩
  | 51 => ⟨S16x64x1, .f32⟩
  | 52 => ⟨S16x64x16, .f32⟩
  | 53 => ⟨S16x64x16, .f32⟩
  | 54 => ⟨S16x64x1, .f32⟩
  | 55 => ⟨S16x64x16, .f32⟩
  | 56 => ⟨S16x64x16, .f32⟩
  | 57 => ⟨S16x64x16, .f32⟩
  | 58 => ⟨S16x64x1, .f32⟩
  | 59 => ⟨S16x64x16, .f32⟩
  | 60 => ⟨S16x64x16, .f32⟩
  | 61 => ⟨S16x64x1, .f32⟩
  | 62 => ⟨S16x64x16, .f32⟩
  | 63 => ⟨S16x64x16, .f32⟩
  | 64 => ⟨S16x64x16, .f32⟩
  | 65 => ⟨S1x1024, .f32⟩
  | 66 => ⟨S1x1024, .f32⟩
  | 67 => ⟨S16x16, .i32⟩
  | 68 => ⟨S16x16, .i32⟩
  | 69 => ⟨S_, .i32⟩
  | 70 => ⟨S16x16, .i32⟩
  | 71 => ⟨S16x16, .i32⟩
  | 72 => ⟨S16x16, .i1⟩
  | 73 => ⟨S16x16, .f32⟩
  | 74 => ⟨S16x1x16x1, .f32⟩
  | 75 => ⟨S_, .f32⟩
  | 76 => ⟨S16x1x16x1, .f32⟩
  | 77 => ⟨S16x1x16x1, .i1⟩
  | 78 => ⟨S16x16x64, .f32⟩
  | 79 => ⟨S16x16x1x64, .f32⟩
  | 80 => ⟨S_, .f32⟩
  | 81 => ⟨S_, .f32⟩
  | 82 => ⟨S16x16x16x64, .i1⟩
  | 83 => ⟨S16x16x16x64, .f32⟩
  | 84 => ⟨S16x16x16x64, .f32⟩
  | 85 => ⟨S16x16x16x64, .f32⟩
  | 86 => ⟨S_, .f32⟩
  | 87 => ⟨S16x16x16x64, .f32⟩
  | 88 => ⟨S256x1024, .f32⟩
  | 89 => ⟨S16x16, .i32⟩
  | 90 => ⟨S16x16, .i32⟩
  | 91 => ⟨S_, .i32⟩
  | 92 => ⟨S16x16, .i32⟩
  | 93 => ⟨S16x16, .i32⟩
  | 94 => ⟨S16x16, .i1⟩
  | 95 => ⟨S16x16, .f32⟩
  | 96 => ⟨S16x1x16x1, .f32⟩
  | 97 => ⟨S_, .f32⟩
  | 98 => ⟨S16x1x16x1, .f32⟩
  | 99 => ⟨S16x1x16x1, .i1⟩
  | 100 => ⟨S16x16x64, .f32⟩
  | 101 => ⟨S16x16x1x64, .f32⟩
  | 102 => ⟨S_, .f32⟩
  | 103 => ⟨S_, .f32⟩
  | 104 => ⟨S16x16x16x64, .i1⟩
  | 105 => ⟨S16x16x16x64, .f32⟩
  | 106 => ⟨S16x16x16x64, .f32⟩
  | 107 => ⟨S16x16x16x64, .f32⟩
  | 108 => ⟨S_, .f32⟩
  | 109 => ⟨S16x16x16x64, .f32⟩
  | 110 => ⟨S256x1024, .f32⟩
  | 111 => ⟨S16x64x16, .f32⟩
  | 112 => ⟨S16x16, .i32⟩
  | 113 => ⟨S16x16, .i32⟩
  | 114 => ⟨S_, .i32⟩
  | 115 => ⟨S16x16, .i32⟩
  | 116 => ⟨S16x16, .i32⟩
  | 117 => ⟨S16x16, .i1⟩
  | 118 => ⟨S16x16, .f32⟩
  | 119 => ⟨S16x1x16x1, .f32⟩
  | 120 => ⟨S_, .f32⟩
  | 121 => ⟨S16x1x16x1, .f32⟩
  | 122 => ⟨S16x1x16x1, .i1⟩
  | 123 => ⟨S16x16x64, .f32⟩
  | 124 => ⟨S16x16x1x64, .f32⟩
  | 125 => ⟨S_, .f32⟩
  | 126 => ⟨S_, .f32⟩
  | 127 => ⟨S16x16x16x64, .i1⟩
  | _ => ⟨S16x64, .f32⟩

abbrev hbmTy0_1 (i : Nat) : BufTy := match i % 128 with
  | 0 => ⟨S16x16x16x64, .f32⟩
  | 1 => ⟨S16x16x16x64, .f32⟩
  | 2 => ⟨S16x16x16x64, .f32⟩
  | 3 => ⟨S_, .f32⟩
  | 4 => ⟨S16x16x16x64, .f32⟩
  | 5 => ⟨S256x1024, .f32⟩
  | 6 => ⟨S16x64x16, .f32⟩
  | 7 => ⟨S16x16, .i32⟩
  | 8 => ⟨S16x16, .i32⟩
  | 9 => ⟨S_, .i32⟩
  | 10 => ⟨S16x16, .i32⟩
  | 11 => ⟨S16x16, .i32⟩
  | 12 => ⟨S16x16, .i1⟩
  | 13 => ⟨S16x16, .f32⟩
  | 14 => ⟨S16x1x16x1, .f32⟩
  | 15 => ⟨S_, .f32⟩
  | 16 => ⟨S16x1x16x1, .f32⟩
  | 17 => ⟨S16x1x16x1, .i1⟩
  | 18 => ⟨S16x16x64, .f32⟩
  | 19 => ⟨S16x16x1x64, .f32⟩
  | 20 => ⟨S_, .f32⟩
  | 21 => ⟨S_, .f32⟩
  | 22 => ⟨S16x16x16x64, .i1⟩
  | 23 => ⟨S16x16x16x64, .f32⟩
  | 24 => ⟨S16x16x16x64, .f32⟩
  | 25 => ⟨S16x16x16x64, .f32⟩
  | 26 => ⟨S_, .f32⟩
  | 27 => ⟨S16x16x16x64, .f32⟩
  | 28 => ⟨S256x1024, .f32⟩
  | 29 => ⟨S16x16x16x64, .f32⟩
  | 30 => ⟨S_, .f32⟩
  | 31 => ⟨S16x16x16x64, .f32⟩
  | 32 => ⟨S16x16x16x64, .f32⟩
  | 33 => ⟨S_, .f32⟩
  | 34 => ⟨S16x16x64, .f32⟩
  | 35 => ⟨S16x16x1x64, .f32⟩
  | 36 => ⟨S_, .f32⟩
  | 37 => ⟨S16x16x64, .f32⟩
  | 38 => ⟨S16x64x16, .f32⟩
  | 39 => ⟨S16x16x64, .f32⟩
  | 40 => ⟨S16x16x16x64, .f32⟩
  | 41 => ⟨S_, .f32⟩
  | 42 => ⟨S16x16x16x64, .f32⟩
  | 43 => ⟨S16x16x16x64, .f32⟩
  | 44 => ⟨S_, .f32⟩
  | 45 => ⟨S16x16x64, .f32⟩
  | 46 => ⟨S16x16x1x64, .f32⟩
  | 47 => ⟨S_, .f32⟩
  | 48 => ⟨S16x16x64, .f32⟩
  | 49 => ⟨S16x64x16, .f32⟩
  | 50 => ⟨S16x16x64, .f32⟩
  | 51 => ⟨S16x16x16x64, .f32⟩
  | 52 => ⟨S_, .f32⟩
  | 53 => ⟨S16x16x16x64, .f32⟩
  | 54 => ⟨S16x16x16x64, .f32⟩
  | 55 => ⟨S_, .f32⟩
  | 56 => ⟨S16x16x64, .f32⟩
  | 57 => ⟨S16x16x1x64, .f32⟩
  | 58 => ⟨S_, .f32⟩
  | 59 => ⟨S16x16x64, .f32⟩
  | 60 => ⟨S16x64x16, .f32⟩
  | 61 => ⟨S16x16x16x64, .f32⟩
  | 62 => ⟨S_, .f32⟩
  | 63 => ⟨S16x16x16x64, .f32⟩
  | 64 => ⟨S16x16x16x64, .f32⟩
  | 65 => ⟨S_, .f32⟩
  | 66 => ⟨S16x16x64, .f32⟩
  | 67 => ⟨S16x16x1x64, .f32⟩
  | 68 => ⟨S_, .f32⟩
  | 69 => ⟨S16x16x64, .f32⟩
  | 70 => ⟨S16x64x16, .f32⟩
  | 71 => ⟨S16x64, .f32⟩
  | 72 => ⟨S16x64, .f32⟩
  | 73 => ⟨S16x64x16, .f32⟩
  | 74 => ⟨S16x64x16, .f32⟩
  | 75 => ⟨S16x64x16, .f32⟩
  | 76 => ⟨S_, .f32⟩
  | 77 => ⟨S16x64, .f32⟩
  | 78 => ⟨S16x64x1, .f32⟩
  | 79 => ⟨S_, .f32⟩
  | 80 => ⟨S16x64, .f32⟩
  | 81 => ⟨S16x64x16, .f32⟩
  | 82 => ⟨S16x64x16, .f32⟩
  | 83 => ⟨S16x64x16, .f32⟩
  | 84 => ⟨S_, .f32⟩
  | 85 => ⟨S16x64, .f32⟩
  | 86 => ⟨S16x64x1, .f32⟩
  | 87 => ⟨S_, .f32⟩
  | 88 => ⟨S16x64, .f32⟩
  | 89 => ⟨S16x64x16, .f32⟩
  | 90 => ⟨S16x64x16, .f32⟩
  | 91 => ⟨S16x64x16, .f32⟩
  | 92 => ⟨S16x64x16, .f32⟩
  | 93 => ⟨S16x64x16, .f32⟩
  | 94 => ⟨S_, .f32⟩
  | 95 => ⟨S16x64, .f32⟩
  | 96 => ⟨S16x64x1, .f32⟩
  | 97 => ⟨S_, .f32⟩
  | 98 => ⟨S16x64, .f32⟩
  | 99 => ⟨S16x64, .f32⟩
  | 100 => ⟨S16x64x16, .f32⟩
  | 101 => ⟨S16x64x16, .f32⟩
  | 102 => ⟨S16x64x16, .f32⟩
  | 103 => ⟨S16x64x16, .f32⟩
  | 104 => ⟨S_, .f32⟩
  | 105 => ⟨S16x64, .f32⟩
  | 106 => ⟨S16x64x1, .f32⟩
  | 107 => ⟨S_, .f32⟩
  | 108 => ⟨S16x64, .f32⟩
  | 109 => ⟨S16x64, .f32⟩
  | 110 => ⟨S16x64, .f32⟩
  | 111 => ⟨S16x64, .f32⟩
  | 112 => ⟨S16x64, .f32⟩
  | 113 => ⟨S16x64, .f32⟩
  | 114 => ⟨S16x64, .f32⟩
  | 115 => ⟨S16x64, .f32⟩
  | 116 => ⟨S16x64, .f32⟩
  | 117 => ⟨S16x64, .f32⟩
  | 118 => ⟨S16x64, .f32⟩
  | 119 => ⟨S16x64, .f32⟩
  | 120 => ⟨S16x64, .f32⟩
  | 121 => ⟨S16x64, .f32⟩
  | 122 => ⟨S16x64, .f32⟩
  | 123 => ⟨S16x64, .f32⟩
  | 124 => ⟨S16x64, .f32⟩
  | 125 => ⟨S16x64, .f32⟩
  | 126 => ⟨S16x64, .f32⟩
  | 127 => ⟨S16x64, .f32⟩
  | _ => ⟨S16x64, .f32⟩

abbrev hbmTy0_2 (i : Nat) : BufTy := match i % 128 with
  | 0 => ⟨S16x64, .f32⟩
  | 1 => ⟨S16x64, .f32⟩
  | 2 => ⟨S16x64, .f32⟩
  | 3 => ⟨S16x64, .f32⟩
  | 4 => ⟨S16x64, .f32⟩
  | 5 => ⟨S16x64, .f32⟩
  | 6 => ⟨S16x64, .f32⟩
  | 7 => ⟨S16x64, .f32⟩
  | 8 => ⟨S16x64, .f32⟩
  | 9 => ⟨S16x64, .f32⟩
  | 10 => ⟨S16x64, .f32⟩
  | 11 => ⟨S16x64, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S1x1024, .f32⟩
  | 36 => ⟨S1x1024, .f32⟩
  | 37 => ⟨S1x1024, .f32⟩
  | 38 => ⟨S16x16x64, .f32⟩
  | 39 => ⟨S16x1024, .f32⟩
  | 40 => ⟨S16x16x64, .f32⟩
  | 41 => ⟨S16x1024, .f32⟩
  | 42 => ⟨S16x16x64, .f32⟩
  | 43 => ⟨S16x1024, .f32⟩
  | 44 => ⟨S16x16x64, .f32⟩
  | 45 => ⟨S16x1024, .f32⟩
  | _ => ⟨S16x64, .f32⟩

abbrev hbmTy (i : Nat) : BufTy := match i / 128 with
  | 0 => hbmTy0_0 i
  | 1 => hbmTy0_1 i
  | 2 => hbmTy0_2 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_3 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_call0_v0 : Ref sig .tc := ⟨.hbm, 81, rfl⟩
abbrev main_v61_1 : Ref sig .tc := ⟨.hbm, 82, rfl⟩
abbrev main_call0_v2 : Ref sig .tc := ⟨.hbm, 83, rfl⟩
abbrev main_call0_v3 : Ref sig .tc := ⟨.hbm, 84, rfl⟩
abbrev main_v61_0 : Ref sig .tc := ⟨.hbm, 85, rfl⟩
abbrev main_call0_cst : Ref sig .tc := ⟨.hbm, 86, rfl⟩
abbrev main_v61_2 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_6 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_7 : Ref sig .tc := ⟨.hbm, 102, rfl⟩
abbrev main_call1_v0 : Ref sig .tc := ⟨.hbm, 103, rfl⟩
abbrev main_v74_1 : Ref sig .tc := ⟨.hbm, 104, rfl⟩
abbrev main_call1_v2 : Ref sig .tc := ⟨.hbm, 105, rfl⟩
abbrev main_call1_v3 : Ref sig .tc := ⟨.hbm, 106, rfl⟩
abbrev main_v74_0 : Ref sig .tc := ⟨.hbm, 107, rfl⟩
abbrev main_call1_cst : Ref sig .tc := ⟨.hbm, 108, rfl⟩
abbrev main_v74_2 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_8 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_9 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_10 : Ref sig .tc := ⟨.hbm, 125, rfl⟩
abbrev main_call2_v0 : Ref sig .tc := ⟨.hbm, 126, rfl⟩
abbrev main_v88_1 : Ref sig .tc := ⟨.hbm, 127, rfl⟩
abbrev main_call2_v2 : Ref sig .tc := ⟨.hbm, 128, rfl⟩
abbrev main_call2_v3 : Ref sig .tc := ⟨.hbm, 129, rfl⟩
abbrev main_v88_0 : Ref sig .tc := ⟨.hbm, 130, rfl⟩
abbrev main_call2_cst : Ref sig .tc := ⟨.hbm, 131, rfl⟩
abbrev main_v88_2 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_11 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_12 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_13 : Ref sig .tc := ⟨.hbm, 148, rfl⟩
abbrev main_call3_v0 : Ref sig .tc := ⟨.hbm, 149, rfl⟩
abbrev main_v102_1 : Ref sig .tc := ⟨.hbm, 150, rfl⟩
abbrev main_call3_v2 : Ref sig .tc := ⟨.hbm, 151, rfl⟩
abbrev main_call3_v3 : Ref sig .tc := ⟨.hbm, 152, rfl⟩
abbrev main_v102_0 : Ref sig .tc := ⟨.hbm, 153, rfl⟩
abbrev main_call3_cst : Ref sig .tc := ⟨.hbm, 154, rfl⟩
abbrev main_v102_2 : Ref sig .tc := ⟨.hbm, 155, rfl⟩
abbrev main_v103 : Ref sig .tc := ⟨.hbm, 156, rfl⟩
abbrev main_v104 : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_v105 : Ref sig .tc := ⟨.hbm, 163, rfl⟩
abbrev main_cst_14 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_call5_cst : Ref sig .tc := ⟨.hbm, 169, rfl⟩
abbrev main_call5_v0 : Ref sig .tc := ⟨.hbm, 170, rfl⟩
abbrev main_call5_v1 : Ref sig .tc := ⟨.hbm, 171, rfl⟩
abbrev main_call5_cst_0 : Ref sig .tc := ⟨.hbm, 172, rfl⟩
abbrev main_call5_v2 : Ref sig .tc := ⟨.hbm, 173, rfl⟩
abbrev main_v110 : Ref sig .tc := ⟨.hbm, 174, rfl⟩
abbrev main_cst_15 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_call6_cst : Ref sig .tc := ⟨.hbm, 180, rfl⟩
abbrev main_call6_v0 : Ref sig .tc := ⟨.hbm, 181, rfl⟩
abbrev main_call6_v1 : Ref sig .tc := ⟨.hbm, 182, rfl⟩
abbrev main_call6_cst_0 : Ref sig .tc := ⟨.hbm, 183, rfl⟩
abbrev main_call6_v2 : Ref sig .tc := ⟨.hbm, 184, rfl⟩
abbrev main_v115 : Ref sig .tc := ⟨.hbm, 185, rfl⟩
abbrev main_cst_16 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_call7_cst : Ref sig .tc := ⟨.hbm, 190, rfl⟩
abbrev main_call7_v0 : Ref sig .tc := ⟨.hbm, 191, rfl⟩
abbrev main_call7_v1 : Ref sig .tc := ⟨.hbm, 192, rfl⟩
abbrev main_call7_cst_0 : Ref sig .tc := ⟨.hbm, 193, rfl⟩
abbrev main_call7_v2 : Ref sig .tc := ⟨.hbm, 194, rfl⟩
abbrev main_v119 : Ref sig .tc := ⟨.hbm, 195, rfl⟩
abbrev main_cst_17 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_18 : Ref sig .tc := ⟨.hbm, 204, rfl⟩
abbrev main_v127 : Ref sig .tc := ⟨.hbm, 205, rfl⟩
abbrev main_v128 : Ref sig .tc := ⟨.hbm, 206, rfl⟩
abbrev main_cst_19 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_20 : Ref sig .tc := ⟨.hbm, 212, rfl⟩
abbrev main_v133 : Ref sig .tc := ⟨.hbm, 213, rfl⟩
abbrev main_v134 : Ref sig .tc := ⟨.hbm, 214, rfl⟩
abbrev main_cst_21 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_22 : Ref sig .tc := ⟨.hbm, 222, rfl⟩
abbrev main_v141 : Ref sig .tc := ⟨.hbm, 223, rfl⟩
abbrev main_v142 : Ref sig .tc := ⟨.hbm, 224, rfl⟩
abbrev main_cst_23 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_24 : Ref sig .tc := ⟨.hbm, 232, rfl⟩
abbrev main_v149 : Ref sig .tc := ⟨.hbm, 233, rfl⟩
abbrev main_v150 : Ref sig .tc := ⟨.hbm, 234, rfl⟩
abbrev main_cst_25 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩

abbrev nD : Nat := 1
abbrev τ : Topo := Topo.v7x

variable {F : FTy → Type} [FloatOps F]
-- ==== MixOut.lean ====
abbrev S8192x512 : Shape := ⟨2, ![8192, 512]⟩
abbrev S8192x256 : Shape := ⟨2, ![8192, 256]⟩
abbrev S256 : Shape := ⟨1, ![256]⟩
abbrev S256x256 : Shape := ⟨2, ![256, 256]⟩
abbrev S256x512 : Shape := ⟨2, ![256, 512]⟩
abbrev S1024 : Shape := ⟨1, ![1024]⟩
abbrev S1024x1024 : Shape := ⟨2, ![1024, 1024]⟩
abbrev S8192x1024 : Shape := ⟨2, ![8192, 1024]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 33
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256x512, .f32⟩
  | .hbm, ⟨8, _⟩ => ⟨S1024, .f32⟩
  | .hbm, ⟨9, _⟩ => ⟨S1024x1024, .f32⟩
  | .hbm, ⟨10, _⟩ => ⟨S8192x1024, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S512x256, .f32⟩
  | .hbm, ⟨15, _⟩ => ⟨S512, .f32⟩
  | .hbm, ⟨16, _⟩ => ⟨S1x512, .f32⟩
  | .hbm, ⟨17, _⟩ => ⟨S256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S8192x512, .f32⟩
  | .hbm, ⟨22, _⟩ => ⟨S8192x256, .f32⟩
  | .hbm, ⟨23, _⟩ => ⟨S8192x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S256x256, .f32⟩
  | .hbm, ⟨28, _⟩ => ⟨S512x256, .f32⟩
  | .hbm, ⟨29, _⟩ => ⟨S1x512, .f32⟩
  | .hbm, ⟨30, _⟩ => ⟨S1x256, .f32⟩
  | .hbm, ⟨31, _⟩ => ⟨S1x256, .f32⟩
  | .hbm, ⟨32, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x256, .f32⟩
  | .local _ .vmem, ⟨12, _⟩ => ⟨S512x256, .f32⟩
  | .local _ .vmem, ⟨13, _⟩ => ⟨S1x512, .f32⟩
  | .local _ .vmem, ⟨14, _⟩ => ⟨S1x256, .f32⟩
  | .local _ .vmem, ⟨15, _⟩ => ⟨S1x256, .f32⟩
  | .local _ .vmem, ⟨16, _⟩ => ⟨S1024x1024, .f32⟩
  | .local _ .vmem, ⟨17, _⟩ => ⟨S512x512, .f32⟩
  | .local _ .vmem, ⟨18, _⟩ => ⟨S512x512, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .f32⟩
  | .local _ .vmem, ⟨27, _⟩ => ⟨S512x256, .f32⟩
  | .local _ .vmem, ⟨28, _⟩ => ⟨S1x512, .f32⟩
  | .local _ .vmem, ⟨29, _⟩ => ⟨S1x256, .f32⟩
  | .local _ .vmem, ⟨30, _⟩ => ⟨S1x256, .f32⟩
  | .local _ .vmem, ⟨31, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev main_v10_10 : Ref sig .tc := ⟨.hbm, 31, rfl⟩
abbrev main_v10_11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg24_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem24_0 : DmaSem sig := 31

abbrev nD : Nat := 1
abbrev τ : Topo := Topo.v7x

variable {F : FTy → Type} [FloatOps F]

abbrev grid0 : Pipeline.Grid := ⟨1, ![16], ![false]⟩

def k0_cond7 (i : grid0.Coords) : BitVec 1 :=
  let arg0 : BitVec 32 := BitVec.ofNat 32 (i 0).val
  let c0_i32_107 : BitVec 32 := 0#32
  let v282 : BitVec 1 := Scalar.cmpi .eq arg0 c0_i32_107
  let v283 : BitVec 32 := Scalar.extui v282
  let c0_i32_108 : BitVec 32 := 0#32
  let v284 : BitVec 1 := Scalar.cmpi .ne v283 c0_i32_108
  v284

def k0_cond8 (i : grid0.Coords) : BitVec 1 :=
  let arg0 : BitVec 32 := BitVec.ofNat 32 (i 0).val
  let c0_i32_109 : BitVec 32 := 0#32
  let v285 : BitVec 1 := Scalar.cmpi .sgt arg0 c0_i32_109
  let v286 : BitVec 32 := Scalar.extui v285
  let c0_i32_110 : BitVec 32 := 0#32
  let v287 : BitVec 1 := Scalar.cmpi .ne v286 c0_i32_110
  v287

def k0_cond9 (i : grid0.Coords) : BitVec 1 :=
  let arg0 : BitVec 32 := BitVec.ofNat 32 (i 0).val
  let c0_i32_111 : BitVec 32 := 0#32
  let v288 : BitVec 1 := Scalar.cmpi .eq arg0 c0_i32_111
  let v289 : BitVec 32 := Scalar.extui v288
  let c0_i32_112 : BitVec 32 := 0#32
  let v290 : BitVec 1 := Scalar.cmpi .ne v289 c0_i32_112
  v290

def k0_cond10 (i : grid0.Coords) : BitVec 1 :=
  let arg0 : BitVec 32 := BitVec.ofNat 32 (i 0).val
  let c0_i32_113 : BitVec 32 := 0#32
  let v291 : BitVec 1 := Scalar.cmpi .sgt arg0 c0_i32_113
  let v292 : BitVec 32 := Scalar.extui v291
  let c0_i32_114 : BitVec 32 := 0#32
  let v293 : BitVec 1 := Scalar.cmpi .ne v292 c0_i32_114
  v293

def k0_cond11 (i : grid0.Coords) : BitVec 1 :=
  let arg0 : BitVec 32 := BitVec.ofNat 32 (i 0).val
  let c0_i32_115 : BitVec 32 := 0#32
  let v294 : BitVec 1 := Scalar.cmpi .eq arg0 c0_i32_115
  let v295 : BitVec 32 := Scalar.extui v294
  let c0_i32_116 : BitVec 32 := 0#32
  let v296 : BitVec 1 := Scalar.cmpi .ne v295 c0_i32_116
  v296

def k0_cond12 (i : grid0.Coords) : BitVec 1 :=
  let arg0 : BitVec 32 := BitVec.ofNat 32 (i 0).val
  let c0_i32_117 : BitVec 32 := 0#32
  let v297 : BitVec 1 := Scalar.cmpi .sgt arg0 c0_i32_117
  let v298 : BitVec 32 := Scalar.extui v297
  let c0_i32_118 : BitVec 32 := 0#32
  let v299 : BitVec 1 := Scalar.cmpi .ne v298 c0_i32_118
  v299

def k0_cond5 (i : grid0.Coords) : BitVec 1 :=
  let arg0 : BitVec 32 := BitVec.ofNat 32 (i 0).val
  let c0_i32_103 : BitVec 32 := 0#32
  let v276 : BitVec 1 := Scalar.cmpi .eq arg0 c0_i32_103
  let v277 : BitVec 32 := Scalar.extui v276
  let c0_i32_104 : BitVec 32 := 0#32
  let v278 : BitVec 1 := Scalar.cmpi .ne v277 c0_i32_104
  v278

def k0_cond6 (i : grid0.Coords) : BitVec 1 :=
  let arg0 : BitVec 32 := BitVec.ofNat 32 (i 0).val
  let c0_i32_105 : BitVec 32 := 0#32
  let v279 : BitVec 1 := Scalar.cmpi .sgt arg0 c0_i32_105
  let v280 : BitVec 32 := Scalar.extui v279
  let c0_i32_106 : BitVec 32 := 0#32
  let v281 : BitVec 1 := Scalar.cmpi .ne v280 c0_i32_106
  v281

def k0_cond3 (i : grid0.Coords) : BitVec 1 :=
  let arg0 : BitVec 32 := BitVec.ofNat 32 (i 0).val
  let c0_i32_98 : BitVec 32 := 0#32
  let v267 : BitVec 1 := Scalar.cmpi .eq arg0 c0_i32_98
  let v268 : BitVec 32 := Scalar.extui v267
  let c0_i32_99 : BitVec 32 := 0#32
  let v269 : BitVec 1 := Scalar.cmpi .ne v268 c0_i32_99
  v269

def k0_cond4 (i : grid0.Coords) : BitVec 1 :=
  let arg0 : BitVec 32 := BitVec.ofNat 32 (i 0).val
  let c0_i32_100 : BitVec 32 := 0#32
  let v270 : BitVec 1 := Scalar.cmpi .sgt arg0 c0_i32_100
  let v271 : BitVec 32 := Scalar.extui v270
  let c0_i32_101 : BitVec 32 := 0#32
  let v272 : BitVec 1 := Scalar.cmpi .ne v271 c0_i32_101
  v272

def k0_cond13 (i : grid0.Coords) : BitVec 1 :=
  let arg0 : BitVec 32 := BitVec.ofNat 32 (i 0).val
  let c0_i32_119 : BitVec 32 := 0#32
  let v300 : BitVec 1 := Scalar.cmpi .eq arg0 c0_i32_119
  let v301 : BitVec 32 := Scalar.extui v300
  let c0_i32_120 : BitVec 32 := 0#32
  let v302 : BitVec 1 := Scalar.cmpi .ne v301 c0_i32_120
  v302

def k0_cond14 (i : grid0.Coords) : BitVec 1 :=
  let arg0 : BitVec 32 := BitVec.ofNat 32 (i 0).val
  let c0_i32_121 : BitVec 32 := 0#32
  let v303 : BitVec 1 := Scalar.cmpi .sgt arg0 c0_i32_121
  let v304 : BitVec 32 := Scalar.extui v303
  let c0_i32_122 : BitVec 32 := 0#32
  let v305 : BitVec 1 := Scalar.cmpi .ne v304 c0_i32_122
  v305

def k0_cond15 (i : grid0.Coords) : BitVec 1 :=
  let arg0 : BitVec 32 := BitVec.ofNat 32 (i 0).val
  let c0_i32_123 : BitVec 32 := 0#32
  let v306 : BitVec 1 := Scalar.cmpi .eq arg0 c0_i32_123
  let v307 : BitVec 32 := Scalar.extui v306
  let c0_i32_124 : BitVec 32 := 0#32
  let v308 : BitVec 1 := Scalar.cmpi .ne v307 c0_i32_124
  v308

def k0_cond16 (i : grid0.Coords) : BitVec 1 :=
  let arg0 : BitVec 32 := BitVec.ofNat 32 (i 0).val
  let c0_i32_125 : BitVec 32 := 0#32
  let v309 : BitVec 1 := Scalar.cmpi .sgt arg0 c0_i32_125
  let v310 : BitVec 32 := Scalar.extui v309
  let c0_i32_126 : BitVec 32 := 0#32
  let v311 : BitVec 1 := Scalar.cmpi .ne v310 c0_i32_126
  v311

def k0_cond17 (i : grid0.Coords) : BitVec 1 :=
  let arg0 : BitVec 32 := BitVec.ofNat 32 (i 0).val
  let c0_i32_127 : BitVec 32 := 0#32
  let v312 : BitVec 1 := Scalar.cmpi .eq arg0 c0_i32_127
  let v313 : BitVec 32 := Scalar.extui v312
  let c0_i32_128 : BitVec 32 := 0#32
  let v314 : BitVec 1 := Scalar.cmpi .ne v313 c0_i32_128
  v314

def k0_cond18 (i : grid0.Coords) : BitVec 1 :=
  let arg0 : BitVec 32 := BitVec.ofNat 32 (i 0).val
  let c0_i32_129 : BitVec 32 := 0#32
  let v315 : BitVec 1 := Scalar.cmpi .sgt arg0 c0_i32_129
  let v316 : BitVec 32 := Scalar.extui v315
  let c0_i32_130 : BitVec 32 := 0#32
  let v317 : BitVec 1 := Scalar.cmpi .ne v316 c0_i32_130
  v317

def k0_cond1 (i : grid0.Coords) : BitVec 1 :=
  let arg0 : BitVec 32 := BitVec.ofNat 32 (i 0).val
  let c0_i32 : BitVec 32 := 0#32
  let v258 : BitVec 1 := Scalar.cmpi .eq arg0 c0_i32
  let v259 : BitVec 32 := Scalar.extui v258
  let c0_i32_94 : BitVec 32 := 0#32
  let v260 : BitVec 1 := Scalar.cmpi .ne v259 c0_i32_94
  v260

def k0_cond2 (i : grid0.Coords) : BitVec 1 :=
  let arg0 : BitVec 32 := BitVec.ofNat 32 (i 0).val
  let c0_i32_95 : BitVec 32 := 0#32
  let v261 : BitVec 1 := Scalar.cmpi .sgt arg0 c0_i32_95
  let v262 : BitVec 32 := Scalar.extui v261
  let c0_i32_96 : BitVec 32 := 0#32
  let v263 : BitVec 1 := Scalar.cmpi .ne v262 c0_i32_96
  v263

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MixOutRefIdeal.lean ====
abbrev S8192x512 : Shape := ⟨2, ![8192, 512]⟩
abbrev S8192x256 : Shape := ⟨2, ![8192, 256]⟩
abbrev S256 : Shape := ⟨1, ![256]⟩
abbrev S256x256 : Shape := ⟨2, ![256, 256]⟩
abbrev S256x512 : Shape := ⟨2, ![256, 512]⟩
abbrev S1024 : Shape := ⟨1, ![1024]⟩
abbrev S1024x1024 : Shape := ⟨2, ![1024, 1024]⟩
abbrev S8192x1024 : Shape := ⟨2, ![8192, 1024]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S512 : Shape := ⟨1, ![512]⟩
abbrev S1x512 : Shape := ⟨2, ![1, 512]⟩
abbrev S512x256 : Shape := ⟨2, ![512, 256]⟩

abbrev nBuf : Space → Nat
  | .hbm => 307
  | .vmem => 0
  | .smem => 0
  | _ => 0

abbrev hbmTy0_0 (i : Nat) : BufTy := match i % 128 with
  | 0 => ⟨S8192x512, .f32⟩
  | 1 => ⟨S8192x256, .f32⟩
  | 2 => ⟨S8192x256, .f32⟩
  | 3 => ⟨S256, .f32⟩
  | 4 => ⟨S256, .f32⟩
  | 5 => ⟨S256, .f32⟩
  | 6 => ⟨S256x256, .f32⟩
  | 7 => ⟨S256x512, .f32⟩
  | 8 => ⟨S1024, .f32⟩
  | 9 => ⟨S1024x1024, .f32⟩
  | 10 => ⟨S8192x1024, .f32⟩
  | 11 => ⟨S1x256, .f32⟩
  | 12 => ⟨S8192x256, .f32⟩
  | 13 => ⟨S8192x256, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x256, .f32⟩
  | 33 => ⟨S8192x256, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x256, .f32⟩
  | 43 => ⟨S8192x256, .f32⟩
  | 44 => ⟨S1x256, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S8192x256, .f32⟩
  | 51 => ⟨S8192x256, .f32⟩
  | 52 => ⟨S_, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S_, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x512, .f32⟩
  | 65 => ⟨S8192x256, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192x256, .f32⟩
  | 79 => ⟨S8192x256, .f32⟩
  | 80 => ⟨S512, .f32⟩
  | 81 => ⟨S8192x512, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x512, .f32⟩
  | 97 => ⟨S8192x512, .f32⟩
  | 98 => ⟨S1x512, .f32⟩
  | 99 => ⟨S8192x512, .f32⟩
  | 100 => ⟨S8192x512, .f32⟩
  | 101 => ⟨S256, .f32⟩
  | 102 => ⟨S8192x256, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x256, .f32⟩
  | 118 => ⟨S8192x256, .f32⟩
  | 119 => ⟨S1x256, .f32⟩
  | 120 => ⟨S8192x256, .f32⟩
  | 121 => ⟨S8192x256, .f32⟩
  | 122 => ⟨S256, .f32⟩
  | 123 => ⟨S8192x256, .f32⟩
  | 124 => ⟨S_, .f32⟩
  | 125 => ⟨S8192, .f32⟩
  | 126 => ⟨S8192x1, .f32⟩
  | 127 => ⟨S_, .f32⟩
  | _ => ⟨S8192x512, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x1, .f32⟩
  | 7 => ⟨S_, .f32⟩
  | 8 => ⟨S8192x1, .f32⟩
  | 9 => ⟨S8192x1, .f32⟩
  | 10 => ⟨S8192x256, .f32⟩
  | 11 => ⟨S8192x256, .f32⟩
  | 12 => ⟨S1x256, .f32⟩
  | 13 => ⟨S8192x256, .f32⟩
  | 14 => ⟨S8192x256, .f32⟩
  | 15 => ⟨S8192x1024, .f32⟩
  | 16 => ⟨S8192x1024, .f32⟩
  | 17 => ⟨S1024x1024, .f32⟩
  | 18 => ⟨S1024x1024, .f32⟩
  | 19 => ⟨S8192x1024, .f32⟩
  | 20 => ⟨S8192x512, .f32⟩
  | 21 => ⟨S8192x256, .f32⟩
  | 22 => ⟨S8192x256, .f32⟩
  | 23 => ⟨S8192x256, .f32⟩
  | 24 => ⟨S_, .f32⟩
  | 25 => ⟨S256, .f32⟩
  | 26 => ⟨S1x256, .f32⟩
  | 27 => ⟨S8192x256, .f32⟩
  | 28 => ⟨S8192x256, .f32⟩
  | 29 => ⟨S_, .f32⟩
  | 30 => ⟨S256, .f32⟩
  | 31 => ⟨S8192x256, .f32⟩
  | 32 => ⟨S_, .f32⟩
  | 33 => ⟨S8192, .f32⟩
  | 34 => ⟨S8192x1, .f32⟩
  | 35 => ⟨S8192x256, .f32⟩
  | 36 => ⟨S8192x256, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S1024, .f32⟩
  | 50 => ⟨S8192x256, .f32⟩
  | 51 => ⟨S_, .f32⟩
  | 52 => ⟨S256, .f32⟩
  | 53 => ⟨S1x256, .f32⟩
  | 54 => ⟨S8192x256, .f32⟩
  | 55 => ⟨S8192x256, .f32⟩
  | 56 => ⟨S_, .f32⟩
  | 57 => ⟨S256, .f32⟩
  | 58 => ⟨S8192x256, .f32⟩
  | 59 => ⟨S_, .f32⟩
  | 60 => ⟨S8192, .f32⟩
  | 61 => ⟨S8192x1, .f32⟩
  | 62 => ⟨S8192x256, .f32⟩
  | 63 => ⟨S8192x256, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S_, .f32⟩
  | 76 => ⟨S1024, .f32⟩
  | 77 => ⟨S1024, .f32⟩
  | 78 => ⟨S8192x512, .f32⟩
  | 79 => ⟨S_, .f32⟩
  | 80 => ⟨S512, .f32⟩
  | 81 => ⟨S1x512, .f32⟩
  | 82 => ⟨S8192x512, .f32⟩
  | 83 => ⟨S8192x512, .f32⟩
  | 84 => ⟨S_, .f32⟩
  | 85 => ⟨S512, .f32⟩
  | 86 => ⟨S8192x512, .f32⟩
  | 87 => ⟨S_, .f32⟩
  | 88 => ⟨S8192, .f32⟩
  | 89 => ⟨S8192x1, .f32⟩
  | 90 => ⟨S8192x512, .f32⟩
  | 91 => ⟨S8192x512, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S_, .f32⟩
  | 104 => ⟨S1024, .f32⟩
  | 105 => ⟨S1024, .f32⟩
  | 106 => ⟨S8192x256, .f32⟩
  | 107 => ⟨S8192x256, .f32⟩
  | 108 => ⟨S8192x256, .f32⟩
  | 109 => ⟨S8192x512, .f32⟩
  | 110 => ⟨S512x256, .f32⟩
  | 111 => ⟨S256x512, .f32⟩
  | 112 => ⟨S8192x256, .f32⟩
  | 113 => ⟨S256x256, .f32⟩
  | 114 => ⟨S256x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S_, .f32⟩
  | 121 => ⟨S256, .f32⟩
  | 122 => ⟨S1x256, .f32⟩
  | 123 => ⟨S_, .f32⟩
  | 124 => ⟨S256, .f32⟩
  | 125 => ⟨S8192x256, .f32⟩
  | 126 => ⟨S_, .f32⟩
  | 127 => ⟨S256, .f32⟩
  | _ => ⟨S8192x512, .f32⟩

abbrev hbmTy0_2 (i : Nat) : BufTy := match i % 128 with
  | 0 => ⟨S1x256, .f32⟩
  | 1 => ⟨S8192x256, .f32⟩
  | 2 => ⟨S8192x256, .f32⟩
  | 3 => ⟨S_, .f32⟩
  | 4 => ⟨S256, .f32⟩
  | 5 => ⟨S8192x256, .f32⟩
  | 6 => ⟨S_, .f32⟩
  | 7 => ⟨S8192, .f32⟩
  | 8 => ⟨S8192x1, .f32⟩
  | 9 => ⟨S8192x256, .f32⟩
  | 10 => ⟨S8192x256, .f32⟩
  | 11 => ⟨S8192x1, .f32⟩
  | 12 => ⟨S8192x256, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x256, .f32⟩
  | 22 => ⟨S8192x256, .f32⟩
  | 23 => ⟨S8192x256, .f32⟩
  | 24 => ⟨S_, .f32⟩
  | 25 => ⟨S8192, .f32⟩
  | 26 => ⟨S8192x1, .f32⟩
  | 27 => ⟨S8192x256, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x256, .f32⟩
  | 35 => ⟨S8192x256, .f32⟩
  | 36 => ⟨S_, .f32⟩
  | 37 => ⟨S256, .f32⟩
  | 38 => ⟨S1x256, .f32⟩
  | 39 => ⟨S_, .f32⟩
  | 40 => ⟨S256, .f32⟩
  | 41 => ⟨S1x256, .f32⟩
  | 42 => ⟨S1x256, .f32⟩
  | 43 => ⟨S1x256, .f32⟩
  | 44 => ⟨S512x256, .f32⟩
  | 45 => ⟨S512, .f32⟩
  | 46 => ⟨S1x512, .f32⟩
  | 47 => ⟨S256, .f32⟩
  | 48 => ⟨S1x256, .f32⟩
  | 49 => ⟨S256, .f32⟩
  | 50 => ⟨S1x256, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v32_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v32_1 : Ref sig .tc := ⟨.hbm, 61, rfl⟩
abbrev main_v32_0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_20 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_21 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_22 : Ref sig .tc := ⟨.hbm, 157, rfl⟩
abbrev main_v111 : Ref sig .tc := ⟨.hbm, 158, rfl⟩
abbrev main_v112 : Ref sig .tc := ⟨.hbm, 159, rfl⟩
abbrev main_cst_23 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_24 : Ref sig .tc := ⟨.hbm, 166, rfl⟩
abbrev main_v118 : Ref sig .tc := ⟨.hbm, 167, rfl⟩
abbrev main_v119 : Ref sig .tc := ⟨.hbm, 168, rfl⟩
abbrev main_cst_25 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_26 : Ref sig .tc := ⟨.hbm, 176, rfl⟩
abbrev main_v126 : Ref sig .tc := ⟨.hbm, 177, rfl⟩
abbrev main_v127 : Ref sig .tc := ⟨.hbm, 178, rfl⟩
abbrev main_cst_27 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_28 : Ref sig .tc := ⟨.hbm, 184, rfl⟩
abbrev main_v132 : Ref sig .tc := ⟨.hbm, 185, rfl⟩
abbrev main_v133 : Ref sig .tc := ⟨.hbm, 186, rfl⟩
abbrev main_cst_29 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_30 : Ref sig .tc := ⟨.hbm, 193, rfl⟩
abbrev main_v139 : Ref sig .tc := ⟨.hbm, 194, rfl⟩
abbrev main_v140 : Ref sig .tc := ⟨.hbm, 195, rfl⟩
abbrev main_cst_31 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_32 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_33 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_34 : Ref sig .tc := ⟨.hbm, 212, rfl⟩
abbrev main_v154 : Ref sig .tc := ⟨.hbm, 213, rfl⟩
abbrev main_v155 : Ref sig .tc := ⟨.hbm, 214, rfl⟩
abbrev main_cst_35 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_36 : Ref sig .tc := ⟨.hbm, 221, rfl⟩
abbrev main_v161 : Ref sig .tc := ⟨.hbm, 222, rfl⟩
abbrev main_v162 : Ref sig .tc := ⟨.hbm, 223, rfl⟩
abbrev main_cst_37 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_cst_38 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_call1_v0 : Ref sig .tc := ⟨.hbm, 244, rfl⟩
abbrev main_call1_v1 : Ref sig .tc := ⟨.hbm, 245, rfl⟩
abbrev main_call1_v2 : Ref sig .tc := ⟨.hbm, 246, rfl⟩
abbrev main_v181 : Ref sig .tc := ⟨.hbm, 247, rfl⟩
abbrev main_cst_39 : Ref sig .tc := ⟨.hbm, 248, rfl⟩
abbrev main_v182 : Ref sig .tc := ⟨.hbm, 249, rfl⟩
abbrev main_v183 : Ref sig .tc := ⟨.hbm, 250, rfl⟩
abbrev main_cst_40 : Ref sig .tc := ⟨.hbm, 251, rfl⟩
abbrev main_v184 : Ref sig .tc := ⟨.hbm, 252, rfl⟩
abbrev main_v185 : Ref sig .tc := ⟨.hbm, 253, rfl⟩
abbrev main_cst_41 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_42 : Ref sig .tc := ⟨.hbm, 259, rfl⟩
abbrev main_v190 : Ref sig .tc := ⟨.hbm, 260, rfl⟩
abbrev main_v191 : Ref sig .tc := ⟨.hbm, 261, rfl⟩
abbrev main_cst_43 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_cst_44 : Ref sig .tc := ⟨.hbm, 269, rfl⟩
abbrev main_v198 : Ref sig .tc := ⟨.hbm, 270, rfl⟩
abbrev main_v199 : Ref sig .tc := ⟨.hbm, 271, rfl⟩
abbrev main_cst_45 : Ref sig .tc := ⟨.hbm, 272, rfl⟩
abbrev main_v200 : Ref sig .tc := ⟨.hbm, 273, rfl⟩
abbrev main_v201 : Ref sig .tc := ⟨.hbm, 274, rfl⟩
abbrev main_cst_46 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_cst_47 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_cst_48 : Ref sig .tc := ⟨.hbm, 285, rfl⟩
abbrev main_v210 : Ref sig .tc := ⟨.hbm, 286, rfl⟩
abbrev main_v211 : Ref sig .tc := ⟨.hbm, 287, rfl⟩
abbrev main_cst_49 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_cst_50 : Ref sig .tc := ⟨.hbm, 292, rfl⟩
abbrev main_v215 : Ref sig .tc := ⟨.hbm, 293, rfl⟩
abbrev main_v216 : Ref sig .tc := ⟨.hbm, 294, rfl⟩
abbrev main_cst_51 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩

abbrev nD : Nat := 1
abbrev τ : Topo := Topo.v7x

variable {F : FTy → Type} [FloatOps F]
-- ==== Proof.Sb.Body.lean ====
module

public import proofs.«01_k».proof.Proof.Gen.SbIdeal.Frame
public import proofs.«01_k».proof.Proof.Gen.SbIdeal.Loops

@[expose] public section

set_option maxRecDepth 16384

noncomputable section

namespace Cert.SbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbIdeal.Gen

variable {F : FTy → Type} [FloatOps F]

local notation "𝕄" => MT nD τ sig Unit (Elt F) ℕ (UR sig nD τ) ℕ

/-- The word the body reads from the table of block counts at grid coordinates `i`. -/
abbrev word (i : grid0.Coords) (arg2 : Memref sig .tc .smem S2x32 .i32) (harg2 : arg2.IsWhole) (x2 : Vec F S2x32 .i32) : BitVec 32 :=
  View.readAt (Elt F) arg2.view (Rect.unit (s := S2x32) (k0_off1 i) S1x1.size (k0_off1_inb i)).toLoadRect (harg2.unread x2)
    (Shape.Idx.first (lt_of_lt_of_eq Nat.one_pos (Eq.symm numel1_S1x1)))

/-- Where that word is the block's own number, every access of the body is in range. -/
theorem chk_all : ∀ i : grid0.Coords, k0_chk1 i (BitVec.ofNat 32 (i 1).val) := by decide +kernel

/-- The eight input buffers, each whole at its contents. -/
abbrev inputs (c : Dev nD) (arg2 : Memref sig .tc .smem S2x32 .i32) (arg3 : Memref sig .tc .vmem S256x256 .bf16) (arg4 : Memref sig .tc .vmem S8192x256 .bf16) (arg5 : Memref sig .tc .vmem S8192x256 .bf16) (arg6 : Memref sig .tc .vmem S256x256 .f32) (arg7 : Memref sig .tc .vmem S256x256 .f32) (arg8 : Memref sig .tc .vmem S256x256 .bf16) (arg9 : Memref sig .tc .vmem S256x256 .bf16) (x2 : Vec F S2x32 .i32) (x3 : Vec F S256x256 .bf16) (x4 : Vec F S8192x256 .bf16) (x5 : Vec F S8192x256 .bf16) (x6 : Vec F S256x256 .f32) (x7 : Vec F S256x256 .f32) (x8 : Vec F S256x256 .bf16) (x9 : Vec F S256x256 .bf16) : sProp 𝕄 :=
  iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9)

set_option maxHeartbeats 2000000 in
/-- The body at the first block of a column group: it clears the accumulators of dk and dv first. -/
noncomputable def runA (c : Dev nD) (i : grid0.Coords) (arg2 : Memref sig .tc .smem S2x32 .i32) (harg2 : arg2.IsWhole) (arg3 : Memref sig .tc .vmem S256x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x256 .f32) (harg10 : arg10.IsWhole) (arg11 : Memref sig .tc .vmem S8192x256 .f32) (harg11 : arg11.IsWhole) (arg12 : Memref sig .tc .vmem S8192x256 .f32) (harg12 : arg12.IsWhole) (hc0 : (Scalar.cmpi .ne (Scalar.extui (Scalar.cmpi .eq (BitVec.ofNat 32 (i 1).val) 0#32)) 0#32 : BitVec 1) = 1#1)
    (x2 : Vec F S2x32 .i32) (x3 : Vec F S256x256 .bf16) (x4 : Vec F S8192x256 .bf16) (x5 : Vec F S8192x256 .bf16) (x6 : Vec F S256x256 .f32) (x7 : Vec F S256x256 .f32) (x8 : Vec F S256x256 .bf16) (x9 : Vec F S256x256 .bf16) (hchk : k0_chk1 i (word i arg2 harg2 x2)) :
    Σ' (L10 : List (View.Piece (Elt F) S256x256 .f32)) (C11 : BufTy.Contents (Elt F) arg11.view.ty), { C12 : BufTy.Contents (Elt F) arg12.view.ty //
      ∀ (E : Set ℕ) (K : PUnit → sProp 𝕄),
        iprop(inputs c arg2 arg3 arg4 arg5 arg6 arg7 arg8 arg9 x2 x3 x4 x5 x6 x7 x8 x9 ∗ (∃ d, owns (c : Thread nD τ) arg10 fullShare d) ∗ (∃ d, owns (c : Thread nD τ) arg11 fullShare d) ∗ (∃ d, owns (c : Thread nD τ) arg12 fullShare d)
            ∗ (iprop(inputs c arg2 arg3 arg4 arg5 arg6 arg7 arg8 arg9 x2 x3 x4 x5 x6 x7 x8 x9 ∗ (∃ f, arg10.view.loc (c : Thread nD τ) ↦[arg10.view.set]{fullShare} arg10.view.writes (Elt F) f L10)
              ∗ (arg11.view.loc (c : Thread nD τ) ↦[arg11.view.set]{fullShare} C11) ∗ (arg12.view.loc (c : Thread nD τ) ↦[arg12.view.set]{fullShare} C12)) -∗ K ⟨⟩))
          ⊢ wp frame (wpE (defs₀ (F := F)) Variants.none c none) E (cc0_sb_bwd_l0 i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_sb_bwd_l0_eq_skeleton]; unfold cc0_sb_bwd_l0_skel
    unfold inputs owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | exact hchk)
    sl_step
    iapply Hk
    isplitl [H2 H3 H4 H5 H6 H7 H8 H9]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]; · iexact H11
    iexact H12

set_option maxHeartbeats 2000000 in
/-- The body at a later block: it adds to what the accumulators of dk and dv hold. -/
noncomputable def runB (c : Dev nD) (i : grid0.Coords) (arg2 : Memref sig .tc .smem S2x32 .i32) (harg2 : arg2.IsWhole) (arg3 : Memref sig .tc .vmem S256x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x256 .f32) (harg10 : arg10.IsWhole) (arg11 : Memref sig .tc .vmem S8192x256 .f32) (harg11 : arg11.IsWhole) (arg12 : Memref sig .tc .vmem S8192x256 .f32) (harg12 : arg12.IsWhole) (hc0 : ¬ ((Scalar.cmpi .ne (Scalar.extui (Scalar.cmpi .eq (BitVec.ofNat 32 (i 1).val) 0#32)) 0#32 : BitVec 1) = 1#1))
    (x2 : Vec F S2x32 .i32) (x3 : Vec F S256x256 .bf16) (x4 : Vec F S8192x256 .bf16) (x5 : Vec F S8192x256 .bf16) (x6 : Vec F S256x256 .f32) (x7 : Vec F S256x256 .f32) (x8 : Vec F S256x256 .bf16) (x9 : Vec F S256x256 .bf16) (hchk : k0_chk1 i (word i arg2 harg2 x2))
    (d11 d12 : Vec F S8192x256 .f32) :
    Σ' (L10 : List (View.Piece (Elt F) S256x256 .f32)) (C11 : BufTy.Contents (Elt F) arg11.view.ty), { C12 : BufTy.Contents (Elt F) arg12.view.ty //
      ∀ (E : Set ℕ) (K : PUnit → sProp 𝕄),
        iprop(inputs c arg2 arg3 arg4 arg5 arg6 arg7 arg8 arg9 x2 x3 x4 x5 x6 x7 x8 x9 ∗ (∃ d, owns (c : Thread nD τ) arg10 fullShare d) ∗ owns (c : Thread nD τ) arg11 fullShare d11 ∗ owns (c : Thread nD τ) arg12 fullShare d12
            ∗ (iprop(inputs c arg2 arg3 arg4 arg5 arg6 arg7 arg8 arg9 x2 x3 x4 x5 x6 x7 x8 x9 ∗ (∃ f, arg10.view.loc (c : Thread nD τ) ↦[arg10.view.set]{fullShare} arg10.view.writes (Elt F) f L10)
              ∗ (arg11.view.loc (c : Thread nD τ) ↦[arg11.view.set]{fullShare} C11) ∗ (arg12.view.loc (c : Thread nD τ) ↦[arg12.view.set]{fullShare} C12)) -∗ K ⟨⟩))
          ⊢ wp frame (wpE (defs₀ (F := F)) Variants.none c none) E (cc0_sb_bwd_l0 i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_sb_bwd_l0_eq_skeleton]; unfold cc0_sb_bwd_l0_skel
    unfold inputs owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    obtain rfl := harg11.eq_unread hf11; obtain rfl := harg12.eq_unread hf12
    sl_exec (disch := first | sl_exact hc0 | exact hchk)
    sl_step
    iapply Hk
    isplitl [H2 H3 H4 H5 H6 H7 H8 H9]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]; · iexact H11
    iexact H12

end Cert.SbIdeal.Run
-- ==== Proof.Sb.Words.lean ====
module

public import proofs.«01_k».proof.Proof.Sb.Body
public import Idealize.ShloMosaic.Lib.WholeRead
public import Idealize.ShloMosaic.Lib.Pipeline.ValueKit
public import Idealize.ShloMosaic.Lib.StableHlo.ReadAt

@[expose] public section

set_option maxRecDepth 16384

noncomputable section

namespace Cert.SbIdeal.Run

open Idealize.ShloMosaic Idealize.ShloMosaic.TcCoe Idealize.ShloMosaic.Tactic
open Idealize.SL Idealize.SL.Sem
open Cert.SbIdeal.Gen

variable {F : FTy → Type} [FloatOps F]
variable (m : (ℓ : Loc nD τ sig) → Buf (Elt F) ℓ)

/-- Each entry of the table of block counts is the number of its column. -/
theorem table_at (c : Dev nD) (t : Fin cfg0.N) (x : S2x32.Idx) : iblk m c 0 t x = BitVec.ofNat 32 (x 1).val := by
  have e : ∀ t : Fin cfg0.N, win0_0.index t = ![0, 0] := by decide +kernel
  blk_simp [iblk]
  unfold V
  after_reads_at
  refine congrArg (fun y : S2x32.Idx => BitVec.ofNat 32 (y 1).val) ?_
  blk_ext [e]

/-- The word the body reads at a point is the number of the point's block. -/
theorem word_at (c : Dev nD) (t : Fin cfg0.N) (h : (st0_0 t).IsWhole) :
    word (F := F) (grid0.coords t) (st0_0 t) h (iblk m c 0 t) = BitVec.ofNat 32 (grid0.coords t 1).val := by
  unfold word
  rw [h.readAt_unread, table_at]
  generalize grid0.coords t = i
  revert i
  decide +kernel

/-- Every access of the body at a point is in range. -/
theorem chk_at (c : Dev nD) (t : Fin cfg0.N) (h : (st0_0 t).IsWhole) :
    k0_chk1 (grid0.coords t) (word (F := F) (grid0.coords t) (st0_0 t) h (iblk m c 0 t)) := by
  rw [word_at]; exact chk_all _

end Cert.SbIdeal.Run
-- ==== Proof.Sb.Launch.lean ====
module

public import proofs.«01_k».proof.Proof.Sb.Words

@[expose] public section

set_option maxRecDepth 16384

noncomputable section

namespace Cert.SbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The question the body asks before it clears the accumulators: is this the first block of its column group. -/
theorem first_iff : ∀ t : Fin cfg0.N, ((Scalar.cmpi .ne (Scalar.extui (Scalar.cmpi .eq (BitVec.ofNat 32 (grid0.coords t 1).val) 0#32)) 0#32 : BitVec 1) = 1#1 ↔ t.val % 32 = 0) := by decide +kernel

/-- The body's run at the first block of a column group. -/
abbrev atFirst (c : Dev nD) (t : Fin cfg0.N) (h : t.val % 32 = 0) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) ((first_iff t).mpr h) (iblk m c 0 t) (iblk m c 1 t) (iblk m c 2 t) (iblk m c 3 t) (iblk m c 4 t) (iblk m c 5 t) (iblk m c 6 t) (iblk m c 7 t) (chk_at m c t _)

/-- The body's run at a later block, over what the accumulators held. -/
abbrev atLater (c : Dev nD) (t : Fin cfg0.N) (h : ¬ t.val % 32 = 0) (d : Vec F S8192x256 .f32 × Vec F S8192x256 .f32) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (fun e => h ((first_iff t).mp e)) (iblk m c 0 t) (iblk m c 1 t) (iblk m c 2 t) (iblk m c 3 t) (iblk m c 4 t) (iblk m c 5 t) (iblk m c 6 t) (iblk m c 7 t) (chk_at m c t _) d.1 d.2

/-- What the accumulators of dk and dv hold after the point, given what they held before. -/
def accStep (c : Dev nD) (t : Fin cfg0.N) (d : Vec F S8192x256 .f32 × Vec F S8192x256 .f32) : Vec F S8192x256 .f32 × Vec F S8192x256 .f32 :=
  if h : t.val % 32 = 0 then ((st0_9 t).view.read (Elt F) (atFirst m c t h).2.1, (st0_10 t).view.read (Elt F) (atFirst m c t h).2.2.1)
  else ((st0_9 t).view.read (Elt F) (atLater m c t h d).2.1, (st0_10 t).view.read (Elt F) (atLater m c t h d).2.2.1)

/-- What the accumulators hold after point `n`. -/
def acc (c : Dev nD) : (n : ℕ) → n < cfg0.N → Vec F S8192x256 .f32 × Vec F S8192x256 .f32
  | 0, h => accStep m c ⟨0, h⟩ (k0_pay194, k0_pay195)
  | n + 1, h => accStep m c ⟨n + 1, h⟩ (acc c n (Nat.lt_of_succ_lt h))

/-- The block of dq the body leaves at the point, given what the accumulators held before. -/
def dqStep (c : Dev nD) (t : Fin cfg0.N) (d : Vec F S8192x256 .f32 × Vec F S8192x256 .f32) : Vec F S256x256 .f32 :=
  if h : t.val % 32 = 0 then (st0_8 t).view.read (Elt F) ((st0_8 t).view.writes (Elt F) (st0_8 t).view.junk (atFirst m c t h).1)
  else (st0_8 t).view.read (Elt F) ((st0_8 t).view.writes (Elt F) (st0_8 t).view.junk (atLater m c t h d).1)

/-- What the accumulators held before point `n`. -/
def accBefore (c : Dev nD) : (n : ℕ) → n < cfg0.N → Vec F S8192x256 .f32 × Vec F S8192x256 .f32
  | 0, _ => (k0_pay194, k0_pay195)
  | n + 1, h => acc m c n (Nat.lt_of_succ_lt h)

theorem acc_eq (c : Dev nD) (t : Fin cfg0.N) : acc m c t.val t.isLt = accStep m c t (accBefore m c t.val t.isLt) := by
  obtain ⟨n, hn⟩ := t
  cases n <;> rfl

/-- The store of dq covers its block, at the first block of a column group. -/
theorem coverA (c : Dev nD) (t : Fin cfg0.N) (h : t.val % 32 = 0) (y : S256x256.Idx) : ∃ pc ∈ (atFirst m c t h).1, y ∈ pc.1.set :=
  View.cover_of_tiledL (atFirst m c t h).1 S256x256.size (by sl_kernel_rfl) y

/-- The store of dq covers its block, at a later block. -/
theorem coverB (c : Dev nD) (t : Fin cfg0.N) (h : ¬ t.val % 32 = 0) (d : Vec F S8192x256 .f32 × Vec F S8192x256 .f32) (y : S256x256.Idx) :
    ∃ pc ∈ (atLater m c t h d).1, y ∈ pc.1.set :=
  View.cover_of_tiledL (atLater m c t h d).1 S256x256.size (by sl_kernel_rfl) y

/-- The proof data: each input's buffer at its block, dq's at the point's block, the accumulators' at their sums so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqStep m c t (accBefore m c t.val t.isLt)
    | ⟨9, _⟩ => (acc m c t.val t.isLt).1
    | ⟨10, _⟩ => (acc m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = dqStep m c t (accBefore m c t.val t.isLt) := by dsimp only [dats]
theorem after9 (c : Dev nD) (t : Fin cfg0.N) : (dats m 0 c).after 9 t = (acc m c t.val t.isLt).1 := by dsimp only [dats]
theorem after10 (c : Dev nD) (t : Fin cfg0.N) : (dats m 0 c).after 10 t = (acc m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- At a later block the accumulator holds what the point before left. -/
theorem before9 (c : Dev nD) (t : Fin cfg0.N) (h : ¬ t.val % 32 = 0) (d) :
    (dats m 0 c).before 9 t d = (accBefore m c t.val t.isLt).1 := by
  have h0 : t.val ≠ 0 := fun e => h (by rw [e])
  rw [Dat.before_out_kept _ 9 rfl t h0 (by
      refine Bool.eq_false_iff.mpr fun e => h ?_
      have := (flush0_9 _).mp e
      dsimp only at this; omega) (fun _ => rfl) (fun _ _ => rfl), after9]
  obtain ⟨n, hn⟩ := t
  cases n with
  | zero => exact absurd rfl h0
  | succ n => rfl

/-- At a later block the accumulator holds what the point before left. -/
theorem before10 (c : Dev nD) (t : Fin cfg0.N) (h : ¬ t.val % 32 = 0) (d) :
    (dats m 0 c).before 10 t d = (accBefore m c t.val t.isLt).2 := by
  have h0 : t.val ≠ 0 := fun e => h (by rw [e])
  rw [Dat.before_out_kept _ 10 rfl t h0 (by
      refine Bool.eq_false_iff.mpr fun e => h ?_
      have := (flush0_10 _).mp e
      dsimp only at this; omega) (fun _ => rfl) (fun _ _ => rfl), after10]
  obtain ⟨n, hn⟩ := t
  cases n with
  | zero => exact absurd rfl h0
  | succ n => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, after0, after1, after2, after3, after4, after5, after6,
    after7, after8, after9, after10, acc_eq]
  rw [show (dats m 0 c).Φ t.succ = (dats m 0 c).Φ t.castSucc from rfl,
    show (dats m 0 c).owesAt () t.succ = (dats m 0 c).owesAt () t.castSucc from rfl]
  by_cases h : t.val % 32 = 0
  · unfold dqStep accStep
    simp only [dif_pos h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (atFirst m c t h).2.2.2 Set.univ _
    isplitl [H0 H1 H2 H3 H4 H5 H6 H7]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    unfold inputs
    iintro ⟨⟨H0, H1, H2, H3, H4, H5, H6, H7⟩, ⟨%e8, H8⟩, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA m c t h)
    isplitl [H9]
    · unfold owns; iexists _; isplitr
      swap; · iexact H9
      ipureintro; rfl
    unfold owns; iexists _; isplitr
    swap; · iexact H10
    ipureintro; rfl
  · simp only [before9 m c t h, before10 m c t h]
    unfold dqStep accStep
    simp only [dif_neg h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (atLater m c t h (accBefore m c t.val t.isLt)).2.2.2 Set.univ _
    isplitl [H0 H1 H2 H3 H4 H5 H6 H7]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexact H9
    isplitl [H10]; · iexact H10
    unfold inputs
    iintro ⟨⟨H0, H1, H2, H3, H4, H5, H6, H7⟩, ⟨%e8, H8⟩, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB m c t h _)
    isplitl [H9]
    · unfold owns; iexists _; isplitr
      swap; · iexact H9
      ipureintro; rfl
    unfold owns; iexists _; isplitr
    swap; · iexact H10
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run: it terminates with every array at what the pipeline computes of the proof data, and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arrays the run leaves. -/
theorem run_main : θ_run defs (onTc (τ := τ) (main (F := F))) (s₀ m ρ) (Pipeline.FramePost cfgs (dats m) 0 (V m)) :=
  (θ_run defs _ _).mono (fun _ h => h.1) (run_all m ρ)

/-- The frame: the arguments end as they were and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_all m ρ))

end Cert.SbIdeal.Run
-- ==== Proof.Sb.Chain.lean ====
module

public import proofs.«01_k».proof.Proof.Sb.Launch

@[expose] public section

set_option maxRecDepth 16384

noncomputable section

namespace Cert.SbIdeal.Run

open Idealize.ShloMosaic Idealize.ShloMosaic.TcCoe Idealize.ShloMosaic.Tactic
open Cert.SbIdeal.Gen

variable {F : FTy → Type} [FloatOps F]

/-- What one step of the gradient takes: a pair of heads, a block of 256 queries and a block of 128 keys. -/
structure Ch (F : FTy → Type) where
  la : IVec S1x128 1
  ul : FVec F S256x256 .bf16
  ue : FVec F S256x256 .bf16
  q : FVec F S256x128 .bf16
  d : FVec F S256x128 .bf16
  kb : Vec F S128x128 .bf16
  vb : Vec F S128x128 .bf16
  ra : FVec F S256x1 .f32
  rb : FVec F S256x1 .f32
  msk : Option (IVec S256x256 1)

/-- What the steps over the key blocks carry for a pair of heads: the sums so far of weight times its gradient, and the gradient of the queries. -/
abbrev St (F : FTy → Type) := FVec F S256x1 .f32 × FVec F S256x1 .f32 × FVec F S256x128 .f32

/-- Zero outside the mask, where there is one. -/
def keep (mk : Option (IVec S256x256 1)) (x : FVec F S256x256 .f32) : FVec F S256x256 .f32 :=
  match mk with
  | none => x
  | some w => select w x (broadcast S256x256 (Scalar.ofBits .f32 0x00000000#32))

/-- A column for each of the two heads, spread over the head's 128 keys. -/
def halves (a b : FVec F S256x1 .f32) : FVec F S256x256 .f32 :=
  concatenate S256x256 1 [⟨S256x128, broadcastTo S256x128 (shapeCast S256x1 a shapeCasts_S256x1_S256x1) broadcasts_S256x1_S256x128⟩,
    ⟨S256x128, broadcastTo S256x128 (shapeCast S256x1 b shapeCasts_S256x1_S256x1) broadcasts_S256x1_S256x128⟩] concatenates_S256x128_S256x128_S256x256_d1

/-- The product with a table of 256 by 256. -/
def tri (x : FVec F S256x256 .f32) (u : FVec F S256x256 .bf16) : FVec F S256x256 .f32 :=
  matmul dot_S256x256_S256x256_S256x256_1_0_0_1_n_n none (truncf .bf16 x bitsLt_bf16_f32) u (constant S256x256 .f32 0x00000000#32)

namespace Ch

variable (x : Ch F)

def z : FVec F S256x256 .f32 := k0_pay3 x.la x.q x.kb
def dw : FVec F S256x256 .f32 := k0_pay4 x.la x.d x.vb
def ls : FVec F S256x256 .f32 := k0_pay18 x.z
def lm : FVec F S256x256 .f32 := keep x.msk (k0_pay17 x.z)
def w : FVec F S256x256 .f32 := keep x.msk (exp (addf (addf x.ls (tri x.lm x.ul)) (halves x.ra x.rb)))
def g : FVec F S256x256 .f32 := mulf x.w x.dw
def be : FVec F S256x256 .f32 := exp x.ls
def cb : FVec F S256x256 .f32 := tri x.g x.ue
/-- The gradient of the scores. -/
def dz (st : St F) : FVec F S256x256 .f32 :=
  keep x.msk (subf (mulf x.g (subf (broadcast S256x256 (Scalar.ofBits .f32 0x3F800000#32)) x.be)) (mulf x.be (addf x.cb (halves st.1 st.2.1))))
/-- The last column of a head's keys. -/
def lastA (y : FVec F S256x256 .f32) : FVec F S256x1 .f32 := extractStridedSlice S256x1 ![0, 127] y slices_S256x256_o0_127_S256x1
def lastB (y : FVec F S256x256 .f32) : FVec F S256x1 .f32 := extractStridedSlice S256x1 ![0, 255] y slices_S256x256_o0_255_S256x1
/-- What is carried on to the next block. -/
def next (st : St F) : St F :=
  (addf (addf st.1 (lastA x.cb)) (lastA x.g), addf (addf st.2.1 (lastB x.cb)) (lastB x.g),
    addf st.2.2 (matmul dot_S256x256_S256x128_S256x128_1_0_0_1_n_n none (truncf .bf16 (x.dz st) bitsLt_bf16_f32) (k0_pay2 x.la x.kb)
      (constant S256x128 .f32 0x00000000#32)))
/-- The rows of each head out of a product over both. -/
def fold (old : Vec F S128x128 .f32) (y : FVec F S256x256 .f32) (b : FVec F S256x128 .bf16) : FVec F S128x128 .f32 :=
  addf (shapeCast S128x128 old shapeCasts_S128x128_S128x128)
    (select (broadcastTo S128x128 (shapeCast S1x128 x.la shapeCasts_S1x128_S1x128) broadcasts_S1x128_S128x128)
      (extractStridedSlice S128x128 ![0, 0] (matmul dot_S256x256_S256x128_S256x128_0_0_1_1_n_n none (truncf .bf16 y bitsLt_bf16_f32) b
        (constant S256x128 .f32 0x00000000#32)) slices_S256x128_o0_0_S128x128)
      (extractStridedSlice S128x128 ![128, 0] (matmul dot_S256x256_S256x128_S256x128_0_0_1_1_n_n none (truncf .bf16 y bitsLt_bf16_f32) b
        (constant S256x128 .f32 0x00000000#32)) slices_S256x128_o128_0_S128x128))
def dk (st : St F) (old : Vec F S128x128 .f32) : FVec F S128x128 .f32 := x.fold old (x.dz st) x.q
def dv (old : Vec F S128x128 .f32) : FVec F S128x128 .f32 := x.fold old x.w x.d

end Ch

/-- What the body reads before the loop over key blocks. -/
structure Pre (F : FTy → Type) where
  la : IVec S1x128 1
  lq : IVec S256x128 32
  ul : FVec F S256x256 .bf16
  ue : FVec F S256x256 .bf16
  q : Fin 2 → FVec F S256x128 .bf16
  d : Fin 2 → FVec F S256x128 .bf16
  r : Fin 2 → FVec F S256x128 .f32

/-- The step of pair `p` at key block `j`, whose keys and values are `kb` and `vb`. -/
def Pre.ch (a : Pre F) (p : Fin 2) (j : BitVec 32) (mk : Option (IVec S256x256 1)) (kb vb : Vec F S128x128 .bf16) : Ch F :=
  ⟨a.la, a.ul, a.ue, a.q p, a.d p, kb, vb, k0_pay20 a.lq (a.r p) j, k0_pay21 a.lq (a.r p) j, mk⟩

/-- The carried values of the two pairs, as the loop carries them. -/
abbrev St2 (F : FTy → Type) := FVec F S256x1 .f32 × FVec F S256x1 .f32 × FVec F S256x128 .f32 × FVec F S256x1 .f32 × FVec F S256x1 .f32 × FVec F S256x128 .f32
def St2.fst (s : St2 F) : St F := (s.1, s.2.1, s.2.2.1)
def St2.snd (s : St2 F) : St F := s.2.2.2
def St2.mk (a b : St F) : St2 F := (a.1, a.2.1, a.2.2, b)

/-- One store into an accumulator: the block there, taken through `f`. -/
def put (arg : Memref sig .tc .vmem S8192x256 .f32) (G : BufTy.Contents (Elt F) arg.view.ty) (off : Fin 2 → ℕ)
    (h : ∀ a, off a + S128x128.size a ≤ S8192x256.size a) (f : Vec F S128x128 .f32 → FVec F S128x128 .f32)
    (L : List (View.Piece (Elt F) S8192x256 .f32)) : List (View.Piece (Elt F) S8192x256 .f32) :=
  ⟨Rect.unit (s := S8192x256) off S128x128.size h,
    f (View.readAt (Elt F) arg.view (Rect.unit (s := S8192x256) off S128x128.size h).toLoadRect (arg.view.writes (Elt F) G L))⟩ :: L

/-- The four steps of a pair of key blocks: where the blocks lie, the steps there. -/
structure Four (F : FTy → Type) where
  off : Fin 2 → Fin 2 → (Fin 2 → ℕ)
  inb : ∀ d p a, off d p a + S128x128.size a ≤ S8192x256.size a
  ch : Fin 2 → Fin 2 → Ch F

/-- The carried value of pair `p` before its step at the second block. -/
def Four.mid (x : Four F) (p : Fin 2) (st : St F) : St F := (x.ch 0 p).next st
/-- The carried value after both blocks. -/
def Four.out (x : Four F) (p : Fin 2) (st : St F) : St F := (x.ch 1 p).next (x.mid p st)
/-- The stores into the gradient of the keys. -/
def Four.dk (x : Four F) (arg : Memref sig .tc .vmem S8192x256 .f32) (G : BufTy.Contents (Elt F) arg.view.ty) (s : Fin 2 → St F)
    (L : List (View.Piece (Elt F) S8192x256 .f32)) : List (View.Piece (Elt F) S8192x256 .f32) :=
  put arg G (x.off 1 1) (x.inb 1 1) ((x.ch 1 1).dk (x.mid 1 (s 1))) <| put arg G (x.off 1 0) (x.inb 1 0) ((x.ch 1 0).dk (x.mid 0 (s 0))) <|
    put arg G (x.off 0 1) (x.inb 0 1) ((x.ch 0 1).dk (s 1)) <| put arg G (x.off 0 0) (x.inb 0 0) ((x.ch 0 0).dk (s 0)) L
/-- The stores into the gradient of the values. -/
def Four.dv (x : Four F) (arg : Memref sig .tc .vmem S8192x256 .f32) (G : BufTy.Contents (Elt F) arg.view.ty)
    (L : List (View.Piece (Elt F) S8192x256 .f32)) : List (View.Piece (Elt F) S8192x256 .f32) :=
  put arg G (x.off 1 1) (x.inb 1 1) (x.ch 1 1).dv <| put arg G (x.off 1 0) (x.inb 1 0) (x.ch 1 0).dv <|
    put arg G (x.off 0 1) (x.inb 0 1) (x.ch 0 1).dv <| put arg G (x.off 0 0) (x.inb 0 0) (x.ch 0 0).dv L

/-- Two values chosen by a head pair. -/
def pick {α : Type} (a b : α) (p : Fin 2) : α := match p with | 0 => a | 1 => b

/-- The block of a key or value array at given offsets. -/
def blockAt (arg : Memref sig .tc .vmem S8192x256 .bf16) (X : BufTy.Contents (Elt F) arg.view.ty) (off : Fin 2 → ℕ)
    (h : ∀ a, off a + S128x128.size a ≤ S8192x256.size a) : Vec F S128x128 .bf16 :=
  View.readAt (Elt F) arg.view (Rect.unit (s := S8192x256) off S128x128.size h).toLoadRect X

/-- The number of a key block in a trip of the loop. -/
def tripBlk (i : grid0.Coords) (w : BitVec 32) (k : ℕ) (d : Fin 2) : BitVec 32 :=
  Scalar.addi (Scalar.muli 2#32 (Scf.iv (Scalar.subi (BitVec.ofNat 32 (i 1).val) w) 1#32 k)) (BitVec.ofNat 32 d.val)

theorem trip_inb (i : grid0.Coords) (w : BitVec 32) (hw : k0_chk1 i w) (k : Fin (k0_t1_loop i w).trips) (d p : Fin 2) (a : Fin 2) :
    pick (k0_off2 i w k (BitVec.ofNat 32 d.val)) (k0_off3 i w k (BitVec.ofNat 32 d.val)) p a + S128x128.size a ≤ S8192x256.size a := by
  match p with
  | 0 => exact k0_off2_inb i w hw k d a
  | 1 => exact k0_off3_inb i w hw k d a

/-- The steps of trip `k` of the loop over the key blocks before the query block. -/
def tripFour (a : Pre F) (i : grid0.Coords) (w : BitVec 32) (hw : k0_chk1 i w) (k : Fin (k0_t1_loop i w).trips)
    (arg4 : Memref sig .tc .vmem S8192x256 .bf16) (X4 : BufTy.Contents (Elt F) arg4.view.ty)
    (arg5 : Memref sig .tc .vmem S8192x256 .bf16) (X5 : BufTy.Contents (Elt F) arg5.view.ty) : Four F where
  off d p := pick (k0_off2 i w k (BitVec.ofNat 32 d.val)) (k0_off3 i w k (BitVec.ofNat 32 d.val)) p
  inb d p := trip_inb i w hw k d p
  ch d p := a.ch p (tripBlk i w k.val d) none (blockAt arg4 X4 _ (trip_inb i w hw k d p)) (blockAt arg5 X5 _ (trip_inb i w hw k d p))

section Trip

variable (a : Pre F) (𝒱 : Variants) (c : Dev nD) (bd : Option 𝒱.V) (i : grid0.Coords) (arg2 : Memref sig .tc .smem S2x32 .i32) (harg2 : arg2.IsWhole) (arg3 : Memref sig .tc .vmem S256x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x256 .f32) (harg10 : arg10.IsWhole) (arg11 : Memref sig .tc .vmem S8192x256 .f32) (harg11 : arg11.IsWhole) (arg12 : Memref sig .tc .vmem S8192x256 .f32) (harg12 : arg12.IsWhole) (arg1 : BitVec 32) (v23 : FVec F S256x1 .f32) (v24 : FVec F S256x1 .f32) (v25 : FVec F S256x128 .f32) (v26 : FVec F S256x1 .f32) (v27 : FVec F S256x1 .f32) (v28 : FVec F S256x128 .f32) (v31 : Elt F .i32) (k0_hw1 : k0_chk1 i v31) (X_arg4 : BufTy.Contents (Elt F) arg4.view.ty) (X_arg5 : BufTy.Contents (Elt F) arg5.view.ty) (k : Fin (k0_t1_loop i v31).trips)
  (acc : St2 F) (f11 : BufTy.Contents (Elt F) arg11.view.ty) (f12 : BufTy.Contents (Elt F) arg12.view.ty)

/-- What a trip of the loop carries on. -/
theorem tripR_eq : tripR_k0_t1 (F := F) 𝒱 c bd i arg2 harg2 arg3 harg3 arg4 harg4 arg5 harg5 arg6 harg6 arg7 harg7 arg8 harg8 arg9 harg9 arg10 harg10 arg11 harg11 arg12 harg12 arg1 a.ul a.ue a.la a.lq (a.q 0) (a.q 1) (a.d 0) (a.d 1) (a.r 0) (a.r 1) v23 v24 v25 v26 v27 v28 v31 k0_hw1 (Scalar.subi (BitVec.ofNat 32 (i 1).val) v31) X_arg4 X_arg5 k acc f11 f12
    = St2.mk ((tripFour a i v31 k0_hw1 k arg4 X_arg4 arg5 X_arg5).out 0 (St2.fst acc)) ((tripFour a i v31 k0_hw1 k arg4 X_arg4 arg5 X_arg5).out 1 (St2.snd acc)) := by
  unfold tripR_k0_t1 trip_k0_t1
  sl_kernel_rfl

/-- What a trip of the loop stores. -/
theorem tripL_eq : tripL_k0_t1 (F := F) 𝒱 c bd i arg2 harg2 arg3 harg3 arg4 harg4 arg5 harg5 arg6 harg6 arg7 harg7 arg8 harg8 arg9 harg9 arg10 harg10 arg11 harg11 arg12 harg12 arg1 a.ul a.ue a.la a.lq (a.q 0) (a.q 1) (a.d 0) (a.d 1) (a.r 0) (a.r 1) v23 v24 v25 v26 v27 v28 v31 k0_hw1 (Scalar.subi (BitVec.ofNat 32 (i 1).val) v31) X_arg4 X_arg5 k acc f11 f12
    = ((tripFour a i v31 k0_hw1 k arg4 X_arg4 arg5 X_arg5).dk arg11 f11 (pick (St2.fst acc) (St2.snd acc)) [],
      (tripFour a i v31 k0_hw1 k arg4 X_arg4 arg5 X_arg5).dv arg12 f12 []) := by
  unfold tripL_k0_t1 trip_k0_t1
  sl_kernel_rfl

end Trip

end Cert.SbIdeal.Run
-- ==== Proof.Sb.BodyEq.lean ====
module

public import proofs.«01_k».proof.Proof.Sb.Chain

@[expose] public section

set_option maxRecDepth 16384

noncomputable section

namespace Cert.SbIdeal.Run

open Idealize.ShloMosaic Idealize.ShloMosaic.TcCoe Idealize.ShloMosaic.Tactic
open Cert.SbIdeal.Gen

variable {F : FTy → Type} [FloatOps F]

variable (m : (ℓ : Loc nD τ sig) → Buf (Elt F) ℓ)

theorem wh0 (t : Fin cfg0.N) : (st0_0 t : Memref sig .tc .smem S2x32 .i32).IsWhole := hstage0_0 ((cfg0.slots t 0).cast nbuf0_0)
theorem wh1 (t : Fin cfg0.N) : (st0_1 t : Memref sig .tc .vmem S256x256 .bf16).IsWhole := hstage0_1 ((cfg0.slots t 1).cast nbuf0_1)
theorem wh2 (t : Fin cfg0.N) : (st0_2 t : Memref sig .tc .vmem S8192x256 .bf16).IsWhole := hstage0_2 ((cfg0.slots t 2).cast nbuf0_2)
theorem wh3 (t : Fin cfg0.N) : (st0_3 t : Memref sig .tc .vmem S8192x256 .bf16).IsWhole := hstage0_3 ((cfg0.slots t 3).cast nbuf0_3)
theorem wh4 (t : Fin cfg0.N) : (st0_4 t : Memref sig .tc .vmem S256x256 .f32).IsWhole := hstage0_4 ((cfg0.slots t 4).cast nbuf0_4)
theorem wh5 (t : Fin cfg0.N) : (st0_5 t : Memref sig .tc .vmem S256x256 .f32).IsWhole := hstage0_5 ((cfg0.slots t 5).cast nbuf0_5)
theorem wh6 (t : Fin cfg0.N) : (st0_6 t : Memref sig .tc .vmem S256x256 .bf16).IsWhole := hstage0_6 ((cfg0.slots t 6).cast nbuf0_6)
theorem wh7 (t : Fin cfg0.N) : (st0_7 t : Memref sig .tc .vmem S256x256 .bf16).IsWhole := hstage0_7 ((cfg0.slots t 7).cast nbuf0_7)
theorem wh8 (t : Fin cfg0.N) : (st0_8 t : Memref sig .tc .vmem S256x256 .f32).IsWhole := hstage0_8 ((cfg0.slots t 8).cast nbuf0_8)
theorem wh9 (t : Fin cfg0.N) : (st0_9 t : Memref sig .tc .vmem S8192x256 .f32).IsWhole := hstage0_9 ((cfg0.slots t 9).cast nbuf0_9)
theorem wh10 (t : Fin cfg0.N) : (st0_10 t : Memref sig .tc .vmem S8192x256 .f32).IsWhole := hstage0_10 ((cfg0.slots t 10).cast nbuf0_10)

/-- What the body reads at a point before the loop. -/
def pre (c : Dev nD) (t : Fin cfg0.N) : Pre F where
  la := k0_pay198
  lq := iota .tc S256x128 32 [1] iota_S256x128_d1_w32
  ul := k0_pay196 (View.readAt (Elt F) (st0_6 t).view (Rect.unit (s := S256x256) ![0, 0] S256x256.size inb_S256x256_S256x256_0_0).toLoadRect ((wh6 t).unread (iblk m c 6 t)))
  ue := k0_pay197 (View.readAt (Elt F) (st0_7 t).view (Rect.unit (s := S256x256) ![0, 0] S256x256.size inb_S256x256_S256x256_0_0).toLoadRect ((wh7 t).unread (iblk m c 7 t)))
  q := pick (k0_pay199 (View.readAt (Elt F) (st0_1 t).view (Rect.unit (s := S256x256) ![0, 0] S256x128.size inb_S256x256_S256x128_0_0).toLoadRect ((wh1 t).unread (iblk m c 1 t)))) (k0_pay200 (View.readAt (Elt F) (st0_1 t).view (Rect.unit (s := S256x256) ![0, 128] S256x128.size inb_S256x256_S256x128_0_128).toLoadRect ((wh1 t).unread (iblk m c 1 t))))
  d := pick (k0_pay201 (View.readAt (Elt F) (st0_5 t).view (Rect.unit (s := S256x256) ![0, 0] S256x128.size inb_S256x256_S256x128_0_0).toLoadRect ((wh5 t).unread (iblk m c 5 t)))) (k0_pay202 (View.readAt (Elt F) (st0_5 t).view (Rect.unit (s := S256x256) ![0, 128] S256x128.size inb_S256x256_S256x128_0_128).toLoadRect ((wh5 t).unread (iblk m c 5 t))))
  r := pick (k0_pay203 (View.readAt (Elt F) (st0_4 t).view (Rect.unit (s := S256x256) ![0, 0] S256x128.size inb_S256x256_S256x128_0_0).toLoadRect ((wh4 t).unread (iblk m c 4 t)))) (k0_pay204 (View.readAt (Elt F) (st0_4 t).view (Rect.unit (s := S256x256) ![0, 128] S256x128.size inb_S256x256_S256x128_0_128).toLoadRect ((wh4 t).unread (iblk m c 4 t))))

/-- Nothing summed yet. -/
def start : St2 F := (k0_pay205, k0_pay206, k0_pay207, k0_pay208, k0_pay209, k0_pay210)

/-- The word of the table at the point. -/
abbrev wordT (c : Dev nD) (t : Fin cfg0.N) : BitVec 32 := word (F := F) (grid0.coords t) (st0_0 t) (wh0 t) (iblk m c 0 t)

/-- The number of a key block on the diagonal. -/
def diagBlk (i : grid0.Coords) (d : Fin 2) : BitVec 32 := Scalar.addi (Scalar.muli (BitVec.ofNat 32 (i 1).val) 2#32) (BitVec.ofNat 32 d.val)

/-- The mask of a key block on the diagonal: the key comes before the query. -/
def diagMask (i : grid0.Coords) (d : Fin 2) : IVec S256x256 1 :=
  k0_pay235 (BitVec.ofNat 32 (i 1).val) (iota .tc S256x256 32 [0] iota_S256x256_d0_w32) (k0_pay234 (diagBlk i d))

theorem diag_inb (i : grid0.Coords) (d p : Fin 2) (a : Fin 2) :
    pick (k0_off6 i (BitVec.ofNat 32 d.val)) (k0_off7 i (BitVec.ofNat 32 d.val)) p a + S128x128.size a ≤ S8192x256.size a := by
  match p with
  | 0 => exact k0_off6_inb i d a
  | 1 => exact k0_off7_inb i d a

/-- The steps at the two key blocks on the diagonal. -/
def diagFour (a : Pre F) (i : grid0.Coords)
    (arg4 : Memref sig .tc .vmem S8192x256 .bf16) (X4 : BufTy.Contents (Elt F) arg4.view.ty)
    (arg5 : Memref sig .tc .vmem S8192x256 .bf16) (X5 : BufTy.Contents (Elt F) arg5.view.ty) : Four F where
  off d p := pick (k0_off6 i (BitVec.ofNat 32 d.val)) (k0_off7 i (BitVec.ofNat 32 d.val)) p
  inb d p := diag_inb i d p
  ch d p := a.ch p (diagBlk i d) (some (diagMask i d)) (blockAt arg4 X4 _ (diag_inb i d p)) (blockAt arg5 X5 _ (diag_inb i d p))

/-- The steps of a trip of the loop, at a point. -/
abbrev tripT (c : Dev nD) (t : Fin cfg0.N) (k : Fin (k0_t1_loop (grid0.coords t) (wordT m c t)).trips) : Four F :=
  tripFour (pre m c t) (grid0.coords t) (wordT m c t) (chk_at m c t _) k (st0_2 t) ((wh2 t).unread (iblk m c 2 t)) (st0_3 t) ((wh3 t).unread (iblk m c 3 t))

/-- The steps on the diagonal, at a point. -/
abbrev diagT (c : Dev nD) (t : Fin cfg0.N) : Four F :=
  diagFour (pre m c t) (grid0.coords t) (st0_2 t) ((wh2 t).unread (iblk m c 2 t)) (st0_3 t) ((wh3 t).unread (iblk m c 3 t))

/-- The loop over the key blocks before the query block: what it carries and has stored after `n` trips. -/
def loopT (c : Dev nD) (t : Fin cfg0.N) (G11 : BufTy.Contents (Elt F) (st0_9 t).view.ty) (G12 : BufTy.Contents (Elt F) (st0_10 t).view.ty) (n : ℕ) :
    St2 F × List (View.Piece (Elt F) S8192x256 .f32) × List (View.Piece (Elt F) S8192x256 .f32) :=
  st_k0_t1 (F := F) Variants.none c none (grid0.coords t) (st0_0 t) (wh0 t) (st0_1 t) (wh1 t) (st0_2 t) (wh2 t) (st0_3 t) (wh3 t) (st0_4 t) (wh4 t) (st0_5 t) (wh5 t) (st0_6 t) (wh6 t) (st0_7 t) (wh7 t) (st0_8 t) (wh8 t) (st0_9 t) (wh9 t) (st0_10 t) (wh10 t) (BitVec.ofNat 32 (grid0.coords t 1).val) (pre m c t).ul (pre m c t).ue (pre m c t).la (pre m c t).lq ((pre m c t).q 0) ((pre m c t).q 1) ((pre m c t).d 0) ((pre m c t).d 1) ((pre m c t).r 0) ((pre m c t).r 1) k0_pay205 k0_pay206 k0_pay207 k0_pay208 k0_pay209 k0_pay210 (wordT m c t) (chk_at m c t _) (Scalar.subi (BitVec.ofNat 32 (grid0.coords t 1).val) (wordT m c t)) ((wh2 t).unread (iblk m c 2 t)) ((wh3 t).unread (iblk m c 3 t)) G11 G12 start n

/-- The second loop, which makes no trip. -/
def restT (c : Dev nD) (t : Fin cfg0.N) (G11 : BufTy.Contents (Elt F) (st0_9 t).view.ty) (G12 : BufTy.Contents (Elt F) (st0_10 t).view.ty) (init : St2 F) (n : ℕ) :
    St2 F × List (View.Piece (Elt F) S8192x256 .f32) × List (View.Piece (Elt F) S8192x256 .f32) :=
  st_k0_t2 (F := F) Variants.none c none (grid0.coords t) (st0_0 t) (wh0 t) (st0_1 t) (wh1 t) (st0_2 t) (wh2 t) (st0_3 t) (wh3 t) (st0_4 t) (wh4 t) (st0_5 t) (wh5 t) (st0_6 t) (wh6 t) (st0_7 t) (wh7 t) (st0_8 t) (wh8 t) (st0_9 t) (wh9 t) (st0_10 t) (wh10 t) (BitVec.ofNat 32 (grid0.coords t 1).val) (pre m c t).ul (pre m c t).ue (pre m c t).la (pre m c t).lq ((pre m c t).q 0) ((pre m c t).q 1) ((pre m c t).d 0) ((pre m c t).d 1) ((pre m c t).r 0) ((pre m c t).r 1) k0_pay205 k0_pay206 k0_pay207 k0_pay208 k0_pay209 k0_pay210 (wordT m c t) (chk_at m c t _) (k0_t1_loop (grid0.coords t) (wordT m c t)).ub ((wh2 t).unread (iblk m c 2 t)) ((wh3 t).unread (iblk m c 3 t)) G11 G12 init n

/-- The loop's trips at a point. -/
abbrev tripsT (c : Dev nD) (t : Fin cfg0.N) : ℕ := (k0_t1_loop (grid0.coords t) (wordT m c t)).trips

/-- The loop, whole. -/
abbrev loopAll (c : Dev nD) (t : Fin cfg0.N) (G11 : BufTy.Contents (Elt F) (st0_9 t).view.ty) (G12 : BufTy.Contents (Elt F) (st0_10 t).view.ty) :
    St2 F × List (View.Piece (Elt F) S8192x256 .f32) × List (View.Piece (Elt F) S8192x256 .f32) := loopT m c t G11 G12 (tripsT m c t)

/-- Both loops. -/
abbrev restAll (c : Dev nD) (t : Fin cfg0.N) (G11 : BufTy.Contents (Elt F) (st0_9 t).view.ty) (G12 : BufTy.Contents (Elt F) (st0_10 t).view.ty) :
    St2 F × List (View.Piece (Elt F) S8192x256 .f32) × List (View.Piece (Elt F) S8192x256 .f32) :=
  restT m c t ((st0_9 t).view.writes (Elt F) G11 (loopAll m c t G11 G12).2.1) ((st0_10 t).view.writes (Elt F) G12 (loopAll m c t G11 G12).2.2)
    (loopAll m c t G11 G12).1 (k0_t2_loop (grid0.coords t) (wordT m c t)).trips

/-- The block of dq the body stores, of what the loop carried out. -/
abbrev dqOut (c : Dev nD) (t : Fin cfg0.N) (s : St2 F) : FVec F S256x256 .f32 :=
  k0_pay1 ((diagT m c t).out 0 (St2.fst s)).2.2 ((diagT m c t).out 1 (St2.snd s)).2.2

/-- The accumulators cleared. -/
abbrev zero11 (t : Fin cfg0.N) : List (View.Piece (Elt F) S8192x256 .f32) := [⟨Rect.unit (s := S8192x256) ![0, 0] S8192x256.size inb_S8192x256_S8192x256_0_0, k0_pay194⟩]
abbrev zero12 (t : Fin cfg0.N) : List (View.Piece (Elt F) S8192x256 .f32) := [⟨Rect.unit (s := S8192x256) ![0, 0] S8192x256.size inb_S8192x256_S8192x256_0_0, k0_pay195⟩]

/-- The second loop makes no trip at any point. -/
theorem no_rest (c : Dev nD) (t : Fin cfg0.N) : (k0_t2_loop (grid0.coords t) (wordT m c t)).trips = 0 := by
  unfold wordT; rw [word_at]
  generalize grid0.coords t = i
  revert i
  decide +kernel

/-- The first makes one for each block of queries before the point's. -/
theorem trips_eq (c : Dev nD) (t : Fin cfg0.N) : tripsT m c t = (grid0.coords t 1).val := by
  unfold tripsT wordT; rw [word_at]
  generalize grid0.coords t = i
  revert i
  decide +kernel

theorem restT_zero (c : Dev nD) (t : Fin cfg0.N) (G11 : BufTy.Contents (Elt F) (st0_9 t).view.ty) (G12 : BufTy.Contents (Elt F) (st0_10 t).view.ty) (init : St2 F) :
    restT m c t G11 G12 init 0 = (init, [], []) := rfl

theorem restAll_eq (c : Dev nD) (t : Fin cfg0.N) (G11 : BufTy.Contents (Elt F) (st0_9 t).view.ty) (G12 : BufTy.Contents (Elt F) (st0_10 t).view.ty) :
    restAll m c t G11 G12 = ((loopAll m c t G11 G12).1, [], []) := by
  unfold restAll; rw [no_rest, restT_zero]

/-- The accumulators' contents as they are found at the first block: cleared. -/
abbrev clear11 (t : Fin cfg0.N) : BufTy.Contents (Elt F) (st0_9 t).view.ty := (st0_9 t).view.writes (Elt F) (st0_9 t).view.junk (zero11 t)
abbrev clear12 (t : Fin cfg0.N) : BufTy.Contents (Elt F) (st0_10 t).view.ty := (st0_10 t).view.writes (Elt F) (st0_10 t).view.junk (zero12 t)

/-- Both loops, at the first block. -/
abbrev restFirst (c : Dev nD) (t : Fin cfg0.N) :
    St2 F × List (View.Piece (Elt F) S8192x256 .f32) × List (View.Piece (Elt F) S8192x256 .f32) :=
  restT m c t ((st0_9 t).view.writes (Elt F) (st0_9 t).view.junk ((loopAll m c t (clear11 t) (clear12 t)).2.1 ++ zero11 t))
    ((st0_10 t).view.writes (Elt F) (st0_10 t).view.junk ((loopAll m c t (clear11 t) (clear12 t)).2.2 ++ zero12 t))
    (loopAll m c t (clear11 t) (clear12 t)).1 (k0_t2_loop (grid0.coords t) (wordT m c t)).trips

theorem restFirst_eq (c : Dev nD) (t : Fin cfg0.N) :
    restFirst m c t = ((loopAll m c t (clear11 t) (clear12 t)).1, [], []) := by
  unfold restFirst; rw [no_rest, restT_zero]

/-- What the body stores into dq, at a later block of a column group. -/
theorem later_dq (c : Dev nD) (t : Fin cfg0.N) (h : ¬ t.val % 32 = 0) (d : Vec F S8192x256 .f32 × Vec F S8192x256 .f32) : (atLater m c t h d).1 = [⟨Rect.unit (s := S256x256) ![0, 0] S256x256.size inb_S256x256_S256x256_0_0, dqOut m c t (loopAll m c t ((wh9 t).unread d.1) ((wh10 t).unread d.2)).1⟩] := by
  have e : (atLater m c t h d).1 = [⟨Rect.unit (s := S256x256) ![0, 0] S256x256.size inb_S256x256_S256x256_0_0, dqOut m c t (restAll m c t ((wh9 t).unread d.1) ((wh10 t).unread d.2)).1⟩] := by
    unfold atLater runB; sl_kernel_rfl
  rw [e, restAll_eq]

/-- What the body leaves in dk's accumulator, at a later block of a column group. -/
theorem later_dk (c : Dev nD) (t : Fin cfg0.N) (h : ¬ t.val % 32 = 0) (d : Vec F S8192x256 .f32 × Vec F S8192x256 .f32) : (atLater m c t h d).2.1 = (st0_9 t).view.writes (Elt F) ((wh9 t).unread d.1) ((diagT m c t).dk (st0_9 t) ((wh9 t).unread d.1) (pick (St2.fst (loopAll m c t ((wh9 t).unread d.1) ((wh10 t).unread d.2)).1) (St2.snd (loopAll m c t ((wh9 t).unread d.1) ((wh10 t).unread d.2)).1)) (loopAll m c t ((wh9 t).unread d.1) ((wh10 t).unread d.2)).2.1) := by
  have e : (atLater m c t h d).2.1 = (st0_9 t).view.writes (Elt F) ((wh9 t).unread d.1) ((diagT m c t).dk (st0_9 t) ((wh9 t).unread d.1) (pick (St2.fst (restAll m c t ((wh9 t).unread d.1) ((wh10 t).unread d.2)).1) (St2.snd (restAll m c t ((wh9 t).unread d.1) ((wh10 t).unread d.2)).1)) ((restAll m c t ((wh9 t).unread d.1) ((wh10 t).unread d.2)).2.1 ++ (loopAll m c t ((wh9 t).unread d.1) ((wh10 t).unread d.2)).2.1)) := by
    unfold atLater runB; sl_kernel_rfl
  rw [e, restAll_eq]; rfl

/-- What the body leaves in dv's accumulator, at a later block of a column group. -/
theorem later_dv (c : Dev nD) (t : Fin cfg0.N) (h : ¬ t.val % 32 = 0) (d : Vec F S8192x256 .f32 × Vec F S8192x256 .f32) : (atLater m c t h d).2.2.1 = (st0_10 t).view.writes (Elt F) ((wh10 t).unread d.2) ((diagT m c t).dv (st0_10 t) ((wh10 t).unread d.2) (loopAll m c t ((wh9 t).unread d.1) ((wh10 t).unread d.2)).2.2) := by
  have e : (atLater m c t h d).2.2.1 = (st0_10 t).view.writes (Elt F) ((wh10 t).unread d.2) ((diagT m c t).dv (st0_10 t) ((wh10 t).unread d.2) ((restAll m c t ((wh9 t).unread d.1) ((wh10 t).unread d.2)).2.2 ++ (loopAll m c t ((wh9 t).unread d.1) ((wh10 t).unread d.2)).2.2)) := by
    unfold atLater runB; sl_kernel_rfl
  rw [e, restAll_eq]; rfl

/-- What the body stores into dq, at the first block of a column group. -/
theorem first_dq (c : Dev nD) (t : Fin cfg0.N) (h : t.val % 32 = 0) : (atFirst m c t h).1 = [⟨Rect.unit (s := S256x256) ![0, 0] S256x256.size inb_S256x256_S256x256_0_0, dqOut m c t (loopAll m c t (clear11 t) (clear12 t)).1⟩] := by
  have e : (atFirst m c t h).1 = [⟨Rect.unit (s := S256x256) ![0, 0] S256x256.size inb_S256x256_S256x256_0_0, dqOut m c t (restFirst m c t).1⟩] := by
    unfold atFirst runA; sl_kernel_rfl
  rw [e, restFirst_eq]

/-- What the body leaves in dk's accumulator, at the first block of a column group. -/
theorem first_dk (c : Dev nD) (t : Fin cfg0.N) (h : t.val % 32 = 0) : (atFirst m c t h).2.1 = (st0_9 t).view.writes (Elt F) (st0_9 t).view.junk ((diagT m c t).dk (st0_9 t) (st0_9 t).view.junk (pick (St2.fst (loopAll m c t (clear11 t) (clear12 t)).1) (St2.snd (loopAll m c t (clear11 t) (clear12 t)).1)) ((loopAll m c t (clear11 t) (clear12 t)).2.1 ++ zero11 t)) := by
  have e : (atFirst m c t h).2.1 = (st0_9 t).view.writes (Elt F) (st0_9 t).view.junk ((diagT m c t).dk (st0_9 t) (st0_9 t).view.junk (pick (St2.fst (restFirst m c t).1) (St2.snd (restFirst m c t).1)) ((restFirst m c t).2.1 ++ ((loopAll m c t (clear11 t) (clear12 t)).2.1 ++ zero11 t))) := by
    unfold atFirst runA; sl_kernel_rfl
  rw [e, restFirst_eq]; rfl

/-- What the body leaves in dv's accumulator, at the first block of a column group. -/
theorem first_dv (c : Dev nD) (t : Fin cfg0.N) (h : t.val % 32 = 0) : (atFirst m c t h).2.2.1 = (st0_10 t).view.writes (Elt F) (st0_10 t).view.junk ((diagT m c t).dv (st0_10 t) (st0_10 t).view.junk ((loopAll m c t (clear11 t) (clear12 t)).2.2 ++ zero12 t)) := by
  have e : (atFirst m c t h).2.2.1 = (st0_10 t).view.writes (Elt F) (st0_10 t).view.junk ((diagT m c t).dv (st0_10 t) (st0_10 t).view.junk ((restFirst m c t).2.2 ++ ((loopAll m c t (clear11 t) (clear12 t)).2.2 ++ zero12 t))) := by
    unfold atFirst runA; sl_kernel_rfl
  rw [e, restFirst_eq]; rfl

end Cert.SbIdeal.Run
-- ==== Proof.Sb.Math.lean ====
/- The gradient of a stick-breaking attention over the real numbers, head by head, and the sums its blockwise computation splits. -/
module

public import Idealize.ShloMosaic.PureOps.Ideal
public import Mathlib.Analysis.SpecialFunctions.Log.Basic

@[expose] public section

noncomputable section

namespace Cert.SbVal

open Finset Idealize.ShloMosaic

/-- A sum of reals, taken in the extended reals. -/
theorem csum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The logarithm of one minus the logistic function of a score. -/
def lm (z : ℝ) : ℝ := -(max z 0 + Real.log (1 + Real.exp (-|z|)))

variable (q k v d : ℕ → ℕ → ℝ)

/-- The score of key `s` for query `t` in head `h`. -/
def zz (h t s : ℕ) : ℝ := ∑ l : Fin 64, q t (64 * h + l.val) * (1 / 8) * k s (64 * h + l.val)
/-- The sum of the logarithms over the keys from `n` on. -/
def rest (h t n : ℕ) : ℝ := ∑ s ∈ Ico n t, lm (zz q k h t s)
/-- The weight of a key. -/
def ww (h t s : ℕ) : ℝ := if s < t then Real.exp (zz q k h t s + lm (zz q k h t s) + rest q k h t (s + 1)) else 0
/-- The gradient of the weight. -/
def dw (h t s : ℕ) : ℝ := ∑ l : Fin 64, d t (64 * h + l.val) * v s (64 * h + l.val)
def gg (h t s : ℕ) : ℝ := ww q k h t s * dw v d h t s
/-- The sum over the keys before `n` of weight times its gradient. -/
def pre (h t n : ℕ) : ℝ := ∑ s ∈ range n, gg q k v d h t s
/-- The logistic function of the score. -/
def be (h t s : ℕ) : ℝ := Real.exp (zz q k h t s + lm (zz q k h t s))
/-- The gradient of the score. -/
def dz (h t s : ℕ) : ℝ :=
  if s < t then gg q k v d h t s * (1 - be q k h t s) - be q k h t s * pre q k v d h t s else 0
/-- The gradient of the queries over the keys before `n`, the factor 1/8 left out. -/
def dqs (h t l n : ℕ) : ℝ := ∑ s ∈ range n, dz q k v d h t s * k s (64 * h + l)
/-- The gradient of the keys over the queries from `n` to `n + m`. -/
def dks (h s l n m : ℕ) : ℝ := ∑ r ∈ range m, dz q k v d h (n + r) s * (q (n + r) (64 * h + l) * (1 / 8))
/-- The gradient of the values over the queries from `n` to `n + m`. -/
def dvs (h s l n m : ℕ) : ℝ := ∑ r ∈ range m, ww q k h (n + r) s * d (n + r) (64 * h + l)

/-- A sum to `t` and the part of it in a block of 128. -/
theorem split_after (f : ℕ → ℝ) (s0 t : ℕ) (c : Fin 128) :
    (∑ c' : Fin 128, if c < c' then (if s0 + c'.val < t then f (s0 + c'.val) else 0) else 0) + ∑ s ∈ Ico (s0 + 128) t, f s
      = ∑ s ∈ Ico (s0 + c.val + 1) t, f s := by
  have hc := c.isLt
  have lift : ∀ n, ∑ s ∈ Ico n t, f s = ∑ s ∈ Ico n (t + (s0 + 128)), (if s < t then f s else 0) := by
    intro n
    rw [← Finset.sum_filter]
    refine Finset.sum_congr ?_ fun _ _ => rfl
    ext s; simp only [Finset.mem_filter, Finset.mem_Ico]; omega
  rw [lift, lift, ← Finset.sum_Ico_consecutive (fun s => if s < t then f s else 0) (m := s0 + c.val + 1) (n := s0 + 128) (by omega) (by omega)]
  congr 1
  have e : (∑ c' : Fin 128, if c < c' then (if s0 + c'.val < t then f (s0 + c'.val) else 0) else 0)
      = ∑ n ∈ range 128, if c.val < n then (if s0 + n < t then f (s0 + n) else 0) else 0 :=
    Fin.sum_univ_eq_sum_range (fun n => if c.val < n then (if s0 + n < t then f (s0 + n) else 0) else 0) 128
  rw [e, ← Finset.sum_filter]
  have e2 : (range 128).filter (fun n => c.val < n) = Ico (c.val + 1) 128 := by
    ext s; simp only [Finset.mem_filter, Finset.mem_Ico, Finset.mem_range]; omega
  rw [e2, Finset.sum_Ico_add (fun s => if s < t then f s else 0) (c.val + 1) 128 s0]
  congr 2 <;> omega

/-- A sum below `s0 + c`, and the part of it in a block of 128. -/
theorem split_before (f : ℕ → ℝ) (s0 : ℕ) (c : Fin 128) :
    (∑ c' : Fin 128, if c' < c then f (s0 + c'.val) else 0) + ∑ s ∈ range s0, f s = ∑ s ∈ range (s0 + c.val), f s := by
  have hc := c.isLt
  have e : (∑ c' : Fin 128, if c' < c then f (s0 + c'.val) else 0) = ∑ n ∈ range 128, if n < c.val then f (s0 + n) else 0 :=
    Fin.sum_univ_eq_sum_range (fun n => if n < c.val then f (s0 + n) else 0) 128
  rw [e, ← Finset.sum_filter, add_comm, Finset.sum_range_add]
  have e2 : (range 128).filter (fun n => n < c.val) = range c.val := by
    ext s; simp only [Finset.mem_filter, Finset.mem_range]; omega
  rw [e2]

/-- A sum below `s0 + 128`: the block's sum joins what was below. -/
theorem split_block (f : ℕ → ℝ) (s0 : ℕ) :
    ∑ s ∈ range s0, f s + ∑ c : Fin 128, f (s0 + c.val) = ∑ s ∈ range (s0 + 128), f s := by
  rw [Finset.sum_range_add, Fin.sum_univ_eq_sum_range (fun n => f (s0 + n)) 128]

theorem sum128 (f : Fin 128 → EReal) :
    ∑ l, f l = (∑ l : Fin 64, f ⟨l.val, by omega⟩) + ∑ l : Fin 64, f ⟨64 + l.val, by omega⟩ :=
  Fin.sum_univ_add (a := 64) (b := 64) f

theorem sum256 (f : Fin 256 → EReal) :
    ∑ l, f l = (∑ l : Fin 128, f ⟨l.val, by omega⟩) + ∑ l : Fin 128, f ⟨128 + l.val, by omega⟩ :=
  Fin.sum_univ_add (a := 128) (b := 128) f

/-- The kernel's form of the logarithm, at a real score. -/
theorem lm_coe (z : ℝ) :
    (0 : EReal) - (max (z : EReal) 0 + Ideal.log (1 + Ideal.exp (0 - max (z : EReal) (-(z : EReal))))) = ((lm z : ℝ) : EReal) := by
  have e1 : max (z : EReal) (-(z : EReal)) = ((|z| : ℝ) : EReal) := by
    rw [← EReal.coe_neg, ← EReal.coe_strictMono.monotone.map_max]; rfl
  have e2 : max (z : EReal) 0 = ((max z 0 : ℝ) : EReal) := by
    rw [← EReal.coe_zero, ← EReal.coe_strictMono.monotone.map_max]
  have p : ¬ (1 + Real.exp (0 - |z|) ≤ 0) := by have := Real.exp_pos (0 - |z|); linarith
  rw [e1, e2, ← EReal.coe_zero, ← EReal.coe_sub, Ideal.exp_coe, ← EReal.coe_one, ← EReal.coe_add, Ideal.log_coe, if_neg p, ← EReal.coe_add, ← EReal.coe_sub, lm]
  congr 1; rw [zero_sub, zero_sub]

end Cert.SbVal
-- ==== Proof.Sb.Step.lean ====
/- One step of the gradient at the extended reals, for a pair of heads, 256 queries and 128 keys: with real inputs every array of it holds the real value. -/
module

public import proofs.«01_k».proof.Proof.Sb.Chain
public import proofs.«01_k».proof.Proof.Sb.Math
public import Idealize.ShloMosaic.Lib.Pointwise
public import Idealize.ShloMosaic.Lib.IdealHost

@[expose] public section

set_option maxRecDepth 16384

noncomputable section

namespace Cert.SbVal

open Finset
open Idealize.ShloMosaic Idealize.ShloMosaic.Pointwise
open Cert.SbIdeal Cert.SbIdeal.Gen Cert.SbIdeal.Run

/-- The column of a head's key, two heads side by side. -/
def hx (e : Fin 2) (c : Fin 128) : Fin 256 := ⟨e.val * 128 + c.val, by omega⟩
/-- The lane of a head's feature, two heads side by side. -/
def hl (e : Fin 2) (l : Fin 64) : Fin 128 := ⟨e.val * 64 + l.val, by omega⟩

theorem hx_surj (y : Fin 256) : ∃ e c, y = hx e c :=
  ⟨⟨y.val / 128, by omega⟩, ⟨y.val % 128, by omega⟩, Fin.ext (by show y.val = y.val / 128 * 128 + y.val % 128; omega)⟩
theorem hl_surj (y : Fin 128) : ∃ e l, y = hl e l :=
  ⟨⟨y.val / 64, by omega⟩, ⟨y.val % 64, by omega⟩, Fin.ext (by show y.val = y.val / 64 * 64 + y.val % 64; omega)⟩

theorem sum_hx (f : Fin 256 → EReal) : ∑ y, f y = ∑ c, f (hx 0 c) + ∑ c, f (hx 1 c) := by
  rw [sum256]
  refine congrArg₂ (· + ·) (sum_congr rfl fun c _ => congrArg f (Fin.ext ?_)) (sum_congr rfl fun c _ => congrArg f (Fin.ext ?_))
  · show c.val = 0 * 128 + c.val; omega
  · show 128 + c.val = 1 * 128 + c.val; omega
theorem sum_hl (f : Fin 128 → EReal) : ∑ y, f y = ∑ l, f (hl 0 l) + ∑ l, f (hl 1 l) := by
  rw [sum128]
  refine congrArg₂ (· + ·) (sum_congr rfl fun c _ => congrArg f (Fin.ext ?_)) (sum_congr rfl fun c _ => congrArg f (Fin.ext ?_))
  · show c.val = 0 * 64 + c.val; omega
  · show 64 + c.val = 1 * 64 + c.val; omega

theorem sel_ite (p : Prop) [Decidable p] {α : Type} (a b : α) : Scalar.select (if p then 1#1 else 0#1) a b = if p then a else b := by
  by_cases h : p <;> simp [h, Scalar.select]

theorem sel1 {α : Type} (a b : α) : Scalar.select 1#1 a b = a := rfl
theorem sel0 {α : Type} (a b : α) : Scalar.select 0#1 a b = b := rfl

theorem la_at (e : Fin 2) (l : Fin 64) : k0_pay198 (ix2 (0 : Fin 1) (hl e l)) = if e = 0 then 1#1 else 0#1 := by
  revert e l; decide +kernel

variable (q k v d : ℕ → ℕ → ℝ)

/-- A step reads the real inputs: queries from `t0`, keys from `s0`, the heads `h` and `h + 1`. -/
structure Fits (x : Ch Ideal) (h t0 s0 : ℕ) : Prop where
  hla : x.la = k0_pay198
  hq : ∀ r e l, x.q (ix2 r (hl e l)) = ((q (t0 + r.val) (64 * (h + e.val) + l.val) * (1 / 8) : ℝ) : EReal)
  hd : ∀ r e l, x.d (ix2 r (hl e l)) = ((d (t0 + r.val) (64 * (h + e.val) + l.val) : ℝ) : EReal)
  hk : ∀ c e l, x.kb (ix2 c (hl e l)) = ((k (s0 + c.val) (64 * (h + e.val) + l.val) : ℝ) : EReal)
  hv : ∀ c e l, x.vb (ix2 c (hl e l)) = ((v (s0 + c.val) (64 * (h + e.val) + l.val) : ℝ) : EReal)
  hul : ∀ e' c' e c, x.ul (ix2 (hx e' c') (hx e c)) = if e' = e ∧ c < c' then 1 else 0
  hue : ∀ e' c' e c, x.ue (ix2 (hx e' c') (hx e c)) = if e' = e ∧ c' < c then 1 else 0
  hra : ∀ r, x.ra (ix2 r 0) = ((rest q k h (t0 + r.val) (s0 + 128) : ℝ) : EReal)
  hrb : ∀ r, x.rb (ix2 r 0) = ((rest q k (h + 1) (t0 + r.val) (s0 + 128) : ℝ) : EReal)
  hmsk : match x.msk with
    | none => s0 + 128 ≤ t0
    | some w => ∀ r e c, w (ix2 r (hx e c)) = if s0 + c.val < t0 + r.val then 1#1 else 0#1

/-- The carried values at the block of keys from `s0`. -/
structure Holds (st : St Ideal) (h t0 s0 : ℕ) : Prop where
  pa : ∀ r, st.1 (ix2 r 0) = ((pre q k v d h (t0 + r.val) s0 : ℝ) : EReal)
  pb : ∀ r, st.2.1 (ix2 r 0) = ((pre q k v d (h + 1) (t0 + r.val) s0 : ℝ) : EReal)
  dq : ∀ r e l, st.2.2 (ix2 r (hl e l)) = ((dqs q k v d (h + e.val) (t0 + r.val) l.val s0 : ℝ) : EReal)

section

variable {q k v d} {x : Ch Ideal} {h t0 s0 : ℕ} (F : Fits q k v d x h t0 s0)
include F

theorem keep_at (y : FVec Ideal S256x256 .f32) (r : Fin 256) (e : Fin 2) (c : Fin 128) :
    keep x.msk y (ix2 r (hx e c)) = if s0 + c.val < t0 + r.val then y (ix2 r (hx e c)) else 0 := by
  have hm := F.hmsk
  revert hm
  generalize x.msk = u
  match u with
  | none => intro hm; rw [if_pos (by have := c.isLt; dsimp only at hm; omega)]; rfl
  | some w =>
    intro hm
    dsimp only at hm
    pointwise [keep, hm]
    rw [sel_ite]

omit F in
/-- The scores of both heads from products over one head's lanes each. -/
theorem both_at (a : FVec Ideal S256x128 .bf16) (b : Vec Ideal S128x128 .bf16) (f : Fin 2 → Fin 256 → Fin 64 → ℝ) (g : Fin 2 → Fin 128 → Fin 64 → ℝ)
    (ha : ∀ r e l, a (ix2 r (hl e l)) = ((f e r l : ℝ) : EReal)) (hb : ∀ c e l, b (ix2 c (hl e l)) = ((g e c l : ℝ) : EReal))
    (r : Fin 256) (e : Fin 2) (c : Fin 128) :
    k0_pay3 k0_pay198 a b (ix2 r (hx e c)) = ((∑ l, f e r l * g e c l : ℝ) : EReal) := by
  pointwise [k0_pay3, k0_pay2]
  rw [sum_hl]
  have hc := c.isLt
  match e with
  | 0 =>
    have h1 : (hx 0 c).val < 128 := by show 0 * 128 + c.val < 128; omega
    have e1 : ∀ p, (⟨(hx 0 c).val, p⟩ : Fin 128) = c := fun _ => Fin.ext (by show 0 * 128 + c.val = c.val; omega)
    simp only [dif_pos h1, la_at, sel1, sel0, e1, ha, hb, ← EReal.coe_mul, if_true, if_neg (show ¬ (1 : Fin 2) = 0 by decide), mul_zero, sum_const_zero, add_zero, csum]
  | 1 =>
    have h1 : ¬ (hx 1 c).val < 128 := by show ¬ 1 * 128 + c.val < 128; omega
    have e1 : ∀ p, (⟨(hx 1 c).val - 128, p⟩ : Fin 128) = c := fun _ => Fin.ext (by show 1 * 128 + c.val - 128 = c.val; omega)
    simp only [dif_neg h1, la_at, sel1, sel0, e1, ha, hb, ← EReal.coe_mul, if_true, if_neg (show ¬ (1 : Fin 2) = 0 by decide), mul_zero, sum_const_zero, zero_add, csum]

theorem z_at (r : Fin 256) (e : Fin 2) (c : Fin 128) :
    x.z (ix2 r (hx e c)) = ((zz q k (h + e.val) (t0 + r.val) (s0 + c.val) : ℝ) : EReal) := by
  unfold Ch.z
  rw [F.hla]
  exact both_at _ _ _ _ F.hq F.hk r e c

theorem dw_at (r : Fin 256) (e : Fin 2) (c : Fin 128) :
    x.dw (ix2 r (hx e c)) = ((dw v d (h + e.val) (t0 + r.val) (s0 + c.val) : ℝ) : EReal) := by
  unfold Ch.dw
  rw [F.hla]
  exact both_at _ _ _ _ F.hd F.hv r e c

theorem lm0_at (r : Fin 256) (e : Fin 2) (c : Fin 128) :
    k0_pay17 x.z (ix2 r (hx e c)) = ((lm (zz q k (h + e.val) (t0 + r.val) (s0 + c.val)) : ℝ) : EReal) := by
  pointwise [k0_pay17]
  rw [z_at F]
  exact lm_coe _

theorem ls_at (r : Fin 256) (e : Fin 2) (c : Fin 128) :
    x.ls (ix2 r (hx e c)) = ((zz q k (h + e.val) (t0 + r.val) (s0 + c.val) + lm (zz q k (h + e.val) (t0 + r.val) (s0 + c.val)) : ℝ) : EReal) := by
  unfold Ch.ls
  pointwise [k0_pay18]
  rw [z_at F, lm0_at F, EReal.coe_add]

theorem lm_at (r : Fin 256) (e : Fin 2) (c : Fin 128) :
    x.lm (ix2 r (hx e c)) = ((if s0 + c.val < t0 + r.val then lm (zz q k (h + e.val) (t0 + r.val) (s0 + c.val)) else 0 : ℝ) : EReal) := by
  unfold Ch.lm
  rw [keep_at F, lm0_at F]
  split <;> rfl

omit F in
theorem halves_at (a b : FVec Ideal S256x1 .f32) (r : Fin 256) (e : Fin 2) (c : Fin 128) :
    halves a b (ix2 r (hx e c)) = if e = 0 then a (ix2 r 0) else b (ix2 r 0) := by
  pointwise [halves]
  have hc := c.isLt
  match e with
  | 0 => rw [dif_pos (by show 0 * 128 + c.val < 128; omega), if_pos rfl]
  | 1 => rw [dif_neg (by show ¬ 1 * 128 + c.val < 128; omega), if_neg (by decide)]

omit F in
/-- A product with a table that is one within a head where `R` holds. -/
theorem tri_at (R : Fin 128 → Fin 128 → Prop) [∀ a b, Decidable (R a b)] (y : FVec Ideal S256x256 .f32) (u : FVec Ideal S256x256 .bf16)
    (hu : ∀ e' c' e c, u (ix2 (hx e' c') (hx e c)) = if e' = e ∧ R c' c then 1 else 0) (f : Fin 2 → Fin 128 → ℝ) (r : Fin 256)
    (hy : ∀ e c, y (ix2 r (hx e c)) = ((f e c : ℝ) : EReal)) (e : Fin 2) (c : Fin 128) :
    tri y u (ix2 r (hx e c)) = ((∑ c', if R c' c then f e c' else 0 : ℝ) : EReal) := by
  pointwise [tri]
  rw [sum_hx]
  have t : ∀ (p : Prop) [Decidable p] (a : ℝ), (a : EReal) * (if p then 1 else 0) = ((if p then a else 0 : ℝ) : EReal) := by
    intro p _ a; split <;> simp
  match e with
  | 0 =>
    simp only [hu, hy, t, true_and, show ¬ (1 : Fin 2) = 0 by decide, false_and, if_false, EReal.coe_zero, mul_zero, sum_const_zero, add_zero, csum]
  | 1 =>
    simp only [hu, hy, t, true_and, show ¬ (0 : Fin 2) = 1 by decide, false_and, if_false, EReal.coe_zero, mul_zero, sum_const_zero, zero_add, csum]

theorem w_at (r : Fin 256) (e : Fin 2) (c : Fin 128) :
    x.w (ix2 r (hx e c)) = ((ww q k (h + e.val) (t0 + r.val) (s0 + c.val) : ℝ) : EReal) := by
  unfold Ch.w
  rw [keep_at F]
  have e1 : halves x.ra x.rb (ix2 r (hx e c)) = ((rest q k (h + e.val) (t0 + r.val) (s0 + 128) : ℝ) : EReal) := by
    rw [halves_at]
    match e with
    | 0 => rw [if_pos rfl, F.hra]; rfl
    | 1 => rw [if_neg (by decide), F.hrb]; rfl
  pointwise []
  rw [ls_at F, tri_at (fun c' c => c < c') _ _ F.hul _ r (lm_at F r) e c, e1]
  rw [← EReal.coe_add, ← EReal.coe_add, Ideal.exp_coe, add_assoc]
  unfold rest
  rw [split_after (fun s => lm (zz q k (h + e.val) (t0 + r.val) s))]
  unfold ww rest
  split <;> rfl

theorem g_at (r : Fin 256) (e : Fin 2) (c : Fin 128) :
    x.g (ix2 r (hx e c)) = ((gg q k v d (h + e.val) (t0 + r.val) (s0 + c.val) : ℝ) : EReal) := by
  unfold Ch.g
  pointwise []
  rw [w_at F, dw_at F, ← EReal.coe_mul]; rfl

theorem be_at (r : Fin 256) (e : Fin 2) (c : Fin 128) :
    x.be (ix2 r (hx e c)) = ((be q k (h + e.val) (t0 + r.val) (s0 + c.val) : ℝ) : EReal) := by
  unfold Ch.be
  pointwise []
  rw [ls_at F, Ideal.exp_coe]; rfl

theorem cb_at (r : Fin 256) (e : Fin 2) (c : Fin 128) :
    x.cb (ix2 r (hx e c)) = ((∑ c' : Fin 128, if c' < c then gg q k v d (h + e.val) (t0 + r.val) (s0 + c'.val) else 0 : ℝ) : EReal) := by
  unfold Ch.cb
  exact tri_at (fun c' c => c' < c) _ _ F.hue _ r (g_at F r) e c

variable {st : St Ideal} (S : Holds q k v d st h t0 s0)
include S

theorem dz_at (r : Fin 256) (e : Fin 2) (c : Fin 128) :
    x.dz st (ix2 r (hx e c)) = ((dz q k v d (h + e.val) (t0 + r.val) (s0 + c.val) : ℝ) : EReal) := by
  unfold Ch.dz
  rw [keep_at F]
  have e1 : halves st.1 st.2.1 (ix2 r (hx e c)) = ((pre q k v d (h + e.val) (t0 + r.val) s0 : ℝ) : EReal) := by
    rw [halves_at]
    match e with
    | 0 => rw [if_pos rfl, S.pa]; rfl
    | 1 => rw [if_neg (by decide), S.pb]; rfl
  pointwise []
  rw [g_at F, be_at F, cb_at F, e1]
  rw [← EReal.coe_one, ← EReal.coe_add]
  unfold pre
  rw [split_before, ← EReal.coe_sub, ← EReal.coe_mul, ← EReal.coe_mul, ← EReal.coe_sub]
  unfold dz pre
  split <;> rfl

/-- The step carries the values on to the next block of keys. -/
theorem next_holds : Holds q k v d (x.next st) h t0 (s0 + 128) where
  pa r := by
    have e : (127 : Fin 256) = hx 0 127 := by decide
    unfold Ch.next Ch.lastA
    pointwise []
    rw [S.pa, e, cb_at F, g_at F, ← EReal.coe_add, ← EReal.coe_add, add_comm (pre _ _ _ _ _ _ _)]
    unfold pre
    rw [show h + ((0 : Fin 2).val) = h from rfl, split_before (fun s => gg q k v d h (t0 + r.val) s)]
    exact congrArg _ (Finset.sum_range_succ (fun s => gg q k v d h (t0 + r.val) s) (s0 + 127)).symm
  pb r := by
    have e : (255 : Fin 256) = hx 1 127 := by decide
    unfold Ch.next Ch.lastB
    pointwise []
    rw [S.pb, e, cb_at F, g_at F, ← EReal.coe_add, ← EReal.coe_add, add_comm (pre _ _ _ _ _ _ _)]
    unfold pre
    rw [show h + ((1 : Fin 2).val) = h + 1 from rfl, split_before (fun s => gg q k v d (h + 1) (t0 + r.val) s)]
    exact congrArg _ (Finset.sum_range_succ (fun s => gg q k v d (h + 1) (t0 + r.val) s) (s0 + 127)).symm
  dq r e l := by
    unfold Ch.next
    pointwise [k0_pay2]
    have a0 : ∀ (c : Fin 128) p, (⟨c.val, p⟩ : Fin 256) = hx 0 c := fun c _ => Fin.ext (by show c.val = 0 * 128 + c.val; omega)
    have a1 : ∀ (c : Fin 128) p, (⟨128 + c.val, p⟩ : Fin 256) = hx 1 c := fun c _ => Fin.ext (by show 128 + c.val = 1 * 128 + c.val; omega)
    simp only [F.hla, la_at, sel_ite, a0, a1, dz_at F S, F.hk, S.dq, ← EReal.coe_mul]
    unfold dqs
    rw [← split_block]
    match e with
    | 0 => simp only [if_true, sum_const_zero, add_zero, csum, ← EReal.coe_add]
    | 1 => simp only [if_neg (show ¬ (1 : Fin 2) = 0 by decide), sum_const_zero, zero_add, csum, ← EReal.coe_add]

omit F S in
theorem fold_at (F : Fits q k v d x h t0 s0) (y : FVec Ideal S256x256 .f32) (b : FVec Ideal S256x128 .bf16) (f : Fin 2 → Fin 256 → Fin 128 → ℝ) (g : Fin 2 → Fin 256 → Fin 64 → ℝ)
    (hy : ∀ r e c, y (ix2 r (hx e c)) = ((f e r c : ℝ) : EReal)) (hb : ∀ r e l, b (ix2 r (hl e l)) = ((g e r l : ℝ) : EReal))
    (old : Vec Ideal S128x128 .f32) (c : Fin 128) (e : Fin 2) (l : Fin 64) :
    x.fold old y b (ix2 c (hl e l)) = old (ix2 c (hl e l)) + ((∑ r, f e r c * g e r l : ℝ) : EReal) := by
  unfold Ch.fold
  pointwise []
  have a0 : ∀ p, (⟨c.val, p⟩ : Fin 256) = hx 0 c := fun _ => Fin.ext (by show c.val = 0 * 128 + c.val; omega)
  have a1 : ∀ p, (⟨128 + c.val, p⟩ : Fin 256) = hx 1 c := fun _ => Fin.ext (by show 128 + c.val = 1 * 128 + c.val; omega)
  simp only [F.hla, la_at, sel_ite, a0, a1, hy, hb, ← EReal.coe_mul, csum]
  match e with
  | 0 => rw [if_pos rfl]
  | 1 => rw [if_neg (by decide)]

/-- What the step adds to the gradient of the keys. -/
theorem dk_at (old : Vec Ideal S128x128 .f32) (c : Fin 128) (e : Fin 2) (l : Fin 64) :
    x.dk st old (ix2 c (hl e l)) = old (ix2 c (hl e l)) + ((dks q k v d (h + e.val) (s0 + c.val) l.val t0 256 : ℝ) : EReal) := by
  unfold Ch.dk
  rw [fold_at F _ _ _ _ (dz_at F S) F.hq]
  unfold dks
  rw [← Fin.sum_univ_eq_sum_range (fun r => dz q k v d (h + e.val) (t0 + r) (s0 + c.val) * (q (t0 + r) (64 * (h + e.val) + l.val) * (1 / 8))) 256]

omit S in
/-- What the step adds to the gradient of the values. -/
theorem dv_at (old : Vec Ideal S128x128 .f32) (c : Fin 128) (e : Fin 2) (l : Fin 64) :
    x.dv old (ix2 c (hl e l)) = old (ix2 c (hl e l)) + ((dvs q k d (h + e.val) (s0 + c.val) l.val t0 256 : ℝ) : EReal) := by
  unfold Ch.dv
  rw [fold_at F _ _ _ _ (w_at F) F.hd]
  unfold dvs
  rw [← Fin.sum_univ_eq_sum_range (fun r => ww q k (h + e.val) (t0 + r) (s0 + c.val) * d (t0 + r) (64 * (h + e.val) + l.val)) 256]

end

end Cert.SbVal
-- ==== Proof.Sb.Fit.lean ====
/- The steps of the body at a grid point read the real inputs: queries of the point's block, keys of the step's block. -/
module

public import proofs.«01_k».proof.Proof.Sb.BodyEq
public import proofs.«01_k».proof.Proof.Sb.Step
public import Idealize.ShloMosaic.Lib.WholeRead

@[expose] public section

set_option maxRecDepth 16384

noncomputable section

namespace Cert.SbVal

open Finset
open Idealize.ShloMosaic Idealize.ShloMosaic.Pointwise
open Cert.SbIdeal Cert.SbIdeal.Gen Cert.SbIdeal.Run

/-- Half the columns of a block. -/
theorem part_at {φ : EltTy} (M : Memref sig .tc .vmem S256x256 φ) (hM : M.IsWhole) (X : Vec Ideal S256x256 φ) (o : ℕ)
    (ho : ∀ a, (![0, o] : Fin 2 → ℕ) a + S256x128.size a ≤ S256x256.size a) (r : Fin 256) (y : Fin 128) (y' : Fin 256) (hy : y'.val = o + y.val) :
    View.readAt (Elt Ideal) M.view (Rect.unit (s := S256x256) ![0, o] S256x128.size ho).toLoadRect (hM.unread X) (ix2 r y) = X (ix2 r y') := by
  rw [Memref.IsWhole.readAt_unread hM]
  refine congrArg X (funext fun a => Fin.ext ?_)
  match a with
  | 0 => show 0 + 1 * r.val = r.val; omega
  | 1 => show o + 1 * y.val = y'.val; omega

/-- A block of a key or value array. -/
theorem rows_at (M : Memref sig .tc .vmem S8192x256 .bf16) (hM : M.IsWhole) (X : Vec Ideal S8192x256 .bf16) (off : Fin 2 → ℕ)
    (ho : ∀ a, off a + S128x128.size a ≤ S8192x256.size a) (r : Fin 128) (y : Fin 128) (r' : Fin 8192) (y' : Fin 256) (hr : r'.val = off 0 + r.val) (hy : y'.val = off 1 + y.val) :
    blockAt M (hM.unread X) off ho (ix2 r y) = X (ix2 r' y') := by
  unfold blockAt
  rw [Memref.IsWhole.readAt_unread hM]
  refine congrArg X (funext fun a => Fin.ext ?_)
  match a with
  | 0 => show off 0 + 1 * r.val = r'.val; omega
  | 1 => show off 1 + 1 * y.val = y'.val; omega

theorem off2_at : ∀ (i : grid0.Coords) (w : BitVec 32) (_ : w = BitVec.ofNat 32 (i 1).val) (k : Fin (k0_t1_loop i w).trips) (d : Fin 2),
    k0_off2 i w k (BitVec.ofNat 32 d.val) = ![128 * (2 * k.val + d.val), 0] ∧ k0_off3 i w k (BitVec.ofNat 32 d.val) = ![128 * (2 * k.val + d.val), 128]
      ∧ tripBlk i w k.val d = BitVec.ofNat 32 (2 * k.val + d.val) := by
  intro i w hw
  subst hw
  revert i
  decide +kernel

theorem off6_at : ∀ (i : grid0.Coords) (d : Fin 2),
    k0_off6 i (BitVec.ofNat 32 d.val) = ![128 * (2 * (i 1).val + d.val), 0] ∧ k0_off7 i (BitVec.ofNat 32 d.val) = ![128 * (2 * (i 1).val + d.val), 128]
      ∧ diagBlk i d = BitVec.ofNat 32 (2 * (i 1).val + d.val) := by
  decide +kernel

theorem eq_bit : ∀ x j : Fin 128, IntOp.cmpi .eq (BitVec.ofNat 32 x.val) (BitVec.ofNat 32 j.val) = if x = j then 1#1 else 0#1 := by decide +kernel

theorem lane_at (R : FVec Ideal S256x128 .f32) (j : Fin 128) (r : Fin 256) :
    k0_pay20 (iota .tc S256x128 32 [1] iota_S256x128_d1_w32) R (BitVec.ofNat 32 j.val) (ix2 r 0) = R (ix2 r j) := by
  pointwise [k0_pay20]
  simp only [eq_bit, sel_ite]
  rw [Finset.sum_ite_eq' univ j]; simp

theorem lane_at' (R : FVec Ideal S256x128 .f32) (j : Fin 128) (hj : j.val < 64) (r : Fin 256) :
    k0_pay21 (iota .tc S256x128 32 [1] iota_S256x128_d1_w32) R (BitVec.ofNat 32 j.val) (ix2 r 0) = R (ix2 r ⟨j.val + 64, by omega⟩) := by
  have e : k0_pay21 (iota .tc S256x128 32 [1] iota_S256x128_d1_w32) R (BitVec.ofNat 32 j.val) = k0_pay20 (iota .tc S256x128 32 [1] iota_S256x128_d1_w32) R (BitVec.ofNat 32 (j.val + 64)) := by
    unfold k0_pay20 k0_pay21
    rw [show Scalar.addi (BitVec.ofNat 32 j.val) 64#32 = BitVec.ofNat 32 (j.val + 64) from (BitVec.ofNat_add ..).symm]
  rw [e]
  exact lane_at R ⟨j.val + 64, by omega⟩ r

theorem and127 : ∀ x : Fin 256, IntOp.andi (BitVec.ofNat 32 x.val) 127#32 = BitVec.ofNat 32 (x.val % 128) := by decide +kernel

theorem slt_bit (a b : ℕ) (ha : a < 2 ^ 31) (hb : b < 2 ^ 31) : IntOp.cmpi .slt (BitVec.ofNat 32 a) (BitVec.ofNat 32 b) = if a < b then 1#1 else 0#1 := by
  have e : (BitVec.ofNat 32 a).slt (BitVec.ofNat 32 b) = decide (a < b) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  show BitVec.ofBool ((BitVec.ofNat 32 a).slt (BitVec.ofNat 32 b)) = _
  rw [e]
  by_cases h : a < b <;> simp [h]

theorem mask_at (i : grid0.Coords) (d : Fin 2) (r : Fin 256) (e : Fin 2) (c : Fin 128) :
    diagMask i d (ix2 r (hx e c)) = if 128 * (2 * (i 1).val + d.val) + c.val < 256 * (i 1).val + r.val then 1#1 else 0#1 := by
  have hi : (i 1).val < 32 := (i 1).isLt
  have hc := c.isLt
  have hm : (hx e c).val % 128 = c.val := by show (e.val * 128 + c.val) % 128 = c.val; omega
  unfold diagMask
  rw [(off6_at i d).2.2]
  pointwise [k0_pay235, k0_pay234]
  rw [and127, hm]
  rw [show Scalar.muli (BitVec.ofNat 32 (2 * (i 1).val + d.val)) 128#32 = BitVec.ofNat 32 ((2 * (i 1).val + d.val) * 128) from (BitVec.ofNat_mul ..).symm,
    show Scalar.muli (BitVec.ofNat 32 (i 1).val) 256#32 = BitVec.ofNat 32 ((i 1).val * 256) from (BitVec.ofNat_mul ..).symm]
  rw [show IntOp.addi (BitVec.ofNat 32 ((2 * (i 1).val + d.val) * 128)) (BitVec.ofNat 32 c.val) = BitVec.ofNat 32 ((2 * (i 1).val + d.val) * 128 + c.val) from (BitVec.ofNat_add ..).symm,
    show IntOp.addi (BitVec.ofNat 32 ((i 1).val * 256)) (BitVec.ofNat 32 r.val) = BitVec.ofNat 32 ((i 1).val * 256 + r.val) from (BitVec.ofNat_add ..).symm,
    slt_bit _ _ (by omega) (by omega), Nat.mul_comm (2 * (i 1).val + d.val) 128, Nat.mul_comm (i 1).val 256]

variable (q k v d : ℕ → ℕ → ℝ)
variable (m : (ℓ : Loc nD τ sig) → Buf (Elt Ideal) ℓ)

/-- What the point's input blocks hold. -/
structure Blocks (c : Dev nD) (t : Fin cfg0.N) (g i : ℕ) : Prop where
  hg : (grid0.coords t 0).val = g
  hi : (grid0.coords t 1).val = i
  b1 : ∀ (r y : Fin 256), (iblk m c 1 t : Vec Ideal S256x256 .bf16) (ix2 r y) = ((q (256 * i + r.val) (256 * g + y.val) * (1 / 8) : ℝ) : EReal)
  b2 : ∀ (s : Fin 8192) (y : Fin 256), (iblk m c 2 t : Vec Ideal S8192x256 .bf16) (ix2 s y) = ((k s.val (256 * g + y.val) : ℝ) : EReal)
  b3 : ∀ (s : Fin 8192) (y : Fin 256), (iblk m c 3 t : Vec Ideal S8192x256 .bf16) (ix2 s y) = ((v s.val (256 * g + y.val) : ℝ) : EReal)
  b4 : ∀ (r y : Fin 256), (iblk m c 4 t : Vec Ideal S256x256 .f32) (ix2 r y) = ((rest q k (4 * g + y.val / 64) (256 * i + r.val) (128 * (y.val % 64 + 1)) : ℝ) : EReal)
  b5 : ∀ (r y : Fin 256), (iblk m c 5 t : Vec Ideal S256x256 .f32) (ix2 r y) = ((d (256 * i + r.val) (256 * g + y.val) : ℝ) : EReal)
  b6 : ∀ e' c' e x, (iblk m c 6 t : Vec Ideal S256x256 .bf16) (ix2 (hx e' c') (hx e x)) = (if e' = e ∧ x < c' then 1 else 0 : EReal)
  b7 : ∀ e' c' e x, (iblk m c 7 t : Vec Ideal S256x256 .bf16) (ix2 (hx e' c') (hx e x)) = (if e' = e ∧ c' < x then 1 else 0 : EReal)

variable {q k v d m} {c : Dev nD} {t : Fin cfg0.N} {g i : ℕ} (B : Blocks q k v d m c t g i)
include B

/-- A step of the point at key block `j`. -/
theorem ch_fits (p : Fin 2) (j : ℕ) (hj : j < 64) (w : BitVec 32) (hw : w = BitVec.ofNat 32 j) (mk : Option (IVec S256x256 1))
    (hmk : match mk with
      | none => 128 * j + 128 ≤ 256 * i
      | some w => ∀ r e x, w (ix2 r (hx e x)) = if 128 * j + x.val < 256 * i + r.val then 1#1 else 0#1)
    (off : Fin 2 → ℕ) (ho : ∀ a, off a + S128x128.size a ≤ S8192x256.size a) (e0 : off 0 = 128 * j) (e1 : off 1 = 128 * p.val) :
    Fits q k v d ((Run.pre m c t).ch p w mk (blockAt (st0_2 t) ((wh2 t).unread (iblk m c 2 t)) off ho) (blockAt (st0_3 t) ((wh3 t).unread (iblk m c 3 t)) off ho))
      (4 * g + 2 * p.val) (256 * i) (128 * j) where
  hla := rfl
  hq r e l := by
    have hl' : (hl e l).val = e.val * 64 + l.val := rfl
    have e3 : (Run.pre m c t).q p (ix2 r (hl e l)) = (iblk m c 1 t : Vec Ideal S256x256 .bf16) (ix2 r ⟨128 * p.val + (hl e l).val, by have := p.isLt; have := (hl e l).isLt; omega⟩) := by
      match p with
      | 0 => unfold Run.pre pick; dsimp only; pointwise [k0_pay199]; exact part_at _ (wh1 t) _ 0 _ r _ _ (by simp)
      | 1 => unfold Run.pre pick; dsimp only; pointwise [k0_pay200]; exact part_at _ (wh1 t) _ 128 _ r _ _ (by simp)
    refine e3.trans ((B.b1 _ _).trans ?_)
    rw [show 256 * g + (128 * p.val + (hl e l).val) = 64 * (4 * g + 2 * p.val + e.val) + l.val by rw [hl']; ring]
  hd r e l := by
    have hl' : (hl e l).val = e.val * 64 + l.val := rfl
    have e3 : (Run.pre m c t).d p (ix2 r (hl e l)) = (iblk m c 5 t : Vec Ideal S256x256 .f32) (ix2 r ⟨128 * p.val + (hl e l).val, by have := p.isLt; have := (hl e l).isLt; omega⟩) := by
      match p with
      | 0 => unfold Run.pre pick; dsimp only; pointwise [k0_pay201]; exact part_at _ (wh5 t) _ 0 _ r _ _ (by simp)
      | 1 => unfold Run.pre pick; dsimp only; pointwise [k0_pay202]; exact part_at _ (wh5 t) _ 128 _ r _ _ (by simp)
    refine e3.trans ((B.b5 _ _).trans ?_)
    rw [show 256 * g + (128 * p.val + (hl e l).val) = 64 * (4 * g + 2 * p.val + e.val) + l.val by rw [hl']; ring]
  hk x e l := by
    have hx' := x.isLt
    have hl' : (hl e l).val = e.val * 64 + l.val := rfl
    refine (rows_at _ (wh2 t) _ off ho x (hl e l) ⟨128 * j + x.val, by omega⟩ ⟨128 * p.val + (hl e l).val, by have := p.isLt; have := (hl e l).isLt; omega⟩ (by rw [e0]) (by rw [e1])).trans ((B.b2 _ _).trans ?_)
    rw [show 256 * g + (128 * p.val + (hl e l).val) = 64 * (4 * g + 2 * p.val + e.val) + l.val by rw [hl']; ring]
  hv x e l := by
    have hx' := x.isLt
    have hl' : (hl e l).val = e.val * 64 + l.val := rfl
    refine (rows_at _ (wh3 t) _ off ho x (hl e l) ⟨128 * j + x.val, by omega⟩ ⟨128 * p.val + (hl e l).val, by have := p.isLt; have := (hl e l).isLt; omega⟩ (by rw [e0]) (by rw [e1])).trans ((B.b3 _ _).trans ?_)
    rw [show 256 * g + (128 * p.val + (hl e l).val) = 64 * (4 * g + 2 * p.val + e.val) + l.val by rw [hl']; ring]
  hul e' c' e x := by
    refine Eq.trans ?_ (B.b6 e' c' e x)
    show (Run.pre m c t).ul _ = _
    unfold Run.pre; dsimp only; pointwise [k0_pay196]
    rw [Memref.IsWhole.readAt_unread (wh6 t)]
    refine congrArg _ (funext fun a => Fin.ext ?_)
    match a with
    | 0 => show 0 + 1 * _ = _; omega
    | 1 => show 0 + 1 * _ = _; omega
  hue e' c' e x := by
    refine Eq.trans ?_ (B.b7 e' c' e x)
    show (Run.pre m c t).ue _ = _
    unfold Run.pre; dsimp only; pointwise [k0_pay197]
    rw [Memref.IsWhole.readAt_unread (wh7 t)]
    refine congrArg _ (funext fun a => Fin.ext ?_)
    match a with
    | 0 => show 0 + 1 * _ = _; omega
    | 1 => show 0 + 1 * _ = _; omega
  hra r := by
    subst hw
    refine (lane_at ((Run.pre m c t).r p) ⟨j, by omega⟩ r).trans ?_
    have e : (Run.pre m c t).r p (ix2 r ⟨j, by omega⟩) = (iblk m c 4 t : Vec Ideal S256x256 .f32) (ix2 r ⟨128 * p.val + j, by have := p.isLt; omega⟩) := by
      match p with
      | 0 => unfold Run.pre pick; dsimp only; pointwise [k0_pay203]; exact part_at _ (wh4 t) _ 0 _ r _ _ (by simp)
      | 1 => unfold Run.pre pick; dsimp only; pointwise [k0_pay204]; exact part_at _ (wh4 t) _ 128 _ r _ _ (by simp)
    refine e.trans ((B.b4 _ _).trans ?_)
    rw [show 4 * g + (128 * p.val + j) / 64 = 4 * g + 2 * p.val by omega, show 128 * ((128 * p.val + j) % 64 + 1) = 128 * j + 128 by omega]
  hrb r := by
    subst hw
    refine (lane_at' ((Run.pre m c t).r p) ⟨j, by omega⟩ hj r).trans ?_
    have e : (Run.pre m c t).r p (ix2 r ⟨j + 64, by omega⟩) = (iblk m c 4 t : Vec Ideal S256x256 .f32) (ix2 r ⟨128 * p.val + (j + 64), by have := p.isLt; omega⟩) := by
      match p with
      | 0 => unfold Run.pre pick; dsimp only; pointwise [k0_pay203]; exact part_at _ (wh4 t) _ 0 _ r _ _ (by simp)
      | 1 => unfold Run.pre pick; dsimp only; pointwise [k0_pay204]; exact part_at _ (wh4 t) _ 128 _ r _ _ (by simp)
    refine e.trans ((B.b4 _ _).trans ?_)
    rw [show 4 * g + (128 * p.val + (j + 64)) / 64 = 4 * g + 2 * p.val + 1 by omega, show 128 * ((128 * p.val + (j + 64)) % 64 + 1) = 128 * j + 128 by omega]
  hmsk := hmk

theorem word_i : wordT m c t = BitVec.ofNat 32 (grid0.coords t 1).val := word_at m c t _

theorem trip_off (n : Fin (tripsT m c t)) (dd p : Fin 2) : (tripT m c t n).off dd p 0 = 128 * (2 * n.val + dd.val) ∧ (tripT m c t n).off dd p 1 = 128 * p.val := by
  obtain ⟨h1, h2, -⟩ := off2_at (grid0.coords t) (wordT m c t) (word_i B) n dd
  match p with
  | 0 => exact ⟨congrFun h1 0, congrFun h1 1⟩
  | 1 => exact ⟨congrFun h2 0, congrFun h2 1⟩

theorem trip_fits (n : Fin (tripsT m c t)) (dd p : Fin 2) :
    Fits q k v d ((tripT m c t n).ch dd p) (4 * g + 2 * p.val) (256 * i) (128 * (2 * n.val + dd.val)) := by
  have hn : n.val < i := lt_of_lt_of_eq n.isLt ((trips_eq m c t).trans B.hi)
  have hi : i < 32 := by have := (grid0.coords t 1).isLt; rw [← B.hi]; exact this
  exact ch_fits B p (2 * n.val + dd.val) (by omega) _ (off2_at (grid0.coords t) (wordT m c t) (word_i B) n dd).2.2 none (by dsimp only; omega) _ _ (trip_off B n dd p).1 (trip_off B n dd p).2

theorem diag_off (dd p : Fin 2) : (diagT m c t).off dd p 0 = 128 * (2 * i + dd.val) ∧ (diagT m c t).off dd p 1 = 128 * p.val := by
  obtain ⟨h1, h2, -⟩ := off6_at (grid0.coords t) dd
  rw [B.hi] at h1 h2
  match p with
  | 0 => exact ⟨congrFun h1 0, congrFun h1 1⟩
  | 1 => exact ⟨congrFun h2 0, congrFun h2 1⟩

theorem diag_fits (dd p : Fin 2) :
    Fits q k v d ((diagT m c t).ch dd p) (4 * g + 2 * p.val) (256 * i) (128 * (2 * i + dd.val)) := by
  have hi : i < 32 := by have := (grid0.coords t 1).isLt; rw [← B.hi]; exact this
  have h3 := (off6_at (grid0.coords t) dd).2.2
  have hm := mask_at (grid0.coords t) dd
  rw [B.hi] at h3 hm
  exact ch_fits B p (2 * i + dd.val) (by omega) _ h3 (some (diagMask (grid0.coords t) dd)) hm _ _ (diag_off B dd p).1 (diag_off B dd p).2

end Cert.SbVal
-- ==== Proof.Sb.Trip.lean ====
/- What the loop over key blocks and the steps on the diagonal leave at a grid point: the sums carried, the accumulators. -/
module

public import proofs.«01_k».proof.Proof.Sb.Fit
public import Idealize.ShloMosaic.Lib.WritesUnit

@[expose] public section

set_option maxRecDepth 16384

noncomputable section

namespace Cert.SbVal

open Finset
open Idealize.ShloMosaic Idealize.ShloMosaic.Pointwise
open Cert.SbIdeal Cert.SbIdeal.Gen Cert.SbIdeal.Run

/-- An entry of an accumulator of a given content. -/
abbrev cell (M : Memref sig .tc .vmem S8192x256 .f32) (G : BufTy.Contents (Elt Ideal) M.view.ty) (s : Fin 8192) (y : Fin 256) : EReal :=
  M.view.read (Elt Ideal) G (ix2 s y)

/-- One store adds, in its block, what the step's value is; elsewhere the accumulator stays. -/
theorem put_at (M : Memref sig .tc .vmem S8192x256 .f32) (G : BufTy.Contents (Elt Ideal) M.view.ty) (off : Fin 2 → ℕ)
    (ho : ∀ a, off a + S128x128.size a ≤ S8192x256.size a) (f : Vec Ideal S128x128 .f32 → FVec Ideal S128x128 .f32)
    (L : List (View.Piece (Elt Ideal) S8192x256 .f32)) (j p g : ℕ) (hj : off 0 = 128 * j) (hp : off 1 = 128 * p) (hp2 : p < 2) (D : ℕ → ℕ → ℕ → ℝ)
    (hf : ∀ old x e l, f old (ix2 x (hl e l)) = old (ix2 x (hl e l)) + ((D (4 * g + 2 * p + e.val) (128 * j + x.val) l.val : ℝ) : EReal))
    (s : Fin 8192) (y : Fin 256) :
    cell M (M.view.writes (Elt Ideal) G (put M G off ho f L)) s y
      = cell M (M.view.writes (Elt Ideal) G L) s y
        + if s.val / 128 = j ∧ y.val / 128 = p then ((D (4 * g + y.val / 64) s.val (y.val % 64) : ℝ) : EReal) else 0 := by
  have hoff : off = ![128 * j, 128 * p] := by
    funext a
    match a with
    | 0 => exact hj
    | 1 => exact hp
  by_cases h : s.val / 128 = j ∧ y.val / 128 = p
  · rw [if_pos h]
    obtain ⟨h1, h2⟩ := h
    obtain ⟨e, l, hel⟩ := hl_surj ⟨y.val - 128 * p, by omega⟩
    have hel' : y.val - 128 * p = e.val * 64 + l.val := congrArg Fin.val hel
    have hl2 := l.isLt
    have he2 := e.isLt
    unfold put
    refine (View.read_writes_cons_unit_of_mem (Val := Elt Ideal) M.view G ho _ L (ix2 s y) (ix2 (⟨s.val - 128 * j, by omega⟩ : Fin 128) (hl e l)) hoff ?_).trans ?_
    · intro a
      match a with
      | 0 => show s.val = 128 * j + (s.val - 128 * j); omega
      | 1 => show y.val = 128 * p + (hl e l).val; rw [← hel]; show y.val = 128 * p + (y.val - 128 * p); omega
    · rw [hf]
      congr 1
      · rw [View.readAt_apply]
        refine congrArg _ (funext fun a => Fin.ext ?_)
        match a with
        | 0 => show off 0 + 1 * (s.val - 128 * j) = s.val; rw [hj]; omega
        | 1 => show off 1 + 1 * (hl e l).val = y.val; rw [hp, ← hel]; show 128 * p + 1 * (y.val - 128 * p) = y.val; omega
      · rw [show 4 * g + 2 * p + e.val = 4 * g + y.val / 64 by omega, show 128 * j + (s.val - 128 * j) = s.val by omega, show l.val = y.val % 64 by omega]
  · rw [if_neg h, add_zero]
    unfold put
    by_cases h1 : s.val / 128 = j
    · refine View.read_writes_cons_unit_of_not_mem (Val := Elt Ideal) M.view G ho _ L (ix2 s y) hoff 1 ?_
      have h2 : ¬ y.val / 128 = p := fun e => h ⟨h1, e⟩
      show y.val < 128 * p ∨ 128 * p + 128 ≤ y.val
      omega
    · refine View.read_writes_cons_unit_of_not_mem (Val := Elt Ideal) M.view G ho _ L (ix2 s y) hoff 0 ?_
      show s.val < 128 * j ∨ 128 * j + 128 ≤ s.val
      omega

/-- Four stores, one for each half of the rows and of the columns of a block of 256. -/
theorem four_sum (s y n : ℕ) (hy : y < 256) (D : EReal) :
    (if s / 128 = 2 * n + 0 ∧ y / 128 = 0 then D else 0) + (if s / 128 = 2 * n + 0 ∧ y / 128 = 1 then D else 0)
      + (if s / 128 = 2 * n + 1 ∧ y / 128 = 0 then D else 0) + (if s / 128 = 2 * n + 1 ∧ y / 128 = 1 then D else 0)
      = if s / 256 = n then D else 0 := by
  by_cases h : s / 256 = n
  · rw [if_pos h]
    rcases (show s / 128 = 2 * n ∨ s / 128 = 2 * n + 1 by omega) with h1 | h1 <;> rcases (show y / 128 = 0 ∨ y / 128 = 1 by omega) with h2 | h2 <;>
      simp [h1, h2]
  · rw [if_neg h, if_neg (by omega), if_neg (by omega), if_neg (by omega), if_neg (by omega)]
    simp

variable {q k v d : ℕ → ℕ → ℝ}

/-- The four steps of a block of 256 keys from `256 n` read the real inputs. -/
structure FitsFour (x : Four Ideal) (g i n : ℕ) : Prop where
  hoff : ∀ dd p : Fin 2, x.off dd p 0 = 128 * (2 * n + dd.val) ∧ x.off dd p 1 = 128 * p.val
  hch : ∀ dd p : Fin 2, Fits q k v d (x.ch dd p) (4 * g + 2 * p.val) (256 * i) (128 * (2 * n + dd.val))

/-- Both pairs' carried values. -/
def Holds2 (q k v d : ℕ → ℕ → ℝ) (st : Fin 2 → St Ideal) (g i n : ℕ) : Prop :=
  ∀ p : Fin 2, Holds q k v d (st p) (4 * g + 2 * p.val) (256 * i) (256 * n)

section

variable {x : Four Ideal} {g i n : ℕ} (X : FitsFour (q := q) (k := k) (v := v) (d := d) x g i n)
include X

theorem mid_holds (p : Fin 2) (st : St Ideal) (S : Holds q k v d st (4 * g + 2 * p.val) (256 * i) (256 * n)) :
    Holds q k v d (x.mid p st) (4 * g + 2 * p.val) (256 * i) (128 * (2 * n + 1)) := by
  have F := X.hch 0 p
  rw [show 128 * (2 * n + (0 : Fin 2).val) = 256 * n by show 128 * (2 * n + 0) = _; ring] at F
  have := next_holds F S
  rwa [show 256 * n + 128 = 128 * (2 * n + 1) by ring] at this

theorem out_holds (p : Fin 2) (st : St Ideal) (S : Holds q k v d st (4 * g + 2 * p.val) (256 * i) (256 * n)) :
    Holds q k v d (x.out p st) (4 * g + 2 * p.val) (256 * i) (256 * (n + 1)) := by
  have := next_holds (X.hch 1 p) (mid_holds X p st S)
  rwa [show 128 * (2 * n + (1 : Fin 2).val) + 128 = 256 * (n + 1) by show 128 * (2 * n + 1) + 128 = _; ring] at this

theorem four_dk (M : Memref sig .tc .vmem S8192x256 .f32) (G : BufTy.Contents (Elt Ideal) M.view.ty) (st : Fin 2 → St Ideal) (S : Holds2 q k v d st g i n)
    (L : List (View.Piece (Elt Ideal) S8192x256 .f32)) (s : Fin 8192) (y : Fin 256) :
    cell M (M.view.writes (Elt Ideal) G (x.dk M G st L)) s y
      = cell M (M.view.writes (Elt Ideal) G L) s y
        + if s.val / 256 = n then ((dks q k v d (4 * g + y.val / 64) s.val (y.val % 64) (256 * i) 256 : ℝ) : EReal) else 0 := by
  have f0 : ∀ p : Fin 2, ∀ old c e l, (x.ch 0 p).dk (st p) old (ix2 c (hl e l))
      = old (ix2 c (hl e l)) + ((dks q k v d (4 * g + 2 * p.val + e.val) (128 * (2 * n + 0) + c.val) l.val (256 * i) 256 : ℝ) : EReal) :=
    fun p old c e l => dk_at (X.hch 0 p) (by have := S p; rwa [show 256 * n = 128 * (2 * n + (0 : Fin 2).val) by show _ = 128 * (2 * n + 0); ring] at this) old c e l
  have f1 : ∀ p : Fin 2, ∀ old c e l, (x.ch 1 p).dk (x.mid p (st p)) old (ix2 c (hl e l))
      = old (ix2 c (hl e l)) + ((dks q k v d (4 * g + 2 * p.val + e.val) (128 * (2 * n + 1) + c.val) l.val (256 * i) 256 : ℝ) : EReal) :=
    fun p old c e l => dk_at (X.hch 1 p) (mid_holds X p (st p) (S p)) old c e l
  unfold Four.dk
  rw [put_at M G _ _ _ _ (2 * n + 1) 1 g (X.hoff 1 1).1 (X.hoff 1 1).2 (by decide) (fun h s l => dks q k v d h s l (256 * i) 256) (f1 1),
    put_at M G _ _ _ _ (2 * n + 1) 0 g (X.hoff 1 0).1 (X.hoff 1 0).2 (by decide) (fun h s l => dks q k v d h s l (256 * i) 256) (f1 0),
    put_at M G _ _ _ _ (2 * n + 0) 1 g (X.hoff 0 1).1 (X.hoff 0 1).2 (by decide) (fun h s l => dks q k v d h s l (256 * i) 256) (f0 1),
    put_at M G _ _ _ _ (2 * n + 0) 0 g (X.hoff 0 0).1 (X.hoff 0 0).2 (by decide) (fun h s l => dks q k v d h s l (256 * i) 256) (f0 0),
    add_assoc, add_assoc, add_assoc, ← four_sum s.val y.val n y.isLt, add_assoc, add_assoc]

theorem four_dv (M : Memref sig .tc .vmem S8192x256 .f32) (G : BufTy.Contents (Elt Ideal) M.view.ty)
    (L : List (View.Piece (Elt Ideal) S8192x256 .f32)) (s : Fin 8192) (y : Fin 256) :
    cell M (M.view.writes (Elt Ideal) G (x.dv M G L)) s y
      = cell M (M.view.writes (Elt Ideal) G L) s y
        + if s.val / 256 = n then ((dvs q k d (4 * g + y.val / 64) s.val (y.val % 64) (256 * i) 256 : ℝ) : EReal) else 0 := by
  have f0 : ∀ p : Fin 2, ∀ old c e l, (x.ch 0 p).dv old (ix2 c (hl e l))
      = old (ix2 c (hl e l)) + ((dvs q k d (4 * g + 2 * p.val + e.val) (128 * (2 * n + 0) + c.val) l.val (256 * i) 256 : ℝ) : EReal) :=
    fun p old c e l => dv_at (X.hch 0 p) old c e l
  have f1 : ∀ p : Fin 2, ∀ old c e l, (x.ch 1 p).dv old (ix2 c (hl e l))
      = old (ix2 c (hl e l)) + ((dvs q k d (4 * g + 2 * p.val + e.val) (128 * (2 * n + 1) + c.val) l.val (256 * i) 256 : ℝ) : EReal) :=
    fun p old c e l => dv_at (X.hch 1 p) old c e l
  unfold Four.dv
  rw [put_at M G _ _ _ _ (2 * n + 1) 1 g (X.hoff 1 1).1 (X.hoff 1 1).2 (by decide) (fun h s l => dvs q k d h s l (256 * i) 256) (f1 1),
    put_at M G _ _ _ _ (2 * n + 1) 0 g (X.hoff 1 0).1 (X.hoff 1 0).2 (by decide) (fun h s l => dvs q k d h s l (256 * i) 256) (f1 0),
    put_at M G _ _ _ _ (2 * n + 0) 1 g (X.hoff 0 1).1 (X.hoff 0 1).2 (by decide) (fun h s l => dvs q k d h s l (256 * i) 256) (f0 1),
    put_at M G _ _ _ _ (2 * n + 0) 0 g (X.hoff 0 0).1 (X.hoff 0 0).2 (by decide) (fun h s l => dvs q k d h s l (256 * i) 256) (f0 0),
    add_assoc, add_assoc, add_assoc, ← four_sum s.val y.val n y.isLt, add_assoc, add_assoc]

end

/-- A later block of keys joins those before it. -/
theorem join_lt (s n : ℕ) (D : EReal) : (if s / 256 < n then D else 0) + (if s / 256 = n then D else 0) = if s / 256 < n + 1 then D else 0 := by
  rcases Nat.lt_trichotomy (s / 256) n with h | h | h
  · rw [if_pos h, if_neg (by omega), if_pos (by omega), add_zero]
  · rw [if_neg (by omega), if_pos h, if_pos (by omega), zero_add]
  · rw [if_neg (by omega), if_neg (by omega), if_neg (by omega), add_zero]

variable {m : (ℓ : Loc nD τ sig) → Buf (Elt Ideal) ℓ} {c : Dev nD} {t : Fin cfg0.N} {g i : ℕ}

/-- One trip more. -/
theorem loop_succ (G11 : BufTy.Contents (Elt Ideal) (st0_9 t).view.ty) (G12 : BufTy.Contents (Elt Ideal) (st0_10 t).view.ty) (n : Fin (tripsT m c t)) :
    loopT m c t G11 G12 (n.val + 1)
      = (St2.mk ((tripT m c t n).out 0 (St2.fst (loopT m c t G11 G12 n.val).1)) ((tripT m c t n).out 1 (St2.snd (loopT m c t G11 G12 n.val).1)),
        (tripT m c t n).dk (st0_9 t) ((st0_9 t).view.writes (Elt Ideal) G11 (loopT m c t G11 G12 n.val).2.1)
          (pick (St2.fst (loopT m c t G11 G12 n.val).1) (St2.snd (loopT m c t G11 G12 n.val).1)) [] ++ (loopT m c t G11 G12 n.val).2.1,
        (tripT m c t n).dv (st0_10 t) ((st0_10 t).view.writes (Elt Ideal) G12 (loopT m c t G11 G12 n.val).2.2) [] ++ (loopT m c t G11 G12 n.val).2.2) := by
  unfold loopT
  refine (st_k0_t1_succ (F := Ideal) ..).trans ?_
  rw [tripR_eq (Run.pre m c t), tripL_eq (Run.pre m c t)]

section

variable (B : Blocks q k v d m c t g i)
include B

theorem trip_four (n : Fin (tripsT m c t)) : FitsFour (q := q) (k := k) (v := v) (d := d) (tripT m c t n) g i n.val := ⟨trip_off B n, trip_fits B n⟩
theorem diag_four : FitsFour (q := q) (k := k) (v := v) (d := d) (diagT m c t) g i i := ⟨diag_off B, diag_fits B⟩

omit B in
theorem start_holds : Holds2 q k v d (pick (St2.fst (start (F := Ideal))) (St2.snd start)) g i 0 := by
  have z1 : ∀ r, (k0_pay205 (F := Ideal)) (ix2 r 0) = 0 := fun r => by pointwise [k0_pay205]
  have z2 : ∀ r, (k0_pay206 (F := Ideal)) (ix2 r 0) = 0 := fun r => by pointwise [k0_pay206]
  have z3 : ∀ r y, (k0_pay207 (F := Ideal)) (ix2 r y) = 0 := fun r y => by pointwise [k0_pay207]
  have z4 : ∀ r, (k0_pay208 (F := Ideal)) (ix2 r 0) = 0 := fun r => by pointwise [k0_pay208]
  have z5 : ∀ r, (k0_pay209 (F := Ideal)) (ix2 r 0) = 0 := fun r => by pointwise [k0_pay209]
  have z6 : ∀ r y, (k0_pay210 (F := Ideal)) (ix2 r y) = 0 := fun r y => by pointwise [k0_pay210]
  have p0 : ∀ h r, ((SbVal.pre q k v d h r (256 * 0) : ℝ) : EReal) = 0 := fun h r => by simp [SbVal.pre]
  have q0 : ∀ h r l, ((dqs q k v d h r l (256 * 0) : ℝ) : EReal) = 0 := fun h r l => by simp [dqs]
  intro p
  match p with
  | 0 => exact ⟨fun r => (z1 r).trans (p0 _ _).symm, fun r => (z2 r).trans (p0 _ _).symm, fun r e l => (z3 r (hl e l)).trans (q0 _ _ _).symm⟩
  | 1 => exact ⟨fun r => (z4 r).trans (p0 _ _).symm, fun r => (z5 r).trans (p0 _ _).symm, fun r e l => (z6 r (hl e l)).trans (q0 _ _ _).symm⟩

/-- After `n` trips: the carried sums run to key `256 n`, the accumulators have the point's part of every key before it. -/
theorem loop_holds (G11 : BufTy.Contents (Elt Ideal) (st0_9 t).view.ty) (G12 : BufTy.Contents (Elt Ideal) (st0_10 t).view.ty) (n : ℕ) (hn : n ≤ tripsT m c t) :
    Holds2 q k v d (pick (St2.fst (loopT m c t G11 G12 n).1) (St2.snd (loopT m c t G11 G12 n).1)) g i n
    ∧ (∀ (s : Fin 8192) (y : Fin 256), cell (st0_9 t) ((st0_9 t).view.writes (Elt Ideal) G11 (loopT m c t G11 G12 n).2.1) s y
      = cell (st0_9 t) G11 s y
        + if s.val / 256 < n then ((dks q k v d (4 * g + y.val / 64) s.val (y.val % 64) (256 * i) 256 : ℝ) : EReal) else 0)
    ∧ (∀ (s : Fin 8192) (y : Fin 256), cell (st0_10 t) ((st0_10 t).view.writes (Elt Ideal) G12 (loopT m c t G11 G12 n).2.2) s y
      = cell (st0_10 t) G12 s y
        + if s.val / 256 < n then ((dvs q k d (4 * g + y.val / 64) s.val (y.val % 64) (256 * i) 256 : ℝ) : EReal) else 0) := by
  induction n with
  | zero =>
    refine ⟨start_holds, fun s y => ?_, fun s y => ?_⟩
    · rw [if_neg (Nat.not_lt_zero _), add_zero]; rfl
    · rw [if_neg (Nat.not_lt_zero _), add_zero]; rfl
  | succ n ih =>
    obtain ⟨hS, hk, hv⟩ := ih (by omega)
    have e := loop_succ (m := m) (c := c) (t := t) G11 G12 ⟨n, by omega⟩
    dsimp only at e
    have X := trip_four B ⟨n, by omega⟩
    rw [e]
    refine ⟨fun p => ?_, fun s y => ?_, fun s y => ?_⟩
    · match p with
      | 0 => exact out_holds X 0 _ (hS 0)
      | 1 => exact out_holds X 1 _ (hS 1)
    · rw [View.writes_append, four_dk X _ _ _ hS, View.writes_nil, hk, add_assoc, join_lt]
    · rw [View.writes_append, four_dv X, View.writes_nil, hv, add_assoc, join_lt]

end

end Cert.SbVal
-- ==== Proof.Sb.Sums.lean ====
/- What the accumulators hold after each grid point, and the three arrays after the run. -/
module

public import proofs.«01_k».proof.Proof.Sb.Trip
public import Idealize.ShloMosaic.Lib.VecWindow
public import Idealize.ShloMosaic.Lib.Pipeline.ValueKit

@[expose] public section

set_option maxRecDepth 16384

noncomputable section

namespace Cert.SbVal

open Finset
open Idealize.ShloMosaic Idealize.ShloMosaic.Pointwise Idealize.ShloMosaic.TcCoe
open Idealize.ShloMosaic.Pipeline (Dat Cfg Window cellOf)
open Cert.SbIdeal Cert.SbIdeal.Gen Cert.SbIdeal.Run

theorem eighth : Ideal.ofBits FTy.f32 1040187392#32 = ((1 / 8 : ℝ) : EReal) := by
  simp [Ideal.ofBits, Ideal.ieee]
  rw [← EReal.coe_mul]
  norm_num

variable (q k v d : ℕ → ℕ → ℝ)

theorem dz_after (h t s : ℕ) (hs : t ≤ s) : dz q k v d h t s = 0 := if_neg (by omega)
theorem ww_after (h t s : ℕ) (hs : t ≤ s) : ww q k h t s = 0 := if_neg (by omega)

theorem dks_after (h s l n m : ℕ) (hs : n + m ≤ s + 1) : dks q k v d h s l n m = 0 :=
  sum_eq_zero fun r hr => by rw [dz_after _ _ _ _ _ _ _ (by have := mem_range.mp hr; omega), zero_mul]
theorem dvs_after (h s l n m : ℕ) (hs : n + m ≤ s + 1) : dvs q k d h s l n m = 0 :=
  sum_eq_zero fun r hr => by rw [ww_after _ _ _ _ _ (by have := mem_range.mp hr; omega), zero_mul]
theorem dks_join (h s l n m : ℕ) : dks q k v d h s l 0 n + dks q k v d h s l n m = dks q k v d h s l 0 (n + m) := by
  unfold dks; rw [sum_range_add]; simp only [Nat.zero_add]
theorem dvs_join (h s l n m : ℕ) : dvs q k d h s l 0 n + dvs q k d h s l n m = dvs q k d h s l 0 (n + m) := by
  unfold dvs; rw [sum_range_add]; simp only [Nat.zero_add]
theorem dqs_more (h t l n m : ℕ) (hn : t ≤ n) : dqs q k v d h t l (n + m) = dqs q k v d h t l n := by
  have z : ∑ r ∈ range m, dz q k v d h t (n + r) * k (n + r) (64 * h + l) = 0 :=
    sum_eq_zero fun r _ => by rw [dz_after _ _ _ _ _ _ _ (by omega), zero_mul]
  unfold dqs; rw [sum_range_add, z, add_zero]

variable {q k v d}

theorem all_keys (s i : ℕ) (D : EReal) (hD : 256 * i + 256 ≤ s → D = 0) :
    (if s / 256 < i then D else 0) + (if s / 256 = i then D else 0) = D := by
  rw [join_lt]
  by_cases h : s / 256 < i + 1
  · rw [if_pos h]
  · rw [if_neg h, hD (by omega)]

variable {m : (ℓ : Loc nD τ sig) → Buf (Elt Ideal) ℓ} {c : Dev nD} {t : Fin cfg0.N} {g i : ℕ}

section

variable (B : Blocks q k v d m c t g i)
include B

theorem trips_i : tripsT m c t = i := (trips_eq m c t).trans B.hi

theorem later_dk_at (h : ¬ t.val % 32 = 0) (D : Vec Ideal S8192x256 .f32 × Vec Ideal S8192x256 .f32) (s : Fin 8192) (y : Fin 256) :
    cell (st0_9 t) (atLater m c t h D).2.1 s y = (D.1 (ix2 s y) : EReal) + ((dks q k v d (4 * g + y.val / 64) s.val (y.val % 64) (256 * i) 256 : ℝ) : EReal) := by
  obtain ⟨hS, hk, -⟩ := loop_holds B ((wh9 t).unread D.1) ((wh10 t).unread D.2) i (trips_i B).ge
  rw [later_dk]
  unfold loopAll
  rw [trips_i B, four_dk (diag_four B) _ _ _ hS, hk, add_assoc, all_keys s.val i _ fun hs => by rw [dks_after _ _ _ _ _ _ _ _ _ (by omega)]; rfl]
  exact congrArg (· + _) (congrFun ((wh9 t).read_unread D.1) (ix2 s y))

theorem later_dv_at (h : ¬ t.val % 32 = 0) (D : Vec Ideal S8192x256 .f32 × Vec Ideal S8192x256 .f32) (s : Fin 8192) (y : Fin 256) :
    cell (st0_10 t) (atLater m c t h D).2.2.1 s y = (D.2 (ix2 s y) : EReal) + ((dvs q k d (4 * g + y.val / 64) s.val (y.val % 64) (256 * i) 256 : ℝ) : EReal) := by
  obtain ⟨hS, -, hk⟩ := loop_holds B ((wh9 t).unread D.1) ((wh10 t).unread D.2) i (trips_i B).ge
  rw [later_dv]
  unfold loopAll
  rw [trips_i B, four_dv (diag_four B) _ _ _, hk, add_assoc, all_keys s.val i _ fun hs => by rw [dvs_after _ _ _ _ _ _ _ _ (by omega)]; rfl]
  exact congrArg (· + _) (congrFun ((wh10 t).read_unread D.2) (ix2 s y))

theorem first_dk_at (h : t.val % 32 = 0) (hi : i = 0) (s : Fin 8192) (y : Fin 256) :
    cell (st0_9 t) (atFirst m c t h).2.1 s y = ((dks q k v d (4 * g + y.val / 64) s.val (y.val % 64) (256 * i) 256 : ℝ) : EReal) := by
  obtain ⟨hS, hk, -⟩ := loop_holds B (clear11 t) (clear12 t) i (trips_i B).ge
  have e0 : (loopT m c t (clear11 t) (clear12 t) i).2.1 = [] := by subst hi; rfl
  have z : cell (st0_9 t) (clear11 t) s y = 0 := by
    refine (congrFun (View.read_writes_full (Val := Elt Ideal) (st0_9 t).view _ inb_S8192x256_S8192x256_0_0 (k0_pay194 (F := Ideal)) []) (ix2 s y)).trans ?_
    pointwise [k0_pay194]
  rw [first_dk]
  unfold loopAll
  rw [trips_i B, e0, List.nil_append, four_dk (diag_four B) _ _ _ hS]
  refine (congrArg (· + _) z).trans ?_
  have e := all_keys s.val i (((dks q k v d (4 * g + y.val / 64) s.val (y.val % 64) (256 * i) 256 : ℝ) : EReal)) fun hs => by rw [dks_after _ _ _ _ _ _ _ _ _ (by omega)]; rfl
  rw [if_neg (show ¬ s.val / 256 < i by omega)] at e
  exact e

theorem first_dv_at (h : t.val % 32 = 0) (hi : i = 0) (s : Fin 8192) (y : Fin 256) :
    cell (st0_10 t) (atFirst m c t h).2.2.1 s y = ((dvs q k d (4 * g + y.val / 64) s.val (y.val % 64) (256 * i) 256 : ℝ) : EReal) := by
  have e0 : (loopT m c t (clear11 t) (clear12 t) i).2.2 = [] := by subst hi; rfl
  have z : cell (st0_10 t) (clear12 t) s y = 0 := by
    refine (congrFun (View.read_writes_full (Val := Elt Ideal) (st0_10 t).view _ inb_S8192x256_S8192x256_0_0 (k0_pay195 (F := Ideal)) []) (ix2 s y)).trans ?_
    pointwise [k0_pay195]
  rw [first_dv]
  unfold loopAll
  rw [trips_i B, e0, List.nil_append, four_dv (diag_four B) _ _ _]
  refine (congrArg (· + _) z).trans ?_
  have e := all_keys s.val i (((dvs q k d (4 * g + y.val / 64) s.val (y.val % 64) (256 * i) 256 : ℝ) : EReal)) fun hs => by rw [dvs_after _ _ _ _ _ _ _ _ (by omega)]; rfl
  rw [if_neg (show ¬ s.val / 256 < i by omega)] at e
  exact e

/-- The block of dq, whatever the accumulators held. -/
theorem dqOut_at (G11 : BufTy.Contents (Elt Ideal) (st0_9 t).view.ty) (G12 : BufTy.Contents (Elt Ideal) (st0_10 t).view.ty) (r y : Fin 256) :
    dqOut m c t (loopAll m c t G11 G12).1 (ix2 r y)
      = ((dqs q k v d (4 * g + y.val / 64) (256 * i + r.val) (y.val % 64) (256 * (i + 1)) * (1 / 8) : ℝ) : EReal) := by
  obtain ⟨hS, -, -⟩ := loop_holds B G11 G12 i (trips_i B).ge
  unfold loopAll
  rw [trips_i B]
  have h0 := (out_holds (diag_four B) 0 _ (hS 0)).dq
  have h1 := (out_holds (diag_four B) 1 _ (hS 1)).dq
  unfold dqOut
  pointwise [k0_pay1]
  by_cases h : y.val < 128
  · rw [dif_pos h, eighth]
    obtain ⟨e, l, hel⟩ := hl_surj ⟨y.val, h⟩
    have hel' : y.val = e.val * 64 + l.val := congrArg Fin.val hel
    have hl2 := l.isLt
    have he2 := e.isLt
    rw [hel]
    refine (congrArg (· * _) (h0 r e l)).trans ?_
    rw [← EReal.coe_mul, show 4 * g + 2 * (0 : Fin 2).val + e.val = 4 * g + y.val / 64 by show 4 * g + 2 * 0 + e.val = _; omega, show l.val = y.val % 64 by omega]
  · rw [dif_neg h, eighth]
    obtain ⟨e, l, hel⟩ := hl_surj ⟨y.val - 128, by omega⟩
    have hel' : y.val - 128 = e.val * 64 + l.val := congrArg Fin.val hel
    have hl2 := l.isLt
    have he2 := e.isLt
    rw [hel]
    refine (congrArg (· * _) (h1 r e l)).trans ?_
    rw [← EReal.coe_mul, show 4 * g + 2 * (1 : Fin 2).val + e.val = 4 * g + y.val / 64 by show 4 * g + 2 * 1 + e.val = _; omega, show l.val = y.val % 64 by omega]

theorem dqStep_at (D : Vec Ideal S8192x256 .f32 × Vec Ideal S8192x256 .f32) (r y : Fin 256) :
    dqStep m c t D (ix2 r y) = ((dqs q k v d (4 * g + y.val / 64) (256 * i + r.val) (y.val % 64) (256 * (i + 1)) * (1 / 8) : ℝ) : EReal) := by
  unfold dqStep
  by_cases h : t.val % 32 = 0
  · rw [dif_pos h, first_dq, View.read_writes_full]
    exact dqOut_at B _ _ r y
  · rw [dif_neg h, later_dq, View.read_writes_full]
    exact dqOut_at B _ _ r y

end

/-- Every point's blocks hold the real inputs. -/
def AllBlocks (q k v d : ℕ → ℕ → ℝ) (m : (ℓ : Loc nD τ sig) → Buf (Elt Ideal) ℓ) (c : Dev nD) : Prop :=
  ∀ t : Fin cfg0.N, Blocks q k v d m c t (t.val / 32) (t.val % 32)

theorem acc_at (HB : AllBlocks q k v d m c) (n : ℕ) (hn : n < cfg0.N) (s : Fin 8192) (y : Fin 256) :
    ((acc m c n hn).1 (ix2 s y) : EReal) = ((dks q k v d (4 * (n / 32) + y.val / 64) s.val (y.val % 64) 0 (256 * (n % 32 + 1)) : ℝ) : EReal)
    ∧ ((acc m c n hn).2 (ix2 s y) : EReal) = ((dvs q k d (4 * (n / 32) + y.val / 64) s.val (y.val % 64) 0 (256 * (n % 32 + 1)) : ℝ) : EReal) := by
  induction n with
  | zero =>
    have B := HB ⟨0, hn⟩
    refine ⟨?_, ?_⟩
    · refine Eq.trans ?_ (first_dk_at B rfl rfl s y)
      show (accStep m c ⟨0, hn⟩ _).1 _ = _
      unfold accStep; rw [dif_pos (show (⟨0, hn⟩ : Fin cfg0.N).val % 32 = 0 from rfl)]
    · refine Eq.trans ?_ (first_dv_at B rfl rfl s y)
      show (accStep m c ⟨0, hn⟩ _).2 _ = _
      unfold accStep; rw [dif_pos (show (⟨0, hn⟩ : Fin cfg0.N).val % 32 = 0 from rfl)]
  | succ n ih =>
    have B := HB ⟨n + 1, hn⟩
    dsimp only at B
    obtain ⟨i1, i2⟩ := ih (by omega)
    by_cases h : (n + 1) % 32 = 0
    · refine ⟨?_, ?_⟩
      · refine Eq.trans ?_ ((first_dk_at B h h s y).trans ?_)
        · show (accStep m c ⟨n + 1, hn⟩ _).1 _ = _
          unfold accStep; rw [dif_pos (show (⟨n + 1, hn⟩ : Fin cfg0.N).val % 32 = 0 from h)]
        · rw [h]
      · refine Eq.trans ?_ ((first_dv_at B h h s y).trans ?_)
        · show (accStep m c ⟨n + 1, hn⟩ _).2 _ = _
          unfold accStep; rw [dif_pos (show (⟨n + 1, hn⟩ : Fin cfg0.N).val % 32 = 0 from h)]
        · rw [h]
    · have a1 : n / 32 = (n + 1) / 32 := by omega
      have a2 : n % 32 + 1 = (n + 1) % 32 := by omega
      rw [a1, a2] at i1 i2
      refine ⟨?_, ?_⟩
      · refine Eq.trans ?_ ((later_dk_at B h (acc m c n (by omega)) s y).trans ?_)
        · show (accStep m c ⟨n + 1, hn⟩ _).1 _ = _
          unfold accStep; rw [dif_neg (show ¬ (⟨n + 1, hn⟩ : Fin cfg0.N).val % 32 = 0 from h)]
        · rw [i1, ← EReal.coe_add, dks_join]; rfl
      · refine Eq.trans ?_ ((later_dv_at B h (acc m c n (by omega)) s y).trans ?_)
        · show (accStep m c ⟨n + 1, hn⟩ _).2 _ = _
          unfold accStep; rw [dif_neg (show ¬ (⟨n + 1, hn⟩ : Fin cfg0.N).val % 32 = 0 from h)]
        · rw [i2, ← EReal.coe_add, dvs_join]; rfl

/-- The arrays of dq, dk and dv. -/
def outQ (q k v d : ℕ → ℕ → ℝ) : Vec Ideal S8192x512 .f32 := fun y =>
  ((dqs q k v d ((y 1).val / 64) (y 0).val ((y 1).val % 64) 8192 * (1 / 8) : ℝ) : EReal)
def outK (q k v d : ℕ → ℕ → ℝ) : Vec Ideal S8192x512 .f32 := fun y =>
  ((dks q k v d ((y 1).val / 64) (y 0).val ((y 1).val % 64) 0 8192 : ℝ) : EReal)
def outV (q k d : ℕ → ℕ → ℝ) : Vec Ideal S8192x512 .f32 := fun y =>
  ((dvs q k d ((y 1).val / 64) (y 0).val ((y 1).val % 64) 0 8192 : ℝ) : EReal)

theorem final_q (HB : AllBlocks q k v d m c) : (dats m 0 c).arrAt 8 cfg0.N = outQ q k v d := by
  have e : ∀ t, win0_8.index t = ![t.val % 32, t.val / 32] := by decide +kernel
  refine (dats m 0 c).arrAt_eq_of_covers 8 _ (by decide +kernel) fun t hf y => ?_
  have ht : t.val < 64 := t.isLt
  rw [after8]
  obtain ⟨r, x, rfl⟩ : ∃ (r : Fin 256) (x : Fin 256), y = ix2 r x := ⟨y 0, y 1, (ix2_eta y).symm⟩
  refine (dqStep_at (HB t) _ r x).trans ?_
  have h0 : ((win0_8.blk t).view.emb (ix2 r x) 0).val = 256 * (t.val % 32) + r.val := by blk_simp [e]; omega
  have h1 : ((win0_8.blk t).view.emb (ix2 r x) 1).val = 256 * (t.val / 32) + x.val := by blk_simp [e]; omega
  have hr := r.isLt
  have hx := x.isLt
  refine Eq.trans ?_ (show _ = outQ q k v d ((win0_8.blk t).view.emb (ix2 r x)) from rfl)
  unfold outQ
  rw [h0, h1, show (256 * (t.val / 32) + x.val) / 64 = 4 * (t.val / 32) + x.val / 64 by omega, show (256 * (t.val / 32) + x.val) % 64 = x.val % 64 by omega,
    show 8192 = 256 * (t.val % 32 + 1) + (8192 - 256 * (t.val % 32 + 1)) by omega, dqs_more _ _ _ _ _ _ _ _ _ (by omega)]

theorem final_k (HB : AllBlocks q k v d m c) : (dats m 0 c).arrAt 9 cfg0.N = outK q k v d := by
  have e : ∀ t, win0_9.index t = ![0, t.val / 32] := by decide +kernel
  refine (dats m 0 c).arrAt_eq_of_covers 9 _ (by decide +kernel) fun t hf y => ?_
  have ht : t.val < 64 := t.isLt
  have h31 : t.val % 32 = 31 := (flush0_9 t).mp hf
  rw [after9]
  obtain ⟨r, x, rfl⟩ : ∃ (r : Fin 8192) (x : Fin 256), y = ix2 r x := ⟨y 0, y 1, (ix2_eta y).symm⟩
  refine (acc_at HB t.val t.isLt r x).1.trans ?_
  have h0 : ((win0_9.blk t).view.emb (ix2 r x) 0).val = r.val := by blk_simp [e]
  have h1 : ((win0_9.blk t).view.emb (ix2 r x) 1).val = 256 * (t.val / 32) + x.val := by blk_simp [e]; omega
  have hx := x.isLt
  refine Eq.trans ?_ (show _ = outK q k v d ((win0_9.blk t).view.emb (ix2 r x)) from rfl)
  unfold outK
  rw [h0, h1, show (256 * (t.val / 32) + x.val) / 64 = 4 * (t.val / 32) + x.val / 64 by omega, show (256 * (t.val / 32) + x.val) % 64 = x.val % 64 by omega, h31]

theorem final_v (HB : AllBlocks q k v d m c) : (dats m 0 c).arrAt 10 cfg0.N = outV q k d := by
  have e : ∀ t, win0_10.index t = ![0, t.val / 32] := by decide +kernel
  refine (dats m 0 c).arrAt_eq_of_covers 10 _ (by decide +kernel) fun t hf y => ?_
  have ht : t.val < 64 := t.isLt
  have h31 : t.val % 32 = 31 := (flush0_10 t).mp hf
  rw [after10]
  obtain ⟨r, x, rfl⟩ : ∃ (r : Fin 8192) (x : Fin 256), y = ix2 r x := ⟨y 0, y 1, (ix2_eta y).symm⟩
  refine (acc_at HB t.val t.isLt r x).2.trans ?_
  have h0 : ((win0_10.blk t).view.emb (ix2 r x) 0).val = r.val := by blk_simp [e]
  have h1 : ((win0_10.blk t).view.emb (ix2 r x) 1).val = 256 * (t.val / 32) + x.val := by blk_simp [e]; omega
  have hx := x.isLt
  refine Eq.trans ?_ (show _ = outV q k d ((win0_10.blk t).view.emb (ix2 r x)) from rfl)
  unfold outV
  rw [h0, h1, show (256 * (t.val / 32) + x.val) / 64 = 4 * (t.val / 32) + x.val / 64 by omega, show (256 * (t.val / 32) + x.val) % 64 = x.val % 64 by omega, h31]

end Cert.SbVal
-- ==== Proof.Cumsum.lean ====
/- Running sums along the last of three axes, from either end, as sums over a range of the axis. -/
module

public import Idealize.ShloMosaic.Lib.Pointwise

@[expose] public section

namespace Cert.Cumsum

open Finset Idealize.ShloMosaic Idealize.ShloMosaic.Pointwise

theorem foldl_sum {N : ℕ} (g : Fin N → EReal) : (List.finRange N).foldl (fun r n => r + g n) 0 = ∑ n, g n := by
  have e : ∀ (l : List (Fin N)) (a : EReal), l.foldl (fun r n => r + g n) a = a + (l.map g).sum := by
    intro l
    induction l with
    | nil => intro a; simp
    | cons b l ih => intro a; rw [List.foldl_cons, ih, List.map_cons, List.sum_cons, add_assoc]
  rw [e, zero_add, Fin.sum_univ_def]

/-- The places of a window that has one place along each of the first two axes. -/
def places (n : ℕ) : Fin n ≃ Shape.Idx ⟨3, ![1, 1, n]⟩ where
  toFun w := ix3 0 0 w
  invFun y := y 2
  left_inv _ := rfl
  right_inv y := by
    funext d
    match d with
    | 0 => exact Subsingleton.elim (α := Fin 1) _ _
    | 1 => exact Subsingleton.elim (α := Fin 1) _ _
    | 2 => rfl

/-- A window sum along the last axis, from a zero initial value: the operand's elements that the window meets. -/
theorem window_at {a b n : ℕ} (L H : ℕ) (x : (⟨3, ![a, b, n]⟩ : Shape).Idx → EReal) {u : Shape} (init : u.Idx → EReal) (hinit : ∀ i, init i = 0)
    (h : (⟨3, ![a, b, n]⟩ : Shape).ReduceWindows (![1, 1, n] : Fin 3 → ℕ) ![1, 1, 1] ![0, 0, L] ![0, 0, H] ⟨3, ![a, b, n]⟩) (hu : 0 < u.numel)
    (i : Fin a) (j : Fin b) (c : Fin n) :
    Host.reduceWindowAdd (F := Ideal) (φ := .f32) (s := ⟨3, ![a, b, n]⟩) ![1, 1, n] ![1, 1, 1] ![0, 0, L] ![0, 0, H] x init h hu (ix3 i j c)
      = ∑ w : Fin n, if hw : L ≤ c.val + w.val ∧ c.val + w.val - L < n then x (ix3 i j ⟨c.val + w.val - L, hw.2⟩) else 0 := by
  show Host.reduceWindow (s := ⟨3, ![a, b, n]⟩) (t := ⟨3, ![a, b, n]⟩) (u := ⟨0, ![]⟩) (· + ·) ![1, 1, n] ![1, 1, 1] ![0, 0, L] ![0, 0, H] x (fun _ => init (Shape.Idx.first hu)) h (by decide) (ix3 i j c) = _
  unfold Host.reduceWindow
  rw [hinit]
  refine (foldl_sum _).trans ?_
  let W : Shape := ⟨3, ![1, 1, n]⟩
  refine (sum_congr rfl fun _ _ => ?_).trans <| (Equiv.sum_comp W.rowMajor.symm (fun y : W.Idx =>
    if hin : ∀ d : Fin 3, (![0, 0, L] : Fin 3 → ℕ) d ≤ (ix3 i j c (d.cast h.1.symm)).val * (![1, 1, 1] : Fin 3 → ℕ) d + (y d).val
        ∧ (ix3 i j c (d.cast h.1.symm)).val * (![1, 1, 1] : Fin 3 → ℕ) d + (y d).val - (![0, 0, L] : Fin 3 → ℕ) d < (![a, b, n] : Fin 3 → ℕ) d then
      x (fun d => ⟨(ix3 i j c (d.cast h.1.symm)).val * (![1, 1, 1] : Fin 3 → ℕ) d + (y d).val - (![0, 0, L] : Fin 3 → ℕ) d, (hin d).2⟩) else 0)).trans ?_
  · congr 1
  refine (Equiv.sum_comp (places n) _).symm.trans ?_
  refine sum_congr rfl fun w _ => ?_
  have hi := i.isLt
  have hj := j.isLt
  by_cases hw : L ≤ c.val + w.val ∧ c.val + w.val - L < n
  · rw [dif_pos hw, dif_pos (fun d => by
      match d with
      | 0 => exact ⟨Nat.zero_le _, by show i.val * 1 + 0 - 0 < a; omega⟩
      | 1 => exact ⟨Nat.zero_le _, by show j.val * 1 + 0 - 0 < b; omega⟩
      | 2 => exact ⟨by show L ≤ c.val * 1 + w.val; omega, by show c.val * 1 + w.val - L < n; omega⟩)]
    refine congrArg x (funext fun d => Fin.ext ?_)
    match d with
    | 0 => show i.val * 1 + 0 - 0 = i.val; omega
    | 1 => show j.val * 1 + 0 - 0 = j.val; omega
    | 2 => show c.val * 1 + w.val - L = c.val + w.val - L; omega
  · rw [dif_neg hw, dif_neg fun hin => hw ?_]
    have h2 := hin 2
    change L ≤ c.val * 1 + w.val ∧ c.val * 1 + w.val - L < n at h2
    rw [Nat.mul_one] at h2
    exact h2

/-- The running sum from the end: the elements at the place and after it. -/
theorem from_end {a b n N : ℕ} (hN : N + 1 = n) (x : (⟨3, ![a, b, n]⟩ : Shape).Idx → EReal) {u : Shape} (init : u.Idx → EReal) (hinit : ∀ i, init i = 0)
    (h : (⟨3, ![a, b, n]⟩ : Shape).ReduceWindows (![1, 1, n] : Fin 3 → ℕ) ![1, 1, 1] ![0, 0, 0] ![0, 0, N] ⟨3, ![a, b, n]⟩) (hu : 0 < u.numel)
    (i : Fin a) (j : Fin b) (c : Fin n) :
    Host.reduceWindowAdd (F := Ideal) (φ := .f32) (s := ⟨3, ![a, b, n]⟩) ![1, 1, n] ![1, 1, 1] ![0, 0, 0] ![0, 0, N] x init h hu (ix3 i j c)
      = ∑ c' : Fin n, if c ≤ c' then x (ix3 i j c') else 0 := by
  rw [window_at 0 N x init hinit h hu i j c]
  have hc := c.isLt
  obtain ⟨X, hX⟩ : ∃ X : ℕ → EReal, ∀ s (hs : s < n), x (ix3 i j ⟨s, hs⟩) = X s :=
    ⟨fun s => if hs : s < n then x (ix3 i j ⟨s, hs⟩) else 0, fun s hs => by dsimp only; rw [dif_pos hs]⟩
  have e1 : ∀ w : Fin n, (if hw : 0 ≤ c.val + w.val ∧ c.val + w.val - 0 < n then x (ix3 i j ⟨c.val + w.val - 0, hw.2⟩) else 0)
      = (fun w : ℕ => if c.val + w < n then X (c.val + w) else 0) w.val := by
    intro w
    by_cases hw : c.val + w.val < n
    · rw [dif_pos ⟨Nat.zero_le _, by omega⟩]; dsimp only; rw [if_pos hw]; exact hX _ _
    · rw [dif_neg (by omega)]; dsimp only; rw [if_neg hw]
  have e2 : ∀ c' : Fin n, (if c ≤ c' then x (ix3 i j c') else 0) = (fun s : ℕ => if c.val ≤ s then X s else 0) c'.val := by
    intro c'
    dsimp only
    by_cases hh : c ≤ c'
    · rw [if_pos hh, if_pos (Fin.le_def.mp hh)]; exact hX _ _
    · rw [if_neg hh, if_neg (fun q => hh (Fin.le_def.mpr q))]
  rw [sum_congr rfl fun w _ => e1 w, sum_congr rfl fun w _ => e2 w, Fin.sum_univ_eq_sum_range (fun w : ℕ => if c.val + w < n then X (c.val + w) else 0) n,
    Fin.sum_univ_eq_sum_range (fun s : ℕ => if c.val ≤ s then X s else 0) n, ← sum_filter, ← sum_filter]
  refine sum_nbij' (fun w => c.val + w) (fun s => s - c.val) ?_ ?_ ?_ ?_ ?_
  all_goals simp only [mem_filter, mem_range]
  · intro w hw; omega
  · intro w hw; omega
  · intro w hw; omega
  · intro w hw; omega
  · intro w _; trivial

/-- The running sum from the start: the elements at the place and before it. -/
theorem from_start {a b n N : ℕ} (hN : N + 1 = n) (x : (⟨3, ![a, b, n]⟩ : Shape).Idx → EReal) {u : Shape} (init : u.Idx → EReal) (hinit : ∀ i, init i = 0)
    (h : (⟨3, ![a, b, n]⟩ : Shape).ReduceWindows (![1, 1, n] : Fin 3 → ℕ) ![1, 1, 1] ![0, 0, N] ![0, 0, 0] ⟨3, ![a, b, n]⟩) (hu : 0 < u.numel)
    (i : Fin a) (j : Fin b) (c : Fin n) :
    Host.reduceWindowAdd (F := Ideal) (φ := .f32) (s := ⟨3, ![a, b, n]⟩) ![1, 1, n] ![1, 1, 1] ![0, 0, N] ![0, 0, 0] x init h hu (ix3 i j c)
      = ∑ c' : Fin n, if c' ≤ c then x (ix3 i j c') else 0 := by
  rw [window_at N 0 x init hinit h hu i j c]
  have hc := c.isLt
  obtain ⟨X, hX⟩ : ∃ X : ℕ → EReal, ∀ s (hs : s < n), x (ix3 i j ⟨s, hs⟩) = X s :=
    ⟨fun s => if hs : s < n then x (ix3 i j ⟨s, hs⟩) else 0, fun s hs => by dsimp only; rw [dif_pos hs]⟩
  have e1 : ∀ w : Fin n, (if hw : N ≤ c.val + w.val ∧ c.val + w.val - N < n then x (ix3 i j ⟨c.val + w.val - N, hw.2⟩) else 0)
      = (fun w : ℕ => if N ≤ c.val + w then X (c.val + w - N) else 0) w.val := by
    intro w
    have hw' := w.isLt
    by_cases hw : N ≤ c.val + w.val
    · rw [dif_pos ⟨hw, by omega⟩]; dsimp only; rw [if_pos hw]; exact hX _ _
    · rw [dif_neg (by omega)]; dsimp only; rw [if_neg hw]
  have e2 : ∀ c' : Fin n, (if c' ≤ c then x (ix3 i j c') else 0) = (fun s : ℕ => if s ≤ c.val then X s else 0) c'.val := by
    intro c'
    dsimp only
    by_cases hh : c' ≤ c
    · rw [if_pos hh, if_pos (Fin.le_def.mp hh)]; exact hX _ _
    · rw [if_neg hh, if_neg (fun q => hh (Fin.le_def.mpr q))]
  rw [sum_congr rfl fun w _ => e1 w, sum_congr rfl fun w _ => e2 w, Fin.sum_univ_eq_sum_range (fun w : ℕ => if N ≤ c.val + w then X (c.val + w - N) else 0) n,
    Fin.sum_univ_eq_sum_range (fun s : ℕ => if s ≤ c.val then X s else 0) n, ← sum_filter, ← sum_filter]
  refine sum_nbij' (fun w => c.val + w - N) (fun s => s + N - c.val) ?_ ?_ ?_ ?_ ?_
  all_goals simp only [mem_filter, mem_range]
  · intro w hw; omega
  · intro w hw; omega
  · intro w hw; omega
  · intro w hw; omega
  · intro w _; trivial

end Cert.Cumsum
-- ==== Proof.Sb.Args.lean ====
/- The blocks the body reads at a grid point, of real arguments: what the host lines before the call prepare. -/
module

public import proofs.«01_k».proof.Proof.Sb.Sums
public import proofs.«01_k».proof.Proof.Cumsum
public import Idealize.ShloMosaic.Lib.StableHlo.ReadAt

@[expose] public section

set_option maxRecDepth 16384

noncomputable section

namespace Cert.SbVal

open Finset
open Idealize.ShloMosaic Idealize.ShloMosaic.TcCoe Idealize.ShloMosaic.Pointwise
open Cert.SbIdeal Cert.SbIdeal.Gen

/-- The quotient by 128, rounded down, as the host computes it. -/
theorem half_of : ∀ x : Fin 256,
    Scalar.select
      (IntOp.andi
        (IntOp.cmpi CmpIPredicate.ne
          (if BitVec.ofNat 32 x.val = 0 then (0 : BitVec 32) else if (BitVec.ofNat 32 x.val).msb = true then -1 else 1)
          (if (128#32 : BitVec 32) = 0 then 0 else if BitVec.msb (128#32 : BitVec 32) = true then -1 else 1))
        (IntOp.cmpi CmpIPredicate.ne (IntOp.remsi ArithUnit.host (BitVec.ofNat 32 x.val) 128#32) 0#32))
      (IntOp.subi (IntOp.divsi ArithUnit.host (BitVec.ofNat 32 x.val) 128#32) 1#32)
      (IntOp.divsi ArithUnit.host (BitVec.ofNat 32 x.val) 128#32) = BitVec.ofNat 32 (x.val / 128) := by decide +kernel

theorem same_bit : ∀ a b : Fin 2, IntOp.cmpi CmpIPredicate.eq (BitVec.ofNat 32 a.val) (BitVec.ofNat 32 b.val) = if a = b then 1#1 else 0#1 := by decide

theorem and_bit (p r : Prop) [Decidable p] [Decidable r] : IntOp.andi (if p then 1#1 else 0#1) (if r then 1#1 else 0#1) = if p ∧ r then 1#1 else 0#1 := by
  by_cases hp : p <;> by_cases hr : r <;> simp [hp, hr] <;> rfl

theorem after_bit (x y : Fin 256) : IntOp.andi (IntOp.cmpi CmpIPredicate.eq (BitVec.ofNat 32 (x.val / 128)) (BitVec.ofNat 32 (y.val / 128)))
    (IntOp.cmpi CmpIPredicate.sgt (BitVec.ofNat 32 x.val) (BitVec.ofNat 32 y.val)) = if x.val / 128 = y.val / 128 ∧ y.val < x.val then 1#1 else 0#1 := by
  have e := same_bit ⟨x.val / 128, by omega⟩ ⟨y.val / 128, by omega⟩
  have l : IntOp.cmpi CmpIPredicate.sgt (BitVec.ofNat 32 x.val) (BitVec.ofNat 32 y.val) = _ := slt_bit y.val x.val (by omega) (by omega)
  simp only [Fin.mk.injEq] at e
  rw [e, l, and_bit]

theorem before_bit (x y : Fin 256) : IntOp.andi (IntOp.cmpi CmpIPredicate.eq (BitVec.ofNat 32 (x.val / 128)) (BitVec.ofNat 32 (y.val / 128)))
    (IntOp.cmpi CmpIPredicate.slt (BitVec.ofNat 32 x.val) (BitVec.ofNat 32 y.val)) = if x.val / 128 = y.val / 128 ∧ x.val < y.val then 1#1 else 0#1 := by
  have e := same_bit ⟨x.val / 128, by omega⟩ ⟨y.val / 128, by omega⟩
  have l : IntOp.cmpi CmpIPredicate.slt (BitVec.ofNat 32 x.val) (BitVec.ofNat 32 y.val) = _ := slt_bit x.val y.val (by omega) (by omega)
  simp only [Fin.mk.injEq] at e
  rw [e, l, and_bit]

/-- Blocks of 128 keys in a row. -/
theorem sum_blocks (f : ℕ → ℝ) (n N : ℕ) (h : n ≤ N) : ∑ b ∈ Ico n N, ∑ x ∈ range 128, f (b * 128 + x) = ∑ s ∈ Ico (128 * n) (128 * N), f s := by
  induction N, h using Nat.le_induction with
  | base => simp
  | succ N h ih =>
    rw [sum_Ico_succ_top h, ih, ← sum_Ico_consecutive f (Nat.mul_le_mul_left 128 h) (show 128 * N ≤ 128 * (N + 1) by omega), sum_Ico_eq_sum_range (n := 128 * (N + 1)),
      show 128 * (N + 1) - 128 * N = 128 by omega]
    simp only [Nat.mul_comm N 128]

/-- The running sum of blocks from the end, its own block taken off: the sum over the later keys. -/
theorem later_sum (f : ℕ → ℝ) (n : Fin 64) (t : ℕ) (ht : t ≤ 8192) :
    (∑ b : Fin 64, if n ≤ b then ∑ x : Fin 128, (if b.val * 128 + x.val < t then f (b.val * 128 + x.val) else 0) else 0)
      - ∑ x : Fin 128, (if n.val * 128 + x.val < t then f (n.val * 128 + x.val) else 0) = ∑ s ∈ Ico (128 * (n.val + 1)) t, f s := by
  have hn := n.isLt
  set g : ℕ → ℝ := fun s => if s < t then f s else 0 with hg
  have e0 : ∀ b : ℕ, (∑ x : Fin 128, (if b * 128 + x.val < t then f (b * 128 + x.val) else 0)) = ∑ x ∈ range 128, g (b * 128 + x) :=
    fun b => Fin.sum_univ_eq_sum_range (fun x => g (b * 128 + x)) 128
  simp only [e0, Fin.le_def]
  rw [Fin.sum_univ_eq_sum_range (fun b => if n.val ≤ b then ∑ x ∈ range 128, g (b * 128 + x) else 0) 64, ← sum_filter,
    show (range 64).filter (fun b => n.val ≤ b) = Ico n.val 64 by ext s; simp only [mem_filter, mem_range, mem_Ico]; omega,
    sum_eq_sum_Ico_succ_bot hn, add_sub_cancel_left, sum_blocks g (n.val + 1) 64 (by omega), hg, ← sum_filter]
  refine sum_congr ?_ fun _ _ => rfl
  ext s; simp only [mem_filter, mem_Ico]; omega

/-- The host's form of the logarithm, at a real score. -/
theorem neg_lm (x : EReal) (z : ℝ) (h : x = (z : EReal)) :
    -(max x 0 + Ideal.log (1 + Ideal.exp (-(FloatOps.absf (F := Ideal) (φ := .f32) x)))) = ((lm z : ℝ) : EReal) := by
  subst h
  rw [← lm_coe, zero_sub, zero_sub]; rfl

variable (q k v d : ℕ → ℕ → ℝ)

/-- The arguments hold real numbers. -/
structure Reals (a0 a1 a2 a3 : Vec Ideal S8192x512 .f32) : Prop where
  h0 : ∀ (t : Fin 8192) (y : Fin 512), (a0 (ix2 t y) : EReal) = ((q t.val y.val : ℝ) : EReal)
  h1 : ∀ (t : Fin 8192) (y : Fin 512), (a1 (ix2 t y) : EReal) = ((k t.val y.val : ℝ) : EReal)
  h2 : ∀ (t : Fin 8192) (y : Fin 512), (a2 (ix2 t y) : EReal) = ((v t.val y.val : ℝ) : EReal)
  h3 : ∀ (t : Fin 8192) (y : Fin 512), (a3 (ix2 t y) : EReal) = ((d t.val y.val : ℝ) : EReal)

section

variable {q k v d} {a0 a1 a2 a3 : Vec Ideal S8192x512 .f32} (A : Reals q k v d a0 a1 a2 a3)
include A

theorem score_of (h : ℕ) (hh : h < 8) (t s : Fin 8192) :
    (∑ x : Fin 64, (a0 (ix2 t ⟨h * 64 + x.val, by omega⟩) : EReal) * a1 (ix2 s ⟨h * 64 + x.val, by omega⟩)) * Ideal.ofBits FTy.f32 1040187392#32
      = ((zz q k h t.val s.val : ℝ) : EReal) := by
  simp only [A.h0, A.h1, ← EReal.coe_mul]
  rw [csum, eighth, ← EReal.coe_mul, sum_mul]
  unfold zz
  refine congrArg _ (sum_congr rfl fun x _ => ?_)
  rw [Nat.mul_comm h 64]; ring

end

variable (m : (ℓ : Loc nD τ sig) → Buf (Elt Ideal) ℓ) (c : Dev nD)

theorem ul_at (e' : Fin 2) (c' : Fin 128) (e : Fin 2) (x : Fin 128) :
    (V m c main_v14 : Vec Ideal S256x256 .bf16) (ix2 (hx e' c') (hx e x)) = (if e' = e ∧ x < c' then 1 else 0 : EReal) := by
  unfold V
  after_reads_at
  rw [show id (constantI S_ 32 128#32) ix0 = 128#32 from rfl, half_of, half_of, after_bit, sel_ite]
  have h1 := c'.isLt
  have h2 := x.isLt
  have : ((hx e' c').val / 128 = (hx e x).val / 128 ∧ (hx e x).val < (hx e' c').val) ↔ (e' = e ∧ x < c') := by
    show ((e'.val * 128 + c'.val) / 128 = (e.val * 128 + x.val) / 128 ∧ e.val * 128 + x.val < e'.val * 128 + c'.val) ↔ _
    rw [Fin.ext_iff, Fin.lt_def]; omega
  simp only [this]

theorem ue_at (e' : Fin 2) (c' : Fin 128) (e : Fin 2) (x : Fin 128) :
    (V m c main_v20 : Vec Ideal S256x256 .bf16) (ix2 (hx e' c') (hx e x)) = (if e' = e ∧ c' < x then 1 else 0 : EReal) := by
  unfold V
  after_reads_at
  rw [show id (constantI S_ 32 128#32) ix0 = 128#32 from rfl, half_of, half_of, before_bit, sel_ite]
  have h1 := c'.isLt
  have h2 := x.isLt
  have : ((hx e' c').val / 128 = (hx e x).val / 128 ∧ (hx e' c').val < (hx e x).val) ↔ (e' = e ∧ c' < x) := by
    show ((e'.val * 128 + c'.val) / 128 = (e.val * 128 + x.val) / 128 ∧ e'.val * 128 + c'.val < e.val * 128 + x.val) ↔ _
    rw [Fin.ext_iff, Fin.lt_def]; omega
  simp only [this]

/-- The arguments in memory hold real numbers. -/
abbrev InMem : Prop := Reals q k v d (m (c, Proc.tc.devRef main_arg0)) (m (c, Proc.tc.devRef main_arg1)) (m (c, Proc.tc.devRef main_arg2)) (m (c, Proc.tc.devRef main_arg3))

variable {q k v d m c} (A : InMem q k v d m c)
include A

theorem q_at (t : Fin 8192) (y : Fin 512) : (V m c main_v25 : Vec Ideal S8192x512 .bf16) (ix2 t y) = ((q t.val y.val * (1 / 8) : ℝ) : EReal) := by
  unfold V
  after_reads_at
  rw [eighth, EReal.coe_mul]; exact congrArg (· * _) (A.h0 t y)
theorem k_at (t : Fin 8192) (y : Fin 512) : (V m c main_v26 : Vec Ideal S8192x512 .bf16) (ix2 t y) = ((k t.val y.val : ℝ) : EReal) := by
  unfold V
  after_reads_at
  exact A.h1 t y
theorem v_at (t : Fin 8192) (y : Fin 512) : (V m c main_v27 : Vec Ideal S8192x512 .bf16) (ix2 t y) = ((v t.val y.val : ℝ) : EReal) := by
  unfold V
  after_reads_at
  exact A.h2 t y

omit A in
theorem ended {x : (⟨3, ![8, 8192, 64]⟩ : Shape).Idx → EReal} {u : Shape} {init : u.Idx → EReal} {h hu} {i : Fin 8} {t : Fin 8192} {c : Fin 64} {z : EReal}
    (g : ℕ → ℝ) (hi : ∀ i, init i = 0)
    (hx : ∀ b : Fin 64, x (ix3 i t b) = ∑ s : Fin 128, (((if b.val * 128 + s.val < t.val then g (b.val * 128 + s.val) else 0 : ℝ)) : EReal))
    (hz : z = ∑ s : Fin 128, (((if c.val * 128 + s.val < t.val then g (c.val * 128 + s.val) else 0 : ℝ)) : EReal)) :
    Host.reduceWindowAdd (F := Ideal) (φ := .f32) (s := ⟨3, ![8, 8192, 64]⟩) ![1, 1, 64] ![1, 1, 1] ![0, 0, 0] ![0, 0, 63]
      x init h hu (ix3 i t c) - z = ((∑ s ∈ Finset.Ico (128 * (c.val + 1)) t.val, g s : ℝ) : EReal) := by
  rw [Cumsum.from_end rfl x init hi, hz, ← later_sum g c t.val (by omega), EReal.coe_sub]
  simp only [hx]
  have e : ∀ b : Fin 64, (if c ≤ b then ∑ s : Fin 128, (((if b.val * 128 + s.val < t.val then g (b.val * 128 + s.val) else 0 : ℝ)) : EReal) else 0)
      = ((if c ≤ b then ∑ s : Fin 128, (if b.val * 128 + s.val < t.val then g (b.val * 128 + s.val) else 0) else 0 : ℝ) : EReal) := by
    intro b
    split_ifs
    · rw [csum]
    · rfl
  rw [Finset.sum_congr rfl fun b _ => e b, csum, csum]

omit A in
theorem kept (a b : ℕ) (ha : a < 2 ^ 31) (hb : b < 2 ^ 31) (x o : EReal) (z : ℝ) (h : x = (z : EReal)) (ho : o = 0) :
    Scalar.select (IntOp.cmpi .slt (BitVec.ofNat 32 a) (BitVec.ofNat 32 b)) (-(max x 0 + Ideal.log (1 + Ideal.exp (-(FloatOps.absf (F := Ideal) (φ := .f32) x))))) o
      = (((if a < b then lm z else 0 : ℝ)) : EReal) := by
  rw [slt_bit _ _ ha hb, sel_ite, neg_lm x z h, ho]
  split_ifs <;> rfl

/-- The array of saved row sums holds, for each row and tile, the sum of the logarithms of the keys after the tile. -/
theorem r_at (t : Fin 8192) (y : Fin 512) : (V m c main_v55 : Vec Ideal S8192x512 .f32) (ix2 t y)
    = ((rest q k (y.val / 64) t.val (128 * (y.val % 64 + 1)) : ℝ) : EReal) := by
  unfold V
  after_reads_at
  refine ended (fun s => lm (zz q k (y.val / 64) t.val s)) (fun i => ?_) (fun b => ?_) ?_
  · pointwise []
  · pointwise []
    refine Finset.sum_congr rfl fun s _ => ?_
    refine kept _ _ (by omega) (by omega) _ _ _ ?_ Ideal.ofBits_zero_f32
    exact score_of A (y.val / 64) (by omega) t ⟨b.val * 128 + s.val, by omega⟩
  · refine Finset.sum_congr rfl fun s _ => ?_
    refine kept _ _ (by omega) (by omega) _ _ _ ?_ Ideal.ofBits_zero_f32
    exact score_of A (y.val / 64) (by omega) t ⟨y.val % 64 * 128 + s.val, by omega⟩

theorem blk1 (t : Fin cfg0.N) (r : Fin 256) (y : Fin 256) : (iblk m c 1 t : Vec Ideal S256x256 .bf16) (ix2 r y) = ((q (256 * (t.val % 32) + r.val) (256 * (t.val / 32) + y.val) * (1 / 8) : ℝ) : EReal) := by
  have e : ∀ t : Fin cfg0.N, win0_1.index t = ![t.val % 32, t.val / 32] := by decide +kernel
  have ht : t.val < 64 := t.isLt
  have h : (win0_1.blk t).view.emb (ix2 r y) = ix2 (⟨256 * (t.val % 32) + r.val, by omega⟩ : Fin 8192) (⟨256 * (t.val / 32) + y.val, by omega⟩ : Fin 512) := by
    blk_ext [e]
  blk_simp [iblk]
  rw [h]
  exact q_at A _ _
theorem blk2 (t : Fin cfg0.N) (s : Fin 8192) (y : Fin 256) : (iblk m c 2 t : Vec Ideal S8192x256 .bf16) (ix2 s y) = ((k s.val (256 * (t.val / 32) + y.val) : ℝ) : EReal) := by
  have e : ∀ t : Fin cfg0.N, win0_2.index t = ![0, t.val / 32] := by decide +kernel
  have ht : t.val < 64 := t.isLt
  have h : (win0_2.blk t).view.emb (ix2 s y) = ix2 (s : Fin 8192) (⟨256 * (t.val / 32) + y.val, by omega⟩ : Fin 512) := by
    blk_ext [e]
  blk_simp [iblk]
  rw [h]
  exact k_at A _ _
theorem blk3 (t : Fin cfg0.N) (s : Fin 8192) (y : Fin 256) : (iblk m c 3 t : Vec Ideal S8192x256 .bf16) (ix2 s y) = ((v s.val (256 * (t.val / 32) + y.val) : ℝ) : EReal) := by
  have e : ∀ t : Fin cfg0.N, win0_3.index t = ![0, t.val / 32] := by decide +kernel
  have ht : t.val < 64 := t.isLt
  have h : (win0_3.blk t).view.emb (ix2 s y) = ix2 (s : Fin 8192) (⟨256 * (t.val / 32) + y.val, by omega⟩ : Fin 512) := by
    blk_ext [e]
  blk_simp [iblk]
  rw [h]
  exact v_at A _ _
theorem blk4 (t : Fin cfg0.N) (r : Fin 256) (y : Fin 256) : (iblk m c 4 t : Vec Ideal S256x256 .f32) (ix2 r y) = ((rest q k (4 * (t.val / 32) + y.val / 64) (256 * (t.val % 32) + r.val) (128 * (y.val % 64 + 1)) : ℝ) : EReal) := by
  have e : ∀ t : Fin cfg0.N, win0_4.index t = ![t.val % 32, t.val / 32] := by decide +kernel
  have ht : t.val < 64 := t.isLt
  have h : (win0_4.blk t).view.emb (ix2 r y) = ix2 (⟨256 * (t.val % 32) + r.val, by omega⟩ : Fin 8192) (⟨256 * (t.val / 32) + y.val, by omega⟩ : Fin 512) := by
    blk_ext [e]
  blk_simp [iblk]
  rw [h]
  refine (r_at A _ _).trans ?_
  have h1 : (256 * (t.val / 32) + y.val) / 64 = 4 * (t.val / 32) + y.val / 64 := by omega
  have h2 : (256 * (t.val / 32) + y.val) % 64 = y.val % 64 := by omega
  rw [h1, h2]
theorem blk5 (t : Fin cfg0.N) (r : Fin 256) (y : Fin 256) : (iblk m c 5 t : Vec Ideal S256x256 .f32) (ix2 r y) = ((d (256 * (t.val % 32) + r.val) (256 * (t.val / 32) + y.val) : ℝ) : EReal) := by
  have e : ∀ t : Fin cfg0.N, win0_5.index t = ![t.val % 32, t.val / 32] := by decide +kernel
  have ht : t.val < 64 := t.isLt
  have h : (win0_5.blk t).view.emb (ix2 r y) = ix2 (⟨256 * (t.val % 32) + r.val, by omega⟩ : Fin 8192) (⟨256 * (t.val / 32) + y.val, by omega⟩ : Fin 512) := by
    blk_ext [e]
  blk_simp [iblk]
  rw [h]
  rw [V_main_arg3]
  exact A.h3 _ _
omit A in
theorem blk6 (t : Fin cfg0.N) (e' : Fin 2) (c' : Fin 128) (e : Fin 2) (x : Fin 128) : (iblk m c 6 t : Vec Ideal S256x256 .bf16) (ix2 (hx e' c') (hx e x)) = (if e' = e ∧ x < c' then 1 else 0 : EReal) := by
  have f : ∀ t : Fin cfg0.N, win0_6.index t = ![0, 0] := by decide +kernel
  have h : ∀ a b : Fin 256, (win0_6.blk t).view.emb (ix2 a b) = ix2 a b := by
    intro a b; blk_ext [f]
  blk_simp [iblk]
  rw [h]
  exact ul_at m c e' c' e x
omit A in
theorem blk7 (t : Fin cfg0.N) (e' : Fin 2) (c' : Fin 128) (e : Fin 2) (x : Fin 128) : (iblk m c 7 t : Vec Ideal S256x256 .bf16) (ix2 (hx e' c') (hx e x)) = (if e' = e ∧ c' < x then 1 else 0 : EReal) := by
  have f : ∀ t : Fin cfg0.N, win0_7.index t = ![0, 0] := by decide +kernel
  have h : ∀ a b : Fin 256, (win0_7.blk t).view.emb (ix2 a b) = ix2 a b := by
    intro a b; blk_ext [f]
  blk_simp [iblk]
  rw [h]
  exact ue_at m c e' c' e x

/-- The blocks that a grid point reads are those of the real arrays. -/
theorem allBlocks : AllBlocks q k v d m c := fun t => by
  have eg : ∀ t : Fin cfg0.N, (grid0.coords t 0).val = t.val / 32 ∧ (grid0.coords t 1).val = t.val % 32 := by decide +kernel
  exact ⟨(eg t).1, (eg t).2, blk1 A t, blk2 A t, blk3 A t, blk4 A t, blk5 A t, blk6 t, blk7 t⟩

end Cert.SbVal
-- ==== Proof.Sb.Ref.lean ====
/- What the reference's arrays hold, over real arguments. -/
module

public import proofs.«01_k».proof.Proof.Sb.Args
public import proofs.«01_k».proof.Proof.Gen.SbRefIdeal.Read

@[expose] public section

set_option maxRecDepth 16384

noncomputable section

namespace Cert.SbVal

open Finset Idealize Idealize.ShloMosaic Idealize.ShloMosaic.Pointwise
open Cert.SbRefIdeal Cert.SbRefIdeal.Read

/-! Scalars: the reference's operations at real arguments. -/

theorem neg_r (w : ℝ) : FloatOps.hostNegf (F := Ideal) (φ := .f32) (w : EReal) = ((-w : ℝ) : EReal) := (EReal.coe_neg w).symm
theorem sub_r (a b : ℝ) : FloatOps.subf (F := Ideal) (φ := .f32) (a : EReal) (b : EReal) = ((a - b : ℝ) : EReal) := (EReal.coe_sub a b).symm
theorem add_r (a b : ℝ) : FloatOps.addf (F := Ideal) (φ := .f32) (a : EReal) (b : EReal) = ((a + b : ℝ) : EReal) := (EReal.coe_add a b).symm
theorem mul_r (a b : ℝ) : FloatOps.mulf (F := Ideal) (φ := .f32) (a : EReal) (b : EReal) = ((a * b : ℝ) : EReal) := (EReal.coe_mul a b).symm
theorem exp_r (a : ℝ) : FloatOps.hostUnary (F := Ideal) (φ := .f32) .exp (a : EReal) = ((Real.exp a : ℝ) : EReal) := Ideal.exp_coe a
theorem fin_r (w : ℝ) (o : EReal) :
    Scalar.select (FloatOps.cmpf (F := Ideal) (φ := .f32) .oeq (w : EReal) (FloatOps.ofBits (F := Ideal) .f32 2139095040#32)) o (w : EReal) = (w : EReal) := by
  have htop : FloatOps.ofBits (F := Ideal) .f32 2139095040#32 = (⊤ : EReal) := by
    show Ideal.ofBits .f32 _ = ⊤
    simp [Ideal.ofBits, Ideal.ieee]
  rw [htop]
  show Scalar.select (Ideal.cmp .oeq (w : EReal) ⊤) o (w : EReal) = _
  simp [Ideal.cmp, Scalar.select]

theorem soft_r (w : ℝ) :
    Scalar.select (FloatOps.cmpf (F := Ideal) (φ := .f32) .une (FloatOps.subf (F := Ideal) (φ := .f32) (w : EReal) (FloatOps.ofBits (F := Ideal) .f32 0#32))
        (FloatOps.subf (F := Ideal) (φ := .f32) (w : EReal) (FloatOps.ofBits (F := Ideal) .f32 0#32)))
      (FloatOps.addf (F := Ideal) (φ := .f32) (w : EReal) (FloatOps.ofBits (F := Ideal) .f32 0#32))
      (FloatOps.addf (F := Ideal) (φ := .f32) (FloatOps.maximumf (F := Ideal) (φ := .f32) (w : EReal) (FloatOps.ofBits (F := Ideal) .f32 0#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (w : EReal) (FloatOps.ofBits (F := Ideal) .f32 0#32)))))))
      = ((-lm w : ℝ) : EReal) := by
  have h0 : FloatOps.ofBits (F := Ideal) .f32 0#32 = (0 : EReal) := Ideal.ofBits_zero_f32
  have hs : FloatOps.subf (F := Ideal) (φ := .f32) (w : EReal) (0 : EReal) = (w : EReal) := sub_zero _
  rw [h0, hs]
  have hc : FloatOps.cmpf (F := Ideal) (φ := .f32) .une (w : EReal) (w : EReal) = 0#1 := by
    show Ideal.cmp .une (w : EReal) (w : EReal) = _
    simp [Ideal.cmp]
  rw [hc, sel0, EReal.coe_neg, ← neg_lm (w : EReal) w rfl, neg_neg]
  rfl

/-- One minus the logistic function, as an exponential. -/
theorem exp_lm (z : ℝ) : Real.exp (-z + lm (-z)) = 1 - Real.exp (z + lm z) ∧ lm (-z) = z + lm z := by
  have e : lm (-z) = z + lm z := by
    unfold lm
    rw [abs_neg]
    rcases le_total 0 z with h | h
    · rw [max_eq_right (by linarith : -z ≤ 0), max_eq_left h]; ring
    · rw [max_eq_left (by linarith : (0:ℝ) ≤ -z), max_eq_right h]; ring
  refine ⟨?_, e⟩
  rw [e, show -z + (z + lm z) = lm z by ring, eq_sub_iff_add_eq, Real.exp_add, ← one_add_mul, mul_comm]
  have p : 0 < 1 + Real.exp (-|z|) := by positivity
  unfold lm
  rw [neg_add, Real.exp_add, Real.exp_neg (Real.log _), Real.exp_log p]
  rcases le_total 0 z with h | h
  · rw [max_eq_left h, abs_of_nonneg h, Real.exp_neg]
    have := Real.exp_pos z
    rw [Real.exp_neg] at p
    field_simp
    try ring
  · rw [max_eq_right h, abs_of_nonpos h, neg_neg, neg_zero, Real.exp_zero]
    rw [abs_of_nonpos h, neg_neg] at p
    field_simp

variable {q k v d : ℕ → ℕ → ℝ} {x0 x1 x2 x3 : (⟨S8192x512, .f32⟩ : BufTy).Contents (Elt Ideal)} (A : Reals q k v d x0 x1 x2 x3)

theorem mask13 (h : Fin 8) (t s : Fin 8192) : val_main_v13_1 (F := Ideal) (ix3 h t s) = if s.val < t.val then 1#1 else 0#1 := by
  pointwise [val_main_v13_1, val_main_v10, val_main_v9, val_main_v8, val_main_v7, val_main_v6, val_main_v5]
  exact slt_bit _ _ (by omega) (by omega)
theorem mask19 (h : Fin 8) (t s : Fin 8192) : val_main_v19_1 (F := Ideal) (ix3 h t s) = if s.val < t.val then 1#1 else 0#1 := mask13 h t s

/-- A masked real. -/
theorem if_r (p : Prop) [Decidable p] (a : ℝ) : (if p then (a : EReal) else 0) = ((if p then a else 0 : ℝ) : EReal) := by
  split_ifs <;> rfl

include A

theorem z4 (h : Fin 8) (t s : Fin 8192) : (val_main_v4 (F := Ideal) x0 x1 (ix3 h t s) : EReal) = ((zz q k h t s : ℝ) : EReal) := by
  pointwise [val_main_v4, val_main_v3, val_main_v2, val_main_v1, val_main_v0, val_main_cst]
  exact score_of A h.val h.isLt t s

theorem ls12 (h : Fin 8) (t s : Fin 8192) : (val_main_v12_0 (F := Ideal) x0 x1 (ix3 h t s) : EReal) = ((lm (zz q k h t s) : ℝ) : EReal) := by
  simp only [val_main_v12_0_apply, val_main_call0_v1_0_apply, val_main_call0_v0_apply, val_main_v11_apply,
    val_main_call0_call0_v4_apply, val_main_call0_call0_v6_apply, val_main_call0_call0_v11_apply, val_main_call0_call0_v3_apply, val_main_call0_call0_v2_apply, val_main_call0_call0_v5_apply, val_main_call0_call0_v1_apply, val_main_call0_call0_v0_apply, val_main_call0_call0_v10_apply, val_main_call0_call0_v9_apply, val_main_call0_call0_v8_apply, val_main_call0_call0_v7_apply, val_main_call0_call0_cst_apply, z4 A h t s, neg_r, neg_neg, soft_r]

theorem be12 (h : Fin 8) (t s : Fin 8192) : (val_main_v12_1 (F := Ideal) x0 x1 (ix3 h t s) : EReal) = ((be q k h t s : ℝ) : EReal) := by
  simp only [val_main_v12_1_apply, val_main_call0_v1_0_apply, val_main_call0_v0_apply, val_main_v11_apply,
    val_main_call0_call0_v4_apply, val_main_call0_call0_v6_apply, val_main_call0_call0_v11_apply, val_main_call0_call0_v3_apply, val_main_call0_call0_v2_apply, val_main_call0_call0_v5_apply, val_main_call0_call0_v1_apply, val_main_call0_call0_v0_apply, val_main_call0_call0_v10_apply, val_main_call0_call0_v9_apply, val_main_call0_call0_v8_apply, val_main_call0_call0_v7_apply, val_main_call0_call0_cst_apply,
    val_main_call0_call0_v21_apply, val_main_call0_call0_v20_apply, val_main_call0_call0_v19_apply, val_main_call0_call0_v18_apply, val_main_call0_call0_v17_apply, val_main_call0_call0_v16_apply, val_main_call0_call0_v15_apply, val_main_call0_call0_v14_apply, val_main_call0_call0_v13_apply, val_main_call0_call0_cst_0_apply, val_main_call0_call0_cst_1_apply, val_main_call0_call0_cst_2_apply, val_main_call0_call0_cst_3_apply, z4 A h t s, neg_r, neg_neg, soft_r, fin_r, sub_r, exp_r]
  rw [be, sub_neg_eq_add]

theorem ls16 (h : Fin 8) (t s : Fin 8192) : (val_main_v16_0 (F := Ideal) x0 x1 (ix3 h t s) : EReal) = ((zz q k h t s + lm (zz q k h t s) : ℝ) : EReal) := by
  simp only [val_main_v16_0_apply, val_main_call3_v1_0_apply, val_main_call3_v0_apply,
    val_main_call3_call0_v4_apply, val_main_call3_call0_v6_apply, val_main_call3_call0_v11_apply, val_main_call3_call0_v3_apply, val_main_call3_call0_v2_apply, val_main_call3_call0_v5_apply, val_main_call3_call0_v1_apply, val_main_call3_call0_v0_apply, val_main_call3_call0_v10_apply, val_main_call3_call0_v9_apply, val_main_call3_call0_v8_apply, val_main_call3_call0_v7_apply, val_main_call3_call0_cst_apply, z4 A h t s, neg_r, neg_neg, soft_r, (exp_lm _).2]

theorem be16 (h : Fin 8) (t s : Fin 8192) : (val_main_v16_1 (F := Ideal) x0 x1 (ix3 h t s) : EReal) = ((1 - be q k h t s : ℝ) : EReal) := by
  simp only [val_main_v16_1_apply, val_main_call3_v1_0_apply, val_main_call3_v0_apply,
    val_main_call3_call0_v4_apply, val_main_call3_call0_v6_apply, val_main_call3_call0_v11_apply, val_main_call3_call0_v3_apply, val_main_call3_call0_v2_apply, val_main_call3_call0_v5_apply, val_main_call3_call0_v1_apply, val_main_call3_call0_v0_apply, val_main_call3_call0_v10_apply, val_main_call3_call0_v9_apply, val_main_call3_call0_v8_apply, val_main_call3_call0_v7_apply, val_main_call3_call0_cst_apply,
    val_main_call3_call0_v21_apply, val_main_call3_call0_v20_apply, val_main_call3_call0_v19_apply, val_main_call3_call0_v18_apply, val_main_call3_call0_v17_apply, val_main_call3_call0_v16_apply, val_main_call3_call0_v15_apply, val_main_call3_call0_v14_apply, val_main_call3_call0_v13_apply, val_main_call3_call0_cst_0_apply, val_main_call3_call0_cst_1_apply, val_main_call3_call0_cst_2_apply, val_main_call3_call0_cst_3_apply, z4 A h t s, neg_r, soft_r, fin_r, sub_r, exp_r]
  rw [sub_neg_eq_add, (exp_lm _).1, be]

theorem mls13 (h : Fin 8) (t s : Fin 8192) : (val_main_v13_0 (F := Ideal) x0 x1 (ix3 h t s) : EReal)
    = ((if s.val < t.val then lm (zz q k h t s) else 0 : ℝ) : EReal) := by
  rw [val_main_v13_0_apply, mask13, sel_ite, ls12 A h t s, ← if_r]
  exact if_congr Iff.rfl rfl Ideal.ofBits_zero_f32

/-- The running sum from the end, without its own key: the keys after it. -/
theorem rest15 (h : Fin 8) (t s : Fin 8192) : (val_main_v15 (F := Ideal) x0 x1 (ix3 h t s) : EReal) = ((rest q k h t (s.val + 1) : ℝ) : EReal) := by
  have e : (val_main_v14 (F := Ideal) x0 x1 (ix3 h t s) : EReal)
      = ((∑ s' : Fin 8192, if s ≤ s' then (if s'.val < t.val then lm (zz q k h t s') else 0) else 0 : ℝ) : EReal) := by
    rw [← csum]
    refine (Cumsum.from_end (n := 8192) (N := 8191) rfl (val_main_v13_0 (F := Ideal) x0 x1) (val_main_call2_v0 (F := Ideal)) (fun _ => Ideal.ofBits_zero_f32) _ _ h t s).trans ?_
    refine sum_congr rfl fun s' _ => ?_
    rw [mls13 A h t s', if_r]
  rw [val_main_v15_apply, e, mls13 A h t s, sub_r, rest]
  refine congrArg _ ?_
  have hs := s.isLt
  have ht := t.isLt
  have e2 : (∑ s' : Fin 8192, if s ≤ s' then (if s'.val < t.val then lm (zz q k h t s') else 0) else 0)
      = ∑ s' ∈ Ico s.val 8192, (if s' < t.val then lm (zz q k h t s') else 0) := by
    simp only [Fin.le_def]
    rw [Fin.sum_univ_eq_sum_range (fun s' => if s.val ≤ s' then (if s' < t.val then lm (zz q k h t s') else 0) else 0) 8192, ← sum_filter]
    refine sum_congr ?_ fun _ _ => rfl
    ext s'; simp only [mem_filter, mem_range, mem_Ico]; omega
  rw [e2, sum_eq_sum_Ico_succ_bot hs, add_sub_cancel_left, ← sum_filter]
  refine sum_congr ?_ fun _ _ => rfl
  ext s'; simp only [mem_filter, mem_Ico]; omega

theorem ex18 (h : Fin 8) (t s : Fin 8192) : (val_main_v18 (F := Ideal) x0 x1 (ix3 h t s) : EReal)
    = ((Real.exp (zz q k h t s + lm (zz q k h t s) + rest q k h t (s.val + 1)) : ℝ) : EReal) := by
  rw [val_main_v18_apply, val_main_v17_apply, ls16 A h t s, rest15 A h t s, add_r, exp_r]

theorem w19 (h : Fin 8) (t s : Fin 8192) : (val_main_v19_0 (F := Ideal) x0 x1 (ix3 h t s) : EReal) = ((ww q k h t s : ℝ) : EReal) := by
  rw [val_main_v19_0_apply, mask19, sel_ite, ex18 A h t s, ww, ← if_r]
  exact if_congr Iff.rfl rfl Ideal.ofBits_zero_f32

theorem dw26 (h : Fin 8) (t s : Fin 8192) : (val_main_v26 (F := Ideal) x2 x3 (ix3 h t s) : EReal) = ((dw v d h t s : ℝ) : EReal) := by
  pointwise [val_main_v26, val_main_v25, val_main_v24, val_main_v20]
  simp only [A.h2, A.h3, ← EReal.coe_mul]
  rw [csum, dw]
  refine congrArg _ (sum_congr rfl fun x _ => ?_)
  rw [Nat.mul_comm h.val 64]

theorem g31 (h : Fin 8) (t s : Fin 8192) : (val_main_v31 (F := Ideal) x0 x1 x2 x3 (ix3 h t s) : EReal) = ((gg q k v d h t s : ℝ) : EReal) := by
  have e : (val_main_v30 (F := Ideal) x2 x3 (ix3 h t s) : EReal) = ((if s.val < t.val then dw v d h t s else 0 : ℝ) : EReal) := by
    rw [val_main_v30_apply, mask19, sel_ite, dw26 A h t s, ← if_r]
    exact if_congr Iff.rfl rfl Ideal.ofBits_zero_f32
  rw [val_main_v31_apply, e, ex18 A h t s, mul_r, gg, ww]
  refine congrArg _ ?_
  split_ifs <;> ring

theorem before35 (h : Fin 8) (t s : Fin 8192) : (val_main_v35 (F := Ideal) x0 x1 x2 x3 (ix3 h t s) : EReal) = ((SbVal.pre q k v d h t s : ℝ) : EReal) := by
  have e : (val_main_v34 (F := Ideal) x0 x1 x2 x3 (ix3 h t s) : EReal)
      = ((∑ s' : Fin 8192, if s' ≤ s then gg q k v d h t s' else 0 : ℝ) : EReal) := by
    rw [← csum]
    refine (Cumsum.from_start (n := 8192) (N := 8191) rfl (val_main_v31 (F := Ideal) x0 x1 x2 x3) (val_main_call7_v0 (F := Ideal)) (fun _ => Ideal.ofBits_zero_f32) _ _ h t s).trans ?_
    refine sum_congr rfl fun s' _ => ?_
    rw [g31 A h t s', if_r]
  rw [val_main_v35_apply, val_main_v33_apply, e, g31 A h t s, neg_r, add_r, SbVal.pre]
  refine congrArg _ ?_
  have hs := s.isLt
  have e2 : (∑ s' : Fin 8192, if s' ≤ s then gg q k v d h t s' else 0) = ∑ s' ∈ range (s.val + 1), gg q k v d h t s' := by
    simp only [Fin.le_def]
    rw [Fin.sum_univ_eq_sum_range (fun s' => if s' ≤ s.val then gg q k v d h t s' else 0) 8192, ← sum_filter]
    refine sum_congr ?_ fun _ _ => rfl
    ext s'; simp only [mem_filter, mem_range]; omega
  rw [e2, sum_range_succ]; ring

theorem dz39 (h : Fin 8) (t s : Fin 8192) : (val_main_v39 (F := Ideal) x0 x1 x2 x3 (ix3 h t s) : EReal) = ((dz q k v d h t s : ℝ) : EReal) := by
  have e : (val_main_v36 (F := Ideal) x0 x1 x2 x3 (ix3 h t s) : EReal) = ((if s.val < t.val then SbVal.pre q k v d h t s else 0 : ℝ) : EReal) := by
    rw [val_main_v36_apply, mask13, sel_ite, before35 A h t s, ← if_r]
    exact if_congr Iff.rfl rfl Ideal.ofBits_zero_f32
  rw [val_main_v39_apply, val_main_v38_apply, val_main_v37_apply, val_main_call9_v1_apply, val_main_call9_v0_apply, val_main_v32_apply,
    val_main_call6_v1_apply, val_main_call6_v0_apply, e, be12 A h t s, be16 A h t s, g31 A h t s]
  simp only [neg_r, mul_r, add_r]
  refine congrArg _ ?_
  rw [dz, gg, ww]
  split_ifs <;> ring

theorem dz41 (h : Fin 8) (t s : Fin 8192) : (val_main_v41 (F := Ideal) x0 x1 x2 x3 (ix3 h t s) : EReal) = ((dz q k v d h t s * (1 / 8) : ℝ) : EReal) := by
  have e : val_main_v40 (F := Ideal) (ix3 h t s) = ((1 / 8 : ℝ) : EReal) := eighth
  rw [val_main_v41_apply, dz39 A h t s, e, mul_r]

theorem ref_q : val_main_v47 (F := Ideal) x0 x1 x2 x3 = outQ q k v d := by
  funext y
  obtain ⟨t, y, rfl⟩ : ∃ (a : Fin 8192) (b : Fin 512), y = ix2 a b := ⟨y 0, y 1, (ix2_eta y).symm⟩
  pointwise [val_main_v47, val_main_v45, val_main_v44, val_main_v1]
  refine (sum_congr rfl fun x _ => ?_).trans ((csum _ fun x : Fin 8192 => dz q k v d (y.val / 64) t.val x.val * (1 / 8) * k x.val y.val).trans ?_)
  · rw [dz41 A, A.h1, ← EReal.coe_mul]
  show _ = ((dqs q k v d (y.val / 64) t.val (y.val % 64) 8192 * (1 / 8) : ℝ) : EReal)
  rw [dqs, show 64 * (y.val / 64) + y.val % 64 = y.val by omega, Fin.sum_univ_eq_sum_range (fun x => dz q k v d (y.val / 64) t.val x * (1 / 8) * k x y.val) 8192, sum_mul]
  refine congrArg _ (sum_congr rfl fun x _ => ?_)
  ring

theorem ref_k : val_main_v46 (F := Ideal) x0 x1 x2 x3 = outK q k v d := by
  funext y
  obtain ⟨t, y, rfl⟩ : ∃ (a : Fin 8192) (b : Fin 512), y = ix2 a b := ⟨y 0, y 1, (ix2_eta y).symm⟩
  pointwise [val_main_v46, val_main_v43, val_main_v42, val_main_v0]
  refine (sum_congr rfl fun x _ => ?_).trans ((csum _ fun x : Fin 8192 => dz q k v d (y.val / 64) x.val t.val * (1 / 8) * q x.val y.val).trans ?_)
  · rw [dz41 A, A.h0, ← EReal.coe_mul]
  show _ = ((dks q k v d (y.val / 64) t.val (y.val % 64) 0 8192 : ℝ) : EReal)
  rw [dks, show 64 * (y.val / 64) + y.val % 64 = y.val by omega, Fin.sum_univ_eq_sum_range (fun x => dz q k v d (y.val / 64) x t.val * (1 / 8) * q x y.val) 8192]
  refine congrArg _ (sum_congr rfl fun x _ => ?_)
  rw [Nat.zero_add]; ring

theorem ref_v : val_main_v29 (F := Ideal) x0 x1 x3 = outV q k d := by
  funext y
  obtain ⟨t, y, rfl⟩ : ∃ (a : Fin 8192) (b : Fin 512), y = ix2 a b := ⟨y 0, y 1, (ix2_eta y).symm⟩
  pointwise [val_main_v29, val_main_v28, val_main_v27, val_main_v25, val_main_v24]
  refine (sum_congr rfl fun x _ => ?_).trans ((csum _ fun x : Fin 8192 => d x.val y.val * ww q k (y.val / 64) x.val t.val).trans ?_)
  · rw [w19 A, A.h3, ← EReal.coe_mul]
  show _ = ((dvs q k d (y.val / 64) t.val (y.val % 64) 0 8192 : ℝ) : EReal)
  rw [dvs, show 64 * (y.val / 64) + y.val % 64 = y.val by omega, Fin.sum_univ_eq_sum_range (fun x => d x y.val * ww q k (y.val / 64) x t.val) 8192]
  refine congrArg _ (sum_congr rfl fun x _ => ?_)
  rw [Nat.zero_add]; ring

end Cert.SbVal
-- ==== Proof.Sb.Claims.lean ====
/- The claims about the stick-breaking attention's gradient call and its reference. -/
module

public import proofs.«01_k».proof.Defs
public import proofs.«01_k».proof.Proof.Sb.Ref
public import proofs.«01_k».proof.Proof.Gen.Sb
public import Idealize.ShloMosaic.Adequacy
public import Idealize.ShloMosaic.Init

@[expose] public section

set_option maxRecDepth 16384

noncomputable section

namespace Cert.SbVal

open Idealize.ShloMosaic Idealize.ShloMosaic.TcCoe Idealize.SL.Sem Idealize.ShloMosaic.Pointwise

/-- The precondition's own side condition. -/
instance finite_facts : Cert.Pre_finite_sb.Facts := ⟨by decide⟩

/-- The call's frame: the run is that of the ideal program's text, at bit patterns. -/
theorem frame_kernel : Cert.quiescent_Sb := fun m ρ _ => by
  refine Eq.mp ?_ (Cert.SbIdeal.Run.frame_run (F := Bits) m ρ)
  sl_kernel_rfl

/-- Its frame over the extended reals. -/
theorem frame_ideal : Cert.quiescent_SbIdeal := fun m ρ _ => Cert.SbIdeal.Run.frame_run m ρ

theorem frame_ideal_pre : Cert.quiescent_SbIdeal_pre_finite_sb := fun m ρ _ => Cert.SbIdeal.Run.frame_run m ρ

/-- No operation is rewritten. -/
theorem preserves : Cert.preserves_Sb_SbIdeal := trivial

/-- The reference leaves its arguments and, having no semaphore, every counter at zero. -/
theorem frame_ref : Cert.quiescent_SbRefIdeal := fun m ρ _ =>
  (θ_run Cert.SbRefIdeal.defs _ _).mono (fun r h => ⟨fun c => (h c).2.2.2, sem_eq_zero_of_no_sems (by decide) r.2⟩)
    (Cert.SbRefIdeal.Value.run (F := Ideal) m ρ)

theorem frame_ref_pre : Cert.quiescent_SbRefIdeal_pre_finite_sb := fun m ρ _ => frame_ref m ρ trivial

/-- A real array, by its places. -/
def real (a : Vec Ideal Cert.SbIdeal.S8192x512 .f32) (t y : ℕ) : ℝ :=
  if h : t < 8192 ∧ y < 512 then (a (ix2 ⟨t, h.1⟩ ⟨y, h.2⟩) : EReal).toReal else 0

theorem real_at (a : Vec Ideal Cert.SbIdeal.S8192x512 .f32) (t : Fin 8192) (y : Fin 512)
    (h : Ideal.cmp .olt (max (a (ix2 t y) : EReal) (-(a (ix2 t y) : EReal))) (Ideal.ofBits .f32 2139095040#32) = 1#1) :
    (a (ix2 t y) : EReal) = ((real a t.val y.val : ℝ) : EReal) := by
  have htop : Ideal.ofBits .f32 2139095040#32 = (⊤ : EReal) := by simp [Ideal.ofBits, Ideal.ieee]
  rw [htop] at h
  have e : real a t.val y.val = (a (ix2 t y) : EReal).toReal := by
    unfold real; rw [dif_pos ⟨t.isLt, y.isLt⟩]
  rw [e]
  have hlt : max (a (ix2 t y) : EReal) (-(a (ix2 t y) : EReal)) < ⊤ := by
    by_contra hn
    simp [Ideal.cmp, hn] at h
  rw [max_lt_iff] at hlt
  refine (EReal.coe_toReal hlt.1.ne fun hb => ?_).symm
  rw [hb] at hlt
  simp at hlt

/-- Finite arguments are real arrays. -/
theorem reals_of (a0 a1 a2 a3 : Vec Ideal Cert.SbIdeal.S8192x512 .f32) (h : Cert.Pre_finite_sb.fn (F := Ideal) a0 a1 a2 a3 = (fun _ => 1#1)) :
    Reals (real a0) (real a1) (real a2) (real a3) a0 a1 a2 a3 := by
  have key : ∀ (t : Fin 8192) (y : Fin 512), _ := fun t y => congrFun h (ix2 t y)
  simp only [Cert.Pre_finite_sb.fn] at key
  have two : ∀ a b : BitVec 1, IntOp.andi a b = 1#1 → a = 1#1 ∧ b = 1#1 := by decide
  have k2 := fun t y => two _ _ (key t y)
  have k1 := fun t y => two _ _ (k2 t y).1
  have k0 := fun t y => two _ _ (k1 t y).1
  exact ⟨fun t y => real_at a0 t y (k0 t y).1, fun t y => real_at a1 t y (k0 t y).2, fun t y => real_at a2 t y (k1 t y).2, fun t y => real_at a3 t y (k2 t y).2⟩

section

open Cert.SbIdeal Cert.SbIdeal.Run

/-- The arrays the call leaves, and its arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v56_0) = (dats m 0 c).arrAt 8 cfg0.N
      ∧ r.2.mem ((c.tc : Thread nD τ).loc main_v56_1) = (dats m 0 c).arrAt 9 cfg0.N
      ∧ r.2.mem ((c.tc : Thread nD τ).loc main_v56_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (frame_run m ρ))
  obtain ⟨h1, h2⟩ := h
  have w := (h1 c).1
  exact ⟨w 8, w 9, w 10, h2.1 c⟩

end

set_option maxHeartbeats 2000000 in
/-- The call and the reference compute the same three gradients of finite arguments over the extended reals. -/
theorem algebraic : Cert.algebraic_SbIdeal_SbRefIdeal_pre_finite_sb := by
  intro m ρ m' ρ' hp hag
  refine ⟨fun c => (Cert.SbIdeal.Run.dats m 0 c).arrAt 8 Cert.SbIdeal.cfg0.N, fun c => (Cert.SbIdeal.Run.dats m 0 c).arrAt 9 Cert.SbIdeal.cfg0.N,
    fun c => (Cert.SbIdeal.Run.dats m 0 c).arrAt 10 Cert.SbIdeal.cfg0.N,
    ?_,
    (θ_run Cert.SbRefIdeal.defs _ _).mono (fun r h c => ?_) (Cert.SbRefIdeal.Value.run (F := Ideal) m' ρ')⟩
  · exact run_kernel m ρ
  obtain ⟨h0, h1, h2, hk⟩ := h c
  obtain ⟨e0, e1, e2, e3⟩ := hag c
  have R : Reals _ _ _ _ (m (c, Proc.tc.devRef Cert.SbIdeal.main_arg0)) (m (c, Proc.tc.devRef Cert.SbIdeal.main_arg1)) (m (c, Proc.tc.devRef Cert.SbIdeal.main_arg2)) (m (c, Proc.tc.devRef Cert.SbIdeal.main_arg3)) := reals_of _ _ _ _ (hp c)
  have HB := allBlocks (m := m) (c := c) R
  refine ⟨h0.trans ?_, h1.trans ?_, h2.trans ?_, hk⟩
  · rw [Cert.SbRefIdeal.Read.val_main_v47_eq, e0, e1, e2, e3]; exact (ref_q R).trans (final_q HB).symm
  · rw [Cert.SbRefIdeal.Read.val_main_v46_eq, e0, e1, e2, e3]; exact (ref_k R).trans (final_k HB).symm
  · refine (Cert.SbRefIdeal.Read.val_main_v29_eq ..).trans ?_
    rw [e0, e1, e3]; exact (ref_v R).trans (final_v HB).symm

end Cert.SbVal

end
-- ==== Proof.Base.lean ====
/- An array's elements by their coordinates, and equality of arrays from equality at coordinates. -/
module

public import Idealize.ShloMosaic.Lib.Pointwise

@[expose] public section

namespace Cert.Base

open Idealize.ShloMosaic Idealize.ShloMosaic.Pointwise

/-- A matrix's, a one-row matrix's and a vector's elements by their coordinates. -/
abbrev mat {α : Type} {a b : Nat} (v : (⟨2, ![a, b]⟩ : Shape).Idx → α) (r : Fin a) (l : Fin b) : α := v (ix2 r l)
abbrev row {α : Type} {a : Nat} (v : (⟨2, ![1, a]⟩ : Shape).Idx → α) (l : Fin a) : α := v (ix2 0 l)
abbrev vec {α : Type} {a : Nat} (v : (⟨1, ![a]⟩ : Shape).Idx → α) (l : Fin a) : α := v (ix1 l)

/-- Two arrays of one axis that agree at every coordinate are equal. -/
theorem ext1 {α : Type} {a : Nat} {f g : (⟨1, ![a]⟩ : Shape).Idx → α} (h : ∀ i, f (ix1 i) = g (ix1 i)) : f = g :=
  funext fun y => by rw [eq_ix1 y]; exact h _

/-- Two arrays of two axes that agree at every pair of coordinates are equal. -/
theorem ext2 {α : Type} {a b : Nat} {f g : (⟨2, ![a, b]⟩ : Shape).Idx → α} (h : ∀ i j, f (ix2 i j) = g (ix2 i j)) : f = g :=
  funext fun y => by rw [eq_ix2 y]; exact h _ _

/-- Two arrays of three axes that agree at every triple of coordinates are equal. -/
theorem ext3 {α : Type} {a b c : Nat} {f g : (⟨3, ![a, b, c]⟩ : Shape).Idx → α} (h : ∀ i j k, f (ix3 i j k) = g (ix3 i j k)) : f = g :=
  funext fun y => by rw [eq_ix3 y]; exact h _ _ _

end Cert.Base
-- ==== Proof.Reduce.lean ====
/- A sum over the two outer axes of an array of three. -/
module

public import proofs.«01_k».proof.Proof.Base
public import Idealize.ShloMosaic.Lib.Pointwise

@[expose] public section

noncomputable section

namespace Cert.Base

open Idealize.ShloMosaic Idealize.ShloMosaic.Pointwise

/-- A reduction over the two outer axes of three, read as a double sum. -/
theorem reduce_outer {a b n : Nat} (h : (⟨3, ![a, b, n]⟩ : Shape).ReducesTo [0, 1] ⟨1, ![n]⟩) (v : (⟨3, ![a, b, n]⟩ : Shape).Idx → EReal)
    (init : EReal) (l : Fin n) : Ideal.hostReduceAdd h v init (ix1 l) = init + ∑ p, ∑ q, v (ix3 p q l) := by
  refine congrArg (init + ·) ((Finset.sum_filter_eq_sum_of_fiber _ (fun k : Fin a × Fin b => ix3 k.1 k.2 l)
    (fun _ _ e => Prod.ext (congrFun e 0) (congrFun e 1)) (fun i => ?_) v).trans (by simp only [Fintype.sum_prod_type]))
  constructor
  · intro e
    refine ⟨(i 0, i 1), ?_⟩
    funext c; apply Fin.ext
    match c with
    | ⟨0, _⟩ => rfl
    | ⟨1, _⟩ => rfl
    | ⟨2, _⟩ => exact (congrArg Fin.val (congrFun e 0)).symm
  · rintro ⟨k, rfl⟩
    funext c
    apply Fin.ext
    match c with
    | ⟨0, _⟩ => rfl

/-- A maximum over the last of three axes. -/
theorem host_max {a b n : Nat} (h : (⟨3, ![a, b, n]⟩ : Shape).ReducesTo [2] ⟨2, ![a, b]⟩) {u : Shape} (hu : 0 < u.numel)
    (v : (⟨3, ![a, b, n]⟩ : Shape).Idx → EReal) (init : u.Idx → EReal) (p : Fin a) (q : Fin b) :
    Host.reduce (FloatOps.maximumf (F := Ideal) (φ := .f32)) v init h hu (ix2 p q) = Finset.fold max (init (Shape.Idx.first hu)) (fun k => v (ix3 p q k)) Finset.univ := by
  pointwise []

end Cert.Base

end
-- ==== Proof.Rms.lean ====
/- The RMS norm of one row and the gradient of one row through it, as functions of the row over the extended reals. The
   calls of the backward pass that differentiate a norm, and their references, are read in these terms. -/
module

public import Idealize.ShloMosaic.Lib.Pointwise

@[expose] public section

noncomputable section

namespace Cert.Rms

open Idealize.ShloMosaic

variable {n : Nat}

/-- The mean of the squares of a row, with the norm's epsilon: `N` is the word of the row's length. -/
def ms (N : BitVec 32) (x : Fin n → EReal) : EReal :=
  Ideal.div (∑ k, x k * x k) (Ideal.ofBits FTy.f32 N) + Ideal.ofBits FTy.f32 897988541#32

/-- The factor a row is scaled by. -/
def inv (N : BitVec 32) (x : Fin n → EReal) : EReal := Ideal.rsqrt (ms N x)

/-- What a row's cotangent `z` sends back through the mean of squares, the same number for the whole row. -/
def sc (N : BitVec 32) (x z : Fin n → EReal) : EReal :=
  Ideal.div ((∑ k, x k * z k) * (Ideal.ofBits FTy.f32 3204448256#32 * Ideal.div (inv N x) (ms N x))) (Ideal.ofBits FTy.f32 N)

/-- The gradient of the row `x` scaled to `x · inv`, for the cotangent `z` (already times the norm's weight). -/
def back (N : BitVec 32) (x z : Fin n → EReal) (j : Fin n) : EReal :=
  z j * inv N x + x j * sc N x z + sc N x z * x j

end Cert.Rms

end
-- ==== Proof.XaMem.Math.lean ====
/- The gradients of the memory side of the cross attention, as functions of the arrays: keys and values are products of the
   normed memory with two weights, the keys normed once more per head of 256 columns. -/
module

public import proofs.«01_k».proof.Proof.Rms

@[expose] public section

noncomputable section

namespace Cert.XaMemVal

open Idealize.ShloMosaic Cert.Rms

/-- Column `l` of head `h`. -/
def hd (h : Fin 4) (l : Fin 256) : Fin 1024 := ⟨h.val * 256 + l.val, by omega⟩

/-- Every column is a head's column. -/
theorem hd_surj (c : Fin 1024) : ∃ h l, hd h l = c :=
  ⟨⟨c.val / 256, by omega⟩, ⟨c.val % 256, by omega⟩, Fin.ext (by show c.val / 256 * 256 + c.val % 256 = c.val; omega)⟩

/-- The head and the place in it of a column. -/
def hdOf (c : Fin 1024) : Fin 4 := ⟨c.val / 256, by omega⟩
def inHd (c : Fin 1024) : Fin 256 := ⟨c.val % 256, by omega⟩

theorem hdOf_hd (h : Fin 4) (l : Fin 256) : hdOf (hd h l) = h := Fin.ext (by show (h.val * 256 + l.val) / 256 = h.val; omega)
theorem inHd_hd (h : Fin 4) (l : Fin 256) : inHd (hd h l) = l := Fin.ext (by show (h.val * 256 + l.val) % 256 = l.val; omega)

variable (x : Fin 256 → Fin 1024 → EReal) (g : Fin 1024 → EReal) (wk wv : Fin 1024 → Fin 1024 → EReal) (kg : Fin 256 → EReal)
  (dk dv : Fin 256 → Fin 1024 → EReal)

/-- The memory scaled by its rows' norm factors, before the weight. -/
def xh (r : Fin 256) (l : Fin 1024) : EReal := x r l * inv 1149239296#32 (x r)

/-- The normed memory. -/
def hm (r : Fin 256) (l : Fin 1024) : EReal := xh x r l * g l

/-- The keys before their norm. -/
def kk (r : Fin 256) (c : Fin 1024) : EReal := ∑ k, hm x g r k * wk k c

/-- One head's row of the keys before their norm. -/
def kh (r : Fin 256) (h : Fin 4) (l : Fin 256) : EReal := kk x g wk r (hd h l)

/-- The gradient of the keys before their norm. -/
def dkk (r : Fin 256) (h : Fin 4) : Fin 256 → EReal :=
  back 1132462080#32 (kh x g wk r h) (fun l => dk r (hd h l) * kg l)

/-- The gradient of the keys' weight. -/
def dwk (i j : Fin 1024) : EReal := ∑ r, hm x g r i * dkk x g wk kg dk r (hdOf j) (inHd j)

/-- The gradient of the values' weight. -/
def dwv (i j : Fin 1024) : EReal := ∑ r, hm x g r i * dv r j

/-- The gradient of the memory norm's weight. -/
def dg (l : Fin 1024) : EReal :=
  ∑ r, xh x r l * ((∑ c, dkk x g wk kg dk r (hdOf c) (inHd c) * wk l c) + ∑ c, dv r c * wv l c)

/-- One head's part of the gradient of the key norm's weight. -/
def dkgh (h : Fin 4) (l : Fin 256) : EReal := ∑ r, kh x g wk r h l * inv 1132462080#32 (kh x g wk r h) * dk r (hd h l)

/-- The gradient of the key norm's weight. -/
def dkg (l : Fin 256) : EReal := ∑ h, dkgh x g wk dk h l

end Cert.XaMemVal

end
-- ==== Proof.XaMem.Ref.lean ====
/- What the reference of the memory side's gradients computes, read at an index. -/
module

public import proofs.«01_k».proof.Proof.Reduce
public import proofs.«01_k».proof.Proof.Base
public import proofs.«01_k».proof.Proof.XaMem.Math
public import proofs.«01_k».proof.Proof.Gen.XaMemRefIdeal.Read

@[expose] public section

set_option maxRecDepth 16384

noncomputable section

namespace Cert.XaMemVal

open Idealize.ShloMosaic Idealize.ShloMosaic.Pointwise Cert.Base Cert.XaMemRefIdeal Cert.XaMemRefIdeal.Read

variable (x0 : (⟨S256x1024, .f32⟩ : BufTy).Contents (Elt Ideal)) (x1 : (⟨S1024, .f32⟩ : BufTy).Contents (Elt Ideal))
  (x2 x3 : (⟨S1024x1024, .f32⟩ : BufTy).Contents (Elt Ideal)) (x4 : (⟨S256, .f32⟩ : BufTy).Contents (Elt Ideal))
  (x5 x6 : (⟨S256x1024, .f32⟩ : BufTy).Contents (Elt Ideal))

theorem ref_hm (r : Fin 256) (l : Fin 1024) : val_main_v12 (F := Ideal) x0 x1 (ix2 r l) = hm (mat x0) (vec x1) r l := by
  pointwise [val_main_v0, val_main_v1, val_main_v2, val_main_v3, val_main_v4, val_main_v5, val_main_v6, val_main_v7, val_main_v8, val_main_v9,
    val_main_v10, val_main_v11, val_main_v12, val_main_cst, val_main_cst_0, val_main_cst_1]
  rfl

theorem ref_xh (r : Fin 256) (l : Fin 1024) : val_main_v9 (F := Ideal) x0 (ix2 r l) = xh (mat x0) r l := by
  pointwise [val_main_v0, val_main_v1, val_main_v2, val_main_v3, val_main_v4, val_main_v5, val_main_v6, val_main_v7, val_main_v8, val_main_v9,
    val_main_cst, val_main_cst_0, val_main_cst_1]
  rfl

theorem ref_kh (r : Fin 256) (h : Fin 4) (l : Fin 256) :
    val_main_v14 (F := Ideal) x0 x1 x2 (ix3 r h l) = kh (mat x0) (vec x1) (mat x2) r h l := by
  pointwise [val_main_v14, val_main_v13, ref_hm]
  rfl

theorem ref_inv (r : Fin 256) (h : Fin 4) (l : Fin 1) :
    val_main_v22 (F := Ideal) x0 x1 x2 (ix3 r h l) = Rms.inv 1132462080#32 (kh (mat x0) (vec x1) (mat x2) r h) := by
  pointwise [val_main_v15, val_main_v16, val_main_v17, val_main_v18, val_main_v19, val_main_v20, val_main_v21, val_main_v22,
    val_main_cst_2, val_main_cst_3, val_main_cst_4, ref_kh]
  rfl

theorem ref_ms (r : Fin 256) (h : Fin 4) (l : Fin 1) :
    val_main_v21 (F := Ideal) x0 x1 x2 (ix3 r h l) = Rms.ms 1132462080#32 (kh (mat x0) (vec x1) (mat x2) r h) := by
  pointwise [val_main_v15, val_main_v16, val_main_v17, val_main_v18, val_main_v19, val_main_v20, val_main_v21,
    val_main_cst_2, val_main_cst_3, val_main_cst_4, ref_kh]
  rfl

/-- The keys' gradient, head by head. -/
theorem ref_dkk (r : Fin 256) (h : Fin 4) (l : Fin 256) :
    val_main_v60 (F := Ideal) x0 x1 x2 x4 x5 (ix3 r h l) = dkk (mat x0) (vec x1) (mat x2) (vec x4) (mat x5) r h l := by
  pointwise [val_main_v23, val_main_v24, val_main_v25, val_main_v28, val_main_v36, val_main_v44, val_main_v45, val_main_v47, val_main_v48,
    val_main_v49, val_main_v50, val_main_v51, val_main_v52, val_main_v53, val_main_v54, val_main_v55, val_main_v56, val_main_v57, val_main_v58,
    val_main_v59, val_main_v60, val_main_cst_5, val_main_cst_8, val_main_cst_9, val_main_cst_10, ref_kh, ref_inv, ref_ms]
  simp only [Fin.sum_univ_one]
  rfl

/-- The keys' gradient in one row. -/
theorem ref_dkk_row (r : Fin 256) (c : Fin 1024) :
    val_main_v61 (F := Ideal) x0 x1 x2 x4 x5 (ix2 r c) = dkk (mat x0) (vec x1) (mat x2) (vec x4) (mat x5) r (hdOf c) (inHd c) := by
  pointwise [val_main_v61, ref_dkk]
  rfl

theorem ref_dv (r : Fin 256) (c : Fin 1024) : val_main_v37 (F := Ideal) x6 (ix2 r c) = x6 (ix2 r c) := by
  obtain ⟨h, l, rfl⟩ := hd_surj c
  pointwise [val_main_v37, val_main_v35]

theorem ref_dwk (i j : Fin 1024) :
    val_main_v63 (F := Ideal) x0 x1 x2 x4 x5 (ix2 i j) = dwk (mat x0) (vec x1) (mat x2) (vec x4) (mat x5) i j := by
  pointwise [val_main_v63, val_main_v62, ref_dkk_row, ref_hm]
  exact Finset.sum_congr rfl fun r _ => mul_comm _ _

theorem ref_dwv (i j : Fin 1024) : val_main_v39 (F := Ideal) x0 x1 x6 (ix2 i j) = dwv (mat x0) (vec x1) (mat x6) i j := by
  pointwise [val_main_v39, val_main_v38, ref_dv, ref_hm]
  exact Finset.sum_congr rfl fun r _ => mul_comm _ _

theorem ref_dg (u : Fin 1) (l : Fin 1024) :
    val_main_v70 (F := Ideal) x0 x1 x2 x3 x4 x5 x6 (ix2 u l) = dg (mat x0) (vec x1) (mat x2) (mat x3) (vec x4) (mat x5) (mat x6) l := by
  pointwise [val_main_v70, val_main_v69, val_main_v68, val_main_v67, val_main_v66, val_main_v65, val_main_v64, val_main_v40, val_main_cst_11,
    val_main_cst_12, ref_dkk_row, ref_dv, ref_xh]
  simp only [Fin.sum_univ_one]
  exact Finset.sum_congr rfl fun r _ => congrArg _ (add_comm _ _)

theorem ref_dkg (u : Fin 1) (l : Fin 256) :
    val_main_v71 (F := Ideal) x0 x1 x2 x5 (ix2 u l) = dkg (mat x0) (vec x1) (mat x2) (mat x5) l := by
  pointwise [val_main_v71, val_main_v46, val_main_cst_7]
  rw [reduce_outer]
  pointwise [val_main_v43, val_main_v42, val_main_cst_6]
  rw [reduce_outer]
  pointwise [val_main_v41, val_main_v36, val_main_v27, val_main_v26, ref_kh, ref_inv]
  simp only [Fin.sum_univ_one]
  exact Finset.sum_comm

end Cert.XaMemVal

end
-- ==== Proof.XaMem.Kern.lean ====
/- What the memory side's gradient call leaves in its four outputs, read at an index. -/
module

public import proofs.«01_k».proof.Proof.XaMem.Ref
public import proofs.«01_k».proof.Proof.Gen.XaMemIdeal.Value

@[expose] public section

set_option maxRecDepth 16384

noncomputable section

namespace Cert.XaMemVal

open Idealize.ShloMosaic Idealize.ShloMosaic.Pointwise Cert.Base Cert.XaMemIdeal Cert.XaMemIdeal.Gen

variable (x0 : Vec Ideal S256x1024 .f32) (x1 : Vec Ideal S1x1024 .f32)
  (x2 x3 : Vec Ideal S1024x1024 .f32) (x4 : Vec Ideal S1x256 .f32)
  (x5 x6 : Vec Ideal S256x1024 .f32)

theorem kern_xh (r : Fin 256) (l : Fin 1024) : k0_pay3 (F := Ideal) x0 (ix2 r l) = xh (mat x0) r l := by
  pointwise [k0_pay3]
  rfl

theorem kern_hm (r : Fin 256) (l : Fin 1024) : k0_pay4 (F := Ideal) x0 x1 (ix2 r l) = hm (mat x0) (row x1) r l := by
  pointwise [k0_pay4, kern_xh]
  rfl

theorem kern_kk (r : Fin 256) (c : Fin 1024) : k0_pay5 (F := Ideal) x0 x1 x2 (ix2 r c) = kk (mat x0) (row x1) (mat x2) r c := by
  pointwise [k0_pay5, kern_hm]
  rfl

theorem ld0 : View.ld x0 r0_0 = x0 := View.ld_unit_zero (by decide) _ _
theorem ld1 : View.ld x1 r0_1 = x1 := View.ld_unit_zero (by decide) _ _
theorem ld2 : View.ld x2 r0_2 = x2 := View.ld_unit_zero (by decide) _ _

/-- The keys' gradient: the four heads' parts side by side. -/
theorem kern_dkk (r : Fin 256) (c : Fin 1024) :
    k0_pay37 (k0_pay40 x0 x1 x2 x3 x4 x5 x6) (k0_pay41 x0 x1 x2 x3 x4 x5 x6) (k0_pay42 x0 x1 x2 x3 x4 x5 x6) (k0_pay43 x0 x1 x2 x3 x4 x5 x6)
      (k0_pay44 x0 x1 x2 x3 x4 x5 x6) (k0_pay45 x0 x1 x2 x3 x4 x5 x6) (k0_pay46 x0 x1 x2 x3 x4 x5 x6) (View.ld x4 r0_3) (View.ld x5 r0_7) (ix2 r c)
      = dkk (mat x0) (row x1) (mat x2) (row x4) (mat x5) r (hdOf c) (inHd c) := by
  obtain ⟨h, l, rfl⟩ := hd_surj c
  rw [hdOf_hd, inHd_hd]
  unfold k0_pay41 k0_pay42 k0_pay43 k0_pay44 k0_pay45 k0_pay46 k0_pay40
  rw [ld0, ld1, ld2]
  pointwise [k0_pay37, k0_pay35, k0_pay34, k0_pay33, k0_pay32, k0_pay31, k0_pay30, k0_pay29, k0_pay28, k0_pay27, k0_pay26, k0_pay25, k0_pay23,
    k0_pay22, k0_pay21, k0_pay20, k0_pay18, k0_pay17, k0_pay16, k0_pay15, k0_pay13, k0_pay11, k0_pay10, k0_pay9, k0_pay8, k0_pay7, kern_kk]
  simp only [Fin.sum_univ_one]
  have hl := l.isLt
  match h with
  | 0 =>
    have e0 : (hd 0 l).val = l.val := by show 0 * 256 + l.val = l.val; omega
    have k0 : ∀ (q : Fin 256) (p : q.val < 1024), (⟨q.val, p⟩ : Fin 1024) = hd 0 q := fun q p => Fin.ext (by show q.val = 0 * 256 + q.val; omega)
    rw [dif_pos (by omega)]
    simp only [e0, k0]
    rfl
  | 1 =>
    have e1 : (hd 1 l).val - 256 = l.val := by show 1 * 256 + l.val - 256 = l.val; omega
    have e1' : ¬ (hd 1 l).val < 256 := by show ¬ 1 * 256 + l.val < 256; omega
    rw [dif_neg e1', dif_pos (by omega)]
    simp only [e1]
    rfl
  | 2 =>
    have e2 : (hd 2 l).val - 256 - 256 = l.val := by show 2 * 256 + l.val - 256 - 256 = l.val; omega
    have e2' : ¬ (hd 2 l).val - 256 < 256 := by show ¬ 2 * 256 + l.val - 256 < 256; omega
    rw [dif_neg (by omega), dif_neg e2', dif_pos (by omega)]
    simp only [e2]
    rfl
  | 3 =>
    have e3 : (hd 3 l).val - 256 - 256 - 256 = l.val := by show 3 * 256 + l.val - 256 - 256 - 256 = l.val; omega
    have e3' : ¬ (hd 3 l).val - 256 - 256 < 256 := by show ¬ 3 * 256 + l.val - 256 - 256 < 256; omega
    rw [dif_neg (by omega), dif_neg (by omega), dif_neg e3']
    simp only [e3]
    rfl

theorem kern_dwk (i j : Fin 1024) : out0_7 x0 x1 x2 x3 x4 x5 x6 (ix2 i j) = dwk (mat x0) (row x1) (mat x2) (row x4) (mat x5) i j := by
  unfold out0_7 k0_pay39
  rw [View.canon_unit_zero (by decide)]
  rw [ld0, ld1]
  pointwise [k0_pay38, kern_dkk, kern_hm]
  rfl

theorem kern_dwv (i j : Fin 1024) : out0_8 x0 x1 x2 x3 x4 x5 x6 (ix2 i j) = dwv (mat x0) (row x1) (mat x6) i j := by
  unfold out0_8 k0_pay39
  rw [View.canon_unit_zero (by decide)]
  rw [ld0, ld1, ld0]
  pointwise [k0_pay1, kern_hm]
  rfl

theorem kern_dg (u : Fin 1) (l : Fin 1024) : out0_9 x0 x1 x2 x3 x4 x5 x6 (ix2 u l)
    = dg (mat x0) (row x1) (mat x2) (mat x3) (row x4) (mat x5) (mat x6) l := by
  unfold out0_9
  rw [View.canon_unit_zero (by decide)]
  rw [ld0, ld0, ld2, ld2]
  pointwise [k0_pay2, kern_dkk, kern_xh]
  rfl

theorem kern_dkg (u : Fin 1) (l : Fin 256) : out0_10 x0 x1 x2 x3 x4 x5 x6 (ix2 u l)
    = dkg (mat x0) (row x1) (mat x2) (mat x5) l := by
  unfold_out out0_10
  rw [View.canon_unit_zero (by decide)]
  rw [ld0, ld1, ld2]
  pointwise [k0_pay36, k0_pay35, k0_pay34, k0_pay33, k0_pay32, k0_pay31, k0_pay30, k0_pay29, k0_pay28, k0_pay27, k0_pay26, k0_pay25, k0_pay24, k0_pay23,
    k0_pay22, k0_pay21, k0_pay20, k0_pay19, k0_pay18, k0_pay17, k0_pay16, k0_pay15, k0_pay14, k0_pay13, k0_pay12, k0_pay11, k0_pay10, k0_pay9, k0_pay8, k0_pay7, k0_pay6, kern_kk]
  unfold dkg
  rw [Fin.sum_univ_four]
  have k0 : ∀ (q : Fin 256) (p : q.val < 1024), (⟨q.val, p⟩ : Fin 1024) = hd 0 q := fun q p => Fin.ext (by show q.val = 0 * 256 + q.val; omega)
  simp only [k0]
  rfl

end Cert.XaMemVal

end
-- ==== Proof.XaMem.Final.lean ====
/- The memory side's gradient call against its reference: the arrays after the run are the reference's arrays. -/
module

public import proofs.«01_k».proof.Defs
public import proofs.«01_k».proof.Proof.Base
public import proofs.«01_k».proof.Proof.XaMem.Kern
public import proofs.«01_k».proof.Proof.Gen.XaMemRefIdeal.Run
public import proofs.«01_k».proof.Proof.Gen.XaMemIdeal.Value
public import Idealize.ShloMosaic.Lib.Pipeline.ValueKit
public import Idealize.ShloMosaic.Lib.StableHlo.ReadAt

@[expose] public section

set_option maxRecDepth 16384

noncomputable section

namespace Cert.XaMemVal

open Idealize.ShloMosaic Idealize.ShloMosaic.Pointwise Cert.Base Idealize.SL.Sem Cert.XaMemIdeal Cert.XaMemIdeal.Gen

/-- The call's gradient of the key weights, from the rows `x1`, `x4` of the two scales, is the reference's from their vectors. -/
theorem dwk_eq (x0 : Vec Ideal S256x1024 .f32) (x1 : Vec Ideal S1x1024 .f32) (x2 x3 : Vec Ideal S1024x1024 .f32) (x4 : Vec Ideal S1x256 .f32) (x5 x6 : Vec Ideal S256x1024 .f32)
    (g : Vec Ideal ⟨1, ![1024]⟩ .f32) (kg : Vec Ideal ⟨1, ![256]⟩ .f32) (hg : row x1 = vec g) (hk : row x4 = vec kg) :
    out0_7 x0 x1 x2 x3 x4 x5 x6 = Cert.XaMemRefIdeal.Read.val_main_v63 (F := Ideal) x0 g x2 kg x5 :=
  Cert.Base.ext2 fun i j => by rw [kern_dwk, Cert.XaMemVal.ref_dwk, hg, hk]

/-- Likewise of the value weights. -/
theorem dwv_eq (x0 : Vec Ideal S256x1024 .f32) (x1 : Vec Ideal S1x1024 .f32) (x2 x3 : Vec Ideal S1024x1024 .f32) (x4 : Vec Ideal S1x256 .f32) (x5 x6 : Vec Ideal S256x1024 .f32)
    (g : Vec Ideal ⟨1, ![1024]⟩ .f32) (hg : row x1 = vec g) :
    out0_8 x0 x1 x2 x3 x4 x5 x6 = Cert.XaMemRefIdeal.Read.val_main_v39 (F := Ideal) x0 g x6 :=
  Cert.Base.ext2 fun i j => by rw [kern_dwv, ref_dwv, hg]

/-- Likewise of the memory norm's scale. -/
theorem dg_eq (x0 : Vec Ideal S256x1024 .f32) (x1 : Vec Ideal S1x1024 .f32) (x2 x3 : Vec Ideal S1024x1024 .f32) (x4 : Vec Ideal S1x256 .f32) (x5 x6 : Vec Ideal S256x1024 .f32)
    (g : Vec Ideal ⟨1, ![1024]⟩ .f32) (kg : Vec Ideal ⟨1, ![256]⟩ .f32) (hg : row x1 = vec g) (hk : row x4 = vec kg) :
    out0_9 x0 x1 x2 x3 x4 x5 x6 = Cert.XaMemRefIdeal.Read.val_main_v70 (F := Ideal) x0 g x2 x3 kg x5 x6 :=
  Cert.Base.ext2 fun i j => by rw [kern_dg, ref_dg, hg, hk]

/-- Likewise of the key norm's scale. -/
theorem dkg_eq (x0 : Vec Ideal S256x1024 .f32) (x1 : Vec Ideal S1x1024 .f32) (x2 x3 : Vec Ideal S1024x1024 .f32) (x4 : Vec Ideal S1x256 .f32) (x5 x6 : Vec Ideal S256x1024 .f32)
    (g : Vec Ideal ⟨1, ![1024]⟩ .f32) (hg : row x1 = vec g) :
    out0_10 x0 x1 x2 x3 x4 x5 x6 = Cert.XaMemRefIdeal.Read.val_main_v71 (F := Ideal) x0 g x2 x5 :=
  Cert.Base.ext2 fun i j => by rw [kern_dkg, ref_dkg, hg]

variable (m : (ℓ : Loc nD τ sig) → Buf (Elt Ideal) ℓ) (c : Dev nD)

/-- Window 0's one block is the argument. -/
theorem blk0 (t : Fin cfg0.N) : iblk m c 0 t = m ((c.tc : Thread nD τ).loc main_arg0) := by
  have e : ∀ t : Fin cfg0.N, win0_0.index t = ![0, 0] := by decide +kernel
  funext x
  blk_simp [iblk]
  rw [V_main_arg0]
  refine congrArg _ ?_
  blk_ext [e]

/-- Window 2's one block is the argument. -/
theorem blk2 (t : Fin cfg0.N) : iblk m c 2 t = m ((c.tc : Thread nD τ).loc main_arg2) := by
  have e : ∀ t : Fin cfg0.N, win0_2.index t = ![0, 0] := by decide +kernel
  funext x
  blk_simp [iblk]
  rw [V_main_arg2]
  refine congrArg _ ?_
  blk_ext [e]

/-- Window 3's one block is the argument. -/
theorem blk3 (t : Fin cfg0.N) : iblk m c 3 t = m ((c.tc : Thread nD τ).loc main_arg3) := by
  have e : ∀ t : Fin cfg0.N, win0_3.index t = ![0, 0] := by decide +kernel
  funext x
  blk_simp [iblk]
  rw [V_main_arg3]
  refine congrArg _ ?_
  blk_ext [e]

/-- Window 5's one block is the argument. -/
theorem blk5 (t : Fin cfg0.N) : iblk m c 5 t = m ((c.tc : Thread nD τ).loc main_arg5) := by
  have e : ∀ t : Fin cfg0.N, win0_5.index t = ![0, 0] := by decide +kernel
  funext x
  blk_simp [iblk]
  rw [V_main_arg5]
  refine congrArg _ ?_
  blk_ext [e]

/-- Window 6's one block is the argument. -/
theorem blk6 (t : Fin cfg0.N) : iblk m c 6 t = m ((c.tc : Thread nD τ).loc main_arg6) := by
  have e : ∀ t : Fin cfg0.N, win0_6.index t = ![0, 0] := by decide +kernel
  funext x
  blk_simp [iblk]
  rw [V_main_arg6]
  refine congrArg _ ?_
  blk_ext [e]

/-- Window 1's one block is a scale as a row. -/
theorem blk1 (t : Fin cfg0.N) : row (iblk m c 1 t) = vec (m ((c.tc : Thread nD τ).loc main_arg1)) := by
  have e : ∀ t : Fin cfg0.N, win0_1.index t = ![0, 0] := by decide +kernel
  funext l
  unfold row vec
  blk_simp [iblk]
  unfold V
  after_reads_at
  refine congrArg _ ?_
  blk_ext [e]

/-- Window 4's one block is a scale as a row. -/
theorem blk4 (t : Fin cfg0.N) : row (iblk m c 4 t) = vec (m ((c.tc : Thread nD τ).loc main_arg4)) := by
  have e : ∀ t : Fin cfg0.N, win0_4.index t = ![0, 0] := by decide +kernel
  funext l
  unfold row vec
  blk_simp [iblk]
  unfold V
  after_reads_at
  refine congrArg _ ?_
  blk_ext [e]

/-- Result array 0 after the run is the reference's. -/
theorem final_dwk : (dats m 0 c).arrAt 7 cfg0.N = Cert.XaMemRefIdeal.Read.val_main_v63 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  have e : ∀ t : Fin cfg0.N, win0_7.index t = ![0, 0] := by decide +kernel
  refine (dats m 0 c).arrAt_eq_of_covers 7 _ (by decide +kernel) fun t hf y => ?_
  blk_simp
  have hy : (win0_7.blk t).view.emb y = y := by blk_ext [e]
  rw [after0_7, hy, (dwk_eq _ _ _ _ _ _ _ _ _ (blk1 m c t) (blk4 m c t)), blk0 m c t, blk2 m c t, blk5 m c t]

/-- Result array 1 after the run is the reference's. -/
theorem final_dwv : (dats m 0 c).arrAt 8 cfg0.N = Cert.XaMemRefIdeal.Read.val_main_v39 (F := Ideal) (m ((c.tc : Thread nD τ).loc main_arg0)) (m ((c.tc : Thread nD τ).loc main_arg1)) (m ((c.tc : Thread nD τ).loc main_arg6)) := by
  have e : ∀ t : Fin cfg0.N, win0_8.index t = ![0, 0] := by decide +kernel
  refine (dats m 0 c).arrAt_eq_of_covers 8 _ (by decide +kernel) fun t hf y => ?_
  blk_simp
  have hy : (win0_8.blk t).view.emb y = y := by blk_ext [e]
  rw [after0_8, hy, (dwv_eq _ _ _ _ _ _ _ _ (blk1 m c t)), blk0 m c t, blk6 m c t]

/-- Result array 2 after the run is the reference's. -/
theorem final_dg : (dats m 0 c).arrAt 9 cfg0.N = Cert.XaMemRefIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e : ∀ t : Fin cfg0.N, win0_9.index t = ![0, 0] := by decide +kernel
  refine (dats m 0 c).arrAt_eq_of_covers 9 _ (by decide +kernel) fun t hf y => ?_
  blk_simp
  have hy : (win0_9.blk t).view.emb y = y := by blk_ext [e]
  rw [after0_9, hy, (dg_eq _ _ _ _ _ _ _ _ _ (blk1 m c t) (blk4 m c t)), blk0 m c t, blk2 m c t, blk3 m c t, blk5 m c t, blk6 m c t]

/-- Result array 3 after the run is the reference's. -/
theorem final_dkg : (dats m 0 c).arrAt 10 cfg0.N = Cert.XaMemRefIdeal.Read.val_main_v71 (F := Ideal) (m ((c.tc : Thread nD τ).loc main_arg0)) (m ((c.tc : Thread nD τ).loc main_arg1)) (m ((c.tc : Thread nD τ).loc main_arg2)) (m ((c.tc : Thread nD τ).loc main_arg5)) := by
  have e : ∀ t : Fin cfg0.N, win0_10.index t = ![0, 0] := by decide +kernel
  refine (dats m 0 c).arrAt_eq_of_covers 10 _ (by decide +kernel) fun t hf y => ?_
  blk_simp
  have hy : (win0_10.blk t).view.emb y = y := by blk_ext [e]
  rw [after0_10, hy, (dkg_eq _ _ _ _ _ _ _ _ (blk1 m c t)), blk0 m c t, blk2 m c t, blk5 m c t]

end Cert.XaMemVal

end
-- ==== Proof.XaMem.Claims.lean ====
/- The claims about the memory side's gradient call and its reference. -/
module

public import proofs.«01_k».proof.Defs
public import proofs.«01_k».proof.Proof.XaMem.Final
public import proofs.«01_k».proof.Proof.Gen.XaMem.Frame
public import Idealize.ShloMosaic.Adequacy
public import Idealize.ShloMosaic.Init

@[expose] public section

noncomputable section

namespace Cert.XaMemVal

open Idealize.ShloMosaic Idealize.SL.Sem

/-- The call's frame. -/
theorem frame_kernel : Cert.quiescent_XaMem := fun m ρ _ => Cert.XaMem.Gen.frame m ρ

/-- Its frame over the extended reals. -/
theorem frame_ideal : Cert.quiescent_XaMemIdeal := fun m ρ _ => Cert.XaMemIdeal.Gen.frame m ρ

/-- No operation is rewritten. -/
theorem preserves : Cert.preserves_XaMem_XaMemIdeal := trivial

/-- The reference leaves its arguments and, having no semaphore, every counter at zero. -/
theorem frame_ref : Cert.quiescent_XaMemRefIdeal := fun m ρ _ =>
  (θ_run Cert.XaMemRefIdeal.defs _ _).mono (fun r h => ⟨fun c => (h c).2.2.2.2, sem_eq_zero_of_no_sems (by decide) r.2⟩)
    (Cert.XaMemRefIdeal.Value.run (F := Ideal) m ρ)

/-- The call and the reference compute the same four gradients over the extended reals. -/
theorem algebraic : Cert.algebraic_XaMemIdeal_XaMemRefIdeal := by
  intro m ρ m' ρ' _ hag
  refine ⟨fun c => (Cert.XaMemIdeal.Gen.dats m 0 c).arrAt 7 Cert.XaMemIdeal.cfg0.N, fun c => (Cert.XaMemIdeal.Gen.dats m 0 c).arrAt 8 Cert.XaMemIdeal.cfg0.N,
    fun c => (Cert.XaMemIdeal.Gen.dats m 0 c).arrAt 9 Cert.XaMemIdeal.cfg0.N, fun c => (Cert.XaMemIdeal.Gen.dats m 0 c).arrAt 10 Cert.XaMemIdeal.cfg0.N,
    Cert.XaMemIdeal.Value.run_blocks m ρ,
    (θ_run Cert.XaMemRefIdeal.defs _ _).mono (fun r h c => ?_) (Cert.XaMemRefIdeal.Value.run (F := Ideal) m' ρ')⟩
  obtain ⟨h0, h1, h2, h3, hk⟩ := h c
  obtain ⟨e0, e1, e2, e3, e4, e5, e6⟩ := hag c
  refine ⟨h0.trans ?_, h1.trans ?_, h2.trans ?_, h3.trans ?_, hk⟩
  · rw [Cert.XaMemRefIdeal.Read.val_main_v63_eq, e0, e1, e2, e4, e5]; exact (final_dwk m c).symm
  · rw [Cert.XaMemRefIdeal.Read.val_main_v39_eq, e0, e1, e6]; exact (final_dwv m c).symm
  · rw [Cert.XaMemRefIdeal.Read.val_main_v70_eq, e0, e1, e2, e3, e4, e5, e6]; exact (final_dg m c).symm
  · rw [Cert.XaMemRefIdeal.Read.val_main_v71_eq, e0, e1, e2, e5]; exact (final_dkg m c).symm

end Cert.XaMemVal

end
-- ==== Proof.Idx.lean ====
/- Every index of a matrix is a pair. -/
module

public import proofs.«01_k».proof.Proof.Base

@[expose] public section

namespace Cert.Base

open Idealize.ShloMosaic Idealize.ShloMosaic.Pointwise

/-- An index of a matrix is a row and a column. -/
theorem idx2 {A B : ℕ} (y : Shape.Idx ⟨2, ![A, B]⟩) : ∃ (r : Fin A) (l : Fin B), y = ix2 r l :=
  ⟨y 0, y 1, by funext j; fin_cases j <;> rfl⟩

/-- An index of an array of rank three is a triple. -/
theorem idx3 {A B C : ℕ} (y : Shape.Idx ⟨3, ![A, B, C]⟩) : ∃ (a : Fin A) (b : Fin B) (c : Fin C), y = ix3 a b c :=
  ⟨y 0, y 1, y 2, by funext j; fin_cases j <;> rfl⟩

end Cert.Base
-- ==== Proof.Loss.Math.lean ====
/- The last feed-forward layer with the loss, as functions of one row of the activations over the extended reals. -/
module

public import proofs.«01_k».proof.Proof.Rms

@[expose] public section

noncomputable section

namespace Cert.LossVal

open Idealize.ShloMosaic

/-- The logistic function. -/
def sg (z : EReal) : EReal := Ideal.div 1 (1 + Ideal.exp (-z))

variable (g : Fin 1024 → EReal) (wi : Fin 1024 → Fin 5632 → EReal) (wo : Fin 2816 → Fin 1024 → EReal) (x t : Fin 1024 → EReal)

/-- The normed row. -/
def hf (l : Fin 1024) : EReal := x l * Rms.inv 1149239296#32 x * g l

/-- Its product with the first weight: the gate's columns, then those it multiplies. -/
def gu (c : Fin 5632) : EReal := ∑ k, hf g x k * wi k c

/-- The gated row. -/
def act (c : Fin 2816) : EReal := gu g wi x ⟨c.val, by omega⟩ * sg (gu g wi x ⟨c.val, by omega⟩) * gu g wi x ⟨2816 + c.val, by omega⟩

/-- The layer's row less the target's. -/
def df (l : Fin 1024) : EReal := x l + (∑ c, act g wi x c * wo c l) - t l

/-! The words of the constants. -/

theorem half : Ideal.ofBits FTy.f32 1056964608#32 = ((1 / 2 : ℝ) : EReal) := by
  simp [Ideal.ofBits, Ideal.ieee]
  norm_num [← EReal.coe_mul]
theorem one : Ideal.ofBits FTy.f32 1065353216#32 = ((1 : ℝ) : EReal) := by
  simp [Ideal.ofBits, Ideal.ieee]
  norm_num [← EReal.coe_mul]
theorem two : Ideal.ofBits FTy.f32 1073741824#32 = ((2 : ℝ) : EReal) := by
  simp [Ideal.ofBits, Ideal.ieee]
  norm_num [← EReal.coe_mul]
theorem n1024 : Ideal.ofBits FTy.f32 1149239296#32 = ((1024 : ℝ) : EReal) := by
  simp [Ideal.ofBits, Ideal.ieee]
  norm_num [← EReal.coe_mul]
theorem r1024 : Ideal.ofBits FTy.f32 981467136#32 = ((1 / 1024 : ℝ) : EReal) := by
  simp [Ideal.ofBits, Ideal.ieee]
  norm_num [← EReal.coe_mul]
theorem r2048 : Ideal.ofBits FTy.f32 973078528#32 = ((1 / 2048 : ℝ) : EReal) := by
  simp [Ideal.ofBits, Ideal.ieee]
  norm_num [← EReal.coe_mul]

/-- Dividing by 1024 is multiplying by its inverse. -/
theorem div_1024 (e : EReal) : Ideal.div e (Ideal.ofBits FTy.f32 1149239296#32) = e * ((1 / 1024 : ℝ) : EReal) := by
  rw [n1024, one_div, EReal.coe_inv]; simp [Ideal.div]

/-- A nonnegative real factor comes out of a sum. -/
theorem sum_mul_real {ι : Type} (s : Finset ι) (f : ι → EReal) (k : ℝ) (hk : 0 ≤ k) : ∑ i ∈ s, f i * (k : EReal) = (∑ i ∈ s, f i) * (k : EReal) := by
  classical
  induction s using Finset.induction_on with
  | empty => simp
  | insert a s ha ih =>
    rw [Finset.sum_insert ha, Finset.sum_insert ha, ih, EReal.right_distrib_of_nonneg_of_ne_top (EReal.coe_nonneg.mpr hk) (EReal.coe_ne_top k)]

/-- The factor of the loss's gradient. -/
theorem grad_scale (e : EReal) : Ideal.div (Ideal.ofBits FTy.f32 1056964608#32 * Ideal.ofBits FTy.f32 1065353216#32) (Ideal.ofBits FTy.f32 1149239296#32)
    * (Ideal.ofBits FTy.f32 1073741824#32 * e) = e * Ideal.ofBits FTy.f32 981467136#32 := by
  rw [div_1024, half, one, two, r1024, ← mul_assoc, mul_comm e, ← EReal.coe_mul, ← EReal.coe_mul, ← EReal.coe_mul]
  norm_num

/-- The loss from the squares summed column by column is the loss from the rows' means. -/
theorem loss_eq (f : Fin 8192 → Fin 1024 → EReal) :
    Ideal.ofBits FTy.f32 1056964608#32 * ∑ r, Ideal.div (∑ l, f r l) (Ideal.ofBits FTy.f32 1149239296#32)
      = (∑ l, ∑ r, f r l) * Ideal.ofBits FTy.f32 973078528#32 := by
  simp only [div_1024]
  rw [sum_mul_real _ _ _ (by norm_num), half, r2048, Finset.sum_comm, mul_comm, mul_assoc, ← EReal.coe_mul]
  norm_num

end Cert.LossVal

end
-- ==== Proof.Loss.Kern.lean ====
/- What the loss call's body computes from its blocks, read at an index. -/
module

public import proofs.«01_k».proof.Proof.Base
public import proofs.«01_k».proof.Proof.Idx
public import proofs.«01_k».proof.Proof.Loss.Math
public import proofs.«01_k».proof.Proof.Gen.LossIdeal.Skeleton

@[expose] public section

set_option maxRecDepth 16384

noncomputable section

namespace Cert.LossVal

open Idealize.ShloMosaic Idealize.ShloMosaic.Pointwise Cert.Base Cert.LossIdeal Cert.LossIdeal.Gen

variable (x0 : Vec Ideal S256x1024 .f32) (x1 : Vec Ideal S1x1024 .f32) (x2 : Vec Ideal S5632x1024 .f32) (x3 : Vec Ideal S2816x1024 .f32)
  (x4 : Vec Ideal S256x1024 .f32)

/-- The normed row. -/
theorem kern_nrm (r : Fin 256) (l : Fin 1024) : k0_pay7 (F := Ideal) x0 x1 (ix2 r l) = hf (row x1) (mat x0 r) l := by
  pointwise [k0_pay7]
  rfl

/-- The product with the first weight. -/
theorem kern_prod (r : Fin 256) (q : Fin 5632) : k0_pay8 (F := Ideal) x0 x1 x2 (ix2 r q) = gu (row x1) (fun k c => mat x2 c k) (mat x0 r) q := by
  pointwise [k0_pay8, kern_nrm]
  rfl

/-- The same as it is stored. -/
theorem kern_prod' (r : Fin 256) (q : Fin 5632) : k0_pay10 (F := Ideal) x0 x1 x2 (ix2 r q) = gu (row x1) (fun k c => mat x2 c k) (mat x0 r) q := by
  pointwise [k0_pay10, kern_prod]

/-- The gated row. -/
theorem kern_gated (r : Fin 256) (q : Fin 2816) : k0_pay9 (F := Ideal) x0 x1 x2 (ix2 r q) = act (row x1) (fun k c => mat x2 c k) (mat x0 r) q := by
  pointwise [k0_pay9, kern_prod]
  simp only [zero_sub]
  rfl

/-- The row less the target's. -/
theorem kern_df (r : Fin 256) (l : Fin 1024) :
    k0_pay1 (F := Ideal) x0 (k0_pay9 x0 x1 x2) x3 x4 (ix2 r l) = df (row x1) (fun k c => mat x2 c k) (mat x3) (mat x0 r) (mat x4 r) l := by
  pointwise [k0_pay1, kern_gated]
  rfl

/-- The gradient of the output. -/
theorem kern_dy (r : Fin 256) (l : Fin 1024) : k0_pay2 (F := Ideal) x0 (k0_pay9 x0 x1 x2) x3 x4 (ix2 r l)
    = df (row x1) (fun k c => mat x2 c k) (mat x3) (mat x0 r) (mat x4 r) l * Ideal.ofBits FTy.f32 981467136#32 := by
  pointwise [k0_pay2, kern_df]

/-- The squares summed over the block's rows. -/
theorem kern_sq (u : Fin 1) (l : Fin 1024) : k0_pay3 (F := Ideal) x0 (k0_pay9 x0 x1 x2) x3 x4 (ix2 u l)
    = ∑ r : Fin 256, df (row x1) (fun k c => mat x2 c k) (mat x3) (mat x0 r) (mat x4 r) l * df (row x1) (fun k c => mat x2 c k) (mat x3) (mat x0 r) (mat x4 r) l := by
  pointwise [k0_pay3, kern_df]

/-- The first point's running sums. -/
theorem kern_first (y : Vec Ideal S256x2816 .bf16) (u : Fin 1) (l : Fin 1024) : k0_pay4 (F := Ideal) x0 y x3 x4 (ix2 u l) = k0_pay3 (F := Ideal) x0 y x3 x4 (ix2 u l) := by
  pointwise [k0_pay4]

/-- A later point's. -/
theorem kern_next (y : Vec Ideal S256x2816 .bf16) (acc : Vec Ideal S1x1024 .f32) (u : Fin 1) (l : Fin 1024) :
    k0_pay5 (F := Ideal) x0 y x3 x4 acc (ix2 u l) = acc (ix2 u l) + k0_pay3 (F := Ideal) x0 y x3 x4 (ix2 u l) := by
  pointwise [k0_pay5]

/-- The first point's, at any index. -/
theorem kern_first_at (y : Vec Ideal S256x2816 .bf16) (i : S1x1024.Idx) : k0_pay4 (F := Ideal) x0 y x3 x4 i = k0_pay3 (F := Ideal) x0 y x3 x4 i := by
  obtain ⟨u, l, rfl⟩ := idx2 i
  exact kern_first x0 x3 x4 y u l

/-- A later point's, at any index. -/
theorem kern_next_at (y : Vec Ideal S256x2816 .bf16) (acc : Vec Ideal S1x1024 .f32) (i : S1x1024.Idx) :
    k0_pay5 (F := Ideal) x0 y x3 x4 acc i = acc i + k0_pay3 (F := Ideal) x0 y x3 x4 i := by
  obtain ⟨u, l, rfl⟩ := idx2 i
  exact kern_next x0 x3 x4 y acc u l

/-- The loss from the running sums. -/
theorem kern_last (acc : Vec Ideal S1x1024 .f32) (u v : Fin 1) :
    k0_pay6 (F := Ideal) acc (ix2 u v) = (∑ l, acc (ix2 0 l)) * Ideal.ofBits FTy.f32 973078528#32 := by
  pointwise [k0_pay6]

end Cert.LossVal

end
-- ==== Proof.Loss.Ref.lean ====
/- What the reference of the last layer with the loss computes, read at an index. -/
module

public import proofs.«01_k».proof.Proof.Base
public import proofs.«01_k».proof.Proof.Loss.Math
public import proofs.«01_k».proof.Proof.Gen.LossRefIdeal.Read

@[expose] public section

set_option maxRecDepth 16384

noncomputable section

namespace Cert.LossVal

open Idealize.ShloMosaic Idealize.ShloMosaic.Pointwise Cert.Base Cert.LossRefIdeal Cert.LossRefIdeal.Read

variable (x0 : (⟨S8192x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S8192x1024, .f32⟩ : BufTy).Contents (Elt Ideal))

/-- The normed row. -/
theorem ref_nrm (r : Fin 8192) (l : Fin 1024) : val_main_v12 (F := Ideal) x0 x1 (ix2 r l) = hf (vec x1) (mat x0 r) l := by
  pointwise [val_main_v0, val_main_v1, val_main_v2, val_main_v3, val_main_v4, val_main_v5, val_main_v6, val_main_v7, val_main_v8, val_main_v9,
    val_main_v10, val_main_v11, val_main_v12, val_main_cst, val_main_cst_0, val_main_cst_1]
  rfl

/-- The product with the first weight. -/
theorem ref_prod (r : Fin 8192) (q : Fin 5632) : val_main_v13 (F := Ideal) x0 x1 x2 (ix2 r q) = gu (vec x1) (mat x2) (mat x0 r) q := by
  pointwise [val_main_v13, ref_nrm]
  rfl

/-- The gated row. -/
theorem ref_gated (r : Fin 8192) (q : Fin 2816) : val_main_v17 (F := Ideal) x0 x1 x2 (ix2 r q) = act (vec x1) (mat x2) (mat x0 r) q := by
  pointwise [val_main_v17, val_main_v16, val_main_v15, val_main_v14, val_main_call0_v0, val_main_call0_v1, val_main_call0_v2, val_main_call0_v3,
    val_main_call0_v4, val_main_call0_v5, val_main_call0_cst, val_main_call0_cst_0, ref_prod]
  rfl

/-- The row less the target's. -/
theorem ref_df (r : Fin 8192) (l : Fin 1024) :
    val_main_v20 (F := Ideal) x0 x1 x2 x3 x4 (ix2 r l) = df (vec x1) (mat x2) (mat x3) (mat x0 r) (mat x4 r) l := by
  pointwise [val_main_v20, val_main_v19, val_main_v18, ref_gated]
  rfl

/-- The gradient of the output. -/
theorem ref_dy (r : Fin 8192) (l : Fin 1024) : val_main_v34 (F := Ideal) x0 x1 x2 x3 x4 (ix2 r l)
    = df (vec x1) (mat x2) (mat x3) (mat x0 r) (mat x4 r) l * Ideal.ofBits FTy.f32 981467136#32 := by
  rw [← grad_scale, ← ref_df]
  pointwise [val_main_v34, val_main_v33, val_main_v32, val_main_v31, val_main_v30, val_main_v29, val_main_v23, val_main_v22, val_main_cst_2, val_main_cst_7,
    val_main_cst_8, val_main_cst_9]

/-- The loss. -/
theorem ref_loss (u v : Fin 1) : val_main_v38 (F := Ideal) x0 x1 x2 x3 x4 (ix2 u v)
    = (∑ l, ∑ r, df (vec x1) (mat x2) (mat x3) (mat x0 r) (mat x4 r) l * df (vec x1) (mat x2) (mat x3) (mat x0 r) (mat x4 r) l)
      * Ideal.ofBits FTy.f32 973078528#32 := by
  rw [← loss_eq]
  pointwise [val_main_v38, val_main_v28, val_main_v27, val_main_v26, val_main_v25, val_main_v24, val_main_v21, val_main_cst_3, val_main_cst_4, val_main_cst_5, val_main_cst_6,
    ref_df]

end Cert.LossVal

end
-- ==== Proof.Loss.Points.lean ====
/- What the loss call's body leaves at each point. -/
module

public import proofs.«01_k».proof.Proof.Base
public import proofs.«01_k».proof.Proof.Gen.LossIdeal.Value
public import Idealize.ShloMosaic.Lib.Pipeline.ValueKit
public import Idealize.ShloMosaic.Lib.Pipeline.ReadBack

@[expose] public section

set_option maxRecDepth 16384

noncomputable section

namespace Cert.LossVal

open Idealize.ShloMosaic Idealize.ShloMosaic.TcCoe Idealize.SL.Sem Cert.Base Cert.LossIdeal Cert.LossIdeal.Gen

variable (m : (ℓ : Loc nD τ sig) → Buf (Elt Ideal) ℓ) (c : Dev nD)

theorem lt_N (t : Fin cfg0.N) : t.val < 32 := lt_of_lt_of_eq t.isLt N_0

/-- The first point. -/
theorem at_A (t : Fin cfg0.N) (h0 : t.val % 32 = 0) (h1 : ¬1 ≤ t.val) (h2 : ¬t.val % 32 = 31) :
    (outsAt0 m c t.val t.isLt).1 = k0_pay2 (iblk m c 0 t) (k0_pay9 (iblk m c 0 t) (iblk m c 1 t) (iblk m c 2 t)) (iblk m c 3 t) (iblk m c 4 t)
    ∧ (outsAt0 m c t.val t.isLt).2.1 = k0_pay7 (iblk m c 0 t) (iblk m c 1 t)
    ∧ (outsAt0 m c t.val t.isLt).2.2.1 = k0_pay10 (iblk m c 0 t) (iblk m c 1 t) (iblk m c 2 t)
    ∧ (outsAt0 m c t.val t.isLt).2.2.2.1 = k0_pay9 (iblk m c 0 t) (iblk m c 1 t) (iblk m c 2 t)
    ∧ (outsAt0 m c t.val t.isLt).2.2.2.2.2 = k0_pay4 (iblk m c 0 t) (k0_pay9 (iblk m c 0 t) (iblk m c 1 t) (iblk m c 2 t)) (iblk m c 3 t) (iblk m c 4 t) := by
  rw [outsAt0_A m c t h0 h1 h2]
  refine ⟨?_, ?_, ?_, ?_, ?_⟩ <;> (dsimp only; frame_out) <;> simp only [read_unread_whole]

/-- A middle point. -/
theorem at_B (t : Fin cfg0.N) (h0 : ¬t.val % 32 = 0) (h1 : 1 ≤ t.val) (h2 : ¬t.val % 32 = 31) :
    (outsAt0 m c t.val t.isLt).1 = k0_pay2 (iblk m c 0 t) (k0_pay9 (iblk m c 0 t) (iblk m c 1 t) (iblk m c 2 t)) (iblk m c 3 t) (iblk m c 4 t)
    ∧ (outsAt0 m c t.val t.isLt).2.1 = k0_pay7 (iblk m c 0 t) (iblk m c 1 t)
    ∧ (outsAt0 m c t.val t.isLt).2.2.1 = k0_pay10 (iblk m c 0 t) (iblk m c 1 t) (iblk m c 2 t)
    ∧ (outsAt0 m c t.val t.isLt).2.2.2.1 = k0_pay9 (iblk m c 0 t) (iblk m c 1 t) (iblk m c 2 t)
    ∧ (outsAt0 m c t.val t.isLt).2.2.2.2.2 = k0_pay5 (iblk m c 0 t) (k0_pay9 (iblk m c 0 t) (iblk m c 1 t) (iblk m c 2 t)) (iblk m c 3 t) (iblk m c 4 t) (outsAt0 m c (t.val - 1) (lt_of_le_of_lt (Nat.sub_le _ _) t.isLt)).2.2.2.2.2 := by
  rw [outsAt0_B m c t h0 h1 h2]
  refine ⟨?_, ?_, ?_, ?_, ?_⟩ <;> (dsimp only; frame_out) <;> simp only [read_unread_whole]

/-- The last point. -/
theorem at_C (t : Fin cfg0.N) (h0 : ¬t.val % 32 = 0) (h1 : 1 ≤ t.val) (h2 : t.val % 32 = 31) :
    (outsAt0 m c t.val t.isLt).1 = k0_pay2 (iblk m c 0 t) (k0_pay9 (iblk m c 0 t) (iblk m c 1 t) (iblk m c 2 t)) (iblk m c 3 t) (iblk m c 4 t)
    ∧ (outsAt0 m c t.val t.isLt).2.1 = k0_pay7 (iblk m c 0 t) (iblk m c 1 t)
    ∧ (outsAt0 m c t.val t.isLt).2.2.1 = k0_pay10 (iblk m c 0 t) (iblk m c 1 t) (iblk m c 2 t)
    ∧ (outsAt0 m c t.val t.isLt).2.2.2.1 = k0_pay9 (iblk m c 0 t) (iblk m c 1 t) (iblk m c 2 t)
    ∧ (outsAt0 m c t.val t.isLt).2.2.2.2.1 = k0_pay6 (k0_pay5 (iblk m c 0 t) (k0_pay9 (iblk m c 0 t) (iblk m c 1 t) (iblk m c 2 t)) (iblk m c 3 t) (iblk m c 4 t) (outsAt0 m c (t.val - 1) (lt_of_le_of_lt (Nat.sub_le _ _) t.isLt)).2.2.2.2.2)
    ∧ (outsAt0 m c t.val t.isLt).2.2.2.2.2 = k0_pay5 (iblk m c 0 t) (k0_pay9 (iblk m c 0 t) (iblk m c 1 t) (iblk m c 2 t)) (iblk m c 3 t) (iblk m c 4 t) (outsAt0 m c (t.val - 1) (lt_of_le_of_lt (Nat.sub_le _ _) t.isLt)).2.2.2.2.2 := by
  rw [outsAt0_C m c t h0 h1 h2]
  refine ⟨?_, ?_, ?_, ?_, ?_, ?_⟩ <;> (dsimp only; frame_out) <;> simp only [read_unread_whole]

end Cert.LossVal

end
-- ==== Proof.Loss.Final.lean ====
/- The loss call against its reference: the arrays after the run are the reference's arrays. -/
module

public import proofs.«01_k».proof.Defs
public import proofs.«01_k».proof.Proof.Loss.Kern
public import proofs.«01_k».proof.Proof.Loss.Ref
public import proofs.«01_k».proof.Proof.Loss.Points
public import proofs.«01_k».proof.Proof.Gen.LossRefIdeal.Run
public import proofs.«01_k».proof.Proof.Gen.LossIdeal.Value
public import Idealize.ShloMosaic.Lib.Pipeline.ValueKit
public import Idealize.ShloMosaic.Lib.StableHlo.ReadAt

@[expose] public section

set_option maxRecDepth 16384

noncomputable section

namespace Cert.LossVal

open Idealize.ShloMosaic Idealize.ShloMosaic.Pointwise Cert.Base Idealize.SL.Sem Cert.LossIdeal Cert.LossIdeal.Gen

variable (m : (ℓ : Loc nD τ sig) → Buf (Elt Ideal) ℓ) (c : Dev nD)

/-- A row of window 0's block at point `t` is the argument's row of that block. -/
theorem blk0 (t : Fin cfg0.N) (r : Fin 256) : mat (iblk m c 0 t) r = mat (m ((c.tc : Thread nD τ).loc main_arg0)) ⟨t.val * 256 + r.val, by have := lt_N t; omega⟩ := by
  have e : ∀ t : Fin cfg0.N, win0_0.index t = ![t.val, 0] := by decide +kernel
  funext l
  have ht := lt_N t
  have h : (win0_0.blk t).view.emb (ix2 r l) = ix2 (⟨t.val * 256 + r.val, by omega⟩ : Fin 8192) l := by blk_ext [e]
  unfold mat
  blk_simp [iblk]
  rw [V_main_arg0, h]

/-- Window 1's block at every point is a scale as a row. -/
theorem blk1 (t : Fin cfg0.N) : row (iblk m c 1 t) = vec (m ((c.tc : Thread nD τ).loc main_arg1)) := by
  have e : ∀ t : Fin cfg0.N, win0_1.index t = ![0, 0] := by decide +kernel
  funext l
  unfold row vec
  blk_simp [iblk]
  unfold V
  after_reads_at
  refine congrArg _ ?_
  blk_ext [e]

/-- Window 2's block at every point is the argument transposed. -/
theorem blk2 (t : Fin cfg0.N) : (fun k q => mat (iblk m c 2 t) q k) = mat (m ((c.tc : Thread nD τ).loc main_arg2)) := by
  have e : ∀ t : Fin cfg0.N, win0_2.index t = ![0, 0] := by decide +kernel
  funext k q
  unfold mat
  blk_simp [iblk]
  unfold V
  after_reads_at
  refine congrArg _ ?_
  blk_ext [e]

/-- Window 3's block at every point is the argument. -/
theorem blk3 (t : Fin cfg0.N) : iblk m c 3 t = (m ((c.tc : Thread nD τ).loc main_arg3)) := by
  have e : ∀ t : Fin cfg0.N, win0_3.index t = ![0, 0] := by decide +kernel
  funext x
  blk_simp [iblk]
  rw [V_main_arg3]
  refine congrArg _ ?_
  blk_ext [e]

/-- A row of window 4's block at point `t` is the argument's row of that block. -/
theorem blk4 (t : Fin cfg0.N) (r : Fin 256) : mat (iblk m c 4 t) r = mat (m ((c.tc : Thread nD τ).loc main_arg4)) ⟨t.val * 256 + r.val, by have := lt_N t; omega⟩ := by
  have e : ∀ t : Fin cfg0.N, win0_4.index t = ![t.val, 0] := by decide +kernel
  funext l
  have ht := lt_N t
  have h : (win0_4.blk t).view.emb (ix2 r l) = ix2 (⟨t.val * 256 + r.val, by omega⟩ : Fin 8192) l := by blk_ext [e]
  unfold mat
  blk_simp [iblk]
  rw [V_main_arg4, h]

/-- What the body leaves in its four blocked outputs, at every point. -/
theorem outs (t : Fin cfg0.N) :
    (outsAt0 m c t.val t.isLt).1 = k0_pay2 (iblk m c 0 t) (k0_pay9 (iblk m c 0 t) (iblk m c 1 t) (iblk m c 2 t)) (iblk m c 3 t) (iblk m c 4 t)
    ∧ (outsAt0 m c t.val t.isLt).2.1 = k0_pay7 (iblk m c 0 t) (iblk m c 1 t)
    ∧ (outsAt0 m c t.val t.isLt).2.2.1 = k0_pay10 (iblk m c 0 t) (iblk m c 1 t) (iblk m c 2 t)
    ∧ (outsAt0 m c t.val t.isLt).2.2.2.1 = k0_pay9 (iblk m c 0 t) (iblk m c 1 t) (iblk m c 2 t) := by
  have ht := lt_N t
  rcases (by omega : t.val = 0 ∨ (1 ≤ t.val ∧ t.val < 31) ∨ t.val = 31) with h | h | h
  · have hs := at_A m c t (by omega) (by omega) (by omega)
    exact ⟨hs.1, hs.2.1, hs.2.2.1, hs.2.2.2.1⟩
  · have hs := at_B m c t (by omega) (by omega) (by omega)
    exact ⟨hs.1, hs.2.1, hs.2.2.1, hs.2.2.2.1⟩
  · have hs := at_C m c t (by omega) (by omega) (by omega)
    exact ⟨hs.1, hs.2.1, hs.2.2.1, hs.2.2.2.1⟩

/-- Result the gradient of the layer's output, after the run. -/
theorem final5 : (dats m 0 c).arrAt 5 cfg0.N = Cert.LossRefIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : ∀ t : Fin cfg0.N, win0_5.index t = ![t.val, 0] := by decide +kernel
  refine (dats m 0 c).arrAt_eq_of_covers 5 _ (by decide +kernel) fun t hf y => ?_
  blk_simp
  obtain ⟨r, l, rfl⟩ : ∃ (r : Fin 256) (l : Fin 1024), y = ix2 r l := idx2 y
  have ht := lt_N t
  have hy : (win0_5.blk t).view.emb (ix2 r l) = ix2 (⟨t.val * 256 + r.val, by omega⟩ : Fin 8192) l := by blk_ext [e]
  rw [after0_5, (outs m c t).1, hy, kern_dy, blk0, blk1, blk2, blk3, blk4]
  exact (ref_dy _ _ _ _ _ _ _).symm

/-- Result the normed rows, after the run. -/
theorem final6 : (dats m 0 c).arrAt 6 cfg0.N = Cert.LossRefIdeal.Read.val_main_v35 (F := Ideal) (m ((c.tc : Thread nD τ).loc main_arg0)) (m ((c.tc : Thread nD τ).loc main_arg1)) := by
  have e : ∀ t : Fin cfg0.N, win0_6.index t = ![t.val, 0] := by decide +kernel
  refine (dats m 0 c).arrAt_eq_of_covers 6 _ (by decide +kernel) fun t hf y => ?_
  blk_simp
  obtain ⟨r, l, rfl⟩ : ∃ (r : Fin 256) (l : Fin 1024), y = ix2 r l := idx2 y
  have ht := lt_N t
  have hy : (win0_6.blk t).view.emb (ix2 r l) = ix2 (⟨t.val * 256 + r.val, by omega⟩ : Fin 8192) l := by blk_ext [e]
  rw [after0_6, (outs m c t).2.1, hy, kern_nrm, blk0, blk1]
  exact (ref_nrm _ _ _ _).symm

/-- Result the gate and the other factor, after the run. -/
theorem final7 : (dats m 0 c).arrAt 7 cfg0.N = Cert.LossRefIdeal.Read.val_main_v36 (F := Ideal) (m ((c.tc : Thread nD τ).loc main_arg0)) (m ((c.tc : Thread nD τ).loc main_arg1)) (m ((c.tc : Thread nD τ).loc main_arg2)) := by
  have e : ∀ t : Fin cfg0.N, win0_7.index t = ![t.val, 0] := by decide +kernel
  refine (dats m 0 c).arrAt_eq_of_covers 7 _ (by decide +kernel) fun t hf y => ?_
  blk_simp
  obtain ⟨r, l, rfl⟩ : ∃ (r : Fin 256) (l : Fin 5632), y = ix2 r l := idx2 y
  have ht := lt_N t
  have hy : (win0_7.blk t).view.emb (ix2 r l) = ix2 (⟨t.val * 256 + r.val, by omega⟩ : Fin 8192) l := by blk_ext [e]
  rw [after0_7, (outs m c t).2.2.1, hy, kern_prod', blk0, blk1, blk2]
  exact (ref_prod _ _ _ _ _).symm

/-- Result the gated rows, after the run. -/
theorem final8 : (dats m 0 c).arrAt 8 cfg0.N = Cert.LossRefIdeal.Read.val_main_v37 (F := Ideal) (m ((c.tc : Thread nD τ).loc main_arg0)) (m ((c.tc : Thread nD τ).loc main_arg1)) (m ((c.tc : Thread nD τ).loc main_arg2)) := by
  have e : ∀ t : Fin cfg0.N, win0_8.index t = ![t.val, 0] := by decide +kernel
  refine (dats m 0 c).arrAt_eq_of_covers 8 _ (by decide +kernel) fun t hf y => ?_
  blk_simp
  obtain ⟨r, l, rfl⟩ : ∃ (r : Fin 256) (l : Fin 2816), y = ix2 r l := idx2 y
  have ht := lt_N t
  have hy : (win0_8.blk t).view.emb (ix2 r l) = ix2 (⟨t.val * 256 + r.val, by omega⟩ : Fin 8192) l := by blk_ext [e]
  rw [after0_8, (outs m c t).2.2.2, hy, kern_gated, blk0, blk1, blk2]
  exact (ref_gated _ _ _ _ _).symm

/-- The squares of one block's rows, summed column by column. -/
def term (t : Fin cfg0.N) : S1x1024.Idx → EReal :=
  k0_pay3 (F := Ideal) (iblk m c 0 t) (k0_pay9 (iblk m c 0 t) (iblk m c 1 t) (iblk m c 2 t)) (iblk m c 3 t) (iblk m c 4 t)

/-- The same from the arguments. -/
theorem term_eq (t : Fin cfg0.N) (u : Fin 1) (l : Fin 1024) : term m c t (ix2 u l)
    = ∑ r : Fin 256, df (vec (m ((c.tc : Thread nD τ).loc main_arg1))) (mat (m ((c.tc : Thread nD τ).loc main_arg2))) (mat (m ((c.tc : Thread nD τ).loc main_arg3))) (mat (m ((c.tc : Thread nD τ).loc main_arg0)) ⟨t.val * 256 + r.val, by have := lt_N t; omega⟩)
        (mat (m ((c.tc : Thread nD τ).loc main_arg4)) ⟨t.val * 256 + r.val, by have := lt_N t; omega⟩) l
      * df (vec (m ((c.tc : Thread nD τ).loc main_arg1))) (mat (m ((c.tc : Thread nD τ).loc main_arg2))) (mat (m ((c.tc : Thread nD τ).loc main_arg3))) (mat (m ((c.tc : Thread nD τ).loc main_arg0)) ⟨t.val * 256 + r.val, by have := lt_N t; omega⟩)
        (mat (m ((c.tc : Thread nD τ).loc main_arg4)) ⟨t.val * 256 + r.val, by have := lt_N t; omega⟩) l := by
  unfold term
  rw [kern_sq, blk1, blk2, blk3]
  exact Finset.sum_congr rfl fun r _ => by rw [blk0, blk4]

/-- The running sums after the last point are the sums over all blocks. -/
theorem acc_last (t : Fin cfg0.N) (ht : t.val + 1 = 32) (i : S1x1024.Idx) :
    (outsAt0 m c t.val t.isLt).2.2.2.2.2 i = ∑ p : Fin 32, term m c (Fin.cast N_0.symm p) i := by
  have key := Pipeline.eq_sum_fin_of_reset_step_apply_last (N := 32) (M := EReal) (fun n h => (outsAt0 m c n (lt_of_lt_of_eq h N_0.symm)).2.2.2.2.2) 32 (fun _ => 0)
    (fun p => term m c (Fin.cast N_0.symm p)) ?_ ?_ (le_refl 32) ⟨t.val, lt_N t⟩ ht i
  · rw [zero_add] at key; exact key
  · intro n h0 i
    refine (congrFun (at_A m c (Fin.cast N_0.symm n) h0 (by simp only [Fin.val_cast]; omega) (by simp only [Fin.val_cast]; omega)).2.2.2.2 i).trans ?_
    rw [zero_add]
    exact kern_first_at _ _ _ _ i
  · intro n h0 i
    by_cases h2 : n.val % 32 = 31
    · refine (congrFun (at_C m c (Fin.cast N_0.symm n) h0 (by simp only [Fin.val_cast]; omega) h2).2.2.2.2.2 i).trans ?_
      exact kern_next_at _ _ _ _ _ i
    · refine (congrFun (at_B m c (Fin.cast N_0.symm n) h0 (by simp only [Fin.val_cast]; omega) h2).2.2.2.2 i).trans ?_
      exact kern_next_at _ _ _ _ _ i

/-- Column by column they are the sums over all rows. -/
theorem acc_rows (t : Fin cfg0.N) (ht : t.val + 1 = 32) (u : Fin 1) (l : Fin 1024) :
    (outsAt0 m c t.val t.isLt).2.2.2.2.2 (ix2 u l) = ∑ r : Fin 8192,
      df (vec (m ((c.tc : Thread nD τ).loc main_arg1))) (mat (m ((c.tc : Thread nD τ).loc main_arg2))) (mat (m ((c.tc : Thread nD τ).loc main_arg3))) (mat (m ((c.tc : Thread nD τ).loc main_arg0)) r) (mat (m ((c.tc : Thread nD τ).loc main_arg4)) r) l * df (vec (m ((c.tc : Thread nD τ).loc main_arg1))) (mat (m ((c.tc : Thread nD τ).loc main_arg2))) (mat (m ((c.tc : Thread nD τ).loc main_arg3))) (mat (m ((c.tc : Thread nD τ).loc main_arg0)) r) (mat (m ((c.tc : Thread nD τ).loc main_arg4)) r) l := by
  rw [acc_last m c t ht, Finset.sum_congr rfl fun p _ => term_eq m c (Fin.cast N_0.symm p) u l]
  exact Fin.sum_mul_add_fin (L := 8192) 32 256 fun r => df (vec (m ((c.tc : Thread nD τ).loc main_arg1))) (mat (m ((c.tc : Thread nD τ).loc main_arg2))) (mat (m ((c.tc : Thread nD τ).loc main_arg3))) (mat (m ((c.tc : Thread nD τ).loc main_arg0)) r) (mat (m ((c.tc : Thread nD τ).loc main_arg4)) r) l
    * df (vec (m ((c.tc : Thread nD τ).loc main_arg1))) (mat (m ((c.tc : Thread nD τ).loc main_arg2))) (mat (m ((c.tc : Thread nD τ).loc main_arg3))) (mat (m ((c.tc : Thread nD τ).loc main_arg0)) r) (mat (m ((c.tc : Thread nD τ).loc main_arg4)) r) l

/-- The loss, after the run. -/
theorem final9 : (dats m 0 c).arrAt 9 cfg0.N = Cert.LossRefIdeal.Read.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : ∀ t : Fin cfg0.N, win0_9.index t = ![0, 0] := by decide +kernel
  have hl : ∀ t : Fin cfg0.N, (cfg0.win 9).flush t = true → t.val = 31 := by decide +kernel
  refine (dats m 0 c).arrAt_eq_of_covers 9 _ (by decide +kernel) fun t hf y => ?_
  blk_simp
  have h31 := hl t hf
  obtain ⟨u, v, rfl⟩ : ∃ (u v : Fin 1), y = ix2 u v := idx2 y
  have hy : (win0_9.blk t).view.emb (ix2 u v) = ix2 u v := by blk_ext [e]
  have hC := at_C m c t (by omega) (by omega) (by omega)
  rw [after0_9, hC.2.2.2.2.1, ← hC.2.2.2.2.2, hy, kern_last]
  refine Eq.trans ?_ (ref_loss _ _ _ _ _ u v).symm
  refine congrArg (· * _) (Finset.sum_congr rfl fun l _ => ?_)
  exact acc_rows m c t (by omega) 0 l

end Cert.LossVal

end
-- ==== Proof.Loss.Claims.lean ====
/- The claims about the last layer with the loss and its reference. -/
module

public import proofs.«01_k».proof.Defs
public import proofs.«01_k».proof.Proof.Loss.Final
public import proofs.«01_k».proof.Proof.Gen.Loss.Frame
public import Idealize.ShloMosaic.Adequacy
public import Idealize.ShloMosaic.Init

@[expose] public section

noncomputable section

namespace Cert.LossVal

open Idealize.ShloMosaic Idealize.SL.Sem

/-- The call's frame. -/
theorem frame_kernel : Cert.quiescent_Loss := fun m ρ _ => Cert.Loss.Gen.frame m ρ

/-- Its frame over the extended reals. -/
theorem frame_ideal : Cert.quiescent_LossIdeal := fun m ρ _ => Cert.LossIdeal.Gen.frame m ρ

/-- No operation is rewritten. -/
theorem preserves : Cert.preserves_Loss_LossIdeal := trivial

/-- The reference leaves its arguments and, having no semaphore, every counter at zero. -/
theorem frame_ref : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)

set_option maxHeartbeats 2000000 in
/-- The call and the reference compute the same five arrays over the extended reals. -/
theorem algebraic : Cert.algebraic_LossIdeal_LossRefIdeal := by
  intro m ρ m' ρ' _ hag
  refine ⟨fun c => (Cert.LossIdeal.Gen.dats m 0 c).arrAt 5 Cert.LossIdeal.cfg0.N, fun c => (Cert.LossIdeal.Gen.dats m 0 c).arrAt 6 Cert.LossIdeal.cfg0.N, fun c => (Cert.LossIdeal.Gen.dats m 0 c).arrAt 7 Cert.LossIdeal.cfg0.N, fun c => (Cert.LossIdeal.Gen.dats m 0 c).arrAt 8 Cert.LossIdeal.cfg0.N, fun c => (Cert.LossIdeal.Gen.dats m 0 c).arrAt 9 Cert.LossIdeal.cfg0.N,
    Cert.LossIdeal.Value.run_blocks m ρ,
    (θ_run Cert.LossRefIdeal.defs _ _).mono (fun r h c => ?_) (Cert.LossRefIdeal.Value.run (F := Ideal) m' ρ')⟩
  obtain ⟨h0, h1, h2, h3, h4, hk⟩ := h c
  obtain ⟨e0, e1, e2, e3, e4⟩ := hag c
  refine ⟨h0.trans ?_, h1.trans ?_, h2.trans ?_, h3.trans ?_, h4.trans ?_, hk⟩
  · rw [Cert.LossRefIdeal.Read.val_main_v34_eq, e0, e1, e2, e3, e4]; exact (final5 m c).symm
  · rw [Cert.LossRefIdeal.Read.val_main_v35_eq, e0, e1]; exact (final6 m c).symm
  · rw [Cert.LossRefIdeal.Read.val_main_v36_eq, e0, e1, e2]; exact (final7 m c).symm
  · rw [Cert.LossRefIdeal.Read.val_main_v37_eq, e0, e1, e2]; exact (final8 m c).symm
  · rw [Cert.LossRefIdeal.Read.val_main_v38_eq, e0, e1, e2, e3, e4]; exact (final9 m c).symm

end Cert.LossVal

end
-- ==== Proof.Xa.Math.lean ====
/- The cross-attention's gradient of one row of the activations over the extended reals. -/
module

public import proofs.«01_k».proof.Proof.XaMem.Math

@[expose] public section

set_option maxRecDepth 16384

noncomputable section

namespace Cert.XaVal

open Idealize.ShloMosaic Cert.Rms
open Cert.XaMemVal (hd hd_surj hdOf inHd hdOf_hd inHd_hd)

/-- The word of the scores' scale. -/
abbrev cs : EReal := Ideal.ofBits FTy.f32 1031798784#32

/-- The largest of a row. -/
def mx (s : Fin 256 → EReal) : EReal := Finset.fold max (Ideal.ofBits FTy.f32 4286578688#32) s Finset.univ

variable (x dx z : Fin 1024 → EReal) (kx vx : Fin 256 → Fin 1024 → EReal) (g : Fin 1024 → EReal) (wq : Fin 1024 → Fin 1024 → EReal) (qg : Fin 256 → EReal)
  (wo : Fin 1024 → Fin 1024 → EReal) (h : Fin 4)

/-- The row scaled by its norm's factor. -/
def xh (l : Fin 1024) : EReal := x l * inv 1149239296#32 x

/-- The normed row. -/
def hm (l : Fin 1024) : EReal := xh x l * g l

/-- The query before its norm. -/
def qp (c : Fin 1024) : EReal := ∑ k, hm x g k * wq k c

/-- One head of it. -/
def zh (l : Fin 256) : EReal := z (hd h l)

/-- One head scaled by its norm's factor. -/
def zn (l : Fin 256) : EReal := zh z h l * inv 1132462080#32 (zh z h)

/-- The head's query. -/
def qh (l : Fin 256) : EReal := zn z h l * qg l

/-- The head's scores. -/
def sc (m : Fin 256) : EReal := (∑ l, qh z qg h l * kx m (hd h l)) * cs

/-- Their exponentials. -/
def ex (m : Fin 256) : EReal := Ideal.exp (sc z kx qg h m - mx (sc z kx qg h))

/-- The probabilities. -/
def pr (m : Fin 256) : EReal := Ideal.div (ex z kx qg h m) (∑ k, ex z kx qg h k)

/-- The head's output. -/
def out (l : Fin 256) : EReal := ∑ m, pr z kx qg h m * vx m (hd h l)

/-- The outputs' cotangent. -/
def dout (c : Fin 1024) : EReal := ∑ k, dx k * wo c k

/-- The probabilities' cotangent. -/
def dp (m : Fin 256) : EReal := ∑ l, dout dx wo (hd h l) * vx m (hd h l)

/-- The scores' cotangent before the scale. -/
def dt (m : Fin 256) : EReal := pr z kx qg h m * (dp dx vx wo h m - ∑ k, dp dx vx wo h k * pr z kx qg h k)

/-- The unscaled scores' cotangent. -/
def ds (m : Fin 256) : EReal := dt dx z kx vx qg wo h m * cs

/-- The query's cotangent. -/
def dq (l : Fin 256) : EReal := ∑ m, ds dx z kx vx qg wo h m * kx m (hd h l)

/-- The cotangent of the query before its norm. -/
def dqp (l : Fin 256) : EReal := back 1132462080#32 (zh z h) (fun l => dq dx z kx vx qg wo h l * qg l) l

/-- The normed row's cotangent. -/
def dh (k : Fin 1024) : EReal := ∑ c, dqp dx z kx vx qg wo (hdOf c) (inHd c) * wq k c

/-- The row's gradient. -/
def dx1 (l : Fin 1024) : EReal := dx l + back 1149239296#32 x (fun l => dh dx z kx vx wq qg wo l * g l) l

end Cert.XaVal

end
-- ==== Proof.Xa.Terms.lean ====
/- What the cross-attention gradient call's body computes from its blocks, named. -/
module

public import proofs.«01_k».proof.Proof.Base
public import proofs.«01_k».proof.Proof.Gen.XaIdeal.Skeleton

@[expose] public section

set_option maxRecDepth 16384

noncomputable section

namespace Cert.XaVal

open Idealize.ShloMosaic Idealize.ShloMosaic.Pointwise Cert.Base Cert.XaIdeal Cert.XaIdeal.Gen

/-- The block of queries before their norms. -/
def qa (x2 : Vec Ideal S256x1024 .bf16) :=
  k0_pay10 (F := Ideal) x2

/-- The outputs' cotangents. -/
def da (x1 : Vec Ideal S256x1024 .f32) (x8 : Vec Ideal S1024x1024 .f32) :=
  k0_pay11 (F := Ideal) x1 x8

/-- Head 0's queries. -/
def q0 (x2 : Vec Ideal S256x1024 .bf16) (x7 : Vec Ideal S1x256 .f32) :=
  k0_pay22 (F := Ideal) (k0_pay15 x2) (k0_pay16 x7) (k0_pay17 x2)

/-- Head 1's queries. -/
def q1 (x2 : Vec Ideal S256x1024 .bf16) (x7 : Vec Ideal S1x256 .f32) :=
  k0_pay32 (F := Ideal) (qa x2) x7

/-- Head 2's queries. -/
def q2 (x2 : Vec Ideal S256x1024 .bf16) (x7 : Vec Ideal S1x256 .f32) :=
  k0_pay42 (F := Ideal) (k0_pay36 (qa x2)) x7

/-- Head 3's queries. -/
def q3 (x2 : Vec Ideal S256x1024 .bf16) (x7 : Vec Ideal S1x256 .f32) :=
  k0_pay52 (F := Ideal) (qa x2) x7

/-- The last head's scores, unscaled. -/
def s3 (x2 : Vec Ideal S256x1024 .bf16) (x3 : Vec Ideal S256x1024 .f32) (x7 : Vec Ideal S1x256 .f32) :=
  k0_pay57 (F := Ideal) (k0_pay43 (View.ld x3 (Rect.unit ![0, 768] ![256, 256] inb_S256x1024_S256x256_0_768))) (q3 x2 x7)

/-- Head 0's probabilities. -/
def p0 (x2 : Vec Ideal S256x1024 .bf16) (x3 : Vec Ideal S256x1024 .f32) (x7 : Vec Ideal S1x256 .f32) :=
  k0_pay59 (F := Ideal) (k0_pay53 (k0_pay12 (View.ld x3 (Rect.unit ![0, 0] ![256, 256] inb_S256x1024_S256x256_0_0))) (q0 x2 x7))

/-- Head 1's probabilities. -/
def p1 (x2 : Vec Ideal S256x1024 .bf16) (x3 : Vec Ideal S256x1024 .f32) (x7 : Vec Ideal S1x256 .f32) :=
  k0_pay60 (F := Ideal) (k0_pay23 (View.ld x3 (Rect.unit ![0, 256] ![256, 256] inb_S256x1024_S256x256_0_256))) (q1 x2 x7)

/-- Head 2's probabilities. -/
def p2 (x2 : Vec Ideal S256x1024 .bf16) (x3 : Vec Ideal S256x1024 .f32) (x7 : Vec Ideal S1x256 .f32) :=
  k0_pay61 (F := Ideal) (k0_pay33 (View.ld x3 (Rect.unit ![0, 512] ![256, 256] inb_S256x1024_S256x256_0_512))) (q2 x2 x7)

/-- Head 3's probabilities. -/
def p3 (x2 : Vec Ideal S256x1024 .bf16) (x3 : Vec Ideal S256x1024 .f32) (x7 : Vec Ideal S1x256 .f32) :=
  k0_pay62 (F := Ideal) (s3 x2 x3 x7)

/-- Head 0's outputs' cotangents. -/
def d0 (x1 : Vec Ideal S256x1024 .f32) (x8 : Vec Ideal S1024x1024 .f32) :=
  k0_pay14 (F := Ideal) x1 x8

/-- Head 1's outputs' cotangents. -/
def d1 (x1 : Vec Ideal S256x1024 .f32) (x8 : Vec Ideal S1024x1024 .f32) :=
  k0_pay25 (F := Ideal) (da x1 x8)

/-- Head 2's outputs' cotangents. -/
def d2 (x1 : Vec Ideal S256x1024 .f32) (x8 : Vec Ideal S1024x1024 .f32) :=
  k0_pay35 (F := Ideal) (da x1 x8)

/-- Head 3's outputs' cotangents. -/
def d3 (x1 : Vec Ideal S256x1024 .f32) (x8 : Vec Ideal S1024x1024 .f32) :=
  k0_pay45 (F := Ideal) (da x1 x8)

/-- Head 0's probabilities' cotangents. -/
def e0 (x1 : Vec Ideal S256x1024 .f32) (x4 : Vec Ideal S256x1024 .f32) (x8 : Vec Ideal S1024x1024 .f32) :=
  k0_pay54 (F := Ideal) (k0_pay13 (View.ld x4 (Rect.unit ![0, 0] ![256, 256] inb_S256x1024_S256x256_0_0))) (d0 x1 x8)

/-- Head 1's probabilities' cotangents. -/
def e1 (x1 : Vec Ideal S256x1024 .f32) (x4 : Vec Ideal S256x1024 .f32) (x8 : Vec Ideal S1024x1024 .f32) :=
  k0_pay55 (F := Ideal) (k0_pay24 (View.ld x4 (Rect.unit ![0, 256] ![256, 256] inb_S256x1024_S256x256_0_256))) (d1 x1 x8)

/-- Head 2's probabilities' cotangents. -/
def e2 (x1 : Vec Ideal S256x1024 .f32) (x4 : Vec Ideal S256x1024 .f32) (x8 : Vec Ideal S1024x1024 .f32) :=
  k0_pay56 (F := Ideal) (k0_pay34 (View.ld x4 (Rect.unit ![0, 512] ![256, 256] inb_S256x1024_S256x256_0_512))) (d2 x1 x8)

/-- Head 3's probabilities' cotangents. -/
def e3 (x1 : Vec Ideal S256x1024 .f32) (x4 : Vec Ideal S256x1024 .f32) (x8 : Vec Ideal S1024x1024 .f32) :=
  k0_pay58 (F := Ideal) (k0_pay44 (View.ld x4 (Rect.unit ![0, 768] ![256, 256] inb_S256x1024_S256x256_0_768))) (d3 x1 x8)

/-- Head 0's scores' cotangents. -/
def s0 (x1 : Vec Ideal S256x1024 .f32) (x2 : Vec Ideal S256x1024 .bf16) (x3 : Vec Ideal S256x1024 .f32) (x4 : Vec Ideal S256x1024 .f32) (x7 : Vec Ideal S1x256 .f32) (x8 : Vec Ideal S1024x1024 .f32) :=
  k0_pay71 (F := Ideal) (e0 x1 x4 x8) (p0 x2 x3 x7)

/-- Head 1's scores' cotangents. -/
def s1 (x1 : Vec Ideal S256x1024 .f32) (x2 : Vec Ideal S256x1024 .bf16) (x3 : Vec Ideal S256x1024 .f32) (x4 : Vec Ideal S256x1024 .f32) (x7 : Vec Ideal S1x256 .f32) (x8 : Vec Ideal S1024x1024 .f32) :=
  k0_pay72 (F := Ideal) (e1 x1 x4 x8) (p1 x2 x3 x7)

/-- The cotangents of the queries before their norms, the heads side by side. -/
def za (x1 : Vec Ideal S256x1024 .f32) (x2 : Vec Ideal S256x1024 .bf16) (x3 : Vec Ideal S256x1024 .f32) (x4 : Vec Ideal S256x1024 .f32) (x7 : Vec Ideal S1x256 .f32) (x8 : Vec Ideal S1024x1024 .f32) :=
  k0_pay97 (F := Ideal) (k0_pay36 (qa x2)) (k0_pay46 (qa x2)) (k0_pay47 x7) (k0_pay49 (qa x2)) (k0_pay50 (qa x2)) (k0_pay83 (k0_pay43 (View.ld x3 (Rect.unit ![0, 768] ![256, 256] inb_S256x1024_S256x256_0_768))) (e3 x1 x4 x8) (p3 x2 x3 x7)) (k0_pay88 (k0_pay15 x2) (k0_pay19 (k0_pay17 x2)) (k0_pay20 (k0_pay17 x2)) (k0_pay86 (k0_pay12 (View.ld x3 (Rect.unit ![0, 0] ![256, 256] inb_S256x1024_S256x256_0_0))) (k0_pay16 x7) (s0 x1 x2 x3 x4 x7 x8)) (k0_pay87 (k0_pay12 (View.ld x3 (Rect.unit ![0, 0] ![256, 256] inb_S256x1024_S256x256_0_0))) (k0_pay15 x2) (k0_pay16 x7) (s0 x1 x2 x3 x4 x7 x8))) (k0_pay89 (k0_pay26 (qa x2)) (k0_pay27 x7) (k0_pay29 (qa x2)) (k0_pay30 (qa x2)) (k0_pay79 (k0_pay23 (View.ld x3 (Rect.unit ![0, 256] ![256, 256] inb_S256x1024_S256x256_0_256))) (s1 x1 x2 x3 x4 x7 x8) (FloatOps.ofBits FTy.f32 1031798784#32))) (k0_pay93 (k0_pay37 x7) (k0_pay39 (k0_pay36 (qa x2))) (k0_pay81 (k0_pay33 (View.ld x3 (Rect.unit ![0, 512] ![256, 256] inb_S256x1024_S256x256_0_512))) (e2 x1 x4 x8) (p2 x2 x3 x7))) (k0_pay94 (k0_pay36 (qa x2)) (k0_pay37 x7) (k0_pay40 (k0_pay36 (qa x2))) (k0_pay81 (k0_pay33 (View.ld x3 (Rect.unit ![0, 512] ![256, 256] inb_S256x1024_S256x256_0_512))) (e2 x1 x4 x8) (p2 x2 x3 x7)))

/-- The gradient of the block's rows. -/
def t9 (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1x1024 .f32) (x6 : Vec Ideal S1024x1024 .f32) (x7 : Vec Ideal S1x256 .f32) (x8 : Vec Ideal S1024x1024 .f32) :=
  k0_pay103 (F := Ideal) x0 x1 (k0_pay101 (k0_pay4 x5) (k0_pay6 x0) (k0_pay36 (qa x2)) (k0_pay46 (qa x2)) (k0_pay47 x7) (k0_pay49 (qa x2)) (k0_pay50 (qa x2)) (k0_pay83 (k0_pay43 (View.ld x3 (Rect.unit ![0, 768] ![256, 256] inb_S256x1024_S256x256_0_768))) (e3 x1 x4 x8) (p3 x2 x3 x7)) (k0_pay88 (k0_pay15 x2) (k0_pay19 (k0_pay17 x2)) (k0_pay20 (k0_pay17 x2)) (k0_pay86 (k0_pay12 (View.ld x3 (Rect.unit ![0, 0] ![256, 256] inb_S256x1024_S256x256_0_0))) (k0_pay16 x7) (s0 x1 x2 x3 x4 x7 x8)) (k0_pay87 (k0_pay12 (View.ld x3 (Rect.unit ![0, 0] ![256, 256] inb_S256x1024_S256x256_0_0))) (k0_pay15 x2) (k0_pay16 x7) (s0 x1 x2 x3 x4 x7 x8))) (k0_pay89 (k0_pay26 (qa x2)) (k0_pay27 x7) (k0_pay29 (qa x2)) (k0_pay30 (qa x2)) (k0_pay79 (k0_pay23 (View.ld x3 (Rect.unit ![0, 256] ![256, 256] inb_S256x1024_S256x256_0_256))) (s1 x1 x2 x3 x4 x7 x8) (FloatOps.ofBits FTy.f32 1031798784#32))) (k0_pay93 (k0_pay37 x7) (k0_pay39 (k0_pay36 (qa x2))) (k0_pay81 (k0_pay33 (View.ld x3 (Rect.unit ![0, 512] ![256, 256] inb_S256x1024_S256x256_0_512))) (e2 x1 x4 x8) (p2 x2 x3 x7))) (k0_pay94 (k0_pay36 (qa x2)) (k0_pay37 x7) (k0_pay40 (k0_pay36 (qa x2))) (k0_pay81 (k0_pay33 (View.ld x3 (Rect.unit ![0, 512] ![256, 256] inb_S256x1024_S256x256_0_512))) (e2 x1 x4 x8) (p2 x2 x3 x7))) x6) (k0_pay102 x0 (k0_pay4 x5) (k0_pay7 x0) (k0_pay36 (qa x2)) (k0_pay46 (qa x2)) (k0_pay47 x7) (k0_pay49 (qa x2)) (k0_pay50 (qa x2)) (k0_pay83 (k0_pay43 (View.ld x3 (Rect.unit ![0, 768] ![256, 256] inb_S256x1024_S256x256_0_768))) (e3 x1 x4 x8) (p3 x2 x3 x7)) (k0_pay88 (k0_pay15 x2) (k0_pay19 (k0_pay17 x2)) (k0_pay20 (k0_pay17 x2)) (k0_pay86 (k0_pay12 (View.ld x3 (Rect.unit ![0, 0] ![256, 256] inb_S256x1024_S256x256_0_0))) (k0_pay16 x7) (s0 x1 x2 x3 x4 x7 x8)) (k0_pay87 (k0_pay12 (View.ld x3 (Rect.unit ![0, 0] ![256, 256] inb_S256x1024_S256x256_0_0))) (k0_pay15 x2) (k0_pay16 x7) (s0 x1 x2 x3 x4 x7 x8))) (k0_pay89 (k0_pay26 (qa x2)) (k0_pay27 x7) (k0_pay29 (qa x2)) (k0_pay30 (qa x2)) (k0_pay79 (k0_pay23 (View.ld x3 (Rect.unit ![0, 256] ![256, 256] inb_S256x1024_S256x256_0_256))) (s1 x1 x2 x3 x4 x7 x8) (FloatOps.ofBits FTy.f32 1031798784#32))) (k0_pay93 (k0_pay37 x7) (k0_pay39 (k0_pay36 (qa x2))) (k0_pay81 (k0_pay33 (View.ld x3 (Rect.unit ![0, 512] ![256, 256] inb_S256x1024_S256x256_0_512))) (e2 x1 x4 x8) (p2 x2 x3 x7))) (k0_pay94 (k0_pay36 (qa x2)) (k0_pay37 x7) (k0_pay40 (k0_pay36 (qa x2))) (k0_pay81 (k0_pay33 (View.ld x3 (Rect.unit ![0, 512] ![256, 256] inb_S256x1024_S256x256_0_512))) (e2 x1 x4 x8) (p2 x2 x3 x7))) x6)

/-- The block's part of the keys' gradient. -/
def t10 (x1 : Vec Ideal S256x1024 .f32) (x2 : Vec Ideal S256x1024 .bf16) (x3 : Vec Ideal S256x1024 .f32) (x4 : Vec Ideal S256x1024 .f32) (x7 : Vec Ideal S1x256 .f32) (x8 : Vec Ideal S1024x1024 .f32) :=
  k0_pay104 (F := Ideal) (k0_pay76 (q0 x2 x7) (s0 x1 x2 x3 x4 x7 x8)) (k0_pay78 (q1 x2 x7) (s1 x1 x2 x3 x4 x7 x8) (FloatOps.ofBits FTy.f32 1031798784#32)) (k0_pay80 (q2 x2 x7) (e2 x1 x4 x8) (p2 x2 x3 x7)) (k0_pay82 (q3 x2 x7) (e3 x1 x4 x8) (p3 x2 x3 x7))

/-- Of the values' gradient. -/
def t11 (x1 : Vec Ideal S256x1024 .f32) (x2 : Vec Ideal S256x1024 .bf16) (x3 : Vec Ideal S256x1024 .f32) (x7 : Vec Ideal S1x256 .f32) (x8 : Vec Ideal S1024x1024 .f32) :=
  k0_pay106 (F := Ideal) (k0_pay64 (d0 x1 x8) (p0 x2 x3 x7)) (k0_pay66 (d1 x1 x8) (p1 x2 x3 x7)) (k0_pay68 (d2 x1 x8) (p2 x2 x3 x7)) (k0_pay70 (d3 x1 x8) (s3 x2 x3 x7))

/-- Of the query weight's gradient. -/
def t12 (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1x1024 .f32) (x7 : Vec Ideal S1x256 .f32) (x8 : Vec Ideal S1024x1024 .f32) :=
  k0_pay108 (F := Ideal) (k0_pay9 x0 x5) (za x1 x2 x3 x4 x7 x8)

/-- Of the output weight's gradient. -/
def t13 (x1 : Vec Ideal S256x1024 .f32) (x2 : Vec Ideal S256x1024 .bf16) (x3 : Vec Ideal S256x1024 .f32) (x4 : Vec Ideal S256x1024 .f32) (x7 : Vec Ideal S1x256 .f32) :=
  k0_pay110 (F := Ideal) x1 (k0_pay96 (k0_pay63 (k0_pay13 (View.ld x4 (Rect.unit ![0, 0] ![256, 256] inb_S256x1024_S256x256_0_0))) (p0 x2 x3 x7)) (k0_pay65 (k0_pay24 (View.ld x4 (Rect.unit ![0, 256] ![256, 256] inb_S256x1024_S256x256_0_256))) (p1 x2 x3 x7)) (k0_pay67 (k0_pay34 (View.ld x4 (Rect.unit ![0, 512] ![256, 256] inb_S256x1024_S256x256_0_512))) (p2 x2 x3 x7)) (k0_pay69 (k0_pay44 (View.ld x4 (Rect.unit ![0, 768] ![256, 256] inb_S256x1024_S256x256_0_768))) (s3 x2 x3 x7)))

/-- Of the norm weight's gradient. -/
def t14 (x0 : Vec Ideal S256x1024 .f32) (x1 : Vec Ideal S256x1024 .f32) (x2 : Vec Ideal S256x1024 .bf16) (x3 : Vec Ideal S256x1024 .f32) (x4 : Vec Ideal S256x1024 .f32) (x6 : Vec Ideal S1024x1024 .f32) (x7 : Vec Ideal S1x256 .f32) (x8 : Vec Ideal S1024x1024 .f32) :=
  k0_pay99 (F := Ideal) (k0_pay8 x0) (k0_pay36 (qa x2)) (k0_pay46 (qa x2)) (k0_pay47 x7) (k0_pay49 (qa x2)) (k0_pay50 (qa x2)) (k0_pay83 (k0_pay43 (View.ld x3 (Rect.unit ![0, 768] ![256, 256] inb_S256x1024_S256x256_0_768))) (e3 x1 x4 x8) (p3 x2 x3 x7)) (k0_pay88 (k0_pay15 x2) (k0_pay19 (k0_pay17 x2)) (k0_pay20 (k0_pay17 x2)) (k0_pay86 (k0_pay12 (View.ld x3 (Rect.unit ![0, 0] ![256, 256] inb_S256x1024_S256x256_0_0))) (k0_pay16 x7) (s0 x1 x2 x3 x4 x7 x8)) (k0_pay87 (k0_pay12 (View.ld x3 (Rect.unit ![0, 0] ![256, 256] inb_S256x1024_S256x256_0_0))) (k0_pay15 x2) (k0_pay16 x7) (s0 x1 x2 x3 x4 x7 x8))) (k0_pay89 (k0_pay26 (qa x2)) (k0_pay27 x7) (k0_pay29 (qa x2)) (k0_pay30 (qa x2)) (k0_pay79 (k0_pay23 (View.ld x3 (Rect.unit ![0, 256] ![256, 256] inb_S256x1024_S256x256_0_256))) (s1 x1 x2 x3 x4 x7 x8) (FloatOps.ofBits FTy.f32 1031798784#32))) (k0_pay93 (k0_pay37 x7) (k0_pay39 (k0_pay36 (qa x2))) (k0_pay81 (k0_pay33 (View.ld x3 (Rect.unit ![0, 512] ![256, 256] inb_S256x1024_S256x256_0_512))) (e2 x1 x4 x8) (p2 x2 x3 x7))) (k0_pay94 (k0_pay36 (qa x2)) (k0_pay37 x7) (k0_pay40 (k0_pay36 (qa x2))) (k0_pay81 (k0_pay33 (View.ld x3 (Rect.unit ![0, 512] ![256, 256] inb_S256x1024_S256x256_0_512))) (e2 x1 x4 x8) (p2 x2 x3 x7))) x6

/-- Of the query norm weight's gradient. -/
def t15 (x1 : Vec Ideal S256x1024 .f32) (x2 : Vec Ideal S256x1024 .bf16) (x3 : Vec Ideal S256x1024 .f32) (x4 : Vec Ideal S256x1024 .f32) (x7 : Vec Ideal S1x256 .f32) (x8 : Vec Ideal S1024x1024 .f32) :=
  k0_pay95 (F := Ideal) (k0_pay51 (qa x2)) (k0_pay83 (k0_pay43 (View.ld x3 (Rect.unit ![0, 768] ![256, 256] inb_S256x1024_S256x256_0_768))) (e3 x1 x4 x8) (p3 x2 x3 x7)) (k0_pay90 (k0_pay31 (qa x2)) (k0_pay79 (k0_pay23 (View.ld x3 (Rect.unit ![0, 256] ![256, 256] inb_S256x1024_S256x256_0_256))) (s1 x1 x2 x3 x4 x7 x8) (FloatOps.ofBits FTy.f32 1031798784#32)) k0_pay84 (k0_pay85 (k0_pay12 (View.ld x3 (Rect.unit ![0, 0] ![256, 256] inb_S256x1024_S256x256_0_0))) (k0_pay21 (k0_pay15 x2) (k0_pay17 x2)) (s0 x1 x2 x3 x4 x7 x8))) (k0_pay91 (k0_pay41 (k0_pay36 (qa x2))) (k0_pay81 (k0_pay33 (View.ld x3 (Rect.unit ![0, 512] ![256, 256] inb_S256x1024_S256x256_0_512))) (e2 x1 x4 x8) (p2 x2 x3 x7)))

end Cert.XaVal

end
-- ==== Proof.Xa.Heads.lean ====
/- What the cross-attention gradient call's body computes from its blocks, read at an index. -/
module

public import proofs.«01_k».proof.Proof.Idx
public import proofs.«01_k».proof.Proof.Xa.Math
public import proofs.«01_k».proof.Proof.Xa.Terms

@[expose] public section

set_option maxRecDepth 16384

noncomputable section

namespace Cert.XaVal

open Idealize.ShloMosaic Idealize.ShloMosaic.Pointwise Cert.Base Cert.XaIdeal Cert.XaIdeal.Gen
open Cert.XaMemVal (hd hd_surj hdOf inHd hdOf_hd inHd_hd)

variable (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1x1024 .f32) (x6 : Vec Ideal S1024x1024 .f32) (x7 : Vec Ideal S1x256 .f32) (x8 : Vec Ideal S1024x1024 .f32)

theorem hd0 (q : Fin 256) (p : q.val < 1024) : (⟨q.val, p⟩ : Fin 1024) = hd 0 q := Fin.ext (by show q.val = 0 * 256 + q.val; omega)

theorem kern_qa (r : Fin 256) (l : Fin 1024) : qa x2 (ix2 r l) = x2 (ix2 r l) := by
  pointwise [qa, k0_pay10]

theorem kern_da (r : Fin 256) (l : Fin 1024) : da x1 x8 (ix2 r l) = dout (mat x1 r) (mat x8) l := by
  pointwise [da, k0_pay11]
  rfl

theorem kern_q0 (r : Fin 256) (l : Fin 256) : q0 x2 x7 (ix2 r l) = qh (mat x2 r) (row x7) 0 l := by
  pointwise [q0, k0_pay22, k0_pay21, k0_pay20, k0_pay19, k0_pay18, k0_pay17, k0_pay16, k0_pay15, k0_pay10]
  simp only [hd0]
  rfl

theorem kern_q1 (r : Fin 256) (l : Fin 256) : q1 x2 x7 (ix2 r l) = qh (mat x2 r) (row x7) 1 l := by
  pointwise [q1, k0_pay32, k0_pay31, k0_pay30, k0_pay29, k0_pay28, k0_pay27, k0_pay26, kern_qa]
  rfl

theorem kern_q2 (r : Fin 256) (l : Fin 256) : q2 x2 x7 (ix2 r l) = qh (mat x2 r) (row x7) 2 l := by
  pointwise [q2, k0_pay42, k0_pay41, k0_pay40, k0_pay39, k0_pay38, k0_pay37, k0_pay36, kern_qa]
  rfl

theorem kern_q3 (r : Fin 256) (l : Fin 256) : q3 x2 x7 (ix2 r l) = qh (mat x2 r) (row x7) 3 l := by
  pointwise [q3, k0_pay52, k0_pay51, k0_pay50, k0_pay49, k0_pay48, k0_pay47, k0_pay46, kern_qa]
  rfl

theorem kern_s3 (r : Fin 256) (l : Fin 256) : s3 x2 x3 x7 (ix2 r l) = ∑ j, qh (mat x2 r) (row x7) 3 j * mat x3 l (hd 3 j) := by
  pointwise [s3, k0_pay57, k0_pay43, kern_q3]
  rfl

theorem kern_p0 (r : Fin 256) (l : Fin 256) : p0 x2 x3 x7 (ix2 r l) = pr (mat x2 r) (mat x3) (row x7) 0 l := by
  pointwise [p0, k0_pay59, k0_pay53, k0_pay12, kern_q0]
  simp only [hd0]
  rfl

theorem kern_p1 (r : Fin 256) (l : Fin 256) : p1 x2 x3 x7 (ix2 r l) = pr (mat x2 r) (mat x3) (row x7) 1 l := by
  pointwise [p1, k0_pay60, k0_pay23, kern_q1]
  rfl

theorem kern_p2 (r : Fin 256) (l : Fin 256) : p2 x2 x3 x7 (ix2 r l) = pr (mat x2 r) (mat x3) (row x7) 2 l := by
  pointwise [p2, k0_pay61, k0_pay33, kern_q2]
  rfl

theorem kern_p3 (r : Fin 256) (l : Fin 256) : p3 x2 x3 x7 (ix2 r l) = pr (mat x2 r) (mat x3) (row x7) 3 l := by
  pointwise [p3, k0_pay62, kern_s3]
  rfl

theorem kern_d0 (r : Fin 256) (l : Fin 256) : d0 x1 x8 (ix2 r l) = dout (mat x1 r) (mat x8) (hd 0 l) := by
  pointwise [d0, k0_pay14, k0_pay11]
  simp only [hd0]
  rfl

theorem kern_d1 (r : Fin 256) (l : Fin 256) : d1 x1 x8 (ix2 r l) = dout (mat x1 r) (mat x8) (hd 1 l) := by
  pointwise [d1, k0_pay25, kern_da]
  rfl

theorem kern_d2 (r : Fin 256) (l : Fin 256) : d2 x1 x8 (ix2 r l) = dout (mat x1 r) (mat x8) (hd 2 l) := by
  pointwise [d2, k0_pay35, kern_da]
  rfl

theorem kern_d3 (r : Fin 256) (l : Fin 256) : d3 x1 x8 (ix2 r l) = dout (mat x1 r) (mat x8) (hd 3 l) := by
  pointwise [d3, k0_pay45, kern_da]
  rfl

theorem kern_e0 (r : Fin 256) (l : Fin 256) : e0 x1 x4 x8 (ix2 r l) = dp (mat x1 r) (mat x4) (mat x8) 0 l := by
  pointwise [e0, k0_pay54, k0_pay13, kern_d0]
  simp only [hd0]
  rfl

theorem kern_e1 (r : Fin 256) (l : Fin 256) : e1 x1 x4 x8 (ix2 r l) = dp (mat x1 r) (mat x4) (mat x8) 1 l := by
  pointwise [e1, k0_pay55, k0_pay24, kern_d1]
  rfl

theorem kern_e2 (r : Fin 256) (l : Fin 256) : e2 x1 x4 x8 (ix2 r l) = dp (mat x1 r) (mat x4) (mat x8) 2 l := by
  pointwise [e2, k0_pay56, k0_pay34, kern_d2]
  rfl

theorem kern_e3 (r : Fin 256) (l : Fin 256) : e3 x1 x4 x8 (ix2 r l) = dp (mat x1 r) (mat x4) (mat x8) 3 l := by
  pointwise [e3, k0_pay58, k0_pay44, kern_d3]
  rfl

theorem kern_s0 (r : Fin 256) (l : Fin 256) : s0 x1 x2 x3 x4 x7 x8 (ix2 r l) = ds (mat x1 r) (mat x2 r) (mat x3) (mat x4) (row x7) (mat x8) 0 l := by
  pointwise [s0, k0_pay71, kern_e0, kern_p0]
  rfl

theorem kern_s1 (r : Fin 256) (l : Fin 256) : s1 x1 x2 x3 x4 x7 x8 (ix2 r l) = dt (mat x1 r) (mat x2 r) (mat x3) (mat x4) (row x7) (mat x8) 1 l := by
  pointwise [s1, k0_pay72, kern_e1, kern_p1]
  rfl

end Cert.XaVal

end
-- ==== Proof.Xa.Kern.lean ====
/- What the cross-attention gradient call's body adds up at one point, read at an index. -/
module

public import proofs.«01_k».proof.Proof.Xa.Heads

@[expose] public section

set_option maxRecDepth 16384

noncomputable section

namespace Cert.XaVal

open Idealize.ShloMosaic Idealize.ShloMosaic.Pointwise Cert.Base Cert.XaIdeal Cert.XaIdeal.Gen
open Cert.XaMemVal (hd hd_surj hdOf inHd hdOf_hd inHd_hd)

variable (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1x1024 .f32) (x6 : Vec Ideal S1024x1024 .f32) (x7 : Vec Ideal S1x256 .f32) (x8 : Vec Ideal S1024x1024 .f32)

/-- Four columns of one head each, side by side. -/
def side {α : Type} (f : Fin 4 → Fin 256 → α) (c : Fin 1024) : α := f (hdOf c) (inHd c)

theorem side_hd {α : Type} (f : Fin 4 → Fin 256 → α) (h : Fin 4) (l : Fin 256) : side f (hd h l) = f h l := by
  unfold side
  rw [hdOf_hd, inHd_hd]

theorem kern_za (r : Fin 256) (c : Fin 1024) : za x1 x2 x3 x4 x7 x8 (ix2 r c) = side (dqp (mat x1 r) (mat x2 r) (mat x3) (mat x4) (row x7) (mat x8)) c := by
  obtain ⟨h, l, rfl⟩ := hd_surj c
  rw [side_hd]
  pointwise [za, k0_pay97, k0_pay77, k0_pay76, k0_pay78, k0_pay80, k0_pay82, k0_pay94, k0_pay93, k0_pay92, k0_pay91, k0_pay90, k0_pay89, k0_pay88, k0_pay87, k0_pay86, k0_pay85, k0_pay84, k0_pay83, k0_pay81, k0_pay79, k0_pay50, k0_pay49, k0_pay48, k0_pay47, k0_pay46, k0_pay40, k0_pay39, k0_pay38, k0_pay37, k0_pay36, k0_pay30, k0_pay29, k0_pay28, k0_pay27, k0_pay26, k0_pay23, k0_pay33, k0_pay43, k0_pay12, k0_pay20, k0_pay19, k0_pay18, k0_pay17, k0_pay16, k0_pay15, k0_pay10, kern_s0, kern_s1, kern_qa, kern_e2, kern_e3, kern_p2, kern_p3, k0_pay75, k0_pay74, k0_pay73]
  simp only [Fin.sum_univ_one]
  have hl := l.isLt
  match h with
  | 0 =>
    have e0 : (hd 0 l).val = l.val := by show 0 * 256 + l.val = l.val; omega
    rw [dif_pos (by omega)]
    try simp only [e0, hd0]
    try rfl
  | 1 =>
    have e1 : (hd 1 l).val - 256 = l.val := by show 1 * 256 + l.val - 256 = l.val; omega
    have e1' : ¬ (hd 1 l).val < 256 := by show ¬ 1 * 256 + l.val < 256; omega
    rw [dif_neg e1', dif_pos (by omega)]
    simp only [e1]
    try rfl
  | 2 =>
    have e2 : (hd 2 l).val - 256 - 256 = l.val := by show 2 * 256 + l.val - 256 - 256 = l.val; omega
    have e2' : ¬ (hd 2 l).val - 256 < 256 := by show ¬ 2 * 256 + l.val - 256 < 256; omega
    rw [dif_neg (by omega), dif_neg e2', dif_pos (by omega)]
    simp only [e2]
    try rfl
  | 3 =>
    have e3 : (hd 3 l).val - 256 - 256 - 256 = l.val := by show 3 * 256 + l.val - 256 - 256 - 256 = l.val; omega
    have e3' : ¬ (hd 3 l).val - 256 - 256 < 256 := by show ¬ 3 * 256 + l.val - 256 - 256 < 256; omega
    rw [dif_neg (by omega), dif_neg (by omega), dif_neg e3']
    simp only [e3]
    try rfl

theorem kern_t10 (m : Fin 256) (c : Fin 1024) : t10 x1 x2 x3 x4 x7 x8 (ix2 m c)
    = side (fun h l => ∑ r, ds (mat x1 r) (mat x2 r) (mat x3) (mat x4) (row x7) (mat x8) h m * qh (mat x2 r) (row x7) h l) c := by
  obtain ⟨h, l, rfl⟩ := hd_surj c
  rw [side_hd]
  pointwise [t10, k0_pay104, k0_pay76, k0_pay78, k0_pay80, k0_pay82, kern_s0, kern_s1, kern_e2, kern_e3, kern_p2, kern_p3, kern_q0, kern_q1, kern_q2, kern_q3, k0_pay73, k0_pay74, k0_pay75]
  have hl := l.isLt
  match h with
  | 0 =>
    have e0 : (hd 0 l).val = l.val := by show 0 * 256 + l.val = l.val; omega
    rw [dif_pos (by omega)]
    try simp only [e0, hd0]
    try rfl
  | 1 =>
    have e1 : (hd 1 l).val - 256 = l.val := by show 1 * 256 + l.val - 256 = l.val; omega
    have e1' : ¬ (hd 1 l).val < 256 := by show ¬ 1 * 256 + l.val < 256; omega
    rw [dif_neg e1', dif_pos (by omega)]
    simp only [e1]
    try rfl
  | 2 =>
    have e2 : (hd 2 l).val - 256 - 256 = l.val := by show 2 * 256 + l.val - 256 - 256 = l.val; omega
    have e2' : ¬ (hd 2 l).val - 256 < 256 := by show ¬ 2 * 256 + l.val - 256 < 256; omega
    rw [dif_neg (by omega), dif_neg e2', dif_pos (by omega)]
    simp only [e2]
    try rfl
  | 3 =>
    have e3 : (hd 3 l).val - 256 - 256 - 256 = l.val := by show 3 * 256 + l.val - 256 - 256 - 256 = l.val; omega
    have e3' : ¬ (hd 3 l).val - 256 - 256 < 256 := by show ¬ 3 * 256 + l.val - 256 - 256 < 256; omega
    rw [dif_neg (by omega), dif_neg (by omega), dif_neg e3']
    simp only [e3]
    try rfl

theorem kern_t11 (m : Fin 256) (c : Fin 1024) : t11 x1 x2 x3 x7 x8 (ix2 m c)
    = side (fun h l => ∑ r, pr (mat x2 r) (mat x3) (row x7) h m * dout (mat x1 r) (mat x8) (hd h l)) c := by
  obtain ⟨h, l, rfl⟩ := hd_surj c
  rw [side_hd]
  pointwise [t11, k0_pay106, k0_pay64, k0_pay66, k0_pay68, k0_pay70, k0_pay62, kern_d0, kern_d1, kern_d2, kern_d3, kern_p0, kern_p1, kern_p2, kern_s3]
  have hl := l.isLt
  match h with
  | 0 =>
    have e0 : (hd 0 l).val = l.val := by show 0 * 256 + l.val = l.val; omega
    rw [dif_pos (by omega)]
    try simp only [e0, hd0]
    try rfl
  | 1 =>
    have e1 : (hd 1 l).val - 256 = l.val := by show 1 * 256 + l.val - 256 = l.val; omega
    have e1' : ¬ (hd 1 l).val < 256 := by show ¬ 1 * 256 + l.val < 256; omega
    rw [dif_neg e1', dif_pos (by omega)]
    simp only [e1]
    try rfl
  | 2 =>
    have e2 : (hd 2 l).val - 256 - 256 = l.val := by show 2 * 256 + l.val - 256 - 256 = l.val; omega
    have e2' : ¬ (hd 2 l).val - 256 < 256 := by show ¬ 2 * 256 + l.val - 256 < 256; omega
    rw [dif_neg (by omega), dif_neg e2', dif_pos (by omega)]
    simp only [e2]
    try rfl
  | 3 =>
    have e3 : (hd 3 l).val - 256 - 256 - 256 = l.val := by show 3 * 256 + l.val - 256 - 256 - 256 = l.val; omega
    have e3' : ¬ (hd 3 l).val - 256 - 256 < 256 := by show ¬ 3 * 256 + l.val - 256 - 256 < 256; omega
    rw [dif_neg (by omega), dif_neg (by omega), dif_neg e3']
    simp only [e3]
    try rfl

theorem kern_t12 (i j : Fin 1024) : t12 x0 x1 x2 x3 x4 x5 x7 x8 (ix2 i j)
    = ∑ r, hm (mat x0 r) (row x5) i * side (dqp (mat x1 r) (mat x2 r) (mat x3) (mat x4) (row x7) (mat x8)) j := by
  pointwise [t12, k0_pay108, k0_pay9, k0_pay8, k0_pay7, k0_pay6, k0_pay5, k0_pay4, kern_za]
  rfl

/-- The heads' outputs, side by side. -/
theorem kern_o (r : Fin 256) (c : Fin 1024) : k0_pay96 (F := Ideal) (k0_pay63 (k0_pay13 (View.ld x4 (Rect.unit ![0, 0] ![256, 256] inb_S256x1024_S256x256_0_0))) (p0 x2 x3 x7)) (k0_pay65 (k0_pay24 (View.ld x4 (Rect.unit ![0, 256] ![256, 256] inb_S256x1024_S256x256_0_256))) (p1 x2 x3 x7)) (k0_pay67 (k0_pay34 (View.ld x4 (Rect.unit ![0, 512] ![256, 256] inb_S256x1024_S256x256_0_512))) (p2 x2 x3 x7)) (k0_pay69 (k0_pay44 (View.ld x4 (Rect.unit ![0, 768] ![256, 256] inb_S256x1024_S256x256_0_768))) (s3 x2 x3 x7)) (ix2 r c)
    = side (out (mat x2 r) (mat x3) (mat x4) (row x7)) c := by
  obtain ⟨h, l, rfl⟩ := hd_surj c
  rw [side_hd]
  pointwise [k0_pay96, k0_pay63, k0_pay65, k0_pay67, k0_pay69, k0_pay62, k0_pay13, k0_pay24, k0_pay34, k0_pay44, kern_p0, kern_p1, kern_p2, kern_s3]
  have hl := l.isLt
  match h with
  | 0 =>
    have e0 : (hd 0 l).val = l.val := by show 0 * 256 + l.val = l.val; omega
    rw [dif_pos (by omega)]
    try simp only [e0, hd0]
    try rfl
  | 1 =>
    have e1 : (hd 1 l).val - 256 = l.val := by show 1 * 256 + l.val - 256 = l.val; omega
    have e1' : ¬ (hd 1 l).val < 256 := by show ¬ 1 * 256 + l.val < 256; omega
    rw [dif_neg e1', dif_pos (by omega)]
    simp only [e1]
    try rfl
  | 2 =>
    have e2 : (hd 2 l).val - 256 - 256 = l.val := by show 2 * 256 + l.val - 256 - 256 = l.val; omega
    have e2' : ¬ (hd 2 l).val - 256 < 256 := by show ¬ 2 * 256 + l.val - 256 < 256; omega
    rw [dif_neg (by omega), dif_neg e2', dif_pos (by omega)]
    simp only [e2]
    try rfl
  | 3 =>
    have e3 : (hd 3 l).val - 256 - 256 - 256 = l.val := by show 3 * 256 + l.val - 256 - 256 - 256 = l.val; omega
    have e3' : ¬ (hd 3 l).val - 256 - 256 < 256 := by show ¬ 3 * 256 + l.val - 256 - 256 < 256; omega
    rw [dif_neg (by omega), dif_neg (by omega), dif_neg e3']
    simp only [e3]
    try rfl

theorem kern_t13 (i j : Fin 1024) : t13 x1 x2 x3 x4 x7 (ix2 i j) = ∑ r, side (out (mat x2 r) (mat x3) (mat x4) (row x7)) i * mat x1 r j := by
  pointwise [t13, k0_pay110, kern_o]

theorem kern_dh (r : Fin 256) (k : Fin 1024) : ∑ c, za x1 x2 x3 x4 x7 x8 (ix2 r c) * x6 (ix2 k c) = dh (mat x1 r) (mat x2 r) (mat x3) (mat x4) (mat x6) (row x7) (mat x8) k := by
  simp only [kern_za]
  rfl

/-- The normed row's cotangent. -/
theorem kern_98 (r : Fin 256) (k : Fin 1024) : k0_pay98 (F := Ideal) (k0_pay36 (qa x2)) (k0_pay46 (qa x2)) (k0_pay47 x7) (k0_pay49 (qa x2)) (k0_pay50 (qa x2)) (k0_pay83 (k0_pay43 (View.ld x3 (Rect.unit ![0, 768] ![256, 256] inb_S256x1024_S256x256_0_768))) (e3 x1 x4 x8) (p3 x2 x3 x7)) (k0_pay88 (k0_pay15 x2) (k0_pay19 (k0_pay17 x2)) (k0_pay20 (k0_pay17 x2)) (k0_pay86 (k0_pay12 (View.ld x3 (Rect.unit ![0, 0] ![256, 256] inb_S256x1024_S256x256_0_0))) (k0_pay16 x7) (s0 x1 x2 x3 x4 x7 x8)) (k0_pay87 (k0_pay12 (View.ld x3 (Rect.unit ![0, 0] ![256, 256] inb_S256x1024_S256x256_0_0))) (k0_pay15 x2) (k0_pay16 x7) (s0 x1 x2 x3 x4 x7 x8))) (k0_pay89 (k0_pay26 (qa x2)) (k0_pay27 x7) (k0_pay29 (qa x2)) (k0_pay30 (qa x2)) (k0_pay79 (k0_pay23 (View.ld x3 (Rect.unit ![0, 256] ![256, 256] inb_S256x1024_S256x256_0_256))) (s1 x1 x2 x3 x4 x7 x8) (Ideal.ofBits FTy.f32 1031798784#32))) (k0_pay93 (k0_pay37 x7) (k0_pay39 (k0_pay36 (qa x2))) (k0_pay81 (k0_pay33 (View.ld x3 (Rect.unit ![0, 512] ![256, 256] inb_S256x1024_S256x256_0_512))) (e2 x1 x4 x8) (p2 x2 x3 x7))) (k0_pay94 (k0_pay36 (qa x2)) (k0_pay37 x7) (k0_pay40 (k0_pay36 (qa x2))) (k0_pay81 (k0_pay33 (View.ld x3 (Rect.unit ![0, 512] ![256, 256] inb_S256x1024_S256x256_0_512))) (e2 x1 x4 x8) (p2 x2 x3 x7))) x6 (ix2 r k)
    = dh (mat x1 r) (mat x2 r) (mat x3) (mat x4) (mat x6) (row x7) (mat x8) k := by
  pointwise [k0_pay98]
  exact kern_dh x1 x2 x3 x4 x6 x7 x8 r k

theorem kern_t9 (r : Fin 256) (l : Fin 1024) : (t9 x0 x1 x2 x3 x4 x5 x6 x7 x8) (ix2 r l)
    = dx1 (mat x0 r) (mat x1 r) (mat x2 r) (mat x3) (mat x4) (row x5) (mat x6) (row x7) (mat x8) l := by
  pointwise [t9, k0_pay103, k0_pay102, k0_pay101, k0_pay100, kern_98, k0_pay7, k0_pay6, k0_pay5, k0_pay4]
  simp only [Fin.sum_univ_one]
  rfl

theorem kern_t14 (u : Fin 1) (l : Fin 1024) : (t14 x0 x1 x2 x3 x4 x6 x7 x8) (ix2 u l)
    = ∑ r, xh (mat x0 r) l * dh (mat x1 r) (mat x2 r) (mat x3) (mat x4) (mat x6) (row x7) (mat x8) l := by
  pointwise [t14, k0_pay99, kern_98, k0_pay8, k0_pay6, k0_pay5]
  rfl

theorem kern_t15 (u : Fin 1) (l : Fin 256) : (t15 x1 x2 x3 x4 x7 x8) (ix2 u l)
    = ∑ h, ∑ r, zn (mat x2 r) h l * dq (mat x1 r) (mat x2 r) (mat x3) (mat x4) (row x7) (mat x8) h l := by
  simp only [Fin.sum_univ_four]
  pointwise [t15, k0_pay95, k0_pay51, k0_pay31, k0_pay41, k0_pay21, k0_pay22, k0_pay97, k0_pay77, k0_pay76, k0_pay78, k0_pay80, k0_pay82, k0_pay94, k0_pay93, k0_pay92, k0_pay91, k0_pay90, k0_pay89, k0_pay88, k0_pay87, k0_pay86, k0_pay85, k0_pay84, k0_pay83, k0_pay81, k0_pay79, k0_pay50, k0_pay49, k0_pay48, k0_pay47, k0_pay46, k0_pay40, k0_pay39, k0_pay38, k0_pay37, k0_pay36, k0_pay30, k0_pay29, k0_pay28, k0_pay27, k0_pay26, k0_pay23, k0_pay33, k0_pay43, k0_pay12, k0_pay20, k0_pay19, k0_pay18, k0_pay17, k0_pay16, k0_pay15, k0_pay10, kern_s0, kern_s1, kern_qa, kern_e2, kern_e3, kern_p2, kern_p3, k0_pay75, k0_pay74, k0_pay73, kern_q0]
  simp only [hd0]
  rfl

end Cert.XaVal

end
-- ==== Proof.Xa.Points.lean ====
/- What the cross-attention gradient call's body leaves at each point. -/
module

public import proofs.«01_k».proof.Proof.Xa.Kern
public import proofs.«01_k».proof.Proof.Gen.XaIdeal.Value
public import Idealize.ShloMosaic.Lib.Pipeline.ValueKit
public import Idealize.ShloMosaic.Lib.Pipeline.ReadBack

@[expose] public section

set_option maxRecDepth 16384

noncomputable section

namespace Cert.XaVal

open Idealize.ShloMosaic Idealize.ShloMosaic.Pointwise Idealize.ShloMosaic.TcCoe Idealize.SL.Sem Cert.Base Cert.XaIdeal Cert.XaIdeal.Gen

variable (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1x1024 .f32) (x6 : Vec Ideal S1024x1024 .f32) (x7 : Vec Ideal S1x256 .f32) (x8 : Vec Ideal S1024x1024 .f32)

/-- A step adds the point's part. -/
theorem step_t10 (acc : Vec Ideal S256x1024 .f32) (r : Fin 256) (l : Fin 1024) : k0_pay105 (k0_pay76 (q0 x2 x7) (s0 x1 x2 x3 x4 x7 x8)) (k0_pay78 (q1 x2 x7) (s1 x1 x2 x3 x4 x7 x8) (FloatOps.ofBits FTy.f32 1031798784#32)) (k0_pay80 (q2 x2 x7) (e2 x1 x4 x8) (p2 x2 x3 x7)) (k0_pay82 (q3 x2 x7) (e3 x1 x4 x8) (p3 x2 x3 x7)) acc (ix2 r l) = acc (ix2 r l) + (t10 x1 x2 x3 x4 x7 x8) (ix2 r l) := by
  pointwise [k0_pay105, t10]

/-- A step adds the point's part. -/
theorem step_t11 (acc : Vec Ideal S256x1024 .f32) (r : Fin 256) (l : Fin 1024) : k0_pay107 (k0_pay64 (d0 x1 x8) (p0 x2 x3 x7)) (k0_pay66 (d1 x1 x8) (p1 x2 x3 x7)) (k0_pay68 (d2 x1 x8) (p2 x2 x3 x7)) (k0_pay70 (d3 x1 x8) (s3 x2 x3 x7)) acc (ix2 r l) = acc (ix2 r l) + (t11 x1 x2 x3 x7 x8) (ix2 r l) := by
  pointwise [k0_pay107, t11]

/-- A step adds the point's part. -/
theorem step_t12 (acc : Vec Ideal S1024x1024 .f32) (r : Fin 1024) (l : Fin 1024) : k0_pay109 (k0_pay9 x0 x5) (za x1 x2 x3 x4 x7 x8) acc (ix2 r l) = acc (ix2 r l) + (t12 x0 x1 x2 x3 x4 x5 x7 x8) (ix2 r l) := by
  pointwise [k0_pay109, t12]

/-- A step adds the point's part. -/
theorem step_t13 (acc : Vec Ideal S1024x1024 .f32) (r : Fin 1024) (l : Fin 1024) : k0_pay1 (t13 x1 x2 x3 x4 x7) acc (ix2 r l) = acc (ix2 r l) + (t13 x1 x2 x3 x4 x7) (ix2 r l) := by
  pointwise [k0_pay1]

/-- A step adds the point's part. -/
theorem step_t14 (acc : Vec Ideal S1x1024 .f32) (r : Fin 1) (l : Fin 1024) : k0_pay2 (t14 x0 x1 x2 x3 x4 x6 x7 x8) acc (ix2 r l) = acc (ix2 r l) + (t14 x0 x1 x2 x3 x4 x6 x7 x8) (ix2 r l) := by
  pointwise [k0_pay2]

/-- A step adds the point's part. -/
theorem step_t15 (acc : Vec Ideal S1x256 .f32) (r : Fin 1) (l : Fin 256) : k0_pay3 (t15 x1 x2 x3 x4 x7 x8) acc (ix2 r l) = acc (ix2 r l) + (t15 x1 x2 x3 x4 x7 x8) (ix2 r l) := by
  pointwise [k0_pay3]

variable (m : (ℓ : Loc nD τ sig) → Buf (Elt Ideal) ℓ) (c : Dev nD)

theorem lt_N (t : Fin cfg0.N) : t.val < 32 := lt_of_lt_of_eq t.isLt N_0

theorem at_A0 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).1 = t9 (iblk m c 0 t) (iblk m c 1 t) (iblk m c 2 t) (iblk m c 3 t) (iblk m c 4 t) (iblk m c 5 t) (iblk m c 6 t) (iblk m c 7 t) (iblk m c 8 t) := by
  rw [outsAt0_A m c t h0 h1 h2 h3 h4 h5 h6 h7 h8 h9 h10 h11]
  dsimp only
  frame_out
  all_goals rfl

theorem at_B0 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).1 = t9 (iblk m c 0 t) (iblk m c 1 t) (iblk m c 2 t) (iblk m c 3 t) (iblk m c 4 t) (iblk m c 5 t) (iblk m c 6 t) (iblk m c 7 t) (iblk m c 8 t) := by
  rw [outsAt0_B m c t h0 h1 h2 h3 h4 h5 h6 h7 h8 h9 h10 h11]
  dsimp only
  frame_out
  all_goals rfl

theorem at_A1 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).2.1 = t10 (iblk m c 1 t) (iblk m c 2 t) (iblk m c 3 t) (iblk m c 4 t) (iblk m c 7 t) (iblk m c 8 t) := by
  rw [outsAt0_A m c t h0 h1 h2 h3 h4 h5 h6 h7 h8 h9 h10 h11]
  dsimp only
  frame_out
  all_goals rfl

theorem at_B1 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).2.1 = k0_pay105 (k0_pay76 (q0 (iblk m c 2 t) (iblk m c 7 t)) (s0 (iblk m c 1 t) (iblk m c 2 t) (iblk m c 3 t) (iblk m c 4 t) (iblk m c 7 t) (iblk m c 8 t))) (k0_pay78 (q1 (iblk m c 2 t) (iblk m c 7 t)) (s1 (iblk m c 1 t) (iblk m c 2 t) (iblk m c 3 t) (iblk m c 4 t) (iblk m c 7 t) (iblk m c 8 t)) (FloatOps.ofBits FTy.f32 1031798784#32)) (k0_pay80 (q2 (iblk m c 2 t) (iblk m c 7 t)) (e2 (iblk m c 1 t) (iblk m c 4 t) (iblk m c 8 t)) (p2 (iblk m c 2 t) (iblk m c 3 t) (iblk m c 7 t))) (k0_pay82 (q3 (iblk m c 2 t) (iblk m c 7 t)) (e3 (iblk m c 1 t) (iblk m c 4 t) (iblk m c 8 t)) (p3 (iblk m c 2 t) (iblk m c 3 t) (iblk m c 7 t))) (outsAt0 m c (t.val - 1) (lt_of_le_of_lt (Nat.sub_le _ _) t.isLt)).2.1 := by
  rw [outsAt0_B m c t h0 h1 h2 h3 h4 h5 h6 h7 h8 h9 h10 h11]
  dsimp only
  frame_out
  all_goals rfl

theorem at_A2 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).2.2.1 = t11 (iblk m c 1 t) (iblk m c 2 t) (iblk m c 3 t) (iblk m c 7 t) (iblk m c 8 t) := by
  rw [outsAt0_A m c t h0 h1 h2 h3 h4 h5 h6 h7 h8 h9 h10 h11]
  dsimp only
  frame_out
  all_goals rfl

theorem at_B2 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).2.2.1 = k0_pay107 (k0_pay64 (d0 (iblk m c 1 t) (iblk m c 8 t)) (p0 (iblk m c 2 t) (iblk m c 3 t) (iblk m c 7 t))) (k0_pay66 (d1 (iblk m c 1 t) (iblk m c 8 t)) (p1 (iblk m c 2 t) (iblk m c 3 t) (iblk m c 7 t))) (k0_pay68 (d2 (iblk m c 1 t) (iblk m c 8 t)) (p2 (iblk m c 2 t) (iblk m c 3 t) (iblk m c 7 t))) (k0_pay70 (d3 (iblk m c 1 t) (iblk m c 8 t)) (s3 (iblk m c 2 t) (iblk m c 3 t) (iblk m c 7 t))) (outsAt0 m c (t.val - 1) (lt_of_le_of_lt (Nat.sub_le _ _) t.isLt)).2.2.1 := by
  rw [outsAt0_B m c t h0 h1 h2 h3 h4 h5 h6 h7 h8 h9 h10 h11]
  dsimp only
  frame_out
  all_goals rfl

theorem at_A3 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).2.2.2.1 = t12 (iblk m c 0 t) (iblk m c 1 t) (iblk m c 2 t) (iblk m c 3 t) (iblk m c 4 t) (iblk m c 5 t) (iblk m c 7 t) (iblk m c 8 t) := by
  rw [outsAt0_A m c t h0 h1 h2 h3 h4 h5 h6 h7 h8 h9 h10 h11]
  dsimp only
  frame_out
  all_goals rfl

theorem at_B3 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).2.2.2.1 = k0_pay109 (k0_pay9 (iblk m c 0 t) (iblk m c 5 t)) (za (iblk m c 1 t) (iblk m c 2 t) (iblk m c 3 t) (iblk m c 4 t) (iblk m c 7 t) (iblk m c 8 t)) (outsAt0 m c (t.val - 1) (lt_of_le_of_lt (Nat.sub_le _ _) t.isLt)).2.2.2.1 := by
  rw [outsAt0_B m c t h0 h1 h2 h3 h4 h5 h6 h7 h8 h9 h10 h11]
  dsimp only
  frame_out
  all_goals rfl

theorem at_A4 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).2.2.2.2.1 = t13 (iblk m c 1 t) (iblk m c 2 t) (iblk m c 3 t) (iblk m c 4 t) (iblk m c 7 t) := by
  rw [outsAt0_A m c t h0 h1 h2 h3 h4 h5 h6 h7 h8 h9 h10 h11]
  dsimp only
  frame_out
  all_goals rfl

theorem at_B4 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).2.2.2.2.1 = k0_pay1 (t13 (iblk m c 1 t) (iblk m c 2 t) (iblk m c 3 t) (iblk m c 4 t) (iblk m c 7 t)) (outsAt0 m c (t.val - 1) (lt_of_le_of_lt (Nat.sub_le _ _) t.isLt)).2.2.2.2.1 := by
  rw [outsAt0_B m c t h0 h1 h2 h3 h4 h5 h6 h7 h8 h9 h10 h11]
  dsimp only
  frame_out
  all_goals rfl

theorem at_A5 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).2.2.2.2.2.1 = t14 (iblk m c 0 t) (iblk m c 1 t) (iblk m c 2 t) (iblk m c 3 t) (iblk m c 4 t) (iblk m c 6 t) (iblk m c 7 t) (iblk m c 8 t) := by
  rw [outsAt0_A m c t h0 h1 h2 h3 h4 h5 h6 h7 h8 h9 h10 h11]
  dsimp only
  frame_out
  all_goals rfl

theorem at_B5 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).2.2.2.2.2.1 = k0_pay2 (t14 (iblk m c 0 t) (iblk m c 1 t) (iblk m c 2 t) (iblk m c 3 t) (iblk m c 4 t) (iblk m c 6 t) (iblk m c 7 t) (iblk m c 8 t)) (outsAt0 m c (t.val - 1) (lt_of_le_of_lt (Nat.sub_le _ _) t.isLt)).2.2.2.2.2.1 := by
  rw [outsAt0_B m c t h0 h1 h2 h3 h4 h5 h6 h7 h8 h9 h10 h11]
  dsimp only
  frame_out
  all_goals rfl

theorem at_A6 (t : Fin cfg0.N) (h0 : t.val % 32 = 0) (h1 : ¬1 ≤ t.val) (h2 : t.val % 32 = 0) (h3 : ¬1 ≤ t.val) (h4 : t.val % 32 = 0) (h5 : ¬1 ≤ t.val) (h6 : t.val % 32 = 0) (h7 : ¬1 ≤ t.val) (h8 : t.val % 32 = 0) (h9 : ¬1 ≤ t.val) (h10 : t.val % 32 = 0) (h11 : ¬1 ≤ t.val) :
    (outsAt0 m c t.val t.isLt).2.2.2.2.2.2 = t15 (iblk m c 1 t) (iblk m c 2 t) (iblk m c 3 t) (iblk m c 4 t) (iblk m c 7 t) (iblk m c 8 t) := by
  rw [outsAt0_A m c t h0 h1 h2 h3 h4 h5 h6 h7 h8 h9 h10 h11]
  dsimp only
  frame_out
  all_goals rfl

theorem at_B6 (t : Fin cfg0.N) (h0 : ¬t.val % 32 = 0) (h1 : 1 ≤ t.val) (h2 : ¬t.val % 32 = 0) (h3 : 1 ≤ t.val) (h4 : ¬t.val % 32 = 0) (h5 : 1 ≤ t.val) (h6 : ¬t.val % 32 = 0) (h7 : 1 ≤ t.val) (h8 : ¬t.val % 32 = 0) (h9 : 1 ≤ t.val) (h10 : ¬t.val % 32 = 0) (h11 : 1 ≤ t.val) :
    (outsAt0 m c t.val t.isLt).2.2.2.2.2.2 = k0_pay3 (t15 (iblk m c 1 t) (iblk m c 2 t) (iblk m c 3 t) (iblk m c 4 t) (iblk m c 7 t) (iblk m c 8 t)) (outsAt0 m c (t.val - 1) (lt_of_le_of_lt (Nat.sub_le _ _) t.isLt)).2.2.2.2.2.2 := by
  rw [outsAt0_B m c t h0 h1 h2 h3 h4 h5 h6 h7 h8 h9 h10 h11]
  dsimp only
  frame_out
  all_goals rfl

end Cert.XaVal

end
-- ==== Proof.Fin.lean ====
/- Sums, products and norms of real numbers, as extended reals, are real numbers. -/
module

public import proofs.«01_k».proof.Proof.Base
public import proofs.«01_k».proof.Proof.Rms
public import Idealize.ShloMosaic.Lib.Pointwise

@[expose] public section

noncomputable section

namespace Cert.Fin

open Idealize.ShloMosaic Cert.Rms

/-- The extended real is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

/-- A sum of reals is a real. -/
theorem sum_coe {ι : Type} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i, IsReal (f i)) : IsReal (∑ i ∈ s, f i) := by
  choose r hr using h
  exact ⟨∑ i ∈ s, r i, by rw [← sum_coe]; exact Finset.sum_congr rfl fun i _ => hr i⟩

/-- Every literal word in use is a real. -/
theorem word_1024 : Ideal.ofBits FTy.f32 1149239296#32 = ((1024 : ℝ) : EReal) := by
  simp [Ideal.ofBits, Ideal.ieee]
  norm_num [← EReal.coe_mul]

theorem word_256 : Ideal.ofBits FTy.f32 1132462080#32 = ((256 : ℝ) : EReal) := by
  simp [Ideal.ofBits, Ideal.ieee]
  norm_num [← EReal.coe_mul]

theorem word_sixteenth : Ideal.ofBits FTy.f32 1031798784#32 = ((1 / 16 : ℝ) : EReal) := by
  simp [Ideal.ofBits, Ideal.ieee]
  norm_num [← EReal.coe_mul]

theorem word_bot : Ideal.ofBits FTy.f32 4286578688#32 = ⊥ := by
  simp [Ideal.ofBits, Ideal.ieee]

theorem word_eps : ∃ r : ℝ, 0 < r ∧ Ideal.ofBits FTy.f32 897988541#32 = (r : EReal) := by
  refine ⟨8796093 / 2 ^ 43, by norm_num, ?_⟩
  simp [Ideal.ofBits, Ideal.ieee]
  norm_num [← EReal.coe_mul]

/-- Dividing by a real that is not zero multiplies by its inverse. -/
theorem div_coe (x : EReal) {z : ℝ} (hz : z ≠ 0) : Ideal.div x (z : EReal) = x * ((z⁻¹ : ℝ) : EReal) := by
  unfold Ideal.div
  rw [if_neg (by simpa using hz), EReal.coe_inv]

/-- The mean of squares of reals, with its epsilon, is a positive real. -/
theorem ms_pos {n : ℕ} {N : BitVec 32} {q : ℝ} (hq : 0 < q) (hN : Ideal.ofBits FTy.f32 N = (q : EReal)) {x : Fin n → EReal}
    (hx : ∀ k, IsReal (x k)) : ∃ r : ℝ, 0 < r ∧ ms N x = (r : EReal) := by
  choose r hr using hx
  obtain ⟨e, he, hw⟩ := word_eps
  refine ⟨(∑ k, r k * r k) * q⁻¹ + e, ?_, ?_⟩
  · have : 0 ≤ ∑ k, r k * r k := Finset.sum_nonneg fun k _ => mul_self_nonneg _
    positivity
  · unfold ms
    rw [hN, div_coe _ hq.ne', hw, Finset.sum_congr rfl fun k _ => show x k * x k = ((r k * r k : ℝ) : EReal) by rw [hr, EReal.coe_mul],
      sum_coe, EReal.coe_add, EReal.coe_mul]

/-- The factor a row of reals is scaled by is a real. -/
theorem inv_real {n : ℕ} {N : BitVec 32} {q : ℝ} (hq : 0 < q) (hN : Ideal.ofBits FTy.f32 N = (q : EReal)) {x : Fin n → EReal}
    (hx : ∀ k, IsReal (x k)) : IsReal (Rms.inv N x) := by
  obtain ⟨r, h, e⟩ := ms_pos hq hN hx
  refine ⟨(Real.sqrt r)⁻¹, ?_⟩
  unfold Rms.inv
  rw [e, Ideal.rsqrt_coe, if_neg (by linarith), if_neg h.ne']

/-- The maximum of reals is a real. -/
theorem max_real {ι : Type} [Fintype ι] (f : ι → EReal) (h : ∀ k, IsReal (f k)) (k : ι) : IsReal (Finset.fold max (Ideal.ofBits FTy.f32 4286578688#32) f Finset.univ) := by
  have h1 : Finset.fold max (Ideal.ofBits FTy.f32 4286578688#32) f Finset.univ < ⊤ :=
    (Finset.fold_max_lt _).mpr ⟨by rw [word_bot]; simp, fun j _ => by obtain ⟨r, e⟩ := h j; rw [e]; exact EReal.coe_lt_top r⟩
  have h2 : f k ≤ Finset.fold max (Ideal.ofBits FTy.f32 4286578688#32) f Finset.univ :=
    (Finset.le_fold_max _).mpr (Or.inr ⟨k, Finset.mem_univ k, le_refl _⟩)
  refine ⟨_, (EReal.coe_toReal h1.ne fun hb => ?_).symm⟩
  obtain ⟨r, e⟩ := h k
  rw [hb, e] at h2
  simp at h2

/-- What compares below infinity in size is a real. -/
theorem of_cmp {x : EReal} (h : Ideal.cmp .olt (max x (-x)) (Ideal.ofBits .f32 2139095040#32) = 1#1) : IsReal x := by
  have htop : Ideal.ofBits .f32 2139095040#32 = (⊤ : EReal) := by simp [Ideal.ofBits, Ideal.ieee]
  rw [htop] at h
  have hlt : max x (-x) < ⊤ := by
    by_contra hn
    simp [Ideal.cmp, hn] at h
  rw [max_lt_iff] at hlt
  refine ⟨_, (EReal.coe_toReal hlt.1.ne fun hb => ?_).symm⟩
  rw [hb] at hlt
  simp at hlt

end Cert.Fin

end
-- ==== Proof.Soft.lean ====
/- A softmax's gradient, written with the shifted exponentials and with the probabilities, is the same. -/
module

public import proofs.«01_k».proof.Proof.Fin

@[expose] public section

noncomputable section

namespace Cert.Soft

open Idealize.ShloMosaic Cert.Fin

/-- A nonnegative real factor comes out of a sum. -/
theorem sum_mul_nonneg {ι : Type} (s : Finset ι) (f : ι → EReal) (k : ℝ) (hk : 0 ≤ k) : ∑ i ∈ s, f i * (k : EReal) = (∑ i ∈ s, f i) * (k : EReal) := by
  classical
  induction s using Finset.induction_on with
  | empty => simp
  | insert a s ha ih =>
    rw [Finset.sum_insert ha, Finset.sum_insert ha, ih,
      EReal.right_distrib_of_nonneg_of_ne_top (EReal.coe_nonneg.mpr hk) (EReal.coe_ne_top k)]

/-- The exponential of a difference of reals is a positive real. -/
theorem exp_pos {x y : EReal} (hx : IsReal x) (hy : IsReal y) : ∃ r : ℝ, 0 < r ∧ Ideal.exp (x - y) = (r : EReal) := by
  obtain ⟨a, rfl⟩ := hx
  obtain ⟨b, rfl⟩ := hy
  exact ⟨Real.exp (a - b), Real.exp_pos _, by rw [← EReal.coe_sub, Ideal.exp_coe]⟩

/-- The gradient of a softmax: `e` are the shifted exponentials, `p` the probabilities' cotangents. -/
theorem back {ι : Type} [Fintype ι] (e p : ι → EReal) (he : ∀ k, ∃ r : ℝ, 0 < r ∧ e k = (r : EReal)) (m : ι) :
    (Ideal.div (p m) (∑ k, e k) + -(∑ k, p k * Ideal.div 1 ((∑ k, e k) * ∑ k, e k) * e k)) * e m
      = Ideal.div (e m) (∑ k, e k) * (p m - ∑ k, p k * Ideal.div (e k) (∑ k, e k)) := by
  choose r hr hre using he
  obtain rfl : e = fun k => (r k : EReal) := funext hre
  have hz : ∑ k, ((r k : ℝ) : EReal) = ((∑ k, r k : ℝ) : EReal) := sum_coe _ r
  simp only [hz]
  have h0 : 0 < ∑ k, r k := Finset.sum_pos (fun k _ => hr k) ⟨m, Finset.mem_univ m⟩
  generalize ∑ k, r k = z at h0
  have ha : 0 ≤ z⁻¹ := (inv_pos.mpr h0).le
  have hd2 : Ideal.div 1 ((z : EReal) * z) = ((z⁻¹ * z⁻¹ : ℝ) : EReal) := by
    rw [← EReal.coe_mul, div_coe _ (mul_pos h0 h0).ne', one_mul, mul_inv]
  simp only [div_coe _ h0.ne', hd2]
  have hs : ∀ k, p k * ((z⁻¹ * z⁻¹ : ℝ) : EReal) * (r k : EReal) = p k * ((r k : EReal) * ((z⁻¹ : ℝ) : EReal)) * ((z⁻¹ : ℝ) : EReal) := fun k => by
    rw [EReal.coe_mul]
    ac_rfl
  rw [Finset.sum_congr rfl fun k _ => hs k, sum_mul_nonneg _ _ _ ha, ← EReal.neg_mul,
    ← EReal.right_distrib_of_nonneg_of_ne_top (EReal.coe_nonneg.mpr ha) (EReal.coe_ne_top _), sub_eq_add_neg]
  ac_rfl

end Cert.Soft

end
-- ==== Proof.Xa.Ref.lean ====
/- What the reference of the cross-attention gradient computes, read at an index. -/
module

public import proofs.«01_k».proof.Proof.Xa.Kern
public import proofs.«01_k».proof.Proof.Soft
public import proofs.«01_k».proof.Proof.Reduce
public import proofs.«01_k».proof.Proof.Gen.XaRefIdeal.Read

@[expose] public section

set_option maxRecDepth 16384

noncomputable section

namespace Cert.XaVal

open Idealize.ShloMosaic Idealize.ShloMosaic.Pointwise Cert.Base Cert.Rms Cert.Fin Cert.XaRefIdeal Cert.XaRefIdeal.Read
open Cert.XaMemVal (hd hd_surj hdOf inHd hdOf_hd inHd_hd)

variable (x0 x7 : (⟨S8192x1024, .f32⟩ : BufTy).Contents (Elt Ideal)) (x1 x2 : (⟨S256x1024, .f32⟩ : BufTy).Contents (Elt Ideal))
  (x3 : (⟨S1024, .f32⟩ : BufTy).Contents (Elt Ideal)) (x4 x6 : (⟨S1024x1024, .f32⟩ : BufTy).Contents (Elt Ideal))
  (x5 : (⟨S256, .f32⟩ : BufTy).Contents (Elt Ideal))

/-- The row of queries before their norms. -/
def zq (r : Fin 8192) : Fin 1024 → EReal := qp (mat x0 r) (vec x3) (mat x4)

theorem add4 (d a b c : EReal) : d + a + b + c = d + (a + b + c) := by
  rw [add_assoc d a b, add_assoc d]

/-- A maximum that starts at the least value is no smaller than it. -/
theorem mx_eq (s : Fin 256 → EReal) : max (Ideal.ofBits FTy.f32 4286578688#32) (mx s) = mx s :=
  max_eq_right ((Finset.le_fold_max _).mpr (Or.inl (le_refl _)))

/-- The arguments the scores are made of are real. -/
structure Args : Prop where
  x : ∀ r l, IsReal (mat x0 r l)
  k : ∀ r l, IsReal (mat x1 r l)
  g : ∀ l, IsReal (vec x3 l)
  w : ∀ r l, IsReal (mat x4 r l)
  q : ∀ l, IsReal (vec x5 l)

variable {x0 x1 x3 x4 x5} in
/-- Then the scores are real. -/
theorem sc_real (R : Args x0 x1 x3 x4 x5) (r : Fin 8192) (h : Fin 4) (m : Fin 256) : IsReal (sc (zq x0 x3 x4 r) (mat x1) (vec x5) h m) := by
  have hz : ∀ c, IsReal (zq x0 x3 x4 r c) := fun c => by
    unfold zq qp hm xh
    exact .sum fun k => (((R.x r k).mul (inv_real (by norm_num) word_1024 (R.x r))).mul (R.g k)).mul (R.w k c)
  have hh : ∀ l, IsReal (zh (zq x0 x3 x4 r) h l) := fun l => hz _
  exact IsReal.mul (.sum fun l => (((hh l).mul (inv_real (by norm_num) word_256 hh)).mul (R.q l)).mul (R.k m _)) ⟨_, word_sixteenth⟩

variable {x0 x1 x3 x4 x5} in
/-- Then the shifted exponentials are positive reals. -/
theorem ex_real (R : Args x0 x1 x3 x4 x5) (r : Fin 8192) (h : Fin 4) (k : Fin 256) :
    ∃ e : ℝ, 0 < e ∧ ex (zq x0 x3 x4 r) (mat x1) (vec x5) h k = (e : EReal) :=
  Soft.exp_pos (sc_real R r h k) (max_real _ (sc_real R r h) k)

theorem ref_xh (r : Fin 8192) (l : Fin 1024) : val_main_v12 (F := Ideal) x0 (ix2 r l) = xh (mat x0 r) l := by
  pointwise [val_main_v12, val_main_v0, val_main_v1, val_main_v2, val_main_v3, val_main_v4, val_main_v5, val_main_v6, val_main_v7, val_main_v8, val_main_v9, val_main_v10, val_main_v11, val_main_cst, val_main_cst_0, val_main_cst_1]
  rfl

theorem ref_hm (r : Fin 8192) (l : Fin 1024) : val_main_v15 (F := Ideal) x0 x3 (ix2 r l) = hm (mat x0 r) (vec x3) l := by
  pointwise [val_main_v15, val_main_v13, val_main_v14, ref_xh]
  rfl

theorem ref_qp (r : Fin 8192) (l : Fin 1024) : val_main_v16 (F := Ideal) x0 x3 x4 (ix2 r l) = zq x0 x3 x4 r l := by
  pointwise [val_main_v16, ref_hm]
  rfl

theorem ref_zh (r : Fin 8192) (h : Fin 4) (l : Fin 256) : val_main_v17 (F := Ideal) x0 x3 x4 (ix3 r h l) = zh (zq x0 x3 x4 r) h l := by
  pointwise [val_main_v17, ref_qp]
  rfl

theorem ref_zn (r : Fin 8192) (h : Fin 4) (l : Fin 256) : val_main_v30 (F := Ideal) x0 x3 x4 (ix3 r h l) = zn (zq x0 x3 x4 r) h l := by
  pointwise [val_main_v30, val_main_v25, val_main_v28, val_main_v29, val_main_v27, val_main_v24, val_main_v22, val_main_v23, val_main_v21, val_main_v20, val_main_v19, val_main_v18, val_main_v26, val_main_cst_3, val_main_cst_4, val_main_cst_5, val_main_cst_6, ref_zh]
  rfl

theorem ref_qh (r : Fin 8192) (h : Fin 4) (l : Fin 256) : val_main_v33 (F := Ideal) x0 x3 x4 x5 (ix3 r h l) = qh (zq x0 x3 x4 r) (vec x5) h l := by
  pointwise [val_main_v33, val_main_v31, val_main_v32, ref_zn]
  rfl

theorem ref_sc (r : Fin 8192) (h : Fin 4) (k : Fin 256) : val_main_v37 (F := Ideal) x0 x1 x3 x4 x5 (ix3 h r k) = sc (zq x0 x3 x4 r) (mat x1) (vec x5) h k := by
  pointwise [val_main_v37, val_main_v34, val_main_v35, val_main_v36, val_main_cst_7, ref_qh]
  rfl

theorem ref_mx (r : Fin 8192) (h : Fin 4) : val_main_v38 (F := Ideal) x0 x1 x3 x4 x5 (ix2 h r) = mx (sc (zq x0 x3 x4 r) (mat x1) (vec x5) h) := by
  unfold val_main_v38
  exact (host_max _ _ _ _ h r).trans (congrArg (fun f => Finset.fold max _ f Finset.univ) (funext fun k => ref_sc _ _ _ _ _ r h k))

theorem ref_m (r : Fin 8192) (h : Fin 4) : val_main_v45 (F := Ideal) x0 x1 x3 x4 x5 (ix2 h r) = mx (sc (zq x0 x3 x4 r) (mat x1) (vec x5) h) := by
  rw [val_main_v45_apply, ref_mx, val_main_v44_apply, Ideal.maximumf_eq_max]
  exact mx_eq _

theorem ref_mb (r : Fin 8192) (h : Fin 4) (k : Fin 256) : val_main_v56 (F := Ideal) x0 x1 x3 x4 x5 (ix3 h r k) = val_main_v45 (F := Ideal) x0 x1 x3 x4 x5 (ix2 h r) := by
  pointwise [val_main_v56, val_main_v55]

theorem ref_ex (r : Fin 8192) (h : Fin 4) (k : Fin 256) : val_main_v58 (F := Ideal) x0 x1 x3 x4 x5 (ix3 h r k) = ex (zq x0 x3 x4 r) (mat x1) (vec x5) h k := by
  pointwise [val_main_v58, val_main_v57, ref_mb, ref_m, ref_sc]
  rfl

theorem ref_pr (r : Fin 8192) (h : Fin 4) (k : Fin 256) : val_main_v62 (F := Ideal) x0 x1 x3 x4 x5 (ix3 h r k) = pr (zq x0 x3 x4 r) (mat x1) (vec x5) h k := by
  pointwise [val_main_v62, val_main_v61, val_main_v60, val_main_v59, val_main_cst_16, ref_ex]
  rfl

theorem ref_out (r : Fin 8192) (h : Fin 4) (l : Fin 256) : val_main_v68 (F := Ideal) x0 x1 x2 x3 x4 x5 (ix3 r h l) = out (zq x0 x3 x4 r) (mat x1) (mat x2) (vec x5) h l := by
  pointwise [val_main_v68, val_main_v67, val_main_v66, ref_pr]
  exact Finset.sum_congr rfl fun k _ => mul_comm _ _

theorem ref_o (r : Fin 8192) (c : Fin 1024) : val_main_v69 (F := Ideal) x0 x1 x2 x3 x4 x5 (ix2 r c) = side (out (zq x0 x3 x4 r) (mat x1) (mat x2) (vec x5)) c := by
  pointwise [val_main_v69, ref_out]
  rfl

theorem ref_dwo (i j : Fin 1024) : val_main_v74 (F := Ideal) x0 x1 x2 x3 x4 x5 x7 (ix2 i j) = ∑ r, side (out (zq x0 x3 x4 r) (mat x1) (mat x2) (vec x5)) i * mat x7 r j := by
  pointwise [val_main_v74, val_main_v73, val_main_v72, ref_o]
  exact Finset.sum_congr rfl fun r _ => mul_comm _ _

theorem ref_dout (r : Fin 8192) (h : Fin 4) (l : Fin 256) : val_main_v76 (F := Ideal) x6 x7 (ix3 r h l) = dout (mat x7 r) (mat x6) (hd h l) := by
  pointwise [val_main_v76, val_main_v75, val_main_v72]
  rfl

theorem ref_dp (r : Fin 8192) (h : Fin 4) (k : Fin 256) : val_main_v78 (F := Ideal) x2 x6 x7 (ix3 h r k) = dp (mat x7 r) (mat x2) (mat x6) h k := by
  pointwise [val_main_v78, val_main_v77, val_main_v66, ref_dout]
  rfl

theorem ref_dv (k : Fin 256) (c : Fin 1024) : val_main_v81 (F := Ideal) x0 x1 x3 x4 x5 x6 x7 (ix2 k c) = side (fun h l => ∑ r, pr (zq x0 x3 x4 r) (mat x1) (vec x5) h k * dout (mat x7 r) (mat x6) (hd h l)) c := by
  pointwise [val_main_v81, val_main_v80, val_main_v79, val_main_v77, ref_dout, ref_pr]
  exact Finset.sum_congr rfl fun r _ => mul_comm _ _

variable (R : Args x0 x1 x3 x4 x5)
include R

theorem ref_ds (r : Fin 8192) (h : Fin 4) (k : Fin 256) : val_main_v95 (F := Ideal) x0 x1 x2 x3 x4 x5 x6 x7 (ix3 h r k) = ds (mat x7 r) (zq x0 x3 x4 r) (mat x1) (mat x2) (vec x5) (mat x6) h k := by
  pointwise [val_main_v95, val_main_v94, val_main_v82, val_main_v83, val_main_v84, val_main_v85, val_main_v86, val_main_v87, val_main_v88, val_main_v89, val_main_v90, val_main_v91, val_main_v92, val_main_v93, val_main_v65, val_main_v64, val_main_v63, val_main_v60, val_main_v59, val_main_cst_16, val_main_cst_17, val_main_cst_18, val_main_cst_19, val_main_cst_20, ref_ex, ref_dp]
  simp only [Fin.sum_univ_one]
  exact congrArg (· * _) (Soft.back (ex (zq x0 x3 x4 r) (mat x1) (vec x5) h) (dp (mat x7 r) (mat x2) (mat x6) h) (ex_real R r h) k)

theorem ref_dk (k : Fin 256) (c : Fin 1024) : val_main_v100 (F := Ideal) x0 x1 x2 x3 x4 x5 x6 x7 (ix2 k c) = side (fun h l => ∑ r, ds (mat x7 r) (zq x0 x3 x4 r) (mat x1) (mat x2) (vec x5) (mat x6) h k * qh (zq x0 x3 x4 r) (vec x5) h l) c := by
  have h_ref_ds := ref_ds x0 x7 x1 x2 x3 x4 x6 x5 R
  pointwise [val_main_v100, val_main_v97, val_main_v96, h_ref_ds, ref_qh]
  rfl

theorem ref_dq (r : Fin 8192) (h : Fin 4) (l : Fin 256) : val_main_v99 (F := Ideal) x0 x1 x2 x3 x4 x5 x6 x7 (ix3 r h l) = dq (mat x7 r) (zq x0 x3 x4 r) (mat x1) (mat x2) (vec x5) (mat x6) h l := by
  have h_ref_ds := ref_ds x0 x7 x1 x2 x3 x4 x6 x5 R
  pointwise [val_main_v99, val_main_v98, val_main_v34, h_ref_ds]
  rfl

theorem ref_dqp (r : Fin 8192) (h : Fin 4) (l : Fin 256) : val_main_v120 (F := Ideal) x0 x1 x2 x3 x4 x5 x6 x7 (ix3 r h l) = dqp (mat x7 r) (zq x0 x3 x4 r) (mat x1) (mat x2) (vec x5) (mat x6) h l := by
  have h_ref_dq := ref_dq x0 x7 x1 x2 x3 x4 x6 x5 R
  pointwise [val_main_v120, val_main_v104, val_main_v105, val_main_v106, val_main_v107, val_main_v108, val_main_v109, val_main_v110, val_main_v111, val_main_v112, val_main_v113, val_main_v114, val_main_v115, val_main_v116, val_main_v117, val_main_v118, val_main_v119, val_main_v31, val_main_v25, val_main_v26, val_main_v24, val_main_v22, val_main_v23, val_main_v21, val_main_v20, val_main_v19, val_main_v18, val_main_v27, val_main_v28, val_main_cst_3, val_main_cst_4, val_main_cst_5, val_main_cst_6, val_main_cst_23, val_main_cst_24, val_main_cst_25, ref_zh, h_ref_dq]
  simp only [Fin.sum_univ_one]
  rfl

theorem ref_dqpr (r : Fin 8192) (c : Fin 1024) : val_main_v121 (F := Ideal) x0 x1 x2 x3 x4 x5 x6 x7 (ix2 r c) = side (dqp (mat x7 r) (zq x0 x3 x4 r) (mat x1) (mat x2) (vec x5) (mat x6)) c := by
  have h_ref_dqp := ref_dqp x0 x7 x1 x2 x3 x4 x6 x5 R
  pointwise [val_main_v121, h_ref_dqp]
  rfl

theorem ref_dwq (i j : Fin 1024) : val_main_v123 (F := Ideal) x0 x1 x2 x3 x4 x5 x6 x7 (ix2 i j) = ∑ r, hm (mat x0 r) (vec x3) i * side (dqp (mat x7 r) (zq x0 x3 x4 r) (mat x1) (mat x2) (vec x5) (mat x6)) j := by
  have h_ref_dqpr := ref_dqpr x0 x7 x1 x2 x3 x4 x6 x5 R
  pointwise [val_main_v123, val_main_v122, ref_hm, h_ref_dqpr]
  exact Finset.sum_congr rfl fun r _ => mul_comm _ _

theorem ref_dh (r : Fin 8192) (c : Fin 1024) : val_main_v124 (F := Ideal) x0 x1 x2 x3 x4 x5 x6 x7 (ix2 r c) = dh (mat x7 r) (zq x0 x3 x4 r) (mat x1) (mat x2) (mat x4) (vec x5) (mat x6) c := by
  have h_ref_dqpr := ref_dqpr x0 x7 x1 x2 x3 x4 x6 x5 R
  pointwise [val_main_v124, h_ref_dqpr]
  rfl

theorem ref_dg (u : Fin 1) (c : Fin 1024) : val_main_v146 (F := Ideal) x0 x1 x2 x3 x4 x5 x6 x7 (ix2 u c) = ∑ r, xh (mat x0 r) c * dh (mat x7 r) (zq x0 x3 x4 r) (mat x1) (mat x2) (mat x4) (vec x5) (mat x6) c := by
  have h_ref_dh := ref_dh x0 x7 x1 x2 x3 x4 x6 x5 R
  pointwise [val_main_v146, val_main_v130, val_main_v127, val_main_v126, val_main_v125, val_main_cst_26, val_main_cst_27, ref_xh, h_ref_dh]
  simp only [Fin.sum_univ_one]

theorem ref_dx1 (r : Fin 8192) (c : Fin 1024) : val_main_v145 (F := Ideal) x0 x1 x2 x3 x4 x5 x6 x7 (ix2 r c) = dx1 (mat x0 r) (mat x7 r) (zq x0 x3 x4 r) (mat x1) (mat x2) (vec x3) (mat x4) (vec x5) (mat x6) c := by
  have h_ref_dh := ref_dh x0 x7 x1 x2 x3 x4 x6 x5 R
  pointwise [val_main_v145, val_main_v13, val_main_v128, val_main_v129, val_main_v131, val_main_v132, val_main_v133, val_main_v134, val_main_v135, val_main_v136, val_main_v137, val_main_v138, val_main_v139, val_main_v140, val_main_v141, val_main_v142, val_main_v143, val_main_v144, val_main_v0, val_main_v1, val_main_v2, val_main_v3, val_main_v4, val_main_v5, val_main_v6, val_main_v7, val_main_v8, val_main_v9, val_main_v10, val_main_v11, val_main_v72, val_main_cst, val_main_cst_0, val_main_cst_1, val_main_cst_2, val_main_cst_28, val_main_cst_29, val_main_cst_30, h_ref_dh]
  simp only [Fin.sum_univ_one]
  exact add4 _ _ _ _

theorem ref_dqg (u : Fin 1) (l : Fin 256) : val_main_v147 (F := Ideal) x0 x1 x2 x3 x4 x5 x6 x7 (ix2 u l) = ∑ h, ∑ r, zn (zq x0 x3 x4 r) h l * dq (mat x7 r) (zq x0 x3 x4 r) (mat x1) (mat x2) (vec x5) (mat x6) h l := by
  pointwise [val_main_v147, val_main_v106, val_main_cst_22]
  rw [reduce_outer]
  pointwise [val_main_v103, val_main_v102, val_main_cst_21]
  rw [reduce_outer]
  have h_dq := ref_dq x0 x7 x1 x2 x3 x4 x6 x5 R
  pointwise [val_main_v101, ref_zn, h_dq]
  simp only [Fin.sum_univ_one]
  exact Finset.sum_comm

end Cert.XaVal

end
-- ==== Proof.Xa.Final.lean ====
/- The cross-attention gradient call against its reference: the arrays after the run are the reference's arrays. -/
module

public import proofs.«01_k».proof.Proof.Idx
public import proofs.«01_k».proof.Proof.Xa.Points
public import proofs.«01_k».proof.Proof.Xa.Ref
public import proofs.«01_k».proof.Proof.Gen.XaRefIdeal.Run
public import Idealize.ShloMosaic.Lib.StableHlo.ReadAt

@[expose] public section

set_option maxRecDepth 16384

noncomputable section

namespace Cert.XaVal

open Idealize.ShloMosaic Idealize.ShloMosaic.Pointwise Cert.Base Idealize.SL.Sem Cert.XaIdeal Cert.XaIdeal.Gen

variable (m : (ℓ : Loc nD τ sig) → Buf (Elt Ideal) ℓ) (c : Dev nD)

/-- A row of window 0's block at point `t` is the argument's row of that block. -/
theorem blk0 (t : Fin cfg0.N) (r : Fin 256) : mat (iblk m c 0 t) r = mat (m ((c.tc : Thread nD τ).loc main_arg0)) ⟨t.val * 256 + r.val, by have := lt_N t; omega⟩ := by
  have e : ∀ t : Fin cfg0.N, win0_0.index t = ![t.val, 0] := by decide +kernel
  funext l
  have ht := lt_N t
  have h : (win0_0.blk t).view.emb (ix2 r l) = ix2 (⟨t.val * 256 + r.val, by omega⟩ : Fin 8192) l := by blk_ext [e]
  unfold mat
  blk_simp [iblk]
  rw [V_main_arg0, h]

/-- A row of window 1's block at point `t` is the argument's row of that block. -/
theorem blk1 (t : Fin cfg0.N) (r : Fin 256) : mat (iblk m c 1 t) r = mat (m ((c.tc : Thread nD τ).loc main_arg7)) ⟨t.val * 256 + r.val, by have := lt_N t; omega⟩ := by
  have e : ∀ t : Fin cfg0.N, win0_1.index t = ![t.val, 0] := by decide +kernel
  funext l
  have ht := lt_N t
  have h : (win0_1.blk t).view.emb (ix2 r l) = ix2 (⟨t.val * 256 + r.val, by omega⟩ : Fin 8192) l := by blk_ext [e]
  unfold mat
  blk_simp [iblk]
  rw [V_main_arg7, h]

/-- Window 3's block at every point is the argument. -/
theorem blk3 (t : Fin cfg0.N) : iblk m c 3 t = (m ((c.tc : Thread nD τ).loc main_arg1)) := by
  have e : ∀ t : Fin cfg0.N, win0_3.index t = ![0, 0] := by decide +kernel
  funext x
  blk_simp [iblk]
  rw [V_main_arg1]
  refine congrArg _ ?_
  blk_ext [e]

/-- Window 4's block at every point is the argument. -/
theorem blk4 (t : Fin cfg0.N) : iblk m c 4 t = (m ((c.tc : Thread nD τ).loc main_arg2)) := by
  have e : ∀ t : Fin cfg0.N, win0_4.index t = ![0, 0] := by decide +kernel
  funext x
  blk_simp [iblk]
  rw [V_main_arg2]
  refine congrArg _ ?_
  blk_ext [e]

/-- Window 5's block at every point is a scale as a row. -/
theorem blk5 (t : Fin cfg0.N) : row (iblk m c 5 t) = vec (m ((c.tc : Thread nD τ).loc main_arg3)) := by
  have e : ∀ t : Fin cfg0.N, win0_5.index t = ![0, 0] := by decide +kernel
  funext l
  unfold row vec
  blk_simp [iblk]
  unfold V
  after_reads_at
  refine congrArg _ ?_
  blk_ext [e]

/-- Window 6's block at every point is the argument. -/
theorem blk6 (t : Fin cfg0.N) : iblk m c 6 t = (m ((c.tc : Thread nD τ).loc main_arg4)) := by
  have e : ∀ t : Fin cfg0.N, win0_6.index t = ![0, 0] := by decide +kernel
  funext x
  blk_simp [iblk]
  rw [V_main_arg4]
  refine congrArg _ ?_
  blk_ext [e]

/-- Window 7's block at every point is a scale as a row. -/
theorem blk7 (t : Fin cfg0.N) : row (iblk m c 7 t) = vec (m ((c.tc : Thread nD τ).loc main_arg5)) := by
  have e : ∀ t : Fin cfg0.N, win0_7.index t = ![0, 0] := by decide +kernel
  funext l
  unfold row vec
  blk_simp [iblk]
  unfold V
  after_reads_at
  refine congrArg _ ?_
  blk_ext [e]

/-- Window 8's block at every point is the argument. -/
theorem blk8 (t : Fin cfg0.N) : iblk m c 8 t = (m ((c.tc : Thread nD τ).loc main_arg6)) := by
  have e : ∀ t : Fin cfg0.N, win0_8.index t = ![0, 0] := by decide +kernel
  funext x
  blk_simp [iblk]
  rw [V_main_arg6]
  refine congrArg _ ?_
  blk_ext [e]
/-- A row of window 2's block is a row of queries before their norms. -/
theorem blk2 (t : Fin cfg0.N) (r : Fin 256) : mat (iblk m c 2 t) r = zq (m ((c.tc : Thread nD τ).loc main_arg0)) (m ((c.tc : Thread nD τ).loc main_arg3)) (m ((c.tc : Thread nD τ).loc main_arg4)) ⟨t.val * 256 + r.val, by have := lt_N t; omega⟩ := by
  have e : ∀ t : Fin cfg0.N, win0_2.index t = ![t.val, 0] := by decide +kernel
  funext l
  have ht := lt_N t
  have h : (win0_2.blk t).view.emb (ix2 r l) = ix2 (⟨t.val * 256 + r.val, by omega⟩ : Fin 8192) l := by blk_ext [e]
  unfold mat
  blk_simp [iblk]
  unfold V
  after_reads_at
  rw [h]
  pointwise []
  rfl

/-- The gradient of the rows, after the run. -/
theorem final9 (R : Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) : (dats m 0 c).arrAt 9 cfg0.N = Cert.XaRefIdeal.Read.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : ∀ t : Fin cfg0.N, win0_9.index t = ![t.val, 0] := by decide +kernel
  refine (dats m 0 c).arrAt_eq_of_covers 9 _ (by decide +kernel) fun t hf y => ?_
  blk_simp
  obtain ⟨r, l, rfl⟩ : ∃ (r : Fin 256) (l : Fin 1024), y = ix2 r l := idx2 y
  have ht := lt_N t
  have hy : (win0_9.blk t).view.emb (ix2 r l) = ix2 (⟨t.val * 256 + r.val, by omega⟩ : Fin 8192) l := by blk_ext [e]
  have hs : (outsAt0 m c t.val t.isLt).1 = t9 (iblk m c 0 t) (iblk m c 1 t) (iblk m c 2 t) (iblk m c 3 t) (iblk m c 4 t) (iblk m c 5 t) (iblk m c 6 t) (iblk m c 7 t) (iblk m c 8 t) := by
    by_cases h0 : t.val % 32 = 0
    · exact at_A0 m c t h0 (by omega) h0 (by omega) h0 (by omega) h0 (by omega) h0 (by omega) h0 (by omega)
    · exact at_B0 m c t h0 (by omega) h0 (by omega) h0 (by omega) h0 (by omega) h0 (by omega) h0 (by omega)
  rw [after0_9, hs, hy, kern_t9, blk0, blk1, blk2, blk3, blk4, blk5, blk6, blk7, blk8]
  exact (ref_dx1 (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg5)) R _ _).symm

theorem swap (f : Fin 32 → Fin 4 → EReal) : ∑ p, ∑ h, f p h = ∑ h, ∑ p, f p h := Finset.sum_comm

/-- One point's part of the gradient of the key heads. -/
def term10 (t : Fin cfg0.N) : S256x1024.Idx → EReal := t10 (iblk m c 1 t) (iblk m c 2 t) (iblk m c 3 t) (iblk m c 4 t) (iblk m c 7 t) (iblk m c 8 t)

/-- The same from the arguments. -/
theorem term10_eq (t : Fin cfg0.N) (i : Fin 256) (j : Fin 1024) : term10 m c t (ix2 i j)
    = side (fun h l => ∑ r : Fin 256, ds (mat (m ((c.tc : Thread nD τ).loc main_arg7)) ⟨t.val * 256 + r.val, by have := lt_N t; omega⟩) (zq (m ((c.tc : Thread nD τ).loc main_arg0)) (m ((c.tc : Thread nD τ).loc main_arg3)) (m ((c.tc : Thread nD τ).loc main_arg4)) ⟨t.val * 256 + r.val, by have := lt_N t; omega⟩) (mat (m ((c.tc : Thread nD τ).loc main_arg1))) (mat (m ((c.tc : Thread nD τ).loc main_arg2))) (vec (m ((c.tc : Thread nD τ).loc main_arg5))) (mat (m ((c.tc : Thread nD τ).loc main_arg6))) h i * qh (zq (m ((c.tc : Thread nD τ).loc main_arg0)) (m ((c.tc : Thread nD τ).loc main_arg3)) (m ((c.tc : Thread nD τ).loc main_arg4)) ⟨t.val * 256 + r.val, by have := lt_N t; omega⟩) (vec (m ((c.tc : Thread nD τ).loc main_arg5))) h l) j := by
  unfold term10
  rw [kern_t10, blk3, blk4, blk7, blk8]
  unfold side
  exact Finset.sum_congr rfl fun r _ => by rw [blk1, blk2]

/-- The running sum after the last point is the sum over all points. -/
theorem acc10 (t : Fin cfg0.N) (ht : t.val + 1 = 32) (i : S256x1024.Idx) :
    (outsAt0 m c t.val t.isLt).2.1 i = ∑ p : Fin 32, term10 m c (Fin.cast N_0.symm p) i := by
  have key := Pipeline.eq_sum_fin_of_reset_step_apply_last (N := 32) (M := EReal) (fun n h => (outsAt0 m c n (lt_of_lt_of_eq h N_0.symm)).2.1) 32 (fun _ => 0)
    (fun p => term10 m c (Fin.cast N_0.symm p)) ?_ ?_ (le_refl 32) ⟨t.val, lt_N t⟩ ht i
  · rw [zero_add] at key; exact key
  · intro n h0 i
    refine (congrFun (at_A1 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    rw [zero_add]
    rfl
  · intro n h0 i
    refine (congrFun (at_B1 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    obtain ⟨u, l, rfl⟩ := idx2 i
    exact step_t10 _ _ _ _ _ _ _ u l

/-- The gradient of the key heads, after the run. -/
theorem final10 (R : Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) : (dats m 0 c).arrAt 10 cfg0.N = Cert.XaRefIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : ∀ t : Fin cfg0.N, win0_10.index t = ![0, 0] := by decide +kernel
  have hl : ∀ t : Fin cfg0.N, (cfg0.win 10).flush t = true → t.val = 31 := by decide +kernel
  refine (dats m 0 c).arrAt_eq_of_covers 10 _ (by decide +kernel) fun t hf y => ?_
  blk_simp
  have h31 := hl t hf
  obtain ⟨i, j, rfl⟩ : ∃ (i : Fin 256) (j : Fin 1024), y = ix2 i j := idx2 y
  have hy : (win0_10.blk t).view.emb (ix2 i j) = ix2 i j := by blk_ext [e]
  rw [after0_10, hy, acc10 m c t (by omega), Finset.sum_congr rfl fun p _ => term10_eq m c (Fin.cast N_0.symm p) i j]
  refine Eq.trans ?_ (ref_dk (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg5)) R i j).symm
  obtain ⟨h, l, rfl⟩ := Cert.XaMemVal.hd_surj j
  simp only [side_hd]
  exact Fin.sum_mul_add_fin (L := 8192) 32 256 fun r => ds (mat (m ((c.tc : Thread nD τ).loc main_arg7)) r) (zq (m ((c.tc : Thread nD τ).loc main_arg0)) (m ((c.tc : Thread nD τ).loc main_arg3)) (m ((c.tc : Thread nD τ).loc main_arg4)) r) (mat (m ((c.tc : Thread nD τ).loc main_arg1))) (mat (m ((c.tc : Thread nD τ).loc main_arg2))) (vec (m ((c.tc : Thread nD τ).loc main_arg5))) (mat (m ((c.tc : Thread nD τ).loc main_arg6))) h i * qh (zq (m ((c.tc : Thread nD τ).loc main_arg0)) (m ((c.tc : Thread nD τ).loc main_arg3)) (m ((c.tc : Thread nD τ).loc main_arg4)) r) (vec (m ((c.tc : Thread nD τ).loc main_arg5))) h l

/-- One point's part of the gradient of the value heads. -/
def term11 (t : Fin cfg0.N) : S256x1024.Idx → EReal := t11 (iblk m c 1 t) (iblk m c 2 t) (iblk m c 3 t) (iblk m c 7 t) (iblk m c 8 t)

/-- The same from the arguments. -/
theorem term11_eq (t : Fin cfg0.N) (i : Fin 256) (j : Fin 1024) : term11 m c t (ix2 i j)
    = side (fun h l => ∑ r : Fin 256, pr (zq (m ((c.tc : Thread nD τ).loc main_arg0)) (m ((c.tc : Thread nD τ).loc main_arg3)) (m ((c.tc : Thread nD τ).loc main_arg4)) ⟨t.val * 256 + r.val, by have := lt_N t; omega⟩) (mat (m ((c.tc : Thread nD τ).loc main_arg1))) (vec (m ((c.tc : Thread nD τ).loc main_arg5))) h i * dout (mat (m ((c.tc : Thread nD τ).loc main_arg7)) ⟨t.val * 256 + r.val, by have := lt_N t; omega⟩) (mat (m ((c.tc : Thread nD τ).loc main_arg6))) (Cert.XaMemVal.hd h l)) j := by
  unfold term11
  rw [kern_t11, blk3, blk7, blk8]
  unfold side
  exact Finset.sum_congr rfl fun r _ => by rw [blk1, blk2]

/-- The running sum after the last point is the sum over all points. -/
theorem acc11 (t : Fin cfg0.N) (ht : t.val + 1 = 32) (i : S256x1024.Idx) :
    (outsAt0 m c t.val t.isLt).2.2.1 i = ∑ p : Fin 32, term11 m c (Fin.cast N_0.symm p) i := by
  have key := Pipeline.eq_sum_fin_of_reset_step_apply_last (N := 32) (M := EReal) (fun n h => (outsAt0 m c n (lt_of_lt_of_eq h N_0.symm)).2.2.1) 32 (fun _ => 0)
    (fun p => term11 m c (Fin.cast N_0.symm p)) ?_ ?_ (le_refl 32) ⟨t.val, lt_N t⟩ ht i
  · rw [zero_add] at key; exact key
  · intro n h0 i
    refine (congrFun (at_A2 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    rw [zero_add]
    rfl
  · intro n h0 i
    refine (congrFun (at_B2 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    obtain ⟨u, l, rfl⟩ := idx2 i
    exact step_t11 _ _ _ _ _ _ u l

/-- The gradient of the value heads, after the run. -/
theorem final11  : (dats m 0 c).arrAt 11 cfg0.N = Cert.XaRefIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : ∀ t : Fin cfg0.N, win0_11.index t = ![0, 0] := by decide +kernel
  have hl : ∀ t : Fin cfg0.N, (cfg0.win 11).flush t = true → t.val = 31 := by decide +kernel
  refine (dats m 0 c).arrAt_eq_of_covers 11 _ (by decide +kernel) fun t hf y => ?_
  blk_simp
  have h31 := hl t hf
  obtain ⟨i, j, rfl⟩ : ∃ (i : Fin 256) (j : Fin 1024), y = ix2 i j := idx2 y
  have hy : (win0_11.blk t).view.emb (ix2 i j) = ix2 i j := by blk_ext [e]
  rw [after0_11, hy, acc11 m c t (by omega), Finset.sum_congr rfl fun p _ => term11_eq m c (Fin.cast N_0.symm p) i j]
  refine Eq.trans ?_ (ref_dv (m ((c.tc : Thread nD τ).loc main_arg0)) (m ((c.tc : Thread nD τ).loc main_arg7)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg5)) i j).symm
  obtain ⟨h, l, rfl⟩ := Cert.XaMemVal.hd_surj j
  simp only [side_hd]
  exact Fin.sum_mul_add_fin (L := 8192) 32 256 fun r => pr (zq (m ((c.tc : Thread nD τ).loc main_arg0)) (m ((c.tc : Thread nD τ).loc main_arg3)) (m ((c.tc : Thread nD τ).loc main_arg4)) r) (mat (m ((c.tc : Thread nD τ).loc main_arg1))) (vec (m ((c.tc : Thread nD τ).loc main_arg5))) h i * dout (mat (m ((c.tc : Thread nD τ).loc main_arg7)) r) (mat (m ((c.tc : Thread nD τ).loc main_arg6))) (Cert.XaMemVal.hd h l)

/-- One point's part of the gradient of the query weight. -/
def term12 (t : Fin cfg0.N) : S1024x1024.Idx → EReal := t12 (iblk m c 0 t) (iblk m c 1 t) (iblk m c 2 t) (iblk m c 3 t) (iblk m c 4 t) (iblk m c 5 t) (iblk m c 7 t) (iblk m c 8 t)

/-- The same from the arguments. -/
theorem term12_eq (t : Fin cfg0.N) (i : Fin 1024) (j : Fin 1024) : term12 m c t (ix2 i j)
    = ∑ r : Fin 256, hm (mat (m ((c.tc : Thread nD τ).loc main_arg0)) ⟨t.val * 256 + r.val, by have := lt_N t; omega⟩) (vec (m ((c.tc : Thread nD τ).loc main_arg3))) i * side (dqp (mat (m ((c.tc : Thread nD τ).loc main_arg7)) ⟨t.val * 256 + r.val, by have := lt_N t; omega⟩) (zq (m ((c.tc : Thread nD τ).loc main_arg0)) (m ((c.tc : Thread nD τ).loc main_arg3)) (m ((c.tc : Thread nD τ).loc main_arg4)) ⟨t.val * 256 + r.val, by have := lt_N t; omega⟩) (mat (m ((c.tc : Thread nD τ).loc main_arg1))) (mat (m ((c.tc : Thread nD τ).loc main_arg2))) (vec (m ((c.tc : Thread nD τ).loc main_arg5))) (mat (m ((c.tc : Thread nD τ).loc main_arg6)))) j := by
  unfold term12
  rw [kern_t12, blk3, blk4, blk5, blk7, blk8]
  exact Finset.sum_congr rfl fun r _ => by rw [blk0, blk1, blk2]

/-- The running sum after the last point is the sum over all points. -/
theorem acc12 (t : Fin cfg0.N) (ht : t.val + 1 = 32) (i : S1024x1024.Idx) :
    (outsAt0 m c t.val t.isLt).2.2.2.1 i = ∑ p : Fin 32, term12 m c (Fin.cast N_0.symm p) i := by
  have key := Pipeline.eq_sum_fin_of_reset_step_apply_last (N := 32) (M := EReal) (fun n h => (outsAt0 m c n (lt_of_lt_of_eq h N_0.symm)).2.2.2.1) 32 (fun _ => 0)
    (fun p => term12 m c (Fin.cast N_0.symm p)) ?_ ?_ (le_refl 32) ⟨t.val, lt_N t⟩ ht i
  · rw [zero_add] at key; exact key
  · intro n h0 i
    refine (congrFun (at_A3 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    rw [zero_add]
    rfl
  · intro n h0 i
    refine (congrFun (at_B3 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    obtain ⟨u, l, rfl⟩ := idx2 i
    exact step_t12 _ _ _ _ _ _ _ _ _ u l

/-- The gradient of the query weight, after the run. -/
theorem final12 (R : Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) : (dats m 0 c).arrAt 12 cfg0.N = Cert.XaRefIdeal.Read.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : ∀ t : Fin cfg0.N, win0_12.index t = ![0, 0] := by decide +kernel
  have hl : ∀ t : Fin cfg0.N, (cfg0.win 12).flush t = true → t.val = 31 := by decide +kernel
  refine (dats m 0 c).arrAt_eq_of_covers 12 _ (by decide +kernel) fun t hf y => ?_
  blk_simp
  have h31 := hl t hf
  obtain ⟨i, j, rfl⟩ : ∃ (i : Fin 1024) (j : Fin 1024), y = ix2 i j := idx2 y
  have hy : (win0_12.blk t).view.emb (ix2 i j) = ix2 i j := by blk_ext [e]
  rw [after0_12, hy, acc12 m c t (by omega), Finset.sum_congr rfl fun p _ => term12_eq m c (Fin.cast N_0.symm p) i j]
  refine Eq.trans ?_ (ref_dwq (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg5)) R i j).symm
  exact Fin.sum_mul_add_fin (L := 8192) 32 256 fun r => hm (mat (m ((c.tc : Thread nD τ).loc main_arg0)) r) (vec (m ((c.tc : Thread nD τ).loc main_arg3))) i * side (dqp (mat (m ((c.tc : Thread nD τ).loc main_arg7)) r) (zq (m ((c.tc : Thread nD τ).loc main_arg0)) (m ((c.tc : Thread nD τ).loc main_arg3)) (m ((c.tc : Thread nD τ).loc main_arg4)) r) (mat (m ((c.tc : Thread nD τ).loc main_arg1))) (mat (m ((c.tc : Thread nD τ).loc main_arg2))) (vec (m ((c.tc : Thread nD τ).loc main_arg5))) (mat (m ((c.tc : Thread nD τ).loc main_arg6)))) j

/-- One point's part of the gradient of the output weight. -/
def term13 (t : Fin cfg0.N) : S1024x1024.Idx → EReal := t13 (iblk m c 1 t) (iblk m c 2 t) (iblk m c 3 t) (iblk m c 4 t) (iblk m c 7 t)

/-- The same from the arguments. -/
theorem term13_eq (t : Fin cfg0.N) (i : Fin 1024) (j : Fin 1024) : term13 m c t (ix2 i j)
    = ∑ r : Fin 256, side (out (zq (m ((c.tc : Thread nD τ).loc main_arg0)) (m ((c.tc : Thread nD τ).loc main_arg3)) (m ((c.tc : Thread nD τ).loc main_arg4)) ⟨t.val * 256 + r.val, by have := lt_N t; omega⟩) (mat (m ((c.tc : Thread nD τ).loc main_arg1))) (mat (m ((c.tc : Thread nD τ).loc main_arg2))) (vec (m ((c.tc : Thread nD τ).loc main_arg5)))) i * mat (m ((c.tc : Thread nD τ).loc main_arg7)) ⟨t.val * 256 + r.val, by have := lt_N t; omega⟩ j := by
  unfold term13
  rw [kern_t13, blk3, blk4, blk7]
  exact Finset.sum_congr rfl fun r _ => by rw [blk1, blk2]

/-- The running sum after the last point is the sum over all points. -/
theorem acc13 (t : Fin cfg0.N) (ht : t.val + 1 = 32) (i : S1024x1024.Idx) :
    (outsAt0 m c t.val t.isLt).2.2.2.2.1 i = ∑ p : Fin 32, term13 m c (Fin.cast N_0.symm p) i := by
  have key := Pipeline.eq_sum_fin_of_reset_step_apply_last (N := 32) (M := EReal) (fun n h => (outsAt0 m c n (lt_of_lt_of_eq h N_0.symm)).2.2.2.2.1) 32 (fun _ => 0)
    (fun p => term13 m c (Fin.cast N_0.symm p)) ?_ ?_ (le_refl 32) ⟨t.val, lt_N t⟩ ht i
  · rw [zero_add] at key; exact key
  · intro n h0 i
    refine (congrFun (at_A4 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    rw [zero_add]
    rfl
  · intro n h0 i
    refine (congrFun (at_B4 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    obtain ⟨u, l, rfl⟩ := idx2 i
    exact step_t13 _ _ _ _ _ _ u l

/-- The gradient of the output weight, after the run. -/
theorem final13  : (dats m 0 c).arrAt 13 cfg0.N = Cert.XaRefIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) := by
  have e : ∀ t : Fin cfg0.N, win0_13.index t = ![0, 0] := by decide +kernel
  have hl : ∀ t : Fin cfg0.N, (cfg0.win 13).flush t = true → t.val = 31 := by decide +kernel
  refine (dats m 0 c).arrAt_eq_of_covers 13 _ (by decide +kernel) fun t hf y => ?_
  blk_simp
  have h31 := hl t hf
  obtain ⟨i, j, rfl⟩ : ∃ (i : Fin 1024) (j : Fin 1024), y = ix2 i j := idx2 y
  have hy : (win0_13.blk t).view.emb (ix2 i j) = ix2 i j := by blk_ext [e]
  rw [after0_13, hy, acc13 m c t (by omega), Finset.sum_congr rfl fun p _ => term13_eq m c (Fin.cast N_0.symm p) i j]
  refine Eq.trans ?_ (ref_dwo (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i j).symm
  exact Fin.sum_mul_add_fin (L := 8192) 32 256 fun r => side (out (zq (m ((c.tc : Thread nD τ).loc main_arg0)) (m ((c.tc : Thread nD τ).loc main_arg3)) (m ((c.tc : Thread nD τ).loc main_arg4)) r) (mat (m ((c.tc : Thread nD τ).loc main_arg1))) (mat (m ((c.tc : Thread nD τ).loc main_arg2))) (vec (m ((c.tc : Thread nD τ).loc main_arg5)))) i * mat (m ((c.tc : Thread nD τ).loc main_arg7)) r j

/-- One point's part of the gradient of the norm weight. -/
def term14 (t : Fin cfg0.N) : S1x1024.Idx → EReal := t14 (iblk m c 0 t) (iblk m c 1 t) (iblk m c 2 t) (iblk m c 3 t) (iblk m c 4 t) (iblk m c 6 t) (iblk m c 7 t) (iblk m c 8 t)

/-- The same from the arguments. -/
theorem term14_eq (t : Fin cfg0.N) (u : Fin 1) (j : Fin 1024) : term14 m c t (ix2 u j)
    = ∑ r : Fin 256, xh (mat (m ((c.tc : Thread nD τ).loc main_arg0)) ⟨t.val * 256 + r.val, by have := lt_N t; omega⟩) j * dh (mat (m ((c.tc : Thread nD τ).loc main_arg7)) ⟨t.val * 256 + r.val, by have := lt_N t; omega⟩) (zq (m ((c.tc : Thread nD τ).loc main_arg0)) (m ((c.tc : Thread nD τ).loc main_arg3)) (m ((c.tc : Thread nD τ).loc main_arg4)) ⟨t.val * 256 + r.val, by have := lt_N t; omega⟩) (mat (m ((c.tc : Thread nD τ).loc main_arg1))) (mat (m ((c.tc : Thread nD τ).loc main_arg2))) (mat (m ((c.tc : Thread nD τ).loc main_arg4))) (vec (m ((c.tc : Thread nD τ).loc main_arg5))) (mat (m ((c.tc : Thread nD τ).loc main_arg6))) j := by
  unfold term14
  rw [kern_t14, blk3, blk4, blk6, blk7, blk8]
  exact Finset.sum_congr rfl fun r _ => by rw [blk0, blk1, blk2]

/-- The running sum after the last point is the sum over all points. -/
theorem acc14 (t : Fin cfg0.N) (ht : t.val + 1 = 32) (i : S1x1024.Idx) :
    (outsAt0 m c t.val t.isLt).2.2.2.2.2.1 i = ∑ p : Fin 32, term14 m c (Fin.cast N_0.symm p) i := by
  have key := Pipeline.eq_sum_fin_of_reset_step_apply_last (N := 32) (M := EReal) (fun n h => (outsAt0 m c n (lt_of_lt_of_eq h N_0.symm)).2.2.2.2.2.1) 32 (fun _ => 0)
    (fun p => term14 m c (Fin.cast N_0.symm p)) ?_ ?_ (le_refl 32) ⟨t.val, lt_N t⟩ ht i
  · rw [zero_add] at key; exact key
  · intro n h0 i
    refine (congrFun (at_A5 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    rw [zero_add]
    rfl
  · intro n h0 i
    refine (congrFun (at_B5 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    obtain ⟨u, l, rfl⟩ := idx2 i
    exact step_t14 _ _ _ _ _ _ _ _ _ u l

/-- The gradient of the norm weight, after the run. -/
theorem final14 (R : Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) : (dats m 0 c).arrAt 14 cfg0.N = Cert.XaRefIdeal.Read.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : ∀ t : Fin cfg0.N, win0_14.index t = ![0, 0] := by decide +kernel
  have hl : ∀ t : Fin cfg0.N, (cfg0.win 14).flush t = true → t.val = 31 := by decide +kernel
  refine (dats m 0 c).arrAt_eq_of_covers 14 _ (by decide +kernel) fun t hf y => ?_
  blk_simp
  have h31 := hl t hf
  obtain ⟨i, j, rfl⟩ : ∃ (i : Fin 1) (j : Fin 1024), y = ix2 i j := idx2 y
  have hy : (win0_14.blk t).view.emb (ix2 i j) = ix2 i j := by blk_ext [e]
  rw [after0_14, hy, acc14 m c t (by omega), Finset.sum_congr rfl fun p _ => term14_eq m c (Fin.cast N_0.symm p) i j]
  refine Eq.trans ?_ (ref_dg (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg5)) R i j).symm
  exact Fin.sum_mul_add_fin (L := 8192) 32 256 fun r => xh (mat (m ((c.tc : Thread nD τ).loc main_arg0)) r) j * dh (mat (m ((c.tc : Thread nD τ).loc main_arg7)) r) (zq (m ((c.tc : Thread nD τ).loc main_arg0)) (m ((c.tc : Thread nD τ).loc main_arg3)) (m ((c.tc : Thread nD τ).loc main_arg4)) r) (mat (m ((c.tc : Thread nD τ).loc main_arg1))) (mat (m ((c.tc : Thread nD τ).loc main_arg2))) (mat (m ((c.tc : Thread nD τ).loc main_arg4))) (vec (m ((c.tc : Thread nD τ).loc main_arg5))) (mat (m ((c.tc : Thread nD τ).loc main_arg6))) j

/-- One point's part of the gradient of the query norm weight. -/
def term15 (t : Fin cfg0.N) : S1x256.Idx → EReal := t15 (iblk m c 1 t) (iblk m c 2 t) (iblk m c 3 t) (iblk m c 4 t) (iblk m c 7 t) (iblk m c 8 t)

/-- The same from the arguments. -/
theorem term15_eq (t : Fin cfg0.N) (u : Fin 1) (j : Fin 256) : term15 m c t (ix2 u j)
    = ∑ h, ∑ r : Fin 256, zn (zq (m ((c.tc : Thread nD τ).loc main_arg0)) (m ((c.tc : Thread nD τ).loc main_arg3)) (m ((c.tc : Thread nD τ).loc main_arg4)) ⟨t.val * 256 + r.val, by have := lt_N t; omega⟩) h j * dq (mat (m ((c.tc : Thread nD τ).loc main_arg7)) ⟨t.val * 256 + r.val, by have := lt_N t; omega⟩) (zq (m ((c.tc : Thread nD τ).loc main_arg0)) (m ((c.tc : Thread nD τ).loc main_arg3)) (m ((c.tc : Thread nD τ).loc main_arg4)) ⟨t.val * 256 + r.val, by have := lt_N t; omega⟩) (mat (m ((c.tc : Thread nD τ).loc main_arg1))) (mat (m ((c.tc : Thread nD τ).loc main_arg2))) (vec (m ((c.tc : Thread nD τ).loc main_arg5))) (mat (m ((c.tc : Thread nD τ).loc main_arg6))) h j := by
  unfold term15
  rw [kern_t15, blk3, blk4, blk7, blk8]
  exact Finset.sum_congr rfl fun h _ => Finset.sum_congr rfl fun r _ => by rw [blk1, blk2]

/-- The running sum after the last point is the sum over all points. -/
theorem acc15 (t : Fin cfg0.N) (ht : t.val + 1 = 32) (i : S1x256.Idx) :
    (outsAt0 m c t.val t.isLt).2.2.2.2.2.2 i = ∑ p : Fin 32, term15 m c (Fin.cast N_0.symm p) i := by
  have key := Pipeline.eq_sum_fin_of_reset_step_apply_last (N := 32) (M := EReal) (fun n h => (outsAt0 m c n (lt_of_lt_of_eq h N_0.symm)).2.2.2.2.2.2) 32 (fun _ => 0)
    (fun p => term15 m c (Fin.cast N_0.symm p)) ?_ ?_ (le_refl 32) ⟨t.val, lt_N t⟩ ht i
  · rw [zero_add] at key; exact key
  · intro n h0 i
    refine (congrFun (at_A6 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    rw [zero_add]
    rfl
  · intro n h0 i
    refine (congrFun (at_B6 m c (Fin.cast N_0.symm n) h0 (by simp only [Fin.val_cast]; omega) h0 (by simp only [Fin.val_cast]; omega) h0 (by simp only [Fin.val_cast]; omega) h0 (by simp only [Fin.val_cast]; omega) h0 (by simp only [Fin.val_cast]; omega) h0 (by simp only [Fin.val_cast]; omega)) i).trans ?_
    obtain ⟨u, l, rfl⟩ := idx2 i
    exact step_t15 _ _ _ _ _ _ _ u l

/-- The gradient of the query norm weight, after the run. -/
theorem final15 (R : Args (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) : (dats m 0 c).arrAt 15 cfg0.N = Cert.XaRefIdeal.Read.val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : ∀ t : Fin cfg0.N, win0_15.index t = ![0, 0] := by decide +kernel
  have hl : ∀ t : Fin cfg0.N, (cfg0.win 15).flush t = true → t.val = 31 := by decide +kernel
  refine (dats m 0 c).arrAt_eq_of_covers 15 _ (by decide +kernel) fun t hf y => ?_
  blk_simp
  have h31 := hl t hf
  obtain ⟨i, j, rfl⟩ : ∃ (i : Fin 1) (j : Fin 256), y = ix2 i j := idx2 y
  have hy : (win0_15.blk t).view.emb (ix2 i j) = ix2 i j := by blk_ext [e]
  rw [after0_15, hy, acc15 m c t (by omega), Finset.sum_congr rfl fun p _ => term15_eq m c (Fin.cast N_0.symm p) i j]
  refine Eq.trans ?_ (ref_dqg (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg5)) R i j).symm
  refine (swap _).trans ?_
  exact Finset.sum_congr rfl fun h _ => Fin.sum_mul_add_fin (L := 8192) 32 256 fun r => zn (zq (m ((c.tc : Thread nD τ).loc main_arg0)) (m ((c.tc : Thread nD τ).loc main_arg3)) (m ((c.tc : Thread nD τ).loc main_arg4)) r) h j * dq (mat (m ((c.tc : Thread nD τ).loc main_arg7)) r) (zq (m ((c.tc : Thread nD τ).loc main_arg0)) (m ((c.tc : Thread nD τ).loc main_arg3)) (m ((c.tc : Thread nD τ).loc main_arg4)) r) (mat (m ((c.tc : Thread nD τ).loc main_arg1))) (mat (m ((c.tc : Thread nD τ).loc main_arg2))) (vec (m ((c.tc : Thread nD τ).loc main_arg5))) (mat (m ((c.tc : Thread nD τ).loc main_arg6))) h j

end Cert.XaVal

end
-- ==== Proof.Xa.Claims.lean ====
/- The claims about the cross-attention gradient call and its reference. -/
module

public import proofs.«01_k».proof.Defs
public import proofs.«01_k».proof.Proof.Xa.Final
public import proofs.«01_k».proof.Proof.Gen.Xa.Frame
public import Idealize.ShloMosaic.Adequacy
public import Idealize.ShloMosaic.Init
public import Idealize.ShloMosaic.Lib.ReduceAll

@[expose] public section

noncomputable section

namespace Cert.XaVal

open Idealize.ShloMosaic Idealize.SL.Sem Idealize.ShloMosaic.Pointwise Cert.Fin

/-- The call's frame. -/
theorem frame_kernel : Cert.quiescent_Xa := fun m ρ _ => Cert.Xa.Gen.frame m ρ

/-- Its frame over the extended reals. -/
theorem frame_ideal : Cert.quiescent_XaIdeal := fun m ρ _ => Cert.XaIdeal.Gen.frame m ρ

/-- The precondition's own side conditions. -/
instance finite_facts : Cert.Pre_finite_xa.Facts := by constructor <;> decide

theorem frame_ideal_pre : Cert.quiescent_XaIdeal_pre_finite_xa := fun m ρ _ => Cert.XaIdeal.Gen.frame m ρ

/-- No operation is rewritten. -/
theorem preserves : Cert.preserves_Xa_XaIdeal := trivial

/-- The reference leaves its arguments and, having no semaphore, every counter at zero. -/
theorem frame_ref : Cert.quiescent_XaRefIdeal := fun m ρ _ =>
  (θ_run Cert.XaRefIdeal.defs _ _).mono (fun r h => ⟨fun c => (h c).2.2.2.2.2.2.2, sem_eq_zero_of_no_sems (by decide) r.2⟩)
    (Cert.XaRefIdeal.Value.run (F := Ideal) m ρ)

theorem frame_ref_pre : Cert.quiescent_XaRefIdeal_pre_finite_xa := fun m ρ _ => frame_ref m ρ trivial

/-- Finite arguments are arrays of reals. -/
theorem reals_of (a0 : Vec Ideal Cert.XaIdeal.S8192x1024 .f32) (a1 : Vec Ideal Cert.XaIdeal.S256x1024 .f32) (a2 : Vec Ideal Cert.XaIdeal.S256x1024 .f32) (a3 : Vec Ideal Cert.XaIdeal.S1024 .f32) (a4 : Vec Ideal Cert.XaIdeal.S1024x1024 .f32) (a5 : Vec Ideal Cert.XaIdeal.S256 .f32) (a6 : Vec Ideal Cert.XaIdeal.S1024x1024 .f32) (a7 : Vec Ideal Cert.XaIdeal.S8192x1024 .f32) (h : Cert.Pre_finite_xa.fn (F := Ideal) a0 a1 a2 a3 a4 a5 a6 a7 = (fun _ => 1#1)) :
    Args a0 a1 a3 a4 a5 := by
  have h0 := congrFun h ix0
  have two : ∀ a b : BitVec 1, IntOp.andi a b = 1#1 → a = 1#1 ∧ b = 1#1 := by decide
  simp only [Cert.Pre_finite_xa.fn, Cert.Pre_finite_xa.fn_part1] at h0
  obtain ⟨h0, q4⟩ := two _ _ h0
  obtain ⟨h0, q3⟩ := two _ _ h0
  obtain ⟨h0, q2⟩ := two _ _ h0
  obtain ⟨h0, q1⟩ := two _ _ h0
  have one : ∀ j : Cert.XaIdeal.S_.Idx, j = ix0 := fun j => funext fun c => c.elim0
  exact ⟨fun r l => of_cmp (Host.reduce_andi_all _ _ _ _ _ h0 (ix2 r l)), fun r l => of_cmp (Host.reduce_andi_all _ _ _ _ _ q1 (ix2 r l)), fun l => of_cmp (Host.reduce_andi_all _ _ _ _ _ q2 (ix1 l)), fun r l => of_cmp (Host.reduce_andi_all _ _ _ _ _ q3 (ix2 r l)), fun l => of_cmp (Host.reduce_andi_all _ _ _ _ _ q4 (ix1 l))⟩

set_option maxHeartbeats 2000000 in
/-- The call and the reference compute the same seven gradients over the extended reals, where the arguments of the scores are finite. -/
theorem algebraic : Cert.algebraic_XaIdeal_XaRefIdeal_pre_finite_xa := by
  intro m ρ m' ρ' hp hag
  refine ⟨fun c => (Cert.XaIdeal.Gen.dats m 0 c).arrAt 9 Cert.XaIdeal.cfg0.N, fun c => (Cert.XaIdeal.Gen.dats m 0 c).arrAt 10 Cert.XaIdeal.cfg0.N, fun c => (Cert.XaIdeal.Gen.dats m 0 c).arrAt 11 Cert.XaIdeal.cfg0.N, fun c => (Cert.XaIdeal.Gen.dats m 0 c).arrAt 14 Cert.XaIdeal.cfg0.N, fun c => (Cert.XaIdeal.Gen.dats m 0 c).arrAt 12 Cert.XaIdeal.cfg0.N, fun c => (Cert.XaIdeal.Gen.dats m 0 c).arrAt 15 Cert.XaIdeal.cfg0.N, fun c => (Cert.XaIdeal.Gen.dats m 0 c).arrAt 13 Cert.XaIdeal.cfg0.N,
    (θ_run Cert.XaIdeal.defs _ _).mono (fun _ h c => by
      obtain ⟨a9, a10, a11, a12, a13, a14, a15, k⟩ := h c
      exact ⟨a9, a10, a11, a14, a12, a15, a13, k⟩) (Cert.XaIdeal.Value.run_blocks m ρ),
    (θ_run Cert.XaRefIdeal.defs _ _).mono (fun r h c => ?_) (Cert.XaRefIdeal.Value.run (F := Ideal) m' ρ')⟩
  obtain ⟨h0, h1, h2, h3, h4, h5, h6, hk⟩ := h c
  obtain ⟨e0, e1, e2, e3, e4, e5, e6, e7⟩ := hag c
  have R := reals_of _ _ _ _ _ _ _ _ (hp c)
  refine ⟨h0.trans ?_, h1.trans ?_, h2.trans ?_, h3.trans ?_, h4.trans ?_, h5.trans ?_, h6.trans ?_, hk⟩
  · refine (Cert.XaRefIdeal.Read.val_main_v145_eq _).trans ?_
    show Cert.XaRefIdeal.Read.val_main_v145 (F := Ideal) (m' (c.tc.loc Cert.XaRefIdeal.main_arg0)) (m' (c.tc.loc Cert.XaRefIdeal.main_arg1)) (m' (c.tc.loc Cert.XaRefIdeal.main_arg2)) (m' (c.tc.loc Cert.XaRefIdeal.main_arg3)) (m' (c.tc.loc Cert.XaRefIdeal.main_arg4)) (m' (c.tc.loc Cert.XaRefIdeal.main_arg5)) (m' (c.tc.loc Cert.XaRefIdeal.main_arg6)) (m' (c.tc.loc Cert.XaRefIdeal.main_arg7)) = _
    rw [e0, e1, e2, e3, e4, e5, e6, e7]; exact (final9 m c R).symm
  · refine (Cert.XaRefIdeal.Read.val_main_v100_eq _).trans ?_
    show Cert.XaRefIdeal.Read.val_main_v100 (F := Ideal) (m' (c.tc.loc Cert.XaRefIdeal.main_arg0)) (m' (c.tc.loc Cert.XaRefIdeal.main_arg1)) (m' (c.tc.loc Cert.XaRefIdeal.main_arg2)) (m' (c.tc.loc Cert.XaRefIdeal.main_arg3)) (m' (c.tc.loc Cert.XaRefIdeal.main_arg4)) (m' (c.tc.loc Cert.XaRefIdeal.main_arg5)) (m' (c.tc.loc Cert.XaRefIdeal.main_arg6)) (m' (c.tc.loc Cert.XaRefIdeal.main_arg7)) = _
    rw [e0, e1, e2, e3, e4, e5, e6, e7]; exact (final10 m c R).symm
  · refine (Cert.XaRefIdeal.Read.val_main_v81_eq _).trans ?_
    show Cert.XaRefIdeal.Read.val_main_v81 (F := Ideal) (m' (c.tc.loc Cert.XaRefIdeal.main_arg0)) (m' (c.tc.loc Cert.XaRefIdeal.main_arg1)) (m' (c.tc.loc Cert.XaRefIdeal.main_arg3)) (m' (c.tc.loc Cert.XaRefIdeal.main_arg4)) (m' (c.tc.loc Cert.XaRefIdeal.main_arg5)) (m' (c.tc.loc Cert.XaRefIdeal.main_arg6)) (m' (c.tc.loc Cert.XaRefIdeal.main_arg7)) = _
    rw [e0, e1, e3, e4, e5, e6, e7]; exact (final11 m c).symm
  · refine (Cert.XaRefIdeal.Read.val_main_v146_eq _).trans ?_
    show Cert.XaRefIdeal.Read.val_main_v146 (F := Ideal) (m' (c.tc.loc Cert.XaRefIdeal.main_arg0)) (m' (c.tc.loc Cert.XaRefIdeal.main_arg1)) (m' (c.tc.loc Cert.XaRefIdeal.main_arg2)) (m' (c.tc.loc Cert.XaRefIdeal.main_arg3)) (m' (c.tc.loc Cert.XaRefIdeal.main_arg4)) (m' (c.tc.loc Cert.XaRefIdeal.main_arg5)) (m' (c.tc.loc Cert.XaRefIdeal.main_arg6)) (m' (c.tc.loc Cert.XaRefIdeal.main_arg7)) = _
    rw [e0, e1, e2, e3, e4, e5, e6, e7]; exact (final14 m c R).symm
  · refine (Cert.XaRefIdeal.Read.val_main_v123_eq _).trans ?_
    show Cert.XaRefIdeal.Read.val_main_v123 (F := Ideal) (m' (c.tc.loc Cert.XaRefIdeal.main_arg0)) (m' (c.tc.loc Cert.XaRefIdeal.main_arg1)) (m' (c.tc.loc Cert.XaRefIdeal.main_arg2)) (m' (c.tc.loc Cert.XaRefIdeal.main_arg3)) (m' (c.tc.loc Cert.XaRefIdeal.main_arg4)) (m' (c.tc.loc Cert.XaRefIdeal.main_arg5)) (m' (c.tc.loc Cert.XaRefIdeal.main_arg6)) (m' (c.tc.loc Cert.XaRefIdeal.main_arg7)) = _
    rw [e0, e1, e2, e3, e4, e5, e6, e7]; exact (final12 m c R).symm
  · refine (Cert.XaRefIdeal.Read.val_main_v147_eq _).trans ?_
    show Cert.XaRefIdeal.Read.val_main_v147 (F := Ideal) (m' (c.tc.loc Cert.XaRefIdeal.main_arg0)) (m' (c.tc.loc Cert.XaRefIdeal.main_arg1)) (m' (c.tc.loc Cert.XaRefIdeal.main_arg2)) (m' (c.tc.loc Cert.XaRefIdeal.main_arg3)) (m' (c.tc.loc Cert.XaRefIdeal.main_arg4)) (m' (c.tc.loc Cert.XaRefIdeal.main_arg5)) (m' (c.tc.loc Cert.XaRefIdeal.main_arg6)) (m' (c.tc.loc Cert.XaRefIdeal.main_arg7)) = _
    rw [e0, e1, e2, e3, e4, e5, e6, e7]; exact (final15 m c R).symm
  · refine (Cert.XaRefIdeal.Read.val_main_v74_eq _).trans ?_
    show Cert.XaRefIdeal.Read.val_main_v74 (F := Ideal) (m' (c.tc.loc Cert.XaRefIdeal.main_arg0)) (m' (c.tc.loc Cert.XaRefIdeal.main_arg1)) (m' (c.tc.loc Cert.XaRefIdeal.main_arg2)) (m' (c.tc.loc Cert.XaRefIdeal.main_arg3)) (m' (c.tc.loc Cert.XaRefIdeal.main_arg4)) (m' (c.tc.loc Cert.XaRefIdeal.main_arg5)) (m' (c.tc.loc Cert.XaRefIdeal.main_arg7)) = _
    rw [e0, e1, e2, e3, e4, e5, e7]; exact (final13 m c).symm

end Cert.XaVal

end
-- ==== Proof.Ffn.Math.lean ====
/- The gradient of a gated feed-forward layer, as functions of one row over the extended reals. -/
module

public import proofs.«01_k».proof.Proof.Loss.Math
public import proofs.«01_k».proof.Proof.Rms

@[expose] public section

noncomputable section

namespace Cert.FfnVal

open Idealize.ShloMosaic Cert.LossVal

variable (wi : Fin 1024 → Fin 5632 → EReal) (wo : Fin 2816 → Fin 1024 → EReal) (g x z : Fin 1024 → EReal) (G : Fin 5632 → EReal)

/-- The cotangent `z` of the output sent back through the second weight. -/
def ct (c : Fin 2816) : EReal := ∑ l, z l * wo c l

/-- The gradient of the gate's column `c`. -/
def dgate (c : Fin 2816) : EReal :=
  ct wo z c * G ⟨2816 + c.val, by omega⟩ * sg (G ⟨c.val, by omega⟩)
    + G ⟨c.val, by omega⟩ * (ct wo z c * G ⟨2816 + c.val, by omega⟩) * (sg (G ⟨c.val, by omega⟩) * (1 - sg (G ⟨c.val, by omega⟩)))

/-- The gradient of the column the gate multiplies. -/
def dup (c : Fin 2816) : EReal := G ⟨c.val, by omega⟩ * sg (G ⟨c.val, by omega⟩) * ct wo z c

/-- Both side by side. -/
def dgu (j : Fin 5632) : EReal := if h : j.val < 2816 then dgate wo z G ⟨j.val, h⟩ else dup wo z G ⟨j.val - 2816, by omega⟩

/-- The gradient of the normed row. -/
def dn (l : Fin 1024) : EReal := ∑ c, dgu wo z G c * wi l c

/-- A row's part of the gradient of the norm's weight. -/
def dw (l : Fin 1024) : EReal := x l * Rms.inv 1149239296#32 x * dn wi wo z G l

/-- The gradient of the layer's input. -/
def dx (l : Fin 1024) : EReal := z l + Rms.back 1149239296#32 x (fun k => dn wi wo z G k * g k) l

/-- The logistic function's derivative in the form of its quotient. -/
theorem sg_quot (y : EReal) : Ideal.div 1 ((1 + Ideal.exp (-y)) * (1 + Ideal.exp (-y))) * Ideal.exp (-y) = sg y * (1 - sg y) := by
  unfold sg
  induction y with
  | bot =>
    have h : (1 : EReal) + ⊤ = ⊤ := rfl
    simp [Ideal.div, Ideal.exp_top, h]
  | top =>
    have h : (1 : EReal) - 1 = 0 := EReal.sub_self (by decide) (by decide)
    simp [Ideal.div, Ideal.exp_bot, h]
  | coe r =>
    have hp : 0 < 1 + Real.exp (-r) := by positivity
    have e2 : Ideal.exp (-(r : EReal)) = ((Real.exp (-r) : ℝ) : EReal) := by
      rw [← EReal.coe_neg]; rfl
    have e1 : (1 : EReal) + Ideal.exp (-(r : EReal)) = ((1 + Real.exp (-r) : ℝ) : EReal) := by
      rw [e2, EReal.coe_add, EReal.coe_one]
    have d : ∀ {q : ℝ}, q ≠ 0 → Ideal.div 1 (q : EReal) = ((q⁻¹ : ℝ) : EReal) := fun {q} hq => by
      rw [Ideal.div, if_neg (by exact_mod_cast hq), one_mul, EReal.coe_inv]
    rw [e1, e2, ← EReal.coe_mul, d (mul_pos hp hp).ne', d hp.ne', ← EReal.coe_one, ← EReal.coe_sub, ← EReal.coe_mul, ← EReal.coe_mul]
    congr 1
    field_simp
    ring

/-- The same inside the two differences with which a quotient's derivative is written. -/
theorem sg_back (a y : EReal) : -(-(a * Ideal.div 1 ((1 + Ideal.exp (-y)) * (1 + Ideal.exp (-y)))) * Ideal.exp (-y)) = a * (sg y * (1 - sg y)) := by
  rw [EReal.neg_mul, neg_neg, mul_assoc, sg_quot]

end Cert.FfnVal

end
-- ==== Proof.Ffn.Terms.lean ====
/- The arrays the feed-forward gradient call's body writes at a point, from the blocks it reads: the rows `x0`, the cotangent `x1`, the gate's
   product `x2`, the norm's weight `x3` and the two weights `x4`, `x5`. -/
module

public import proofs.«01_k».proof.Proof.Base
public import proofs.«01_k».proof.Proof.Gen.FfnIdeal.Skeleton
public import Idealize.ShloMosaic.Lib.Pipeline.ValueKit

@[expose] public section

set_option maxRecDepth 16384

noncomputable section

namespace Cert.FfnVal

open Idealize.ShloMosaic Cert.FfnIdeal Cert.FfnIdeal.Gen

variable (x0 : Vec Ideal S256x1024 .f32) (x1 : Vec Ideal S256x1024 .f32) (x2 : Vec Ideal S256x5632 .bf16) (x3 : Vec Ideal S1x1024 .f32)
  (x4 : Vec Ideal S5632x1024 .f32) (x5 : Vec Ideal S2816x1024 .f32)

/-- The gradient of the layer's input. -/
def t6 : Vec Ideal S256x1024 .f32 := k0_pay18 (F := Ideal) x1 x0 (k0_pay2 x3) (k0_pay4 x0) (k0_pay5 x0) (k0_pay7 (View.ld x2 (Rect.unit ![0, 0] ![256, 2816] inb_S256x5632_S256x2816_0_0))) (k0_pay8 (View.ld x2 (Rect.unit ![0, 2816] ![256, 2816] inb_S256x5632_S256x2816_0_2816))) (k0_pay9 (View.ld x2 (Rect.unit ![0, 0] ![256, 2816] inb_S256x5632_S256x2816_0_0))) (k0_pay11 (View.ld x2 (Rect.unit ![0, 0] ![256, 2816] inb_S256x5632_S256x2816_0_0))) (k0_pay12 (View.ld x2 (Rect.unit ![0, 0] ![256, 2816] inb_S256x5632_S256x2816_0_0))) (k0_pay13 (View.ld x2 (Rect.unit ![0, 0] ![256, 2816] inb_S256x5632_S256x2816_0_0))) (k0_pay14 x1 x5) x4

/-- The gradient of the product with the first weight. -/
def t7 : Vec Ideal S256x5632 .bf16 := k0_pay15 (F := Ideal) (k0_pay7 (View.ld x2 (Rect.unit ![0, 0] ![256, 2816] inb_S256x5632_S256x2816_0_0))) (k0_pay8 (View.ld x2 (Rect.unit ![0, 2816] ![256, 2816] inb_S256x5632_S256x2816_0_2816))) (k0_pay9 (View.ld x2 (Rect.unit ![0, 0] ![256, 2816] inb_S256x5632_S256x2816_0_0))) (k0_pay11 (View.ld x2 (Rect.unit ![0, 0] ![256, 2816] inb_S256x5632_S256x2816_0_0))) (k0_pay12 (View.ld x2 (Rect.unit ![0, 0] ![256, 2816] inb_S256x5632_S256x2816_0_0))) (k0_pay13 (View.ld x2 (Rect.unit ![0, 0] ![256, 2816] inb_S256x5632_S256x2816_0_0))) (k0_pay14 x1 x5)

/-- The gradient of the normed rows. -/
def tn : Vec Ideal S256x1024 .f32 := k0_pay16 (F := Ideal) (k0_pay7 (View.ld x2 (Rect.unit ![0, 0] ![256, 2816] inb_S256x5632_S256x2816_0_0))) (k0_pay8 (View.ld x2 (Rect.unit ![0, 2816] ![256, 2816] inb_S256x5632_S256x2816_0_2816))) (k0_pay9 (View.ld x2 (Rect.unit ![0, 0] ![256, 2816] inb_S256x5632_S256x2816_0_0))) (k0_pay11 (View.ld x2 (Rect.unit ![0, 0] ![256, 2816] inb_S256x5632_S256x2816_0_0))) (k0_pay12 (View.ld x2 (Rect.unit ![0, 0] ![256, 2816] inb_S256x5632_S256x2816_0_0))) (k0_pay13 (View.ld x2 (Rect.unit ![0, 0] ![256, 2816] inb_S256x5632_S256x2816_0_0))) (k0_pay14 x1 x5) x4

/-- The block's part of the gradient of the norm's weight. -/
def t8 : Vec Ideal S1x1024 .f32 := k0_pay17 (F := Ideal) (k0_pay6 x0) (k0_pay7 (View.ld x2 (Rect.unit ![0, 0] ![256, 2816] inb_S256x5632_S256x2816_0_0))) (k0_pay8 (View.ld x2 (Rect.unit ![0, 2816] ![256, 2816] inb_S256x5632_S256x2816_0_2816))) (k0_pay9 (View.ld x2 (Rect.unit ![0, 0] ![256, 2816] inb_S256x5632_S256x2816_0_0))) (k0_pay11 (View.ld x2 (Rect.unit ![0, 0] ![256, 2816] inb_S256x5632_S256x2816_0_0))) (k0_pay12 (View.ld x2 (Rect.unit ![0, 0] ![256, 2816] inb_S256x5632_S256x2816_0_0))) (k0_pay13 (View.ld x2 (Rect.unit ![0, 0] ![256, 2816] inb_S256x5632_S256x2816_0_0))) (k0_pay14 x1 x5) x4

/-- That part added to what is there. -/
def t8n (acc : Vec Ideal S1x1024 .f32) : Vec Ideal S1x1024 .f32 := k0_pay1 (F := Ideal) (t8 x0 x1 x2 x4 x5) acc

end Cert.FfnVal

end
-- ==== Proof.Ffn.Kern.lean ====
/- The arrays of the feed-forward gradient call's body, read at an index. -/
module

public import proofs.«01_k».proof.Proof.Base
public import proofs.«01_k».proof.Proof.Idx
public import proofs.«01_k».proof.Proof.Ffn.Math
public import proofs.«01_k».proof.Proof.Ffn.Terms

@[expose] public section

set_option maxRecDepth 16384

noncomputable section

namespace Cert.FfnVal

open Idealize.ShloMosaic Idealize.ShloMosaic.Pointwise Cert.Base Cert.FfnIdeal Cert.FfnIdeal.Gen

variable (x0 : Vec Ideal S256x1024 .f32) (x1 : Vec Ideal S256x1024 .f32) (x2 : Vec Ideal S256x5632 .bf16) (x3 : Vec Ideal S1x1024 .f32)
  (x4 : Vec Ideal S5632x1024 .f32) (x5 : Vec Ideal S2816x1024 .f32)

/-- The gradient of the product with the first weight. -/
theorem t7_at (r : Fin 256) (q : Fin 5632) : t7 x1 x2 x5 (ix2 r q) = dgu (mat x5) (mat x1 r) (mat x2 r) q := by
  unfold t7
  pointwise [k0_pay15, k0_pay14, k0_pay13, k0_pay12, k0_pay11, k0_pay10, k0_pay9, k0_pay8, k0_pay7]
  simp only [zero_sub, mul_one, sg_back]
  rfl

/-- The gradient of the normed rows. -/
theorem tn_at (r : Fin 256) (l : Fin 1024) : tn x1 x2 x4 x5 (ix2 r l) = dn (fun k c => mat x4 c k) (mat x5) (mat x1 r) (mat x2 r) l := by
  have h := t7_at x1 x2 x5
  unfold t7 at h
  unfold tn
  pointwise [k0_pay16, h]
  rfl

/-- The block's part of the gradient of the norm's weight. -/
theorem t8_at (u : Fin 1) (l : Fin 1024) : t8 x0 x1 x2 x4 x5 (ix2 u l)
    = ∑ r : Fin 256, dw (fun k c => mat x4 c k) (mat x5) (mat x0 r) (mat x1 r) (mat x2 r) l := by
  have h := tn_at x1 x2 x4 x5
  unfold tn at h
  unfold t8
  pointwise [k0_pay17, k0_pay6, k0_pay4, k0_pay3, h]
  rfl

/-- That part added to what is there. -/
theorem t8n_at (acc : Vec Ideal S1x1024 .f32) (i : S1x1024.Idx) : t8n x0 x1 x2 x4 x5 acc i = acc i + t8 x0 x1 x2 x4 x5 i := by
  obtain ⟨u, l, rfl⟩ := idx2 i
  unfold t8n
  pointwise [k0_pay1]

/-- The gradient of the layer's input. -/
theorem t6_at (r : Fin 256) (l : Fin 1024) : t6 x0 x1 x2 x3 x4 x5 (ix2 r l)
    = dx (fun k c => mat x4 c k) (mat x5) (row x3) (mat x0 r) (mat x1 r) (mat x2 r) l := by
  have h := tn_at x1 x2 x4 x5
  unfold tn at h
  unfold t6
  pointwise [k0_pay18, k0_pay2, k0_pay5, k0_pay4, k0_pay3, h]
  simp only [Fin.sum_univ_one]
  rfl

end Cert.FfnVal

end
-- ==== Proof.Ffn.Ref.lean ====
/- What the reference of the feed-forward gradient computes, read at an index. -/
module

public import proofs.«01_k».proof.Proof.Base
public import proofs.«01_k».proof.Proof.Ffn.Math
public import proofs.«01_k».proof.Proof.Gen.FfnRefIdeal.Read

@[expose] public section

set_option maxRecDepth 16384

noncomputable section

namespace Cert.FfnVal

open Idealize.ShloMosaic Idealize.ShloMosaic.Pointwise Cert.Base Cert.FfnRefIdeal Cert.FfnRefIdeal.Read

variable (x0 : (⟨S8192x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S8192x1024, .f32⟩ : BufTy).Contents (Elt Ideal))

/-- A row of the product with the first weight. -/
abbrev pre (r : Fin 8192) : Fin 5632 → EReal := LossVal.gu (vec x1) (mat x2) (mat x0 r)

theorem ref_pre (r : Fin 8192) (q : Fin 5632) : val_main_v16 (F := Ideal) x0 x1 x2 (ix2 r q) = pre x0 x1 x2 r q := by
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_v16]
  rfl

/-- The gradient of that product. -/
theorem ref_dgu (r : Fin 8192) (q : Fin 5632) : val_main_v78 (F := Ideal) x0 x1 x2 x3 x4 (ix2 r q) = dgu (mat x3) (mat x4 r) (pre x0 x1 x2 r) q := by
  pointwise [val_main_v78, val_main_v26, val_main_v25, val_main_call1_v2, val_main_call1_v1, val_main_call1_v0, val_main_v24, val_main_v23, val_main_v22, val_main_v19_0, val_main_v19_1, val_main_call0_v7, val_main_call0_v6, val_main_call0_cst_1, val_main_v19_2, val_main_call0_v4, val_main_call0_cst_0, val_main_call0_v3, val_main_call0_v2, val_main_call0_cst, val_main_call0_v1, val_main_call0_v0, val_main_v18, val_main_v17, ref_pre]
  rfl

theorem ref_pre' (r : Fin 8192) (q : Fin 5632) : val_main_v43 (F := Ideal) x0 x1 x2 (ix2 r q) = pre x0 x1 x2 r q := by
  pointwise [val_main_v27, val_main_cst_3, val_main_v28, val_main_v29, val_main_cst_4, val_main_v30, val_main_v31, val_main_cst_5, val_main_v32, val_main_v33, val_main_v34, val_main_v38, val_main_v39, val_main_v40, val_main_v41, val_main_v42, val_main_v43]
  rfl

/-- The same gradient, on the way to the layer's input. -/
theorem ref_dgu' (r : Fin 8192) (q : Fin 5632) : val_main_v55 (F := Ideal) x0 x1 x2 x3 x4 (ix2 r q) = dgu (mat x3) (mat x4 r) (pre x0 x1 x2 r) q := by
  pointwise [val_main_v55, val_main_v54, val_main_call3_v2, val_main_call3_v1, val_main_call3_v0, val_main_v53, val_main_v52, val_main_v51, val_main_v50, val_main_v46_0, val_main_v46_1, val_main_call2_v7, val_main_call2_v6, val_main_call2_cst_1, val_main_v46_2, val_main_call2_v4, val_main_call2_cst_0, val_main_call2_v3, val_main_call2_v2, val_main_call2_cst, val_main_call2_v1, val_main_call2_v0, val_main_v45, val_main_v44, ref_pre']
  rfl

/-- The gradient of the normed rows. -/
theorem ref_dn (r : Fin 8192) (l : Fin 1024) : val_main_v56 (F := Ideal) x0 x1 x2 x3 x4 (ix2 r l) = dn (mat x2) (mat x3) (mat x4 r) (pre x0 x1 x2 r) l := by
  pointwise [val_main_v56, ref_dgu']
  rfl

/-- The gradient of the norm's weight. -/
theorem ref_dw (u : Fin 1) (l : Fin 1024) : val_main_v79 (F := Ideal) x0 x1 x2 x3 x4 (ix2 u l)
    = ∑ r, dw (mat x2) (mat x3) (mat x0 r) (mat x4 r) (pre x0 x1 x2 r) l := by
  pointwise [val_main_v79, val_main_v62, val_main_cst_8, val_main_v59, val_main_v58, val_main_cst_7, val_main_v57, val_main_v39, val_main_v38, val_main_v34, val_main_v33, val_main_v32, val_main_cst_5, val_main_v31, val_main_v30, val_main_cst_4, val_main_v29, val_main_v28, val_main_cst_3, val_main_v27, ref_dn]
  simp only [Fin.sum_univ_one]
  rfl

/-- The gradient of the layer's input. -/
theorem ref_dx (r : Fin 8192) (l : Fin 1024) : val_main_v77 (F := Ideal) x0 x1 x2 x3 x4 (ix2 r l)
    = dx (mat x2) (mat x3) (vec x1) (mat x0 r) (mat x4 r) (pre x0 x1 x2 r) l := by
  pointwise [val_main_v77, val_main_v76, val_main_v75, val_main_v74, val_main_v73, val_main_v72, val_main_cst_11, val_main_v71, val_main_v70, val_main_cst_10, val_main_v69, val_main_v68, val_main_v67, val_main_v66, val_main_v65, val_main_v64, val_main_cst_9, val_main_v63, val_main_v61, val_main_v60, val_main_v40, val_main_v37, val_main_v36, val_main_cst_6, val_main_v35, val_main_v34, val_main_v33, val_main_v32, val_main_cst_5, val_main_v31, val_main_v30, val_main_cst_4, val_main_v29, val_main_v28, val_main_cst_3, val_main_v27, ref_dn]
  simp only [Fin.sum_univ_one]
  simp only [add_assoc]
  unfold dx Rms.back
  simp only [add_assoc]
  rfl

end Cert.FfnVal

end
-- ==== Proof.Ffn.Points.lean ====
/- What the feed-forward gradient call's body leaves at each point. -/
module

public import proofs.«01_k».proof.Proof.Base
public import proofs.«01_k».proof.Proof.Ffn.Terms
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnVal

open Idealize.ShloMosaic Idealize.ShloMosaic.TcCoe Idealize.SL.Sem Cert.Base Cert.FfnIdeal Cert.FfnIdeal.Gen

variable (m : (ℓ : Loc nD τ sig) → Buf (Elt Ideal) ℓ) (c : Dev nD)

theorem lt_N (t : Fin cfg0.N) : t.val < 32 := lt_of_lt_of_eq t.isLt N_0

/-- The first point. -/
theorem at_A (t : Fin cfg0.N) (h0 : t.val % 32 = 0) (h1 : ¬1 ≤ t.val) :
    (outsAt0 m c t.val t.isLt).1 = t6 (iblk m c 0 t) (iblk m c 1 t) (iblk m c 2 t) (iblk m c 3 t) (iblk m c 4 t) (iblk m c 5 t) ∧ (outsAt0 m c t.val t.isLt).2.1 = t7 (iblk m c 1 t) (iblk m c 2 t) (iblk m c 5 t)
      ∧ (outsAt0 m c t.val t.isLt).2.2 = t8 (iblk m c 0 t) (iblk m c 1 t) (iblk m c 2 t) (iblk m c 4 t) (iblk m c 5 t) := by
  rw [outsAt0_A m c t h0 h1]
  refine ⟨?_, ?_, ?_⟩ <;> (dsimp only; frame_out) <;> rfl

/-- A later point. -/
theorem at_B (t : Fin cfg0.N) (h0 : ¬t.val % 32 = 0) (h1 : 1 ≤ t.val) :
    (outsAt0 m c t.val t.isLt).1 = t6 (iblk m c 0 t) (iblk m c 1 t) (iblk m c 2 t) (iblk m c 3 t) (iblk m c 4 t) (iblk m c 5 t) ∧ (outsAt0 m c t.val t.isLt).2.1 = t7 (iblk m c 1 t) (iblk m c 2 t) (iblk m c 5 t)
      ∧ (outsAt0 m c t.val t.isLt).2.2 = t8n (iblk m c 0 t) (iblk m c 1 t) (iblk m c 2 t) (iblk m c 4 t) (iblk m c 5 t) (outsAt0 m c (t.val - 1) (lt_of_le_of_lt (Nat.sub_le _ _) t.isLt)).2.2 := by
  rw [outsAt0_B m c t h0 h1]
  refine ⟨?_, ?_, ?_⟩ <;> (dsimp only; frame_out) <;> rfl

end Cert.FfnVal

end
-- ==== Proof.Ffn.Final.lean ====
/- The feed-forward gradient call against its reference: the arrays after the run are the reference's arrays. -/
module

public import proofs.«01_k».proof.Defs
public import proofs.«01_k».proof.Proof.Ffn.Kern
public import proofs.«01_k».proof.Proof.Ffn.Ref
public import proofs.«01_k».proof.Proof.Ffn.Points
public import proofs.«01_k».proof.Proof.Gen.FfnRefIdeal.Run
public import proofs.«01_k».proof.Proof.Gen.FfnIdeal.Value
public import Idealize.ShloMosaic.Lib.Pipeline.ValueKit
public import Idealize.ShloMosaic.Lib.StableHlo.ReadAt

@[expose] public section

set_option maxRecDepth 16384

noncomputable section

namespace Cert.FfnVal

open Idealize.ShloMosaic Idealize.ShloMosaic.Pointwise Cert.Base Idealize.SL.Sem Cert.FfnIdeal Cert.FfnIdeal.Gen

variable (m : (ℓ : Loc nD τ sig) → Buf (Elt Ideal) ℓ) (c : Dev nD)

/-- A row of window 0's block at point `t` is the argument's row of that block. -/
theorem blk0 (t : Fin cfg0.N) (r : Fin 256) : mat (iblk m c 0 t) r = mat (m ((c.tc : Thread nD τ).loc main_arg0)) ⟨t.val * 256 + r.val, by have := lt_N t; omega⟩ := by
  have e : ∀ t : Fin cfg0.N, win0_0.index t = ![t.val, 0] := by decide +kernel
  funext l
  have ht := lt_N t
  have h : (win0_0.blk t).view.emb (ix2 r l) = ix2 (⟨t.val * 256 + r.val, by omega⟩ : Fin 8192) l := by blk_ext [e]
  unfold mat
  blk_simp [iblk]
  rw [V_main_arg0, h]

/-- A row of window 1's block at point `t` is the argument's row of that block. -/
theorem blk1 (t : Fin cfg0.N) (r : Fin 256) : mat (iblk m c 1 t) r = mat (m ((c.tc : Thread nD τ).loc main_arg4)) ⟨t.val * 256 + r.val, by have := lt_N t; omega⟩ := by
  have e : ∀ t : Fin cfg0.N, win0_1.index t = ![t.val, 0] := by decide +kernel
  funext l
  have ht := lt_N t
  have h : (win0_1.blk t).view.emb (ix2 r l) = ix2 (⟨t.val * 256 + r.val, by omega⟩ : Fin 8192) l := by blk_ext [e]
  unfold mat
  blk_simp [iblk]
  rw [V_main_arg4, h]

/-- Window 3's block at every point is a scale as a row. -/
theorem blk3 (t : Fin cfg0.N) : row (iblk m c 3 t) = vec (m ((c.tc : Thread nD τ).loc main_arg1)) := by
  have e : ∀ t : Fin cfg0.N, win0_3.index t = ![0, 0] := by decide +kernel
  funext l
  unfold row vec
  blk_simp [iblk]
  unfold V
  after_reads_at
  refine congrArg _ ?_
  blk_ext [e]

/-- Window 4's block at every point is the argument transposed. -/
theorem blk4 (t : Fin cfg0.N) : (fun k q => mat (iblk m c 4 t) q k) = mat (m ((c.tc : Thread nD τ).loc main_arg2)) := by
  have e : ∀ t : Fin cfg0.N, win0_4.index t = ![0, 0] := by decide +kernel
  funext k q
  unfold mat
  blk_simp [iblk]
  unfold V
  after_reads_at
  refine congrArg _ ?_
  blk_ext [e]

/-- Window 5's block at every point is the argument. -/
theorem blk5 (t : Fin cfg0.N) : iblk m c 5 t = (m ((c.tc : Thread nD τ).loc main_arg3)) := by
  have e : ∀ t : Fin cfg0.N, win0_5.index t = ![0, 0] := by decide +kernel
  funext x
  blk_simp [iblk]
  rw [V_main_arg3]
  refine congrArg _ ?_
  blk_ext [e]

/-- A row of window 2's block is the row's product with the first weight. -/
theorem blk2 (t : Fin cfg0.N) (r : Fin 256) : mat (iblk m c 2 t) r = pre (m ((c.tc : Thread nD τ).loc main_arg0)) (m ((c.tc : Thread nD τ).loc main_arg1)) (m ((c.tc : Thread nD τ).loc main_arg2)) ⟨t.val * 256 + r.val, by have := lt_N t; omega⟩ := by
  have e : ∀ t : Fin cfg0.N, win0_2.index t = ![t.val, 0] := by decide +kernel
  funext l
  have ht := lt_N t
  have h : (win0_2.blk t).view.emb (ix2 r l) = ix2 (⟨t.val * 256 + r.val, by omega⟩ : Fin 8192) l := by blk_ext [e]
  unfold mat
  blk_simp [iblk]
  rw [h]
  unfold V
  after_reads_at
  pointwise []
  rfl

/-- What the body leaves in its two blocked outputs, at every point. -/
theorem outs (t : Fin cfg0.N) :
    (outsAt0 m c t.val t.isLt).1 = t6 (iblk m c 0 t) (iblk m c 1 t) (iblk m c 2 t) (iblk m c 3 t) (iblk m c 4 t) (iblk m c 5 t)
      ∧ (outsAt0 m c t.val t.isLt).2.1 = t7 (iblk m c 1 t) (iblk m c 2 t) (iblk m c 5 t) := by
  by_cases h : t.val = 0
  · have hs := at_A m c t (by omega) (by omega)
    exact ⟨hs.1, hs.2.1⟩
  · have ht := lt_N t
    have hs := at_B m c t (by omega) (by omega)
    exact ⟨hs.1, hs.2.1⟩

/-- The gradient of the layer's input, after the run. -/
theorem final6 : (dats m 0 c).arrAt 6 cfg0.N = Cert.FfnRefIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : ∀ t : Fin cfg0.N, win0_6.index t = ![t.val, 0] := by decide +kernel
  refine (dats m 0 c).arrAt_eq_of_covers 6 _ (by decide +kernel) fun t hf y => ?_
  blk_simp
  obtain ⟨r, l, rfl⟩ : ∃ (r : Fin 256) (l : Fin 1024), y = ix2 r l := idx2 y
  have ht := lt_N t
  have hy : (win0_6.blk t).view.emb (ix2 r l) = ix2 (⟨t.val * 256 + r.val, by omega⟩ : Fin 8192) l := by blk_ext [e]
  rw [after0_6, (outs m c t).1, hy, t6_at, blk0, blk1, blk2, blk3, blk4, blk5]
  exact (ref_dx _ _ _ _ _ _ _).symm

/-- The gradient of the product with the first weight, after the run. -/
theorem final7 : (dats m 0 c).arrAt 7 cfg0.N = Cert.FfnRefIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : ∀ t : Fin cfg0.N, win0_7.index t = ![t.val, 0] := by decide +kernel
  refine (dats m 0 c).arrAt_eq_of_covers 7 _ (by decide +kernel) fun t hf y => ?_
  blk_simp
  obtain ⟨r, l, rfl⟩ : ∃ (r : Fin 256) (l : Fin 5632), y = ix2 r l := idx2 y
  have ht := lt_N t
  have hy : (win0_7.blk t).view.emb (ix2 r l) = ix2 (⟨t.val * 256 + r.val, by omega⟩ : Fin 8192) l := by blk_ext [e]
  rw [after0_7, (outs m c t).2, hy, t7_at, blk1, blk2, blk5]
  exact (ref_dgu _ _ _ _ _ _ _).symm

/-- One block's part of the gradient of the norm's weight. -/
def term (t : Fin cfg0.N) : S1x1024.Idx → EReal := t8 (iblk m c 0 t) (iblk m c 1 t) (iblk m c 2 t) (iblk m c 4 t) (iblk m c 5 t)

/-- The same from the arguments. -/
theorem term_eq (t : Fin cfg0.N) (u : Fin 1) (l : Fin 1024) : term m c t (ix2 u l)
    = ∑ r : Fin 256, dw (mat (m ((c.tc : Thread nD τ).loc main_arg2))) (mat (m ((c.tc : Thread nD τ).loc main_arg3))) (mat (m ((c.tc : Thread nD τ).loc main_arg0)) ⟨t.val * 256 + r.val, by have := lt_N t; omega⟩) (mat (m ((c.tc : Thread nD τ).loc main_arg4)) ⟨t.val * 256 + r.val, by have := lt_N t; omega⟩) (pre (m ((c.tc : Thread nD τ).loc main_arg0)) (m ((c.tc : Thread nD τ).loc main_arg1)) (m ((c.tc : Thread nD τ).loc main_arg2)) ⟨t.val * 256 + r.val, by have := lt_N t; omega⟩) l := by
  unfold term
  rw [t8_at, blk4, blk5]
  exact Finset.sum_congr rfl fun r _ => by rw [blk0, blk1, blk2]

/-- The sums after the last point are the sums over all blocks. -/
theorem acc_last (t : Fin cfg0.N) (ht : t.val + 1 = 32) (i : S1x1024.Idx) :
    (outsAt0 m c t.val t.isLt).2.2 i = ∑ p : Fin 32, term m c (Fin.cast N_0.symm p) i := by
  have key := Pipeline.eq_sum_fin_of_reset_step_apply_last (N := 32) (M := EReal) (fun n h => (outsAt0 m c n (lt_of_lt_of_eq h N_0.symm)).2.2) 32 (fun _ => 0)
    (fun p => term m c (Fin.cast N_0.symm p)) ?_ ?_ (le_refl 32) ⟨t.val, lt_N t⟩ ht i
  · rw [zero_add] at key; exact key
  · intro n h0 i
    refine (congrFun (at_A m c (Fin.cast N_0.symm n) h0 (by simp only [Fin.val_cast]; omega)).2.2 i).trans ?_
    rw [zero_add]
    rfl
  · intro n h0 i
    refine (congrFun (at_B m c (Fin.cast N_0.symm n) h0 (by simp only [Fin.val_cast]; omega)).2.2 i).trans ?_
    exact t8n_at _ _ _ _ _ _ i

/-- The gradient of the norm's weight, after the run. -/
theorem final8 : (dats m 0 c).arrAt 8 cfg0.N = Cert.FfnRefIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : ∀ t : Fin cfg0.N, win0_8.index t = ![0, 0] := by decide +kernel
  have hl : ∀ t : Fin cfg0.N, (cfg0.win 8).flush t = true → t.val = 31 := by decide +kernel
  refine (dats m 0 c).arrAt_eq_of_covers 8 _ (by decide +kernel) fun t hf y => ?_
  blk_simp
  have h31 := hl t hf
  obtain ⟨u, l, rfl⟩ : ∃ (u : Fin 1) (l : Fin 1024), y = ix2 u l := idx2 y
  have hy : (win0_8.blk t).view.emb (ix2 u l) = ix2 u l := by blk_ext [e]
  rw [after0_8, hy, acc_last m c t (by omega), Finset.sum_congr rfl fun p _ => term_eq m c (Fin.cast N_0.symm p) u l]
  refine Eq.trans ?_ (ref_dw _ _ _ _ _ u l).symm
  exact Fin.sum_mul_add_fin (L := 8192) 32 256 fun r => dw (mat (m ((c.tc : Thread nD τ).loc main_arg2))) (mat (m ((c.tc : Thread nD τ).loc main_arg3))) (mat (m ((c.tc : Thread nD τ).loc main_arg0)) r) (mat (m ((c.tc : Thread nD τ).loc main_arg4)) r) (pre (m ((c.tc : Thread nD τ).loc main_arg0)) (m ((c.tc : Thread nD τ).loc main_arg1)) (m ((c.tc : Thread nD τ).loc main_arg2)) r) l

end Cert.FfnVal

end
-- ==== Proof.Ffn.Claims.lean ====
/- The claims about the feed-forward gradient call and its reference. -/
module

public import proofs.«01_k».proof.Defs
public import proofs.«01_k».proof.Proof.Ffn.Final
public import proofs.«01_k».proof.Proof.Gen.Ffn.Frame
public import Idealize.ShloMosaic.Adequacy
public import Idealize.ShloMosaic.Init

@[expose] public section

noncomputable section

namespace Cert.FfnVal

open Idealize.ShloMosaic Idealize.SL.Sem

/-- The call's frame. -/
theorem frame_kernel : Cert.quiescent_Ffn := fun m ρ _ => Cert.Ffn.Gen.frame m ρ

/-- Its frame over the extended reals. -/
theorem frame_ideal : Cert.quiescent_FfnIdeal := fun m ρ _ => Cert.FfnIdeal.Gen.frame m ρ

/-- No operation is rewritten. -/
theorem preserves : Cert.preserves_Ffn_FfnIdeal := trivial

/-- The reference leaves its arguments and, having no semaphore, every counter at zero. -/
theorem frame_ref : Cert.quiescent_FfnRefIdeal := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)

set_option maxHeartbeats 2000000 in
/-- The call and the reference compute the same three gradients over the extended reals. -/
theorem algebraic : Cert.algebraic_FfnIdeal_FfnRefIdeal := by
  intro m ρ m' ρ' _ hag
  refine ⟨fun c => (Cert.FfnIdeal.Gen.dats m 0 c).arrAt 6 Cert.FfnIdeal.cfg0.N, fun c => (Cert.FfnIdeal.Gen.dats m 0 c).arrAt 7 Cert.FfnIdeal.cfg0.N, fun c => (Cert.FfnIdeal.Gen.dats m 0 c).arrAt 8 Cert.FfnIdeal.cfg0.N,
    Cert.FfnIdeal.Value.run_blocks m ρ,
    (θ_run Cert.FfnRefIdeal.defs _ _).mono (fun r h c => ?_) (Cert.FfnRefIdeal.Value.run (F := Ideal) m' ρ')⟩
  obtain ⟨h0, h1, h2, hk⟩ := h c
  obtain ⟨e0, e1, e2, e3, e4⟩ := hag c
  refine ⟨h0.trans ?_, h1.trans ?_, h2.trans ?_, hk⟩
  · rw [Cert.FfnRefIdeal.Read.val_main_v77_eq, e0, e1, e2, e3, e4]; exact (final6 m c).symm
  · rw [Cert.FfnRefIdeal.Read.val_main_v78_eq, e0, e1, e2, e3, e4]; exact (final7 m c).symm
  · rw [Cert.FfnRefIdeal.Read.val_main_v79_eq, e0, e1, e2, e3, e4]; exact (final8 m c).symm

end Cert.FfnVal

end
-- ==== Proof.MixIn.Math.lean ====
/- The gradient of a head's norm with its mean taken by a table, and of the gate beside it, as functions of one row over the extended reals. -/
module

public import proofs.«01_k».proof.Proof.Fin
public import proofs.«01_k».proof.Proof.Ffn.Math
public import Idealize.ShloMosaic.Lib.Pipeline.ValueKit

@[expose] public section

noncomputable section

namespace Cert.MixInVal

open Idealize.ShloMosaic Cert.LossVal Cert.Fin

/-- The 64 lanes of head `h`. -/
def hd (v : Fin 512 → EReal) (h : Fin 8) (i : Fin 64) : EReal := v ⟨h.val * 64 + i.val, by omega⟩

/-- The head of a lane. -/
abbrev hof (j : Fin 512) : Fin 8 := ⟨j.val / 64, by omega⟩
/-- The channel of a lane within its head. -/
abbrev cof (j : Fin 512) : Fin 64 := ⟨j.val % 64, by omega⟩

theorem hd_cof (v : Fin 512 → EReal) (j : Fin 512) : hd v (hof j) (cof j) = v j := congrArg v (Fin.ext (by dsimp only; omega))

/-- The query part of a row of the product. -/
def hq (P : Fin 2304 → EReal) (j : Fin 512) : EReal := P ⟨j.val, by omega⟩
/-- The key part. -/
def hk (P : Fin 2304 → EReal) (j : Fin 512) : EReal := P ⟨512 + j.val, by omega⟩

/-- The gradient of a row of heads, each scaled by its own norm and the gain `g`, for the cotangent `z`. -/
def dh (g : Fin 64 → EReal) (p z : Fin 512 → EReal) (j : Fin 512) : EReal :=
  Rms.back 1115684864#32 (hd p (hof j)) (fun i => hd z (hof j) i * g i) (cof j)

/-- A row's part of the gradient of the gain. -/
def dgain (p z : Fin 512 → EReal) (j : Fin 512) : EReal := p j * Rms.inv 1115684864#32 (hd p (hof j)) * z j

/-- The gradient of the row of the product. -/
def dp (gq gk : Fin 64 → EReal) (P : Fin 2304 → EReal) (zq zk zv : Fin 512 → EReal) (zg zu : Fin 256 → EReal) (j : Fin 2304) : EReal :=
  if h : j.val < 512 then dh gq (hq P) zq ⟨j.val, h⟩
  else if h : j.val < 1024 then dh gk (hk P) zk ⟨j.val - 512, by omega⟩
  else if h : j.val < 1536 then zv ⟨j.val - 1024, by omega⟩
  else if h : j.val < 1792 then zg ⟨j.val - 1536, by omega⟩ * sg (P ⟨1792 + (j.val - 1536), by omega⟩)
  else if h : j.val < 2048 then P ⟨1536 + (j.val - 1792), by omega⟩ * zg ⟨j.val - 1792, by omega⟩ * (sg (P ⟨1792 + (j.val - 1792), by omega⟩) * (1 - sg (P ⟨1792 + (j.val - 1792), by omega⟩)))
  else zu ⟨j.val - 2048, by omega⟩

theorem word_64 : Ideal.ofBits FTy.f32 1115684864#32 = ((64 : ℝ) : EReal) := by
  simp [Ideal.ofBits, Ideal.ieee]
  norm_num [← EReal.coe_mul]

theorem word_64th : Ideal.ofBits FTy.f32 1015021568#32 = (((64 : ℝ)⁻¹ : ℝ) : EReal) := by
  simp [Ideal.ofBits, Ideal.ieee]
  norm_num [← EReal.coe_mul]

/-- A positive real factor comes out of a sum. -/
theorem sum_mul_pos {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top _)]

/-- A sum over the lanes against a column of the table of means is the mean over the lane's head. -/
theorem avg (v : Fin 512 → EReal) (m : Fin 512 → EReal) (j : Fin 512)
    (hm : ∀ k, m k = if k.val / 64 = j.val / 64 then Ideal.ofBits FTy.f32 1015021568#32 else 0) :
    ∑ k, v k * m k = Ideal.div (∑ i, hd v (hof j) i) (Ideal.ofBits FTy.f32 1115684864#32) := by
  rw [word_64, div_coe _ (by norm_num), ← sum_mul_pos _ _ (by norm_num)]
  have e := Fin.sum_mul_add_fin (L := 512) 8 64 fun k => v k * m k
  rw [← e, Finset.sum_eq_single (hof j)]
  · refine Finset.sum_congr rfl fun i _ => ?_
    rw [hm, if_pos (by dsimp only; omega), word_64th]
    rfl
  · intro h _ hne
    refine Finset.sum_eq_zero fun i _ => ?_
    rw [hm, if_neg ?_, mul_zero]
    intro he
    apply hne
    apply Fin.ext
    dsimp only at he ⊢
    omega
  · intro h; exact absurd (Finset.mem_univ _) h

/-- A row with an infinite entry has an infinite mean of squares. -/
theorem ms_top {x : Fin 64 → EReal} {k : Fin 64} (h : ¬IsReal (x k)) : Rms.ms 1115684864#32 x = ⊤ := by
  have hk : x k * x k = ⊤ := by
    revert h
    induction x k with
    | bot => intro _; rfl
    | top => intro _; rfl
    | coe r => intro h; exact absurd ⟨r, rfl⟩ h
  have hs : ∑ i, x i * x i = ⊤ := by
    refine top_le_iff.mp (hk ▸ Finset.single_le_sum (f := fun i => x i * x i) (fun i _ => ?_) (Finset.mem_univ k))
    induction x i with
    | bot => decide
    | top => decide
    | coe r => rw [← EReal.coe_mul]; exact_mod_cast mul_self_nonneg r
  obtain ⟨e, he, hw⟩ := word_eps
  unfold Rms.ms
  rw [hs, word_64, div_coe _ (by norm_num), hw, EReal.top_mul_of_pos (by norm_num)]
  rfl

/-- A factor common to a head's products comes out of their sum, where the cotangents are real. -/
theorem sum_factor (x z : Fin 64 → EReal) (hz : ∀ i, IsReal (z i)) :
    ∑ i, x i * z i * (Ideal.ofBits FTy.f32 3204448256#32 * Ideal.div (Rms.inv 1115684864#32 x) (Rms.ms 1115684864#32 x))
      = (∑ i, x i * z i) * (Ideal.ofBits FTy.f32 3204448256#32 * Ideal.div (Rms.inv 1115684864#32 x) (Rms.ms 1115684864#32 x)) := by
  by_cases hx : ∀ k, IsReal (x k)
  · obtain ⟨m, hm, em⟩ := ms_pos (by norm_num) word_64 hx
    obtain ⟨v, ev⟩ := inv_real (by norm_num) word_64 hx
    have hh : IsReal (Ideal.ofBits FTy.f32 3204448256#32) := ⟨-(1 / 2), by simp [Ideal.ofBits, Ideal.ieee]; norm_num [← EReal.coe_mul]⟩
    have hc : IsReal (Ideal.ofBits FTy.f32 3204448256#32 * Ideal.div (Rms.inv 1115684864#32 x) (Rms.ms 1115684864#32 x)) := by
      rw [em, ev, div_coe _ hm.ne']
      exact hh.mul (IsReal.mul ⟨_, rfl⟩ ⟨_, rfl⟩)
    obtain ⟨c, ec⟩ := hc
    rw [ec]
    choose xr hxr using hx
    choose zr hzr using hz
    simp only [hxr, hzr, ← EReal.coe_mul, sum_coe, Finset.sum_mul]
  · push Not at hx
    obtain ⟨k, hk⟩ := hx
    have h0 : Ideal.rsqrt ⊤ = 0 := rfl
    unfold Rms.inv
    rw [ms_top hk, h0]
    have h1 : Ideal.div 0 ⊤ = 0 := by simp [Ideal.div]
    rw [h1]
    simp only [mul_zero, Finset.sum_const_zero]

/-- The products of a head with its cotangents, scaled lane by lane and averaged by the table, are the number the norm sends back. -/
theorem avg_back (p z c m : Fin 512 → EReal) (j : Fin 512) (hz : ∀ i, IsReal (z i))
    (hm : ∀ k, m k = if k.val / 64 = j.val / 64 then Ideal.ofBits FTy.f32 1015021568#32 else 0)
    (hc : ∀ k, c k = Ideal.ofBits FTy.f32 3204448256#32 * Ideal.div (Rms.inv 1115684864#32 (hd p (hof k))) (Rms.ms 1115684864#32 (hd p (hof k)))) :
    ∑ k, p k * z k * c k * m k = Rms.sc 1115684864#32 (hd p (hof j)) (hd z (hof j)) := by
  rw [avg (fun k => p k * z k * c k) m j hm]
  unfold Rms.sc
  rw [← sum_factor (hd p (hof j)) (hd z (hof j)) fun i => hz _]
  congr 1
  refine Finset.sum_congr rfl fun i _ => ?_
  have hh : hof ⟨(hof j).val * 64 + i.val, by omega⟩ = hof j := Fin.ext (by dsimp only; omega)
  show p _ * z _ * c _ = _
  rw [hc, hh]
  rfl

end Cert.MixInVal

end
-- ==== Proof.MixIn.Terms.lean ====
/- The arrays the input product's gradient call's body writes at a point, from the blocks it reads: the rows `x0`, the residual's cotangent `x1`,
   the product `x2`, the cotangents `x3` to `x7` of its parts, the norm's weight `x8`, the product's weight `x9`, the gains `x10`, `x11` and the table `x12`. -/
module

public import proofs.«01_k».proof.Proof.Base
public import proofs.«01_k».proof.Proof.Gen.MixInIdeal.Skeleton
public import Idealize.ShloMosaic.Lib.Pipeline.ValueKit

@[expose] public section

set_option maxRecDepth 16384

noncomputable section

namespace Cert.MixInVal

open Idealize.ShloMosaic Cert.MixInIdeal Cert.MixInIdeal.Gen

variable (x0 : Vec Ideal S256x1024 .f32) (x1 : Vec Ideal S256x1024 .f32) (x2 : Vec Ideal S256x2304 .bf16) (x3 : Vec Ideal S256x512 .f32)
  (x4 : Vec Ideal S256x512 .f32) (x5 : Vec Ideal S256x512 .f32) (x6 : Vec Ideal S256x256 .f32) (x7 : Vec Ideal S256x256 .f32)
  (x8 : Vec Ideal S1x1024 .f32) (x9 : Vec Ideal S2304x1024 .f32) (x10 : Vec Ideal S1x512 .f32) (x11 : Vec Ideal S1x512 .f32) (x12 : Vec Ideal S512x512 .f32)

/-- The gradient of the product. -/
def tp : Vec Ideal S256x2304 .f32 := k0_pay31 (F := Ideal) (k0_pay2 x12) (k0_pay9 x2) (k0_pay10 x2) (k0_pay13 x10) (k0_pay16 x12 x2) (k0_pay17 x12 x2) x3 (k0_pay23 (k0_pay12 x2) x6) (k0_pay24 (k0_pay11 x2) (k0_pay12 x2) x6) (k0_pay27 (k0_pay2 x12) (k0_pay10 x2) (k0_pay14 x11) x4) (k0_pay28 (k0_pay2 x12) (k0_pay10 x2) (k0_pay14 x11) x4) (k0_pay29 (k0_pay2 x12) (k0_pay10 x2) (k0_pay14 x11) x4) x5 x7

/-- The gradient of the normed rows. -/
def tn : Vec Ideal S256x1024 .f32 := k0_pay32 (F := Ideal) (k0_pay2 x12) (k0_pay9 x2) (k0_pay10 x2) (k0_pay13 x10) (k0_pay16 x12 x2) (k0_pay17 x12 x2) x3 (k0_pay23 (k0_pay12 x2) x6) (k0_pay24 (k0_pay11 x2) (k0_pay12 x2) x6) (k0_pay27 (k0_pay2 x12) (k0_pay10 x2) (k0_pay14 x11) x4) (k0_pay28 (k0_pay2 x12) (k0_pay10 x2) (k0_pay14 x11) x4) (k0_pay29 (k0_pay2 x12) (k0_pay10 x2) (k0_pay14 x11) x4) x5 x7 x9

/-- The gradient of the layer's input. -/
def t13 : Vec Ideal S256x1024 .f32 := k0_pay35 (F := Ideal) (k0_pay34 x0 (k0_pay1 x8) (k0_pay2 x12) (k0_pay4 x0) (k0_pay5 x0) (k0_pay9 x2) (k0_pay10 x2) (k0_pay13 x10) (k0_pay16 x12 x2) (k0_pay17 x12 x2) x3 (k0_pay23 (k0_pay12 x2) x6) (k0_pay24 (k0_pay11 x2) (k0_pay12 x2) x6) (k0_pay27 (k0_pay2 x12) (k0_pay10 x2) (k0_pay14 x11) x4) (k0_pay28 (k0_pay2 x12) (k0_pay10 x2) (k0_pay14 x11) x4) (k0_pay29 (k0_pay2 x12) (k0_pay10 x2) (k0_pay14 x11) x4) x5 x7 x9) x1

/-- The block's part of the gradient of the product's weight. -/
def t14 : Vec Ideal S2304x1024 .f32 := k0_pay36 (F := Ideal) (k0_pay7 x0 x8) (tp x2 x3 x4 x5 x6 x7 x10 x11 x12)

/-- That part added to what is there. -/
def t14n (acc : Vec Ideal S2304x1024 .f32) : Vec Ideal S2304x1024 .f32 := k0_pay37 (F := Ideal) (k0_pay7 x0 x8) (tp x2 x3 x4 x5 x6 x7 x10 x11 x12) acc

/-- The block's part of the gradient of the norm's weight. -/
def t15 : Vec Ideal S1x1024 .f32 := k0_pay33 (F := Ideal) (k0_pay2 x12) (k0_pay6 x0) (k0_pay9 x2) (k0_pay10 x2) (k0_pay13 x10) (k0_pay16 x12 x2) (k0_pay17 x12 x2) x3 (k0_pay23 (k0_pay12 x2) x6) (k0_pay24 (k0_pay11 x2) (k0_pay12 x2) x6) (k0_pay27 (k0_pay2 x12) (k0_pay10 x2) (k0_pay14 x11) x4) (k0_pay28 (k0_pay2 x12) (k0_pay10 x2) (k0_pay14 x11) x4) (k0_pay29 (k0_pay2 x12) (k0_pay10 x2) (k0_pay14 x11) x4) x5 x7 x9

/-- That part added to what is there. -/
def t15n (acc : Vec Ideal S1x1024 .f32) : Vec Ideal S1x1024 .f32 := k0_pay38 (F := Ideal) (t15 x0 x2 x3 x4 x5 x6 x7 x9 x10 x11 x12) acc

/-- The block's part of the gradient of the query gain. -/
def t16 : Vec Ideal S1x512 .f32 := k0_pay30 (F := Ideal) (k0_pay18 x12 x2) x3

/-- That part added to what is there. -/
def t16n (acc : Vec Ideal S1x512 .f32) : Vec Ideal S1x512 .f32 := k0_pay39 (F := Ideal) (t16 x2 x3 x12) acc

/-- The block's part of the gradient of the key gain. -/
def t17 : Vec Ideal S1x512 .f32 := k0_pay25 (F := Ideal) (k0_pay2 x12) (k0_pay10 x2) x4

/-- That part added to what is there. -/
def t17n (acc : Vec Ideal S1x512 .f32) : Vec Ideal S1x512 .f32 := k0_pay40 (F := Ideal) (t17 x2 x4 x12) acc

end Cert.MixInVal

end
-- ==== Proof.MixIn.Kern.lean ====
/- The arrays of the input product's gradient call's body, read at an index. `hm` says what the table holds, `hgq` and `hgk` that the gains repeat every 64 lanes. -/
module

public import proofs.«01_k».proof.Proof.Base
public import proofs.«01_k».proof.Proof.Idx
public import proofs.«01_k».proof.Proof.MixIn.Math
public import proofs.«01_k».proof.Proof.MixIn.Terms
public import Idealize.ShloMosaic.Lib.Pointwise

@[expose] public section

set_option maxRecDepth 16384

noncomputable section

namespace Cert.MixInVal

open Idealize.ShloMosaic Idealize.ShloMosaic.Pointwise Cert.Base Cert.LossVal Cert.Fin Cert.MixInIdeal Cert.MixInIdeal.Gen

/-- A head of cotangents times a gain that repeats every 64 lanes. -/
theorem hd_gain (z g : Fin 512 → EReal) (g' : Fin 64 → EReal) (hg : ∀ j, g j = g' (cof j)) (h : Fin 8) :
    hd (fun k => z k * g k) h = fun i => hd z h i * g' i := by
  funext i
  show z _ * g _ = z _ * g' i
  rw [hg, show cof ⟨h.val * 64 + i.val, by omega⟩ = i from Fin.ext (by dsimp only; omega)]

variable {x0 : Vec Ideal S256x1024 .f32} {x1 : Vec Ideal S256x1024 .f32} {x2 : Vec Ideal S256x2304 .bf16} {x3 : Vec Ideal S256x512 .f32}
  {x4 : Vec Ideal S256x512 .f32} {x5 : Vec Ideal S256x512 .f32} {x6 : Vec Ideal S256x256 .f32} {x7 : Vec Ideal S256x256 .f32}
  {x8 : Vec Ideal S1x1024 .f32} {x9 : Vec Ideal S2304x1024 .f32} {x10 : Vec Ideal S1x512 .f32} {x11 : Vec Ideal S1x512 .f32} {x12 : Vec Ideal S512x512 .f32}
  {gq gk : Fin 64 → EReal}
  (hm : ∀ k j : Fin 512, mat x12 k j = if k.val / 64 = j.val / 64 then Ideal.ofBits FTy.f32 1015021568#32 else 0)
  (hgq : ∀ j : Fin 512, row x10 j = gq (cof j)) (hgk : ∀ j : Fin 512, row x11 j = gk (cof j))
  (hzq : ∀ r j, IsReal (mat x3 r j * row x10 j)) (hzk : ∀ r j, IsReal (mat x4 r j * row x11 j))

theorem tab_at (k j : Fin 512) : k0_pay2 (F := Ideal) x12 (ix2 k j) = mat x12 k j := by
  pointwise [k0_pay2]

/-- The query part of the product. -/
theorem hq_at (r : Fin 256) (j : Fin 512) : k0_pay9 (F := Ideal) x2 (ix2 r j) = hq (mat x2 r) j := by
  pointwise [k0_pay9, k0_pay8]
  rfl

/-- The key part of the product. -/
theorem hk_at (r : Fin 256) (j : Fin 512) : k0_pay10 (F := Ideal) x2 (ix2 r j) = hk (mat x2 r) j := by
  pointwise [k0_pay10, k0_pay8]
  rfl

/-- The key gain. -/
theorem gk_at (u : Fin 1) (j : Fin 512) : k0_pay14 (F := Ideal) x11 (ix2 u j) = row x11 j := by
  obtain rfl : u = 0 := Subsingleton.elim _ _
  pointwise [k0_pay14]

/-- The query gain. -/
theorem gq_at (u : Fin 1) (j : Fin 512) : k0_pay13 (F := Ideal) x10 (ix2 u j) = row x10 j := by
  obtain rfl : u = 0 := Subsingleton.elim _ _
  pointwise [k0_pay13]

/-- The gradient of the gate's value. -/
theorem da_at (r : Fin 256) (l : Fin 256) : k0_pay23 (F := Ideal) (k0_pay12 x2) x6 (ix2 r l) = mat x6 r l * sg (mat x2 r ⟨1792 + l.val, by omega⟩) := by
  pointwise [k0_pay23, k0_pay22, k0_pay21, k0_pay12, k0_pay8]
  simp only [zero_sub]
  rfl

/-- The gradient of the gate. -/
theorem db_at (r : Fin 256) (l : Fin 256) : k0_pay24 (F := Ideal) (k0_pay11 x2) (k0_pay12 x2) x6 (ix2 r l)
    = mat x2 r ⟨1536 + l.val, by omega⟩ * mat x6 r l * (sg (mat x2 r ⟨1792 + l.val, by omega⟩) * (1 - sg (mat x2 r ⟨1792 + l.val, by omega⟩))) := by
  pointwise [k0_pay24, k0_pay22, k0_pay21, k0_pay12, k0_pay11, k0_pay8]
  simp only [zero_sub, mul_one, FfnVal.sg_back]

include hm in
/-- The mean of squares of the query's heads. -/
theorem msq (r : Fin 256) (j : Fin 512) : k0_pay15 (F := Ideal) x12 x2 (ix2 r j) = Rms.ms 1115684864#32 (hd (hq (mat x2 r)) (hof j)) := by
  pointwise [k0_pay15, k0_pay9, k0_pay8, k0_pay2]
  exact congrArg (· + Ideal.ofBits FTy.f32 897988541#32) (avg (fun k => hq (mat x2 r) k * hq (mat x2 r) k) (fun k => mat x12 k j) j fun k => hm k j)

include hm in
/-- The mean of squares of the key's heads. -/
theorem msk (r : Fin 256) (j : Fin 512) : k0_pay19 (F := Ideal) (k0_pay2 x12) (k0_pay10 x2) (ix2 r j) = Rms.ms 1115684864#32 (hd (hk (mat x2 r)) (hof j)) := by
  pointwise [k0_pay19, k0_pay10, k0_pay8, k0_pay2]
  exact congrArg (· + Ideal.ofBits FTy.f32 897988541#32) (avg (fun k => hk (mat x2 r) k * hk (mat x2 r) k) (fun k => mat x12 k j) j fun k => hm k j)

include hm hgk hzk in
/-- What the key's heads send back through their means. -/
theorem sck (r : Fin 256) (j : Fin 512) :
    k0_pay28 (F := Ideal) (k0_pay2 x12) (k0_pay10 x2) (k0_pay14 x11) x4 (ix2 r j)
      = Rms.sc 1115684864#32 (hd (hk (mat x2 r)) (hof j)) (fun i => hd (mat x4 r) (hof j) i * gk i) := by
  have h := msk hm (x2 := x2)
  pointwise [k0_pay28, k0_pay26, k0_pay20, k0_pay14, h, hk_at, tab_at]
  rw [← hd_gain (mat x4 r) (row x11) gk hgk]
  exact avg_back (hk (mat x2 r)) (fun k => mat x4 r k * row x11 k) _ (fun k => mat x12 j k) j (hzk r) (fun k => by rw [hm]; exact if_congr eq_comm rfl rfl) fun k => rfl

include hm hgk hzk in
/-- The gradient of the key part. -/
theorem dk_at (r : Fin 256) (j : Fin 512) :
    k0_pay27 (F := Ideal) (k0_pay2 x12) (k0_pay10 x2) (k0_pay14 x11) x4 (ix2 r j) + k0_pay29 (F := Ideal) (k0_pay2 x12) (k0_pay10 x2) (k0_pay14 x11) x4 (ix2 r j)
      + k0_pay28 (F := Ideal) (k0_pay2 x12) (k0_pay10 x2) (k0_pay14 x11) x4 (ix2 r j) * k0_pay10 (F := Ideal) x2 (ix2 r j)
      = dh gk (hk (mat x2 r)) (mat x4 r) j := by
  have h := msk hm (x2 := x2)
  have h' := sck hm hgk hzk (x2 := x2)
  pointwise [k0_pay27, k0_pay29, k0_pay26, k0_pay20, gk_at, h, h', hk_at]
  unfold dh Rms.back
  rw [hd_cof, hgk]
  show _ = hd (mat x4 r) (hof j) (cof j) * _ * _ + _ + _
  rw [hd_cof]
  rfl

include hm hgq hzq in
/-- The gradient of the query part. -/
theorem dq_at (r : Fin 256) (j : Fin 512) :
    x3 (ix2 r j) * k0_pay13 (F := Ideal) x10 (ix2 0 j) * k0_pay16 (F := Ideal) x12 x2 (ix2 r j)
        + k0_pay9 (F := Ideal) x2 (ix2 r j) * ∑ k, k0_pay9 (F := Ideal) x2 (ix2 r k) * (x3 (ix2 r k) * k0_pay13 (F := Ideal) x10 (ix2 0 k)) * k0_pay17 (F := Ideal) x12 x2 (ix2 r k) * k0_pay2 (F := Ideal) x12 (ix2 j k)
        + (∑ k, k0_pay9 (F := Ideal) x2 (ix2 r k) * (x3 (ix2 r k) * k0_pay13 (F := Ideal) x10 (ix2 0 k)) * k0_pay17 (F := Ideal) x12 x2 (ix2 r k) * k0_pay2 (F := Ideal) x12 (ix2 j k)) * k0_pay9 (F := Ideal) x2 (ix2 r j)
      = dh gq (hq (mat x2 r)) (mat x3 r) j := by
  have h := msq hm (x2 := x2)
  pointwise [gq_at, k0_pay16, k0_pay17, h, hq_at, tab_at]
  unfold dh Rms.back
  have e := avg_back (hq (mat x2 r)) (fun k => mat x3 r k * row x10 k) (fun k => _) (fun k => mat x12 j k) j (hzq r) (fun k => by rw [hm]; exact if_congr eq_comm rfl rfl) fun k => rfl
  rw [hd_gain (mat x3 r) (row x10) gq hgq] at e
  rw [hd_cof]
  show _ = hd (mat x3 r) (hof j) (cof j) * _ * _ + _ + _
  rw [hd_cof, ← e, ← hgq]
  rfl

include hm hgq hgk hzq hzk in
/-- The gradient of the product. -/
theorem tp_at (r : Fin 256) (j : Fin 2304) : tp x2 x3 x4 x5 x6 x7 x10 x11 x12 (ix2 r j)
    = dp gq gk (mat x2 r) (mat x3 r) (mat x4 r) (mat x5 r) (mat x6 r) (mat x7 r) j := by
  have h := dk_at hm hgk hzk (x2 := x2) (x4 := x4)
  have h' := dq_at hm hgq hzq (x2 := x2) (x3 := x3)
  unfold tp
  pointwise [k0_pay31]
  simp only [Nat.sub_sub, Nat.reduceAdd]
  unfold dp
  by_cases h1 : j.val < 512
  · simp only [dif_pos h1]
    exact h' r ⟨j.val, h1⟩
  by_cases h2 : j.val < 1024
  · simp only [dif_neg h1, dif_pos h2, dif_pos (show j.val - 512 < 512 by omega)]
    exact h r ⟨j.val - 512, by omega⟩
  by_cases h3 : j.val < 1536
  · simp only [dif_neg h1, dif_neg h2, dif_pos h3, dif_neg (show ¬j.val - 512 < 512 by omega), dif_pos (show j.val - 1024 < 512 by omega)]
  by_cases h4 : j.val < 1792
  · simp only [dif_neg h1, dif_neg h2, dif_neg h3, dif_pos h4, dif_neg (show ¬j.val - 512 < 512 by omega), dif_neg (show ¬j.val - 1024 < 512 by omega),
      dif_pos (show j.val - 1536 < 256 by omega)]
    exact da_at r _
  by_cases h5 : j.val < 2048
  · simp only [dif_neg h1, dif_neg h2, dif_neg h3, dif_neg h4, dif_pos h5, dif_neg (show ¬j.val - 512 < 512 by omega), dif_neg (show ¬j.val - 1024 < 512 by omega),
      dif_neg (show ¬j.val - 1536 < 256 by omega), dif_pos (show j.val - 1792 < 256 by omega)]
    exact db_at r _
  · simp only [dif_neg h1, dif_neg h2, dif_neg h3, dif_neg h4, dif_neg h5, dif_neg (show ¬j.val - 512 < 512 by omega), dif_neg (show ¬j.val - 1024 < 512 by omega),
      dif_neg (show ¬j.val - 1536 < 256 by omega), dif_neg (show ¬j.val - 1792 < 256 by omega)]

/-- The gradient of the product, as a function of the row. -/
abbrev dpr (r : Fin 256) : Fin 2304 → EReal := dp gq gk (mat x2 r) (mat x3 r) (mat x4 r) (mat x5 r) (mat x6 r) (mat x7 r)

include hm hgq hgk hzq hzk in
/-- The gradient of the normed rows. -/
theorem tn_at (r : Fin 256) (l : Fin 1024) : tn x2 x3 x4 x5 x6 x7 x9 x10 x11 x12 (ix2 r l)
    = ∑ j, dp gq gk (mat x2 r) (mat x3 r) (mat x4 r) (mat x5 r) (mat x6 r) (mat x7 r) j * mat x9 j l := by
  have h := tp_at hm hgq hgk hzq hzk (x2 := x2) (x5 := x5) (x6 := x6) (x7 := x7)
  unfold tp at h
  unfold tn
  pointwise [k0_pay32, h]

include hm hgq hgk hzq hzk in
/-- The block's part of the gradient of the norm's weight. -/
theorem t15_at (u : Fin 1) (l : Fin 1024) : t15 x0 x2 x3 x4 x5 x6 x7 x9 x10 x11 x12 (ix2 u l)
    = ∑ r : Fin 256, mat x0 r l * Rms.inv 1149239296#32 (mat x0 r) * ∑ j, dp gq gk (mat x2 r) (mat x3 r) (mat x4 r) (mat x5 r) (mat x6 r) (mat x7 r) j * mat x9 j l := by
  have h := tn_at hm hgq hgk hzq hzk (x2 := x2) (x5 := x5) (x6 := x6) (x7 := x7) (x9 := x9)
  unfold tn at h
  unfold t15
  pointwise [k0_pay33, k0_pay6, k0_pay4, k0_pay3, h]
  rfl

include hm hgq hgk hzq hzk in
/-- The gradient of the layer's input. -/
theorem t13_at (r : Fin 256) (l : Fin 1024) : t13 x0 x1 x2 x3 x4 x5 x6 x7 x8 x9 x10 x11 x12 (ix2 r l)
    = mat x1 r l + Rms.back 1149239296#32 (mat x0 r) (fun k => (∑ j, dp gq gk (mat x2 r) (mat x3 r) (mat x4 r) (mat x5 r) (mat x6 r) (mat x7 r) j * mat x9 j k) * row x8 k) l := by
  have h := tn_at hm hgq hgk hzq hzk (x2 := x2) (x5 := x5) (x6 := x6) (x7 := x7) (x9 := x9)
  unfold tn at h
  unfold t13
  pointwise [k0_pay35, k0_pay34, k0_pay1, k0_pay5, k0_pay4, k0_pay3, h]
  simp only [Fin.sum_univ_one]
  rfl

include hm hgq hgk hzq hzk in
/-- The block's part of the gradient of the product's weight. -/
theorem t14_at (j : Fin 2304) (l : Fin 1024) : t14 x0 x2 x3 x4 x5 x6 x7 x8 x10 x11 x12 (ix2 j l)
    = ∑ r : Fin 256, dp gq gk (mat x2 r) (mat x3 r) (mat x4 r) (mat x5 r) (mat x6 r) (mat x7 r) j * (mat x0 r l * Rms.inv 1149239296#32 (mat x0 r) * row x8 l) := by
  have h := tp_at hm hgq hgk hzq hzk (x2 := x2) (x5 := x5) (x6 := x6) (x7 := x7)
  unfold t14
  pointwise [k0_pay36, k0_pay7, k0_pay6, k0_pay4, k0_pay3, k0_pay1, h]
  rfl

include hm in
/-- The block's part of the gradient of the query gain. -/
theorem t16_at (u : Fin 1) (j : Fin 512) : t16 x2 x3 x12 (ix2 u j) = ∑ r : Fin 256, dgain (hq (mat x2 r)) (mat x3 r) j := by
  have h := msq hm (x2 := x2)
  unfold t16
  pointwise [k0_pay30, k0_pay18, k0_pay16, h, hq_at]
  rfl

include hm in
/-- The block's part of the gradient of the key gain. -/
theorem t17_at (u : Fin 1) (j : Fin 512) : t17 x2 x4 x12 (ix2 u j) = ∑ r : Fin 256, dgain (hk (mat x2 r)) (mat x4 r) j := by
  have h := msk hm (x2 := x2)
  unfold t17
  pointwise [k0_pay25, k0_pay20, h, hk_at]
  rfl

theorem t14n_at (acc : Vec Ideal S2304x1024 .f32) (i : S2304x1024.Idx) : t14n x0 x2 x3 x4 x5 x6 x7 x8 x10 x11 x12 acc i = acc i + t14 x0 x2 x3 x4 x5 x6 x7 x8 x10 x11 x12 i := by
  obtain ⟨u, l, rfl⟩ := idx2 i
  unfold t14n t14
  pointwise [k0_pay37]

theorem t15n_at (acc : Vec Ideal S1x1024 .f32) (i : S1x1024.Idx) : t15n x0 x2 x3 x4 x5 x6 x7 x9 x10 x11 x12 acc i = acc i + t15 x0 x2 x3 x4 x5 x6 x7 x9 x10 x11 x12 i := by
  obtain ⟨u, l, rfl⟩ := idx2 i
  unfold t15n
  pointwise [k0_pay38]

theorem t16n_at (acc : Vec Ideal S1x512 .f32) (i : S1x512.Idx) : t16n x2 x3 x12 acc i = acc i + t16 x2 x3 x12 i := by
  obtain ⟨u, l, rfl⟩ := idx2 i
  unfold t16n
  pointwise [k0_pay39]

theorem t17n_at (acc : Vec Ideal S1x512 .f32) (i : S1x512.Idx) : t17n x2 x4 x12 acc i = acc i + t17 x2 x4 x12 i := by
  obtain ⟨u, l, rfl⟩ := idx2 i
  unfold t17n
  pointwise [k0_pay40]

end Cert.MixInVal

end
-- ==== Proof.MixIn.Ref.lean ====
/- What the reference of the input product's gradient computes, read at an index. -/
module

public import proofs.«01_k».proof.Proof.Base
public import proofs.«01_k».proof.Proof.MixIn.Math
public import proofs.«01_k».proof.Proof.Gen.MixInRefIdeal.Read
public import Idealize.ShloMosaic.Lib.Pointwise

@[expose] public section

set_option maxRecDepth 16384

noncomputable section

namespace Cert.MixInVal

open Idealize.ShloMosaic Idealize.ShloMosaic.Pointwise Cert.Base Cert.LossVal Cert.MixInRefIdeal Cert.MixInRefIdeal.Read

variable (x0 : (⟨S8192x1024, .f32⟩ : BufTy).Contents (Elt Ideal)) (x1 : (⟨S1024, .f32⟩ : BufTy).Contents (Elt Ideal))
  (x2 : (⟨S1024x2304, .f32⟩ : BufTy).Contents (Elt Ideal)) (x3 x4 : (⟨S64, .f32⟩ : BufTy).Contents (Elt Ideal))
  (x5 : (⟨S8192x1024, .f32⟩ : BufTy).Contents (Elt Ideal)) (x6 x7 x8 : (⟨S8192x512, .f32⟩ : BufTy).Contents (Elt Ideal))
  (x9 x10 : (⟨S8192x256, .f32⟩ : BufTy).Contents (Elt Ideal))

/-- A row of the product. -/
abbrev pr (r : Fin 8192) (q : Fin 2304) : EReal := ∑ k, mat x0 r k * Rms.inv 1149239296#32 (mat x0 r) * vec x1 k * mat x2 k q

theorem ref_pre (r : Fin 8192) (q : Fin 2304) : val_main_v18 (F := Ideal) x0 x1 x2 (ix2 r q) = pr x0 x1 x2 r q := by
  pointwise [val_main_v2, val_main_cst, val_main_v3, val_main_v4, val_main_cst_0, val_main_v5, val_main_v6, val_main_cst_1, val_main_v7, val_main_v8, val_main_v9, val_main_v13, val_main_v14, val_main_v15, val_main_v16, val_main_v17, val_main_v18]
  rfl

theorem ref_q (r : Fin 8192) (h : Fin 8) (i : Fin 64) : val_main_v20 (F := Ideal) x0 x1 x2 (ix3 r h i) = hd (hq (pr x0 x1 x2 r)) h i := by
  pointwise [val_main_v20, val_main_v19, ref_pre]
  rfl

theorem ref_k (r : Fin 8192) (h : Fin 8) (i : Fin 64) : val_main_v38 (F := Ideal) x0 x1 x2 (ix3 r h i) = hd (hk (pr x0 x1 x2 r)) h i := by
  pointwise [val_main_v38, val_main_v37, ref_pre]
  rfl

/-- The gradient of the query part. -/
theorem ref_dq (r : Fin 8192) (j : Fin 512) : val_main_v126 (F := Ideal) x0 x1 x2 x3 x6 (ix2 r j) = dh (vec x3) (hq (pr x0 x1 x2 r)) (mat x6 r) j := by
  pointwise [val_main_v126, val_main_v125, val_main_v124, val_main_v123, val_main_v122, val_main_v121, val_main_v120, val_main_cst_27, val_main_v119, val_main_v118, val_main_cst_26, val_main_v117, val_main_v116, val_main_v115, val_main_v114, val_main_v113, val_main_cst_25, val_main_v112, val_main_v110, val_main_v109, val_main_v34, val_main_v79, val_main_v0, val_main_v31, val_main_v30, val_main_cst_6, val_main_v29, val_main_v28, val_main_v27, val_main_v26, val_main_cst_5, val_main_v25, val_main_v24, val_main_cst_4, val_main_v23, val_main_v22, val_main_cst_3, val_main_v21, ref_q]
  simp only [Fin.sum_univ_one]
  unfold dh Rms.back
  show _ = hd (mat x6 r) (hof j) (cof j) * _ * _ + _ + _
  rw [hd_cof (mat x6 r)]
  rfl

/-- The gradient of the key part. -/
theorem ref_dk (r : Fin 8192) (j : Fin 512) : val_main_v103 (F := Ideal) x0 x1 x2 x4 x7 (ix2 r j) = dh (vec x4) (hk (pr x0 x1 x2 r)) (mat x7 r) j := by
  pointwise [val_main_v103, val_main_v102, val_main_v101, val_main_v100, val_main_v99, val_main_v98, val_main_v97, val_main_cst_21, val_main_v96, val_main_v95, val_main_cst_20, val_main_v94, val_main_v93, val_main_v92, val_main_v91, val_main_v90, val_main_cst_19, val_main_v89, val_main_v87, val_main_v86, val_main_v52, val_main_v78, val_main_v1, val_main_v49, val_main_v48, val_main_cst_10, val_main_v47, val_main_v46, val_main_v45, val_main_v44, val_main_cst_9, val_main_v43, val_main_v42, val_main_cst_8, val_main_v41, val_main_v40, val_main_cst_7, val_main_v39, ref_k]
  simp only [Fin.sum_univ_one]
  unfold dh Rms.back
  show _ = hd (mat x7 r) (hof j) (cof j) * _ * _ + _ + _
  rw [hd_cof (mat x7 r)]
  rfl

/-- The gradient of the product. -/
theorem ref_dp (r : Fin 8192) (j : Fin 2304) : val_main_v128 (F := Ideal) x0 x1 x2 x3 x4 x6 x7 x8 x9 x10 (ix2 r j)
    = dp (vec x3) (vec x4) (pr x0 x1 x2 r) (mat x6 r) (mat x7 r) (mat x8 r) (mat x9 r) (mat x10 r) j := by
  pointwise [val_main_v128, val_main_v127, val_main_cst_28, val_main_v105, val_main_v104, val_main_cst_22, val_main_v82, val_main_v81, val_main_cst_16, val_main_v80, val_main_v77, val_main_v76, val_main_cst_15, val_main_v75, val_main_v74, val_main_v73, val_main_v72, val_main_cst_14, val_main_v69, val_main_v68, val_main_v67, val_main_cst_13, val_main_v66, val_main_v65, val_main_cst_12, val_main_v64, val_main_v63, val_main_cst_11, val_main_v62, val_main_v61, val_main_v57, val_main_v56, val_main_v55, ref_pre, ref_dq, ref_dk]
  have e : ∀ (a : ℕ) (h : 1536 + (256 + a) < 2304), (⟨1536 + (256 + a), h⟩ : Fin 2304) = ⟨1792 + a, by omega⟩ := fun a h => Fin.ext (by dsimp only; omega)
  simp only [e, Nat.sub_sub, Nat.reduceAdd]
  unfold dp
  by_cases h1 : j.val < 512
  · simp only [dif_pos h1, dif_neg (show ¬(2048 ≤ j.val ∧ j.val - 2048 < 256) by omega), dif_neg (show ¬(1024 ≤ j.val ∧ j.val - 1024 < 512) by omega),
      dif_neg (show ¬(1536 ≤ j.val ∧ j.val - 1536 < 512) by omega), dif_neg (show ¬(512 ≤ j.val ∧ j.val - 512 < 512) by omega), zero_add]
  by_cases h2 : j.val < 1024
  · simp only [dif_neg h1, dif_pos h2, dif_neg (show ¬(2048 ≤ j.val ∧ j.val - 2048 < 256) by omega), dif_neg (show ¬(1024 ≤ j.val ∧ j.val - 1024 < 512) by omega),
      dif_neg (show ¬(1536 ≤ j.val ∧ j.val - 1536 < 512) by omega), dif_pos (show 512 ≤ j.val ∧ j.val - 512 < 512 by omega), zero_add, add_zero]
  by_cases h3 : j.val < 1536
  · simp only [dif_neg h1, dif_neg h2, dif_pos h3, dif_neg (show ¬(2048 ≤ j.val ∧ j.val - 2048 < 256) by omega), dif_pos (show 1024 ≤ j.val ∧ j.val - 1024 < 512 by omega),
      dif_neg (show ¬(1536 ≤ j.val ∧ j.val - 1536 < 512) by omega), dif_neg (show ¬(512 ≤ j.val ∧ j.val - 512 < 512) by omega), zero_add, add_zero]
  by_cases h4 : j.val < 1792
  · simp only [dif_neg h1, dif_neg h2, dif_neg h3, dif_pos h4, dif_neg (show ¬(2048 ≤ j.val ∧ j.val - 2048 < 256) by omega), dif_neg (show ¬(1024 ≤ j.val ∧ j.val - 1024 < 512) by omega),
      dif_pos (show 1536 ≤ j.val ∧ j.val - 1536 < 512 by omega), dif_pos (show j.val - 1536 < 256 by omega), dif_neg (show ¬(512 ≤ j.val ∧ j.val - 512 < 512) by omega), zero_add, add_zero]
    rfl
  by_cases h5 : j.val < 2048
  · simp only [dif_neg h1, dif_neg h2, dif_neg h3, dif_neg h4, dif_pos h5, dif_neg (show ¬(2048 ≤ j.val ∧ j.val - 2048 < 256) by omega), dif_neg (show ¬(1024 ≤ j.val ∧ j.val - 1024 < 512) by omega),
      dif_pos (show 1536 ≤ j.val ∧ j.val - 1536 < 512 by omega), dif_neg (show ¬j.val - 1536 < 256 by omega), dif_neg (show ¬(512 ≤ j.val ∧ j.val - 512 < 512) by omega), zero_add, add_zero]
    rfl
  · simp only [dif_neg h1, dif_neg h2, dif_neg h3, dif_neg h4, dif_neg h5, dif_pos (show 2048 ≤ j.val ∧ j.val - 2048 < 256 by omega), dif_neg (show ¬(1024 ≤ j.val ∧ j.val - 1024 < 512) by omega),
      dif_neg (show ¬(1536 ≤ j.val ∧ j.val - 1536 < 512) by omega), dif_neg (show ¬(512 ≤ j.val ∧ j.val - 512 < 512) by omega), add_zero]

theorem ref_dp' (r : Fin 8192) (l : Fin 1024) : val_main_v131 (F := Ideal) x0 x1 x2 x3 x4 x6 x7 x8 x9 x10 (ix2 r l)
    = ∑ j, dp (vec x3) (vec x4) (pr x0 x1 x2 r) (mat x6 r) (mat x7 r) (mat x8 r) (mat x9 r) (mat x10 r) j * mat x2 l j := by
  pointwise [val_main_v131, ref_dp]

/-- The gradient of the layer's input. -/
theorem ref_dx (r : Fin 8192) (l : Fin 1024) : val_main_v152 (F := Ideal) x0 x1 x2 x3 x4 x5 x6 x7 x8 x9 x10 (ix2 r l)
    = mat x5 r l + Rms.back 1149239296#32 (mat x0 r) (fun k => (∑ j, dp (vec x3) (vec x4) (pr x0 x1 x2 r) (mat x6 r) (mat x7 r) (mat x8 r) (mat x9 r) (mat x10 r) j * mat x2 k j) * vec x1 k) l := by
  pointwise [val_main_v152, val_main_v151, val_main_v150, val_main_v149, val_main_v148, val_main_v147, val_main_cst_33, val_main_v146, val_main_v145, val_main_cst_32, val_main_v144, val_main_v143, val_main_v142, val_main_v141, val_main_v140, val_main_v139, val_main_cst_31, val_main_v138, val_main_v136, val_main_v135, val_main_v15, val_main_v12, val_main_v11, val_main_cst_2, val_main_v10, val_main_v9, val_main_v8, val_main_v7, val_main_cst_1, val_main_v6, val_main_v5, val_main_cst_0, val_main_v4, val_main_v3, val_main_cst, val_main_v2, ref_dp']
  simp only [Fin.sum_univ_one]
  unfold Rms.back
  simp only [add_assoc]
  rfl

/-- The gradient of the product's weight. -/
theorem ref_dw (j : Fin 2304) (l : Fin 1024) : val_main_v153 (F := Ideal) x0 x1 x2 x3 x4 x6 x7 x8 x9 x10 (ix2 j l)
    = ∑ r, dp (vec x3) (vec x4) (pr x0 x1 x2 r) (mat x6 r) (mat x7 r) (mat x8 r) (mat x9 r) (mat x10 r) j * (mat x0 r l * Rms.inv 1149239296#32 (mat x0 r) * vec x1 l) := by
  pointwise [val_main_v153, val_main_v130, val_main_v129, val_main_v17, val_main_v16, val_main_v15, val_main_v14, val_main_v13, val_main_v9, val_main_v8, val_main_v7, val_main_cst_1, val_main_v6, val_main_v5, val_main_cst_0, val_main_v4, val_main_v3, val_main_cst, val_main_v2, ref_dp]
  rfl

/-- The gradient of the norm's weight. -/
theorem ref_dg (u : Fin 1) (l : Fin 1024) : val_main_v154 (F := Ideal) x0 x1 x2 x3 x4 x6 x7 x8 x9 x10 (ix2 u l)
    = ∑ r, mat x0 r l * Rms.inv 1149239296#32 (mat x0 r) * ∑ j, dp (vec x3) (vec x4) (pr x0 x1 x2 r) (mat x6 r) (mat x7 r) (mat x8 r) (mat x9 r) (mat x10 r) j * mat x2 l j := by
  pointwise [val_main_v154, val_main_v137, val_main_cst_30, val_main_v134, val_main_v133, val_main_cst_29, val_main_v132, val_main_v14, val_main_v13, val_main_v9, val_main_v8, val_main_v7, val_main_cst_1, val_main_v6, val_main_v5, val_main_cst_0, val_main_v4, val_main_v3, val_main_cst, val_main_v2, ref_dp']
  simp only [Fin.sum_univ_one]
  rfl

set_option maxHeartbeats 2000000 in
/-- The gradient of the query gain. -/
theorem ref_dgq (u : Fin 1) (j : Fin 512) : val_main_v155 (F := Ideal) x0 x1 x2 x6 (ix2 u j) = ∑ r, dgain (hq (pr x0 x1 x2 r)) (mat x6 r) j := by
  pointwise [val_main_v155, val_main_v111, val_main_cst_24, val_main_v108, val_main_v107, val_main_cst_23, val_main_v106, val_main_v79, val_main_v33, val_main_v32, val_main_v28, val_main_v27, val_main_v26, val_main_cst_5, val_main_v25, val_main_v24, val_main_cst_4, val_main_v23, val_main_v22, val_main_cst_3, val_main_v21, ref_q]
  simp only [Fin.sum_univ_one]
  refine Finset.sum_congr rfl fun r _ => ?_
  unfold dgain
  rw [← hd_cof (hq (pr x0 x1 x2 r)) j]
  rfl

set_option maxHeartbeats 2000000 in
/-- The gradient of the key gain. -/
theorem ref_dgk (u : Fin 1) (j : Fin 512) : val_main_v156 (F := Ideal) x0 x1 x2 x7 (ix2 u j) = ∑ r, dgain (hk (pr x0 x1 x2 r)) (mat x7 r) j := by
  pointwise [val_main_v156, val_main_v88, val_main_cst_18, val_main_v85, val_main_v84, val_main_cst_17, val_main_v83, val_main_v78, val_main_v51, val_main_v50, val_main_v46, val_main_v45, val_main_v44, val_main_cst_9, val_main_v43, val_main_v42, val_main_cst_8, val_main_v41, val_main_v40, val_main_cst_7, val_main_v39, ref_k]
  simp only [Fin.sum_univ_one]
  refine Finset.sum_congr rfl fun r _ => ?_
  unfold dgain
  rw [← hd_cof (hk (pr x0 x1 x2 r)) j]
  rfl

end Cert.MixInVal

end
-- ==== Proof.MixIn.Points.lean ====
/- What the input product's gradient call's body leaves at each point. -/
module

public import proofs.«01_k».proof.Proof.Base
public import proofs.«01_k».proof.Proof.MixIn.Terms
public import proofs.«01_k».proof.Proof.Gen.MixInIdeal.Value
public import Idealize.ShloMosaic.Lib.Pipeline.ValueKit
public import Idealize.ShloMosaic.Lib.Pipeline.ReadBack

@[expose] public section

set_option maxRecDepth 16384

noncomputable section

namespace Cert.MixInVal

open Idealize.ShloMosaic Idealize.ShloMosaic.TcCoe Idealize.SL.Sem Cert.Base Cert.MixInIdeal Cert.MixInIdeal.Gen

variable (m : (ℓ : Loc nD τ sig) → Buf (Elt Ideal) ℓ) (c : Dev nD)

theorem lt_N (t : Fin cfg0.N) : t.val < 32 := lt_of_lt_of_eq t.isLt N_0

/-- The first point. -/
theorem at_A (t : Fin cfg0.N) (h0 : t.val % 32 = 0) (h1 : ¬1 ≤ t.val) :
    (outsAt0 m c t.val t.isLt).1 = t13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      ∧ (outsAt0 m c t.val t.isLt).2.1 = t14 (iblk m c 0 t) (iblk m c 2 t) (iblk m c 3 t) (iblk m c 4 t) (iblk m c 5 t) (iblk m c 6 t) (iblk m c 7 t) (iblk m c 8 t) (iblk m c 10 t) (iblk m c 11 t) (iblk m c 12 t)
      ∧ (outsAt0 m c t.val t.isLt).2.2.1 = t15 (iblk m c 0 t) (iblk m c 2 t) (iblk m c 3 t) (iblk m c 4 t) (iblk m c 5 t) (iblk m c 6 t) (iblk m c 7 t) (iblk m c 9 t) (iblk m c 10 t) (iblk m c 11 t) (iblk m c 12 t)
      ∧ (outsAt0 m c t.val t.isLt).2.2.2.1 = t16 (iblk m c 2 t) (iblk m c 3 t) (iblk m c 12 t)
      ∧ (outsAt0 m c t.val t.isLt).2.2.2.2 = t17 (iblk m c 2 t) (iblk m c 4 t) (iblk m c 12 t) := by
  rw [outsAt0_A m c t h0 h1 h0 h1 h0 h1 h0 h1]
  refine ⟨?_, ?_, ?_, ?_, ?_⟩ <;> (dsimp only; frame_out) <;> rfl

/-- A later point. -/
theorem at_B (t : Fin cfg0.N) (h0 : ¬t.val % 32 = 0) (h1 : 1 ≤ t.val) :
    (outsAt0 m c t.val t.isLt).1 = t13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      ∧ (outsAt0 m c t.val t.isLt).2.1 = t14n (iblk m c 0 t) (iblk m c 2 t) (iblk m c 3 t) (iblk m c 4 t) (iblk m c 5 t) (iblk m c 6 t) (iblk m c 7 t) (iblk m c 8 t) (iblk m c 10 t) (iblk m c 11 t) (iblk m c 12 t) (outsAt0 m c (t.val - 1) (lt_of_le_of_lt (Nat.sub_le _ _) t.isLt)).2.1
      ∧ (outsAt0 m c t.val t.isLt).2.2.1 = t15n (iblk m c 0 t) (iblk m c 2 t) (iblk m c 3 t) (iblk m c 4 t) (iblk m c 5 t) (iblk m c 6 t) (iblk m c 7 t) (iblk m c 9 t) (iblk m c 10 t) (iblk m c 11 t) (iblk m c 12 t) (outsAt0 m c (t.val - 1) (lt_of_le_of_lt (Nat.sub_le _ _) t.isLt)).2.2.1
      ∧ (outsAt0 m c t.val t.isLt).2.2.2.1 = t16n (iblk m c 2 t) (iblk m c 3 t) (iblk m c 12 t) (outsAt0 m c (t.val - 1) (lt_of_le_of_lt (Nat.sub_le _ _) t.isLt)).2.2.2.1
      ∧ (outsAt0 m c t.val t.isLt).2.2.2.2 = t17n (iblk m c 2 t) (iblk m c 4 t) (iblk m c 12 t) (outsAt0 m c (t.val - 1) (lt_of_le_of_lt (Nat.sub_le _ _) t.isLt)).2.2.2.2 := by
  rw [outsAt0_B m c t h0 h1 h0 h1 h0 h1 h0 h1]
  refine ⟨?_, ?_, ?_, ?_, ?_⟩ <;> (dsimp only; frame_out) <;> rfl

end Cert.MixInVal

end
-- ==== Proof.MixIn.Final.lean ====
/- The input product's gradient call against its reference: the arrays after the run are the reference's arrays, where the gains and the cotangents of
   the queries and keys are real. -/
module

public import proofs.«01_k».proof.Defs
public import proofs.«01_k».proof.Proof.MixIn.Kern
public import proofs.«01_k».proof.Proof.MixIn.Ref
public import proofs.«01_k».proof.Proof.MixIn.Points
public import proofs.«01_k».proof.Proof.Gen.MixInRefIdeal.Run
public import proofs.«01_k».proof.Proof.Gen.MixInIdeal.Value
public import Idealize.ShloMosaic.Lib.Pipeline.ValueKit
public import Idealize.ShloMosaic.Lib.StableHlo.ReadAt

@[expose] public section

set_option maxRecDepth 16384

noncomputable section

namespace Cert.MixInVal

open Idealize.ShloMosaic Idealize.ShloMosaic.Pointwise Cert.Base Cert.Fin Idealize.SL.Sem Cert.MixInIdeal Cert.MixInIdeal.Gen

/-- A product entry by entry. -/
abbrev prod (x y : Fin 512 → EReal) (j : Fin 512) : EReal := x j * y j

/-- One row's part of the gradient of the weight: `d` the gradient of the row's product, `x` the row, `g` the norm's weight. -/
abbrev dwTerm (x g : Fin 1024 → EReal) (d : Fin 2304 → EReal) (j : Fin 2304) (l : Fin 1024) : EReal := d j * (x l * Rms.inv 1149239296#32 x * g l)

/-- One row's part of the gradient of the norm's weight. -/
abbrev dgTerm (x : Fin 1024 → EReal) (w : Fin 1024 → Fin 2304 → EReal) (d : Fin 2304 → EReal) (l : Fin 1024) : EReal :=
  x l * Rms.inv 1149239296#32 x * ∑ q, d q * w l q

/-- The gains and the cotangents of the queries and keys are real. -/
structure Args (a3 a4 : Vec Ideal S64 .f32) (a6 a7 : Vec Ideal S8192x512 .f32) : Prop where
  gq : ∀ i, IsReal (vec a3 i)
  gk : ∀ i, IsReal (vec a4 i)
  dq : ∀ r j, IsReal (mat a6 r j)
  dk : ∀ r j, IsReal (mat a7 r j)

variable (m : (ℓ : Loc nD τ sig) → Buf (Elt Ideal) ℓ) (c : Dev nD)

/-- A row of window 0's block at point `t` is the argument's row of that block. -/
theorem blk0 (t : Fin cfg0.N) (r : Fin 256) : mat (iblk m c 0 t) r = mat (m ((c.tc : Thread nD τ).loc main_arg0)) ⟨t.val * 256 + r.val, by have := lt_N t; omega⟩ := by
  have e : ∀ t : Fin cfg0.N, win0_0.index t = ![t.val, 0] := by decide +kernel
  funext l
  have ht := lt_N t
  have h : (win0_0.blk t).view.emb (ix2 r l) = ix2 (⟨t.val * 256 + r.val, by omega⟩ : Fin 8192) l := by blk_ext [e]
  unfold mat
  blk_simp [iblk]
  rw [V_main_arg0, h]

/-- A row of window 1's block at point `t` is the argument's row of that block. -/
theorem blk1 (t : Fin cfg0.N) (r : Fin 256) : mat (iblk m c 1 t) r = mat (m ((c.tc : Thread nD τ).loc main_arg5)) ⟨t.val * 256 + r.val, by have := lt_N t; omega⟩ := by
  have e : ∀ t : Fin cfg0.N, win0_1.index t = ![t.val, 0] := by decide +kernel
  funext l
  have ht := lt_N t
  have h : (win0_1.blk t).view.emb (ix2 r l) = ix2 (⟨t.val * 256 + r.val, by omega⟩ : Fin 8192) l := by blk_ext [e]
  unfold mat
  blk_simp [iblk]
  rw [V_main_arg5, h]

/-- A row of window 3's block at point `t` is the argument's row of that block. -/
theorem blk3 (t : Fin cfg0.N) (r : Fin 256) : mat (iblk m c 3 t) r = mat (m ((c.tc : Thread nD τ).loc main_arg6)) ⟨t.val * 256 + r.val, by have := lt_N t; omega⟩ := by
  have e : ∀ t : Fin cfg0.N, win0_3.index t = ![t.val, 0] := by decide +kernel
  funext l
  have ht := lt_N t
  have h : (win0_3.blk t).view.emb (ix2 r l) = ix2 (⟨t.val * 256 + r.val, by omega⟩ : Fin 8192) l := by blk_ext [e]
  unfold mat
  blk_simp [iblk]
  rw [V_main_arg6, h]

/-- A row of window 4's block at point `t` is the argument's row of that block. -/
theorem blk4 (t : Fin cfg0.N) (r : Fin 256) : mat (iblk m c 4 t) r = mat (m ((c.tc : Thread nD τ).loc main_arg7)) ⟨t.val * 256 + r.val, by have := lt_N t; omega⟩ := by
  have e : ∀ t : Fin cfg0.N, win0_4.index t = ![t.val, 0] := by decide +kernel
  funext l
  have ht := lt_N t
  have h : (win0_4.blk t).view.emb (ix2 r l) = ix2 (⟨t.val * 256 + r.val, by omega⟩ : Fin 8192) l := by blk_ext [e]
  unfold mat
  blk_simp [iblk]
  rw [V_main_arg7, h]

/-- A row of window 5's block at point `t` is the argument's row of that block. -/
theorem blk5 (t : Fin cfg0.N) (r : Fin 256) : mat (iblk m c 5 t) r = mat (m ((c.tc : Thread nD τ).loc main_arg8)) ⟨t.val * 256 + r.val, by have := lt_N t; omega⟩ := by
  have e : ∀ t : Fin cfg0.N, win0_5.index t = ![t.val, 0] := by decide +kernel
  funext l
  have ht := lt_N t
  have h : (win0_5.blk t).view.emb (ix2 r l) = ix2 (⟨t.val * 256 + r.val, by omega⟩ : Fin 8192) l := by blk_ext [e]
  unfold mat
  blk_simp [iblk]
  rw [V_main_arg8, h]

/-- A row of window 6's block at point `t` is the argument's row of that block. -/
theorem blk6 (t : Fin cfg0.N) (r : Fin 256) : mat (iblk m c 6 t) r = mat (m ((c.tc : Thread nD τ).loc main_arg9)) ⟨t.val * 256 + r.val, by have := lt_N t; omega⟩ := by
  have e : ∀ t : Fin cfg0.N, win0_6.index t = ![t.val, 0] := by decide +kernel
  funext l
  have ht := lt_N t
  have h : (win0_6.blk t).view.emb (ix2 r l) = ix2 (⟨t.val * 256 + r.val, by omega⟩ : Fin 8192) l := by blk_ext [e]
  unfold mat
  blk_simp [iblk]
  rw [V_main_arg9, h]

/-- A row of window 7's block at point `t` is the argument's row of that block. -/
theorem blk7 (t : Fin cfg0.N) (r : Fin 256) : mat (iblk m c 7 t) r = mat (m ((c.tc : Thread nD τ).loc main_arg10)) ⟨t.val * 256 + r.val, by have := lt_N t; omega⟩ := by
  have e : ∀ t : Fin cfg0.N, win0_7.index t = ![t.val, 0] := by decide +kernel
  funext l
  have ht := lt_N t
  have h : (win0_7.blk t).view.emb (ix2 r l) = ix2 (⟨t.val * 256 + r.val, by omega⟩ : Fin 8192) l := by blk_ext [e]
  unfold mat
  blk_simp [iblk]
  rw [V_main_arg10, h]

/-- Window 8's block at every point is a scale as a row. -/
theorem blk8 (t : Fin cfg0.N) : row (iblk m c 8 t) = vec (m ((c.tc : Thread nD τ).loc main_arg1)) := by
  have e : ∀ t : Fin cfg0.N, win0_8.index t = ![0, 0] := by decide +kernel
  funext l
  unfold row vec
  blk_simp [iblk]
  unfold V
  after_reads_at
  refine congrArg _ ?_
  blk_ext [e]

/-- Window 9's block at every point is the argument transposed. -/
theorem blk9 (t : Fin cfg0.N) : (fun k q => mat (iblk m c 9 t) q k) = mat (m ((c.tc : Thread nD τ).loc main_arg2)) := by
  have e : ∀ t : Fin cfg0.N, win0_9.index t = ![0, 0] := by decide +kernel
  funext k q
  unfold mat
  blk_simp [iblk]
  unfold V
  after_reads_at
  refine congrArg _ ?_
  blk_ext [e]

/-- A row of window 2's block is the row's product with the weight. -/
theorem blk2 (t : Fin cfg0.N) (r : Fin 256) : mat (iblk m c 2 t) r = pr (m ((c.tc : Thread nD τ).loc main_arg0)) (m ((c.tc : Thread nD τ).loc main_arg1)) (m ((c.tc : Thread nD τ).loc main_arg2)) ⟨t.val * 256 + r.val, by have := lt_N t; omega⟩ := by
  have e : ∀ t : Fin cfg0.N, win0_2.index t = ![t.val, 0] := by decide +kernel
  funext l
  have ht := lt_N t
  have h : (win0_2.blk t).view.emb (ix2 r l) = ix2 (⟨t.val * 256 + r.val, by omega⟩ : Fin 8192) l := by blk_ext [e]
  unfold mat
  blk_simp [iblk]
  rw [h]
  unfold V
  after_reads_at
  pointwise []
  rfl

/-- The query gain, once for each head. -/
theorem blk10 (t : Fin cfg0.N) (j : Fin 512) : row (iblk m c 10 t) j = vec (m ((c.tc : Thread nD τ).loc main_arg3)) (cof j) := by
  have e : ∀ t : Fin cfg0.N, win0_10.index t = ![0, 0] := by decide +kernel
  have h : (win0_10.blk t).view.emb (ix2 (0 : Fin 1) j) = ix2 (0 : Fin 1) j := by blk_ext [e]
  unfold row
  blk_simp [iblk]
  rw [h]
  unfold V
  after_reads_at

/-- The key gain, once for each head. -/
theorem blk11 (t : Fin cfg0.N) (j : Fin 512) : row (iblk m c 11 t) j = vec (m ((c.tc : Thread nD τ).loc main_arg4)) (cof j) := by
  have e : ∀ t : Fin cfg0.N, win0_11.index t = ![0, 0] := by decide +kernel
  have h : (win0_11.blk t).view.emb (ix2 (0 : Fin 1) j) = ix2 (0 : Fin 1) j := by blk_ext [e]
  unfold row
  blk_simp [iblk]
  rw [h]
  unfold V
  after_reads_at

/-- The table of one head's mean. -/
theorem blk12 (t : Fin cfg0.N) (k j : Fin 512) : mat (iblk m c 12 t) k j = if k.val / 64 = j.val / 64 then Ideal.ofBits FTy.f32 1015021568#32 else 0 := by
  have e : ∀ t : Fin cfg0.N, win0_12.index t = ![0, 0] := by decide +kernel
  have h : (win0_12.blk t).view.emb (ix2 k j) = ix2 k j := by blk_ext [e]
  unfold mat
  blk_simp [iblk]
  rw [h]
  unfold V
  after_reads_at
  pointwise []
  show (if IntOp.cmpi .eq (BitVec.ofNat 32 (k.val / 64)) (BitVec.ofNat 32 (j.val / 64)) = 1#1 then Ideal.ofBits FTy.f32 1015021568#32 else Ideal.ofBits FTy.f32 0#32) = _
  rw [show Ideal.ofBits FTy.f32 0#32 = 0 by simp [Ideal.ofBits, Ideal.ieee]]
  refine if_congr ?_ rfl rfl
  have hk := k.isLt
  have hj := j.isLt
  have hc : ∀ x y : BitVec 32, IntOp.cmpi .eq x y = 1#1 ↔ x = y := by
    intro x y
    show BitVec.ofBool (x == y) = 1#1 ↔ x = y
    by_cases hq : x = y
    · simp [hq]
    · rw [beq_false_of_ne hq]
      exact ⟨fun h => absurd h (by decide), fun h => absurd h hq⟩
  rw [hc, ← BitVec.toNat_inj]
  simp only [BitVec.toNat_ofNat]
  omega

/-- What the body leaves in its blocked output, at every point. -/
theorem out13 (t : Fin cfg0.N) : (outsAt0 m c t.val t.isLt).1 = t13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  by_cases h : t.val = 0
  · exact (at_A m c t (by omega) (by omega)).1
  · have ht := lt_N t
    exact (at_B m c t (by omega) (by omega)).1

variable {m c} in
/-- The query's cotangent times its gain is real. -/
theorem real_q (R : Args (m ((c.tc : Thread nD τ).loc main_arg3)) (m ((c.tc : Thread nD τ).loc main_arg4)) (m ((c.tc : Thread nD τ).loc main_arg6)) (m ((c.tc : Thread nD τ).loc main_arg7))) (t : Fin cfg0.N) (r : Fin 256) (j : Fin 512) : IsReal (prod (mat (iblk m c 3 t) r) (row (iblk m c 10 t)) j) := by
  unfold prod
  rw [blk3, blk10]
  exact (R.dq _ _).mul (R.gq _)

variable {m c} in
/-- The key's cotangent times its gain is real. -/
theorem real_k (R : Args (m ((c.tc : Thread nD τ).loc main_arg3)) (m ((c.tc : Thread nD τ).loc main_arg4)) (m ((c.tc : Thread nD τ).loc main_arg6)) (m ((c.tc : Thread nD τ).loc main_arg7))) (t : Fin cfg0.N) (r : Fin 256) (j : Fin 512) : IsReal (prod (mat (iblk m c 4 t) r) (row (iblk m c 11 t)) j) := by
  unfold prod
  rw [blk4, blk11]
  exact (R.dk _ _).mul (R.gk _)

/-- The weight's block, entry by entry. -/
theorem wt (t : Fin cfg0.N) (j : Fin 2304) (l : Fin 1024) : mat (iblk m c 9 t) j l = mat (m ((c.tc : Thread nD τ).loc main_arg2)) l j := congrFun (congrFun (blk9 m c t) l) j

set_option maxHeartbeats 2000000 in
/-- The gradient of the layer's input, after the run. -/
theorem final13 (R : Args (m ((c.tc : Thread nD τ).loc main_arg3)) (m ((c.tc : Thread nD τ).loc main_arg4)) (m ((c.tc : Thread nD τ).loc main_arg6)) (m ((c.tc : Thread nD τ).loc main_arg7))) : (dats m 0 c).arrAt 13 cfg0.N = Cert.MixInRefIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e : ∀ t : Fin cfg0.N, win0_13.index t = ![t.val, 0] := by decide +kernel
  refine (dats m 0 c).arrAt_eq_of_covers 13 _ (by decide +kernel) fun t hf y => ?_
  blk_simp
  obtain ⟨r, l, rfl⟩ : ∃ (r : Fin 256) (l : Fin 1024), y = ix2 r l := idx2 y
  have ht := lt_N t
  have hy : (win0_13.blk t).view.emb (ix2 r l) = ix2 (⟨t.val * 256 + r.val, by omega⟩ : Fin 8192) l := by blk_ext [e]
  rw [after0_13, out13 m c t, hy, t13_at (blk12 m c t) (blk10 m c t) (blk11 m c t) (real_q R t) (real_k R t)]
  rw [blk0, blk1, blk2, blk3, blk4, blk5, blk6, blk7, blk8]
  simp only [wt]
  exact (ref_dx _ _ _ _ _ _ _ _ _ _ _ _ _).symm

/-- One block's part of the gradient of the weight. -/
def term14 (t : Fin cfg0.N) : S2304x1024.Idx → EReal := t14 (iblk m c 0 t) (iblk m c 2 t) (iblk m c 3 t) (iblk m c 4 t) (iblk m c 5 t) (iblk m c 6 t) (iblk m c 7 t) (iblk m c 8 t) (iblk m c 10 t) (iblk m c 11 t) (iblk m c 12 t)

/-- The same from the arguments. -/
theorem term14_eq (R : Args (m ((c.tc : Thread nD τ).loc main_arg3)) (m ((c.tc : Thread nD τ).loc main_arg4)) (m ((c.tc : Thread nD τ).loc main_arg6)) (m ((c.tc : Thread nD τ).loc main_arg7))) (t : Fin cfg0.N) (j : Fin 2304) (l : Fin 1024) : term14 m c t (ix2 j l) = ∑ r : Fin 256, dwTerm (mat (m ((c.tc : Thread nD τ).loc main_arg0)) ⟨t.val * 256 + r.val, by have := lt_N t; omega⟩) (vec (m ((c.tc : Thread nD τ).loc main_arg1))) (dp (vec (m ((c.tc : Thread nD τ).loc main_arg3))) (vec (m ((c.tc : Thread nD τ).loc main_arg4))) (pr (m ((c.tc : Thread nD τ).loc main_arg0)) (m ((c.tc : Thread nD τ).loc main_arg1)) (m ((c.tc : Thread nD τ).loc main_arg2)) ⟨t.val * 256 + r.val, by have := lt_N t; omega⟩) (mat (m ((c.tc : Thread nD τ).loc main_arg6)) ⟨t.val * 256 + r.val, by have := lt_N t; omega⟩) (mat (m ((c.tc : Thread nD τ).loc main_arg7)) ⟨t.val * 256 + r.val, by have := lt_N t; omega⟩) (mat (m ((c.tc : Thread nD τ).loc main_arg8)) ⟨t.val * 256 + r.val, by have := lt_N t; omega⟩) (mat (m ((c.tc : Thread nD τ).loc main_arg9)) ⟨t.val * 256 + r.val, by have := lt_N t; omega⟩) (mat (m ((c.tc : Thread nD τ).loc main_arg10)) ⟨t.val * 256 + r.val, by have := lt_N t; omega⟩)) j l := by
  unfold term14
  rw [t14_at (blk12 m c t) (blk10 m c t) (blk11 m c t) (real_q R t) (real_k R t)]
  exact Finset.sum_congr rfl fun r _ => by rw [blk0, blk2, blk3, blk4, blk5, blk6, blk7, blk8]

/-- The running sum after the last point is the sum over all blocks. -/
theorem acc14 (t : Fin cfg0.N) (ht : t.val + 1 = 32) (i : S2304x1024.Idx) :
    (outsAt0 m c t.val t.isLt).2.1 i = ∑ p : Fin 32, term14 m c (Fin.cast N_0.symm p) i := by
  have key := Pipeline.eq_sum_fin_of_reset_step_apply_last (N := 32) (M := EReal) (fun n h => (outsAt0 m c n (lt_of_lt_of_eq h N_0.symm)).2.1) 32 (fun _ => 0)
    (fun p => term14 m c (Fin.cast N_0.symm p)) ?_ ?_ (le_refl 32) ⟨t.val, lt_N t⟩ ht i
  · rw [zero_add] at key; exact key
  · intro n h0 i
    refine (congrFun (at_A m c (Fin.cast N_0.symm n) h0 (by simp only [Fin.val_cast]; omega)).2.1 i).trans ?_
    rw [zero_add]
    rfl
  · intro n h0 i
    refine (congrFun (at_B m c (Fin.cast N_0.symm n) h0 (by simp only [Fin.val_cast]; omega)).2.1 i).trans ?_
    exact t14n_at _ i

/-- The gradient of the weight, after the run. -/
theorem final14 (R : Args (m ((c.tc : Thread nD τ).loc main_arg3)) (m ((c.tc : Thread nD τ).loc main_arg4)) (m ((c.tc : Thread nD τ).loc main_arg6)) (m ((c.tc : Thread nD τ).loc main_arg7))) : (dats m 0 c).arrAt 14 cfg0.N = Cert.MixInRefIdeal.Read.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e : ∀ t : Fin cfg0.N, win0_14.index t = ![0, 0] := by decide +kernel
  have hl : ∀ t : Fin cfg0.N, (cfg0.win 14).flush t = true → t.val = 31 := by decide +kernel
  refine (dats m 0 c).arrAt_eq_of_covers 14 _ (by decide +kernel) fun t hf y => ?_
  blk_simp
  have h31 := hl t hf
  obtain ⟨j, l, rfl⟩ : ∃ (j : Fin 2304) (l : Fin 1024), y = ix2 j l := idx2 y
  have hy : (win0_14.blk t).view.emb (ix2 j l) = ix2 j l := by blk_ext [e]
  rw [after0_14, hy, acc14 m c t (by omega), Finset.sum_congr rfl fun p _ => term14_eq m c R (Fin.cast N_0.symm p) j l]
  refine Eq.trans ?_ (ref_dw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) j l).symm
  exact Fin.sum_mul_add_fin (L := 8192) 32 256 fun r => dwTerm (mat (m ((c.tc : Thread nD τ).loc main_arg0)) r) (vec (m ((c.tc : Thread nD τ).loc main_arg1))) (dp (vec (m ((c.tc : Thread nD τ).loc main_arg3))) (vec (m ((c.tc : Thread nD τ).loc main_arg4))) (pr (m ((c.tc : Thread nD τ).loc main_arg0)) (m ((c.tc : Thread nD τ).loc main_arg1)) (m ((c.tc : Thread nD τ).loc main_arg2)) r) (mat (m ((c.tc : Thread nD τ).loc main_arg6)) r) (mat (m ((c.tc : Thread nD τ).loc main_arg7)) r) (mat (m ((c.tc : Thread nD τ).loc main_arg8)) r) (mat (m ((c.tc : Thread nD τ).loc main_arg9)) r) (mat (m ((c.tc : Thread nD τ).loc main_arg10)) r)) j l

/-- One block's part of the gradient of the norm's weight. -/
def term15 (t : Fin cfg0.N) : S1x1024.Idx → EReal := t15 (iblk m c 0 t) (iblk m c 2 t) (iblk m c 3 t) (iblk m c 4 t) (iblk m c 5 t) (iblk m c 6 t) (iblk m c 7 t) (iblk m c 9 t) (iblk m c 10 t) (iblk m c 11 t) (iblk m c 12 t)

/-- The same from the arguments. -/
theorem term15_eq (R : Args (m ((c.tc : Thread nD τ).loc main_arg3)) (m ((c.tc : Thread nD τ).loc main_arg4)) (m ((c.tc : Thread nD τ).loc main_arg6)) (m ((c.tc : Thread nD τ).loc main_arg7))) (t : Fin cfg0.N) (j : Fin 1) (l : Fin 1024) : term15 m c t (ix2 j l) = ∑ r : Fin 256, dgTerm (mat (m ((c.tc : Thread nD τ).loc main_arg0)) ⟨t.val * 256 + r.val, by have := lt_N t; omega⟩) (mat (m ((c.tc : Thread nD τ).loc main_arg2))) (dp (vec (m ((c.tc : Thread nD τ).loc main_arg3))) (vec (m ((c.tc : Thread nD τ).loc main_arg4))) (pr (m ((c.tc : Thread nD τ).loc main_arg0)) (m ((c.tc : Thread nD τ).loc main_arg1)) (m ((c.tc : Thread nD τ).loc main_arg2)) ⟨t.val * 256 + r.val, by have := lt_N t; omega⟩) (mat (m ((c.tc : Thread nD τ).loc main_arg6)) ⟨t.val * 256 + r.val, by have := lt_N t; omega⟩) (mat (m ((c.tc : Thread nD τ).loc main_arg7)) ⟨t.val * 256 + r.val, by have := lt_N t; omega⟩) (mat (m ((c.tc : Thread nD τ).loc main_arg8)) ⟨t.val * 256 + r.val, by have := lt_N t; omega⟩) (mat (m ((c.tc : Thread nD τ).loc main_arg9)) ⟨t.val * 256 + r.val, by have := lt_N t; omega⟩) (mat (m ((c.tc : Thread nD τ).loc main_arg10)) ⟨t.val * 256 + r.val, by have := lt_N t; omega⟩)) l := by
  unfold term15
  rw [t15_at (blk12 m c t) (blk10 m c t) (blk11 m c t) (real_q R t) (real_k R t)]
  exact Finset.sum_congr rfl fun r _ => by rw [blk0, blk2, blk3, blk4, blk5, blk6, blk7]; simp only [wt]

/-- The running sum after the last point is the sum over all blocks. -/
theorem acc15 (t : Fin cfg0.N) (ht : t.val + 1 = 32) (i : S1x1024.Idx) :
    (outsAt0 m c t.val t.isLt).2.2.1 i = ∑ p : Fin 32, term15 m c (Fin.cast N_0.symm p) i := by
  have key := Pipeline.eq_sum_fin_of_reset_step_apply_last (N := 32) (M := EReal) (fun n h => (outsAt0 m c n (lt_of_lt_of_eq h N_0.symm)).2.2.1) 32 (fun _ => 0)
    (fun p => term15 m c (Fin.cast N_0.symm p)) ?_ ?_ (le_refl 32) ⟨t.val, lt_N t⟩ ht i
  · rw [zero_add] at key; exact key
  · intro n h0 i
    refine (congrFun (at_A m c (Fin.cast N_0.symm n) h0 (by simp only [Fin.val_cast]; omega)).2.2.1 i).trans ?_
    rw [zero_add]
    rfl
  · intro n h0 i
    refine (congrFun (at_B m c (Fin.cast N_0.symm n) h0 (by simp only [Fin.val_cast]; omega)).2.2.1 i).trans ?_
    exact t15n_at _ i

/-- The gradient of the norm's weight, after the run. -/
theorem final15 (R : Args (m ((c.tc : Thread nD τ).loc main_arg3)) (m ((c.tc : Thread nD τ).loc main_arg4)) (m ((c.tc : Thread nD τ).loc main_arg6)) (m ((c.tc : Thread nD τ).loc main_arg7))) : (dats m 0 c).arrAt 15 cfg0.N = Cert.MixInRefIdeal.Read.val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e : ∀ t : Fin cfg0.N, win0_15.index t = ![0, 0] := by decide +kernel
  have hl : ∀ t : Fin cfg0.N, (cfg0.win 15).flush t = true → t.val = 31 := by decide +kernel
  refine (dats m 0 c).arrAt_eq_of_covers 15 _ (by decide +kernel) fun t hf y => ?_
  blk_simp
  have h31 := hl t hf
  obtain ⟨j, l, rfl⟩ : ∃ (j : Fin 1) (l : Fin 1024), y = ix2 j l := idx2 y
  have hy : (win0_15.blk t).view.emb (ix2 j l) = ix2 j l := by blk_ext [e]
  rw [after0_15, hy, acc15 m c t (by omega), Finset.sum_congr rfl fun p _ => term15_eq m c R (Fin.cast N_0.symm p) j l]
  refine Eq.trans ?_ (ref_dg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) j l).symm
  exact Fin.sum_mul_add_fin (L := 8192) 32 256 fun r => dgTerm (mat (m ((c.tc : Thread nD τ).loc main_arg0)) r) (mat (m ((c.tc : Thread nD τ).loc main_arg2))) (dp (vec (m ((c.tc : Thread nD τ).loc main_arg3))) (vec (m ((c.tc : Thread nD τ).loc main_arg4))) (pr (m ((c.tc : Thread nD τ).loc main_arg0)) (m ((c.tc : Thread nD τ).loc main_arg1)) (m ((c.tc : Thread nD τ).loc main_arg2)) r) (mat (m ((c.tc : Thread nD τ).loc main_arg6)) r) (mat (m ((c.tc : Thread nD τ).loc main_arg7)) r) (mat (m ((c.tc : Thread nD τ).loc main_arg8)) r) (mat (m ((c.tc : Thread nD τ).loc main_arg9)) r) (mat (m ((c.tc : Thread nD τ).loc main_arg10)) r)) l

/-- One block's part of the gradient of the query gain. -/
def term16 (t : Fin cfg0.N) : S1x512.Idx → EReal := t16 (iblk m c 2 t) (iblk m c 3 t) (iblk m c 12 t)

/-- The same from the arguments. -/
theorem term16_eq  (t : Fin cfg0.N) (j : Fin 1) (l : Fin 512) : term16 m c t (ix2 j l) = ∑ r : Fin 256, dgain (hq (pr (m ((c.tc : Thread nD τ).loc main_arg0)) (m ((c.tc : Thread nD τ).loc main_arg1)) (m ((c.tc : Thread nD τ).loc main_arg2)) ⟨t.val * 256 + r.val, by have := lt_N t; omega⟩)) (mat (m ((c.tc : Thread nD τ).loc main_arg6)) ⟨t.val * 256 + r.val, by have := lt_N t; omega⟩) l := by
  unfold term16
  rw [t16_at (blk12 m c t)]
  exact Finset.sum_congr rfl fun r _ => by rw [blk2, blk3]

/-- The running sum after the last point is the sum over all blocks. -/
theorem acc16 (t : Fin cfg0.N) (ht : t.val + 1 = 32) (i : S1x512.Idx) :
    (outsAt0 m c t.val t.isLt).2.2.2.1 i = ∑ p : Fin 32, term16 m c (Fin.cast N_0.symm p) i := by
  have key := Pipeline.eq_sum_fin_of_reset_step_apply_last (N := 32) (M := EReal) (fun n h => (outsAt0 m c n (lt_of_lt_of_eq h N_0.symm)).2.2.2.1) 32 (fun _ => 0)
    (fun p => term16 m c (Fin.cast N_0.symm p)) ?_ ?_ (le_refl 32) ⟨t.val, lt_N t⟩ ht i
  · rw [zero_add] at key; exact key
  · intro n h0 i
    refine (congrFun (at_A m c (Fin.cast N_0.symm n) h0 (by simp only [Fin.val_cast]; omega)).2.2.2.1 i).trans ?_
    rw [zero_add]
    rfl
  · intro n h0 i
    refine (congrFun (at_B m c (Fin.cast N_0.symm n) h0 (by simp only [Fin.val_cast]; omega)).2.2.2.1 i).trans ?_
    exact t16n_at _ i

/-- The gradient of the query gain, after the run. -/
theorem final16  : (dats m 0 c).arrAt 16 cfg0.N = Cert.MixInRefIdeal.Read.val_main_v155 (F := Ideal) (m ((c.tc : Thread nD τ).loc main_arg0)) (m ((c.tc : Thread nD τ).loc main_arg1)) (m ((c.tc : Thread nD τ).loc main_arg2)) (m ((c.tc : Thread nD τ).loc main_arg6)) := by
  have e : ∀ t : Fin cfg0.N, win0_16.index t = ![0, 0] := by decide +kernel
  have hl : ∀ t : Fin cfg0.N, (cfg0.win 16).flush t = true → t.val = 31 := by decide +kernel
  refine (dats m 0 c).arrAt_eq_of_covers 16 _ (by decide +kernel) fun t hf y => ?_
  blk_simp
  have h31 := hl t hf
  obtain ⟨j, l, rfl⟩ : ∃ (j : Fin 1) (l : Fin 512), y = ix2 j l := idx2 y
  have hy : (win0_16.blk t).view.emb (ix2 j l) = ix2 j l := by blk_ext [e]
  rw [after0_16, hy, acc16 m c t (by omega), Finset.sum_congr rfl fun p _ => term16_eq m c (Fin.cast N_0.symm p) j l]
  refine Eq.trans ?_ (ref_dgq (m ((c.tc : Thread nD τ).loc main_arg0)) (m ((c.tc : Thread nD τ).loc main_arg1)) (m ((c.tc : Thread nD τ).loc main_arg2)) (m ((c.tc : Thread nD τ).loc main_arg6)) j l).symm
  exact Fin.sum_mul_add_fin (L := 8192) 32 256 fun r => dgain (hq (pr (m ((c.tc : Thread nD τ).loc main_arg0)) (m ((c.tc : Thread nD τ).loc main_arg1)) (m ((c.tc : Thread nD τ).loc main_arg2)) r)) (mat (m ((c.tc : Thread nD τ).loc main_arg6)) r) l

/-- One block's part of the gradient of the key gain. -/
def term17 (t : Fin cfg0.N) : S1x512.Idx → EReal := t17 (iblk m c 2 t) (iblk m c 4 t) (iblk m c 12 t)

/-- The same from the arguments. -/
theorem term17_eq  (t : Fin cfg0.N) (j : Fin 1) (l : Fin 512) : term17 m c t (ix2 j l) = ∑ r : Fin 256, dgain (hk (pr (m ((c.tc : Thread nD τ).loc main_arg0)) (m ((c.tc : Thread nD τ).loc main_arg1)) (m ((c.tc : Thread nD τ).loc main_arg2)) ⟨t.val * 256 + r.val, by have := lt_N t; omega⟩)) (mat (m ((c.tc : Thread nD τ).loc main_arg7)) ⟨t.val * 256 + r.val, by have := lt_N t; omega⟩) l := by
  unfold term17
  rw [t17_at (blk12 m c t)]
  exact Finset.sum_congr rfl fun r _ => by rw [blk2, blk4]

/-- The running sum after the last point is the sum over all blocks. -/
theorem acc17 (t : Fin cfg0.N) (ht : t.val + 1 = 32) (i : S1x512.Idx) :
    (outsAt0 m c t.val t.isLt).2.2.2.2 i = ∑ p : Fin 32, term17 m c (Fin.cast N_0.symm p) i := by
  have key := Pipeline.eq_sum_fin_of_reset_step_apply_last (N := 32) (M := EReal) (fun n h => (outsAt0 m c n (lt_of_lt_of_eq h N_0.symm)).2.2.2.2) 32 (fun _ => 0)
    (fun p => term17 m c (Fin.cast N_0.symm p)) ?_ ?_ (le_refl 32) ⟨t.val, lt_N t⟩ ht i
  · rw [zero_add] at key; exact key
  · intro n h0 i
    refine (congrFun (at_A m c (Fin.cast N_0.symm n) h0 (by simp only [Fin.val_cast]; omega)).2.2.2.2 i).trans ?_
    rw [zero_add]
    rfl
  · intro n h0 i
    refine (congrFun (at_B m c (Fin.cast N_0.symm n) h0 (by simp only [Fin.val_cast]; omega)).2.2.2.2 i).trans ?_
    exact t17n_at _ i

/-- The gradient of the key gain, after the run. -/
theorem final17  : (dats m 0 c).arrAt 17 cfg0.N = Cert.MixInRefIdeal.Read.val_main_v156 (F := Ideal) (m ((c.tc : Thread nD τ).loc main_arg0)) (m ((c.tc : Thread nD τ).loc main_arg1)) (m ((c.tc : Thread nD τ).loc main_arg2)) (m ((c.tc : Thread nD τ).loc main_arg7)) := by
  have e : ∀ t : Fin cfg0.N, win0_17.index t = ![0, 0] := by decide +kernel
  have hl : ∀ t : Fin cfg0.N, (cfg0.win 17).flush t = true → t.val = 31 := by decide +kernel
  refine (dats m 0 c).arrAt_eq_of_covers 17 _ (by decide +kernel) fun t hf y => ?_
  blk_simp
  have h31 := hl t hf
  obtain ⟨j, l, rfl⟩ : ∃ (j : Fin 1) (l : Fin 512), y = ix2 j l := idx2 y
  have hy : (win0_17.blk t).view.emb (ix2 j l) = ix2 j l := by blk_ext [e]
  rw [after0_17, hy, acc17 m c t (by omega), Finset.sum_congr rfl fun p _ => term17_eq m c (Fin.cast N_0.symm p) j l]
  refine Eq.trans ?_ (ref_dgk (m ((c.tc : Thread nD τ).loc main_arg0)) (m ((c.tc : Thread nD τ).loc main_arg1)) (m ((c.tc : Thread nD τ).loc main_arg2)) (m ((c.tc : Thread nD τ).loc main_arg7)) j l).symm
  exact Fin.sum_mul_add_fin (L := 8192) 32 256 fun r => dgain (hk (pr (m ((c.tc : Thread nD τ).loc main_arg0)) (m ((c.tc : Thread nD τ).loc main_arg1)) (m ((c.tc : Thread nD τ).loc main_arg2)) r)) (mat (m ((c.tc : Thread nD τ).loc main_arg7)) r) l

end Cert.MixInVal

end
-- ==== Proof.MixIn.Claims.lean ====
/- The claims about the input product's gradient call and its reference. -/
module

public import proofs.«01_k».proof.Defs
public import proofs.«01_k».proof.Proof.MixIn.Final
public import proofs.«01_k».proof.Proof.Gen.MixIn.Frame
public import Idealize.ShloMosaic.Adequacy
public import Idealize.ShloMosaic.Init
public import Idealize.ShloMosaic.Lib.ReduceAll

@[expose] public section

noncomputable section

namespace Cert.MixInVal

open Idealize.ShloMosaic Idealize.SL.Sem Idealize.ShloMosaic.Pointwise Cert.Fin

/-- The call's frame. -/
theorem frame_kernel : Cert.quiescent_MixIn := fun m ρ _ => Cert.MixIn.Gen.frame m ρ

/-- Its frame over the extended reals. -/
theorem frame_ideal : Cert.quiescent_MixInIdeal := fun m ρ _ => Cert.MixInIdeal.Gen.frame m ρ

/-- The precondition's own side conditions. -/
instance finite_facts : Cert.Pre_finite_mixin.Facts := by constructor <;> decide

theorem frame_ideal_pre : Cert.quiescent_MixInIdeal_pre_finite_mixin := fun m ρ _ => Cert.MixInIdeal.Gen.frame m ρ

/-- No operation is rewritten. -/
theorem preserves : Cert.preserves_MixIn_MixInIdeal := trivial

/-- The reference leaves its arguments and, having no semaphore, every counter at zero. -/
theorem frame_ref : Cert.quiescent_MixInRefIdeal := fun m ρ _ =>
  (θ_run Cert.MixInRefIdeal.defs _ _).mono (fun r h => ⟨fun c => (h c).2.2.2.2.2, sem_eq_zero_of_no_sems (by decide) r.2⟩)
    (Cert.MixInRefIdeal.Value.run (F := Ideal) m ρ)

theorem frame_ref_pre : Cert.quiescent_MixInRefIdeal_pre_finite_mixin := fun m ρ _ => frame_ref m ρ trivial

/-- Finite arguments are arrays of reals. -/
theorem reals_of (a0 : Vec Ideal Cert.MixInIdeal.S8192x1024 .f32) (a1 : Vec Ideal Cert.MixInIdeal.S1024 .f32) (a2 : Vec Ideal Cert.MixInIdeal.S1024x2304 .f32) (a3 : Vec Ideal Cert.MixInIdeal.S64 .f32) (a4 : Vec Ideal Cert.MixInIdeal.S64 .f32) (a5 : Vec Ideal Cert.MixInIdeal.S8192x1024 .f32) (a6 : Vec Ideal Cert.MixInIdeal.S8192x512 .f32) (a7 : Vec Ideal Cert.MixInIdeal.S8192x512 .f32) (a8 : Vec Ideal Cert.MixInIdeal.S8192x512 .f32) (a9 : Vec Ideal Cert.MixInIdeal.S8192x256 .f32) (a10 : Vec Ideal Cert.MixInIdeal.S8192x256 .f32) (h : Cert.Pre_finite_mixin.fn (F := Ideal) a0 a1 a2 a3 a4 a5 a6 a7 a8 a9 a10 = (fun _ => 1#1)) :
    Args a3 a4 a6 a7 := by
  have h0 := congrFun h ix0
  have two : ∀ a b : BitVec 1, IntOp.andi a b = 1#1 → a = 1#1 ∧ b = 1#1 := by decide
  simp only [Cert.Pre_finite_mixin.fn, Cert.Pre_finite_mixin.fn_part1] at h0
  obtain ⟨h0, q3⟩ := two _ _ h0
  obtain ⟨h0, q2⟩ := two _ _ h0
  obtain ⟨h0, q1⟩ := two _ _ h0
  have one : ∀ j : Cert.MixInIdeal.S_.Idx, j = ix0 := fun j => funext fun c => c.elim0
  exact ⟨fun l => of_cmp (Host.reduce_andi_all _ _ _ _ _ h0 (ix1 l)), fun l => of_cmp (Host.reduce_andi_all _ _ _ _ _ q1 (ix1 l)), fun r l => of_cmp (Host.reduce_andi_all _ _ _ _ _ q2 (ix2 r l)), fun r l => of_cmp (Host.reduce_andi_all _ _ _ _ _ q3 (ix2 r l))⟩

set_option maxHeartbeats 2000000 in
/-- The call and the reference compute the same five gradients over the extended reals, where the gains and the cotangents of the queries and keys are finite. -/
theorem algebraic : Cert.algebraic_MixInIdeal_MixInRefIdeal_pre_finite_mixin := by
  intro m ρ m' ρ' hp hag
  refine ⟨fun c => (Cert.MixInIdeal.Gen.dats m 0 c).arrAt 13 Cert.MixInIdeal.cfg0.N, fun c => (Cert.MixInIdeal.Gen.dats m 0 c).arrAt 14 Cert.MixInIdeal.cfg0.N, fun c => (Cert.MixInIdeal.Gen.dats m 0 c).arrAt 15 Cert.MixInIdeal.cfg0.N, fun c => (Cert.MixInIdeal.Gen.dats m 0 c).arrAt 16 Cert.MixInIdeal.cfg0.N, fun c => (Cert.MixInIdeal.Gen.dats m 0 c).arrAt 17 Cert.MixInIdeal.cfg0.N,
    Cert.MixInIdeal.Value.run_blocks m ρ,
    (θ_run Cert.MixInRefIdeal.defs _ _).mono (fun r h c => ?_) (Cert.MixInRefIdeal.Value.run (F := Ideal) m' ρ')⟩
  obtain ⟨h0, h1, h2, h3, h4, hk⟩ := h c
  obtain ⟨e0, e1, e2, e3, e4, e5, e6, e7, e8, e9, e10⟩ := hag c
  have R := reals_of _ _ _ _ _ _ _ _ _ _ _ (hp c)
  refine ⟨h0.trans ?_, h1.trans ?_, h2.trans ?_, h3.trans ?_, h4.trans ?_, hk⟩
  · refine (Cert.MixInRefIdeal.Read.val_main_v152_eq _).trans ?_
    show Cert.MixInRefIdeal.Read.val_main_v152 (F := Ideal) (m' (c.tc.loc Cert.MixInRefIdeal.main_arg0)) (m' (c.tc.loc Cert.MixInRefIdeal.main_arg1)) (m' (c.tc.loc Cert.MixInRefIdeal.main_arg2)) (m' (c.tc.loc Cert.MixInRefIdeal.main_arg3)) (m' (c.tc.loc Cert.MixInRefIdeal.main_arg4)) (m' (c.tc.loc Cert.MixInRefIdeal.main_arg5)) (m' (c.tc.loc Cert.MixInRefIdeal.main_arg6)) (m' (c.tc.loc Cert.MixInRefIdeal.main_arg7)) (m' (c.tc.loc Cert.MixInRefIdeal.main_arg8)) (m' (c.tc.loc Cert.MixInRefIdeal.main_arg9)) (m' (c.tc.loc Cert.MixInRefIdeal.main_arg10)) = _
    rw [e0, e1, e2, e3, e4, e5, e6, e7, e8, e9, e10]; exact (final13 m c R).symm
  · refine (Cert.MixInRefIdeal.Read.val_main_v153_eq _).trans ?_
    show Cert.MixInRefIdeal.Read.val_main_v153 (F := Ideal) (m' (c.tc.loc Cert.MixInRefIdeal.main_arg0)) (m' (c.tc.loc Cert.MixInRefIdeal.main_arg1)) (m' (c.tc.loc Cert.MixInRefIdeal.main_arg2)) (m' (c.tc.loc Cert.MixInRefIdeal.main_arg3)) (m' (c.tc.loc Cert.MixInRefIdeal.main_arg4)) (m' (c.tc.loc Cert.MixInRefIdeal.main_arg6)) (m' (c.tc.loc Cert.MixInRefIdeal.main_arg7)) (m' (c.tc.loc Cert.MixInRefIdeal.main_arg8)) (m' (c.tc.loc Cert.MixInRefIdeal.main_arg9)) (m' (c.tc.loc Cert.MixInRefIdeal.main_arg10)) = _
    rw [e0, e1, e2, e3, e4, e6, e7, e8, e9, e10]; exact (final14 m c R).symm
  · refine (Cert.MixInRefIdeal.Read.val_main_v154_eq _).trans ?_
    show Cert.MixInRefIdeal.Read.val_main_v154 (F := Ideal) (m' (c.tc.loc Cert.MixInRefIdeal.main_arg0)) (m' (c.tc.loc Cert.MixInRefIdeal.main_arg1)) (m' (c.tc.loc Cert.MixInRefIdeal.main_arg2)) (m' (c.tc.loc Cert.MixInRefIdeal.main_arg3)) (m' (c.tc.loc Cert.MixInRefIdeal.main_arg4)) (m' (c.tc.loc Cert.MixInRefIdeal.main_arg6)) (m' (c.tc.loc Cert.MixInRefIdeal.main_arg7)) (m' (c.tc.loc Cert.MixInRefIdeal.main_arg8)) (m' (c.tc.loc Cert.MixInRefIdeal.main_arg9)) (m' (c.tc.loc Cert.MixInRefIdeal.main_arg10)) = _
    rw [e0, e1, e2, e3, e4, e6, e7, e8, e9, e10]; exact (final15 m c R).symm
  · refine (Cert.MixInRefIdeal.Read.val_main_v155_eq _).trans ?_
    show Cert.MixInRefIdeal.Read.val_main_v155 (F := Ideal) (m' (c.tc.loc Cert.MixInRefIdeal.main_arg0)) (m' (c.tc.loc Cert.MixInRefIdeal.main_arg1)) (m' (c.tc.loc Cert.MixInRefIdeal.main_arg2)) (m' (c.tc.loc Cert.MixInRefIdeal.main_arg6)) = _
    rw [e0, e1, e2, e6]; exact (final16 m c).symm
  · refine (Cert.MixInRefIdeal.Read.val_main_v156_eq _).trans ?_
    show Cert.MixInRefIdeal.Read.val_main_v156 (F := Ideal) (m' (c.tc.loc Cert.MixInRefIdeal.main_arg0)) (m' (c.tc.loc Cert.MixInRefIdeal.main_arg1)) (m' (c.tc.loc Cert.MixInRefIdeal.main_arg2)) (m' (c.tc.loc Cert.MixInRefIdeal.main_arg7)) = _
    rw [e0, e1, e2, e7]; exact (final17 m c).symm

end Cert.MixInVal

end
-- ==== Proof.Conv.Trip.lean ====
module

public import proofs.«01_k».proof.Proof.Gen.ConvIdeal.Frame.Runs

@[expose] public section

set_option maxRecDepth 16384

noncomputable section

namespace Cert.ConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal.Gen

variable {F : FTy → Type} [FloatOps F]

/-- The 64 rows of the second array's slab that tap `kk` takes: rows `2 + kk` to `65 + kk`, by a rotation and a slice. -/
def hpWin (kk : ℕ) (v : FVec F S96x256 .f32) : FVec F S64x256 .f32 :=
  extractStridedSlice S64x256 ![32, 0] (if kk = 30 then v else dynamicRotate 0 (BitVec.ofNat 32 (30 - kk)) none v rotates_S96x256_d0) slices_S96x256_o32_0_S64x256

/-- The 64 rows of the cotangent's slab that tap `kk` takes: rows `30 - kk` to `93 - kk`. -/
def ctWin (kk : ℕ) (v : FVec F S96x256 .f32) : FVec F S64x256 .f32 :=
  extractStridedSlice S64x256 ![0, 0] (if kk = 30 then v else dynamicRotate 0 (BitVec.ofNat 32 (66 + kk)) none v rotates_S96x256_d0) slices_S96x256_o0_0_S64x256

/-- The products of the two slabs at tap `kk`. -/
def tapProd (kk : ℕ) (v12 v15 : Vec F S96x256 .f32) : FVec F S64x256 .f32 := mulf (k0_pay6 v12) (hpWin kk (k0_pay5 v15))

/-- What one trip makes of the accumulator's rows `a` of tap `kk`: the products' eight groups of eight rows added on. -/
def tapAcc (kk : ℕ) (v12 v15 : Vec F S96x256 .f32) (a : Vec F S1x8x256 .f32) : FVec F S1x8x256 .f32 :=
  shapeCast S1x8x256 (addf (shapeCast S8x256 a shapeCasts_S1x8x256_S8x256)
    (addf (addf (addf (addf (addf (addf (addf
      (extractStridedSlice S8x256 ![0, 0] (tapProd kk v12 v15) slices_S64x256_o0_0_S8x256)
      (extractStridedSlice S8x256 ![8, 0] (tapProd kk v12 v15) slices_S64x256_o8_0_S8x256))
      (extractStridedSlice S8x256 ![16, 0] (tapProd kk v12 v15) slices_S64x256_o16_0_S8x256))
      (extractStridedSlice S8x256 ![24, 0] (tapProd kk v12 v15) slices_S64x256_o24_0_S8x256))
      (extractStridedSlice S8x256 ![32, 0] (tapProd kk v12 v15) slices_S64x256_o32_0_S8x256))
      (extractStridedSlice S8x256 ![40, 0] (tapProd kk v12 v15) slices_S64x256_o40_0_S8x256))
      (extractStridedSlice S8x256 ![48, 0] (tapProd kk v12 v15) slices_S64x256_o48_0_S8x256))
      (extractStridedSlice S8x256 ![56, 0] (tapProd kk v12 v15) slices_S64x256_o56_0_S8x256))) shapeCasts_S8x256_S1x8x256

/-- The input's gradient after the first `n` taps, over a slab of the cotangent and the taps' weights. -/
def dhAcc (v12 : Vec F S96x256 .f32) (w : (n : ℕ) → n < 31 → Vec F S1x256 .f32) : (n : ℕ) → n ≤ 31 → FVec F S64x256 .f32
  | 0, _ => broadcast S64x256 (Scalar.ofBits .f32 0x00000000#32)
  | n + 1, h => addf (dhAcc v12 w n (Nat.le_of_succ_le h)) (mulf (broadcastTo S64x256 (w n h) broadcasts_S1x256_S64x256) (ctWin n (k0_pay4 v12)))

theorem inbA (n : ℕ) (h : n < 31) : ∀ a, (![n, 0, 0] : Fin 3 → ℕ) a + S1x8x256.size a ≤ S31x8x256.size a := by
  intro a
  match a with
  | 0 => exact h
  | 1 => exact Nat.le_refl 8
  | 2 => exact Nat.le_refl 256

theorem inbW (n : ℕ) (h : n < 31) : ∀ a, (![n, 0] : Fin 2 → ℕ) a + S1x256.size a ≤ S31x256.size a := by
  intro a
  match a with
  | 0 => exact h
  | 1 => exact Nat.le_refl 256

/-- The slab of 96 rows that the trip `k` loads. -/
abbrev slab (i : grid0.Coords) (k : Fin k0_t1_loop.trips) (M : Memref sig .tc .vmem S8224x256 .f32) (X : BufTy.Contents (Elt F) M.view.ty) : Vec F S96x256 .f32 :=
  View.readAt (Elt F) M.view (Rect.unit (s := S8224x256) (k0_off1 i k) S96x256.size (k0_off1_inb i k)).toLoadRect X

/-- The weights' row of a tap. -/
abbrev wrow (M : Memref sig .tc .vmem S31x256 .f32) (X : BufTy.Contents (Elt F) M.view.ty) (n : ℕ) (h : n < 31) : Vec F S1x256 .f32 :=
  View.readAt (Elt F) M.view (Rect.unit (s := S31x256) ![n, 0] S1x256.size (inbW n h)).toLoadRect X

/-- The accumulator's rows of a tap. -/
abbrev arow (M : Memref sig .tc .vmem S31x8x256 .f32) (f : BufTy.Contents (Elt F) M.view.ty) (n : ℕ) (h : n < 31) : Vec F S1x8x256 .f32 :=
  View.readAt (Elt F) M.view (Rect.unit (s := S31x8x256) ![n, 0, 0] S1x8x256.size (inbA n h)).toLoadRect f

/-- A list of stores, one for each of the accumulator's first `n` rows, the last first. -/
def rowPieces (p : (n : ℕ) → n < 31 → FVec F S1x8x256 .f32) : (n : ℕ) → n ≤ 31 → List (View.Piece (Elt F) S31x8x256 .f32)
  | 0, _ => []
  | n + 1, h => ⟨Rect.unit (s := S31x8x256) ![n, 0, 0] S1x8x256.size (inbA n h), p n h⟩ :: rowPieces p n (Nat.le_of_succ_le h)

/-- The same of the weights' gradient. -/
def wPieces (p : (n : ℕ) → n < 31 → FVec F S1x256 .f32) : (n : ℕ) → n ≤ 31 → List (View.Piece (Elt F) S31x256 .f32)
  | 0, _ => []
  | n + 1, h => ⟨Rect.unit (s := S31x256) ![n, 0] S1x256.size (inbW n h), p n h⟩ :: wPieces p n (Nat.le_of_succ_le h)

section

variable (𝒱 : Variants) (c : Dev nD) (i : grid0.Coords) (arg1 : Memref sig .tc .vmem S8224x256 .f32) (harg1 : arg1.IsWhole) (arg2 : Memref sig .tc .vmem S8224x256 .f32) (harg2 : arg2.IsWhole) (arg3 : Memref sig .tc .vmem S31x256 .f32) (harg3 : arg3.IsWhole) (arg4 : Memref sig .tc .vmem S512x256 .f32) (harg4 : arg4.IsWhole) (arg5 : Memref sig .tc .vmem S31x256 .f32) (harg5 : arg5.IsWhole) (arg6 : Memref sig .tc .vmem S31x8x256 .f32) (harg6 : arg6.IsWhole) (bd : Option 𝒱.V) (arg0 : BitVec 32)
  (X1 : BufTy.Contents (Elt F) arg1.view.ty) (X2 : BufTy.Contents (Elt F) arg2.view.ty) (X3 : BufTy.Contents (Elt F) arg3.view.ty)

/-- One trip stores the 64 rows of the input's gradient, whatever the written buffers hold. -/
theorem trip_dh (k : Fin k0_t1_loop.trips) (f4 : BufTy.Contents (Elt F) arg4.view.ty) (f6 : BufTy.Contents (Elt F) arg6.view.ty) :
    (tripL_k0_t1 𝒱 c bd i arg1 harg1 arg2 harg2 arg3 harg3 arg4 harg4 arg5 harg5 arg6 harg6 arg0 X1 X2 X3 k f4 f6).1
      = [⟨Rect.unit (s := S512x256) (k0_off2 k) S64x256.size (k0_off2_inb k), dhAcc (slab i k arg1 X1) (wrow arg3 X3) 31 (Nat.le_refl 31)⟩] := by
  unfold tripL_k0_t1 trip_k0_t1
  sl_kernel_rfl

/-- One trip stores each tap's rows of the accumulator, from what it finds there. -/
theorem trip_acc (k : Fin k0_t1_loop.trips) (f4 : BufTy.Contents (Elt F) arg4.view.ty) (f6 : BufTy.Contents (Elt F) arg6.view.ty) :
    (tripL_k0_t1 𝒱 c bd i arg1 harg1 arg2 harg2 arg3 harg3 arg4 harg4 arg5 harg5 arg6 harg6 arg0 X1 X2 X3 k f4 f6).2
      = rowPieces (fun n h => tapAcc n (slab i k arg1 X1) (slab i k arg2 X2) (arow arg6 f6 n h)) 31 (Nat.le_refl 31) := by
  unfold tripL_k0_t1 trip_k0_t1
  sl_kernel_rfl

end

end Cert.ConvIdeal.Run

end
-- ==== Proof.Conv.Loop.lean ====
module

public import proofs.«01_k».proof.Proof.Conv.Trip
public import proofs.«01_k».proof.Proof.Idx
public import Idealize.ShloMosaic.Lib.WholeRead
public import Idealize.ShloMosaic.Lib.WritesUnit

@[expose] public section

set_option maxRecDepth 16384

noncomputable section

namespace Cert.ConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal.Gen
open Idealize.ShloMosaic.Pointwise
open Cert.Base

variable {F : FTy → Type} [FloatOps F]

/-- The slab of an array's rows that the trip `k` of the point `i` reads. -/
def slabOf (i : grid0.Coords) (k : Fin k0_t1_loop.trips) (x : Vec F S8224x256 .f32) : Vec F S96x256 .f32 :=
  fun y => x ((Rect.unit (s := S8224x256) (k0_off1 i k) S96x256.size (k0_off1_inb i k)).toLoadRect.idx y)

/-- A row of the weights. -/
def wOf (x : Vec F S31x256 .f32) (n : ℕ) (h : n < 31) : Vec F S1x256 .f32 := fun y => x (ix2 ⟨n, h⟩ (y 1))

/-- A tap's rows of the accumulator. -/
def aOf (x : Vec F S31x8x256 .f32) (n : ℕ) (h : n < 31) : Vec F S1x8x256 .f32 := fun y => x (ix3 ⟨n, h⟩ (y 1) (y 2))

theorem slab_eq (i : grid0.Coords) (k : Fin k0_t1_loop.trips) (M : Memref sig .tc .vmem S8224x256 .f32) (hM : M.IsWhole) (x : Vec F S8224x256 .f32) :
    slab i k M (hM.unread x) = slabOf i k x :=
  funext fun y => hM.readAt_unread x (Rect.unit (s := S8224x256) (k0_off1 i k) S96x256.size (k0_off1_inb i k)).toLoadRect y

theorem wrow_eq (M : Memref sig .tc .vmem S31x256 .f32) (hM : M.IsWhole) (x : Vec F S31x256 .f32) (n : ℕ) (h : n < 31) :
    wrow M (hM.unread x) n h = wOf x n h := by
  funext y
  refine (hM.readAt_unread x (Rect.unit (s := S31x256) ![n, 0] S1x256.size (inbW n h)).toLoadRect y).trans (congrArg x (funext fun a => Fin.ext ?_))
  match a with
  | 0 => show n + 1 * (y 0).val = n; have := (y 0).isLt; have e : (y 0).val < 1 := this; omega
  | 1 => show 0 + 1 * (y 1).val = (y 1).val; omega

theorem arow_eq (M : Memref sig .tc .vmem S31x8x256 .f32) (f : BufTy.Contents (Elt F) M.view.ty) (n : ℕ) (h : n < 31) :
    arow M f n h = aOf (M.view.read (Elt F) f) n h := by
  funext y
  refine (View.readAt_apply ..).trans (congrArg (M.view.read (Elt F) f) (funext fun a => Fin.ext ?_))
  match a with
  | 0 => show n + 1 * (y 0).val = n; have := (y 0).isLt; have e : (y 0).val < 1 := this; omega
  | 1 => show 0 + 1 * (y 1).val = (y 1).val; omega
  | 2 => show 0 + 1 * (y 2).val = (y 2).val; omega

/-- Row stores leave each row its own payload. -/
theorem read_rowPieces (M : Memref sig .tc .vmem S31x8x256 .f32) (f : BufTy.Contents (Elt F) M.view.ty) (p : (n : ℕ) → n < 31 → FVec F S1x8x256 .f32)
    (n : ℕ) (hn : n ≤ 31) (kk : Fin 31) (s : Fin 8) (l : Fin 256) (hk : kk.val < n) :
    M.view.read (Elt F) (M.view.writes (Elt F) f (rowPieces p n hn)) (ix3 kk s l) = p kk.val kk.isLt (ix3 0 s l) := by
  induction n with
  | zero => exact absurd hk (Nat.not_lt_zero _)
  | succ n ih =>
    unfold rowPieces
    by_cases e : kk.val = n
    · subst e
      refine View.read_writes_cons_unit_of_mem (Val := Elt F) M.view f (inbA kk.val hn) _ _ (ix3 kk s l) (ix3 0 s l) rfl ?_
      intro a
      match a with
      | 0 => rfl
      | 1 => show s.val = 0 + s.val; omega
      | 2 => show l.val = 0 + l.val; omega
    · refine (View.read_writes_cons_unit_of_not_mem (Val := Elt F) M.view f (inbA n hn) _ _ (ix3 kk s l) rfl 0 ?_).trans (ih _ (by omega))
      left
      show kk.val < n
      omega

theorem read_wPieces (M : Memref sig .tc .vmem S31x256 .f32) (f : BufTy.Contents (Elt F) M.view.ty) (p : (n : ℕ) → n < 31 → FVec F S1x256 .f32)
    (n : ℕ) (hn : n ≤ 31) (kk : Fin 31) (l : Fin 256) (hk : kk.val < n) :
    M.view.read (Elt F) (M.view.writes (Elt F) f (wPieces p n hn)) (ix2 kk l) = p kk.val kk.isLt (ix2 0 l) := by
  induction n with
  | zero => exact absurd hk (Nat.not_lt_zero _)
  | succ n ih =>
    unfold wPieces
    by_cases e : kk.val = n
    · subst e
      refine View.read_writes_cons_unit_of_mem (Val := Elt F) M.view f (inbW kk.val hn) _ _ (ix2 kk l) (ix2 0 l) rfl ?_
      intro a
      match a with
      | 0 => rfl
      | 1 => show l.val = 0 + l.val; omega
    · refine (View.read_writes_cons_unit_of_not_mem (Val := Elt F) M.view f (inbW n hn) _ _ (ix2 kk l) rfl 0 ?_).trans (ih _ (by omega))
      left
      show kk.val < n
      omega

/-- What one trip makes of the accumulator. -/
def accTrip (i : grid0.Coords) (k : Fin k0_t1_loop.trips) (x0 x1 : Vec F S8224x256 .f32) (a : Vec F S31x8x256 .f32) : Vec F S31x8x256 .f32 :=
  fun y => tapAcc (y 0).val (slabOf i k x0) (slabOf i k x1) (aOf a (y 0).val (y 0).isLt) (ix3 0 (y 1) (y 2))

/-- What the first `n` trips make of the accumulator. -/
def accN (i : grid0.Coords) (x0 x1 : Vec F S8224x256 .f32) (a : Vec F S31x8x256 .f32) : ℕ → Vec F S31x8x256 .f32
  | 0 => a
  | n + 1 => if h : n < k0_t1_loop.trips then accTrip i ⟨n, h⟩ x0 x1 (accN i x0 x1 a n) else accN i x0 x1 a n

/-- The 64 rows of the input's gradient that a trip stores. -/
def dhPay (i : grid0.Coords) (k : Fin k0_t1_loop.trips) (x0 : Vec F S8224x256 .f32) (x2 : Vec F S31x256 .f32) : Vec F S64x256 .f32 :=
  dhAcc (slabOf i k x0) (wOf x2) 31 (Nat.le_refl 31)

theorem trips_eq : k0_t1_loop.trips = 8 := by decide +kernel

/-- The block of the input's gradient that a point leaves: 64 rows for each of 8 trips. -/
def dhBlk (i : grid0.Coords) (x0 : Vec F S8224x256 .f32) (x2 : Vec F S31x256 .f32) : Vec F S512x256 .f32 :=
  fun y => dhPay i ⟨(y 0).val / 64, by rw [trips_eq]; have h : (y 0).val < 512 := (y 0).isLt; omega⟩ x0 x2
    (ix2 ⟨(y 0).val % 64, Nat.mod_lt _ (by norm_num)⟩ (y 1))

/-- The weights' gradient that the last point makes of the accumulator. -/
def dwOf (a : Vec F S31x8x256 .f32) : Vec F S31x256 .f32 := fun y => k0_pay3 (aOf a (y 0).val (y 0).isLt) (ix2 0 (y 1))

section

variable (𝒱 : Variants) (c : Dev nD) (i : grid0.Coords) (arg1 : Memref sig .tc .vmem S8224x256 .f32) (harg1 : arg1.IsWhole) (arg2 : Memref sig .tc .vmem S8224x256 .f32) (harg2 : arg2.IsWhole) (arg3 : Memref sig .tc .vmem S31x256 .f32) (harg3 : arg3.IsWhole) (arg4 : Memref sig .tc .vmem S512x256 .f32) (harg4 : arg4.IsWhole) (arg5 : Memref sig .tc .vmem S31x256 .f32) (harg5 : arg5.IsWhole) (arg6 : Memref sig .tc .vmem S31x8x256 .f32) (harg6 : arg6.IsWhole) (bd : Option 𝒱.V) (arg0 : BitVec 32)
  (x0 x1 : Vec F S8224x256 .f32) (x2 : Vec F S31x256 .f32) (G4 : BufTy.Contents (Elt F) arg4.view.ty) (G6 : BufTy.Contents (Elt F) arg6.view.ty)

/-- The accumulator after `n` trips. -/
theorem loop_acc (n : ℕ) (hn : n ≤ k0_t1_loop.trips) :
    arg6.view.read (Elt F) (arg6.view.writes (Elt F) G6 (pb_k0_t1 𝒱 c bd i arg1 harg1 arg2 harg2 arg3 harg3 arg4 harg4 arg5 harg5 arg6 harg6 arg0 (harg1.unread x0) (harg2.unread x1) (harg3.unread x2) G4 G6 n).2)
      = accN i x0 x1 (arg6.view.read (Elt F) G6) n := by
  induction n with
  | zero => rfl
  | succ n ih =>
    rw [pb_k0_t1_succ 𝒱 c bd i arg1 harg1 arg2 harg2 arg3 harg3 arg4 harg4 arg5 harg5 arg6 harg6 arg0 _ _ _ G4 G6 ⟨n, hn⟩, trip_acc, View.writes_append]
    have ih := ih (Nat.le_of_succ_le hn)
    unfold accN
    rw [dif_pos (show n < k0_t1_loop.trips from hn), ← ih]
    funext y
    obtain ⟨kk, s, l, rfl⟩ := idx3 y
    refine (read_rowPieces arg6 _ _ 31 (Nat.le_refl 31) kk s l kk.isLt).trans ?_
    rw [slab_eq, slab_eq, arow_eq]
    rfl

/-- The rows of the input's gradient after `n` trips. -/
theorem loop_dh (n : ℕ) (hn : n ≤ k0_t1_loop.trips) (r : Fin 512) (l : Fin 256) (hr : r.val < 64 * n) :
    arg4.view.read (Elt F) (arg4.view.writes (Elt F) G4 (pb_k0_t1 𝒱 c bd i arg1 harg1 arg2 harg2 arg3 harg3 arg4 harg4 arg5 harg5 arg6 harg6 arg0 (harg1.unread x0) (harg2.unread x1) (harg3.unread x2) G4 G6 n).1) (ix2 r l)
      = dhBlk i x0 x2 (ix2 r l) := by
  induction n with
  | zero => exact absurd hr (Nat.not_lt_zero _)
  | succ n ih =>
    rw [pb_k0_t1_succ 𝒱 c bd i arg1 harg1 arg2 harg2 arg3 harg3 arg4 harg4 arg5 harg5 arg6 harg6 arg0 _ _ _ G4 G6 ⟨n, hn⟩, trip_dh]
    have hoff : k0_off2 ⟨n, hn⟩ = ![64 * n, 0] := k0_off2_eq ⟨n, hn⟩
    by_cases e : r.val / 64 = n
    · subst e
      refine (View.read_writes_cons_unit_of_mem (Val := Elt F) arg4.view G4 (k0_off2_inb ⟨r.val / 64, hn⟩) _ _ (ix2 r l)
        (ix2 ⟨r.val % 64, Nat.mod_lt _ (by norm_num)⟩ l) hoff ?_).trans ?_
      · intro a
        match a with
        | 0 => show r.val = 64 * (r.val / 64) + r.val % 64; omega
        | 1 => show l.val = 0 + l.val; omega
      · rw [slab_eq, show wrow arg3 (harg3.unread x2) = wOf x2 from funext fun m => funext fun hm => wrow_eq arg3 harg3 x2 m hm]
        rfl
    · refine (View.read_writes_cons_unit_of_not_mem (Val := Elt F) arg4.view G4 (k0_off2_inb ⟨n, hn⟩) _ _ (ix2 r l) hoff 0 ?_).trans
        (ih (Nat.le_of_succ_le hn) (by omega))
      left
      show r.val < 64 * n
      omega

/-- All rows, after all trips. -/
theorem loop_dh_all :
    arg4.view.read (Elt F) (arg4.view.writes (Elt F) G4 (pb_k0_t1 𝒱 c bd i arg1 harg1 arg2 harg2 arg3 harg3 arg4 harg4 arg5 harg5 arg6 harg6 arg0 (harg1.unread x0) (harg2.unread x1) (harg3.unread x2) G4 G6 k0_t1_loop.trips).1)
      = dhBlk i x0 x2 := by
  funext y
  obtain ⟨r, l, rfl⟩ := idx2 y
  exact loop_dh 𝒱 c i arg1 harg1 arg2 harg2 arg3 harg3 arg4 harg4 arg5 harg5 arg6 harg6 bd arg0 x0 x1 x2 G4 G6 _ (Nat.le_refl _) r l (by rw [trips_eq]; have := r.isLt; omega)

end

end Cert.ConvIdeal.Run

end
-- ==== Proof.Conv.Body.lean ====
module

public import proofs.«01_k».proof.Proof.Conv.Loop
public import Idealize.ShloMosaic.Lib.VecWindow

@[expose] public section

set_option maxRecDepth 16384

noncomputable section

namespace Cert.ConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal.Gen
open Idealize.ShloMosaic.Pointwise
open Cert.Base

variable {F : FTy → Type} [FloatOps F]

local notation "𝕄" => MT nD τ sig Unit (Elt F) ℕ (UR sig nD τ) ℕ

/-- The three input buffers, each whole at its contents. -/
abbrev inputs (c : Dev nD) (arg1 arg2 : Memref sig .tc .vmem S8224x256 .f32) (arg3 : Memref sig .tc .vmem S31x256 .f32) (x0 x1 : Vec F S8224x256 .f32) (x2 : Vec F S31x256 .f32) : sProp 𝕄 :=
  iprop(owns (c : Thread nD τ) arg1 fullShare x0 ∗ owns (c : Thread nD τ) arg2 fullShare x1 ∗ owns (c : Thread nD τ) arg3 fullShare x2)

/-- The accumulator after a point's trips. -/
abbrev accAll (i : grid0.Coords) (x0 x1 : Vec F S8224x256 .f32) (a : Vec F S31x8x256 .f32) : Vec F S31x8x256 .f32 := accN i x0 x1 a k0_t1_loop.trips

/-- Storing the sums of an accumulator's rows, tap by tap, leaves the weights' gradient. -/
theorem rows_sum (M5 : Memref sig .tc .vmem S31x256 .f32) (M6 : Memref sig .tc .vmem S31x8x256 .f32) (f5 : BufTy.Contents (Elt F) M5.view.ty)
    (f6 : BufTy.Contents (Elt F) M6.view.ty) (a : Vec F S31x8x256 .f32) (L : List (View.Piece (Elt F) S31x256 .f32))
    (hL : L = wPieces (fun n h => k0_pay3 (arow M6 f6 n h)) 31 (Nat.le_refl 31)) (ha : M6.view.read (Elt F) f6 = a) :
    M5.view.read (Elt F) (M5.view.writes (Elt F) f5 L) = dwOf a := by
  subst hL; subst ha
  funext y
  obtain ⟨kk, l, rfl⟩ := Cert.Base.idx2 y
  refine (read_wPieces M5 f5 _ 31 (Nat.le_refl 31) kk l kk.isLt).trans ?_
  rw [arow_eq]
  rfl

set_option maxHeartbeats 2000000 in
/-- The body at the first point: it clears the accumulator, then adds the point's rows. -/
theorem runA (c : Dev nD) (i : grid0.Coords) (arg1 : Memref sig .tc .vmem S8224x256 .f32) (harg1 : arg1.IsWhole) (arg2 : Memref sig .tc .vmem S8224x256 .f32) (harg2 : arg2.IsWhole) (arg3 : Memref sig .tc .vmem S31x256 .f32) (harg3 : arg3.IsWhole) (arg4 : Memref sig .tc .vmem S512x256 .f32) (harg4 : arg4.IsWhole) (arg5 : Memref sig .tc .vmem S31x256 .f32) (harg5 : arg5.IsWhole) (arg6 : Memref sig .tc .vmem S31x8x256 .f32) (harg6 : arg6.IsWhole) (hc0 : cond0_0 i) (hc1 : ¬cond0_1 i)
    (x0 x1 : Vec F S8224x256 .f32) (x2 : Vec F S31x256 .f32) (y : Vec F S31x256 .f32) (E : Set ℕ) (K : PUnit → sProp 𝕄) :
    iprop(inputs c arg1 arg2 arg3 x0 x1 x2 ∗ (∃ d, owns (c : Thread nD τ) arg4 fullShare d) ∗ owns (c : Thread nD τ) arg5 fullShare y ∗ (∃ d, owns (c : Thread nD τ) arg6 fullShare d)
        ∗ (iprop(inputs c arg1 arg2 arg3 x0 x1 x2 ∗ owns (c : Thread nD τ) arg4 fullShare (dhBlk i x0 x2) ∗ owns (c : Thread nD τ) arg5 fullShare y
          ∗ owns (c : Thread nD τ) arg6 fullShare (accAll i x0 x1 k0_pay1)) -∗ K ⟨⟩))
      ⊢ wp frame (wpE (defs₀ (F := F)) Variants.none c none) E (cc0_conv_bwd_l0 i arg1 harg1 arg2 harg2 arg3 harg3 arg4 harg4 arg5 harg5 arg6 harg6) K := by
  simp only [cc0_conv_bwd_l0_eq_skeleton]; unfold cc0_conv_bwd_l0_skel
  unfold inputs owns
  iintro ⟨⟨⟨%f0, %hf0, H0⟩, ⟨%f1, %hf1, H1⟩, ⟨%f2, %hf2, H2⟩⟩, ⟨%d3, %f3, -, H3⟩, ⟨%f4, %hf4, H4⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0 H1 H2]
  · isplitl [H0]
    · iexists _; isplitr; · ipureintro; exact harg1.read_unread _
      iexact H0
    isplitl [H1]
    · iexists _; isplitr; · ipureintro; exact harg2.read_unread _
      iexact H1
    iexists _; isplitr; · ipureintro; exact harg3.read_unread _
    iexact H2
  isplitl [H3]
  · iexists _; isplitr
    swap; · iexact H3
    ipureintro; exact loop_dh_all ..
  isplitl [H4]
  · iexists _; isplitr
    swap; · iexact H4
    ipureintro; exact hf4
  iexists _; isplitr
  swap; · iexact HS0
  ipureintro
  rw [View.writes_append]
  refine (loop_acc _ _ i arg1 harg1 arg2 harg2 arg3 harg3 arg4 harg4 arg5 harg5 arg6 harg6 _ _ x0 x1 x2 _ _ _ (Nat.le_refl _)).trans ?_
  refine congrArg (fun a => accN i x0 x1 a k0_t1_loop.trips) ?_
  exact View.read_writes_full arg6.view _ inb_S31x8x256_S31x8x256_0_0_0 _ []

set_option maxHeartbeats 2000000 in
/-- The body at a point between: it adds the point's rows to the accumulator. -/
theorem runB (c : Dev nD) (i : grid0.Coords) (arg1 : Memref sig .tc .vmem S8224x256 .f32) (harg1 : arg1.IsWhole) (arg2 : Memref sig .tc .vmem S8224x256 .f32) (harg2 : arg2.IsWhole) (arg3 : Memref sig .tc .vmem S31x256 .f32) (harg3 : arg3.IsWhole) (arg4 : Memref sig .tc .vmem S512x256 .f32) (harg4 : arg4.IsWhole) (arg5 : Memref sig .tc .vmem S31x256 .f32) (harg5 : arg5.IsWhole) (arg6 : Memref sig .tc .vmem S31x8x256 .f32) (harg6 : arg6.IsWhole) (hc0 : ¬cond0_0 i) (hc1 : ¬cond0_1 i)
    (x0 x1 : Vec F S8224x256 .f32) (x2 : Vec F S31x256 .f32) (a : Vec F S31x8x256 .f32) (y : Vec F S31x256 .f32) (E : Set ℕ) (K : PUnit → sProp 𝕄) :
    iprop(inputs c arg1 arg2 arg3 x0 x1 x2 ∗ (∃ d, owns (c : Thread nD τ) arg4 fullShare d) ∗ owns (c : Thread nD τ) arg5 fullShare y ∗ owns (c : Thread nD τ) arg6 fullShare a
        ∗ (iprop(inputs c arg1 arg2 arg3 x0 x1 x2 ∗ owns (c : Thread nD τ) arg4 fullShare (dhBlk i x0 x2) ∗ owns (c : Thread nD τ) arg5 fullShare y
          ∗ owns (c : Thread nD τ) arg6 fullShare (accAll i x0 x1 a)) -∗ K ⟨⟩))
      ⊢ wp frame (wpE (defs₀ (F := F)) Variants.none c none) E (cc0_conv_bwd_l0 i arg1 harg1 arg2 harg2 arg3 harg3 arg4 harg4 arg5 harg5 arg6 harg6) K := by
  simp only [cc0_conv_bwd_l0_eq_skeleton]; unfold cc0_conv_bwd_l0_skel
  unfold inputs owns
  iintro ⟨⟨⟨%f0, %hf0, H0⟩, ⟨%f1, %hf1, H1⟩, ⟨%f2, %hf2, H2⟩⟩, ⟨%d3, %f3, -, H3⟩, ⟨%f4, %hf4, H4⟩, ⟨%fs0, %hfs0, HS0⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0 H1 H2]
  · isplitl [H0]
    · iexists _; isplitr; · ipureintro; exact harg1.read_unread _
      iexact H0
    isplitl [H1]
    · iexists _; isplitr; · ipureintro; exact harg2.read_unread _
      iexact H1
    iexists _; isplitr; · ipureintro; exact harg3.read_unread _
    iexact H2
  isplitl [H3]
  · iexists _; isplitr
    swap; · iexact H3
    ipureintro; exact loop_dh_all ..
  isplitl [H4]
  · iexists _; isplitr
    swap; · iexact H4
    ipureintro; exact hf4
  iexists _; isplitr
  swap; · iexact HS0
  ipureintro
  refine (loop_acc _ _ i arg1 harg1 arg2 harg2 arg3 harg3 arg4 harg4 arg5 harg5 arg6 harg6 _ _ x0 x1 x2 _ _ _ (Nat.le_refl _)).trans ?_
  rw [hfs0]

set_option maxHeartbeats 2000000 in
/-- The body at the last point: it adds the point's rows and sums the accumulator's eight rows of each tap. -/
theorem runC (c : Dev nD) (i : grid0.Coords) (arg1 : Memref sig .tc .vmem S8224x256 .f32) (harg1 : arg1.IsWhole) (arg2 : Memref sig .tc .vmem S8224x256 .f32) (harg2 : arg2.IsWhole) (arg3 : Memref sig .tc .vmem S31x256 .f32) (harg3 : arg3.IsWhole) (arg4 : Memref sig .tc .vmem S512x256 .f32) (harg4 : arg4.IsWhole) (arg5 : Memref sig .tc .vmem S31x256 .f32) (harg5 : arg5.IsWhole) (arg6 : Memref sig .tc .vmem S31x8x256 .f32) (harg6 : arg6.IsWhole) (hc0 : ¬cond0_0 i) (hc1 : cond0_1 i)
    (x0 x1 : Vec F S8224x256 .f32) (x2 : Vec F S31x256 .f32) (a : Vec F S31x8x256 .f32) (E : Set ℕ) (K : PUnit → sProp 𝕄) :
    iprop(inputs c arg1 arg2 arg3 x0 x1 x2 ∗ (∃ d, owns (c : Thread nD τ) arg4 fullShare d) ∗ (∃ d, owns (c : Thread nD τ) arg5 fullShare d) ∗ owns (c : Thread nD τ) arg6 fullShare a
        ∗ (iprop(inputs c arg1 arg2 arg3 x0 x1 x2 ∗ owns (c : Thread nD τ) arg4 fullShare (dhBlk i x0 x2) ∗ owns (c : Thread nD τ) arg5 fullShare (dwOf (accAll i x0 x1 a))
          ∗ owns (c : Thread nD τ) arg6 fullShare (accAll i x0 x1 a)) -∗ K ⟨⟩))
      ⊢ wp frame (wpE (defs₀ (F := F)) Variants.none c none) E (cc0_conv_bwd_l0 i arg1 harg1 arg2 harg2 arg3 harg3 arg4 harg4 arg5 harg5 arg6 harg6) K := by
  simp only [cc0_conv_bwd_l0_eq_skeleton]; unfold cc0_conv_bwd_l0_skel
  unfold inputs owns
  iintro ⟨⟨⟨%f0, %hf0, H0⟩, ⟨%f1, %hf1, H1⟩, ⟨%f2, %hf2, H2⟩⟩, ⟨%d3, %f3, -, H3⟩, ⟨%d4, %f4, -, H4⟩, ⟨%fs0, %hfs0, HS0⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0 H1 H2]
  · isplitl [H0]
    · iexists _; isplitr; · ipureintro; exact harg1.read_unread _
      iexact H0
    isplitl [H1]
    · iexists _; isplitr; · ipureintro; exact harg2.read_unread _
      iexact H1
    iexists _; isplitr; · ipureintro; exact harg3.read_unread _
    iexact H2
  isplitl [H3]
  · iexists _; isplitr
    swap; · iexact H3
    ipureintro; exact loop_dh_all ..
  isplitl [H4]
  · iexists _; isplitr
    swap; · iexact H4
    ipureintro; exact rows_sum arg5 arg6 _ (arg6.view.writes (Elt F) fs0 (pb_k0_t1 Variants.none c none i arg1 harg1 arg2 harg2 arg3 harg3 arg4 harg4 arg5 harg5 arg6 harg6 (BitVec.ofNat 32 (i 0).val) (harg1.unread x0) (harg2.unread x1) (harg3.unread x2) f3 fs0 k0_t1_loop.trips).2) _ _ (by sl_kernel_rfl) (by
      refine (loop_acc _ _ i arg1 harg1 arg2 harg2 arg3 harg3 arg4 harg4 arg5 harg5 arg6 harg6 _ _ x0 x1 x2 _ _ _ (Nat.le_refl _)).trans ?_
      rw [hfs0])
  iexists _; isplitr
  swap; · iexact HS0
  ipureintro
  refine (loop_acc _ _ i arg1 harg1 arg2 harg2 arg3 harg3 arg4 harg4 arg5 harg5 arg6 harg6 _ _ x0 x1 x2 _ _ _ (Nat.le_refl _)).trans ?_
  rw [hfs0]

end Cert.ConvIdeal.Run

end
-- ==== Proof.Conv.Launch.lean ====
module

public import proofs.«01_k».proof.Proof.Conv.Body
public import Idealize.ShloMosaic.Lib.Claim

@[expose] public section

set_option maxRecDepth 16384

noncomputable section

namespace Cert.ConvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvIdeal.Gen
open Idealize.ShloMosaic.Pointwise
open Cert.Base

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the accumulator holds after point `n`: each point adds its 512 rows, the first to a cleared accumulator. -/
def acc (c : Dev nD) : (n : ℕ) → n < cfg0.N → Vec F S31x8x256 .f32
  | 0, h => accAll (grid0.coords ⟨0, h⟩) (iblk m c 0 ⟨0, h⟩) (iblk m c 1 ⟨0, h⟩) k0_pay1
  | n + 1, h => accAll (grid0.coords ⟨n + 1, h⟩) (iblk m c 0 ⟨n + 1, h⟩) (iblk m c 1 ⟨n + 1, h⟩) (acc c n (Nat.lt_of_succ_lt h))

theorem acc_first (c : Dev nD) (t : Fin cfg0.N) (hz : t.val = 0) :
    acc m c t.val t.isLt = accAll (grid0.coords t) (iblk m c 0 t) (iblk m c 1 t) k0_pay1 := by
  obtain ⟨n, hn⟩ := t
  subst hz
  rfl

theorem acc_pos (c : Dev nD) (t : Fin cfg0.N) (hz : t.val ≠ 0) :
    acc m c t.val t.isLt = accAll (grid0.coords t) (iblk m c 0 t) (iblk m c 1 t) (acc m c (t.val - 1) (Nat.lt_of_le_of_lt (Nat.sub_le _ _) t.isLt)) := by
  obtain ⟨n, hn⟩ := t
  cases n with
  | zero => exact absurd rfl hz
  | succ n => rfl

/-- The invariant: before the first point the scoped buffers at anything, then the accumulator at its sums so far. -/
def PhiS (c : Dev nD) : (n : ℕ) → n ≤ cfg0.N → sProp 𝕄
  | 0, _ => Pipeline.ΦA spec0 c
  | n + 1, hn => iprop(iprop(owns (c : Thread nD τ) scM0_0 fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (acc m c (n - 1) (by omega))) ∗ (∃ r, prngReg c r)) := by
  cases n with
  | zero => exact absurd rfl hz
  | succ n => rfl

/-- The proof data: each input's buffer at its block, the input's gradient at the point's block, the weights' gradient at the accumulator's sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dhBlk (grid0.coords t) (iblk m c 0 t) (iblk m c 2 t)
    | ⟨4, _⟩ => dwOf (acc m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = dhBlk (grid0.coords t) (iblk m c 0 t) (iblk m c 2 t) := by dsimp only [dats]
theorem after4 (c : Dev nD) (t : Fin cfg0.N) : (dats m 0 c).after 4 t = dwOf (acc m c t.val t.isLt) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0, before1, before2]
  rw [show (dats m 0 c).owesAt () t.succ = (dats m 0 c).owesAt () t.castSucc from rfl]
  rw [show (dats m 0 c).Φ t.succ = iprop(iprop(owns (c : Thread nD τ) scM0_0 fullShare (acc m c t.val t.isLt)) ∗ (∃ r, prngReg c r)) from rfl]
  rw [show (dats m 0 c).leavesExact 0 t = owns (c : Thread nD τ) (ms0_0 t) fullShare ((dats m 0 c).after 0 t) from by unfold Dat.leavesExact; rw [liveAt0_0 t], after0]
  rw [show (dats m 0 c).leavesExact 1 t = owns (c : Thread nD τ) (ms0_1 t) fullShare ((dats m 0 c).after 1 t) from by unfold Dat.leavesExact; rw [liveAt0_1 t], after1]
  rw [show (dats m 0 c).leavesExact 2 t = owns (c : Thread nD τ) (ms0_2 t) fullShare ((dats m 0 c).after 2 t) from by unfold Dat.leavesExact; rw [liveAt0_2 t], after2]
  rw [show (dats m 0 c).leavesExact 3 t = owns (c : Thread nD τ) (ms0_3 t) fullShare ((dats m 0 c).after 3 t) from by unfold Dat.leavesExact; rw [liveAt0_3 t], after3]
  by_cases hz : t.val = 0
  · have hc0 : cond0_0 (grid0.coords t) := (hcond0_0 t).mpr (by omega)
    have hc1 : ¬cond0_1 (grid0.coords t) := fun h => by have := (hcond0_1 t).mp h; omega
    rw [Dat.leavesExact_idle (dats m 0 c) 4 t (idleAt0_4_A t hc0 hc1) (noFlush0_4_A t hc0 hc1)]
    rw [PhiS_castSucc m c t, PhiS_zero m c _ _ hz, PhiA0_eq, acc_first m c t hz]
    iintro ⟨⟨HS0, Hg⟩, Ho, ⟨%d0, H0⟩, ⟨%d1, H1⟩, ⟨%d2, H2⟩, ⟨%d3, H3⟩, ⟨%d4, H4⟩⟩
    iapply runA c (grid0.coords t) _ (hs0_0 t) _ (hs0_1 t) _ (hs0_2 t) _ (hs0_3 t) _ (hs0_4 t) _ (Memref.isWhole_whole _) hc0 hc1 (iblk m c 0 t) (iblk m c 1 t) (iblk m c 2 t) _ Set.univ _
    isplitl [H0 H1 H2]
    · unfold inputs
      isplitl [H0]; · iexact H0
      isplitl [H1]; · iexact H1
      iexact H2
    isplitl [H3]; · iexists _; iexact H3
    isplitl [H4]; · iexact H4
    isplitl [HS0]; · iexact HS0
    unfold inputs
    iintro ⟨⟨H0, H1, H2⟩, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexists _; iexact H4
  · have hc0 : ¬cond0_0 (grid0.coords t) := fun h => by have := (hcond0_0 t).mp h; omega
    by_cases h1 : t.val % 16 = 15
    · have hc1 : cond0_1 (grid0.coords t) := (hcond0_1 t).mpr h1
      rw [show (dats m 0 c).leavesExact 4 t = owns (c : Thread nD τ) (ms0_4 t) fullShare ((dats m 0 c).after 4 t) from by unfold Dat.leavesExact; rw [liveAt0_4_C t hc0 hc1], after4]
      rw [PhiS_castSucc m c t, PhiS_pos m c _ _ hz, acc_pos m c t hz]
      iintro ⟨⟨HS0, Hg⟩, Ho, ⟨%d0, H0⟩, ⟨%d1, H1⟩, ⟨%d2, H2⟩, ⟨%d3, H3⟩, ⟨%d4, H4⟩⟩
      iapply runC c (grid0.coords t) _ (hs0_0 t) _ (hs0_1 t) _ (hs0_2 t) _ (hs0_3 t) _ (hs0_4 t) _ (Memref.isWhole_whole _) hc0 hc1 (iblk m c 0 t) (iblk m c 1 t) (iblk m c 2 t) _ Set.univ _
      isplitl [H0 H1 H2]
      · unfold inputs
        isplitl [H0]; · iexact H0
        isplitl [H1]; · iexact H1
        iexact H2
      isplitl [H3]; · iexists _; iexact H3
      isplitl [H4]; · iexists _; iexact H4
      isplitl [HS0]; · iexact HS0
      unfold inputs
      iintro ⟨⟨H0, H1, H2⟩, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 4 t (idleAt0_4_B t hc0 hc1) (noFlush0_4_B t hc0 hc1)]
      rw [PhiS_castSucc m c t, PhiS_pos m c _ _ hz, acc_pos m c t hz]
      iintro ⟨⟨HS0, Hg⟩, Ho, ⟨%d0, H0⟩, ⟨%d1, H1⟩, ⟨%d2, H2⟩, ⟨%d3, H3⟩, ⟨%d4, H4⟩⟩
      iapply runB c (grid0.coords t) _ (hs0_0 t) _ (hs0_1 t) _ (hs0_2 t) _ (hs0_3 t) _ (hs0_4 t) _ (Memref.isWhole_whole _) hc0 hc1 (iblk m c 0 t) (iblk m c 1 t) (iblk m c 2 t) _ _ Set.univ _
      isplitl [H0 H1 H2]
      · unfold inputs
        isplitl [H0]; · iexact H0
        isplitl [H1]; · iexact H1
        iexact H2
      isplitl [H3]; · iexists _; iexact H3
      isplitl [H4]; · iexact H4
      isplitl [HS0]; · iexact HS0
      unfold inputs
      iintro ⟨⟨H0, H1, H2⟩, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scoped buffers back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨HS0, Hg⟩
  isplitl [HS0]
  · iexists _; iexact HS0
  iexact Hg

set_option backward.isDefEq.respectTransparency.types false in
set_option maxHeartbeats 800000 in
/-- The whole run: it terminates with every array at what the pipeline computes of the proof data, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays the run leaves. -/
theorem run_main : θ_run defs (onTc (τ := τ) (main (F := F))) (s₀ m ρ) (Pipeline.FramePost cfgs (dats m) 0 (V m)) :=
  (θ_run defs _ _).mono (fun _ h => h.1) (run_all m ρ)

/-- The frame: the arguments end as they were and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_all m ρ))

end Cert.ConvIdeal.Run

end
-- ==== Proof.Conv.Terms.lean ====
/- What the convolution call's body computes at one trip and at one point, over the extended reals, as sums. -/
module

public import proofs.«01_k».proof.Proof.Base
public import proofs.«01_k».proof.Proof.Conv.Loop
public import Idealize.ShloMosaic.Lib.Pointwise
public import Idealize.ShloMosaic.Lib.KernelVsHost

@[expose] public section

set_option maxRecDepth 16384

noncomputable section

namespace Cert.ConvVal

open Idealize.ShloMosaic Idealize.ShloMosaic.Pointwise Cert.Base Cert.ConvIdeal Cert.ConvIdeal.Gen Cert.ConvIdeal.Run

/-- A tap's window of the input's slab: 64 rows from row `2 + kk` on. -/
theorem hpWin_at (kk : ℕ) (hk : kk < 31) (v : Vec Ideal S96x256 .f32) (r : Fin 64) (l : Fin 256) :
    hpWin (F := Ideal) kk v (ix2 r l) = v (ix2 ⟨r.val + 2 + kk, by omega⟩ l) := by
  unfold hpWin
  pointwise []
  have hr := r.isLt
  split
  · subst kk
    exact congrArg (fun q : Fin 96 => v (ix2 q l)) (Fin.ext (show 32 + r.val = r.val + 2 + 30 by omega))
  · refine dynamicRotate_apply (s := S96x256) 0 _ v _ _ _ fun b => ?_
    have e : (BitVec.ofNat 32 (30 - kk)).toNat = 30 - kk := by rw [BitVec.toNat_ofNat]; omega
    rw [e]
    match b with
    | 0 => show r.val + 2 + kk = ((32 + r.val) + 96 - (30 - kk) % 96) % 96; omega
    | 1 => rfl

/-- A tap's window of the cotangent's slab: 64 rows from row `30 - kk` on. -/
theorem ctWin_at (kk : ℕ) (hk : kk < 31) (v : Vec Ideal S96x256 .f32) (r : Fin 64) (l : Fin 256) :
    ctWin (F := Ideal) kk v (ix2 r l) = v (ix2 ⟨30 + r.val - kk, by omega⟩ l) := by
  unfold ctWin
  pointwise []
  have hr := r.isLt
  split
  · subst kk
    exact congrArg (fun q : Fin 96 => v (ix2 q l)) (Fin.ext (show r.val = 30 + r.val - 30 by omega))
  · refine dynamicRotate_apply (s := S96x256) 0 _ v _ _ _ fun b => ?_
    have e : (BitVec.ofNat 32 (66 + kk)).toNat = 66 + kk := by rw [BitVec.toNat_ofNat]; omega
    rw [e]
    match b with
    | 0 => show 30 + r.val - kk = (r.val + 96 - (66 + kk) % 96) % 96; omega
    | 1 => rfl

/-- A tap's products at a row. -/
theorem tapProd_at (kk : ℕ) (hk : kk < 31) (v w : Vec Ideal S96x256 .f32) (r : Fin 64) (l : Fin 256) :
    tapProd (F := Ideal) kk v w (ix2 r l) = v (ix2 ⟨r.val, by omega⟩ l) * w (ix2 ⟨r.val + 2 + kk, by omega⟩ l) := by
  have h := hpWin_at kk hk w r l
  unfold tapProd
  pointwise [k0_pay6, k0_pay4, h, k0_pay5]

/-- What a trip makes of a tap's rows. -/
theorem tapAcc_at (kk : ℕ) (hk : kk < 31) (v w : Vec Ideal S96x256 .f32) (a : Vec Ideal S1x8x256 .f32) (s : Fin 8) (l : Fin 256) (P : ℕ → EReal)
    (hP : ∀ r : Fin 64, v (ix2 ⟨r.val, by omega⟩ l) * w (ix2 ⟨r.val + 2 + kk, by omega⟩ l) = P r.val) :
    tapAcc (F := Ideal) kk v w a (ix3 0 s l) = a (ix3 0 s l) + ∑ g ∈ Finset.range 8, P (8 * g + s.val) := by
  have h : ∀ r : Fin 64, tapProd (F := Ideal) kk v w (ix2 r l) = P r.val := fun r => (tapProd_at kk hk v w r l).trans (hP r)
  unfold tapAcc
  pointwise [h]
  simp only [Finset.sum_range_succ, Finset.sum_range_zero, zero_add, Nat.mul_zero]

/-- The input's gradient at a row of a trip. -/
theorem dhAcc_at (v : Vec Ideal S96x256 .f32) (w : (n : ℕ) → n < 31 → Vec Ideal S1x256 .f32) (l : Fin 256) (r : Fin 64) (W C : ℕ → EReal)
    (hW : ∀ (n : ℕ) (h : n < 31), w n h (ix2 0 l) = W n) (hC : ∀ q : Fin 96, v (ix2 q l) = C q.val) (n : ℕ) (hn : n ≤ 31) :
    dhAcc (F := Ideal) v w n hn (ix2 r l) = ∑ k ∈ Finset.range n, W k * C (30 + r.val - k) := by
  induction n with
  | zero =>
    rw [Finset.sum_range_zero]
    unfold dhAcc
    pointwise []
  | succ n ih =>
    rw [Finset.sum_range_succ, ← ih (by omega)]
    have h := ctWin_at n (by omega) v r l
    refine congrArg (dhAcc (F := Ideal) v w n (by omega) (ix2 r l) + ·) ?_
    pointwise [h, k0_pay4]
    rw [hC, hW]

/-- The sum of an accumulator's eight rows. -/
theorem dwOf_at (a : Vec Ideal S31x8x256 .f32) (k : Fin 31) (l : Fin 256) : dwOf (F := Ideal) a (ix2 k l) = ∑ s : Fin 8, a (ix3 k s l) := by
  unfold dwOf
  pointwise [k0_pay3]
  rfl

/-- The rows a trip reads start at `512 i + 64 k`. -/
theorem off1 : ∀ (i : grid0.Coords) (k : Fin k0_t1_loop.trips), k0_off1 i k = ![512 * (i 0).val + 64 * k.val, 0] := by decide +kernel

theorem slabOf_at (i : grid0.Coords) (k : Fin k0_t1_loop.trips) (x : Vec Ideal S8224x256 .f32) (l : Fin 256) (X : ℕ → EReal)
    (hX : ∀ r : Fin 8224, x (ix2 r l) = X r.val) (r : Fin 96) : slabOf (F := Ideal) i k x (ix2 r l) = X (512 * (i 0).val + 64 * k.val + r.val) := by
  have hi : (i 0).val < 16 := (i 0).isLt
  have hk : k.val < 8 := lt_of_lt_of_eq k.isLt trips_eq
  rw [← hX ⟨512 * (i 0).val + 64 * k.val + r.val, by omega⟩]
  refine congrArg x (funext fun a => Fin.ext ?_)
  show k0_off1 i k a + 1 * (ix2 r l a).val = _
  rw [off1]
  match a with
  | 0 => show 512 * (i 0).val + 64 * k.val + 1 * r.val = 512 * (i 0).val + 64 * k.val + r.val; omega
  | 1 => show 0 + 1 * l.val = l.val; omega

section

variable (i : grid0.Coords) (x0 x1 : Vec Ideal S8224x256 .f32) (x2 : Vec Ideal S31x256 .f32) (l : Fin 256) (C H W : ℕ → EReal)
  (hC : ∀ r : Fin 8224, x0 (ix2 r l) = C r.val) (hH : ∀ r : Fin 8224, x1 (ix2 r l) = H r.val) (hW : ∀ k : Fin 31, x2 (ix2 k l) = W k.val)

include hC hH in
/-- What the first `n` trips of a point make of a tap's row of the accumulator. -/
theorem accN_at (a : Vec Ideal S31x8x256 .f32) (n : ℕ) (hn : n ≤ 8) (kk : Fin 31) (s : Fin 8) :
    accN (F := Ideal) i x0 x1 a n (ix3 kk s l) = a (ix3 kk s l)
      + ∑ k ∈ Finset.range n, ∑ g ∈ Finset.range 8, C (512 * (i 0).val + 64 * k + (8 * g + s.val)) * H (512 * (i 0).val + 64 * k + (8 * g + s.val + 2 + kk.val)) := by
  induction n with
  | zero => rw [Finset.sum_range_zero, add_zero]; rfl
  | succ n ih =>
    have ht : n < k0_t1_loop.trips := by rw [trips_eq]; omega
    rw [Finset.sum_range_succ, ← add_assoc, ← ih (by omega)]
    rw [show accN (F := Ideal) i x0 x1 a (n + 1) = accTrip i ⟨n, ht⟩ x0 x1 (accN i x0 x1 a n) from dif_pos ht]
    refine (tapAcc_at kk.val kk.isLt _ _ _ s l (fun r => C (512 * (i 0).val + 64 * n + r) * H (512 * (i 0).val + 64 * n + (r + 2 + kk.val))) fun r => ?_).trans rfl
    rw [slabOf_at i ⟨n, ht⟩ x0 l C hC, slabOf_at i ⟨n, ht⟩ x1 l H hH]

include hC hW in
/-- The block of the input's gradient at a row. -/
theorem dhBlk_at (r : Fin 512) : dhBlk (F := Ideal) i x0 x2 (ix2 r l) = ∑ k ∈ Finset.range 31, W k * C (512 * (i 0).val + r.val + 30 - k) := by
  have ht : r.val / 64 < k0_t1_loop.trips := by rw [trips_eq]; have := r.isLt; omega
  refine (dhAcc_at _ _ l ⟨r.val % 64, Nat.mod_lt _ (by norm_num)⟩ W (fun q => C (512 * (i 0).val + 64 * (r.val / 64) + q)) (fun n h => hW ⟨n, h⟩)
    (fun q => slabOf_at i ⟨r.val / 64, ht⟩ x0 l C hC q) 31 (Nat.le_refl 31)).trans ?_
  refine Finset.sum_congr rfl fun k hk => ?_
  have := Finset.mem_range.mp hk
  dsimp only
  rw [show 512 * (i 0).val + 64 * (r.val / 64) + (30 + r.val % 64 - k) = 512 * (i 0).val + r.val + 30 - k by omega]

end

end Cert.ConvVal

end
-- ==== Proof.Conv.Ref.lean ====
/- What the convolution's derivative computes: each tap's gradient padded to its rows, added from the last tap to the first. -/
module

public import proofs.«01_k».proof.Proof.Base
public import proofs.«01_k».proof.Proof.Idx
public import proofs.«01_k».proof.Proof.Gen.ConvRefIdeal.Read
public import Idealize.ShloMosaic.Lib.Pointwise
public import Idealize.ShloMosaic.Lib.Tactic

@[expose] public section

set_option maxRecDepth 16384

noncomputable section

namespace Cert.ConvVal

open Idealize.ShloMosaic Idealize.ShloMosaic.Pointwise Idealize.ShloMosaic.StableHlo Cert.Base Cert.ConvRefIdeal Cert.ConvRefIdeal.Gen Cert.ConvRefIdeal.Read

variable (x0 : Vec Ideal S8192x256 .f32) (x1 : Vec Ideal S31x256 .f32) (x2 : Vec Ideal S8192x256 .f32)

theorem slices_w (k : ℕ) (h : k < 31) : S31x256.Slices ![k, 0] S1x256 :=
  ⟨rfl, fun a => match a with
    | 0 => h
    | 1 => Nat.le_refl 256⟩

theorem slices_h (k : ℕ) (h : k < 31) : S8222x256.Slices ![k, 0] S8192x256 :=
  ⟨rfl, fun a => match a with
    | 0 => show k + 8192 ≤ 8222 by omega
    | 1 => Nat.le_refl 256⟩

theorem pads_h (k : ℕ) (h : k < 31) : S8192x256.Pads ![k, 0] ![30 - k, 0] ![0, 0] S8222x256 :=
  ⟨rfl, fun a => match a with
    | 0 => show 8222 = k + 8192 + 0 * (8192 - 1) + (30 - k) by omega
    | 1 => rfl⟩

theorem pads_w (k : ℕ) (h : k < 31) : S1x256.Pads ![k, 0] ![30 - k, 0] ![0, 0] S31x256 :=
  ⟨rfl, fun a => match a with
    | 0 => show 31 = k + 1 + 0 * (1 - 1) + (30 - k) by omega
    | 1 => rfl⟩

/-- A tap's weights times the cotangent, at the rows of the padded input that the tap reads. -/
def tapH (k : ℕ) (h : k < 31) : Vec Ideal S8222x256 .f32 :=
  pad S8222x256 ![k, 0] ![30 - k, 0] ![0, 0]
    (mulf (F := Ideal) (φ := .f32) (broadcastInDim S8192x256 ![0, 1] bcast_S1x256_S8192x256_0_1 (broadcastInDim S1x256 ![1] bcast_S256_S1x256_1 (shapeCast S256 (extractStridedSlice S1x256 ![k, 0] x1 (slices_w k h)) shapeCasts_S1x256_S256)))
      (val_main_v219 (F := Ideal) x2)) (val_main_cst_1 (F := Ideal)) (pads_h k h) h_S_

/-- A tap's sum over the rows, at the tap's row. -/
def tapW (k : ℕ) (h : k < 31) : Vec Ideal S31x256 .f32 :=
  pad S31x256 ![k, 0] ![30 - k, 0] ![0, 0]
    (broadcastInDim S1x256 ![1] bcast_S256_S1x256_1 (Host.reduceAdd (F := Ideal) (φ := .f32) (shapeCast S1x256 (Host.reduceAdd (F := Ideal)
      (mulf (F := Ideal) (φ := .f32) (val_main_v219 (F := Ideal) x2) (extractStridedSlice S8192x256 ![k, 0] (val_main_v1 (F := Ideal) x0) (slices_h k h)))
      (val_main_cst_1 (F := Ideal)) reducesTo_S8192x256_S256_d0 h_S_) shapeCasts_S256_S1x256) (val_main_cst_1 (F := Ideal)) reducesTo_S1x256_S256_d0 h_S_))
    (val_main_cst_1 (F := Ideal)) (pads_w k h) h_S_

/-- The input's gradient on the padded rows after the taps from 30 down to `30 - n`. -/
def chainH : ℕ → Vec Ideal S8222x256 .f32
  | 0 => tapH x1 x2 30 (by omega)
  | n + 1 => addf (F := Ideal) (φ := .f32) (chainH n) (tapH x1 x2 (29 - n) (by omega))

/-- The weights' gradient after the same taps. -/
def chainW : ℕ → Vec Ideal S31x256 .f32
  | 0 => tapW x0 x2 30 (by omega)
  | n + 1 => addf (F := Ideal) (φ := .f32) (chainW n) (tapW x0 x2 (29 - n) (by omega))

theorem ref_chainH : val_main_v556 (F := Ideal) x1 x2 = chainH x1 x2 30 := by sl_kernel_rfl

theorem ref_chainW : val_main_v559 (F := Ideal) x0 x2 = chainW x0 x2 30 := by sl_kernel_rfl

/-- The word 0. -/
theorem word0 : Ideal.ofBits .f32 0x00000000#32 = (0 : EReal) := by simp [Ideal.ofBits, Ideal.ieee]

/-- The cotangent, zero outside its rows. -/
def ctN (l : Fin 256) (t : ℕ) : EReal := if h : t < 8192 then x2 (ix2 ⟨t, h⟩ l) else 0

/-- The input under 30 rows of zeros. -/
def hN (l : Fin 256) (t : ℕ) : EReal := if h : 30 ≤ t ∧ t - 30 < 8192 then x0 (ix2 ⟨t - 30, h.2⟩ l) else 0

/-- The weights, zero outside the taps. -/
def wN (l : Fin 256) (k : ℕ) : EReal := if h : k < 31 then x1 (ix2 ⟨k, h⟩ l) else 0

theorem tapH_at (k : ℕ) (h : k < 31) (t : Fin 8192) (l : Fin 256) :
    tapH x1 x2 k h (ix2 ⟨30 + t.val, by omega⟩ l) = wN x1 l k * ctN x2 l (30 + t.val - k) := by
  have := t.isLt
  unfold ctN wN
  rw [dif_pos h]
  pointwise [tapH, val_main_v219, val_main_cst_1]
  by_cases hk : k ≤ 30 + t.val ∧ 30 + t.val - k < 8192
  · rw [dif_pos hk, dif_pos hk.2]
  · rw [dif_neg hk, dif_neg (fun hh => hk ⟨by omega, hh⟩), mul_zero]

theorem tapW_at (k : ℕ) (h : k < 31) (j : Fin 31) (l : Fin 256) :
    tapW x0 x2 k h (ix2 j l) = if j.val = k then ∑ t ∈ Finset.range 8192, ctN x2 l t * hN x0 l (t + k) else 0 := by
  pointwise [tapW, val_main_v219, val_main_cst_1, val_main_v1, val_main_v0, val_main_cst]
  by_cases hk : j.val = k
  · rw [dif_pos (show k ≤ j.val ∧ j.val - k < 1 by omega), if_pos hk]
    simp only [Fin.sum_univ_one]
    rw [Finset.sum_range]
    refine Finset.sum_congr rfl fun t _ => ?_
    have ht := t.isLt
    unfold ctN hN
    rw [dif_pos ht]
    refine congrArg _ ?_
    by_cases hlt : k + t.val < 30
    · rw [dif_pos hlt, dif_neg (by omega)]
    · rw [dif_neg hlt, dif_pos (show 30 ≤ t.val + k ∧ t.val + k - 30 < 8192 by omega)]
      exact congrArg (fun r : Fin 8192 => x0 (ix2 r l)) (Fin.ext (show k + t.val - 30 = t.val + k - 30 by omega))
  · rw [dif_neg (show ¬(k ≤ j.val ∧ j.val - k < 1) by omega), if_neg hk]

theorem chainH_at (n : ℕ) (hn : n < 31) (t : Fin 8192) (l : Fin 256) :
    chainH x1 x2 n (ix2 ⟨30 + t.val, by omega⟩ l) = ∑ j ∈ Finset.range (n + 1), wN x1 l (30 - j) * ctN x2 l (30 + t.val - (30 - j)) := by
  induction n with
  | zero => rw [Finset.sum_range_one]; exact tapH_at x1 x2 30 (by omega) t l
  | succ n ih =>
    rw [Finset.sum_range_succ, ← ih (by omega)]
    refine congrArg (chainH x1 x2 n _ + ·) ?_
    rw [show 30 - (n + 1) = 29 - n by omega]
    exact tapH_at x1 x2 (29 - n) (by omega) t l

theorem chainW_at (n : ℕ) (hn : n < 31) (k : Fin 31) (l : Fin 256) :
    chainW x0 x2 n (ix2 k l) = ∑ j ∈ Finset.range (n + 1), (if k.val = 30 - j then ∑ t ∈ Finset.range 8192, ctN x2 l t * hN x0 l (t + (30 - j)) else 0) := by
  induction n with
  | zero => rw [Finset.sum_range_one]; exact tapW_at x0 x2 30 (by omega) k l
  | succ n ih =>
    rw [Finset.sum_range_succ, ← ih (by omega)]
    refine congrArg (chainW x0 x2 n _ + ·) ?_
    rw [show 30 - (n + 1) = 29 - n by omega]
    exact tapW_at x0 x2 (29 - n) (by omega) k l

/-- The reference's gradient of the input: each tap's weight times the cotangent that many rows on. -/
theorem ref_h (t : Fin 8192) (l : Fin 256) :
    val_main_v561 (F := Ideal) x1 x2 (ix2 t l) = ∑ k ∈ Finset.range 31, wN x1 l k * ctN x2 l (30 + t.val - k) := by
  rw [val_main_v561_apply, ref_chainH]
  refine Eq.trans (congrArg (chainH x1 x2 30) ?_) ((chainH_at x1 x2 30 (by omega) t l).trans (Finset.sum_range_reflect (fun k => wN x1 l k * ctN x2 l (30 + t.val - k)) 31))
  funext a
  match a with
  | 0 => rfl
  | 1 => rfl

/-- The reference's gradient of a tap's weights: the cotangent times the input that many rows back, summed over the rows. -/
theorem ref_w (k : Fin 31) (l : Fin 256) :
    val_main_v559 (F := Ideal) x0 x2 (ix2 k l) = ∑ t ∈ Finset.range 8192, ctN x2 l t * hN x0 l (t + k.val) := by
  rw [ref_chainW, chainW_at x0 x2 30 (by omega) k l]
  refine (Finset.sum_range_reflect (fun j => if k.val = j then ∑ t ∈ Finset.range 8192, ctN x2 l t * hN x0 l (t + j) else 0) 31).trans ?_
  rw [Finset.sum_ite_eq, if_pos (Finset.mem_range.mpr k.isLt)]

end Cert.ConvVal

end
-- ==== Proof.Conv.Final.lean ====
/- What the convolution call leaves in its two arrays, as sums over the arguments, and that this is what the reference computes. -/
module

public import proofs.«01_k».proof.Proof.Conv.Launch
public import proofs.«01_k».proof.Proof.Conv.Terms
public import proofs.«01_k».proof.Proof.Conv.Ref
public import Idealize.ShloMosaic.Lib.Pipeline.ValueKit
public import Idealize.ShloMosaic.Lib.StableHlo.ReadAt

@[expose] public section

set_option maxRecDepth 16384

noncomputable section

namespace Cert.ConvVal

open Idealize.ShloMosaic Idealize.ShloMosaic.TcCoe Idealize.ShloMosaic.Pointwise Cert.Base Cert.ConvIdeal Cert.ConvIdeal.Gen Cert.ConvIdeal.Run

variable (m : (ℓ : Loc nD τ sig) → Buf (Elt Ideal) ℓ) (c : Dev nD)

abbrev aH : Vec Ideal S8192x256 .f32 := m ((c.tc : Thread nD τ).loc main_arg0)
abbrev aW : Vec Ideal S31x256 .f32 := m ((c.tc : Thread nD τ).loc main_arg1)
abbrev aC : Vec Ideal S8192x256 .f32 := m ((c.tc : Thread nD τ).loc main_arg2)

/-- The integer 0 as a float is 0. -/
theorem zero_word : (FloatOps.sitofp (F := Ideal) (φ := .f32) (0#32) : EReal) = 0 := by
  show (((0#32 : BitVec 32).toInt : ℝ) : EReal) = 0
  simp

/-- The first array is the cotangent over 32 rows of zeros. -/
theorem blk0 (t : Fin cfg0.N) (l : Fin 256) (r : Fin 8224) : iblk m c 0 t (ix2 r l) = ctN (aC m c) l r.val := by
  have e : ∀ t : Fin cfg0.N, win0_0.index t = ![0, 0] := by decide +kernel
  have h : (win0_0.blk t).view.emb (ix2 r l) = ix2 r l := by blk_ext [e]
  unfold ctN
  blk_simp [iblk]
  rw [h]
  unfold V
  after_reads_at
  pointwise []
  by_cases hr : r.val < 8192
  · rw [dif_pos hr, dif_pos hr]
  · rw [dif_neg hr, dif_neg hr, zero_word]

/-- The second array is the input under 32 rows of zeros. -/
theorem blk1 (t : Fin cfg0.N) (l : Fin 256) (r : Fin 8224) : iblk m c 1 t (ix2 r l) = hN (aH m c) l (r.val - 2) := by
  have e : ∀ t : Fin cfg0.N, win0_1.index t = ![0, 0] := by decide +kernel
  have h : (win0_1.blk t).view.emb (ix2 r l) = ix2 r l := by blk_ext [e]
  unfold hN
  blk_simp [iblk]
  rw [h]
  unfold V
  after_reads_at
  pointwise []
  by_cases hr : 32 ≤ r.val
  · have hl := r.isLt
    rw [dif_pos (show 32 ≤ r.val ∧ r.val - 32 < 8192 by omega), dif_pos (show 30 ≤ r.val - 2 ∧ r.val - 2 - 30 < 8192 by omega)]
    exact congrArg (fun q : Fin 8192 => aH m c (ix2 q l)) (Fin.ext (show r.val - 32 = r.val - 2 - 30 by omega))
  · rw [dif_neg (fun hh => hr hh.1), dif_neg (fun hh => hr (by omega)), zero_word]

/-- The third array is the weights. -/
theorem blk2 (t : Fin cfg0.N) (l : Fin 256) (k : Fin 31) : iblk m c 2 t (ix2 k l) = wN (aW m c) l k.val := by
  have e : ∀ t : Fin cfg0.N, win0_2.index t = ![0, 0] := by decide +kernel
  have h : (win0_2.blk t).view.emb (ix2 k l) = ix2 k l := by blk_ext [e]
  unfold wN
  rw [dif_pos k.isLt]
  blk_simp [iblk]
  rw [V_main_arg1, h]

/-- Sums over consecutive blocks of equal length are one sum. -/
theorem sum_blocks (f : ℕ → EReal) (B n : ℕ) : ∑ a ∈ Finset.range n, ∑ b ∈ Finset.range B, f (B * a + b) = ∑ t ∈ Finset.range (B * n), f t := by
  induction n with
  | zero => rw [Nat.mul_zero, Finset.sum_range_zero, Finset.sum_range_zero]
  | succ n ih => rw [Finset.sum_range_succ, ih, Nat.mul_succ, Finset.sum_range_add]

/-- One product of the weights' gradient. -/
def prodN (l : Fin 256) (k t : ℕ) : EReal := ctN (aC m c) l t * hN (aH m c) l (t + k)

theorem coord : ∀ t : Fin cfg0.N, ((grid0.coords t) 0).val = t.val := by decide +kernel

/-- What one point adds to a tap's row of the accumulator. -/
theorem accAll_at (t : Fin cfg0.N) (a : Vec Ideal S31x8x256 .f32) (k : Fin 31) (s : Fin 8) (l : Fin 256) :
    accAll (F := Ideal) (grid0.coords t) (iblk m c 0 t) (iblk m c 1 t) a (ix3 k s l) = a (ix3 k s l)
      + ∑ b ∈ Finset.range 8, ∑ g ∈ Finset.range 8, prodN m c l k.val (512 * t.val + 64 * b + (8 * g + s.val)) := by
  have h := accN_at (grid0.coords t) (iblk m c 0 t) (iblk m c 1 t) l (ctN (aC m c) l) (fun q => hN (aH m c) l (q - 2)) (blk0 m c t l) (blk1 m c t l) a 8 (Nat.le_refl 8) k s
  unfold accAll
  rw [trips_eq, h]
  refine congrArg _ (Finset.sum_congr rfl fun b _ => Finset.sum_congr rfl fun g _ => ?_)
  unfold prodN
  rw [coord]
  rw [show 512 * t.val + 64 * b + (8 * g + s.val + 2 + k.val) - 2 = 512 * t.val + 64 * b + (8 * g + s.val) + k.val by omega]

/-- What a tap's row of the accumulator holds after a point. -/
theorem acc_at (n : ℕ) (hn : n < cfg0.N) (k : Fin 31) (s : Fin 8) (l : Fin 256) :
    acc m c n hn (ix3 k s l) = ∑ p ∈ Finset.range (n + 1), ∑ b ∈ Finset.range 8, ∑ g ∈ Finset.range 8, prodN m c l k.val (512 * p + 64 * b + (8 * g + s.val)) := by
  induction n with
  | zero =>
    refine (accAll_at m c ⟨0, hn⟩ _ k s l).trans ?_
    have z : (k0_pay1 (F := Ideal)) (ix3 k s l) = 0 := by pointwise [k0_pay1]
    rw [z, zero_add, Finset.sum_range_one]
  | succ n ih =>
    refine (accAll_at m c ⟨n + 1, hn⟩ _ k s l).trans ?_
    rw [ih (Nat.lt_of_succ_lt hn), Finset.sum_range_succ _ (n + 1)]

/-- The sums over points, trips, groups and rows are the sum over all rows. -/
theorem all_rows (f : ℕ → EReal) :
    ∑ s : Fin 8, ∑ p ∈ Finset.range 16, ∑ b ∈ Finset.range 8, ∑ g ∈ Finset.range 8, f (512 * p + 64 * b + (8 * g + s.val)) = ∑ t ∈ Finset.range 8192, f t := by
  rw [Finset.sum_comm, ← sum_blocks f 512 16]
  refine Finset.sum_congr rfl fun p _ => ?_
  rw [Finset.sum_comm, ← sum_blocks (fun t => f (512 * p + t)) 64 8]
  refine Finset.sum_congr rfl fun b _ => ?_
  rw [Finset.sum_comm, ← sum_blocks (fun t => f (512 * p + (64 * b + t))) 8 8]
  refine Finset.sum_congr rfl fun g _ => ?_
  rw [Finset.sum_range]
  refine Finset.sum_congr rfl fun s _ => ?_
  rw [Nat.add_assoc]

/-- The input's gradient the call leaves. -/
def outH : Vec Ideal S8192x256 .f32 := fun y => ∑ k ∈ Finset.range 31, wN (aW m c) (y 1) k * ctN (aC m c) (y 1) (30 + (y 0).val - k)

/-- The weights' gradient the call leaves. -/
def outW : Vec Ideal S31x256 .f32 := fun y => ∑ t ∈ Finset.range 8192, prodN m c (y 1) (y 0).val t

theorem final_h : (dats m 0 c).arrAt 3 cfg0.N = outH m c := by
  have e : ∀ t, win0_3.index t = ![t.val, 0] := by decide +kernel
  refine (dats m 0 c).arrAt_eq_of_covers 3 _ (by decide +kernel) fun t hf y => ?_
  have ht : t.val < 16 := t.isLt
  rw [after3]
  obtain ⟨r, x, rfl⟩ := idx2 y
  refine (dhBlk_at (grid0.coords t) (iblk m c 0 t) (iblk m c 2 t) x (ctN (aC m c) x) (wN (aW m c) x) (blk0 m c t x) (blk2 m c t x) r).trans ?_
  have h : (win0_3.blk t).view.emb (ix2 r x) = ix2 (⟨512 * t.val + r.val, by have := r.isLt; omega⟩ : Fin 8192) x := by blk_ext [e]
  refine Eq.trans ?_ (show _ = outH m c ((win0_3.blk t).view.emb (ix2 r x)) from rfl)
  rw [h, coord]
  refine Finset.sum_congr rfl fun k _ => ?_
  exact congrArg (fun q => wN (aW m c) x k * ctN (aC m c) x q) (show 512 * t.val + r.val + 30 - k = 30 + (512 * t.val + r.val) - k by omega)

theorem final_w : (dats m 0 c).arrAt 4 cfg0.N = outW m c := by
  have e : ∀ t, win0_4.index t = ![0, 0] := by decide +kernel
  refine (dats m 0 c).arrAt_eq_of_covers 4 _ (by decide +kernel) fun t hf y => ?_
  have ht : t.val < 16 := t.isLt
  have h15 : t.val = 15 := by revert hf; revert t; decide +kernel
  rw [after4]
  obtain ⟨k, x, rfl⟩ := idx2 y
  refine (dwOf_at _ k x).trans ?_
  have h : (win0_4.blk t).view.emb (ix2 k x) = ix2 k x := by blk_ext [e]
  refine Eq.trans ?_ (show _ = outW m c ((win0_4.blk t).view.emb (ix2 k x)) from rfl)
  rw [h]
  simp only [acc_at, h15]
  exact all_rows (prodN m c x k.val)

end Cert.ConvVal

end
-- ==== Proof.Conv.Claims.lean ====
/- The claims about the convolution's gradient call and its reference. -/
module

public import proofs.«01_k».proof.Defs
public import proofs.«01_k».proof.Proof.Conv.Final
public import proofs.«01_k».proof.Proof.Gen.Conv
public import Idealize.ShloMosaic.Adequacy
public import Idealize.ShloMosaic.Init

@[expose] public section

set_option maxRecDepth 16384

noncomputable section

namespace Cert.ConvVal

open Idealize.ShloMosaic Idealize.ShloMosaic.TcCoe Idealize.SL.Sem Idealize.ShloMosaic.Pointwise Cert.Base

/-- The call's frame: the run is that of the ideal program's text, at bit patterns. -/
theorem frame_kernel : Cert.quiescent_Conv := fun m ρ _ => by
  refine Eq.mp ?_ (Cert.ConvIdeal.Run.frame_run (F := Bits) m ρ)
  sl_kernel_rfl

/-- Its frame over the extended reals. -/
theorem frame_ideal : Cert.quiescent_ConvIdeal := fun m ρ _ => Cert.ConvIdeal.Run.frame_run m ρ

/-- No operation is rewritten. -/
theorem preserves : Cert.preserves_Conv_ConvIdeal := trivial

/-- The reference leaves its arguments and, having no semaphore, every counter at zero. -/
theorem frame_ref : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

section

open Cert.ConvIdeal Cert.ConvIdeal.Run

/-- The arrays the call leaves, and its arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = (dats m 0 c).arrAt 3 cfg0.N
      ∧ r.2.mem ((c.tc : Thread nD τ).loc main_v2_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (frame_run m ρ))
  obtain ⟨h1, h2⟩ := h
  have w := (h1 c).1
  exact ⟨w 3, w 4, h2.1 c⟩

end

/-- The reference's gradient of the input is the call's. -/
theorem same_h (m : (ℓ : Loc Cert.ConvIdeal.nD Cert.ConvIdeal.τ Cert.ConvIdeal.sig) → Buf (Elt Ideal) ℓ) (c : Dev Cert.ConvIdeal.nD) :
    Cert.ConvRefIdeal.Read.val_main_v561 (F := Ideal) (aW m c) (aC m c) = outH m c := by
  funext y
  obtain ⟨t, l, rfl⟩ := idx2 y
  exact ref_h (aW m c) (aC m c) t l

/-- The reference's gradient of the weights is the call's. -/
theorem same_w (m : (ℓ : Loc Cert.ConvIdeal.nD Cert.ConvIdeal.τ Cert.ConvIdeal.sig) → Buf (Elt Ideal) ℓ) (c : Dev Cert.ConvIdeal.nD) :
    Cert.ConvRefIdeal.Read.val_main_v559 (F := Ideal) (aH m c) (aC m c) = outW m c := by
  funext y
  obtain ⟨k, l, rfl⟩ := idx2 y
  exact ref_w (aH m c) (aC m c) k l

set_option maxHeartbeats 2000000 in
/-- The call and the reference compute the same two gradients over the extended reals. -/
theorem algebraic : Cert.algebraic_ConvIdeal_ConvRefIdeal := by
  intro m ρ m' ρ' hp hag
  refine ⟨fun c => (Cert.ConvIdeal.Run.dats m 0 c).arrAt 3 Cert.ConvIdeal.cfg0.N, fun c => (Cert.ConvIdeal.Run.dats m 0 c).arrAt 4 Cert.ConvIdeal.cfg0.N, ?_,
    (θ_run Cert.ConvRefIdeal.defs _ _).mono (fun r h c => ?_) (Cert.ConvRefIdeal.Value.run (F := Ideal) m' ρ')⟩
  · exact run_kernel m ρ
  obtain ⟨h0, h1, hk⟩ := h c
  obtain ⟨e0, e1, e2⟩ := hag c
  refine ⟨h0.trans ?_, h1.trans ?_, hk⟩
  · refine (Cert.ConvRefIdeal.Read.val_main_v561_eq _).trans ?_
    show Cert.ConvRefIdeal.Read.val_main_v561 (F := Ideal) (m' (c, Proc.tc.devRef Cert.ConvRefIdeal.main_arg1)) (m' (c, Proc.tc.devRef Cert.ConvRefIdeal.main_arg2)) = _
    rw [e1, e2]
    exact (same_h m c).trans (final_h m c).symm
  · refine (Cert.ConvRefIdeal.Read.val_main_v559_eq _).trans ?_
    show Cert.ConvRefIdeal.Read.val_main_v559 (F := Ideal) (m' (c, Proc.tc.devRef Cert.ConvRefIdeal.main_arg0)) (m' (c, Proc.tc.devRef Cert.ConvRefIdeal.main_arg2)) = _
    rw [e0, e2]
    exact (same_w m c).trans (final_w m c).symm

end Cert.ConvVal

end
-- ==== Proof.SsmPrep.Math.lean ====
/- The discretisation of one complex state and its gradient, as functions of the state's numbers over the extended reals. -/
module

public import proofs.«01_k».proof.Proof.Base
public import Idealize.ShloMosaic.Lib.Pointwise

@[expose] public section

noncomputable section

namespace Cert.SsmPrepVal

open Idealize.ShloMosaic Idealize.ShloMosaic.Pointwise

/-! ## The forward lines: a state `a + i b` and the logarithm `s` of its step -/

variable (a b s : EReal)

/-- The step. -/
def st : EReal := Ideal.exp s
/-- The decay's modulus. -/
def mg : EReal := Ideal.exp (a * st s)
/-- The cosine of the decay's angle. -/
def cs : EReal := Ideal.cos (b * st s)
/-- The sine of the decay's angle. -/
def sn : EReal := Ideal.sin (b * st s)
/-- The decay's real part. -/
def ar : EReal := mg a s * cs b s
/-- The decay's imaginary part. -/
def ai : EReal := mg a s * sn b s
/-- The square of the state's modulus. -/
def den : EReal := a * a + b * b
/-- The numerator of the input factor's real part. -/
def nr : EReal := (ar a b s - 1) * a + ai a b s * b
/-- The numerator of the input factor's imaginary part. -/
def ni : EReal := ai a b s * a - (ar a b s - 1) * b
/-- The input factor's real part. -/
def fr : EReal := Ideal.div (nr a b s) (den a b)
/-- The input factor's imaginary part. -/
def fi : EReal := Ideal.div (ni a b s) (den a b)
/-- One over the fourth power of the state's modulus. -/
def iv : EReal := Ideal.div 1 (den a b * den a b)

/-! ## The gradient, from those of the input map's real and imaginary entries `p`, `q`, the map's entries `x`, `y`, and
the cotangents `u`, `w` of the decay's two parts -/

/-- The gradient of the input factor's imaginary part. -/
def gI (p q x y : Fin 16 → EReal) : EReal := (∑ r, q r * x r) + ∑ r, -p r * y r
/-- The gradient of the input factor's real part. -/
def gR (p q x y : Fin 16 → EReal) : EReal := (∑ r, q r * y r) + ∑ r, p r * x r

variable (S T u w : EReal)

/-- The gradient of the denominator. -/
def dd : EReal := -(S * iv a b * ni a b s) + -(T * iv a b * nr a b s)
/-- The gradient of the decay's imaginary part. -/
def gi : EReal := w + Ideal.div S (den a b) * a + Ideal.div T (den a b) * b
/-- The gradient of the decay's real part. -/
def gr : EReal := u + -Ideal.div S (den a b) * b + Ideal.div T (den a b) * a
/-- The angle's gradient by the sine. -/
def hs : EReal := mg a s * gi a b S T w * cs b s
/-- The angle's gradient by the cosine. -/
def hc : EReal := -(mg a s * gr a b S T u) * sn b s
/-- The gradient of the modulus' exponent. -/
def gm : EReal := (gi a b S T w * sn b s + gr a b S T u * cs b s) * mg a s
/-- The gradient of the state's real part. -/
def dLr : EReal := ai a b s * Ideal.div S (den a b) + (ar a b s - 1) * Ideal.div T (den a b) + a * dd a b s S T
  + dd a b s S T * a + gm a b s S T u w * st s
/-- The gradient of the state's imaginary part. -/
def dLi : EReal := (ar a b s - 1) * -Ideal.div S (den a b) + ai a b s * Ideal.div T (den a b) + b * dd a b s S T
  + dd a b s S T * b + hs a b s S T w * st s + hc a b s S T u * st s
/-- The gradient of the step's logarithm. -/
def dLt : EReal := (b * hs a b s S T w + b * hc a b s S T u + a * gm a b s S T u w) * st s
/-- The gradient of the input map's real entry, from its block's entries `p`, `q`. -/
def dBr (p q : EReal) : EReal := fi a b s * q + fr a b s * p
/-- The gradient of the input map's imaginary entry. -/
def dBi (p q : EReal) : EReal := fr a b s * q + fi a b s * -p

/-- Entry `r` of lane `l`'s diagonal block. -/
def blk (w : Vec Ideal ⟨2, ![256, 1024]⟩ .f32) (r : Fin 16) (l : Fin 1024) : EReal :=
  w (ix2 ⟨16 * (l.val / 64) + r.val, by omega⟩ l)

end Cert.SsmPrepVal

end
-- ==== Proof.SsmPrep.Kern.lean ====
/- What the discretisation's gradient call leaves in its seven outputs, read at an index. -/
module

public import proofs.«01_k».proof.Proof.SsmPrep.Math
public import proofs.«01_k».proof.Proof.Gen.SsmPrepIdeal.Frame

@[expose] public section

set_option maxRecDepth 16384

noncomputable section

namespace Cert.SsmPrepVal

open Idealize.ShloMosaic Idealize.ShloMosaic.Pointwise Cert.Base Cert.SsmPrepIdeal Cert.SsmPrepIdeal.Gen

/-- The table of diagonal blocks. -/
def IsMask (m : Vec Ideal S256x1024 .f32) : Prop := ∀ (i : Fin 256) (l : Fin 1024), m (ix2 i l) = if i.val / 16 = l.val / 64 then 1 else 0

/-- An entry of the table passes the threshold exactly on the diagonal blocks. -/
theorem mask_lt {m : Vec Ideal S256x1024 .f32} (hm : IsMask m) (i : Fin 256) (l : Fin 1024) :
    (Ideal.ofBits FTy.f32 1056964608#32 < m (ix2 i l)) ↔ i.val / 16 = l.val / 64 := by
  have half : Ideal.ofBits FTy.f32 1056964608#32 = ((1 / 2 : ℝ) : EReal) := by
    simp [Ideal.ofBits, Ideal.ieee]
    norm_num [← EReal.coe_mul]
  rw [hm, half]
  by_cases h : i.val / 16 = l.val / 64
  · rw [if_pos h]
    refine iff_of_true ?_ h
    rw [← EReal.coe_one, EReal.coe_lt_coe_iff]
    norm_num
  · rw [if_neg h]
    refine iff_of_false ?_ h
    rw [← EReal.coe_zero, EReal.coe_lt_coe_iff]
    norm_num

/-- The rows of one place in each of the sixteen blocks, added where they are on the diagonal. -/
def rows (m w : Vec Ideal S256x1024 .f32) (r : Fin 16) (l : Fin 1024) : EReal :=
  ∑ h : Fin 16, if Ideal.ofBits FTy.f32 1056964608#32 < m (ix2 ⟨16 * h.val + r.val, by omega⟩ l) then w (ix2 ⟨16 * h.val + r.val, by omega⟩ l) else 0

/-- Only the lane's own block is left of the sum. -/
theorem rows_eq {m : Vec Ideal S256x1024 .f32} (hm : IsMask m) (w : Vec Ideal S256x1024 .f32) (r : Fin 16) (l : Fin 1024) :
    rows m w r l = blk w r l := by
  unfold rows
  have hr := r.isLt
  have hl := l.isLt
  rw [Finset.sum_eq_single (⟨l.val / 64, by omega⟩ : Fin 16)]
  · rw [if_pos ((mask_lt hm _ l).2 (by show (16 * (l.val / 64) + r.val) / 16 = l.val / 64; omega))]
    rfl
  · intro h _ hne
    refine if_neg fun hlt => hne (Fin.ext ?_)
    have := (mask_lt hm _ l).1 hlt
    show h.val = l.val / 64
    replace : (16 * h.val + r.val) / 16 = l.val / 64 := this
    omega
  · intro h
    exact absurd (Finset.mem_univ _) h

/-- The sixteen slices that the body adds one after another are that sum. -/
theorem kern_rows1 (m w : Vec Ideal S256x1024 .f32) (r : Fin 16) (l : Fin 1024) : k0_pay1 (F := Ideal) m w (ix2 r l) = rows m w r l := by
  unfold rows
  simp only [Fin.sum_univ_castSucc, Fin.sum_univ_zero, zero_add]
  pointwise [k0_pay1]
  simp only [Fin.val_castSucc, Fin.val_last, Nat.reduceMul, zero_add, Nat.mul_zero]

theorem kern_rows48 (m w : Vec Ideal S256x1024 .f32) (r : Fin 16) (l : Fin 1024) : k0_pay48 (F := Ideal) m w (ix2 r l) = rows m w r l :=
  kern_rows1 m w r l

theorem kern_rows26 (m w : Vec Ideal S256x1024 .f32) (r : Fin 16) (l : Fin 1024) : k0_pay26 (F := Ideal) m w (ix2 r l) = rows m w r l :=
  kern_rows1 m w r l

theorem kern_rows29 (m w : Vec Ideal S256x1024 .f32) (r : Fin 16) (l : Fin 1024) :
    k0_pay29 (F := Ideal) (k0_pay27 m w) (k0_pay28 m w) (ix2 r l) = rows m w r l :=
  kern_rows1 m w r l

variable (x0 x1 x2 : Vec Ideal S1x1024 .f32) (x3 x4 : Vec Ideal S16x1024 .f32) (x5 : Vec Ideal S256x1024 .f32) (x6 x7 : Vec Ideal S1x1024 .f32)
  (x8 x9 x10 x11 : Vec Ideal S256x1024 .f32)

theorem ld0 (x : Vec Ideal S256x1024 .f32) : View.ld x r0_0 = x := View.ld_unit_zero (by decide) _ _
theorem ld1 (x : Vec Ideal S1x1024 .f32) : View.ld x r0_1 = x := View.ld_unit_zero (by decide) _ _
theorem ld2 (x : Vec Ideal S16x1024 .f32) : View.ld x r0_2 = x := View.ld_unit_zero (by decide) _ _

theorem pay2 (x : Vec Ideal S256x1024 .f32) : k0_pay2 x = x := by
  refine ext2 fun i j => ?_
  pointwise [k0_pay2]

variable (h5 : IsMask x5)
include h5

theorem kern_p (r : Fin 16) (l : Fin 1024) : k0_pay66 x0 x1 x2 x3 x4 x5 x6 x7 x8 x9 x10 x11 (ix2 r l) = blk x8 r l := by
  unfold k0_pay66 k0_pay49
  rw [ld0, ld0, pay2, kern_rows26]
  exact rows_eq h5 _ r l

theorem kern_q (r : Fin 16) (l : Fin 1024) :
    k0_pay29 (k0_pay67 x0 x1 x2 x3 x4 x5 x6 x7 x8 x9 x10 x11) (k0_pay68 x0 x1 x2 x3 x4 x5 x6 x7 x8 x9 x10 x11) (ix2 r l) = blk x9 r l := by
  unfold k0_pay67 k0_pay68 k0_pay49
  rw [ld0, ld0, pay2, kern_rows29]
  exact rows_eq h5 _ r l

/-- The gradient of the input factor's imaginary part, of one lane. -/
theorem kern_S (l : Fin 1024) : k0_pay69 x0 x1 x2 x3 x4 x5 x6 x7 x8 x9 x10 x11 (ix2 0 l)
    = gI (fun r => blk x8 r l) (fun r => blk x9 r l) (fun r => x3 (ix2 r l)) (fun r => x4 (ix2 r l)) := by
  have hp := kern_p x0 x1 x2 x3 x4 x5 x6 x7 x8 x9 x10 x11 h5
  have hq := kern_q x0 x1 x2 x3 x4 x5 x6 x7 x8 x9 x10 x11 h5
  unfold k0_pay69
  pointwise [k0_pay32, k0_pay30, hp, hq, k0_pay52, k0_pay53, k0_pay5, k0_pay6]
  simp only [zero_sub]
  rfl

/-- The gradient of the input factor's real part, of one lane. -/
theorem kern_T (l : Fin 1024) : k0_pay70 x0 x1 x2 x3 x4 x5 x6 x7 x8 x9 x10 x11 (ix2 0 l)
    = gR (fun r => blk x8 r l) (fun r => blk x9 r l) (fun r => x3 (ix2 r l)) (fun r => x4 (ix2 r l)) := by
  have hp := kern_p x0 x1 x2 x3 x4 x5 x6 x7 x8 x9 x10 x11 h5
  have hq := kern_q x0 x1 x2 x3 x4 x5 x6 x7 x8 x9 x10 x11 h5
  unfold k0_pay70
  pointwise [k0_pay34, hp, hq, k0_pay52, k0_pay53, k0_pay5, k0_pay6]
  rfl

/-- The first gradient's part of the denominator's, before its sign. -/
theorem kern_U (l : Fin 1024) : k0_pay71 x0 x1 x2 x3 x4 x5 x6 x7 x8 x9 x10 x11 (ix2 0 l)
    = gI (fun r => blk x8 r l) (fun r => blk x9 r l) (fun r => x3 (ix2 r l)) (fun r => x4 (ix2 r l))
      * iv (x0 (ix2 0 l)) (x1 (ix2 0 l)) * ni (x0 (ix2 0 l)) (x1 (ix2 0 l)) (x2 (ix2 0 l)) := by
  have hS : k0_pay32 (k0_pay52 x0 x1 x2 x3 x4 x5 x6 x7 x8 x9 x10 x11) (k0_pay53 x0 x1 x2 x3 x4 x5 x6 x7 x8 x9 x10 x11)
      (k0_pay66 x0 x1 x2 x3 x4 x5 x6 x7 x8 x9 x10 x11) (k0_pay67 x0 x1 x2 x3 x4 x5 x6 x7 x8 x9 x10 x11)
      (k0_pay68 x0 x1 x2 x3 x4 x5 x6 x7 x8 x9 x10 x11) (ix2 0 l) = _ := kern_S x0 x1 x2 x3 x4 x5 x6 x7 x8 x9 x10 x11 h5 l
  unfold k0_pay71
  rw [ld1, ld1, ld1]
  pointwise [k0_pay35, hS, k0_pay25, k0_pay17, k0_pay23, k0_pay22, k0_pay16, k0_pay12, k0_pay8, k0_pay3, k0_pay4, k0_pay7, k0_pay10, k0_pay9, k0_pay14, k0_pay13]
  rfl

/-- The gradient of the states' real parts. -/
theorem kern_lr (v : Fin 1) (l : Fin 1024) : out0_12 x0 x1 x2 x3 x4 x5 x6 x7 x8 x9 x10 x11 (ix2 v l)
    = dLr (x0 (ix2 0 l)) (x1 (ix2 0 l)) (x2 (ix2 0 l))
        (gI (fun r => blk x8 r l) (fun r => blk x9 r l) (fun r => x3 (ix2 r l)) (fun r => x4 (ix2 r l)))
        (gR (fun r => blk x8 r l) (fun r => blk x9 r l) (fun r => x3 (ix2 r l)) (fun r => x4 (ix2 r l))) (x6 (ix2 0 l)) (x7 (ix2 0 l)) := by
  obtain rfl : v = 0 := Subsingleton.elim _ _
  have hS := kern_S x0 x1 x2 x3 x4 x5 x6 x7 x8 x9 x10 x11 h5
  have hT := kern_T x0 x1 x2 x3 x4 x5 x6 x7 x8 x9 x10 x11 h5
  have hU := kern_U x0 x1 x2 x3 x4 x5 x6 x7 x8 x9 x10 x11 h5
  unfold out0_12 k0_pay50 k0_pay51 k0_pay54 k0_pay55 k0_pay56 k0_pay58 k0_pay60 k0_pay61 k0_pay62 k0_pay64
  rw [View.canon_unit_zero (by decide)]
  simp only [ld1]
  pointwise [hS, hT, hU, k0_pay46, k0_pay45, k0_pay41, k0_pay40, k0_pay39, k0_pay38, k0_pay37, k0_pay36, k0_pay21, k0_pay19, k0_pay18, k0_pay17, k0_pay16, k0_pay14, k0_pay13,
    k0_pay12, k0_pay10, k0_pay9, k0_pay8, k0_pay7, k0_pay4, k0_pay3]
  simp only [zero_sub]
  rfl

/-- The gradient of the states' imaginary parts. -/
theorem kern_li (v : Fin 1) (l : Fin 1024) : out0_13 x0 x1 x2 x3 x4 x5 x6 x7 x8 x9 x10 x11 (ix2 v l)
    = dLi (x0 (ix2 0 l)) (x1 (ix2 0 l)) (x2 (ix2 0 l))
        (gI (fun r => blk x8 r l) (fun r => blk x9 r l) (fun r => x3 (ix2 r l)) (fun r => x4 (ix2 r l)))
        (gR (fun r => blk x8 r l) (fun r => blk x9 r l) (fun r => x3 (ix2 r l)) (fun r => x4 (ix2 r l))) (x6 (ix2 0 l)) (x7 (ix2 0 l)) := by
  obtain rfl : v = 0 := Subsingleton.elim _ _
  have hS := kern_S x0 x1 x2 x3 x4 x5 x6 x7 x8 x9 x10 x11 h5
  have hT := kern_T x0 x1 x2 x3 x4 x5 x6 x7 x8 x9 x10 x11 h5
  have hU := kern_U x0 x1 x2 x3 x4 x5 x6 x7 x8 x9 x10 x11 h5
  unfold out0_13 k0_pay50 k0_pay51 k0_pay54 k0_pay55 k0_pay57 k0_pay59 k0_pay60 k0_pay61 k0_pay62 k0_pay64
  rw [View.canon_unit_zero (by decide)]
  simp only [ld1]
  pointwise [hS, hT, hU, k0_pay44, k0_pay43, k0_pay42, k0_pay41, k0_pay40, k0_pay39, k0_pay38, k0_pay37, k0_pay36, k0_pay22, k0_pay21, k0_pay19, k0_pay18, k0_pay17, k0_pay16,
    k0_pay15, k0_pay14, k0_pay13, k0_pay12, k0_pay11, k0_pay10, k0_pay9, k0_pay8, k0_pay7, k0_pay4, k0_pay3]
  simp only [zero_sub]
  rfl

/-- The gradient of the steps' logarithms. -/
theorem kern_lt (v : Fin 1) (l : Fin 1024) : out0_14 x0 x1 x2 x3 x4 x5 x6 x7 x8 x9 x10 x11 (ix2 v l)
    = dLt (x0 (ix2 0 l)) (x1 (ix2 0 l)) (x2 (ix2 0 l))
        (gI (fun r => blk x8 r l) (fun r => blk x9 r l) (fun r => x3 (ix2 r l)) (fun r => x4 (ix2 r l)))
        (gR (fun r => blk x8 r l) (fun r => blk x9 r l) (fun r => x3 (ix2 r l)) (fun r => x4 (ix2 r l))) (x6 (ix2 0 l)) (x7 (ix2 0 l)) := by
  obtain rfl : v = 0 := Subsingleton.elim _ _
  have hS := kern_S x0 x1 x2 x3 x4 x5 x6 x7 x8 x9 x10 x11 h5
  have hT := kern_T x0 x1 x2 x3 x4 x5 x6 x7 x8 x9 x10 x11 h5
  unfold out0_14 k0_pay50 k0_pay51 k0_pay54 k0_pay55 k0_pay56 k0_pay57 k0_pay58 k0_pay59 k0_pay61
  rw [View.canon_unit_zero (by decide)]
  simp only [ld1]
  pointwise [hS, hT, k0_pay47, k0_pay45, k0_pay43, k0_pay42, k0_pay41, k0_pay40, k0_pay39, k0_pay37, k0_pay36, k0_pay17, k0_pay15, k0_pay14, k0_pay13,
    k0_pay11, k0_pay10, k0_pay9, k0_pay8, k0_pay7, k0_pay4, k0_pay3]
  simp only [zero_sub]
  rfl

/-- The gradient of the input map's real entries. -/
theorem kern_br (r : Fin 16) (l : Fin 1024) : out0_15 x0 x1 x2 x3 x4 x5 x6 x7 x8 x9 x10 x11 (ix2 r l)
    = dBr (x0 (ix2 0 l)) (x1 (ix2 0 l)) (x2 (ix2 0 l)) (blk x8 r l) (blk x9 r l) := by
  have hp := kern_p x0 x1 x2 x3 x4 x5 x6 x7 x8 x9 x10 x11 h5
  have hq := kern_q x0 x1 x2 x3 x4 x5 x6 x7 x8 x9 x10 x11 h5
  unfold out0_15 k0_pay63 k0_pay65
  rw [View.canon_unit_zero (by decide)]
  simp only [ld1]
  pointwise [hp, hq, k0_pay33, k0_pay24, k0_pay23, k0_pay22, k0_pay20, k0_pay19, k0_pay18, k0_pay17, k0_pay16, k0_pay14, k0_pay13, k0_pay12, k0_pay10, k0_pay9, k0_pay8, k0_pay7,
    k0_pay4, k0_pay3]
  rfl

/-- The gradient of the input map's imaginary entries. -/
theorem kern_bi (r : Fin 16) (l : Fin 1024) : out0_16 x0 x1 x2 x3 x4 x5 x6 x7 x8 x9 x10 x11 (ix2 r l)
    = dBi (x0 (ix2 0 l)) (x1 (ix2 0 l)) (x2 (ix2 0 l)) (blk x8 r l) (blk x9 r l) := by
  have hp := kern_p x0 x1 x2 x3 x4 x5 x6 x7 x8 x9 x10 x11 h5
  have hq := kern_q x0 x1 x2 x3 x4 x5 x6 x7 x8 x9 x10 x11 h5
  unfold out0_16 k0_pay63 k0_pay65
  rw [View.canon_unit_zero (by decide)]
  simp only [ld1]
  pointwise [hp, hq, k0_pay31, k0_pay30, k0_pay24, k0_pay23, k0_pay22, k0_pay20, k0_pay19, k0_pay18, k0_pay17, k0_pay16, k0_pay14, k0_pay13, k0_pay12, k0_pay10, k0_pay9, k0_pay8,
    k0_pay7, k0_pay4, k0_pay3]
  simp only [zero_sub]
  rfl

/-- The gradient of the output map's real entries. -/
theorem kern_cr (r : Fin 16) (l : Fin 1024) : out0_17 x0 x1 x2 x3 x4 x5 x6 x7 x8 x9 x10 x11 (ix2 r l) = blk x10 r l := by
  unfold out0_17 k0_pay49
  rw [View.canon_unit_zero (by decide), ld0, ld0, pay2, kern_rows48]
  exact rows_eq h5 _ r l

/-- The gradient of the output map's imaginary entries. -/
theorem kern_ci (r : Fin 16) (l : Fin 1024) : out0_18 x0 x1 x2 x3 x4 x5 x6 x7 x8 x9 x10 x11 (ix2 r l) = blk x11 r l := by
  unfold out0_18 k0_pay49
  rw [View.canon_unit_zero (by decide), ld0, ld0, pay2, kern_rows1]
  exact rows_eq h5 _ r l

end Cert.SsmPrepVal

end
-- ==== Proof.SsmPrep.Ref.lean ====
/- What the reference computes, read at an index. -/
module

public import proofs.«01_k».proof.Proof.SsmPrep.Math
public import proofs.«01_k».proof.Proof.Gen.SsmPrepRefIdeal.Read

@[expose] public section

set_option maxRecDepth 16384

noncomputable section

namespace Cert.SsmPrepVal

open Idealize.ShloMosaic Idealize.ShloMosaic.Pointwise Cert.Base Idealize.ShloMosaic.StableHlo
open Cert.SsmPrepRefIdeal Cert.SsmPrepRefIdeal.Gen Cert.SsmPrepRefIdeal.Read

/-- Two words are compared equal exactly if they are. -/
theorem cmpi_eq (x y : BitVec 32) : IntOp.cmpi .eq x y = 1#1 ↔ x = y := by
  show BitVec.ofBool (x == y) = 1#1 ↔ x = y
  by_cases hq : x = y
  · simp [hq]
  · rw [beq_false_of_ne hq]
    exact ⟨fun h => absurd h (by decide), fun h => absurd h hq⟩

/-- The table of the diagonal blocks passes its threshold where two group numbers agree. -/
theorem eye (i : S16x1x16x1.Idx) : val_main_v58 (F := Ideal) i = 1#1 ↔ (i 0).val = (i 2).val := by
  have half : Ideal.ofBits FTy.f32 1056964608#32 = ((1 / 2 : ℝ) : EReal) := by
    simp [Ideal.ofBits, Ideal.ieee]
    norm_num [← EReal.coe_mul]
  have h54 : val_main_v54 (F := Ideal) (idx_main_v56 i) = 1#1 ↔ (i 0).val = (i 2).val := by
    have h0 : (i 0).val < 16 := (i 0).isLt
    have h2 : (i 2).val < 16 := (i 2).isLt
    rw [val_main_v54_apply, cmpi_eq, val_main_v53_apply, val_main_v50_apply, val_main_v51_apply, val_main_v52_apply, val_main_c_apply]
    show BitVec.ofNat 32 (i 0).val + 0#32 = BitVec.ofNat 32 (i 2).val ↔ _
    rw [BitVec.add_zero, ← BitVec.toNat_inj]
    simp only [BitVec.toNat_ofNat]
    omega
  rw [val_main_v58_apply, val_main_v56_apply, val_main_v57_apply, val_main_cst_3_apply, val_main_v55_apply, ← h54]
  generalize val_main_v54 (F := Ideal) (idx_main_v56 i) = t
  have hb : ∀ P : Prop, [Decidable P] → (BitVec.ofBool (decide P) = 1#1 ↔ P) := by
    intro P _
    by_cases h : P
    · simp [h]
    · simp [h]
  refine (hb (Ideal.ofBits FTy.f32 1056964608#32 < (((t.toNat : ℝ) : EReal)))).trans ?_
  rw [half, EReal.coe_lt_coe_iff]
  have ht : t = 0#1 ∨ t = 1#1 := by
    have := t.isLt
    rcases (by omega : t.toNat = 0 ∨ t.toNat = 1) with h | h
    · exact Or.inl (BitVec.eq_of_toNat_eq h)
    · exact Or.inr (BitVec.eq_of_toNat_eq h)
  rcases ht with rfl | rfl
  · norm_num
    decide
  · norm_num

/-- Entry `(16 g + r, 64 h + p)` of a matrix of blocks. -/
def cell (w : Vec Ideal S256x1024 .f32) (g r h : Fin 16) (p : Fin 64) : EReal := w (ix2 ⟨16 * g.val + r.val, by omega⟩ ⟨64 * h.val + p.val, by omega⟩)

/-- The sum over the groups of a row of blocks leaves the diagonal's. -/
theorem ref_block (w : Vec Ideal S256x1024 .f32) (g r : Fin 16) (p : Fin 64) : val_main_call7_v2 (F := Ideal) w (ix3 g r p) = cell w g r g p := by
  rw [val_main_call7_v2_apply]
  simp only [val_main_call7_v1_apply]
  rw [Finset.sum_eq_single g]
  · have h1 : val_main_v61_1 (F := Ideal) (idx_main_call7_v2 (ix3 g r p) g) = 1#1 := by
      rw [val_main_v61_1_apply]
      exact (eye _).2 rfl
    rw [h1, val_main_v118_apply]
    show Ideal.ofBits FTy.f32 0#32 + (if (1#1 : BitVec 1) = 1 then w _ else _) = _
    refine (congrArg (fun t => Ideal.ofBits FTy.f32 0#32 + t) (if_pos rfl)).trans ?_
    show Ideal.ofBits FTy.f32 0#32 + w _ = _
    rw [show Ideal.ofBits FTy.f32 0#32 = 0 by simp [Ideal.ofBits, Ideal.ieee], zero_add]
    refine congrArg w (funext fun d => Fin.ext ?_)
    have := g.isLt
    have := r.isLt
    have := p.isLt
    match d with
    | ⟨0, _⟩ => show (((g.val * 16 + r.val) * 16 + g.val) * 64 + p.val) / 1024 = 16 * g.val + r.val; omega
    | ⟨1, _⟩ => show (((g.val * 16 + r.val) * 16 + g.val) * 64 + p.val) % 1024 = 64 * g.val + p.val; omega
  · intro h _ hne
    have h1 : val_main_v61_1 (F := Ideal) (idx_main_call7_v2 (ix3 g r p) h) ≠ 1#1 := by
      rw [val_main_v61_1_apply]
      exact fun e => hne (Fin.ext ((eye _).1 e).symm)
    show (if _ = (1 : BitVec 1) then _ else _) = _
    refine (if_neg h1).trans ?_
    show Ideal.ofBits FTy.f32 0#32 = 0
    simp [Ideal.ofBits, Ideal.ieee]
  · intro h
    exact absurd (Finset.mem_univ _) h

/-- Likewise after the sum over an axis of one. -/
theorem ref_sum (w : Vec Ideal S256x1024 .f32) (g r : Fin 16) (p : Fin 64) : val_main_v120 (F := Ideal) w (ix3 g r p) = cell w g r g p := by
  rw [val_main_v120_apply]
  simp only [Fin.sum_univ_one, val_main_v119_apply]
  show Ideal.ofBits FTy.f32 0#32 + _ = _
  rw [show Ideal.ofBits FTy.f32 0#32 = 0 by simp [Ideal.ofBits, Ideal.ieee], zero_add, ← ref_block w g r p]
  refine congrArg _ (funext fun d => ?_)
  match d with
  | ⟨0, _⟩ => rfl
  | ⟨1, _⟩ => rfl
  | ⟨2, _⟩ => rfl

theorem ref_p (w : Vec Ideal S256x1024 .f32) (g : Fin 16) (k : Fin 64) (r : Fin 16) : val_main_v121 (F := Ideal) w (ix3 g k r) = cell w g r g k := by
  pointwise [val_main_v121]
  exact ref_sum w g r k

theorem ref_q (w : Vec Ideal S256x1024 .f32) (g : Fin 16) (k : Fin 64) (r : Fin 16) : val_main_v117 (F := Ideal) w (ix3 g k r) = cell w g r g k := by
  pointwise [val_main_v117]
  exact ref_sum w g r k

/-- The lane of a group's place. -/
def lane (g : Fin 16) (k : Fin 64) : Fin 1024 := ⟨g.val * 64 + k.val, by omega⟩
/-- A lane's group. -/
def grp (l : Fin 1024) : Fin 16 := ⟨l.val / 64, by omega⟩
/-- A lane's place in its group. -/
def pos (l : Fin 1024) : Fin 64 := ⟨l.val % 64, by omega⟩
theorem grp_lane (g : Fin 16) (k : Fin 64) : grp (lane g k) = g := Fin.ext (by show (g.val * 64 + k.val) / 64 = g.val; omega)
theorem pos_lane (g : Fin 16) (k : Fin 64) : pos (lane g k) = k := Fin.ext (by show (g.val * 64 + k.val) % 64 = k.val; omega)
theorem lane_surj (l : Fin 1024) : ∃ g k, l = lane g k := ⟨grp l, pos l, Fin.ext (by show l.val = l.val / 64 * 64 + l.val % 64; omega)⟩

variable (a b : Vec Ideal S16x64 .f32) (s : Vec Ideal S16 .f32) (x y : Vec Ideal S16x64x16 .f32) (u w : Vec Ideal S1x1024 .f32) (p q : Vec Ideal S256x1024 .f32)

/-- The gradient of the input factor's imaginary part, of one state. -/
def sI (g : Fin 16) (k : Fin 64) : EReal := gI (fun r => cell p g r g k) (fun r => cell q g r g k) (fun r => x (ix3 g k r)) (fun r => y (ix3 g k r))
/-- The gradient of the input factor's real part, of one state. -/
def sR (g : Fin 16) (k : Fin 64) : EReal := gR (fun r => cell p g r g k) (fun r => cell q g r g k) (fun r => x (ix3 g k r)) (fun r => y (ix3 g k r))

theorem ref_S (g : Fin 16) (k : Fin 64) : val_main_v144 (F := Ideal) x y p q (ix2 g k) = sI x y p q g k := by
  have hp := ref_p p
  have hq := ref_q q
  pointwise [val_main_v144, val_main_v129, val_main_v128, val_main_v127, val_main_v126, val_main_v143, val_main_v142, val_main_v141, val_main_v140, val_main_v136,
    val_main_cst_18, val_main_cst_19, val_main_cst_22, val_main_cst_23, hp, hq]
  simp only [Fin.sum_univ_one]
  rfl

theorem ref_T (g : Fin 16) (k : Fin 64) : val_main_v152 (F := Ideal) x y p q (ix2 g k) = sR x y p q g k := by
  have hp := ref_p p
  have hq := ref_q q
  pointwise [val_main_v152, val_main_v135, val_main_v134, val_main_v133, val_main_v132, val_main_v151, val_main_v150, val_main_v149, val_main_v148,
    val_main_cst_20, val_main_cst_21, val_main_cst_24, val_main_cst_25, hp, hq]
  simp only [Fin.sum_univ_one]
  rfl

theorem ref_u (g : Fin 16) (k : Fin 64) : val_main_v123 (F := Ideal) u (ix2 g k) = u (ix2 0 (lane g k)) := by
  pointwise [val_main_v123]
  rfl

theorem ref_w (g : Fin 16) (k : Fin 64) : val_main_v122 (F := Ideal) w (ix2 g k) = w (ix2 0 (lane g k)) := ref_u w g k

/-- The gradient of the states' real parts. -/
theorem ref_lr (v : Fin 1) (l : Fin 1024) : val_main_v206 (F := Ideal) a b s x y u w p q (ix2 v l)
    = dLr (a (ix2 (grp l) (pos l))) (b (ix2 (grp l) (pos l))) (s (ix1 (grp l))) (sI x y p q (grp l) (pos l)) (sR x y p q (grp l) (pos l)) (u (ix2 0 l)) (w (ix2 0 l)) := by
  obtain rfl : v = 0 := Subsingleton.elim _ _
  obtain ⟨g, k, rfl⟩ := lane_surj l
  have hS := ref_S x y p q
  have hT := ref_T x y p q
  have hc : val_main_v204 (F := Ideal) a b s x y u w p q (ix2 g k) = dLr (a (ix2 g k)) (b (ix2 g k)) (s (ix1 g)) (sI x y p q g k) (sR x y p q g k) (u (ix2 0 (lane g k))) (w (ix2 0 (lane g k))) := by
    have hu := ref_u u
    have hw := ref_w w
    pointwise [val_main_v204, val_main_v203, val_main_v2, val_main_v1, val_main_v0, val_main_v200, val_main_v4, val_main_v3, val_main_v193, val_main_v192,
    val_main_v6, val_main_v5, val_main_v176, val_main_v175, val_main_v168, val_main_v15, val_main_v14, val_main_v13, val_main_v160,
    val_main_v159, val_main_v157, val_main_v156, val_main_v186, val_main_v10, val_main_v9, val_main_v172, val_main_v171, val_main_v163,
    val_main_v162, val_main_v184, val_main_v183, val_main_v167, val_main_v166, val_main_v165, val_main_v20, val_main_v19, val_main_v12,
    val_main_v18, val_main_v17, val_main_v16, val_main_cst, val_main_v8, val_main_v164, val_main_v24, val_main_v22, val_main_v23,
    val_main_cst_0, val_main_v155, val_main_v154, val_main_v29, val_main_v28, val_main_v27, val_main_v26, val_main_cst_1, val_main_v25,
    val_main_v153, val_main_v33, val_main_v31, val_main_v32, val_main_cst_2, val_main_v182, val_main_v181, val_main_v174, val_main_v173,
    val_main_v161, hS, hT, hu, hw]
    rfl
  pointwise [val_main_v206]
  show val_main_v204 (F := Ideal) a b s x y u w p q (ix2 (grp (lane g k)) (pos (lane g k))) = _
  rw [grp_lane, pos_lane]
  exact hc

/-- The gradient of the states' imaginary parts. -/
theorem ref_li (v : Fin 1) (l : Fin 1024) : val_main_v207 (F := Ideal) a b s x y u w p q (ix2 v l)
    = dLi (a (ix2 (grp l) (pos l))) (b (ix2 (grp l) (pos l))) (s (ix1 (grp l))) (sI x y p q (grp l) (pos l)) (sR x y p q (grp l) (pos l)) (u (ix2 0 l)) (w (ix2 0 l)) := by
  obtain rfl : v = 0 := Subsingleton.elim _ _
  obtain ⟨g, k, rfl⟩ := lane_surj l
  have hS := ref_S x y p q
  have hT := ref_T x y p q
  have hc : val_main_v199 (F := Ideal) a b s x y u w p q (ix2 g k) = dLi (a (ix2 g k)) (b (ix2 g k)) (s (ix1 g)) (sI x y p q g k) (sR x y p q g k) (u (ix2 0 (lane g k))) (w (ix2 0 (lane g k))) := by
    have hu := ref_u u
    have hw := ref_w w
    pointwise [val_main_v199, val_main_v198, val_main_v2, val_main_v1, val_main_v0, val_main_v195, val_main_v7, val_main_v5, val_main_v194, val_main_v191,
    val_main_v176, val_main_v175, val_main_v168, val_main_v15, val_main_v14, val_main_v13, val_main_v160, val_main_v159, val_main_v157,
    val_main_v156, val_main_v4, val_main_v3, val_main_v190, val_main_v189, val_main_v187, val_main_v11, val_main_v9, val_main_v185,
    val_main_v172, val_main_v171, val_main_v163, val_main_v162, val_main_v180, val_main_v179, val_main_v167, val_main_v166, val_main_v165,
    val_main_v20, val_main_v19, val_main_v12, val_main_v10, val_main_v18, val_main_v17, val_main_v16, val_main_cst, val_main_v8,
    val_main_v6, val_main_v164, val_main_v24, val_main_v22, val_main_v23, val_main_cst_0, val_main_v155, val_main_v154, val_main_v29,
    val_main_v28, val_main_v27, val_main_v26, val_main_cst_1, val_main_v25, val_main_v153, val_main_v33, val_main_v31, val_main_v32,
    val_main_cst_2, val_main_v178, val_main_v177, val_main_v170, val_main_v169, val_main_v158, hS, hT, hu, hw]
    rfl
  pointwise [val_main_v207]
  show val_main_v199 (F := Ideal) a b s x y u w p q (ix2 (grp (lane g k)) (pos (lane g k))) = _
  rw [grp_lane, pos_lane]
  exact hc

/-- The gradient of the steps' logarithms. -/
theorem ref_lt (v : Fin 1) (l : Fin 1024) : val_main_v208 (F := Ideal) a b s x y u w p q (ix2 v l)
    = dLt (a (ix2 (grp l) (pos l))) (b (ix2 (grp l) (pos l))) (s (ix1 (grp l))) (sI x y p q (grp l) (pos l)) (sR x y p q (grp l) (pos l)) (u (ix2 0 l)) (w (ix2 0 l)) := by
  obtain rfl : v = 0 := Subsingleton.elim _ _
  obtain ⟨g, k, rfl⟩ := lane_surj l
  have hS := ref_S x y p q
  have hT := ref_T x y p q
  have hc : val_main_v205 (F := Ideal) a b s x y u w p q (ix2 g k) = dLt (a (ix2 g k)) (b (ix2 g k)) (s (ix1 g)) (sI x y p q g k) (sR x y p q g k) (u (ix2 0 (lane g k))) (w (ix2 0 (lane g k))) := by
    have hu := ref_u u
    have hw := ref_w w
    pointwise [val_main_v205, val_main_v2, val_main_v1, val_main_v0, val_main_v202, val_main_v201, val_main_v200, val_main_v4, val_main_v3, val_main_v193,
    val_main_v192, val_main_v6, val_main_v5, val_main_v176, val_main_v175, val_main_v168, val_main_v15, val_main_v14, val_main_v13,
    val_main_v160, val_main_v159, val_main_v157, val_main_v156, val_main_v186, val_main_v10, val_main_v9, val_main_v172, val_main_v171,
    val_main_v163, val_main_v162, val_main_v197, val_main_v196, val_main_v195, val_main_v7, val_main_v194, val_main_v191, val_main_v188,
    val_main_v187, val_main_v11, val_main_v185, hS, hT, hu, hw]
    rfl
  pointwise [val_main_v208]
  show val_main_v205 (F := Ideal) a b s x y u w p q (ix2 (grp (lane g k)) (pos (lane g k))) = _
  rw [grp_lane, pos_lane]
  exact hc

/-- The gradient of the input map's real entries. -/
theorem ref_br (r : Fin 16) (l : Fin 1024) : val_main_v210 (F := Ideal) a b s p q (ix2 r l)
    = dBr (a (ix2 (grp l) (pos l))) (b (ix2 (grp l) (pos l))) (s (ix1 (grp l))) (cell p (grp l) r (grp l) (pos l)) (cell q (grp l) r (grp l) (pos l)) := by
  have hp := ref_p p
  have hq := ref_q q
  pointwise [val_main_v210, val_main_v209]
  show val_main_v147 (F := Ideal) a b s p q (ix3 (grp l) (pos l) r) = _
  generalize grp l = g
  generalize pos l = k
  pointwise [val_main_v147, val_main_v146, val_main_v145, val_main_v34, val_main_v21, val_main_v15, val_main_v14, val_main_v13, val_main_v20,
    val_main_v19, val_main_v12, val_main_v10, val_main_v9, val_main_v2, val_main_v1, val_main_v0, val_main_v4, val_main_v3, val_main_v18,
    val_main_v17, val_main_v16, val_main_cst, val_main_v8, val_main_v6, val_main_v5, val_main_v125, val_main_v124, val_main_v44,
    val_main_v30, val_main_v29, val_main_v28, val_main_v27, val_main_v26, val_main_cst_1, val_main_v25, hp, hq]
  rfl

/-- The gradient of the input map's imaginary entries. -/
theorem ref_bi (r : Fin 16) (l : Fin 1024) : val_main_v212 (F := Ideal) a b s p q (ix2 r l)
    = dBi (a (ix2 (grp l) (pos l))) (b (ix2 (grp l) (pos l))) (s (ix1 (grp l))) (cell p (grp l) r (grp l) (pos l)) (cell q (grp l) r (grp l) (pos l)) := by
  have hp := ref_p p
  have hq := ref_q q
  pointwise [val_main_v212, val_main_v211]
  show val_main_v139 (F := Ideal) a b s p q (ix3 (grp l) (pos l) r) = _
  generalize grp l = g
  generalize pos l = k
  pointwise [val_main_v139, val_main_v138, val_main_v136, val_main_v137, val_main_v37, val_main_v30, val_main_v15, val_main_v14, val_main_v13,
    val_main_v29, val_main_v28, val_main_v27, val_main_v26, val_main_cst_1, val_main_v8, val_main_v6, val_main_v5, val_main_v2, val_main_v1,
    val_main_v0, val_main_v4, val_main_v3, val_main_v25, val_main_v12, val_main_v10, val_main_v9, val_main_v131, val_main_v130,
    val_main_v41, val_main_v21, val_main_v20, val_main_v19, val_main_v18, val_main_v17, val_main_v16, val_main_cst, hp, hq]
  rfl

/-- The gradient of the output map's real entries. -/
theorem ref_cr (c : Vec Ideal S256x1024 .f32) (r : Fin 16) (l : Fin 1024) : val_main_v214 (F := Ideal) c (ix2 r l) = cell c (grp l) r (grp l) (pos l) := by
  pointwise [val_main_v214, val_main_v213]
  show val_main_v113 (F := Ideal) c (ix3 (grp l) r (pos l)) = _
  generalize grp l = g
  generalize pos l = k
  pointwise [val_main_v113, val_main_v112]
  exact ref_sum c g r k

/-- The gradient of the output map's imaginary entries. -/
theorem ref_ci (c : Vec Ideal S256x1024 .f32) (r : Fin 16) (l : Fin 1024) : val_main_v216 (F := Ideal) c (ix2 r l) = cell c (grp l) r (grp l) (pos l) := by
  pointwise [val_main_v216, val_main_v215]
  show val_main_v108 (F := Ideal) c (ix3 (grp l) r (pos l)) = _
  generalize grp l = g
  generalize pos l = k
  pointwise [val_main_v108, val_main_v107]
  exact ref_sum c g r k

end Cert.SsmPrepVal

end
-- ==== Proof.SsmPrep.Final.lean ====
/- The discretisation's gradient call against its reference: the arrays after the run are the reference's arrays. -/
module

public import proofs.«01_k».proof.Defs
public import proofs.«01_k».proof.Proof.Base
public import proofs.«01_k».proof.Proof.SsmPrep.Kern
public import proofs.«01_k».proof.Proof.SsmPrep.Ref
public import proofs.«01_k».proof.Proof.Gen.SsmPrepIdeal.Frame
public import Idealize.ShloMosaic.Lib.Pipeline.ValueKit
public import Idealize.ShloMosaic.Lib.StableHlo.ReadAt

@[expose] public section

set_option maxRecDepth 16384

noncomputable section

namespace Cert.SsmPrepVal

open Idealize.ShloMosaic Idealize.ShloMosaic.Pointwise Cert.Base Idealize.SL.Sem Cert.SsmPrepIdeal Cert.SsmPrepIdeal.Gen

/-- A lane's entry of its group's block. -/
theorem blk_cell (w : Vec Ideal S256x1024 .f32) (r : Fin 16) (l : Fin 1024) : blk w r l = cell w (grp l) r (grp l) (pos l) := by
  show w _ = w _
  refine congrArg w ?_
  congr 1
  exact Fin.ext (by show l.val = 64 * (l.val / 64) + l.val % 64; omega)

/-- A lane's place is the lane. -/
theorem lane_grp (l : Fin 1024) : lane (grp l) (pos l) = l := Fin.ext (by show l.val / 64 * 64 + l.val % 64 = l.val; omega)

/-- The word of one. -/
theorem one_word : Ideal.ofBits FTy.f32 1065353216#32 = 1 := by
  simp [Ideal.ofBits, Ideal.ieee]
  norm_num [← EReal.coe_mul]

section

variable (x0 x1 x2 : Vec Ideal S1x1024 .f32) (x3 x4 : Vec Ideal S16x1024 .f32) (x5 : Vec Ideal S256x1024 .f32) (x6 x7 : Vec Ideal S1x1024 .f32)
  (x8 x9 x10 x11 : Vec Ideal S256x1024 .f32) (a b : Vec Ideal S16x64 .f32) (s : Vec Ideal S16 .f32) (x y : Vec Ideal S16x64x16 .f32)

/-- The rows that the host lays out: the states and steps by lanes, the input map by rows, and the table of the blocks on the diagonal. -/
structure Laid : Prop where
  real : ∀ l, x0 (ix2 0 l) = a (ix2 (grp l) (pos l))
  imag : ∀ l, x1 (ix2 0 l) = b (ix2 (grp l) (pos l))
  step : ∀ l, x2 (ix2 0 l) = s (ix1 (grp l))
  inRe : ∀ r l, x3 (ix2 r l) = x (ix3 (grp l) (pos l) r)
  inIm : ∀ r l, x4 (ix2 r l) = y (ix3 (grp l) (pos l) r)
  mask : IsMask x5

variable {x0 x1 x2 x3 x4 x5 a b s x y} (h : Laid x0 x1 x2 x3 x4 x5 a b s x y)
include h

/-- The call's gradient of the states' real parts is the reference's. -/
theorem eq_lr : out0_12 x0 x1 x2 x3 x4 x5 x6 x7 x8 x9 x10 x11 = Cert.SsmPrepRefIdeal.Read.val_main_v206 (F := Ideal) a b s x y x6 x7 x8 x9 :=
  Cert.Base.ext2 fun v l => by
    rw [kern_lr (h5 := h.mask), ref_lr]
    simp only [h.real, h.imag, h.step, h.inRe, h.inIm, blk_cell]
    rfl

/-- Likewise of the imaginary parts. -/
theorem eq_li : out0_13 x0 x1 x2 x3 x4 x5 x6 x7 x8 x9 x10 x11 = Cert.SsmPrepRefIdeal.Read.val_main_v207 (F := Ideal) a b s x y x6 x7 x8 x9 :=
  Cert.Base.ext2 fun v l => by
    rw [kern_li (h5 := h.mask), ref_li]
    simp only [h.real, h.imag, h.step, h.inRe, h.inIm, blk_cell]
    rfl

/-- Likewise of the steps' logarithms. -/
theorem eq_lt : out0_14 x0 x1 x2 x3 x4 x5 x6 x7 x8 x9 x10 x11 = Cert.SsmPrepRefIdeal.Read.val_main_v208 (F := Ideal) a b s x y x6 x7 x8 x9 :=
  Cert.Base.ext2 fun v l => by
    rw [kern_lt (h5 := h.mask), ref_lt]
    simp only [h.real, h.imag, h.step, h.inRe, h.inIm, blk_cell]
    rfl

/-- Likewise of the input map's real entries. -/
theorem eq_br : out0_15 x0 x1 x2 x3 x4 x5 x6 x7 x8 x9 x10 x11 = Cert.SsmPrepRefIdeal.Read.val_main_v210 (F := Ideal) a b s x8 x9 :=
  Cert.Base.ext2 fun r l => by
    rw [kern_br (h5 := h.mask), ref_br]
    simp only [h.real, h.imag, h.step, blk_cell]

/-- Likewise of its imaginary entries. -/
theorem eq_bi : out0_16 x0 x1 x2 x3 x4 x5 x6 x7 x8 x9 x10 x11 = Cert.SsmPrepRefIdeal.Read.val_main_v212 (F := Ideal) a b s x8 x9 :=
  Cert.Base.ext2 fun r l => by
    rw [kern_bi (h5 := h.mask), ref_bi]
    simp only [h.real, h.imag, h.step, blk_cell]

/-- Likewise of the output map's real entries. -/
theorem eq_cr : out0_17 x0 x1 x2 x3 x4 x5 x6 x7 x8 x9 x10 x11 = Cert.SsmPrepRefIdeal.Read.val_main_v214 (F := Ideal) x10 :=
  Cert.Base.ext2 fun r l => by rw [kern_cr (h5 := h.mask), ref_cr, blk_cell]

/-- Likewise of its imaginary entries. -/
theorem eq_ci : out0_18 x0 x1 x2 x3 x4 x5 x6 x7 x8 x9 x10 x11 = Cert.SsmPrepRefIdeal.Read.val_main_v216 (F := Ideal) x11 :=
  Cert.Base.ext2 fun r l => by rw [kern_ci (h5 := h.mask), ref_ci, blk_cell]

end

variable (m : (ℓ : Loc nD τ sig) → Buf (Elt Ideal) ℓ) (c : Dev nD)

theorem blk6 (t : Fin cfg0.N) : iblk m c 6 t = m ((c.tc : Thread nD τ).loc main_arg7) := by
  have e : ∀ t : Fin cfg0.N, win0_6.index t = ![0, 0] := by decide +kernel
  funext x
  blk_simp [iblk]
  rw [V_main_arg7]
  refine congrArg _ ?_
  blk_ext [e]

theorem blk7 (t : Fin cfg0.N) : iblk m c 7 t = m ((c.tc : Thread nD τ).loc main_arg8) := by
  have e : ∀ t : Fin cfg0.N, win0_7.index t = ![0, 0] := by decide +kernel
  funext x
  blk_simp [iblk]
  rw [V_main_arg8]
  refine congrArg _ ?_
  blk_ext [e]

theorem blk8 (t : Fin cfg0.N) : iblk m c 8 t = m ((c.tc : Thread nD τ).loc main_arg9) := by
  have e : ∀ t : Fin cfg0.N, win0_8.index t = ![0, 0] := by decide +kernel
  funext x
  blk_simp [iblk]
  rw [V_main_arg9]
  refine congrArg _ ?_
  blk_ext [e]

theorem blk9 (t : Fin cfg0.N) : iblk m c 9 t = m ((c.tc : Thread nD τ).loc main_arg10) := by
  have e : ∀ t : Fin cfg0.N, win0_9.index t = ![0, 0] := by decide +kernel
  funext x
  blk_simp [iblk]
  rw [V_main_arg10]
  refine congrArg _ ?_
  blk_ext [e]

theorem blk10 (t : Fin cfg0.N) : iblk m c 10 t = m ((c.tc : Thread nD τ).loc main_arg11) := by
  have e : ∀ t : Fin cfg0.N, win0_10.index t = ![0, 0] := by decide +kernel
  funext x
  blk_simp [iblk]
  rw [V_main_arg11]
  refine congrArg _ ?_
  blk_ext [e]

theorem blk11 (t : Fin cfg0.N) : iblk m c 11 t = m ((c.tc : Thread nD τ).loc main_arg12) := by
  have e : ∀ t : Fin cfg0.N, win0_11.index t = ![0, 0] := by decide +kernel
  funext x
  blk_simp [iblk]
  rw [V_main_arg12]
  refine congrArg _ ?_
  blk_ext [e]

set_option maxHeartbeats 2000000 in
/-- The blocks that the call reads are the host's rows of the arguments. -/
theorem laid (t : Fin cfg0.N) : Laid (iblk m c 0 t) (iblk m c 1 t) (iblk m c 2 t) (iblk m c 3 t) (iblk m c 4 t) (iblk m c 5 t) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 : ∀ t : Fin cfg0.N, win0_0.index t = ![0, 0] := by decide +kernel
  have e1 : ∀ t : Fin cfg0.N, win0_1.index t = ![0, 0] := by decide +kernel
  have e2 : ∀ t : Fin cfg0.N, win0_2.index t = ![0, 0] := by decide +kernel
  have e3 : ∀ t : Fin cfg0.N, win0_3.index t = ![0, 0] := by decide +kernel
  have e4 : ∀ t : Fin cfg0.N, win0_4.index t = ![0, 0] := by decide +kernel
  have e5 : ∀ t : Fin cfg0.N, win0_5.index t = ![0, 0] := by decide +kernel
  refine ⟨fun l => ?_, fun l => ?_, fun l => ?_, fun r l => ?_, fun r l => ?_, fun i l => ?_⟩
  · blk_simp [iblk]
    have hy : (win0_0.blk t).view.emb (ix2 0 l) = ix2 0 l := by blk_ext [e0]
    rw [hy]
    unfold V
    after_reads_at
    rfl
  · blk_simp [iblk]
    have hy : (win0_1.blk t).view.emb (ix2 0 l) = ix2 0 l := by blk_ext [e1]
    rw [hy]
    unfold V
    after_reads_at
    rfl
  · blk_simp [iblk]
    have hy : (win0_2.blk t).view.emb (ix2 0 l) = ix2 0 l := by blk_ext [e2]
    rw [hy]
    unfold V
    after_reads_at
    rfl
  · blk_simp [iblk]
    have hy : (win0_3.blk t).view.emb (ix2 r l) = ix2 r l := by blk_ext [e3]
    rw [hy]
    unfold V
    after_reads_at
    rfl
  · blk_simp [iblk]
    have hy : (win0_4.blk t).view.emb (ix2 r l) = ix2 r l := by blk_ext [e4]
    rw [hy]
    unfold V
    after_reads_at
    rfl
  · blk_simp [iblk]
    have hy : (win0_5.blk t).view.emb (ix2 i l) = ix2 i l := by blk_ext [e5]
    rw [hy]
    unfold V
    after_reads_at
    show (if IntOp.cmpi .eq (BitVec.ofNat 32 (i.val / 16)) (BitVec.ofNat 32 (l.val / 64)) = 1#1 then Ideal.ofBits FTy.f32 1065353216#32 else Ideal.ofBits FTy.f32 0#32) = _
    rw [show Ideal.ofBits FTy.f32 0#32 = 0 by simp [Ideal.ofBits, Ideal.ieee], one_word]
    refine if_congr ?_ rfl rfl
    have hi := i.isLt
    have hl := l.isLt
    rw [cmpi_eq, ← BitVec.toNat_inj]
    simp only [BitVec.toNat_ofNat]
    omega

/-- Result array 0 after the run is the reference's. -/
theorem final_lr : (dats m 0 c).arrAt 12 cfg0.N = Cert.SsmPrepRefIdeal.Read.val_main_v206 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) := by
  have e : ∀ t : Fin cfg0.N, win0_12.index t = ![0, 0] := by decide +kernel
  refine (dats m 0 c).arrAt_eq_of_covers 12 _ (by decide +kernel) fun t hf y => ?_
  blk_simp
  have hy : (win0_12.blk t).view.emb y = y := by blk_ext [e]
  rw [after0_12, hy, eq_lr (h := laid m c t), blk6 m c t, blk7 m c t, blk8 m c t, blk9 m c t]

/-- Result array 1 after the run is the reference's. -/
theorem final_li : (dats m 0 c).arrAt 13 cfg0.N = Cert.SsmPrepRefIdeal.Read.val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) := by
  have e : ∀ t : Fin cfg0.N, win0_13.index t = ![0, 0] := by decide +kernel
  refine (dats m 0 c).arrAt_eq_of_covers 13 _ (by decide +kernel) fun t hf y => ?_
  blk_simp
  have hy : (win0_13.blk t).view.emb y = y := by blk_ext [e]
  rw [after0_13, hy, eq_li (h := laid m c t), blk6 m c t, blk7 m c t, blk8 m c t, blk9 m c t]

/-- Result array 2 after the run is the reference's. -/
theorem final_lt : (dats m 0 c).arrAt 14 cfg0.N = Cert.SsmPrepRefIdeal.Read.val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) := by
  have e : ∀ t : Fin cfg0.N, win0_14.index t = ![0, 0] := by decide +kernel
  refine (dats m 0 c).arrAt_eq_of_covers 14 _ (by decide +kernel) fun t hf y => ?_
  blk_simp
  have hy : (win0_14.blk t).view.emb y = y := by blk_ext [e]
  rw [after0_14, hy, eq_lt (h := laid m c t), blk6 m c t, blk7 m c t, blk8 m c t, blk9 m c t]

/-- Result array 3 after the run is the reference's. -/
theorem final_br : (dats m 0 c).arrAt 15 cfg0.N = Cert.SsmPrepRefIdeal.Read.val_main_v210 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) := by
  have e : ∀ t : Fin cfg0.N, win0_15.index t = ![0, 0] := by decide +kernel
  refine (dats m 0 c).arrAt_eq_of_covers 15 _ (by decide +kernel) fun t hf y => ?_
  blk_simp
  have hy : (win0_15.blk t).view.emb y = y := by blk_ext [e]
  rw [after0_15, hy, eq_br (h := laid m c t), blk8 m c t, blk9 m c t]

/-- Result array 4 after the run is the reference's. -/
theorem final_bi : (dats m 0 c).arrAt 16 cfg0.N = Cert.SsmPrepRefIdeal.Read.val_main_v212 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) := by
  have e : ∀ t : Fin cfg0.N, win0_16.index t = ![0, 0] := by decide +kernel
  refine (dats m 0 c).arrAt_eq_of_covers 16 _ (by decide +kernel) fun t hf y => ?_
  blk_simp
  have hy : (win0_16.blk t).view.emb y = y := by blk_ext [e]
  rw [after0_16, hy, eq_bi (h := laid m c t), blk8 m c t, blk9 m c t]

/-- Result array 5 after the run is the reference's. -/
theorem final_cr : (dats m 0 c).arrAt 17 cfg0.N = Cert.SsmPrepRefIdeal.Read.val_main_v214 (F := Ideal) (m ((c.tc : Thread nD τ).loc main_arg11)) := by
  have e : ∀ t : Fin cfg0.N, win0_17.index t = ![0, 0] := by decide +kernel
  refine (dats m 0 c).arrAt_eq_of_covers 17 _ (by decide +kernel) fun t hf y => ?_
  blk_simp
  have hy : (win0_17.blk t).view.emb y = y := by blk_ext [e]
  rw [after0_17, hy, eq_cr (h := laid m c t), blk10 m c t]

/-- Result array 6 after the run is the reference's. -/
theorem final_ci : (dats m 0 c).arrAt 18 cfg0.N = Cert.SsmPrepRefIdeal.Read.val_main_v216 (F := Ideal) (m ((c.tc : Thread nD τ).loc main_arg12)) := by
  have e : ∀ t : Fin cfg0.N, win0_18.index t = ![0, 0] := by decide +kernel
  refine (dats m 0 c).arrAt_eq_of_covers 18 _ (by decide +kernel) fun t hf y => ?_
  blk_simp
  have hy : (win0_18.blk t).view.emb y = y := by blk_ext [e]
  rw [after0_18, hy, eq_ci (h := laid m c t), blk11 m c t]

end Cert.SsmPrepVal

end
-- ==== Proof.SsmPrep.Claims.lean ====
/- The claims about the discretisation's gradient call and its reference. -/
module

public import proofs.«01_k».proof.Defs
public import proofs.«01_k».proof.Proof.SsmPrep.Final
public import proofs.«01_k».proof.Proof.Gen.SsmPrep.Frame
public import proofs.«01_k».proof.Proof.Gen.SsmPrepRefIdeal.Run
public import Idealize.ShloMosaic.Adequacy
public import Idealize.ShloMosaic.Init
public import Idealize.ShloMosaic.Lib.Claim

@[expose] public section

set_option maxRecDepth 16384

noncomputable section

namespace Cert.SsmPrepVal

open Idealize.ShloMosaic Idealize.ShloMosaic.TcCoe Idealize.SL.Sem Idealize.ShloMosaic.Pointwise Cert.Base

/-- The call's frame. -/
theorem frame_kernel : Cert.quiescent_SsmPrep := fun m ρ _ => Cert.SsmPrep.Gen.frame m ρ

/-- Its frame over the extended reals. -/
theorem frame_ideal : Cert.quiescent_SsmPrepIdeal := fun m ρ _ => Cert.SsmPrepIdeal.Gen.frame m ρ

/-- No operation is rewritten. -/
theorem preserves : Cert.preserves_SsmPrep_SsmPrepIdeal := trivial

/-- The reference leaves its arguments and, having no semaphore, every counter at zero. -/
theorem frame_ref : Cert.quiescent_SsmPrepRefIdeal := fun m ρ _ =>
  (θ_run Cert.SsmPrepRefIdeal.defs _ _).mono (fun r h => ⟨fun c => (h c).2.2.2.2.2.2.2, sem_eq_zero_of_no_sems (by decide) r.2⟩)
    (Cert.SsmPrepRefIdeal.Value.run (F := Ideal) m ρ)

section

open Cert.SsmPrepIdeal Cert.SsmPrepIdeal.Gen

/-- The arrays the call leaves, and its arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20_0) = (dats m 0 c).arrAt 12 cfg0.N
      ∧ r.2.mem ((c.tc : Thread nD τ).loc main_v20_1) = (dats m 0 c).arrAt 13 cfg0.N
      ∧ r.2.mem ((c.tc : Thread nD τ).loc main_v20_2) = (dats m 0 c).arrAt 14 cfg0.N
      ∧ r.2.mem ((c.tc : Thread nD τ).loc main_v20_3) = (dats m 0 c).arrAt 15 cfg0.N
      ∧ r.2.mem ((c.tc : Thread nD τ).loc main_v20_4) = (dats m 0 c).arrAt 16 cfg0.N
      ∧ r.2.mem ((c.tc : Thread nD τ).loc main_v20_5) = (dats m 0 c).arrAt 17 cfg0.N
      ∧ r.2.mem ((c.tc : Thread nD τ).loc main_v20_6) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ?_) (θ_run_and (run_main m ρ) (frame m ρ))
  obtain ⟨h1, h2⟩ := h
  have w := (h1 c).1
  exact ⟨w 12, w 13, w 14, w 15, w 16, w 17, w 18, h2.1 c⟩

end

set_option maxHeartbeats 2000000 in
/-- The call and the reference compute the same seven gradients over the extended reals. -/
theorem algebraic : Cert.algebraic_SsmPrepIdeal_SsmPrepRefIdeal := by
  intro m ρ m' ρ' hp hag
  refine ⟨fun c => (Cert.SsmPrepIdeal.Gen.dats m 0 c).arrAt 12 Cert.SsmPrepIdeal.cfg0.N, fun c => (Cert.SsmPrepIdeal.Gen.dats m 0 c).arrAt 13 Cert.SsmPrepIdeal.cfg0.N, fun c => (Cert.SsmPrepIdeal.Gen.dats m 0 c).arrAt 14 Cert.SsmPrepIdeal.cfg0.N, fun c => (Cert.SsmPrepIdeal.Gen.dats m 0 c).arrAt 15 Cert.SsmPrepIdeal.cfg0.N, fun c => (Cert.SsmPrepIdeal.Gen.dats m 0 c).arrAt 16 Cert.SsmPrepIdeal.cfg0.N, fun c => (Cert.SsmPrepIdeal.Gen.dats m 0 c).arrAt 17 Cert.SsmPrepIdeal.cfg0.N, fun c => (Cert.SsmPrepIdeal.Gen.dats m 0 c).arrAt 18 Cert.SsmPrepIdeal.cfg0.N, run_kernel m ρ,
    (θ_run Cert.SsmPrepRefIdeal.defs _ _).mono (fun r h c => ?_) (Cert.SsmPrepRefIdeal.Value.run (F := Ideal) m' ρ')⟩
  obtain ⟨h0, h1, h2, h3, h4, h5, h6, hk⟩ := h c
  obtain ⟨e0, e1, e2, e3, e4, _, _, e7, e8, e9, e10, e11, e12⟩ := hag c
  refine ⟨h0.trans ?_, h1.trans ?_, h2.trans ?_, h3.trans ?_, h4.trans ?_, h5.trans ?_, h6.trans ?_, hk⟩
  · refine (Cert.SsmPrepRefIdeal.Read.val_main_v206_eq _).trans ?_
    show Cert.SsmPrepRefIdeal.Read.val_main_v206 (F := Ideal) (m' (c, Proc.tc.devRef Cert.SsmPrepRefIdeal.main_arg0)) (m' (c, Proc.tc.devRef Cert.SsmPrepRefIdeal.main_arg1)) (m' (c, Proc.tc.devRef Cert.SsmPrepRefIdeal.main_arg2)) (m' (c, Proc.tc.devRef Cert.SsmPrepRefIdeal.main_arg3)) (m' (c, Proc.tc.devRef Cert.SsmPrepRefIdeal.main_arg4)) (m' (c, Proc.tc.devRef Cert.SsmPrepRefIdeal.main_arg7)) (m' (c, Proc.tc.devRef Cert.SsmPrepRefIdeal.main_arg8)) (m' (c, Proc.tc.devRef Cert.SsmPrepRefIdeal.main_arg9)) (m' (c, Proc.tc.devRef Cert.SsmPrepRefIdeal.main_arg10)) = _
    rw [e0, e1, e2, e3, e4, e7, e8, e9, e10]
    exact (final_lr m c).symm
  · refine (Cert.SsmPrepRefIdeal.Read.val_main_v207_eq _).trans ?_
    show Cert.SsmPrepRefIdeal.Read.val_main_v207 (F := Ideal) (m' (c, Proc.tc.devRef Cert.SsmPrepRefIdeal.main_arg0)) (m' (c, Proc.tc.devRef Cert.SsmPrepRefIdeal.main_arg1)) (m' (c, Proc.tc.devRef Cert.SsmPrepRefIdeal.main_arg2)) (m' (c, Proc.tc.devRef Cert.SsmPrepRefIdeal.main_arg3)) (m' (c, Proc.tc.devRef Cert.SsmPrepRefIdeal.main_arg4)) (m' (c, Proc.tc.devRef Cert.SsmPrepRefIdeal.main_arg7)) (m' (c, Proc.tc.devRef Cert.SsmPrepRefIdeal.main_arg8)) (m' (c, Proc.tc.devRef Cert.SsmPrepRefIdeal.main_arg9)) (m' (c, Proc.tc.devRef Cert.SsmPrepRefIdeal.main_arg10)) = _
    rw [e0, e1, e2, e3, e4, e7, e8, e9, e10]
    exact (final_li m c).symm
  · refine (Cert.SsmPrepRefIdeal.Read.val_main_v208_eq _).trans ?_
    show Cert.SsmPrepRefIdeal.Read.val_main_v208 (F := Ideal) (m' (c, Proc.tc.devRef Cert.SsmPrepRefIdeal.main_arg0)) (m' (c, Proc.tc.devRef Cert.SsmPrepRefIdeal.main_arg1)) (m' (c, Proc.tc.devRef Cert.SsmPrepRefIdeal.main_arg2)) (m' (c, Proc.tc.devRef Cert.SsmPrepRefIdeal.main_arg3)) (m' (c, Proc.tc.devRef Cert.SsmPrepRefIdeal.main_arg4)) (m' (c, Proc.tc.devRef Cert.SsmPrepRefIdeal.main_arg7)) (m' (c, Proc.tc.devRef Cert.SsmPrepRefIdeal.main_arg8)) (m' (c, Proc.tc.devRef Cert.SsmPrepRefIdeal.main_arg9)) (m' (c, Proc.tc.devRef Cert.SsmPrepRefIdeal.main_arg10)) = _
    rw [e0, e1, e2, e3, e4, e7, e8, e9, e10]
    exact (final_lt m c).symm
  · refine (Cert.SsmPrepRefIdeal.Read.val_main_v210_eq _).trans ?_
    show Cert.SsmPrepRefIdeal.Read.val_main_v210 (F := Ideal) (m' (c, Proc.tc.devRef Cert.SsmPrepRefIdeal.main_arg0)) (m' (c, Proc.tc.devRef Cert.SsmPrepRefIdeal.main_arg1)) (m' (c, Proc.tc.devRef Cert.SsmPrepRefIdeal.main_arg2)) (m' (c, Proc.tc.devRef Cert.SsmPrepRefIdeal.main_arg9)) (m' (c, Proc.tc.devRef Cert.SsmPrepRefIdeal.main_arg10)) = _
    rw [e0, e1, e2, e9, e10]
    exact (final_br m c).symm
  · refine (Cert.SsmPrepRefIdeal.Read.val_main_v212_eq _).trans ?_
    show Cert.SsmPrepRefIdeal.Read.val_main_v212 (F := Ideal) (m' (c, Proc.tc.devRef Cert.SsmPrepRefIdeal.main_arg0)) (m' (c, Proc.tc.devRef Cert.SsmPrepRefIdeal.main_arg1)) (m' (c, Proc.tc.devRef Cert.SsmPrepRefIdeal.main_arg2)) (m' (c, Proc.tc.devRef Cert.SsmPrepRefIdeal.main_arg9)) (m' (c, Proc.tc.devRef Cert.SsmPrepRefIdeal.main_arg10)) = _
    rw [e0, e1, e2, e9, e10]
    exact (final_bi m c).symm
  · refine (Cert.SsmPrepRefIdeal.Read.val_main_v214_eq _).trans ?_
    show Cert.SsmPrepRefIdeal.Read.val_main_v214 (F := Ideal) (m' (c, Proc.tc.devRef Cert.SsmPrepRefIdeal.main_arg11)) = _
    rw [e11]
    exact (final_cr m c).symm
  · refine (Cert.SsmPrepRefIdeal.Read.val_main_v216_eq _).trans ?_
    show Cert.SsmPrepRefIdeal.Read.val_main_v216 (F := Ideal) (m' (c, Proc.tc.devRef Cert.SsmPrepRefIdeal.main_arg12)) = _
    rw [e12]
    exact (final_ci m c).symm

end Cert.SsmPrepVal

end
-- ==== Proof.MixOut.Terms.lean ====
/- The values that the body of the output product's gradient call computes at a tile, named by the program's own numbers. -/
module

public import proofs.«01_k».proof.Proof.Gen.MixOutIdeal.Frame.Runs

@[expose] public section

set_option maxRecDepth 16384

noncomputable section

namespace Cert.MixOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixOutIdeal.Gen

variable {F : FTy → Type} [FloatOps F]
variable (x0 : Vec F S512x1024 .f32)
variable (x1 : Vec F S512x512 .f32)
variable (x2 : Vec F S512x256 .f32)
variable (x3 : Vec F S512x256 .f32)
variable (x4 : Vec F S1x256 .f32)
variable (x5 : Vec F S1x256 .f32)
variable (x6 : Vec F S1x256 .f32)
variable (x7 : Vec F S256x256 .f32)
variable (x8 : Vec F S512x256 .f32)
variable (x9 : Vec F S1x512 .f32)
variable (x10 : Vec F S1x256 .f32)
variable (x11 : Vec F S1x256 .f32)
variable (x12 : Vec F S1024x1024 .f32)

def v6 : FVec F S1x256 .f32 := k0_pay2 x5
def v16 : FVec F S512x256 .f32 := k0_pay3 x2 x4
def v24 : FVec F S512x1 .f32 := k0_pay5 x2 x4
def v27 : FVec F S512x1 .f32 := k0_pay6 x2 x4
def v29 : FVec F S512x256 .f32 := k0_pay7 x2 x4
def v33 : FVec F S512x256 .f32 := k0_pay8 x2 x4 x5 x6
def v36 : FVec F S512x256 .f32 := k0_pay9 x2 x4 x5 x6
def v38 : FVec F S512x256 .f32 := k0_pay10 x2 x4 x5 x6
def v40 : FVec F S512x256 .f32 := k0_pay11 (v38 x2 x4 x5 x6)
def v43 : FVec F S512x256 .f32 := k0_pay12 (v38 x2 x4 x5 x6)
def v44 : FVec F S512x256 .f32 := k0_pay13 (v33 x2 x4 x5 x6) (v38 x2 x4 x5 x6)
def v48 : FVec F S512x256 .f32 := k0_pay14 (v33 x2 x4 x5 x6) (v38 x2 x4 x5 x6) x7
def v55 : FVec F S512x256 .f32 := k0_pay16 x3 x8
def v56 : FVec F S512x256 .f32 := k0_pay17 x3 x8
def v58 : FVec F S1x512 .f32 := k0_pay18 x9
def v60 : FVec F S1x256 .f32 := k0_pay19 x10
def v62 : FVec F S1x256 .f32 := k0_pay20 x11
def v70 : FVec F S512x1 .f32 := k0_pay22 x1
def v73 : FVec F S512x1 .f32 := k0_pay23 x1
def v75 : FVec F S512x512 .f32 := k0_pay24 x1
def v77 : FVec F S512x512 .f32 := k0_pay25 x1 x9
def v78 : FVec F S512x256 .f32 := k0_pay26 (v33 x2 x4 x5 x6) (v38 x2 x4 x5 x6) x7
def v85 : FVec F S512x1 .f32 := k0_pay28 (v78 x2 x4 x5 x6 x7)
def v88 : FVec F S512x1 .f32 := k0_pay29 (v78 x2 x4 x5 x6 x7)
def v90 : FVec F S512x256 .f32 := k0_pay30 (v48 x2 x4 x5 x6 x7) (v78 x2 x4 x5 x6 x7)
def v95 : FVec F S512x256 .f32 := k0_pay31 (v56 x3 x8)
def v99 : FVec F S512x256 .f32 := k0_pay33 (v56 x3 x8)
def v102 : FVec F S512x256 .f32 := k0_pay34 (v56 x3 x8)
def v103 : FVec F S512x256 .f32 := k0_pay35 (v55 x3 x8) (v56 x3 x8)
def v111 : FVec F S512x1 .f32 := k0_pay37 (v55 x3 x8) (v56 x3 x8)
def v114 : FVec F S512x1 .f32 := k0_pay38 (v55 x3 x8) (v56 x3 x8)
def v116 : FVec F S512x256 .f32 := k0_pay39 (v55 x3 x8) (v56 x3 x8)
def v119 : FVec F S512x1024 .f32 := k0_pay40 (v48 x2 x4 x5 x6 x7) (v55 x3 x8) (v56 x3 x8) (v60 x10) (v62 x11) (v77 x1 x9) (v78 x2 x4 x5 x6 x7)
def v123 : FVec F S512x1024 .f32 := k0_pay41 x0 x12
def v124 : FVec F S512x512 .f32 := k0_pay42 (v123 x0 x12)
def v129 : FVec F S1x256 .f32 := k0_pay45 (v116 x3 x8) (v123 x0 x12)
def v148 : FVec F S512x256 .f32 := k0_pay47 (v62 x11) (v99 x3 x8) (v103 x3 x8) (v111 x3 x8) (v114 x3 x8) (v123 x0 x12)
def v156 : FVec F S512x256 .f32 := k0_pay48 (v55 x3 x8) (v62 x11) (v95 x3 x8) (v102 x3 x8) (v103 x3 x8) (v111 x3 x8) (v114 x3 x8) (v123 x0 x12)
def v159 : FVec F S1x256 .f32 := k0_pay49 (v90 x2 x4 x5 x6 x7) (v123 x0 x12)
def v166 : FVec F S512x256 .f32 := k0_pay51 (v60 x10) (v85 x2 x4 x5 x6 x7) (v123 x0 x12)
def v172 : FVec F S512x256 .f32 := k0_pay52 (v48 x2 x4 x5 x6 x7) (v60 x10) (v88 x2 x4 x5 x6 x7) (v123 x0 x12)
def v176 : FVec F S512x256 .f32 := k0_pay53 (v48 x2 x4 x5 x6 x7) (v166 x0 x2 x4 x5 x6 x7 x10 x12) (v172 x0 x2 x4 x5 x6 x7 x10 x12)
def v179 : FVec F S1x512 .f32 := k0_pay54 (v75 x1) (v124 x0 x12)
def v196 : FVec F S512x512 .f32 := k0_pay55 x1 (v58 x9) (v70 x1) (v73 x1) (v124 x0 x12)
def v197 : FVec F S512x512 .f32 := k0_pay56 (v148 x0 x3 x8 x11 x12) (v156 x0 x3 x8 x11 x12)
def v214 : FVec F S1x256 .f32 := k0_pay58 (v33 x2 x4 x5 x6) (v36 x2 x4 x5 x6) (v40 x2 x4 x5 x6) (v43 x2 x4 x5 x6) (v48 x2 x4 x5 x6 x7) (v166 x0 x2 x4 x5 x6 x7 x10 x12) (v172 x0 x2 x4 x5 x6 x7 x10 x12) x7
def v217 : FVec F S1x256 .f32 := k0_pay59 (v29 x2 x4) (v33 x2 x4 x5 x6) (v36 x2 x4 x5 x6) (v40 x2 x4 x5 x6) (v43 x2 x4 x5 x6) (v48 x2 x4 x5 x6 x7) (v166 x0 x2 x4 x5 x6 x7 x10 x12) (v172 x0 x2 x4 x5 x6 x7 x10 x12) x7
def v219 : FVec F S512x256 .f32 := k0_pay60 (v6 x5) (v33 x2 x4 x5 x6) (v36 x2 x4 x5 x6) (v40 x2 x4 x5 x6) (v43 x2 x4 x5 x6) (v48 x2 x4 x5 x6 x7) (v166 x0 x2 x4 x5 x6 x7 x10 x12) (v172 x0 x2 x4 x5 x6 x7 x10 x12) x7
def v220 : FVec F S512x256 .f32 := k0_pay61 (v6 x5) (v16 x2 x4) (v33 x2 x4 x5 x6) (v36 x2 x4 x5 x6) (v40 x2 x4 x5 x6) (v43 x2 x4 x5 x6) (v48 x2 x4 x5 x6 x7) (v166 x0 x2 x4 x5 x6 x7 x10 x12) (v172 x0 x2 x4 x5 x6 x7 x10 x12) x7
def v246 : FVec F S1x256 .f32 := k0_pay63 (v16 x2 x4) (v24 x2 x4) (v27 x2 x4) (v219 x0 x2 x4 x5 x6 x7 x10 x12) (v220 x0 x2 x4 x5 x6 x7 x10 x12)
def v257 : FVec F S1024x1024 .f32 := k0_pay65 x0 (v119 x1 x2 x3 x4 x5 x6 x7 x8 x9 x10 x11)

/-- What window 13 is given. -/
def o13 : Vec F S512x512 .f32 := (v196 x0 x1 x9 x12)
/-- What window 14 is given. -/
def o14 : Vec F S512x256 .f32 := (k0_pay62 (v16 x2 x4) (v24 x2 x4) (v27 x2 x4) (v219 x0 x2 x4 x5 x6 x7 x10 x12) (v220 x0 x2 x4 x5 x6 x7 x10 x12))
/-- What window 15 is given. -/
def o15 : Vec F S512x256 .f32 := (k0_pay64 (v197 x0 x3 x8 x11 x12) x8)
/-- What window 16 is given at the first tile. -/
def o16 : Vec F S1x256 .f32 := (v246 x0 x2 x4 x5 x6 x7 x10 x12)
/-- What window 16 is given at a later tile that found `v318` there. -/
def n16 (v318 : Vec F S1x256 .f32) : Vec F S1x256 .f32 := (k0_pay71 (v246 x0 x2 x4 x5 x6 x7 x10 x12) v318)
/-- What window 17 is given at the first tile. -/
def o17 : Vec F S1x256 .f32 := (v217 x0 x2 x4 x5 x6 x7 x10 x12)
/-- What window 17 is given at a later tile that found `v318` there. -/
def n17 (v318 : Vec F S1x256 .f32) : Vec F S1x256 .f32 := (k0_pay72 (v217 x0 x2 x4 x5 x6 x7 x10 x12) v318)
/-- What window 18 is given at the first tile. -/
def o18 : Vec F S1x256 .f32 := (v214 x0 x2 x4 x5 x6 x7 x10 x12)
/-- What window 18 is given at a later tile that found `v318` there. -/
def n18 (v318 : Vec F S1x256 .f32) : Vec F S1x256 .f32 := (k0_pay73 (v214 x0 x2 x4 x5 x6 x7 x10 x12) v318)
/-- What window 19 is given at the first tile. -/
def o19 : Vec F S256x256 .f32 := (k0_pay69 (v44 x2 x4 x5 x6) (v176 x0 x2 x4 x5 x6 x7 x10 x12))
/-- What window 19 is given at a later tile that found `v318` there. -/
def n19 (v318 : Vec F S256x256 .f32) : Vec F S256x256 .f32 := (k0_pay70 (v44 x2 x4 x5 x6) (v176 x0 x2 x4 x5 x6 x7 x10 x12) v318)
/-- What window 20 is given at the first tile. -/
def o20 : Vec F S512x256 .f32 := (k0_pay67 x3 (v197 x0 x3 x8 x11 x12))
/-- What window 20 is given at a later tile that found `v318` there. -/
def n20 (v318 : Vec F S512x256 .f32) : Vec F S512x256 .f32 := (k0_pay68 x3 (v197 x0 x3 x8 x11 x12) v318)
/-- What window 21 is given at the first tile. -/
def o21 : Vec F S1x512 .f32 := (v179 x0 x1 x12)
/-- What window 21 is given at a later tile that found `v318` there. -/
def n21 (v318 : Vec F S1x512 .f32) : Vec F S1x512 .f32 := (k0_pay74 (v179 x0 x1 x12) v318)
/-- What window 22 is given at the first tile. -/
def o22 : Vec F S1x256 .f32 := (v159 x0 x2 x4 x5 x6 x7 x12)
/-- What window 22 is given at a later tile that found `v318` there. -/
def n22 (v318 : Vec F S1x256 .f32) : Vec F S1x256 .f32 := (k0_pay75 (v159 x0 x2 x4 x5 x6 x7 x12) v318)
/-- What window 23 is given at the first tile. -/
def o23 : Vec F S1x256 .f32 := (v129 x0 x3 x8 x12)
/-- What window 23 is given at a later tile that found `v318` there. -/
def n23 (v318 : Vec F S1x256 .f32) : Vec F S1x256 .f32 := (k0_pay1 (v129 x0 x3 x8 x12) v318)
/-- What window 24 is given at the first tile. -/
def o24 : Vec F S1024x1024 .f32 := (v257 x0 x1 x2 x3 x4 x5 x6 x7 x8 x9 x10 x11)
/-- What window 24 is given at a later tile that found `v318` there. -/
def n24 (v318 : Vec F S1024x1024 .f32) : Vec F S1024x1024 .f32 := (k0_pay66 (v257 x0 x1 x2 x3 x4 x5 x6 x7 x8 x9 x10 x11) v318)

end Cert.MixOutIdeal.Run

end
-- ==== Proof.MixOut.Body.lean ====
/- The body's two runs: at the first tile it stores every sum, at a later one it adds to what is there. -/
module

public import proofs.«01_k».proof.Proof.MixOut.Terms
public import Idealize.ShloMosaic.Lib.VecWindow

@[expose] public section

set_option maxRecDepth 16384

noncomputable section

namespace Cert.MixOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixOutIdeal.Gen

variable {F : FTy → Type} [FloatOps F]

/-- A load of a whole buffer, all of it, reads the buffer. -/
theorem ld_unread {s : Shape} {e : EltTy} (M : Memref sig .tc .vmem s e) (h : M.IsWhole) (X : s.Idx → Elt F e) {off : Fin s.rank → ℕ}
    (inb : ∀ a, off a + s.size a ≤ s.size a) :
    View.readAt (Elt F) M.view (Rect.unit off s.size inb).toLoadRect (h.unread X) = X := (View.readAt_full _ _ inb).trans (h.read_unread X)

/-- The same with the sizes written out. -/
theorem ld_S1024x1024 {e : EltTy} (M : Memref sig .tc .vmem S1024x1024 e) (h : M.IsWhole) (X : S1024x1024.Idx → Elt F e) {off : Fin 2 → ℕ}
    (inb : ∀ a, off a + ![1024, 1024] a ≤ S1024x1024.size a) :
    View.readAt (Elt F) M.view (Rect.unit off ![1024, 1024] inb).toLoadRect (h.unread X) = X := ld_unread M h X inb

/-- The same with the sizes written out. -/
theorem ld_S1x256 {e : EltTy} (M : Memref sig .tc .vmem S1x256 e) (h : M.IsWhole) (X : S1x256.Idx → Elt F e) {off : Fin 2 → ℕ}
    (inb : ∀ a, off a + ![1, 256] a ≤ S1x256.size a) :
    View.readAt (Elt F) M.view (Rect.unit off ![1, 256] inb).toLoadRect (h.unread X) = X := ld_unread M h X inb

/-- The same with the sizes written out. -/
theorem ld_S1x512 {e : EltTy} (M : Memref sig .tc .vmem S1x512 e) (h : M.IsWhole) (X : S1x512.Idx → Elt F e) {off : Fin 2 → ℕ}
    (inb : ∀ a, off a + ![1, 512] a ≤ S1x512.size a) :
    View.readAt (Elt F) M.view (Rect.unit off ![1, 512] inb).toLoadRect (h.unread X) = X := ld_unread M h X inb

/-- The same with the sizes written out. -/
theorem ld_S256x256 {e : EltTy} (M : Memref sig .tc .vmem S256x256 e) (h : M.IsWhole) (X : S256x256.Idx → Elt F e) {off : Fin 2 → ℕ}
    (inb : ∀ a, off a + ![256, 256] a ≤ S256x256.size a) :
    View.readAt (Elt F) M.view (Rect.unit off ![256, 256] inb).toLoadRect (h.unread X) = X := ld_unread M h X inb

/-- The same with the sizes written out. -/
theorem ld_S512x1024 {e : EltTy} (M : Memref sig .tc .vmem S512x1024 e) (h : M.IsWhole) (X : S512x1024.Idx → Elt F e) {off : Fin 2 → ℕ}
    (inb : ∀ a, off a + ![512, 1024] a ≤ S512x1024.size a) :
    View.readAt (Elt F) M.view (Rect.unit off ![512, 1024] inb).toLoadRect (h.unread X) = X := ld_unread M h X inb

/-- The same with the sizes written out. -/
theorem ld_S512x256 {e : EltTy} (M : Memref sig .tc .vmem S512x256 e) (h : M.IsWhole) (X : S512x256.Idx → Elt F e) {off : Fin 2 → ℕ}
    (inb : ∀ a, off a + ![512, 256] a ≤ S512x256.size a) :
    View.readAt (Elt F) M.view (Rect.unit off ![512, 256] inb).toLoadRect (h.unread X) = X := ld_unread M h X inb

/-- The same with the sizes written out. -/
theorem ld_S512x512 {e : EltTy} (M : Memref sig .tc .vmem S512x512 e) (h : M.IsWhole) (X : S512x512.Idx → Elt F e) {off : Fin 2 → ℕ}
    (inb : ∀ a, off a + ![512, 512] a ≤ S512x512.size a) :
    View.readAt (Elt F) M.view (Rect.unit off ![512, 512] inb).toLoadRect (h.unread X) = X := ld_unread M h X inb

local notation "𝕄" => MT nD τ sig Unit (Elt F) ℕ (UR sig nD τ) ℕ

/-- The thirteen input buffers, each whole at its contents. -/
abbrev inputs (c : Dev nD) (arg1 : Memref sig .tc .vmem S512x1024 .f32) (arg2 : Memref sig .tc .vmem S512x512 .f32) (arg3 : Memref sig .tc .vmem S512x256 .f32) (arg4 : Memref sig .tc .vmem S512x256 .f32) (arg5 : Memref sig .tc .vmem S1x256 .f32) (arg6 : Memref sig .tc .vmem S1x256 .f32) (arg7 : Memref sig .tc .vmem S1x256 .f32) (arg8 : Memref sig .tc .vmem S256x256 .f32) (arg9 : Memref sig .tc .vmem S512x256 .f32) (arg10 : Memref sig .tc .vmem S1x512 .f32) (arg11 : Memref sig .tc .vmem S1x256 .f32) (arg12 : Memref sig .tc .vmem S1x256 .f32) (arg13 : Memref sig .tc .vmem S1024x1024 .f32) (x0 : Vec F S512x1024 .f32) (x1 : Vec F S512x512 .f32) (x2 : Vec F S512x256 .f32) (x3 : Vec F S512x256 .f32) (x4 : Vec F S1x256 .f32) (x5 : Vec F S1x256 .f32) (x6 : Vec F S1x256 .f32) (x7 : Vec F S256x256 .f32) (x8 : Vec F S512x256 .f32) (x9 : Vec F S1x512 .f32) (x10 : Vec F S1x256 .f32) (x11 : Vec F S1x256 .f32) (x12 : Vec F S1024x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12)

set_option maxHeartbeats 8000000 in
/-- The body at the first tile. -/
theorem runA (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1024x1024 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S512x256 .f32) (harg21 : arg21.IsWhole) (arg22 : Memref sig .tc .vmem S1x512 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1024x1024 .f32) (harg25 : arg25.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i) (hc16 : cond0_16 i) (hc17 : ¬cond0_17 i)
    (x0 : Vec F S512x1024 .f32) (x1 : Vec F S512x512 .f32) (x2 : Vec F S512x256 .f32) (x3 : Vec F S512x256 .f32) (x4 : Vec F S1x256 .f32) (x5 : Vec F S1x256 .f32) (x6 : Vec F S1x256 .f32) (x7 : Vec F S256x256 .f32) (x8 : Vec F S512x256 .f32) (x9 : Vec F S1x512 .f32) (x10 : Vec F S1x256 .f32) (x11 : Vec F S1x256 .f32) (x12 : Vec F S1024x1024 .f32)  (E : Set ℕ) (K : PUnit → sProp 𝕄) :
    iprop(inputs c arg1 arg2 arg3 arg4 arg5 arg6 arg7 arg8 arg9 arg10 arg11 arg12 arg13 x0 x1 x2 x3 x4 x5 x6 x7 x8 x9 x10 x11 x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(inputs c arg1 arg2 arg3 arg4 arg5 arg6 arg7 arg8 arg9 arg10 arg11 arg12 arg13 x0 x1 x2 x3 x4 x5 x6 x7 x8 x9 x10 x11 x12 ∗ owns (c : Thread nD τ) arg14 fullShare (o13 x0 x1 x9 x12) ∗ owns (c : Thread nD τ) arg15 fullShare (o14 x0 x2 x4 x5 x6 x7 x10 x12) ∗ owns (c : Thread nD τ) arg16 fullShare (o15 x0 x3 x8 x11 x12) ∗ owns (c : Thread nD τ) arg17 fullShare (o16 x0 x2 x4 x5 x6 x7 x10 x12) ∗ owns (c : Thread nD τ) arg18 fullShare (o17 x0 x2 x4 x5 x6 x7 x10 x12) ∗ owns (c : Thread nD τ) arg19 fullShare (o18 x0 x2 x4 x5 x6 x7 x10 x12) ∗ owns (c : Thread nD τ) arg20 fullShare (o19 x0 x2 x4 x5 x6 x7 x10 x12) ∗ owns (c : Thread nD τ) arg21 fullShare (o20 x0 x3 x8 x11 x12) ∗ owns (c : Thread nD τ) arg22 fullShare (o21 x0 x1 x12) ∗ owns (c : Thread nD τ) arg23 fullShare (o22 x0 x2 x4 x5 x6 x7 x12) ∗ owns (c : Thread nD τ) arg24 fullShare (o23 x0 x3 x8 x12) ∗ owns (c : Thread nD τ) arg25 fullShare (o24 x0 x1 x2 x3 x4 x5 x6 x7 x8 x9 x10 x11)) -∗ K ⟨⟩))
      ⊢ wp frame (wpE (defs₀ (F := F)) Variants.none c none) E (cc0_mix_out_bwd_l0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mix_out_bwd_l0_eq_skeleton]; unfold cc0_mix_out_bwd_l0_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16 | sl_exact hc17)
  sl_step
  iapply Hk
  isplitl [H0 H1 H2 H3 H4 H5 H6 H7 H8 H9 H10 H11 H12]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; isplitr; · ipureintro; exact harg13.read_unread _
    iexact H12
  isplitl [H13]; iexists _; isplitr; swap; · iexact H13
  swap
  isplitl [H14]; iexists _; isplitr; swap; · iexact H14
  swap
  isplitl [H15]; iexists _; isplitr; swap; · iexact H15
  swap
  isplitl [H16]; iexists _; isplitr; swap; · iexact H16
  swap
  isplitl [H17]; iexists _; isplitr; swap; · iexact H17
  swap
  isplitl [H18]; iexists _; isplitr; swap; · iexact H18
  swap
  isplitl [H19]; iexists _; isplitr; swap; · iexact H19
  swap
  isplitl [H20]; iexists _; isplitr; swap; · iexact H20
  swap
  isplitl [H21]; iexists _; isplitr; swap; · iexact H21
  swap
  isplitl [H22]; iexists _; isplitr; swap; · iexact H22
  swap
  isplitl [H23]; iexists _; isplitr; swap; · iexact H23
  swap
  iexists _; isplitr
  swap; · iexact H24
  all_goals (ipureintro; refine (View.read_writes_full _ _ _ _ []).trans ?_; delta o13 o14 o15 o16 o17 o18 o19 o20 o21 o22 o23 o24 v6 v16 v24 v27 v29 v33 v36 v38 v40 v43 v44 v48 v55 v56 v58 v60 v62 v70 v73 v75 v77 v78 v85 v88 v90 v95 v99 v102 v103 v111 v114 v116 v119 v123 v124 v129 v148 v156 v159 v166 v172 v176 v179 v196 v197 v214 v217 v219 v220 v246 v257 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.r_40 runA.sl.r_41 runA.sl.r_42 runA.sl.r_43 runA.sl.r_44 runA.sl.r_45 runA.sl.r_46 runA.sl.r_47 runA.sl.r_48 runA.sl.r_49 runA.sl.r_50 runA.sl.r_51 runA.sl.r_52 runA.sl.r_53; simp only [ld_unread, ld_S1024x1024, ld_S1x256, ld_S1x512, ld_S256x256, ld_S512x1024, ld_S512x256, ld_S512x512])

set_option maxHeartbeats 8000000 in
/-- The body at a later tile. -/
theorem runB (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S512x256 .f32) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1024x1024 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S1x256 .f32) (harg18 : arg18.IsWhole) (arg19 : Memref sig .tc .vmem S1x256 .f32) (harg19 : arg19.IsWhole) (arg20 : Memref sig .tc .vmem S256x256 .f32) (harg20 : arg20.IsWhole) (arg21 : Memref sig .tc .vmem S512x256 .f32) (harg21 : arg21.IsWhole) (arg22 : Memref sig .tc .vmem S1x512 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S1024x1024 .f32) (harg25 : arg25.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i) (hc16 : ¬cond0_16 i) (hc17 : cond0_17 i)
    (x0 : Vec F S512x1024 .f32) (x1 : Vec F S512x512 .f32) (x2 : Vec F S512x256 .f32) (x3 : Vec F S512x256 .f32) (x4 : Vec F S1x256 .f32) (x5 : Vec F S1x256 .f32) (x6 : Vec F S1x256 .f32) (x7 : Vec F S256x256 .f32) (x8 : Vec F S512x256 .f32) (x9 : Vec F S1x512 .f32) (x10 : Vec F S1x256 .f32) (x11 : Vec F S1x256 .f32) (x12 : Vec F S1024x1024 .f32) (y16 : Vec F S1x256 .f32) (y17 : Vec F S1x256 .f32) (y18 : Vec F S1x256 .f32) (y19 : Vec F S256x256 .f32) (y20 : Vec F S512x256 .f32) (y21 : Vec F S1x512 .f32) (y22 : Vec F S1x256 .f32) (y23 : Vec F S1x256 .f32) (y24 : Vec F S1024x1024 .f32) (E : Set ℕ) (K : PUnit → sProp 𝕄) :
    iprop(inputs c arg1 arg2 arg3 arg4 arg5 arg6 arg7 arg8 arg9 arg10 arg11 arg12 arg13 x0 x1 x2 x3 x4 x5 x6 x7 x8 x9 x10 x11 x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare y24
        ∗ (iprop(inputs c arg1 arg2 arg3 arg4 arg5 arg6 arg7 arg8 arg9 arg10 arg11 arg12 arg13 x0 x1 x2 x3 x4 x5 x6 x7 x8 x9 x10 x11 x12 ∗ owns (c : Thread nD τ) arg14 fullShare (o13 x0 x1 x9 x12) ∗ owns (c : Thread nD τ) arg15 fullShare (o14 x0 x2 x4 x5 x6 x7 x10 x12) ∗ owns (c : Thread nD τ) arg16 fullShare (o15 x0 x3 x8 x11 x12) ∗ owns (c : Thread nD τ) arg17 fullShare (n16 x0 x2 x4 x5 x6 x7 x10 x12 y16) ∗ owns (c : Thread nD τ) arg18 fullShare (n17 x0 x2 x4 x5 x6 x7 x10 x12 y17) ∗ owns (c : Thread nD τ) arg19 fullShare (n18 x0 x2 x4 x5 x6 x7 x10 x12 y18) ∗ owns (c : Thread nD τ) arg20 fullShare (n19 x0 x2 x4 x5 x6 x7 x10 x12 y19) ∗ owns (c : Thread nD τ) arg21 fullShare (n20 x0 x3 x8 x11 x12 y20) ∗ owns (c : Thread nD τ) arg22 fullShare (n21 x0 x1 x12 y21) ∗ owns (c : Thread nD τ) arg23 fullShare (n22 x0 x2 x4 x5 x6 x7 x12 y22) ∗ owns (c : Thread nD τ) arg24 fullShare (n23 x0 x3 x8 x12 y23) ∗ owns (c : Thread nD τ) arg25 fullShare (n24 x0 x1 x2 x3 x4 x5 x6 x7 x8 x9 x10 x11 y24)) -∗ K ⟨⟩))
      ⊢ wp frame (wpE (defs₀ (F := F)) Variants.none c none) E (cc0_mix_out_bwd_l0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mix_out_bwd_l0_eq_skeleton]; unfold cc0_mix_out_bwd_l0_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16 | sl_exact hc17)
  sl_step
  iapply Hk
  isplitl [H0 H1 H2 H3 H4 H5 H6 H7 H8 H9 H10 H11 H12]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; isplitr; · ipureintro; exact harg13.read_unread _
    iexact H12
  isplitl [H13]; iexists _; isplitr; swap; · iexact H13
  swap
  isplitl [H14]; iexists _; isplitr; swap; · iexact H14
  swap
  isplitl [H15]; iexists _; isplitr; swap; · iexact H15
  swap
  isplitl [H16]; iexists _; isplitr; swap; · iexact H16
  swap
  isplitl [H17]; iexists _; isplitr; swap; · iexact H17
  swap
  isplitl [H18]; iexists _; isplitr; swap; · iexact H18
  swap
  isplitl [H19]; iexists _; isplitr; swap; · iexact H19
  swap
  isplitl [H20]; iexists _; isplitr; swap; · iexact H20
  swap
  isplitl [H21]; iexists _; isplitr; swap; · iexact H21
  swap
  isplitl [H22]; iexists _; isplitr; swap; · iexact H22
  swap
  isplitl [H23]; iexists _; isplitr; swap; · iexact H23
  swap
  iexists _; isplitr
  swap; · iexact H24
  all_goals (ipureintro; refine (View.read_writes_full _ _ _ _ []).trans ?_; delta o13 o14 o15 n16 n17 n18 n19 n20 n21 n22 n23 n24 v6 v16 v24 v27 v29 v33 v36 v38 v40 v43 v44 v48 v55 v56 v58 v60 v62 v70 v73 v75 v77 v78 v85 v88 v90 v95 v99 v102 v103 v111 v114 v116 v119 v123 v124 v129 v148 v156 v159 v166 v172 v176 v179 v196 v197 v214 v217 v219 v220 v246 v257 runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.r_36 runB.sl.r_37 runB.sl.r_38 runB.sl.r_39 runB.sl.r_40 runB.sl.r_41 runB.sl.r_42 runB.sl.r_43 runB.sl.r_44 runB.sl.r_45 runB.sl.r_46 runB.sl.r_47 runB.sl.r_48 runB.sl.r_49 runB.sl.r_50 runB.sl.r_51 runB.sl.r_52 runB.sl.r_53; simp only [ld_unread, ld_S1024x1024, ld_S1x256, ld_S1x512, ld_S256x256, ld_S512x1024, ld_S512x256, ld_S512x512])

end Cert.MixOutIdeal.Run

end
-- ==== Proof.MixOut.Launch.lean ====
/- The launch of the output product's gradient call: what each output holds after each tile, the body's obligation, the whole run, the frame. -/
module

public import proofs.«01_k».proof.Proof.MixOut.Body
public import Idealize.ShloMosaic.Lib.Claim

@[expose] public section

set_option maxRecDepth 16384

noncomputable section

namespace Cert.MixOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixOutIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A sum that the first tile begins and every later tile adds to. -/
def acc {α : Type} (f : Fin cfg0.N → α) (g : Fin cfg0.N → α → α) : (n : ℕ) → n < cfg0.N → α
  | 0, h => f ⟨0, h⟩
  | n + 1, h => g ⟨n + 1, h⟩ (acc f g n (Nat.lt_of_succ_lt h))

theorem acc_first {α : Type} (f : Fin cfg0.N → α) (g : Fin cfg0.N → α → α) (t : Fin cfg0.N) (hz : t.val = 0) : acc f g t.val t.isLt = f t := by
  obtain ⟨n, hn⟩ := t
  subst hz
  rfl

theorem acc_pos {α : Type} (f : Fin cfg0.N → α) (g : Fin cfg0.N → α → α) (t : Fin cfg0.N) (hz : t.val ≠ 0) :
    acc f g t.val t.isLt = g t (acc f g (t.val - 1) (Nat.lt_of_le_of_lt (Nat.sub_le _ _) t.isLt)) := by
  obtain ⟨n, hn⟩ := t
  cases n with
  | zero => exact absurd rfl hz
  | succ n => rfl

/-- What window 13 holds after tile `t`. -/
def out13 (c : Dev nD) (t : Fin cfg0.N) : Vec F S512x512 .f32 := o13 (iblk m c 0 t) (iblk m c 1 t) (iblk m c 9 t) (iblk m c 12 t)
/-- What window 14 holds after tile `t`. -/
def out14 (c : Dev nD) (t : Fin cfg0.N) : Vec F S512x256 .f32 := o14 (iblk m c 0 t) (iblk m c 2 t) (iblk m c 4 t) (iblk m c 5 t) (iblk m c 6 t) (iblk m c 7 t) (iblk m c 10 t) (iblk m c 12 t)
/-- What window 15 holds after tile `t`. -/
def out15 (c : Dev nD) (t : Fin cfg0.N) : Vec F S512x256 .f32 := o15 (iblk m c 0 t) (iblk m c 3 t) (iblk m c 8 t) (iblk m c 11 t) (iblk m c 12 t)
/-- What window 16 holds after tile `t`. -/
def out16 (c : Dev nD) (t : Fin cfg0.N) : Vec F S1x256 .f32 :=
  acc (fun t => o16 (iblk m c 0 t) (iblk m c 2 t) (iblk m c 4 t) (iblk m c 5 t) (iblk m c 6 t) (iblk m c 7 t) (iblk m c 10 t) (iblk m c 12 t)) (fun t p => n16 (iblk m c 0 t) (iblk m c 2 t) (iblk m c 4 t) (iblk m c 5 t) (iblk m c 6 t) (iblk m c 7 t) (iblk m c 10 t) (iblk m c 12 t) p) t.val t.isLt
theorem out16_first (c : Dev nD) (t : Fin cfg0.N) (hz : t.val = 0) : out16 m c t = o16 (iblk m c 0 t) (iblk m c 2 t) (iblk m c 4 t) (iblk m c 5 t) (iblk m c 6 t) (iblk m c 7 t) (iblk m c 10 t) (iblk m c 12 t) := acc_first _ _ t hz
theorem out16_pos (c : Dev nD) (t : Fin cfg0.N) (hz : t.val ≠ 0) :
    out16 m c t = n16 (iblk m c 0 t) (iblk m c 2 t) (iblk m c 4 t) (iblk m c 5 t) (iblk m c 6 t) (iblk m c 7 t) (iblk m c 10 t) (iblk m c 12 t) (out16 m c ⟨t.val - 1, Nat.lt_of_le_of_lt (Nat.sub_le _ _) t.isLt⟩) := acc_pos _ _ t hz
/-- What window 17 holds after tile `t`. -/
def out17 (c : Dev nD) (t : Fin cfg0.N) : Vec F S1x256 .f32 :=
  acc (fun t => o17 (iblk m c 0 t) (iblk m c 2 t) (iblk m c 4 t) (iblk m c 5 t) (iblk m c 6 t) (iblk m c 7 t) (iblk m c 10 t) (iblk m c 12 t)) (fun t p => n17 (iblk m c 0 t) (iblk m c 2 t) (iblk m c 4 t) (iblk m c 5 t) (iblk m c 6 t) (iblk m c 7 t) (iblk m c 10 t) (iblk m c 12 t) p) t.val t.isLt
theorem out17_first (c : Dev nD) (t : Fin cfg0.N) (hz : t.val = 0) : out17 m c t = o17 (iblk m c 0 t) (iblk m c 2 t) (iblk m c 4 t) (iblk m c 5 t) (iblk m c 6 t) (iblk m c 7 t) (iblk m c 10 t) (iblk m c 12 t) := acc_first _ _ t hz
theorem out17_pos (c : Dev nD) (t : Fin cfg0.N) (hz : t.val ≠ 0) :
    out17 m c t = n17 (iblk m c 0 t) (iblk m c 2 t) (iblk m c 4 t) (iblk m c 5 t) (iblk m c 6 t) (iblk m c 7 t) (iblk m c 10 t) (iblk m c 12 t) (out17 m c ⟨t.val - 1, Nat.lt_of_le_of_lt (Nat.sub_le _ _) t.isLt⟩) := acc_pos _ _ t hz
/-- What window 18 holds after tile `t`. -/
def out18 (c : Dev nD) (t : Fin cfg0.N) : Vec F S1x256 .f32 :=
  acc (fun t => o18 (iblk m c 0 t) (iblk m c 2 t) (iblk m c 4 t) (iblk m c 5 t) (iblk m c 6 t) (iblk m c 7 t) (iblk m c 10 t) (iblk m c 12 t)) (fun t p => n18 (iblk m c 0 t) (iblk m c 2 t) (iblk m c 4 t) (iblk m c 5 t) (iblk m c 6 t) (iblk m c 7 t) (iblk m c 10 t) (iblk m c 12 t) p) t.val t.isLt
theorem out18_first (c : Dev nD) (t : Fin cfg0.N) (hz : t.val = 0) : out18 m c t = o18 (iblk m c 0 t) (iblk m c 2 t) (iblk m c 4 t) (iblk m c 5 t) (iblk m c 6 t) (iblk m c 7 t) (iblk m c 10 t) (iblk m c 12 t) := acc_first _ _ t hz
theorem out18_pos (c : Dev nD) (t : Fin cfg0.N) (hz : t.val ≠ 0) :
    out18 m c t = n18 (iblk m c 0 t) (iblk m c 2 t) (iblk m c 4 t) (iblk m c 5 t) (iblk m c 6 t) (iblk m c 7 t) (iblk m c 10 t) (iblk m c 12 t) (out18 m c ⟨t.val - 1, Nat.lt_of_le_of_lt (Nat.sub_le _ _) t.isLt⟩) := acc_pos _ _ t hz
/-- What window 19 holds after tile `t`. -/
def out19 (c : Dev nD) (t : Fin cfg0.N) : Vec F S256x256 .f32 :=
  acc (fun t => o19 (iblk m c 0 t) (iblk m c 2 t) (iblk m c 4 t) (iblk m c 5 t) (iblk m c 6 t) (iblk m c 7 t) (iblk m c 10 t) (iblk m c 12 t)) (fun t p => n19 (iblk m c 0 t) (iblk m c 2 t) (iblk m c 4 t) (iblk m c 5 t) (iblk m c 6 t) (iblk m c 7 t) (iblk m c 10 t) (iblk m c 12 t) p) t.val t.isLt
theorem out19_first (c : Dev nD) (t : Fin cfg0.N) (hz : t.val = 0) : out19 m c t = o19 (iblk m c 0 t) (iblk m c 2 t) (iblk m c 4 t) (iblk m c 5 t) (iblk m c 6 t) (iblk m c 7 t) (iblk m c 10 t) (iblk m c 12 t) := acc_first _ _ t hz
theorem out19_pos (c : Dev nD) (t : Fin cfg0.N) (hz : t.val ≠ 0) :
    out19 m c t = n19 (iblk m c 0 t) (iblk m c 2 t) (iblk m c 4 t) (iblk m c 5 t) (iblk m c 6 t) (iblk m c 7 t) (iblk m c 10 t) (iblk m c 12 t) (out19 m c ⟨t.val - 1, Nat.lt_of_le_of_lt (Nat.sub_le _ _) t.isLt⟩) := acc_pos _ _ t hz
/-- What window 20 holds after tile `t`. -/
def out20 (c : Dev nD) (t : Fin cfg0.N) : Vec F S512x256 .f32 :=
  acc (fun t => o20 (iblk m c 0 t) (iblk m c 3 t) (iblk m c 8 t) (iblk m c 11 t) (iblk m c 12 t)) (fun t p => n20 (iblk m c 0 t) (iblk m c 3 t) (iblk m c 8 t) (iblk m c 11 t) (iblk m c 12 t) p) t.val t.isLt
theorem out20_first (c : Dev nD) (t : Fin cfg0.N) (hz : t.val = 0) : out20 m c t = o20 (iblk m c 0 t) (iblk m c 3 t) (iblk m c 8 t) (iblk m c 11 t) (iblk m c 12 t) := acc_first _ _ t hz
theorem out20_pos (c : Dev nD) (t : Fin cfg0.N) (hz : t.val ≠ 0) :
    out20 m c t = n20 (iblk m c 0 t) (iblk m c 3 t) (iblk m c 8 t) (iblk m c 11 t) (iblk m c 12 t) (out20 m c ⟨t.val - 1, Nat.lt_of_le_of_lt (Nat.sub_le _ _) t.isLt⟩) := acc_pos _ _ t hz
/-- What window 21 holds after tile `t`. -/
def out21 (c : Dev nD) (t : Fin cfg0.N) : Vec F S1x512 .f32 :=
  acc (fun t => o21 (iblk m c 0 t) (iblk m c 1 t) (iblk m c 12 t)) (fun t p => n21 (iblk m c 0 t) (iblk m c 1 t) (iblk m c 12 t) p) t.val t.isLt
theorem out21_first (c : Dev nD) (t : Fin cfg0.N) (hz : t.val = 0) : out21 m c t = o21 (iblk m c 0 t) (iblk m c 1 t) (iblk m c 12 t) := acc_first _ _ t hz
theorem out21_pos (c : Dev nD) (t : Fin cfg0.N) (hz : t.val ≠ 0) :
    out21 m c t = n21 (iblk m c 0 t) (iblk m c 1 t) (iblk m c 12 t) (out21 m c ⟨t.val - 1, Nat.lt_of_le_of_lt (Nat.sub_le _ _) t.isLt⟩) := acc_pos _ _ t hz
/-- What window 22 holds after tile `t`. -/
def out22 (c : Dev nD) (t : Fin cfg0.N) : Vec F S1x256 .f32 :=
  acc (fun t => o22 (iblk m c 0 t) (iblk m c 2 t) (iblk m c 4 t) (iblk m c 5 t) (iblk m c 6 t) (iblk m c 7 t) (iblk m c 12 t)) (fun t p => n22 (iblk m c 0 t) (iblk m c 2 t) (iblk m c 4 t) (iblk m c 5 t) (iblk m c 6 t) (iblk m c 7 t) (iblk m c 12 t) p) t.val t.isLt
theorem out22_first (c : Dev nD) (t : Fin cfg0.N) (hz : t.val = 0) : out22 m c t = o22 (iblk m c 0 t) (iblk m c 2 t) (iblk m c 4 t) (iblk m c 5 t) (iblk m c 6 t) (iblk m c 7 t) (iblk m c 12 t) := acc_first _ _ t hz
theorem out22_pos (c : Dev nD) (t : Fin cfg0.N) (hz : t.val ≠ 0) :
    out22 m c t = n22 (iblk m c 0 t) (iblk m c 2 t) (iblk m c 4 t) (iblk m c 5 t) (iblk m c 6 t) (iblk m c 7 t) (iblk m c 12 t) (out22 m c ⟨t.val - 1, Nat.lt_of_le_of_lt (Nat.sub_le _ _) t.isLt⟩) := acc_pos _ _ t hz
/-- What window 23 holds after tile `t`. -/
def out23 (c : Dev nD) (t : Fin cfg0.N) : Vec F S1x256 .f32 :=
  acc (fun t => o23 (iblk m c 0 t) (iblk m c 3 t) (iblk m c 8 t) (iblk m c 12 t)) (fun t p => n23 (iblk m c 0 t) (iblk m c 3 t) (iblk m c 8 t) (iblk m c 12 t) p) t.val t.isLt
theorem out23_first (c : Dev nD) (t : Fin cfg0.N) (hz : t.val = 0) : out23 m c t = o23 (iblk m c 0 t) (iblk m c 3 t) (iblk m c 8 t) (iblk m c 12 t) := acc_first _ _ t hz
theorem out23_pos (c : Dev nD) (t : Fin cfg0.N) (hz : t.val ≠ 0) :
    out23 m c t = n23 (iblk m c 0 t) (iblk m c 3 t) (iblk m c 8 t) (iblk m c 12 t) (out23 m c ⟨t.val - 1, Nat.lt_of_le_of_lt (Nat.sub_le _ _) t.isLt⟩) := acc_pos _ _ t hz
/-- What window 24 holds after tile `t`. -/
def out24 (c : Dev nD) (t : Fin cfg0.N) : Vec F S1024x1024 .f32 :=
  acc (fun t => o24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (fun t p => n24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p) t.val t.isLt
theorem out24_first (c : Dev nD) (t : Fin cfg0.N) (hz : t.val = 0) : out24 m c t = o24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := acc_first _ _ t hz
theorem out24_pos (c : Dev nD) (t : Fin cfg0.N) (hz : t.val ≠ 0) :
    out24 m c t = n24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (out24 m c ⟨t.val - 1, Nat.lt_of_le_of_lt (Nat.sub_le _ _) t.isLt⟩) := acc_pos _ _ t hz

/-- The proof data: each input's buffer at its block, each output's at what it holds after the tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 m c t
    | ⟨14, _⟩ => out14 m c t
    | ⟨15, _⟩ => out15 m c t
    | ⟨16, _⟩ => out16 m c t
    | ⟨17, _⟩ => out17 m c t
    | ⟨18, _⟩ => out18 m c t
    | ⟨19, _⟩ => out19 m c t
    | ⟨20, _⟩ => out20 m c t
    | ⟨21, _⟩ => out21 m c t
    | ⟨22, _⟩ => out22 m c t
    | ⟨23, _⟩ => out23 m c t
    | ⟨24, _⟩ => out24 m c t
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 m c t := by dsimp only [dats]
theorem after14 (c : Dev nD) (t : Fin cfg0.N) : (dats m 0 c).after 14 t = out14 m c t := by dsimp only [dats]
theorem after15 (c : Dev nD) (t : Fin cfg0.N) : (dats m 0 c).after 15 t = out15 m c t := by dsimp only [dats]
theorem after16 (c : Dev nD) (t : Fin cfg0.N) : (dats m 0 c).after 16 t = out16 m c t := by dsimp only [dats]
theorem after17 (c : Dev nD) (t : Fin cfg0.N) : (dats m 0 c).after 17 t = out17 m c t := by dsimp only [dats]
theorem after18 (c : Dev nD) (t : Fin cfg0.N) : (dats m 0 c).after 18 t = out18 m c t := by dsimp only [dats]
theorem after19 (c : Dev nD) (t : Fin cfg0.N) : (dats m 0 c).after 19 t = out19 m c t := by dsimp only [dats]
theorem after20 (c : Dev nD) (t : Fin cfg0.N) : (dats m 0 c).after 20 t = out20 m c t := by dsimp only [dats]
theorem after21 (c : Dev nD) (t : Fin cfg0.N) : (dats m 0 c).after 21 t = out21 m c t := by dsimp only [dats]
theorem after22 (c : Dev nD) (t : Fin cfg0.N) : (dats m 0 c).after 22 t = out22 m c t := by dsimp only [dats]
theorem after23 (c : Dev nD) (t : Fin cfg0.N) : (dats m 0 c).after 23 t = out23 m c t := by dsimp only [dats]
theorem after24 (c : Dev nD) (t : Fin cfg0.N) : (dats m 0 c).after 24 t = out24 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem live16 : ∀ t : Fin cfg0.N, cfg0.idle 16 (grid0.coords t) = false := by decide +kernel
theorem kept16 : ∀ t : Fin cfg0.N, t.val ≠ 0 → cfg0.fresh 16 t.val = false := by
  intro t; rw [fresh0_16_eq t]; revert t; decide +kernel
theorem before16 (c : Dev nD) (t : Fin cfg0.N) (hz : t.val ≠ 0) (d) :
    (dats m 0 c).before 16 t d = out16 m c ⟨t.val - 1, Nat.lt_of_le_of_lt (Nat.sub_le _ _) t.isLt⟩ := by
  rw [Dat.before_out_traj _ 16 rfl (fun _ _ => rfl) (fun t _ hi _ => absurd hi (by rw [live16 t]; exact Bool.false_ne_true)) t.val t rfl d,
    if_neg (by rw [kept16 t hz]; exact Bool.false_ne_true)]
  dsimp only [dats]
theorem live17 : ∀ t : Fin cfg0.N, cfg0.idle 17 (grid0.coords t) = false := by decide +kernel
theorem kept17 : ∀ t : Fin cfg0.N, t.val ≠ 0 → cfg0.fresh 17 t.val = false := by
  intro t; rw [fresh0_17_eq t]; revert t; decide +kernel
theorem before17 (c : Dev nD) (t : Fin cfg0.N) (hz : t.val ≠ 0) (d) :
    (dats m 0 c).before 17 t d = out17 m c ⟨t.val - 1, Nat.lt_of_le_of_lt (Nat.sub_le _ _) t.isLt⟩ := by
  rw [Dat.before_out_traj _ 17 rfl (fun _ _ => rfl) (fun t _ hi _ => absurd hi (by rw [live17 t]; exact Bool.false_ne_true)) t.val t rfl d,
    if_neg (by rw [kept17 t hz]; exact Bool.false_ne_true)]
  dsimp only [dats]
theorem live18 : ∀ t : Fin cfg0.N, cfg0.idle 18 (grid0.coords t) = false := by decide +kernel
theorem kept18 : ∀ t : Fin cfg0.N, t.val ≠ 0 → cfg0.fresh 18 t.val = false := by
  intro t; rw [fresh0_18_eq t]; revert t; decide +kernel
theorem before18 (c : Dev nD) (t : Fin cfg0.N) (hz : t.val ≠ 0) (d) :
    (dats m 0 c).before 18 t d = out18 m c ⟨t.val - 1, Nat.lt_of_le_of_lt (Nat.sub_le _ _) t.isLt⟩ := by
  rw [Dat.before_out_traj _ 18 rfl (fun _ _ => rfl) (fun t _ hi _ => absurd hi (by rw [live18 t]; exact Bool.false_ne_true)) t.val t rfl d,
    if_neg (by rw [kept18 t hz]; exact Bool.false_ne_true)]
  dsimp only [dats]
theorem live19 : ∀ t : Fin cfg0.N, cfg0.idle 19 (grid0.coords t) = false := by decide +kernel
theorem kept19 : ∀ t : Fin cfg0.N, t.val ≠ 0 → cfg0.fresh 19 t.val = false := by
  intro t; rw [fresh0_19_eq t]; revert t; decide +kernel
theorem before19 (c : Dev nD) (t : Fin cfg0.N) (hz : t.val ≠ 0) (d) :
    (dats m 0 c).before 19 t d = out19 m c ⟨t.val - 1, Nat.lt_of_le_of_lt (Nat.sub_le _ _) t.isLt⟩ := by
  rw [Dat.before_out_traj _ 19 rfl (fun _ _ => rfl) (fun t _ hi _ => absurd hi (by rw [live19 t]; exact Bool.false_ne_true)) t.val t rfl d,
    if_neg (by rw [kept19 t hz]; exact Bool.false_ne_true)]
  dsimp only [dats]
theorem live20 : ∀ t : Fin cfg0.N, cfg0.idle 20 (grid0.coords t) = false := by decide +kernel
theorem kept20 : ∀ t : Fin cfg0.N, t.val ≠ 0 → cfg0.fresh 20 t.val = false := by
  intro t; rw [fresh0_20_eq t]; revert t; decide +kernel
theorem before20 (c : Dev nD) (t : Fin cfg0.N) (hz : t.val ≠ 0) (d) :
    (dats m 0 c).before 20 t d = out20 m c ⟨t.val - 1, Nat.lt_of_le_of_lt (Nat.sub_le _ _) t.isLt⟩ := by
  rw [Dat.before_out_traj _ 20 rfl (fun _ _ => rfl) (fun t _ hi _ => absurd hi (by rw [live20 t]; exact Bool.false_ne_true)) t.val t rfl d,
    if_neg (by rw [kept20 t hz]; exact Bool.false_ne_true)]
  dsimp only [dats]
theorem live21 : ∀ t : Fin cfg0.N, cfg0.idle 21 (grid0.coords t) = false := by decide +kernel
theorem kept21 : ∀ t : Fin cfg0.N, t.val ≠ 0 → cfg0.fresh 21 t.val = false := by
  intro t; rw [fresh0_21_eq t]; revert t; decide +kernel
theorem before21 (c : Dev nD) (t : Fin cfg0.N) (hz : t.val ≠ 0) (d) :
    (dats m 0 c).before 21 t d = out21 m c ⟨t.val - 1, Nat.lt_of_le_of_lt (Nat.sub_le _ _) t.isLt⟩ := by
  rw [Dat.before_out_traj _ 21 rfl (fun _ _ => rfl) (fun t _ hi _ => absurd hi (by rw [live21 t]; exact Bool.false_ne_true)) t.val t rfl d,
    if_neg (by rw [kept21 t hz]; exact Bool.false_ne_true)]
  dsimp only [dats]
theorem live22 : ∀ t : Fin cfg0.N, cfg0.idle 22 (grid0.coords t) = false := by decide +kernel
theorem kept22 : ∀ t : Fin cfg0.N, t.val ≠ 0 → cfg0.fresh 22 t.val = false := by
  intro t; rw [fresh0_22_eq t]; revert t; decide +kernel
theorem before22 (c : Dev nD) (t : Fin cfg0.N) (hz : t.val ≠ 0) (d) :
    (dats m 0 c).before 22 t d = out22 m c ⟨t.val - 1, Nat.lt_of_le_of_lt (Nat.sub_le _ _) t.isLt⟩ := by
  rw [Dat.before_out_traj _ 22 rfl (fun _ _ => rfl) (fun t _ hi _ => absurd hi (by rw [live22 t]; exact Bool.false_ne_true)) t.val t rfl d,
    if_neg (by rw [kept22 t hz]; exact Bool.false_ne_true)]
  dsimp only [dats]
theorem live23 : ∀ t : Fin cfg0.N, cfg0.idle 23 (grid0.coords t) = false := by decide +kernel
theorem kept23 : ∀ t : Fin cfg0.N, t.val ≠ 0 → cfg0.fresh 23 t.val = false := by
  intro t; rw [fresh0_23_eq t]; revert t; decide +kernel
theorem before23 (c : Dev nD) (t : Fin cfg0.N) (hz : t.val ≠ 0) (d) :
    (dats m 0 c).before 23 t d = out23 m c ⟨t.val - 1, Nat.lt_of_le_of_lt (Nat.sub_le _ _) t.isLt⟩ := by
  rw [Dat.before_out_traj _ 23 rfl (fun _ _ => rfl) (fun t _ hi _ => absurd hi (by rw [live23 t]; exact Bool.false_ne_true)) t.val t rfl d,
    if_neg (by rw [kept23 t hz]; exact Bool.false_ne_true)]
  dsimp only [dats]
theorem live24 : ∀ t : Fin cfg0.N, cfg0.idle 24 (grid0.coords t) = false := by decide +kernel
theorem kept24 : ∀ t : Fin cfg0.N, t.val ≠ 0 → cfg0.fresh 24 t.val = false := by
  intro t; rw [fresh0_24_eq t]; revert t; decide +kernel
theorem before24 (c : Dev nD) (t : Fin cfg0.N) (hz : t.val ≠ 0) (d) :
    (dats m 0 c).before 24 t d = out24 m c ⟨t.val - 1, Nat.lt_of_le_of_lt (Nat.sub_le _ _) t.isLt⟩ := by
  rw [Dat.before_out_traj _ 24 rfl (fun _ _ => rfl) (fun t _ hi _ => absurd hi (by rw [live24 t]; exact Bool.false_ne_true)) t.val t rfl d,
    if_neg (by rw [kept24 t hz]; exact Bool.false_ne_true)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from by unfold Dat.leavesExact; rw [liveAt0_0 t], after0]
  rw [show (dats m 0 c).leavesExact 1 t = owns (c : Thread nD τ) (ms0_1 t) fullShare ((dats m 0 c).after 1 t) from by unfold Dat.leavesExact; rw [liveAt0_1 t], after1]
  rw [show (dats m 0 c).leavesExact 2 t = owns (c : Thread nD τ) (ms0_2 t) fullShare ((dats m 0 c).after 2 t) from by unfold Dat.leavesExact; rw [liveAt0_2 t], after2]
  rw [show (dats m 0 c).leavesExact 3 t = owns (c : Thread nD τ) (ms0_3 t) fullShare ((dats m 0 c).after 3 t) from by unfold Dat.leavesExact; rw [liveAt0_3 t], after3]
  rw [show (dats m 0 c).leavesExact 4 t = owns (c : Thread nD τ) (ms0_4 t) fullShare ((dats m 0 c).after 4 t) from by unfold Dat.leavesExact; rw [liveAt0_4 t], after4]
  rw [show (dats m 0 c).leavesExact 5 t = owns (c : Thread nD τ) (ms0_5 t) fullShare ((dats m 0 c).after 5 t) from by unfold Dat.leavesExact; rw [liveAt0_5 t], after5]
  rw [show (dats m 0 c).leavesExact 6 t = owns (c : Thread nD τ) (ms0_6 t) fullShare ((dats m 0 c).after 6 t) from by unfold Dat.leavesExact; rw [liveAt0_6 t], after6]
  rw [show (dats m 0 c).leavesExact 7 t = owns (c : Thread nD τ) (ms0_7 t) fullShare ((dats m 0 c).after 7 t) from by unfold Dat.leavesExact; rw [liveAt0_7 t], after7]
  rw [show (dats m 0 c).leavesExact 8 t = owns (c : Thread nD τ) (ms0_8 t) fullShare ((dats m 0 c).after 8 t) from by unfold Dat.leavesExact; rw [liveAt0_8 t], after8]
  rw [show (dats m 0 c).leavesExact 9 t = owns (c : Thread nD τ) (ms0_9 t) fullShare ((dats m 0 c).after 9 t) from by unfold Dat.leavesExact; rw [liveAt0_9 t], after9]
  rw [show (dats m 0 c).leavesExact 10 t = owns (c : Thread nD τ) (ms0_10 t) fullShare ((dats m 0 c).after 10 t) from by unfold Dat.leavesExact; rw [liveAt0_10 t], after10]
  rw [show (dats m 0 c).leavesExact 11 t = owns (c : Thread nD τ) (ms0_11 t) fullShare ((dats m 0 c).after 11 t) from by unfold Dat.leavesExact; rw [liveAt0_11 t], after11]
  rw [show (dats m 0 c).leavesExact 12 t = owns (c : Thread nD τ) (ms0_12 t) fullShare ((dats m 0 c).after 12 t) from by unfold Dat.leavesExact; rw [liveAt0_12 t], after12]
  rw [show (dats m 0 c).leavesExact 13 t = owns (c : Thread nD τ) (ms0_13 t) fullShare ((dats m 0 c).after 13 t) from by unfold Dat.leavesExact; rw [liveAt0_13 t], after13]
  rw [show (dats m 0 c).leavesExact 14 t = owns (c : Thread nD τ) (ms0_14 t) fullShare ((dats m 0 c).after 14 t) from by unfold Dat.leavesExact; rw [liveAt0_14 t], after14]
  rw [show (dats m 0 c).leavesExact 15 t = owns (c : Thread nD τ) (ms0_15 t) fullShare ((dats m 0 c).after 15 t) from by unfold Dat.leavesExact; rw [liveAt0_15 t], after15]
  rw [show (dats m 0 c).leavesExact 16 t = owns (c : Thread nD τ) (ms0_16 t) fullShare ((dats m 0 c).after 16 t) from by unfold Dat.leavesExact; rw [live16 t], after16]
  rw [show (dats m 0 c).leavesExact 17 t = owns (c : Thread nD τ) (ms0_17 t) fullShare ((dats m 0 c).after 17 t) from by unfold Dat.leavesExact; rw [live17 t], after17]
  rw [show (dats m 0 c).leavesExact 18 t = owns (c : Thread nD τ) (ms0_18 t) fullShare ((dats m 0 c).after 18 t) from by unfold Dat.leavesExact; rw [live18 t], after18]
  rw [show (dats m 0 c).leavesExact 19 t = owns (c : Thread nD τ) (ms0_19 t) fullShare ((dats m 0 c).after 19 t) from by unfold Dat.leavesExact; rw [live19 t], after19]
  rw [show (dats m 0 c).leavesExact 20 t = owns (c : Thread nD τ) (ms0_20 t) fullShare ((dats m 0 c).after 20 t) from by unfold Dat.leavesExact; rw [live20 t], after20]
  rw [show (dats m 0 c).leavesExact 21 t = owns (c : Thread nD τ) (ms0_21 t) fullShare ((dats m 0 c).after 21 t) from by unfold Dat.leavesExact; rw [live21 t], after21]
  rw [show (dats m 0 c).leavesExact 22 t = owns (c : Thread nD τ) (ms0_22 t) fullShare ((dats m 0 c).after 22 t) from by unfold Dat.leavesExact; rw [live22 t], after22]
  rw [show (dats m 0 c).leavesExact 23 t = owns (c : Thread nD τ) (ms0_23 t) fullShare ((dats m 0 c).after 23 t) from by unfold Dat.leavesExact; rw [live23 t], after23]
  rw [show (dats m 0 c).leavesExact 24 t = owns (c : Thread nD τ) (ms0_24 t) fullShare ((dats m 0 c).after 24 t) from by unfold Dat.leavesExact; rw [live24 t], after24]
  unfold out13 out14 out15
  by_cases hz : t.val = 0
  · have hc0 : cond0_0 (grid0.coords t) := (hcond0_0 t).mpr (by omega)
    have hc1 : ¬cond0_1 (grid0.coords t) := fun h => by have := (hcond0_1 t).mp h; omega
    have hc2 : cond0_2 (grid0.coords t) := (hcond0_2 t).mpr (by omega)
    have hc3 : ¬cond0_3 (grid0.coords t) := fun h => by have := (hcond0_3 t).mp h; omega
    have hc4 : cond0_4 (grid0.coords t) := (hcond0_4 t).mpr (by omega)
    have hc5 : ¬cond0_5 (grid0.coords t) := fun h => by have := (hcond0_5 t).mp h; omega
    have hc6 : cond0_6 (grid0.coords t) := (hcond0_6 t).mpr (by omega)
    have hc7 : ¬cond0_7 (grid0.coords t) := fun h => by have := (hcond0_7 t).mp h; omega
    have hc8 : cond0_8 (grid0.coords t) := (hcond0_8 t).mpr (by omega)
    have hc9 : ¬cond0_9 (grid0.coords t) := fun h => by have := (hcond0_9 t).mp h; omega
    have hc10 : cond0_10 (grid0.coords t) := (hcond0_10 t).mpr (by omega)
    have hc11 : ¬cond0_11 (grid0.coords t) := fun h => by have := (hcond0_11 t).mp h; omega
    have hc12 : cond0_12 (grid0.coords t) := (hcond0_12 t).mpr (by omega)
    have hc13 : ¬cond0_13 (grid0.coords t) := fun h => by have := (hcond0_13 t).mp h; omega
    have hc14 : cond0_14 (grid0.coords t) := (hcond0_14 t).mpr (by omega)
    have hc15 : ¬cond0_15 (grid0.coords t) := fun h => by have := (hcond0_15 t).mp h; omega
    have hc16 : cond0_16 (grid0.coords t) := (hcond0_16 t).mpr (by omega)
    have hc17 : ¬cond0_17 (grid0.coords t) := fun h => by have := (hcond0_17 t).mp h; omega
    rw [out16_first m c t hz, out17_first m c t hz, out18_first m c t hz, out19_first m c t hz, out20_first m c t hz, out21_first m c t hz, out22_first m c t hz, out23_first m c t hz, out24_first m c t hz]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply runA c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) _ (hs0_24 t) hc0 hc1 hc2 hc3 hc4 hc5 hc6 hc7 hc8 hc9 hc10 hc11 hc12 hc13 hc14 hc15 hc16 hc17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _
    isplitl [H0 H1 H2 H3 H4 H5 H6 H7 H8 H9 H10 H11 H12]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    unfold inputs
    iintro ⟨⟨H0, H1, H2, H3, H4, H5, H6, H7, H8, H9, H10, H11, H12⟩, H13, H14, H15, H16, H17, H18, H19, H20, H21, H22, H23, H24⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · have hc0 : ¬cond0_0 (grid0.coords t) := fun h => by have := (hcond0_0 t).mp h; omega
    have hc1 : cond0_1 (grid0.coords t) := (hcond0_1 t).mpr (by omega)
    have hc2 : ¬cond0_2 (grid0.coords t) := fun h => by have := (hcond0_2 t).mp h; omega
    have hc3 : cond0_3 (grid0.coords t) := (hcond0_3 t).mpr (by omega)
    have hc4 : ¬cond0_4 (grid0.coords t) := fun h => by have := (hcond0_4 t).mp h; omega
    have hc5 : cond0_5 (grid0.coords t) := (hcond0_5 t).mpr (by omega)
    have hc6 : ¬cond0_6 (grid0.coords t) := fun h => by have := (hcond0_6 t).mp h; omega
    have hc7 : cond0_7 (grid0.coords t) := (hcond0_7 t).mpr (by omega)
    have hc8 : ¬cond0_8 (grid0.coords t) := fun h => by have := (hcond0_8 t).mp h; omega
    have hc9 : cond0_9 (grid0.coords t) := (hcond0_9 t).mpr (by omega)
    have hc10 : ¬cond0_10 (grid0.coords t) := fun h => by have := (hcond0_10 t).mp h; omega
    have hc11 : cond0_11 (grid0.coords t) := (hcond0_11 t).mpr (by omega)
    have hc12 : ¬cond0_12 (grid0.coords t) := fun h => by have := (hcond0_12 t).mp h; omega
    have hc13 : cond0_13 (grid0.coords t) := (hcond0_13 t).mpr (by omega)
    have hc14 : ¬cond0_14 (grid0.coords t) := fun h => by have := (hcond0_14 t).mp h; omega
    have hc15 : cond0_15 (grid0.coords t) := (hcond0_15 t).mpr (by omega)
    have hc16 : ¬cond0_16 (grid0.coords t) := fun h => by have := (hcond0_16 t).mp h; omega
    have hc17 : cond0_17 (grid0.coords t) := (hcond0_17 t).mpr (by omega)
    rw [out16_pos m c t hz, out17_pos m c t hz, out18_pos m c t hz, out19_pos m c t hz, out20_pos m c t hz, out21_pos m c t hz, out22_pos m c t hz, out23_pos m c t hz, out24_pos m c t hz]
    simp only [before16 m c t hz, before17 m c t hz, before18 m c t hz, before19 m c t hz, before20 m c t hz, before21 m c t hz, before22 m c t hz, before23 m c t hz, before24 m c t hz]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply runB c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) _ (hs0_24 t) hc0 hc1 hc2 hc3 hc4 hc5 hc6 hc7 hc8 hc9 hc10 hc11 hc12 hc13 hc14 hc15 hc16 hc17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ _ _ _ _ Set.univ _
    isplitl [H0 H1 H2 H3 H4 H5 H6 H7 H8 H9 H10 H11 H12]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexists _; iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    unfold inputs
    iintro ⟨⟨H0, H1, H2, H3, H4, H5, H6, H7, H8, H9, H10, H11, H12⟩, H13, H14, H15, H16, H17, H18, H19, H20, H21, H22, H23, H24⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run: it terminates with every array at what the pipeline computes of the proof data, and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arrays the run leaves. -/
theorem run_main : θ_run defs (onTc (τ := τ) (main (F := F))) (s₀ m ρ) (Pipeline.FramePost cfgs (dats m) 0 (V m)) :=
  (θ_run defs _ _).mono (fun _ h => h.1) (run_all m ρ)

/-- The frame: the arguments end as they were and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_all m ρ))

end Cert.MixOutIdeal.Run

end
-- ==== Proof.MixOut.Math.lean ====
/- One row of the gradient through the layer norm, the gates and the three norms before the output product, as functions over the extended reals. -/
module

public import proofs.«01_k».proof.Proof.Rms
public import proofs.«01_k».proof.Proof.Loss.Math
public import proofs.«01_k».proof.Proof.Ffn.Math

@[expose] public section

noncomputable section

namespace Cert.MixOutVal

open Idealize.ShloMosaic Cert.LossVal

/-- A row's mean. -/
def mu (u : Fin 256 → EReal) : EReal := Ideal.div (∑ k, u k) (Ideal.ofBits FTy.f32 1132462080#32)
/-- The row less its mean. -/
def xm (u : Fin 256 → EReal) (j : Fin 256) : EReal := u j - mu u
/-- The mean of its squares, with the epsilon. -/
def lv (u : Fin 256 → EReal) : EReal := Ideal.div (∑ k, xm u k * xm u k) (Ideal.ofBits FTy.f32 1132462080#32) + Ideal.ofBits FTy.f32 897988541#32
/-- The factor the row is scaled by. -/
def li (u : Fin 256 → EReal) : EReal := Ideal.rsqrt (lv u)
/-- The layer norm. -/
def lp (g e u : Fin 256 → EReal) (j : Fin 256) : EReal := xm u j * li u * g j + e j
/-- What the cotangent `z` sends back through the mean of squares. -/
def lc (u z : Fin 256 → EReal) : EReal :=
  Ideal.div ((∑ k, xm u k * z k) * (Ideal.ofBits FTy.f32 3204448256#32 * Ideal.div (li u) (lv u))) (Ideal.ofBits FTy.f32 1132462080#32)
/-- The gradient of the row less its mean. -/
def lb (u z : Fin 256 → EReal) (j : Fin 256) : EReal := z j * li u + xm u j * lc u z + lc u z * xm u j
/-- The gradient of the row. -/
def lback (u z : Fin 256 → EReal) (j : Fin 256) : EReal := lb u z j + Ideal.div (∑ k, -(lb u z k)) (Ideal.ofBits FTy.f32 1132462080#32)

/-- The convolution's branch after its gate and product, from the row `p` before the gate. -/
def hh (p : Fin 256 → EReal) (j : Fin 256) : EReal := p j * sg (p j)
def oc (P : Fin 256 → Fin 256 → EReal) (p : Fin 256 → EReal) (j : Fin 256) : EReal := ∑ k, hh p k * P k j
/-- The state-space branch's product, its two halves, and the gated row. -/
def tt (G : Fin 256 → Fin 512 → EReal) (y : Fin 256 → EReal) (q : Fin 512) : EReal := ∑ k, y k * G k q
def ya (G : Fin 256 → Fin 512 → EReal) (y : Fin 256 → EReal) (j : Fin 256) : EReal := tt G y ⟨j.val, by omega⟩
def yb (G : Fin 256 → Fin 512 → EReal) (y : Fin 256 → EReal) (j : Fin 256) : EReal := tt G y ⟨256 + j.val, by omega⟩
def os (G : Fin 256 → Fin 512 → EReal) (y : Fin 256 → EReal) (j : Fin 256) : EReal := ya G y j * sg (yb G y j)
/-- The cotangent sent back through the output product, and its three parts. -/
def dm (W : Fin 1024 → Fin 1024 → EReal) (z : Fin 1024 → EReal) (q : Fin 1024) : EReal := ∑ k, z k * W q k
def d1 (W : Fin 1024 → Fin 1024 → EReal) (z : Fin 1024 → EReal) (j : Fin 512) : EReal := dm W z ⟨j.val, by omega⟩
def d2 (W : Fin 1024 → Fin 1024 → EReal) (z : Fin 1024 → EReal) (j : Fin 256) : EReal := dm W z ⟨512 + j.val, by omega⟩
def d3 (W : Fin 1024 → Fin 1024 → EReal) (z : Fin 1024 → EReal) (j : Fin 256) : EReal := dm W z ⟨768 + j.val, by omega⟩

variable (b g e : Fin 256 → EReal) (P : Fin 256 → Fin 256 → EReal) (G : Fin 256 → Fin 512 → EReal) (g1 : Fin 512 → EReal) (g2 g3 : Fin 256 → EReal)
  (W : Fin 1024 → Fin 1024 → EReal) (z : Fin 1024 → EReal) (o : Fin 512 → EReal) (p u y : Fin 256 → EReal)

/-- The gradient of the attention's branch. -/
def dosb (j : Fin 512) : EReal := Rms.back 1140850688#32 o (fun k => d1 W z k * g1 k) j
/-- The gradient of the convolution's branch. -/
def doc (j : Fin 256) : EReal := Rms.back 1132462080#32 (oc P p) (fun k => d2 W z k * g2 k) j
/-- The gradient of the gated state-space branch. -/
def dos (j : Fin 256) : EReal := Rms.back 1132462080#32 (os G y) (fun k => d3 W z k * g3 k) j
/-- The gradient of the two halves. -/
def dta (j : Fin 256) : EReal := dos G g3 W z y j * sg (yb G y j)
def dtb (j : Fin 256) : EReal := ya G y j * dos G g3 W z y j * (sg (yb G y j) * (1 - sg (yb G y j)))
def dt (q : Fin 512) : EReal := if h : q.val < 256 then dta G g3 W z y ⟨q.val, h⟩ else dtb G g3 W z y ⟨q.val - 256, by omega⟩
/-- The gradient of the state-space branch's input. -/
def dy (k : Fin 256) : EReal := ∑ q, dt G g3 W z y q * G k q
/-- The gradient of the gated row, and of the row before its gate. -/
def dh (j : Fin 256) : EReal := ∑ k, doc P g2 W z p k * P j k
def dp (j : Fin 256) : EReal := dh P g2 W z p j * sg (p j) + p j * dh P g2 W z p j * (sg (p j) * (1 - sg (p j)))
/-- The gradient of the convolution branch's input. -/
def dhc (j : Fin 256) : EReal := lback u (fun k => dp P g2 W z (lp g e u) k * g k) j
/-- The row that the output product is taken of. -/
def mixed (k : Fin 1024) : EReal :=
  if h : k.val < 512 then o ⟨k.val, h⟩ * Rms.inv 1140850688#32 o * g1 ⟨k.val, h⟩
  else if h : k.val - 512 < 256 then oc P p ⟨k.val - 512, h⟩ * Rms.inv 1132462080#32 (oc P p) * g2 ⟨k.val - 512, h⟩
  else os G y ⟨k.val - 512 - 256, by omega⟩ * Rms.inv 1132462080#32 (os G y) * g3 ⟨k.val - 512 - 256, by omega⟩

/-- What comes back through the mean of squares, as a square's derivative is written. -/
def rb (u z : Fin 256 → EReal) (j : Fin 256) : EReal := lc u z * (Ideal.ofBits FTy.f32 1073741824#32 * xm u j)
/-- The gradient of the row in that form, the two sums apart. -/
def rback (u z : Fin 256 → EReal) (j : Fin 256) : EReal :=
  z j * li u + rb u z j + Ideal.div ((∑ k, -(z k * li u)) + ∑ k, -(rb u z k)) (Ideal.ofBits FTy.f32 1132462080#32)
/-- The convolution branch's gradient in that form. -/
def rdhc (j : Fin 256) : EReal := rback u (fun k => dp P g2 W z (lp g e u) k * g k) j

end Cert.MixOutVal

end
-- ==== Proof.MixOut.Kern.lean ====
/- The values of the output product's gradient call's body, read at an index. -/
module

public import proofs.«01_k».proof.Proof.Base
public import proofs.«01_k».proof.Proof.Idx
public import proofs.«01_k».proof.Proof.MixOut.Math
public import proofs.«01_k».proof.Proof.MixOut.Terms
public import Idealize.ShloMosaic.Lib.Pointwise

@[expose] public section

set_option maxRecDepth 16384

noncomputable section

namespace Cert.MixOutVal

open Idealize.ShloMosaic Idealize.ShloMosaic.Pointwise Cert.Base Cert.LossVal Cert.MixOutIdeal Cert.MixOutIdeal.Gen Cert.MixOutIdeal.Run

variable (x0 : Vec Ideal S512x1024 .f32) (x1 : Vec Ideal S512x512 .f32) (x2 : Vec Ideal S512x256 .f32) (x3 : Vec Ideal S512x256 .f32) (x4 : Vec Ideal S1x256 .f32) (x5 : Vec Ideal S1x256 .f32) (x6 : Vec Ideal S1x256 .f32) (x7 : Vec Ideal S256x256 .f32) (x8 : Vec Ideal S512x256 .f32) (x9 : Vec Ideal S1x512 .f32) (x10 : Vec Ideal S1x256 .f32) (x11 : Vec Ideal S1x256 .f32) (x12 : Vec Ideal S1024x1024 .f32)

theorem v6_at (s : Fin 1) (j : Fin 256) : v6 x5 (ix2 s j) = row x5 j := by
  obtain rfl : s = 0 := Subsingleton.elim _ _
  unfold v6
  pointwise [k0_pay2] <;> first | rfl | (simp only [Fin.sum_univ_one]; rfl)

theorem v16_at (r : Fin 512) (j : Fin 256) : v16 x2 x4 (ix2 r j) = xm (fun j => mat x2 r j + row x4 j) j := by
  unfold v16
  pointwise [k0_pay3] <;> first | rfl | (simp only [Fin.sum_univ_one]; rfl)

theorem v24_at (r : Fin 512) (s : Fin 1) : v24 x2 x4 (ix2 r s) = li (fun j => mat x2 r j + row x4 j) := by
  unfold v24
  pointwise [k0_pay5, k0_pay4, k0_pay3] <;> first | rfl | (simp only [Fin.sum_univ_one]; rfl)

theorem v27_at (r : Fin 512) (s : Fin 1) : v27 x2 x4 (ix2 r s) = Ideal.ofBits FTy.f32 3204448256#32 * Ideal.div (li (fun j => mat x2 r j + row x4 j)) (lv (fun j => mat x2 r j + row x4 j)) := by
  unfold v27
  pointwise [k0_pay6, k0_pay5, k0_pay4, k0_pay3] <;> first | rfl | (simp only [Fin.sum_univ_one]; rfl)

theorem v29_at (r : Fin 512) (j : Fin 256) : v29 x2 x4 (ix2 r j) = xm (fun j => mat x2 r j + row x4 j) j * li (fun j => mat x2 r j + row x4 j) := by
  unfold v29
  pointwise [k0_pay7, k0_pay5, k0_pay4, k0_pay3] <;> first | rfl | (simp only [Fin.sum_univ_one]; rfl)

theorem v33_at (r : Fin 512) (j : Fin 256) : v33 x2 x4 x5 x6 (ix2 r j) = (lp (row x5) (row x6) (fun j => mat x2 r j + row x4 j)) j := by
  unfold v33
  pointwise [k0_pay8, k0_pay7, k0_pay2, k0_pay5, k0_pay4, k0_pay3] <;> first | rfl | (simp only [Fin.sum_univ_one]; rfl)

theorem v36_at (r : Fin 512) (j : Fin 256) : v36 x2 x4 x5 x6 (ix2 r j) = Ideal.exp (-((lp (row x5) (row x6) (fun j => mat x2 r j + row x4 j)) j)) := by
  unfold v36
  pointwise [k0_pay9, k0_pay8, k0_pay7, k0_pay2, k0_pay5, k0_pay4, k0_pay3]
  simp only [zero_sub]
  rfl

theorem v38_at (r : Fin 512) (j : Fin 256) : v38 x2 x4 x5 x6 (ix2 r j) = 1 + Ideal.exp (-((lp (row x5) (row x6) (fun j => mat x2 r j + row x4 j)) j)) := by
  unfold v38
  pointwise [k0_pay10, k0_pay9, k0_pay8, k0_pay7, k0_pay2, k0_pay5, k0_pay4, k0_pay3]
  simp only [zero_sub]
  rfl

theorem v40_at (r : Fin 512) (j : Fin 256) : v40 x2 x4 x5 x6 (ix2 r j) = sg ((lp (row x5) (row x6) (fun j => mat x2 r j + row x4 j)) j) := by
  have hv38 := v38_at x2 x4 x5 x6
  unfold v40
  pointwise [k0_pay11, hv38] <;> first | rfl | (simp only [Fin.sum_univ_one]; rfl)

theorem v43_at (r : Fin 512) (j : Fin 256) : v43 x2 x4 x5 x6 (ix2 r j) = Ideal.div 1 ((1 + Ideal.exp (-((lp (row x5) (row x6) (fun j => mat x2 r j + row x4 j)) j))) * (1 + Ideal.exp (-((lp (row x5) (row x6) (fun j => mat x2 r j + row x4 j)) j)))) := by
  have hv38 := v38_at x2 x4 x5 x6
  unfold v43
  pointwise [k0_pay12, hv38] <;> first | rfl | (simp only [Fin.sum_univ_one]; rfl)

theorem v44_at (r : Fin 512) (j : Fin 256) : v44 x2 x4 x5 x6 (ix2 r j) = hh (lp (row x5) (row x6) (fun j => mat x2 r j + row x4 j)) j := by
  have hv33 := v33_at x2 x4 x5 x6
  have hv38 := v38_at x2 x4 x5 x6
  unfold v44
  pointwise [k0_pay13, k0_pay11, hv33, hv38] <;> first | rfl | (simp only [Fin.sum_univ_one]; rfl)

theorem v48_at (r : Fin 512) (j : Fin 256) : v48 x2 x4 x5 x6 x7 (ix2 r j) = oc (mat x7) (lp (row x5) (row x6) (fun j => mat x2 r j + row x4 j)) j := by
  have hv33 := v33_at x2 x4 x5 x6
  have hv38 := v38_at x2 x4 x5 x6
  unfold v48
  pointwise [k0_pay14, k0_pay13, k0_pay11, hv33, hv38] <;> first | rfl | (simp only [Fin.sum_univ_one]; rfl)

theorem v55_at (r : Fin 512) (j : Fin 256) : v55 x3 x8 (ix2 r j) = ya (fun k q => mat x8 q k) (mat x3 r) j := by
  unfold v55
  pointwise [k0_pay16, k0_pay15] <;> first | rfl | (simp only [Fin.sum_univ_one]; rfl)

theorem v56_at (r : Fin 512) (j : Fin 256) : v56 x3 x8 (ix2 r j) = yb (fun k q => mat x8 q k) (mat x3 r) j := by
  unfold v56
  pointwise [k0_pay17, k0_pay15] <;> first | rfl | (simp only [Fin.sum_univ_one]; rfl)

theorem v58_at (s : Fin 1) (j : Fin 512) : v58 x9 (ix2 s j) = row x9 j := by
  obtain rfl : s = 0 := Subsingleton.elim _ _
  unfold v58
  pointwise [k0_pay18] <;> first | rfl | (simp only [Fin.sum_univ_one]; rfl)

theorem v60_at (s : Fin 1) (j : Fin 256) : v60 x10 (ix2 s j) = row x10 j := by
  obtain rfl : s = 0 := Subsingleton.elim _ _
  unfold v60
  pointwise [k0_pay19] <;> first | rfl | (simp only [Fin.sum_univ_one]; rfl)

theorem v62_at (s : Fin 1) (j : Fin 256) : v62 x11 (ix2 s j) = row x11 j := by
  obtain rfl : s = 0 := Subsingleton.elim _ _
  unfold v62
  pointwise [k0_pay20] <;> first | rfl | (simp only [Fin.sum_univ_one]; rfl)

theorem v70_at (r : Fin 512) (s : Fin 1) : v70 x1 (ix2 r s) = Rms.inv 1140850688#32 (mat x1 r) := by
  unfold v70
  pointwise [k0_pay22, k0_pay21] <;> first | rfl | (simp only [Fin.sum_univ_one]; rfl)

theorem v73_at (r : Fin 512) (s : Fin 1) : v73 x1 (ix2 r s) = Ideal.ofBits FTy.f32 3204448256#32 * Ideal.div (Rms.inv 1140850688#32 (mat x1 r)) (Rms.ms 1140850688#32 (mat x1 r)) := by
  unfold v73
  pointwise [k0_pay23, k0_pay22, k0_pay21] <;> first | rfl | (simp only [Fin.sum_univ_one]; rfl)

theorem v75_at (r j : Fin 512) : v75 x1 (ix2 r j) = mat x1 r j * Rms.inv 1140850688#32 (mat x1 r) := by
  unfold v75
  pointwise [k0_pay24, k0_pay22, k0_pay21] <;> first | rfl | (simp only [Fin.sum_univ_one]; rfl)

theorem v77_at (r j : Fin 512) : v77 x1 x9 (ix2 r j) = mat x1 r j * Rms.inv 1140850688#32 (mat x1 r) * row x9 j := by
  unfold v77
  pointwise [k0_pay25, k0_pay24, k0_pay22, k0_pay21, k0_pay18] <;> first | rfl | (simp only [Fin.sum_univ_one]; rfl)

theorem v78_at (r : Fin 512) (j : Fin 256) : v78 x2 x4 x5 x6 x7 (ix2 r j) = oc (mat x7) (lp (row x5) (row x6) (fun j => mat x2 r j + row x4 j)) j * oc (mat x7) (lp (row x5) (row x6) (fun j => mat x2 r j + row x4 j)) j := by
  have hv33 := v33_at x2 x4 x5 x6
  have hv38 := v38_at x2 x4 x5 x6
  unfold v78
  pointwise [k0_pay26, k0_pay14, k0_pay13, k0_pay11, hv33, hv38] <;> first | rfl | (simp only [Fin.sum_univ_one]; rfl)

theorem v85_at (r : Fin 512) (s : Fin 1) : v85 x2 x4 x5 x6 x7 (ix2 r s) = Rms.inv 1132462080#32 (oc (mat x7) (lp (row x5) (row x6) (fun j => mat x2 r j + row x4 j))) := by
  have hv78 := v78_at x2 x4 x5 x6 x7
  unfold v85
  pointwise [k0_pay28, k0_pay27, hv78] <;> first | rfl | (simp only [Fin.sum_univ_one]; rfl)

theorem v88_at (r : Fin 512) (s : Fin 1) : v88 x2 x4 x5 x6 x7 (ix2 r s) = Ideal.ofBits FTy.f32 3204448256#32 * Ideal.div (Rms.inv 1132462080#32 (oc (mat x7) (lp (row x5) (row x6) (fun j => mat x2 r j + row x4 j)))) (Rms.ms 1132462080#32 (oc (mat x7) (lp (row x5) (row x6) (fun j => mat x2 r j + row x4 j)))) := by
  have hv78 := v78_at x2 x4 x5 x6 x7
  unfold v88
  pointwise [k0_pay29, k0_pay28, k0_pay27, hv78] <;> first | rfl | (simp only [Fin.sum_univ_one]; rfl)

theorem v90_at (r : Fin 512) (j : Fin 256) : v90 x2 x4 x5 x6 x7 (ix2 r j) = oc (mat x7) (lp (row x5) (row x6) (fun j => mat x2 r j + row x4 j)) j * Rms.inv 1132462080#32 (oc (mat x7) (lp (row x5) (row x6) (fun j => mat x2 r j + row x4 j))) := by
  have hv48 := v48_at x2 x4 x5 x6 x7
  have hv78 := v78_at x2 x4 x5 x6 x7
  unfold v90
  pointwise [k0_pay30, k0_pay28, k0_pay27, hv48, hv78] <;> first | rfl | (simp only [Fin.sum_univ_one]; rfl)

theorem v95_at (r : Fin 512) (j : Fin 256) : v95 x3 x8 (ix2 r j) = Ideal.exp (-(yb (fun k q => mat x8 q k) (mat x3 r) j)) := by
  have hv56 := v56_at x3 x8
  unfold v95
  pointwise [k0_pay31, hv56]
  simp only [zero_sub]

theorem v99_at (r : Fin 512) (j : Fin 256) : v99 x3 x8 (ix2 r j) = sg (yb (fun k q => mat x8 q k) (mat x3 r) j) := by
  have hv56 := v56_at x3 x8
  unfold v99
  pointwise [k0_pay33, k0_pay32, k0_pay31, hv56]
  simp only [zero_sub]
  rfl

theorem v102_at (r : Fin 512) (j : Fin 256) : v102 x3 x8 (ix2 r j) = Ideal.div 1 ((1 + Ideal.exp (-(yb (fun k q => mat x8 q k) (mat x3 r) j))) * (1 + Ideal.exp (-(yb (fun k q => mat x8 q k) (mat x3 r) j)))) := by
  have hv56 := v56_at x3 x8
  unfold v102
  pointwise [k0_pay34, k0_pay32, k0_pay31, hv56]
  simp only [zero_sub]

theorem v103_at (r : Fin 512) (j : Fin 256) : v103 x3 x8 (ix2 r j) = os (fun k q => mat x8 q k) (mat x3 r) j := by
  have hv55 := v55_at x3 x8
  have hv56 := v56_at x3 x8
  unfold v103
  pointwise [k0_pay36, k0_pay35, k0_pay33, k0_pay32, k0_pay31, hv55, hv56]
  simp only [zero_sub]
  rfl

theorem v111_at (r : Fin 512) (s : Fin 1) : v111 x3 x8 (ix2 r s) = Rms.inv 1132462080#32 (os (fun k q => mat x8 q k) (mat x3 r)) := by
  have hv55 := v55_at x3 x8
  have hv56 := v56_at x3 x8
  unfold v111
  pointwise [k0_pay37, k0_pay36, k0_pay35, k0_pay33, k0_pay32, k0_pay31, hv55, hv56]
  simp only [zero_sub]
  rfl

theorem v114_at (r : Fin 512) (s : Fin 1) : v114 x3 x8 (ix2 r s) = Ideal.ofBits FTy.f32 3204448256#32 * Ideal.div (Rms.inv 1132462080#32 (os (fun k q => mat x8 q k) (mat x3 r))) (Rms.ms 1132462080#32 (os (fun k q => mat x8 q k) (mat x3 r))) := by
  have hv55 := v55_at x3 x8
  have hv56 := v56_at x3 x8
  unfold v114
  pointwise [k0_pay38, k0_pay37, k0_pay36, k0_pay35, k0_pay33, k0_pay32, k0_pay31, hv55, hv56]
  simp only [zero_sub]
  rfl

theorem v116_at (r : Fin 512) (j : Fin 256) : v116 x3 x8 (ix2 r j) = os (fun k q => mat x8 q k) (mat x3 r) j * Rms.inv 1132462080#32 (os (fun k q => mat x8 q k) (mat x3 r)) := by
  have hv55 := v55_at x3 x8
  have hv56 := v56_at x3 x8
  unfold v116
  pointwise [k0_pay39, k0_pay37, k0_pay36, k0_pay35, k0_pay33, k0_pay32, k0_pay31, hv55, hv56]
  simp only [zero_sub]
  rfl

theorem v119_at (r : Fin 512) (j : Fin 1024) : v119 x1 x2 x3 x4 x5 x6 x7 x8 x9 x10 x11 (ix2 r j) = mixed (mat x7) (fun k q => mat x8 q k) (row x9) (row x10) (row x11) (mat x1 r) (lp (row x5) (row x6) (fun j => mat x2 r j + row x4 j)) (mat x3 r) j := by
  have hv48 := v48_at x2 x4 x5 x6 x7
  have hv55 := v55_at x3 x8
  have hv56 := v56_at x3 x8
  have hv60 := v60_at x10
  have hv62 := v62_at x11
  have hv77 := v77_at x1 x9
  have hv78 := v78_at x2 x4 x5 x6 x7
  unfold v119
  pointwise [k0_pay40, k0_pay30, k0_pay28, k0_pay27, k0_pay39, k0_pay37, k0_pay36, k0_pay35, k0_pay33, k0_pay32, k0_pay31, hv48, hv55, hv56, hv60, hv62, hv77, hv78]
  simp only [zero_sub]
  rfl

theorem v123_at (r : Fin 512) (j : Fin 1024) : v123 x0 x12 (ix2 r j) = dm (mat x12) (mat x0 r) j := by
  unfold v123
  pointwise [k0_pay41] <;> first | rfl | (simp only [Fin.sum_univ_one]; rfl)

theorem v124_at (r j : Fin 512) : v124 x0 x12 (ix2 r j) = d1 (mat x12) (mat x0 r) j := by
  have hv123 := v123_at x0 x12
  unfold v124
  pointwise [k0_pay42, hv123] <;> first | rfl | (simp only [Fin.sum_univ_one]; rfl)

theorem v129_at (s : Fin 1) (j : Fin 256) : v129 x0 x3 x8 x12 (ix2 s j) = ∑ r : Fin 512, os (fun k q => mat x8 q k) (mat x3 r) j * Rms.inv 1132462080#32 (os (fun k q => mat x8 q k) (mat x3 r)) * d3 (mat x12) (mat x0 r) j := by
  have hv116 := v116_at x3 x8
  have hv123 := v123_at x0 x12
  unfold v129
  pointwise [k0_pay45, k0_pay44, hv116, hv123] <;> first | rfl | (simp only [Fin.sum_univ_one]; rfl)

theorem v148_at (r : Fin 512) (j : Fin 256) : v148 x0 x3 x8 x11 x12 (ix2 r j) = dta (fun k q => mat x8 q k) (row x11) (mat x12) (mat x0 r) (mat x3 r) j := by
  have hv62 := v62_at x11
  have hv99 := v99_at x3 x8
  have hv103 := v103_at x3 x8
  have hv111 := v111_at x3 x8
  have hv114 := v114_at x3 x8
  have hv123 := v123_at x0 x12
  unfold v148
  pointwise [k0_pay47, k0_pay46, k0_pay44, hv62, hv99, hv103, hv111, hv114, hv123] <;> first | rfl | (simp only [Fin.sum_univ_one]; rfl)

theorem v156_at (r : Fin 512) (j : Fin 256) : v156 x0 x3 x8 x11 x12 (ix2 r j) = dtb (fun k q => mat x8 q k) (row x11) (mat x12) (mat x0 r) (mat x3 r) j := by
  have hv55 := v55_at x3 x8
  have hv62 := v62_at x11
  have hv95 := v95_at x3 x8
  have hv102 := v102_at x3 x8
  have hv103 := v103_at x3 x8
  have hv111 := v111_at x3 x8
  have hv114 := v114_at x3 x8
  have hv123 := v123_at x0 x12
  unfold v156
  pointwise [k0_pay48, k0_pay46, k0_pay44, hv55, hv62, hv95, hv102, hv103, hv111, hv114, hv123]
  simp only [Fin.sum_univ_one, mul_one, zero_sub]
  rw [FfnVal.sg_back]
  rfl

theorem v159_at (s : Fin 1) (j : Fin 256) : v159 x0 x2 x4 x5 x6 x7 x12 (ix2 s j) = ∑ r : Fin 512, oc (mat x7) (lp (row x5) (row x6) (fun j => mat x2 r j + row x4 j)) j * Rms.inv 1132462080#32 (oc (mat x7) (lp (row x5) (row x6) (fun j => mat x2 r j + row x4 j))) * d2 (mat x12) (mat x0 r) j := by
  have hv90 := v90_at x2 x4 x5 x6 x7
  have hv123 := v123_at x0 x12
  unfold v159
  pointwise [k0_pay49, k0_pay43, hv90, hv123] <;> first | rfl | (simp only [Fin.sum_univ_one]; rfl)

theorem v166_at (r : Fin 512) (j : Fin 256) : v166 x0 x2 x4 x5 x6 x7 x10 x12 (ix2 r j) = d2 (mat x12) (mat x0 r) j * row x10 j * Rms.inv 1132462080#32 (oc (mat x7) (lp (row x5) (row x6) (fun j => mat x2 r j + row x4 j))) := by
  have hv60 := v60_at x10
  have hv85 := v85_at x2 x4 x5 x6 x7
  have hv123 := v123_at x0 x12
  unfold v166
  pointwise [k0_pay51, k0_pay50, k0_pay43, hv60, hv85, hv123] <;> first | rfl | (simp only [Fin.sum_univ_one]; rfl)

theorem v172_at (r : Fin 512) (j : Fin 256) : v172 x0 x2 x4 x5 x6 x7 x10 x12 (ix2 r j) = Rms.sc 1132462080#32 (oc (mat x7) (lp (row x5) (row x6) (fun j => mat x2 r j + row x4 j))) (fun k => d2 (mat x12) (mat x0 r) k * row x10 k) := by
  have hv48 := v48_at x2 x4 x5 x6 x7
  have hv60 := v60_at x10
  have hv88 := v88_at x2 x4 x5 x6 x7
  have hv123 := v123_at x0 x12
  unfold v172
  pointwise [k0_pay52, k0_pay50, k0_pay43, hv48, hv60, hv88, hv123] <;> first | rfl | (simp only [Fin.sum_univ_one]; rfl)

theorem v176_at (r : Fin 512) (j : Fin 256) : v176 x0 x2 x4 x5 x6 x7 x10 x12 (ix2 r j) = doc (mat x7) (row x10) (mat x12) (mat x0 r) (lp (row x5) (row x6) (fun j => mat x2 r j + row x4 j)) j := by
  have hv48 := v48_at x2 x4 x5 x6 x7
  have hv166 := v166_at x0 x2 x4 x5 x6 x7 x10 x12
  have hv172 := v172_at x0 x2 x4 x5 x6 x7 x10 x12
  unfold v176
  pointwise [k0_pay53, hv48, hv166, hv172] <;> first | rfl | (simp only [Fin.sum_univ_one]; rfl)

theorem v179_at (s : Fin 1) (j : Fin 512) : v179 x0 x1 x12 (ix2 s j) = ∑ r : Fin 512, mat x1 r j * Rms.inv 1140850688#32 (mat x1 r) * d1 (mat x12) (mat x0 r) j := by
  have hv75 := v75_at x1
  have hv124 := v124_at x0 x12
  unfold v179
  pointwise [k0_pay54, hv75, hv124] <;> first | rfl | (simp only [Fin.sum_univ_one]; rfl)

theorem v196_at (r j : Fin 512) : v196 x0 x1 x9 x12 (ix2 r j) = dosb (row x9) (mat x12) (mat x0 r) (mat x1 r) j := by
  have hv58 := v58_at x9
  have hv70 := v70_at x1
  have hv73 := v73_at x1
  have hv124 := v124_at x0 x12
  unfold v196
  pointwise [k0_pay55, hv58, hv70, hv73, hv124] <;> first | rfl | (simp only [Fin.sum_univ_one]; rfl)

theorem v197_at (r j : Fin 512) : v197 x0 x3 x8 x11 x12 (ix2 r j) = dt (fun k q => mat x8 q k) (row x11) (mat x12) (mat x0 r) (mat x3 r) j := by
  have hv148 := v148_at x0 x3 x8 x11 x12
  have hv156 := v156_at x0 x3 x8 x11 x12
  unfold v197
  pointwise [k0_pay56, hv148, hv156] <;> first | rfl | (simp only [Fin.sum_univ_one]; rfl)

theorem v214_at (s : Fin 1) (j : Fin 256) : v214 x0 x2 x4 x5 x6 x7 x10 x12 (ix2 s j) = ∑ r : Fin 512, dp (mat x7) (row x10) (mat x12) (mat x0 r) (lp (row x5) (row x6) (fun j => mat x2 r j + row x4 j)) j := by
  have hv33 := v33_at x2 x4 x5 x6
  have hv36 := v36_at x2 x4 x5 x6
  have hv40 := v40_at x2 x4 x5 x6
  have hv43 := v43_at x2 x4 x5 x6
  have hv48 := v48_at x2 x4 x5 x6 x7
  have hv166 := v166_at x0 x2 x4 x5 x6 x7 x10 x12
  have hv172 := v172_at x0 x2 x4 x5 x6 x7 x10 x12
  unfold v214
  pointwise [k0_pay58, k0_pay57, k0_pay53, hv33, hv36, hv40, hv43, hv48, hv166, hv172]
  simp only [mul_one, zero_sub, FfnVal.sg_back]
  rfl

theorem v217_at (s : Fin 1) (j : Fin 256) : v217 x0 x2 x4 x5 x6 x7 x10 x12 (ix2 s j) = ∑ r : Fin 512, xm (fun j => mat x2 r j + row x4 j) j * li (fun j => mat x2 r j + row x4 j) * dp (mat x7) (row x10) (mat x12) (mat x0 r) (lp (row x5) (row x6) (fun j => mat x2 r j + row x4 j)) j := by
  have hv29 := v29_at x2 x4
  have hv33 := v33_at x2 x4 x5 x6
  have hv36 := v36_at x2 x4 x5 x6
  have hv40 := v40_at x2 x4 x5 x6
  have hv43 := v43_at x2 x4 x5 x6
  have hv48 := v48_at x2 x4 x5 x6 x7
  have hv166 := v166_at x0 x2 x4 x5 x6 x7 x10 x12
  have hv172 := v172_at x0 x2 x4 x5 x6 x7 x10 x12
  unfold v217
  pointwise [k0_pay59, k0_pay57, k0_pay53, hv29, hv33, hv36, hv40, hv43, hv48, hv166, hv172]
  simp only [mul_one, zero_sub, FfnVal.sg_back]
  rfl

theorem v219_at (r : Fin 512) (j : Fin 256) : v219 x0 x2 x4 x5 x6 x7 x10 x12 (ix2 r j) = dp (mat x7) (row x10) (mat x12) (mat x0 r) (lp (row x5) (row x6) (fun j => mat x2 r j + row x4 j)) j * row x5 j := by
  have hv6 := v6_at x5
  have hv33 := v33_at x2 x4 x5 x6
  have hv36 := v36_at x2 x4 x5 x6
  have hv40 := v40_at x2 x4 x5 x6
  have hv43 := v43_at x2 x4 x5 x6
  have hv48 := v48_at x2 x4 x5 x6 x7
  have hv166 := v166_at x0 x2 x4 x5 x6 x7 x10 x12
  have hv172 := v172_at x0 x2 x4 x5 x6 x7 x10 x12
  unfold v219
  pointwise [k0_pay60, k0_pay57, k0_pay53, hv6, hv33, hv36, hv40, hv43, hv48, hv166, hv172]
  simp only [mul_one, zero_sub, FfnVal.sg_back]
  rfl

theorem v220_at (r : Fin 512) (j : Fin 256) : v220 x0 x2 x4 x5 x6 x7 x10 x12 (ix2 r j) = xm (fun j => mat x2 r j + row x4 j) j * (dp (mat x7) (row x10) (mat x12) (mat x0 r) (lp (row x5) (row x6) (fun j => mat x2 r j + row x4 j)) j * row x5 j) := by
  have hv6 := v6_at x5
  have hv16 := v16_at x2 x4
  have hv33 := v33_at x2 x4 x5 x6
  have hv36 := v36_at x2 x4 x5 x6
  have hv40 := v40_at x2 x4 x5 x6
  have hv43 := v43_at x2 x4 x5 x6
  have hv48 := v48_at x2 x4 x5 x6 x7
  have hv166 := v166_at x0 x2 x4 x5 x6 x7 x10 x12
  have hv172 := v172_at x0 x2 x4 x5 x6 x7 x10 x12
  unfold v220
  pointwise [k0_pay61, k0_pay60, k0_pay57, k0_pay53, hv6, hv16, hv33, hv36, hv40, hv43, hv48, hv166, hv172]
  simp only [mul_one, zero_sub, FfnVal.sg_back]
  rfl

theorem o14_at (r : Fin 512) (j : Fin 256) : o14 x0 x2 x4 x5 x6 x7 x10 x12 (ix2 r j) = dhc (row x5) (row x6) (mat x7) (row x10) (mat x12) (mat x0 r) (fun j => mat x2 r j + row x4 j) j := by
  have hv16 := v16_at x2 x4
  have hv24 := v24_at x2 x4
  have hv27 := v27_at x2 x4
  have hv219 := v219_at x0 x2 x4 x5 x6 x7 x10 x12
  have hv220 := v220_at x0 x2 x4 x5 x6 x7 x10 x12
  unfold o14
  pointwise [k0_pay62, hv16, hv24, hv27, hv219, hv220]
  simp only [Fin.sum_univ_one, zero_sub]
  rfl

theorem v246_at (s : Fin 1) (j : Fin 256) : v246 x0 x2 x4 x5 x6 x7 x10 x12 (ix2 s j) = ∑ r : Fin 512, dhc (row x5) (row x6) (mat x7) (row x10) (mat x12) (mat x0 r) (fun j => mat x2 r j + row x4 j) j := by
  have hv16 := v16_at x2 x4
  have hv24 := v24_at x2 x4
  have hv27 := v27_at x2 x4
  have hv219 := v219_at x0 x2 x4 x5 x6 x7 x10 x12
  have hv220 := v220_at x0 x2 x4 x5 x6 x7 x10 x12
  unfold v246
  pointwise [k0_pay63, k0_pay62, hv16, hv24, hv27, hv219, hv220]
  simp only [Fin.sum_univ_one, zero_sub]
  rfl

theorem o15_at (r : Fin 512) (j : Fin 256) : o15 x0 x3 x8 x11 x12 (ix2 r j) = dy (fun k q => mat x8 q k) (row x11) (mat x12) (mat x0 r) (mat x3 r) j := by
  have hv197 := v197_at x0 x3 x8 x11 x12
  unfold o15
  pointwise [k0_pay64, hv197] <;> first | rfl | (simp only [Fin.sum_univ_one]; rfl)

theorem v257_at (k l : Fin 1024) : v257 x0 x1 x2 x3 x4 x5 x6 x7 x8 x9 x10 x11 (ix2 k l) = ∑ r : Fin 512, mixed (mat x7) (fun k q => mat x8 q k) (row x9) (row x10) (row x11) (mat x1 r) (lp (row x5) (row x6) (fun j => mat x2 r j + row x4 j)) (mat x3 r) k * mat x0 r l := by
  have hv119 := v119_at x1 x2 x3 x4 x5 x6 x7 x8 x9 x10 x11
  unfold v257
  pointwise [k0_pay65, hv119] <;> first | rfl | (simp only [Fin.sum_univ_one]; rfl)

theorem o19_at (k l : Fin 256) : o19 x0 x2 x4 x5 x6 x7 x10 x12 (ix2 k l) = ∑ r : Fin 512, hh (lp (row x5) (row x6) (fun j => mat x2 r j + row x4 j)) k * doc (mat x7) (row x10) (mat x12) (mat x0 r) (lp (row x5) (row x6) (fun j => mat x2 r j + row x4 j)) l := by
  have hv44 := v44_at x2 x4 x5 x6
  have hv176 := v176_at x0 x2 x4 x5 x6 x7 x10 x12
  unfold o19
  pointwise [k0_pay69, hv44, hv176] <;> first | rfl | (simp only [Fin.sum_univ_one]; rfl)

theorem o20_at (k : Fin 512) (l : Fin 256) : o20 x0 x3 x8 x11 x12 (ix2 k l) = ∑ r : Fin 512, dt (fun k q => mat x8 q k) (row x11) (mat x12) (mat x0 r) (mat x3 r) k * mat x3 r l := by
  have hv197 := v197_at x0 x3 x8 x11 x12
  unfold o20
  pointwise [k0_pay67, hv197] <;> first | rfl | (simp only [Fin.sum_univ_one]; rfl)

end Cert.MixOutVal

end
-- ==== Proof.MixOut.Ref.lean ====
/- What the reference of the output product's gradient computes, read at an index. -/
module

public import proofs.«01_k».proof.Proof.Base
public import proofs.«01_k».proof.Proof.MixOut.Math
public import proofs.«01_k».proof.Proof.Gen.MixOutRefIdeal.Read

@[expose] public section

set_option maxRecDepth 16384

noncomputable section

namespace Cert.MixOutVal

open Idealize.ShloMosaic Idealize.ShloMosaic.Pointwise Cert.Base Cert.LossVal Cert.MixOutRefIdeal Cert.MixOutRefIdeal.Read

variable (x0 : (⟨S8192x512, .f32⟩ : BufTy).Contents (Elt Ideal)) (x1 : (⟨S8192x256, .f32⟩ : BufTy).Contents (Elt Ideal)) (x2 : (⟨S8192x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256x512, .f32⟩ : BufTy).Contents (Elt Ideal)) (x8 : (⟨S1024, .f32⟩ : BufTy).Contents (Elt Ideal)) (x9 : (⟨S1024x1024, .f32⟩ : BufTy).Contents (Elt Ideal)) (x10 : (⟨S8192x1024, .f32⟩ : BufTy).Contents (Elt Ideal))

/-- The three norms' scales, and a row before the layer norm. -/
def ga (j : Fin 512) : EReal := vec x8 ⟨j.val, by omega⟩
def gb (j : Fin 256) : EReal := vec x8 ⟨512 + j.val, by omega⟩
def gc (j : Fin 256) : EReal := vec x8 ⟨768 + j.val, by omega⟩
def uu (r : Fin 8192) (j : Fin 256) : EReal := mat x1 r j + vec x3 j

theorem r17_at (r : Fin 8192) (j : Fin 256) : val_main_v17 (F := Ideal) x1 x3 (ix2 r j) = xm (uu x1 x3 r) j := by
  pointwise [val_main_v17, val_main_v16, val_main_v6, val_main_v5, val_main_cst_0, val_main_v4, val_main_v3, val_main_cst, val_main_v2, val_main_v1,
    val_main_v0] <;> first | rfl | (simp only [Fin.sum_univ_one]; rfl)

theorem r8_at (r : Fin 8192) (j : Fin 256) : val_main_v8 (F := Ideal) x1 x3 (ix2 r j) = xm (uu x1 x3 r) j := by
  pointwise [val_main_v8, val_main_v7, val_main_v6, val_main_v5, val_main_cst_0, val_main_v4, val_main_v3, val_main_cst, val_main_v2, val_main_v1,
    val_main_v0] <;> first | rfl | (simp only [Fin.sum_univ_one]; rfl)

theorem r19_at (r : Fin 8192) (s : Fin 1) : val_main_v19 (F := Ideal) x1 x3 (ix2 r s) = lv (uu x1 x3 r) := by
  have hv8 := r8_at x1 x3
  pointwise [val_main_v19, val_main_v18, val_main_cst_4, val_main_v15, val_main_v14, val_main_cst_3, val_main_v13, val_main_v12, val_main_cst_2,
    val_main_v9, hv8] <;> first | rfl | (simp only [Fin.sum_univ_one]; rfl)

theorem r20_at (r : Fin 8192) (s : Fin 1) : val_main_v20 (F := Ideal) x1 x3 (ix2 r s) = li (uu x1 x3 r) := by
  have hv19 := r19_at x1 x3
  pointwise [val_main_v20, hv19] <;> first | rfl | (simp only [Fin.sum_univ_one]; rfl)

theorem r25_at (r : Fin 8192) (j : Fin 256) : val_main_v25 (F := Ideal) x1 x3 (ix2 r j) = xm (uu x1 x3 r) j * li (uu x1 x3 r) := by
  have hv17 := r17_at x1 x3
  have hv20 := r20_at x1 x3
  pointwise [val_main_v25, val_main_v24, hv17, hv20] <;> first | rfl | (simp only [Fin.sum_univ_one]; rfl)

theorem r31_at (r : Fin 8192) (j : Fin 256) : val_main_v31 (F := Ideal) x1 x3 x4 x5 (ix2 r j) = (lp (vec x4) (vec x5) (uu x1 x3 r)) j := by
  have hv25 := r25_at x1 x3
  pointwise [val_main_v31, val_main_v30, val_main_v29, val_main_v28, val_main_v27, val_main_v26, hv25] <;> first | rfl | (simp only [Fin.sum_univ_one]; rfl)

theorem r32_2_at (r : Fin 8192) (j : Fin 256) : val_main_v32_2 (F := Ideal) x1 x3 x4 x5 (ix2 r j) = sg ((lp (vec x4) (vec x5) (uu x1 x3 r)) j) := by
  have hv31 := r31_at x1 x3 x4 x5
  pointwise [val_main_v32_2, val_main_call0_v3, val_main_call0_v1, val_main_call0_v0, val_main_call0_v2, val_main_call0_cst, val_main_call0_v4,
    val_main_call0_cst_0, hv31] <;> first | rfl | (simp only [Fin.sum_univ_one]; rfl)

theorem r32_1_at (r : Fin 8192) (j : Fin 256) : val_main_v32_1 (F := Ideal) x1 x3 x4 x5 (ix2 r j) = sg ((lp (vec x4) (vec x5) (uu x1 x3 r)) j) * (1 - sg ((lp (vec x4) (vec x5) (uu x1 x3 r)) j)) := by
  have hv31 := r31_at x1 x3 x4 x5
  pointwise [val_main_v32_1, val_main_call0_v7, val_main_v32_2, val_main_call0_v3, val_main_call0_v1, val_main_call0_v0, val_main_call0_v2,
    val_main_call0_cst, val_main_call0_v4, val_main_call0_cst_0, val_main_call0_v6, val_main_call0_cst_1, hv31] <;> first | rfl | (simp only [Fin.sum_univ_one]; rfl)

theorem r32_0_at (r : Fin 8192) (j : Fin 256) : val_main_v32_0 (F := Ideal) x1 x3 x4 x5 (ix2 r j) = hh (lp (vec x4) (vec x5) (uu x1 x3 r)) j := by
  have hv31 := r31_at x1 x3 x4 x5
  pointwise [val_main_v32_0, val_main_v32_2, val_main_call0_v3, val_main_call0_v1, val_main_call0_v0, val_main_call0_v2, val_main_call0_cst,
    val_main_call0_v4, val_main_call0_cst_0, hv31] <;> first | rfl | (simp only [Fin.sum_univ_one]; rfl)

theorem r33_at (r : Fin 8192) (j : Fin 256) : val_main_v33 (F := Ideal) x1 x3 x4 x5 x6 (ix2 r j) = oc (mat x6) (lp (vec x4) (vec x5) (uu x1 x3 r)) j := by
  have hv32_0 := r32_0_at x1 x3 x4 x5
  pointwise [val_main_v33, hv32_0] <;> first | rfl | (simp only [Fin.sum_univ_one]; rfl)

theorem r35_at (r : Fin 8192) (j : Fin 256) : val_main_v35 (F := Ideal) x2 x7 (ix2 r j) = ya (mat x7) (mat x2 r) j := by
  pointwise [val_main_v35, val_main_v34] <;> first | rfl | (simp only [Fin.sum_univ_one]; rfl)

theorem r36_at (r : Fin 8192) (j : Fin 256) : val_main_v36 (F := Ideal) x2 x7 (ix2 r j) = yb (mat x7) (mat x2 r) j := by
  pointwise [val_main_v36, val_main_v34] <;> first | rfl | (simp only [Fin.sum_univ_one]; rfl)

theorem r42_at (r : Fin 8192) (j : Fin 256) : val_main_v42 (F := Ideal) x2 x7 (ix2 r j) = sg (yb (mat x7) (mat x2 r) j) := by
  have hv36 := r36_at x2 x7
  pointwise [val_main_v42, val_main_v40, val_main_v38, val_main_v37, val_main_v39, val_main_cst_6, val_main_v41, val_main_cst_7, hv36] <;> first | rfl | (simp only [Fin.sum_univ_one]; rfl)

theorem r45_at (r : Fin 8192) (j : Fin 256) : val_main_v45 (F := Ideal) x2 x7 (ix2 r j) = sg (yb (mat x7) (mat x2 r) j) * (1 - sg (yb (mat x7) (mat x2 r) j)) := by
  have hv42 := r42_at x2 x7
  pointwise [val_main_v45, val_main_v44, val_main_v43, val_main_cst_8, hv42] <;> first | rfl | (simp only [Fin.sum_univ_one]; rfl)

theorem r46_at (r : Fin 8192) (j : Fin 256) : val_main_v46 (F := Ideal) x2 x7 (ix2 r j) = os (mat x7) (mat x2 r) j := by
  have hv35 := r35_at x2 x7
  have hv42 := r42_at x2 x7
  pointwise [val_main_v46, hv35, hv42] <;> first | rfl | (simp only [Fin.sum_univ_one]; rfl)

theorem r55_at (r : Fin 8192) (s : Fin 1) : val_main_v55 (F := Ideal) x0 (ix2 r s) = Rms.inv 1140850688#32 (mat x0 r) := by
  pointwise [val_main_v55, val_main_v54, val_main_v53, val_main_cst_11, val_main_v52, val_main_v51, val_main_cst_10, val_main_v50, val_main_v49,
    val_main_cst_9, val_main_v48] <;> first | rfl | (simp only [Fin.sum_univ_one]; rfl)

theorem r60_at (r : Fin 8192) (j : Fin 512) : val_main_v60 (F := Ideal) x0 (ix2 r j) = mat x0 r j * Rms.inv 1140850688#32 (mat x0 r) := by
  have hv55 := r55_at x0
  pointwise [val_main_v60, val_main_v59, hv55] <;> first | rfl | (simp only [Fin.sum_univ_one]; rfl)

theorem r72_at (r : Fin 8192) (s : Fin 1) : val_main_v72 (F := Ideal) x1 x3 x4 x5 x6 (ix2 r s) = Rms.inv 1132462080#32 (oc (mat x6) (lp (vec x4) (vec x5) (uu x1 x3 r))) := by
  have hv33 := r33_at x1 x3 x4 x5 x6
  pointwise [val_main_v72, val_main_v71, val_main_v70, val_main_cst_15, val_main_v69, val_main_v68, val_main_cst_14, val_main_v67, val_main_v66,
    val_main_cst_13, val_main_v65, hv33] <;> first | rfl | (simp only [Fin.sum_univ_one]; rfl)

theorem r77_at (r : Fin 8192) (j : Fin 256) : val_main_v77 (F := Ideal) x1 x3 x4 x5 x6 (ix2 r j) = oc (mat x6) (lp (vec x4) (vec x5) (uu x1 x3 r)) j * Rms.inv 1132462080#32 (oc (mat x6) (lp (vec x4) (vec x5) (uu x1 x3 r))) := by
  have hv33 := r33_at x1 x3 x4 x5 x6
  have hv72 := r72_at x1 x3 x4 x5 x6
  pointwise [val_main_v77, val_main_v76, hv33, hv72] <;> first | rfl | (simp only [Fin.sum_univ_one]; rfl)

theorem r89_at (r : Fin 8192) (s : Fin 1) : val_main_v89 (F := Ideal) x2 x7 (ix2 r s) = Rms.inv 1132462080#32 (os (mat x7) (mat x2 r)) := by
  have hv46 := r46_at x2 x7
  pointwise [val_main_v89, val_main_v88, val_main_v87, val_main_cst_19, val_main_v86, val_main_v85, val_main_cst_18, val_main_v84, val_main_v83,
    val_main_cst_17, val_main_v82, hv46] <;> first | rfl | (simp only [Fin.sum_univ_one]; rfl)

theorem r94_at (r : Fin 8192) (j : Fin 256) : val_main_v94 (F := Ideal) x2 x7 (ix2 r j) = os (mat x7) (mat x2 r) j * Rms.inv 1132462080#32 (os (mat x7) (mat x2 r)) := by
  have hv46 := r46_at x2 x7
  have hv89 := r89_at x2 x7
  pointwise [val_main_v94, val_main_v93, hv46, hv89] <;> first | rfl | (simp only [Fin.sum_univ_one]; rfl)

theorem r98_at (r : Fin 8192) (j : Fin 1024) : val_main_v98 (F := Ideal) x0 x1 x2 x3 x4 x5 x6 x7 x8 (ix2 r j) = mixed (mat x6) (mat x7) (ga x8) (gb x8) (gc x8) (mat x0 r) (lp (vec x4) (vec x5) (uu x1 x3 r)) (mat x2 r) j := by
  have hv60 := r60_at x0
  have hv77 := r77_at x1 x3 x4 x5 x6
  have hv94 := r94_at x2 x7
  pointwise [val_main_v98, val_main_v97, val_main_v96, val_main_v95, val_main_v81, val_main_v80, val_main_v79, val_main_v78, val_main_v64,
    val_main_v63, val_main_v62, val_main_v61, val_main_v47, hv60, hv77, hv94] <;> first | rfl | (simp only [Fin.sum_univ_one]; rfl)

theorem r101_at (k l : Fin 1024) : val_main_v101 (F := Ideal) x0 x1 x2 x3 x4 x5 x6 x7 x8 x10 (ix2 k l) = ∑ r : Fin 8192, mat x10 r l * mixed (mat x6) (mat x7) (ga x8) (gb x8) (gc x8) (mat x0 r) (lp (vec x4) (vec x5) (uu x1 x3 r)) (mat x2 r) k := by
  have hv98 := r98_at x0 x1 x2 x3 x4 x5 x6 x7 x8
  pointwise [val_main_v101, val_main_v100, hv98] <;> first | rfl | (simp only [Fin.sum_univ_one]; rfl)

theorem r102_at (r : Fin 8192) (j : Fin 1024) : val_main_v102 (F := Ideal) x9 x10 (ix2 r j) = dm (mat x9) (mat x10 r) j := by
  pointwise [val_main_v102] <;> first | rfl | (simp only [Fin.sum_univ_one]; rfl)

theorem r103_at (r : Fin 8192) (j : Fin 512) : val_main_v103 (F := Ideal) x9 x10 (ix2 r j) = d1 (mat x9) (mat x10 r) j := by
  have hv102 := r102_at x9 x10
  pointwise [val_main_v103, hv102] <;> first | rfl | (simp only [Fin.sum_univ_one]; rfl)

theorem r104_at (r : Fin 8192) (j : Fin 256) : val_main_v104 (F := Ideal) x9 x10 (ix2 r j) = d2 (mat x9) (mat x10 r) j := by
  have hv102 := r102_at x9 x10
  pointwise [val_main_v104, hv102] <;> first | rfl | (simp only [Fin.sum_univ_one]; rfl)

theorem r105_at (r : Fin 8192) (j : Fin 256) : val_main_v105 (F := Ideal) x9 x10 (ix2 r j) = d3 (mat x9) (mat x10 r) j := by
  have hv102 := r102_at x9 x10
  pointwise [val_main_v105, hv102] <;> first | rfl | (simp only [Fin.sum_univ_one]; rfl)

theorem r125_at (r : Fin 8192) (j : Fin 256) : val_main_v125 (F := Ideal) x2 x7 x8 x9 x10 (ix2 r j) = dos (mat x7) (gc x8) (mat x9) (mat x10 r) (mat x2 r) j := by
  have hv46 := r46_at x2 x7
  have hv105 := r105_at x9 x10
  pointwise [val_main_v125, val_main_v124, val_main_v121, val_main_v120, val_main_cst_25, val_main_v119, val_main_v118, val_main_cst_24,
    val_main_v117, val_main_v92, val_main_v90, val_main_v88, val_main_v87, val_main_cst_19, val_main_v86, val_main_v85, val_main_cst_18, val_main_v84,
    val_main_v83, val_main_cst_17, val_main_v82, val_main_v89, val_main_v91, val_main_cst_20, val_main_v114, val_main_v113, val_main_cst_23,
    val_main_v112, val_main_v110, val_main_v109, val_main_v95, val_main_v81, val_main_v123, val_main_v122, val_main_v116, val_main_v115, hv46, hv105] <;> first | rfl | (simp only [Fin.sum_univ_one]; rfl)

theorem r146_at (r : Fin 8192) (j : Fin 256) : val_main_v146 (F := Ideal) x1 x3 x4 x5 x6 x8 x9 x10 (ix2 r j) = doc (mat x6) (gb x8) (mat x9) (mat x10 r) (lp (vec x4) (vec x5) (uu x1 x3 r)) j := by
  have hv33 := r33_at x1 x3 x4 x5 x6
  have hv104 := r104_at x9 x10
  pointwise [val_main_v146, val_main_v145, val_main_v142, val_main_v141, val_main_cst_31, val_main_v140, val_main_v139, val_main_cst_30,
    val_main_v138, val_main_v75, val_main_v73, val_main_v71, val_main_v70, val_main_cst_15, val_main_v69, val_main_v68, val_main_cst_14, val_main_v67,
    val_main_v66, val_main_cst_13, val_main_v65, val_main_v72, val_main_v74, val_main_cst_16, val_main_v135, val_main_v134, val_main_cst_29,
    val_main_v133, val_main_v131, val_main_v130, val_main_v78, val_main_v64, val_main_v144, val_main_v143, val_main_v137, val_main_v136, hv33, hv104] <;> first | rfl | (simp only [Fin.sum_univ_one]; rfl)

theorem r168_at (r : Fin 8192) (j : Fin 512) : val_main_v168 (F := Ideal) x0 x8 x9 x10 (ix2 r j) = dosb (ga x8) (mat x9) (mat x10 r) (mat x0 r) j := by
  have hv103 := r103_at x9 x10
  pointwise [val_main_v168, val_main_v167, val_main_v164, val_main_v163, val_main_cst_37, val_main_v162, val_main_v161, val_main_cst_36,
    val_main_v160, val_main_v58, val_main_v56, val_main_v54, val_main_v53, val_main_cst_11, val_main_v52, val_main_v51, val_main_cst_10, val_main_v50,
    val_main_v49, val_main_cst_9, val_main_v48, val_main_v55, val_main_v57, val_main_cst_12, val_main_v157, val_main_v156, val_main_cst_35,
    val_main_v155, val_main_v153, val_main_v152, val_main_v61, val_main_v47, val_main_v166, val_main_v165, val_main_v159, val_main_v158, hv103] <;> first | rfl | (simp only [Fin.sum_univ_one]; rfl)

theorem r171_at (r : Fin 8192) (j : Fin 256) : val_main_v171 (F := Ideal) x2 x7 x8 x9 x10 (ix2 r j) = ya (mat x7) (mat x2 r) j * dos (mat x7) (gc x8) (mat x9) (mat x10 r) (mat x2 r) j := by
  have hv35 := r35_at x2 x7
  have hv125 := r125_at x2 x7 x8 x9 x10
  pointwise [val_main_v171, hv35, hv125] <;> first | rfl | (simp only [Fin.sum_univ_one]; rfl)

theorem r174_at (r : Fin 8192) (j : Fin 512) : val_main_v174 (F := Ideal) x2 x7 x8 x9 x10 (ix2 r j) = dt (mat x7) (gc x8) (mat x9) (mat x10 r) (mat x2 r) j := by
  have hv171 := r171_at x2 x7 x8 x9 x10
  have hv45 := r45_at x2 x7
  have hv42 := r42_at x2 x7
  have hv125 := r125_at x2 x7 x8 x9 x10
  pointwise [val_main_v174, val_main_v173, val_main_v172, hv171, hv45, hv42, hv125] <;> first | rfl | (simp only [Fin.sum_univ_one]; rfl)

theorem r177_at (r : Fin 8192) (j : Fin 256) : val_main_v177 (F := Ideal) x2 x7 x8 x9 x10 (ix2 r j) = dy (mat x7) (gc x8) (mat x9) (mat x10 r) (mat x2 r) j := by
  have hv174 := r174_at x2 x7 x8 x9 x10
  pointwise [val_main_v177, hv174] <;> first | rfl | (simp only [Fin.sum_univ_one]; rfl)

theorem r221_at (k : Fin 512) (l : Fin 256) : val_main_v221 (F := Ideal) x2 x7 x8 x9 x10 (ix2 k l) = ∑ r : Fin 8192, dt (mat x7) (gc x8) (mat x9) (mat x10 r) (mat x2 r) k * mat x2 r l := by
  have hv174 := r174_at x2 x7 x8 x9 x10
  pointwise [val_main_v221, val_main_v176, val_main_v175, hv174] <;> first | rfl | (simp only [Fin.sum_univ_one]; rfl)

theorem r179_at (k l : Fin 256) : val_main_v179 (F := Ideal) x1 x3 x4 x5 x6 x8 x9 x10 (ix2 k l) = ∑ r : Fin 8192, doc (mat x6) (gb x8) (mat x9) (mat x10 r) (lp (vec x4) (vec x5) (uu x1 x3 r)) l * hh (lp (vec x4) (vec x5) (uu x1 x3 r)) k := by
  have hv146 := r146_at x1 x3 x4 x5 x6 x8 x9 x10
  have hv32_0 := r32_0_at x1 x3 x4 x5
  pointwise [val_main_v179, val_main_v178, hv146, hv32_0] <;> first | rfl | (simp only [Fin.sum_univ_one]; rfl)

theorem r180_at (r : Fin 8192) (j : Fin 256) : val_main_v180 (F := Ideal) x1 x3 x4 x5 x6 x8 x9 x10 (ix2 r j) = dh (mat x6) (gb x8) (mat x9) (mat x10 r) (lp (vec x4) (vec x5) (uu x1 x3 r)) j := by
  have hv146 := r146_at x1 x3 x4 x5 x6 x8 x9 x10
  pointwise [val_main_v180, hv146] <;> first | rfl | (simp only [Fin.sum_univ_one]; rfl)

theorem r181_at (r : Fin 8192) (j : Fin 256) : val_main_v181 (F := Ideal) x1 x3 x4 x5 x6 x8 x9 x10 (ix2 r j) = dp (mat x6) (gb x8) (mat x9) (mat x10 r) (lp (vec x4) (vec x5) (uu x1 x3 r)) j := by
  have hv180 := r180_at x1 x3 x4 x5 x6 x8 x9 x10
  have hv31 := r31_at x1 x3 x4 x5
  have hv32_1 := r32_1_at x1 x3 x4 x5
  have hv32_2 := r32_2_at x1 x3 x4 x5
  pointwise [val_main_v181, val_main_call1_v2, val_main_call1_v0, val_main_call1_v1, hv180, hv31, hv32_1, hv32_2] <;> first | rfl | (simp only [Fin.sum_univ_one]; rfl)

theorem r220_at (s : Fin 1) (j : Fin 256) : val_main_v220 (F := Ideal) x1 x3 x4 x5 x6 x8 x9 x10 (ix2 s j) = ∑ r : Fin 8192, dp (mat x6) (gb x8) (mat x9) (mat x10 r) (lp (vec x4) (vec x5) (uu x1 x3 r)) j := by
  have hv181 := r181_at x1 x3 x4 x5 x6 x8 x9 x10
  pointwise [val_main_v220, val_main_v184, val_main_cst_40, val_main_v183, val_main_v182, val_main_cst_39, hv181]
  simp only [Fin.sum_univ_one]

theorem r219_at (s : Fin 1) (j : Fin 256) : val_main_v219 (F := Ideal) x1 x3 x4 x5 x6 x8 x9 x10 (ix2 s j) = ∑ r : Fin 8192, xm (uu x1 x3 r) j * li (uu x1 x3 r) * dp (mat x6) (gb x8) (mat x9) (mat x10 r) (lp (vec x4) (vec x5) (uu x1 x3 r)) j := by
  have hv181 := r181_at x1 x3 x4 x5 x6 x8 x9 x10
  have hv25 := r25_at x1 x3
  pointwise [val_main_v219, val_main_v190, val_main_cst_42, val_main_v187, val_main_v186, val_main_cst_41, val_main_v185, hv181, hv25]
  simp only [Fin.sum_univ_one]

theorem r214_at (r : Fin 8192) (j : Fin 256) : val_main_v214 (F := Ideal) x1 x3 x4 x5 x6 x8 x9 x10 (ix2 r j) = rdhc (vec x4) (vec x5) (mat x6) (gb x8) (mat x9) (mat x10 r) (uu x1 x3 r) j := by
  have hv181 := r181_at x1 x3 x4 x5 x6 x8 x9 x10
  have hv17 := r17_at x1 x3
  have hv8 := r8_at x1 x3
  have hv20 := r20_at x1 x3
  have hv19 := r19_at x1 x3
  pointwise [val_main_v214, val_main_v213, val_main_v212, val_main_cst_49, val_main_v211, val_main_v210, val_main_cst_48, val_main_v209,
    val_main_v207, val_main_v206, val_main_cst_47, val_main_v205, val_main_v204, val_main_v11, val_main_v10, val_main_cst_1, val_main_v203,
    val_main_v202, val_main_cst_46, val_main_v201, val_main_v200, val_main_cst_45, val_main_v196, val_main_v23, val_main_v21, val_main_v22,
    val_main_cst_5, val_main_v193, val_main_v192, val_main_cst_43, val_main_v191, val_main_v189, val_main_v188, val_main_v26, val_main_v199,
    val_main_v198, val_main_cst_44, val_main_v197, val_main_v195, val_main_v194, val_main_v208, hv181, hv17, hv8, hv20, hv19] <;> first | rfl | (simp only [Fin.sum_univ_one]; rfl)

theorem r218_at (s : Fin 1) (j : Fin 256) : val_main_v218 (F := Ideal) x1 x3 x4 x5 x6 x8 x9 x10 (ix2 s j) = ∑ r : Fin 8192, rdhc (vec x4) (vec x5) (mat x6) (gb x8) (mat x9) (mat x10 r) (uu x1 x3 r) j := by
  have hv214 := r214_at x1 x3 x4 x5 x6 x8 x9 x10
  pointwise [val_main_v218, val_main_v217, val_main_cst_51, val_main_v216, val_main_v215, val_main_cst_50, hv214]
  simp only [Fin.sum_univ_one]

theorem r223_at (s : Fin 1) (j : Fin 512) : val_main_v223 (F := Ideal) x0 x1 x2 x3 x4 x5 x6 x7 x9 x10 (ix2 s j) = ∑ r : Fin 8192, mat x0 r j * Rms.inv 1140850688#32 (mat x0 r) * d1 (mat x9) (mat x10 r) j := by
  have hv60 := r60_at x0
  have hv103 := r103_at x9 x10
  have hv77 := r77_at x1 x3 x4 x5 x6
  have hv104 := r104_at x9 x10
  have hv94 := r94_at x2 x7
  have hv105 := r105_at x9 x10
  pointwise [val_main_v223, val_main_v222, val_main_v170, val_main_v169, val_main_cst_38, val_main_v154, val_main_cst_34, val_main_v151,
    val_main_v150, val_main_cst_33, val_main_v149, val_main_v148, val_main_v147, val_main_cst_32, val_main_v132, val_main_cst_28, val_main_v129,
    val_main_v128, val_main_cst_27, val_main_v127, val_main_v126, val_main_cst_26, val_main_v111, val_main_cst_22, val_main_v108, val_main_v107,
    val_main_cst_21, val_main_v106, hv60, hv103, hv77, hv104, hv94, hv105]
  rw [dif_neg (by omega), dif_neg (fun h => h.1), zero_add, zero_add]
  simp only [Fin.sum_univ_one]

theorem r225_at (s : Fin 1) (j : Fin 256) : val_main_v225 (F := Ideal) x0 x1 x2 x3 x4 x5 x6 x7 x9 x10 (ix2 s j) = ∑ r : Fin 8192, oc (mat x6) (lp (vec x4) (vec x5) (uu x1 x3 r)) j * Rms.inv 1132462080#32 (oc (mat x6) (lp (vec x4) (vec x5) (uu x1 x3 r))) * d2 (mat x9) (mat x10 r) j := by
  have hv60 := r60_at x0
  have hv103 := r103_at x9 x10
  have hv77 := r77_at x1 x3 x4 x5 x6
  have hv104 := r104_at x9 x10
  have hv94 := r94_at x2 x7
  have hv105 := r105_at x9 x10
  pointwise [val_main_v225, val_main_v224, val_main_v170, val_main_v169, val_main_cst_38, val_main_v154, val_main_cst_34, val_main_v151,
    val_main_v150, val_main_cst_33, val_main_v149, val_main_v148, val_main_v147, val_main_cst_32, val_main_v132, val_main_cst_28, val_main_v129,
    val_main_v128, val_main_cst_27, val_main_v127, val_main_v126, val_main_cst_26, val_main_v111, val_main_cst_22, val_main_v108, val_main_v107,
    val_main_cst_21, val_main_v106, hv60, hv103, hv77, hv104, hv94, hv105]
  rw [dif_neg (by omega), zero_add]
  simp only [Fin.sum_univ_one]

theorem r227_at (s : Fin 1) (j : Fin 256) : val_main_v227 (F := Ideal) x0 x1 x2 x3 x4 x5 x6 x7 x9 x10 (ix2 s j) = ∑ r : Fin 8192, os (mat x7) (mat x2 r) j * Rms.inv 1132462080#32 (os (mat x7) (mat x2 r)) * d3 (mat x9) (mat x10 r) j := by
  have hv60 := r60_at x0
  have hv103 := r103_at x9 x10
  have hv77 := r77_at x1 x3 x4 x5 x6
  have hv104 := r104_at x9 x10
  have hv94 := r94_at x2 x7
  have hv105 := r105_at x9 x10
  pointwise [val_main_v227, val_main_v226, val_main_v170, val_main_v169, val_main_cst_38, val_main_v154, val_main_cst_34, val_main_v151,
    val_main_v150, val_main_cst_33, val_main_v149, val_main_v148, val_main_v147, val_main_cst_32, val_main_v132, val_main_cst_28, val_main_v129,
    val_main_v128, val_main_cst_27, val_main_v127, val_main_v126, val_main_cst_26, val_main_v111, val_main_cst_22, val_main_v108, val_main_v107,
    val_main_cst_21, val_main_v106, hv60, hv103, hv77, hv104, hv94, hv105]
  rw [dif_neg (by omega), dif_neg (by omega), add_zero, add_zero]
  simp only [Fin.sum_univ_one]

end Cert.MixOutVal

end
-- ==== Proof.MixOut.Real.lean ====
/- Where the arguments are real, the two ways of writing the layer norm's gradient are one. -/
module

public import proofs.«01_k».proof.Proof.Fin
public import proofs.«01_k».proof.Proof.MixOut.Math

@[expose] public section

noncomputable section

namespace Cert.MixOutVal

open Idealize.ShloMosaic Cert.LossVal Cert.Fin

/-- The words of one half less than zero and of two. -/
theorem word_half : Ideal.ofBits FTy.f32 3204448256#32 = ((-(1 / 2) : ℝ) : EReal) := by
  simp [Ideal.ofBits, Ideal.ieee]
  norm_num [← EReal.coe_mul]

theorem word_two : Ideal.ofBits FTy.f32 1073741824#32 = 1 + 1 := by
  have h : Ideal.ofBits FTy.f32 1073741824#32 = ((2 : ℝ) : EReal) := by
    simp [Ideal.ofBits, Ideal.ieee]
    norm_num [← EReal.coe_mul]
  rw [h, show (2 : ℝ) = 1 + 1 by norm_num, EReal.coe_add, EReal.coe_one]

/-- Twice a number is the number added to itself. -/
theorem two_times (x : EReal) : Ideal.ofBits FTy.f32 1073741824#32 * x = x + x := by
  rw [word_two, EReal.right_distrib_of_nonneg zero_le_one zero_le_one, one_mul]

theorem rb_eq (u z : Fin 256 → EReal) (j : Fin 256) : rb u z j = xm u j * lc u z + lc u z * xm u j := by
  unfold rb
  rw [mul_left_comm, two_times, mul_comm (xm u j)]

theorem lb_eq (u z : Fin 256 → EReal) (j : Fin 256) : lb u z j = z j * li u + rb u z j := by
  unfold lb
  rw [rb_eq, add_assoc]

/-- A real takes its sign out of a sum with anything. -/
theorem neg_add_real {x : EReal} (y : EReal) (h : IsReal x) : -(x + y) = -x + -y := by
  obtain ⟨r, rfl⟩ := h
  rw [EReal.neg_add (Or.inl (EReal.coe_ne_bot r)) (Or.inl (EReal.coe_ne_top r)), sub_eq_add_neg]

/-- The two forms of the layer norm's gradient agree where the cotangent, scaled, is real. -/
theorem lback_eq (u z : Fin 256 → EReal) (h : ∀ k, IsReal (z k * li u)) (j : Fin 256) : lback u z j = rback u z j := by
  unfold lback rback
  simp only [lb_eq]
  rw [← Finset.sum_add_distrib]
  exact congrArg (fun s => _ + Ideal.div s _) (Finset.sum_congr rfl fun k _ => neg_add_real _ (h k))

theorem div_real {x : EReal} {z : ℝ} (hz : z ≠ 0) (h : IsReal x) : IsReal (Ideal.div x (z : EReal)) := by
  rw [div_coe x hz]
  exact h.mul ⟨_, rfl⟩

theorem xm_real {u : Fin 256 → EReal} (h : ∀ k, IsReal (u k)) (j : Fin 256) : IsReal (xm u j) := by
  unfold xm mu
  rw [sub_eq_add_neg, word_256]
  exact (h j).add (div_real (by norm_num) (IsReal.sum h)).neg

theorem li_real {u : Fin 256 → EReal} (h : ∀ k, IsReal (u k)) : IsReal (li u) :=
  inv_real (N := 1132462080#32) (q := 256) (by norm_num) word_256 (xm_real h)

theorem lp_real {g e u : Fin 256 → EReal} (hg : ∀ k, IsReal (g k)) (he : ∀ k, IsReal (e k)) (h : ∀ k, IsReal (u k)) (j : Fin 256) :
    IsReal (lp g e u j) :=
  (((xm_real h j).mul (li_real h)).mul (hg j)).add (he j)

/-- The logistic function of a real is real. -/
theorem sg_real {x : EReal} : IsReal x → IsReal (sg x)
  | ⟨r, h⟩ => by
    unfold sg
    rw [h, ← EReal.coe_neg, Ideal.exp_coe, ← EReal.coe_one, ← EReal.coe_add]
    exact div_real (by positivity) ⟨1, rfl⟩

theorem one_sub_real {x : EReal} : IsReal x → IsReal (1 - x)
  | ⟨r, h⟩ => ⟨1 - r, by rw [h, EReal.coe_sub, EReal.coe_one]⟩

/-- A norm's gradient of reals is real. -/
theorem back_real {x z : Fin 256 → EReal} (hx : ∀ k, IsReal (x k)) (hz : ∀ k, IsReal (z k)) (j : Fin 256) : IsReal (Rms.back 1132462080#32 x z j) := by
  have hi := inv_real (N := 1132462080#32) (q := 256) (by norm_num) word_256 hx
  obtain ⟨r, hr, e⟩ := ms_pos (N := 1132462080#32) (q := 256) (by norm_num) word_256 hx
  have hs : IsReal (Rms.sc 1132462080#32 x z) := by
    unfold Rms.sc
    rw [e, word_256, word_half]
    exact div_real (by norm_num) ((IsReal.sum fun k => (hx k).mul (hz k)).mul (IsReal.mul ⟨_, rfl⟩ (div_real hr.ne' hi)))
  exact (((hz j).mul hi).add ((hx j).mul hs)).add (hs.mul (hx j))

variable {g e : Fin 256 → EReal} {P : Fin 256 → Fin 256 → EReal} {g2 : Fin 256 → EReal} {W : Fin 1024 → Fin 1024 → EReal} {z : Fin 1024 → EReal} {p u : Fin 256 → EReal}

theorem hh_real (hp : ∀ k, IsReal (p k)) (j : Fin 256) : IsReal (hh p j) := (hp j).mul (sg_real (hp j))

theorem oc_real (hP : ∀ k j, IsReal (P k j)) (hp : ∀ k, IsReal (p k)) (j : Fin 256) : IsReal (oc P p j) := by
  unfold oc
  exact IsReal.sum fun k => (hh_real hp k).mul (hP k j)

theorem d2_real (hW : ∀ k j, IsReal (W k j)) (hz : ∀ k, IsReal (z k)) (j : Fin 256) : IsReal (d2 W z j) := by
  unfold d2 dm
  exact IsReal.sum fun q => (hz q).mul (hW _ q)

theorem doc_real (hP : ∀ k j, IsReal (P k j)) (h2 : ∀ k, IsReal (g2 k)) (hW : ∀ k j, IsReal (W k j)) (hz : ∀ k, IsReal (z k)) (hp : ∀ k, IsReal (p k)) (j : Fin 256) :
    IsReal (doc P g2 W z p j) :=
  back_real (x := oc P p) (z := fun k => d2 W z k * g2 k) (oc_real hP hp) (fun k => (d2_real hW hz k).mul (h2 k)) j

theorem dp_real (hP : ∀ k j, IsReal (P k j)) (h2 : ∀ k, IsReal (g2 k)) (hW : ∀ k j, IsReal (W k j)) (hz : ∀ k, IsReal (z k)) (hp : ∀ k, IsReal (p k)) (j : Fin 256) :
    IsReal (dp P g2 W z p j) := by
  have hd : IsReal (dh P g2 W z p j) := by
    unfold dh
    exact IsReal.sum fun k => (doc_real hP h2 hW hz hp k).mul (hP j k)
  have hs := sg_real (hp j)
  exact (hd.mul hs).add (((hp j).mul hd).mul (hs.mul (one_sub_real hs)))

/-- The convolution branch's gradient in the two forms, at real arguments. -/
theorem dhc_eq (hg : ∀ k, IsReal (g k)) (he : ∀ k, IsReal (e k)) (hu : ∀ k, IsReal (u k)) (hP : ∀ k j, IsReal (P k j)) (h2 : ∀ k, IsReal (g2 k))
    (hW : ∀ k j, IsReal (W k j)) (hz : ∀ k, IsReal (z k)) (j : Fin 256) : dhc g e P g2 W z u j = rdhc g e P g2 W z u j :=
  lback_eq _ _ (fun k => ((dp_real hP h2 hW hz (lp_real hg he hu) k).mul (hg k)).mul (li_real hu)) j

end Cert.MixOutVal

end
-- ==== Proof.MixOut.Final.lean ====
/- The output product's gradient call against its reference: the arrays after the run are the reference's arrays, the two gradients behind the layer
   norm where the arguments are real. -/
module

public import proofs.«01_k».proof.Defs
public import proofs.«01_k».proof.Proof.Base
public import proofs.«01_k».proof.Proof.MixOut.Launch
public import proofs.«01_k».proof.Proof.MixOut.Kern
public import proofs.«01_k».proof.Proof.MixOut.Ref
public import proofs.«01_k».proof.Proof.MixOut.Real
public import Idealize.ShloMosaic.Lib.Pipeline.ValueKit
public import Idealize.ShloMosaic.Lib.StableHlo.ReadAt

@[expose] public section

set_option maxRecDepth 16384

noncomputable section

namespace Cert.MixOutVal

open Idealize.ShloMosaic Idealize.ShloMosaic.TcCoe Idealize.ShloMosaic.Pointwise Cert.Base Cert.Fin Cert.LossVal Cert.MixOutIdeal Cert.MixOutIdeal.Gen Cert.MixOutIdeal.Run

/-- The arguments behind the convolution branch's gradient are real. -/
structure Args (a1 : Vec Ideal S8192x256 .f32) (a3 a4 a5 : Vec Ideal S256 .f32) (a6 : Vec Ideal S256x256 .f32) (a8 : Vec Ideal S1024 .f32)
    (a9 : Vec Ideal S1024x1024 .f32) (a10 : Vec Ideal S8192x1024 .f32) : Prop where
  hc : ∀ r j, IsReal (mat a1 r j)
  db : ∀ j, IsReal (vec a3 j)
  lg : ∀ j, IsReal (vec a4 j)
  lb : ∀ j, IsReal (vec a5 j)
  pw : ∀ k j, IsReal (mat a6 k j)
  g : ∀ j, IsReal (vec a8 j)
  w : ∀ k j, IsReal (mat a9 k j)
  dx : ∀ r j, IsReal (mat a10 r j)

variable (m : (ℓ : Loc nD τ sig) → Buf (Elt Ideal) ℓ) (c : Dev nD)

abbrev A0 : Vec Ideal S8192x512 .f32 := m ((c.tc : Thread nD τ).loc main_arg0)
abbrev A1 : Vec Ideal S8192x256 .f32 := m ((c.tc : Thread nD τ).loc main_arg1)
abbrev A2 : Vec Ideal S8192x256 .f32 := m ((c.tc : Thread nD τ).loc main_arg2)
abbrev A3 : Vec Ideal S256 .f32 := m ((c.tc : Thread nD τ).loc main_arg3)
abbrev A4 : Vec Ideal S256 .f32 := m ((c.tc : Thread nD τ).loc main_arg4)
abbrev A5 : Vec Ideal S256 .f32 := m ((c.tc : Thread nD τ).loc main_arg5)
abbrev A6 : Vec Ideal S256x256 .f32 := m ((c.tc : Thread nD τ).loc main_arg6)
abbrev A7 : Vec Ideal S256x512 .f32 := m ((c.tc : Thread nD τ).loc main_arg7)
abbrev A8 : Vec Ideal S1024 .f32 := m ((c.tc : Thread nD τ).loc main_arg8)
abbrev A9 : Vec Ideal S1024x1024 .f32 := m ((c.tc : Thread nD τ).loc main_arg9)
abbrev A10 : Vec Ideal S8192x1024 .f32 := m ((c.tc : Thread nD τ).loc main_arg10)

theorem lt_N (t : Fin cfg0.N) : t.val < 16 := lt_of_lt_of_eq t.isLt N_0

/-- The row of the whole arrays that is row `r` of tile `t`. -/
def gr (t : Fin cfg0.N) (r : Fin 512) : Fin 8192 := ⟨t.val * 512 + r.val, by have := lt_N t; omega⟩

/-- A row of window 0's block is the argument's row of that tile. -/
theorem blk0 (t : Fin cfg0.N) (r : Fin 512) : mat (iblk m c 0 t) r = mat (A10 m c) (gr t r) := by
  have e : ∀ t : Fin cfg0.N, win0_0.index t = ![t.val, 0] := by decide +kernel
  funext l
  have h : (win0_0.blk t).view.emb (ix2 r l) = ix2 (gr t r) l := by unfold gr; blk_ext [e]
  unfold mat
  blk_simp [iblk]
  rw [V_main_arg10, h]

/-- A row of window 1's block is the argument's row of that tile. -/
theorem blk1 (t : Fin cfg0.N) (r : Fin 512) : mat (iblk m c 1 t) r = mat (A0 m c) (gr t r) := by
  have e : ∀ t : Fin cfg0.N, win0_1.index t = ![t.val, 0] := by decide +kernel
  funext l
  have h : (win0_1.blk t).view.emb (ix2 r l) = ix2 (gr t r) l := by unfold gr; blk_ext [e]
  unfold mat
  blk_simp [iblk]
  rw [V_main_arg0, h]

/-- A row of window 2's block is the argument's row of that tile. -/
theorem blk2 (t : Fin cfg0.N) (r : Fin 512) : mat (iblk m c 2 t) r = mat (A1 m c) (gr t r) := by
  have e : ∀ t : Fin cfg0.N, win0_2.index t = ![t.val, 0] := by decide +kernel
  funext l
  have h : (win0_2.blk t).view.emb (ix2 r l) = ix2 (gr t r) l := by unfold gr; blk_ext [e]
  unfold mat
  blk_simp [iblk]
  rw [V_main_arg1, h]

/-- A row of window 3's block is the argument's row of that tile. -/
theorem blk3 (t : Fin cfg0.N) (r : Fin 512) : mat (iblk m c 3 t) r = mat (A2 m c) (gr t r) := by
  have e : ∀ t : Fin cfg0.N, win0_3.index t = ![t.val, 0] := by decide +kernel
  funext l
  have h : (win0_3.blk t).view.emb (ix2 r l) = ix2 (gr t r) l := by unfold gr; blk_ext [e]
  unfold mat
  blk_simp [iblk]
  rw [V_main_arg2, h]

/-- Window 4's block at every tile is the bias as a row. -/
theorem blk4 (t : Fin cfg0.N) : row (iblk m c 4 t) = vec (A3 m c) := by
  have e : ∀ t : Fin cfg0.N, win0_4.index t = ![0, 0] := by decide +kernel
  funext l
  have h : (win0_4.blk t).view.emb (ix2 (0 : Fin 1) l) = ix2 (0 : Fin 1) l := by blk_ext [e]
  unfold row vec
  blk_simp [iblk]
  rw [h]
  unfold V
  after_reads_at

/-- Window 5's block at every tile is the layer norm's scale as a row. -/
theorem blk5 (t : Fin cfg0.N) : row (iblk m c 5 t) = vec (A4 m c) := by
  have e : ∀ t : Fin cfg0.N, win0_5.index t = ![0, 0] := by decide +kernel
  funext l
  have h : (win0_5.blk t).view.emb (ix2 (0 : Fin 1) l) = ix2 (0 : Fin 1) l := by blk_ext [e]
  unfold row vec
  blk_simp [iblk]
  rw [h]
  unfold V
  after_reads_at

/-- Window 6's block at every tile is the layer norm's shift as a row. -/
theorem blk6 (t : Fin cfg0.N) : row (iblk m c 6 t) = vec (A5 m c) := by
  have e : ∀ t : Fin cfg0.N, win0_6.index t = ![0, 0] := by decide +kernel
  funext l
  have h : (win0_6.blk t).view.emb (ix2 (0 : Fin 1) l) = ix2 (0 : Fin 1) l := by blk_ext [e]
  unfold row vec
  blk_simp [iblk]
  rw [h]
  unfold V
  after_reads_at

/-- Window 9's block at every tile is the first norm's scale as a row. -/
theorem blk9 (t : Fin cfg0.N) : row (iblk m c 9 t) = ga (A8 m c) := by
  have e : ∀ t : Fin cfg0.N, win0_9.index t = ![0, 0] := by decide +kernel
  funext l
  have h : (win0_9.blk t).view.emb (ix2 (0 : Fin 1) l) = ix2 (0 : Fin 1) l := by blk_ext [e]
  unfold row ga vec
  blk_simp [iblk]
  rw [h]
  unfold V
  after_reads_at

/-- Window 10's block at every tile is the second norm's scale as a row. -/
theorem blk10 (t : Fin cfg0.N) : row (iblk m c 10 t) = gb (A8 m c) := by
  have e : ∀ t : Fin cfg0.N, win0_10.index t = ![0, 0] := by decide +kernel
  funext l
  have h : (win0_10.blk t).view.emb (ix2 (0 : Fin 1) l) = ix2 (0 : Fin 1) l := by blk_ext [e]
  unfold row gb vec
  blk_simp [iblk]
  rw [h]
  unfold V
  after_reads_at

/-- Window 11's block at every tile is the third norm's scale as a row. -/
theorem blk11 (t : Fin cfg0.N) : row (iblk m c 11 t) = gc (A8 m c) := by
  have e : ∀ t : Fin cfg0.N, win0_11.index t = ![0, 0] := by decide +kernel
  funext l
  have h : (win0_11.blk t).view.emb (ix2 (0 : Fin 1) l) = ix2 (0 : Fin 1) l := by blk_ext [e]
  unfold row gc vec
  blk_simp [iblk]
  rw [h]
  unfold V
  after_reads_at

/-- Window 7's block at every tile is the whole argument. -/
theorem blk7 (t : Fin cfg0.N) : mat (iblk m c 7 t) = mat (A6 m c) := by
  have e : ∀ t : Fin cfg0.N, win0_7.index t = ![0, 0] := by decide +kernel
  funext k l
  have h : (win0_7.blk t).view.emb (ix2 k l) = ix2 k l := by blk_ext [e]
  unfold mat
  blk_simp [iblk]
  rw [V_main_arg6, h]

/-- Window 12's block at every tile is the whole argument. -/
theorem blk12 (t : Fin cfg0.N) : mat (iblk m c 12 t) = mat (A9 m c) := by
  have e : ∀ t : Fin cfg0.N, win0_12.index t = ![0, 0] := by decide +kernel
  funext k l
  have h : (win0_12.blk t).view.emb (ix2 k l) = ix2 k l := by blk_ext [e]
  unfold mat
  blk_simp [iblk]
  rw [V_main_arg9, h]

/-- Window 8's block at every tile is the argument transposed. -/
theorem blk8 (t : Fin cfg0.N) (q : Fin 512) (k : Fin 256) : mat (iblk m c 8 t) q k = mat (A7 m c) k q := by
  have e : ∀ t : Fin cfg0.N, win0_8.index t = ![0, 0] := by decide +kernel
  have h : (win0_8.blk t).view.emb (ix2 q k) = ix2 q k := by blk_ext [e]
  unfold mat
  blk_simp [iblk]
  rw [h]
  unfold V
  after_reads_at

/-- A running sum after the last tile is the sum over all tiles. -/
theorem out_sum {S : Shape} (out : Fin cfg0.N → Vec Ideal S .f32) (term : Fin cfg0.N → S.Idx → EReal) (h0 : ∀ t : Fin cfg0.N, t.val = 0 → ∀ i, out t i = term t i)
    (hp : ∀ t : Fin cfg0.N, t.val ≠ 0 → ∀ i, out t i = out ⟨t.val - 1, Nat.lt_of_le_of_lt (Nat.sub_le _ _) t.isLt⟩ i + term t i) (t : Fin cfg0.N) (ht : t.val = 15)
    (i : S.Idx) : out t i = ∑ p : Fin 16, term (Fin.cast N_0.symm p) i := by
  have key : ∀ (n : ℕ) (hn : n < 16), out (Fin.cast N_0.symm ⟨n, hn⟩) i = ∑ p : Fin (n + 1), term (Fin.cast N_0.symm ⟨p.val, by omega⟩) i := by
    intro n
    induction n with
    | zero =>
      intro hn
      rw [Fin.sum_univ_one]
      exact h0 _ rfl i
    | succ n ih =>
      intro hn
      rw [Fin.sum_univ_castSucc]
      refine (hp (Fin.cast N_0.symm ⟨n + 1, hn⟩) (Nat.succ_ne_zero n) i).trans ?_
      exact congrArg (· + term _ i) (ih (by omega))
  have h := key 15 (by omega)
  rw [show t = Fin.cast N_0.symm ⟨15, by omega⟩ from Fin.ext ht]
  exact h

/-- The gradient of the bias: one row's part. -/
def part16 (s : Fin 1) (j : Fin 256) (r : Fin 8192) : EReal := dhc (vec (A4 m c)) (vec (A5 m c)) (mat (A6 m c)) (gb (A8 m c)) (mat (A9 m c)) (mat (A10 m c) r) (uu (A1 m c) (A3 m c) r) j

/-- A later tile adds its part. -/
theorem add16 (x0 : Vec Ideal S512x1024 .f32) (x2 : Vec Ideal S512x256 .f32) (x4 : Vec Ideal S1x256 .f32) (x5 : Vec Ideal S1x256 .f32) (x6 : Vec Ideal S1x256 .f32) (x7 : Vec Ideal S256x256 .f32) (x10 : Vec Ideal S1x256 .f32) (x12 : Vec Ideal S1024x1024 .f32) (p : Vec Ideal S1x256 .f32) (i : S1x256.Idx) : n16 x0 x2 x4 x5 x6 x7 x10 x12 p i = p i + o16 x0 x2 x4 x5 x6 x7 x10 x12 i := by
  obtain ⟨k, l, rfl⟩ : ∃ (k : Fin 1) (l : Fin 256), i = ix2 k l := idx2 i
  unfold n16 o16
  pointwise [k0_pay71] <;> first | rfl | exact add_comm _ _

/-- The gradient of the layer norm's scale: one row's part. -/
def part17 (s : Fin 1) (j : Fin 256) (r : Fin 8192) : EReal := xm (uu (A1 m c) (A3 m c) r) j * li (uu (A1 m c) (A3 m c) r) * dp (mat (A6 m c)) (gb (A8 m c)) (mat (A9 m c)) (mat (A10 m c) r) (lp (vec (A4 m c)) (vec (A5 m c)) (uu (A1 m c) (A3 m c) r)) j

/-- A later tile adds its part. -/
theorem add17 (x0 : Vec Ideal S512x1024 .f32) (x2 : Vec Ideal S512x256 .f32) (x4 : Vec Ideal S1x256 .f32) (x5 : Vec Ideal S1x256 .f32) (x6 : Vec Ideal S1x256 .f32) (x7 : Vec Ideal S256x256 .f32) (x10 : Vec Ideal S1x256 .f32) (x12 : Vec Ideal S1024x1024 .f32) (p : Vec Ideal S1x256 .f32) (i : S1x256.Idx) : n17 x0 x2 x4 x5 x6 x7 x10 x12 p i = p i + o17 x0 x2 x4 x5 x6 x7 x10 x12 i := by
  obtain ⟨k, l, rfl⟩ : ∃ (k : Fin 1) (l : Fin 256), i = ix2 k l := idx2 i
  unfold n17 o17
  pointwise [k0_pay72] <;> first | rfl | exact add_comm _ _

/-- The gradient of the layer norm's shift: one row's part. -/
def part18 (s : Fin 1) (j : Fin 256) (r : Fin 8192) : EReal := dp (mat (A6 m c)) (gb (A8 m c)) (mat (A9 m c)) (mat (A10 m c) r) (lp (vec (A4 m c)) (vec (A5 m c)) (uu (A1 m c) (A3 m c) r)) j

/-- A later tile adds its part. -/
theorem add18 (x0 : Vec Ideal S512x1024 .f32) (x2 : Vec Ideal S512x256 .f32) (x4 : Vec Ideal S1x256 .f32) (x5 : Vec Ideal S1x256 .f32) (x6 : Vec Ideal S1x256 .f32) (x7 : Vec Ideal S256x256 .f32) (x10 : Vec Ideal S1x256 .f32) (x12 : Vec Ideal S1024x1024 .f32) (p : Vec Ideal S1x256 .f32) (i : S1x256.Idx) : n18 x0 x2 x4 x5 x6 x7 x10 x12 p i = p i + o18 x0 x2 x4 x5 x6 x7 x10 x12 i := by
  obtain ⟨k, l, rfl⟩ : ∃ (k : Fin 1) (l : Fin 256), i = ix2 k l := idx2 i
  unfold n18 o18
  pointwise [k0_pay73] <;> first | rfl | exact add_comm _ _

/-- The gradient of the convolution branch's product: one row's part. -/
def part19 (k : Fin 256) (l : Fin 256) (r : Fin 8192) : EReal := hh (lp (vec (A4 m c)) (vec (A5 m c)) (uu (A1 m c) (A3 m c) r)) k * doc (mat (A6 m c)) (gb (A8 m c)) (mat (A9 m c)) (mat (A10 m c) r) (lp (vec (A4 m c)) (vec (A5 m c)) (uu (A1 m c) (A3 m c) r)) l

/-- A later tile adds its part. -/
theorem add19 (x0 : Vec Ideal S512x1024 .f32) (x2 : Vec Ideal S512x256 .f32) (x4 : Vec Ideal S1x256 .f32) (x5 : Vec Ideal S1x256 .f32) (x6 : Vec Ideal S1x256 .f32) (x7 : Vec Ideal S256x256 .f32) (x10 : Vec Ideal S1x256 .f32) (x12 : Vec Ideal S1024x1024 .f32) (p : Vec Ideal S256x256 .f32) (i : S256x256.Idx) : n19 x0 x2 x4 x5 x6 x7 x10 x12 p i = p i + o19 x0 x2 x4 x5 x6 x7 x10 x12 i := by
  obtain ⟨k, l, rfl⟩ : ∃ (k : Fin 256) (l : Fin 256), i = ix2 k l := idx2 i
  unfold n19 o19
  pointwise [k0_pay69, k0_pay70] <;> first | rfl | exact add_comm _ _

/-- The gradient of the gated product, transposed: one row's part. -/
def part20 (k : Fin 512) (l : Fin 256) (r : Fin 8192) : EReal := dt (mat (A7 m c)) (gc (A8 m c)) (mat (A9 m c)) (mat (A10 m c) r) (mat (A2 m c) r) k * mat (A2 m c) r l

/-- A later tile adds its part. -/
theorem add20 (x0 : Vec Ideal S512x1024 .f32) (x3 : Vec Ideal S512x256 .f32) (x8 : Vec Ideal S512x256 .f32) (x11 : Vec Ideal S1x256 .f32) (x12 : Vec Ideal S1024x1024 .f32) (p : Vec Ideal S512x256 .f32) (i : S512x256.Idx) : n20 x0 x3 x8 x11 x12 p i = p i + o20 x0 x3 x8 x11 x12 i := by
  obtain ⟨k, l, rfl⟩ : ∃ (k : Fin 512) (l : Fin 256), i = ix2 k l := idx2 i
  unfold n20 o20
  pointwise [k0_pay67, k0_pay68] <;> first | rfl | exact add_comm _ _

/-- The gradient of the first norm's scale: one row's part. -/
def part21 (s : Fin 1) (j : Fin 512) (r : Fin 8192) : EReal := mat (A0 m c) r j * Rms.inv 1140850688#32 (mat (A0 m c) r) * d1 (mat (A9 m c)) (mat (A10 m c) r) j

/-- A later tile adds its part. -/
theorem add21 (x0 : Vec Ideal S512x1024 .f32) (x1 : Vec Ideal S512x512 .f32) (x12 : Vec Ideal S1024x1024 .f32) (p : Vec Ideal S1x512 .f32) (i : S1x512.Idx) : n21 x0 x1 x12 p i = p i + o21 x0 x1 x12 i := by
  obtain ⟨k, l, rfl⟩ : ∃ (k : Fin 1) (l : Fin 512), i = ix2 k l := idx2 i
  unfold n21 o21
  pointwise [k0_pay74] <;> first | rfl | exact add_comm _ _

/-- The gradient of the second norm's scale: one row's part. -/
def part22 (s : Fin 1) (j : Fin 256) (r : Fin 8192) : EReal := oc (mat (A6 m c)) (lp (vec (A4 m c)) (vec (A5 m c)) (uu (A1 m c) (A3 m c) r)) j * Rms.inv 1132462080#32 (oc (mat (A6 m c)) (lp (vec (A4 m c)) (vec (A5 m c)) (uu (A1 m c) (A3 m c) r))) * d2 (mat (A9 m c)) (mat (A10 m c) r) j

/-- A later tile adds its part. -/
theorem add22 (x0 : Vec Ideal S512x1024 .f32) (x2 : Vec Ideal S512x256 .f32) (x4 : Vec Ideal S1x256 .f32) (x5 : Vec Ideal S1x256 .f32) (x6 : Vec Ideal S1x256 .f32) (x7 : Vec Ideal S256x256 .f32) (x12 : Vec Ideal S1024x1024 .f32) (p : Vec Ideal S1x256 .f32) (i : S1x256.Idx) : n22 x0 x2 x4 x5 x6 x7 x12 p i = p i + o22 x0 x2 x4 x5 x6 x7 x12 i := by
  obtain ⟨k, l, rfl⟩ : ∃ (k : Fin 1) (l : Fin 256), i = ix2 k l := idx2 i
  unfold n22 o22
  pointwise [k0_pay75] <;> first | rfl | exact add_comm _ _

/-- The gradient of the third norm's scale: one row's part. -/
def part23 (s : Fin 1) (j : Fin 256) (r : Fin 8192) : EReal := os (mat (A7 m c)) (mat (A2 m c) r) j * Rms.inv 1132462080#32 (os (mat (A7 m c)) (mat (A2 m c) r)) * d3 (mat (A9 m c)) (mat (A10 m c) r) j

/-- A later tile adds its part. -/
theorem add23 (x0 : Vec Ideal S512x1024 .f32) (x3 : Vec Ideal S512x256 .f32) (x8 : Vec Ideal S512x256 .f32) (x12 : Vec Ideal S1024x1024 .f32) (p : Vec Ideal S1x256 .f32) (i : S1x256.Idx) : n23 x0 x3 x8 x12 p i = p i + o23 x0 x3 x8 x12 i := by
  obtain ⟨k, l, rfl⟩ : ∃ (k : Fin 1) (l : Fin 256), i = ix2 k l := idx2 i
  unfold n23 o23
  pointwise [k0_pay1] <;> first | rfl | exact add_comm _ _

/-- The gradient of the output product's weight: one row's part. -/
def part24 (k : Fin 1024) (l : Fin 1024) (r : Fin 8192) : EReal := mixed (mat (A6 m c)) (mat (A7 m c)) (ga (A8 m c)) (gb (A8 m c)) (gc (A8 m c)) (mat (A0 m c) r) (lp (vec (A4 m c)) (vec (A5 m c)) (uu (A1 m c) (A3 m c) r)) (mat (A2 m c) r) k * mat (A10 m c) r l

/-- A later tile adds its part. -/
theorem add24 (x0 : Vec Ideal S512x1024 .f32) (x1 : Vec Ideal S512x512 .f32) (x2 : Vec Ideal S512x256 .f32) (x3 : Vec Ideal S512x256 .f32) (x4 : Vec Ideal S1x256 .f32) (x5 : Vec Ideal S1x256 .f32) (x6 : Vec Ideal S1x256 .f32) (x7 : Vec Ideal S256x256 .f32) (x8 : Vec Ideal S512x256 .f32) (x9 : Vec Ideal S1x512 .f32) (x10 : Vec Ideal S1x256 .f32) (x11 : Vec Ideal S1x256 .f32) (p : Vec Ideal S1024x1024 .f32) (i : S1024x1024.Idx) : n24 x0 x1 x2 x3 x4 x5 x6 x7 x8 x9 x10 x11 p i = p i + o24 x0 x1 x2 x3 x4 x5 x6 x7 x8 x9 x10 x11 i := by
  obtain ⟨k, l, rfl⟩ : ∃ (k : Fin 1024) (l : Fin 1024), i = ix2 k l := idx2 i
  unfold n24 o24
  pointwise [k0_pay66] <;> first | rfl | exact add_comm _ _

/-- What the thirteen blocks of tile `t` hold of the arguments. -/
structure Laid (t : Fin cfg0.N) (x0 : Vec Ideal S512x1024 .f32) (x1 : Vec Ideal S512x512 .f32) (x2 : Vec Ideal S512x256 .f32) (x3 : Vec Ideal S512x256 .f32) (x4 : Vec Ideal S1x256 .f32) (x5 : Vec Ideal S1x256 .f32) (x6 : Vec Ideal S1x256 .f32) (x7 : Vec Ideal S256x256 .f32) (x8 : Vec Ideal S512x256 .f32) (x9 : Vec Ideal S1x512 .f32) (x10 : Vec Ideal S1x256 .f32) (x11 : Vec Ideal S1x256 .f32) (x12 : Vec Ideal S1024x1024 .f32) : Prop where
  b0 : ∀ r, mat x0 r = mat (A10 m c) (gr t r)
  b1 : ∀ r, mat x1 r = mat (A0 m c) (gr t r)
  b2 : ∀ r, mat x2 r = mat (A1 m c) (gr t r)
  b3 : ∀ r, mat x3 r = mat (A2 m c) (gr t r)
  b4 : row x4 = vec (A3 m c)
  b5 : row x5 = vec (A4 m c)
  b6 : row x6 = vec (A5 m c)
  b7 : mat x7 = mat (A6 m c)
  b8 : ∀ q k, mat x8 q k = mat (A7 m c) k q
  b9 : row x9 = ga (A8 m c)
  b10 : row x10 = gb (A8 m c)
  b11 : row x11 = gc (A8 m c)
  b12 : mat x12 = mat (A9 m c)

theorem laid (t : Fin cfg0.N) : Laid m c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) :=
  ⟨blk0 m c t, blk1 m c t, blk2 m c t, blk3 m c t, blk4 m c t, blk5 m c t, blk6 m c t, blk7 m c t, blk8 m c t, blk9 m c t, blk10 m c t, blk11 m c t, blk12 m c t⟩

section

variable {x0 : Vec Ideal S512x1024 .f32} {x1 : Vec Ideal S512x512 .f32} {x2 : Vec Ideal S512x256 .f32} {x3 : Vec Ideal S512x256 .f32} {x4 : Vec Ideal S1x256 .f32} {x5 : Vec Ideal S1x256 .f32} {x6 : Vec Ideal S1x256 .f32} {x7 : Vec Ideal S256x256 .f32} {x8 : Vec Ideal S512x256 .f32} {x9 : Vec Ideal S1x512 .f32} {x10 : Vec Ideal S1x256 .f32} {x11 : Vec Ideal S1x256 .f32} {x12 : Vec Ideal S1024x1024 .f32} {t : Fin cfg0.N} (h : Laid m c t x0 x1 x2 x3 x4 x5 x6 x7 x8 x9 x10 x11 x12)
include h

/-- The gradient of the attention's branch, one entry of a tile. -/
theorem cell13 (r : Fin 512) (j : Fin 512) : o13 (F := Ideal) x0 x1 x9 x12 (ix2 r j) = dosb (ga (A8 m c)) (mat (A9 m c)) (mat (A10 m c) (gr t r)) (mat (A0 m c) (gr t r)) j := by
  refine (v196_at x0 x1 x9 x12 r j).trans ?_
  simp only [h.b0, h.b1, h.b9, h.b12, fun r j => congrFun (h.b1 r) j] <;> rfl

/-- The gradient of the convolution's branch, one entry of a tile. -/
theorem cell14 (r : Fin 512) (j : Fin 256) : o14 (F := Ideal) x0 x2 x4 x5 x6 x7 x10 x12 (ix2 r j) = dhc (vec (A4 m c)) (vec (A5 m c)) (mat (A6 m c)) (gb (A8 m c)) (mat (A9 m c)) (mat (A10 m c) (gr t r)) (uu (A1 m c) (A3 m c) (gr t r)) j := by
  refine (o14_at x0 x2 x4 x5 x6 x7 x10 x12 r j).trans ?_
  simp only [h.b0, h.b2, h.b4, h.b5, h.b6, h.b7, h.b10, h.b12, fun r j => congrFun (h.b2 r) j, fun j => congrFun h.b4 j] <;> rfl

/-- The gradient of the state-space branch, one entry of a tile. -/
theorem cell15 (r : Fin 512) (j : Fin 256) : o15 (F := Ideal) x0 x3 x8 x11 x12 (ix2 r j) = dy (mat (A7 m c)) (gc (A8 m c)) (mat (A9 m c)) (mat (A10 m c) (gr t r)) (mat (A2 m c) (gr t r)) j := by
  refine (o15_at x0 x3 x8 x11 x12 r j).trans ?_
  simp only [h.b0, h.b3, h.b8, h.b11, h.b12, fun r j => congrFun (h.b3 r) j] <;> rfl

/-- The gradient of the bias, one tile's part. -/
theorem cell16 (s : Fin 1) (j : Fin 256) : o16 (F := Ideal) x0 x2 x4 x5 x6 x7 x10 x12 (ix2 s j) = ∑ r : Fin 512, part16 m c s j (gr t r) := by
  refine (v246_at x0 x2 x4 x5 x6 x7 x10 x12 s j).trans ?_
  simp only [h.b0, h.b2, h.b4, h.b5, h.b6, h.b7, h.b10, h.b12, fun r j => congrFun (h.b2 r) j, fun j => congrFun h.b4 j] <;> rfl

/-- The gradient of the layer norm's scale, one tile's part. -/
theorem cell17 (s : Fin 1) (j : Fin 256) : o17 (F := Ideal) x0 x2 x4 x5 x6 x7 x10 x12 (ix2 s j) = ∑ r : Fin 512, part17 m c s j (gr t r) := by
  refine (v217_at x0 x2 x4 x5 x6 x7 x10 x12 s j).trans ?_
  simp only [h.b0, h.b2, h.b4, h.b5, h.b6, h.b7, h.b10, h.b12, fun r j => congrFun (h.b2 r) j, fun j => congrFun h.b4 j] <;> rfl

/-- The gradient of the layer norm's shift, one tile's part. -/
theorem cell18 (s : Fin 1) (j : Fin 256) : o18 (F := Ideal) x0 x2 x4 x5 x6 x7 x10 x12 (ix2 s j) = ∑ r : Fin 512, part18 m c s j (gr t r) := by
  refine (v214_at x0 x2 x4 x5 x6 x7 x10 x12 s j).trans ?_
  simp only [h.b0, h.b2, h.b4, h.b5, h.b6, h.b7, h.b10, h.b12, fun r j => congrFun (h.b2 r) j, fun j => congrFun h.b4 j] <;> rfl

/-- The gradient of the convolution branch's product, one tile's part. -/
theorem cell19 (k : Fin 256) (l : Fin 256) : o19 (F := Ideal) x0 x2 x4 x5 x6 x7 x10 x12 (ix2 k l) = ∑ r : Fin 512, part19 m c k l (gr t r) := by
  refine (o19_at x0 x2 x4 x5 x6 x7 x10 x12 k l).trans ?_
  simp only [h.b0, h.b2, h.b4, h.b5, h.b6, h.b7, h.b10, h.b12, fun r j => congrFun (h.b2 r) j, fun j => congrFun h.b4 j] <;> rfl

/-- The gradient of the gated product, transposed, one tile's part. -/
theorem cell20 (k : Fin 512) (l : Fin 256) : o20 (F := Ideal) x0 x3 x8 x11 x12 (ix2 k l) = ∑ r : Fin 512, part20 m c k l (gr t r) := by
  refine (o20_at x0 x3 x8 x11 x12 k l).trans ?_
  simp only [h.b0, h.b3, h.b8, h.b11, h.b12, fun r j => congrFun (h.b3 r) j] <;> rfl

/-- The gradient of the first norm's scale, one tile's part. -/
theorem cell21 (s : Fin 1) (j : Fin 512) : o21 (F := Ideal) x0 x1 x12 (ix2 s j) = ∑ r : Fin 512, part21 m c s j (gr t r) := by
  refine (v179_at x0 x1 x12 s j).trans ?_
  simp only [h.b0, h.b1, h.b12, fun r j => congrFun (h.b1 r) j] <;> rfl

/-- The gradient of the second norm's scale, one tile's part. -/
theorem cell22 (s : Fin 1) (j : Fin 256) : o22 (F := Ideal) x0 x2 x4 x5 x6 x7 x12 (ix2 s j) = ∑ r : Fin 512, part22 m c s j (gr t r) := by
  refine (v159_at x0 x2 x4 x5 x6 x7 x12 s j).trans ?_
  simp only [h.b0, h.b2, h.b4, h.b5, h.b6, h.b7, h.b12, fun r j => congrFun (h.b2 r) j, fun j => congrFun h.b4 j] <;> rfl

/-- The gradient of the third norm's scale, one tile's part. -/
theorem cell23 (s : Fin 1) (j : Fin 256) : o23 (F := Ideal) x0 x3 x8 x12 (ix2 s j) = ∑ r : Fin 512, part23 m c s j (gr t r) := by
  refine (v129_at x0 x3 x8 x12 s j).trans ?_
  simp only [h.b0, h.b3, h.b8, h.b12, fun r j => congrFun (h.b3 r) j] <;> rfl

/-- The gradient of the output product's weight, one tile's part. -/
theorem cell24 (k : Fin 1024) (l : Fin 1024) : o24 (F := Ideal) x0 x1 x2 x3 x4 x5 x6 x7 x8 x9 x10 x11 (ix2 k l) = ∑ r : Fin 512, part24 m c k l (gr t r) := by
  refine (v257_at x0 x1 x2 x3 x4 x5 x6 x7 x8 x9 x10 x11 k l).trans ?_
  simp only [h.b0, h.b1, h.b2, h.b3, h.b4, h.b5, h.b6, h.b7, h.b8, h.b9, h.b10, h.b11, fun r j => congrFun (h.b0 r) j, fun r j => congrFun (h.b1 r) j, fun r j => congrFun (h.b2 r) j, fun r j => congrFun (h.b3 r) j, fun j => congrFun h.b4 j] <;> rfl

end

/-- The convolution branch's gradient of a row, in the reference's form. -/
theorem row_dhc (R : Args (A1 m c) (A3 m c) (A4 m c) (A5 m c) (A6 m c) (A8 m c) (A9 m c) (A10 m c)) (r : Fin 8192) (j : Fin 256) :
    dhc (vec (A4 m c)) (vec (A5 m c)) (mat (A6 m c)) (gb (A8 m c)) (mat (A9 m c)) (mat (A10 m c) r) (uu (A1 m c) (A3 m c) r) j
      = rdhc (vec (A4 m c)) (vec (A5 m c)) (mat (A6 m c)) (gb (A8 m c)) (mat (A9 m c)) (mat (A10 m c) r) (uu (A1 m c) (A3 m c) r) j :=
  dhc_eq R.lg R.lb (fun k => (R.hc r k).add (R.db k)) R.pw (fun k => R.g ⟨512 + k.val, by omega⟩) R.w (R.dx r) j

set_option maxHeartbeats 2000000 in
/-- The gradient of the attention's branch, after the run. -/
theorem final13 : (dats m 0 c).arrAt 13 cfg0.N = Cert.MixOutRefIdeal.Read.val_main_v168 (F := Ideal) (A0 m c) (A8 m c) (A9 m c) (A10 m c) := by
  have e : ∀ t : Fin cfg0.N, win0_13.index t = ![t.val, 0] := by decide +kernel
  refine (dats m 0 c).arrAt_eq_of_covers 13 _ (by decide +kernel) fun t hf y => ?_
  blk_simp
  obtain ⟨r, l, rfl⟩ : ∃ (r : Fin 512) (l : Fin 512), y = ix2 r l := idx2 y
  have hy : (win0_13.blk t).view.emb (ix2 r l) = ix2 (gr t r) l := by unfold gr; blk_ext [e]
  rw [after13, hy]
  exact (cell13 m c (laid m c t) r l).trans ((r168_at (A0 m c) (A8 m c) (A9 m c) (A10 m c) (gr t r) l).symm)

set_option maxHeartbeats 2000000 in
/-- The gradient of the convolution's branch, after the run. -/
theorem final14 (R : Args (A1 m c) (A3 m c) (A4 m c) (A5 m c) (A6 m c) (A8 m c) (A9 m c) (A10 m c)) : (dats m 0 c).arrAt 14 cfg0.N = Cert.MixOutRefIdeal.Read.val_main_v214 (F := Ideal) (A1 m c) (A3 m c) (A4 m c) (A5 m c) (A6 m c) (A8 m c) (A9 m c) (A10 m c) := by
  have e : ∀ t : Fin cfg0.N, win0_14.index t = ![t.val, 0] := by decide +kernel
  refine (dats m 0 c).arrAt_eq_of_covers 14 _ (by decide +kernel) fun t hf y => ?_
  blk_simp
  obtain ⟨r, l, rfl⟩ : ∃ (r : Fin 512) (l : Fin 256), y = ix2 r l := idx2 y
  have hy : (win0_14.blk t).view.emb (ix2 r l) = ix2 (gr t r) l := by unfold gr; blk_ext [e]
  rw [after14, hy]
  exact (cell14 m c (laid m c t) r l).trans ((row_dhc m c R (gr t r) l).trans (r214_at (A1 m c) (A3 m c) (A4 m c) (A5 m c) (A6 m c) (A8 m c) (A9 m c) (A10 m c) (gr t r) l).symm)

set_option maxHeartbeats 2000000 in
/-- The gradient of the state-space branch, after the run. -/
theorem final15 : (dats m 0 c).arrAt 15 cfg0.N = Cert.MixOutRefIdeal.Read.val_main_v177 (F := Ideal) (A2 m c) (A7 m c) (A8 m c) (A9 m c) (A10 m c) := by
  have e : ∀ t : Fin cfg0.N, win0_15.index t = ![t.val, 0] := by decide +kernel
  refine (dats m 0 c).arrAt_eq_of_covers 15 _ (by decide +kernel) fun t hf y => ?_
  blk_simp
  obtain ⟨r, l, rfl⟩ : ∃ (r : Fin 512) (l : Fin 256), y = ix2 r l := idx2 y
  have hy : (win0_15.blk t).view.emb (ix2 r l) = ix2 (gr t r) l := by unfold gr; blk_ext [e]
  rw [after15, hy]
  exact (cell15 m c (laid m c t) r l).trans ((r177_at (A2 m c) (A7 m c) (A8 m c) (A9 m c) (A10 m c) (gr t r) l).symm)

set_option maxHeartbeats 2000000 in
/-- The gradient of the bias, after the run. -/
theorem final16 (R : Args (A1 m c) (A3 m c) (A4 m c) (A5 m c) (A6 m c) (A8 m c) (A9 m c) (A10 m c)) : (dats m 0 c).arrAt 16 cfg0.N = Cert.MixOutRefIdeal.Read.val_main_v218 (F := Ideal) (A1 m c) (A3 m c) (A4 m c) (A5 m c) (A6 m c) (A8 m c) (A9 m c) (A10 m c) := by
  have e : ∀ t : Fin cfg0.N, win0_16.index t = ![0, 0] := by decide +kernel
  have hl : ∀ t : Fin cfg0.N, (cfg0.win 16).flush t = true → t.val = 15 := by decide +kernel
  refine (dats m 0 c).arrAt_eq_of_covers 16 _ (by decide +kernel) fun t hf y => ?_
  blk_simp
  obtain ⟨k, l, rfl⟩ : ∃ (k : Fin 1) (l : Fin 256), y = ix2 k l := idx2 y
  have hy : (win0_16.blk t).view.emb (ix2 k l) = ix2 k l := by blk_ext [e]
  rw [after16, hy]
  refine (out_sum (out16 m c) (fun t => o16 (iblk m c 0 t) (iblk m c 2 t) (iblk m c 4 t) (iblk m c 5 t) (iblk m c 6 t) (iblk m c 7 t) (iblk m c 10 t) (iblk m c 12 t)) (fun t h i => congrFun (out16_first m c t h) i) (fun t h i => (congrFun (out16_pos m c t h) i).trans (add16 _ _ _ _ _ _ _ _ _ _ )) t (hl t hf) (ix2 k l)).trans ?_
  refine (Finset.sum_congr rfl fun p _ => cell16 m c (laid m c (Fin.cast N_0.symm p)) k l).trans ?_
  exact (Fin.sum_mul_add_fin (L := 8192) 16 512 (part16 m c k l)).trans ((Finset.sum_congr rfl fun r _ => row_dhc m c R r l).trans (r218_at (A1 m c) (A3 m c) (A4 m c) (A5 m c) (A6 m c) (A8 m c) (A9 m c) (A10 m c) k l).symm)

set_option maxHeartbeats 2000000 in
/-- The gradient of the layer norm's scale, after the run. -/
theorem final17 : (dats m 0 c).arrAt 17 cfg0.N = Cert.MixOutRefIdeal.Read.val_main_v219 (F := Ideal) (A1 m c) (A3 m c) (A4 m c) (A5 m c) (A6 m c) (A8 m c) (A9 m c) (A10 m c) := by
  have e : ∀ t : Fin cfg0.N, win0_17.index t = ![0, 0] := by decide +kernel
  have hl : ∀ t : Fin cfg0.N, (cfg0.win 17).flush t = true → t.val = 15 := by decide +kernel
  refine (dats m 0 c).arrAt_eq_of_covers 17 _ (by decide +kernel) fun t hf y => ?_
  blk_simp
  obtain ⟨k, l, rfl⟩ : ∃ (k : Fin 1) (l : Fin 256), y = ix2 k l := idx2 y
  have hy : (win0_17.blk t).view.emb (ix2 k l) = ix2 k l := by blk_ext [e]
  rw [after17, hy]
  refine (out_sum (out17 m c) (fun t => o17 (iblk m c 0 t) (iblk m c 2 t) (iblk m c 4 t) (iblk m c 5 t) (iblk m c 6 t) (iblk m c 7 t) (iblk m c 10 t) (iblk m c 12 t)) (fun t h i => congrFun (out17_first m c t h) i) (fun t h i => (congrFun (out17_pos m c t h) i).trans (add17 _ _ _ _ _ _ _ _ _ _ )) t (hl t hf) (ix2 k l)).trans ?_
  refine (Finset.sum_congr rfl fun p _ => cell17 m c (laid m c (Fin.cast N_0.symm p)) k l).trans ?_
  exact (Fin.sum_mul_add_fin (L := 8192) 16 512 (part17 m c k l)).trans ((r219_at (A1 m c) (A3 m c) (A4 m c) (A5 m c) (A6 m c) (A8 m c) (A9 m c) (A10 m c) k l).symm)

set_option maxHeartbeats 2000000 in
/-- The gradient of the layer norm's shift, after the run. -/
theorem final18 : (dats m 0 c).arrAt 18 cfg0.N = Cert.MixOutRefIdeal.Read.val_main_v220 (F := Ideal) (A1 m c) (A3 m c) (A4 m c) (A5 m c) (A6 m c) (A8 m c) (A9 m c) (A10 m c) := by
  have e : ∀ t : Fin cfg0.N, win0_18.index t = ![0, 0] := by decide +kernel
  have hl : ∀ t : Fin cfg0.N, (cfg0.win 18).flush t = true → t.val = 15 := by decide +kernel
  refine (dats m 0 c).arrAt_eq_of_covers 18 _ (by decide +kernel) fun t hf y => ?_
  blk_simp
  obtain ⟨k, l, rfl⟩ : ∃ (k : Fin 1) (l : Fin 256), y = ix2 k l := idx2 y
  have hy : (win0_18.blk t).view.emb (ix2 k l) = ix2 k l := by blk_ext [e]
  rw [after18, hy]
  refine (out_sum (out18 m c) (fun t => o18 (iblk m c 0 t) (iblk m c 2 t) (iblk m c 4 t) (iblk m c 5 t) (iblk m c 6 t) (iblk m c 7 t) (iblk m c 10 t) (iblk m c 12 t)) (fun t h i => congrFun (out18_first m c t h) i) (fun t h i => (congrFun (out18_pos m c t h) i).trans (add18 _ _ _ _ _ _ _ _ _ _ )) t (hl t hf) (ix2 k l)).trans ?_
  refine (Finset.sum_congr rfl fun p _ => cell18 m c (laid m c (Fin.cast N_0.symm p)) k l).trans ?_
  exact (Fin.sum_mul_add_fin (L := 8192) 16 512 (part18 m c k l)).trans ((r220_at (A1 m c) (A3 m c) (A4 m c) (A5 m c) (A6 m c) (A8 m c) (A9 m c) (A10 m c) k l).symm)

set_option maxHeartbeats 2000000 in
/-- The gradient of the convolution branch's product, after the run. -/
theorem final19 : (dats m 0 c).arrAt 19 cfg0.N = Cert.MixOutRefIdeal.Read.val_main_v179 (F := Ideal) (A1 m c) (A3 m c) (A4 m c) (A5 m c) (A6 m c) (A8 m c) (A9 m c) (A10 m c) := by
  have e : ∀ t : Fin cfg0.N, win0_19.index t = ![0, 0] := by decide +kernel
  have hl : ∀ t : Fin cfg0.N, (cfg0.win 19).flush t = true → t.val = 15 := by decide +kernel
  refine (dats m 0 c).arrAt_eq_of_covers 19 _ (by decide +kernel) fun t hf y => ?_
  blk_simp
  obtain ⟨k, l, rfl⟩ : ∃ (k : Fin 256) (l : Fin 256), y = ix2 k l := idx2 y
  have hy : (win0_19.blk t).view.emb (ix2 k l) = ix2 k l := by blk_ext [e]
  rw [after19, hy]
  refine (out_sum (out19 m c) (fun t => o19 (iblk m c 0 t) (iblk m c 2 t) (iblk m c 4 t) (iblk m c 5 t) (iblk m c 6 t) (iblk m c 7 t) (iblk m c 10 t) (iblk m c 12 t)) (fun t h i => congrFun (out19_first m c t h) i) (fun t h i => (congrFun (out19_pos m c t h) i).trans (add19 _ _ _ _ _ _ _ _ _ _ )) t (hl t hf) (ix2 k l)).trans ?_
  refine (Finset.sum_congr rfl fun p _ => cell19 m c (laid m c (Fin.cast N_0.symm p)) k l).trans ?_
  exact (Fin.sum_mul_add_fin (L := 8192) 16 512 (part19 m c k l)).trans ((Finset.sum_congr rfl fun r _ => mul_comm _ _).trans (r179_at (A1 m c) (A3 m c) (A4 m c) (A5 m c) (A6 m c) (A8 m c) (A9 m c) (A10 m c) k l).symm)

set_option maxHeartbeats 2000000 in
/-- The gradient of the gated product, transposed, after the run. -/
theorem final20 : (dats m 0 c).arrAt 20 cfg0.N = Cert.MixOutRefIdeal.Read.val_main_v221 (F := Ideal) (A2 m c) (A7 m c) (A8 m c) (A9 m c) (A10 m c) := by
  have e : ∀ t : Fin cfg0.N, win0_20.index t = ![0, 0] := by decide +kernel
  have hl : ∀ t : Fin cfg0.N, (cfg0.win 20).flush t = true → t.val = 15 := by decide +kernel
  refine (dats m 0 c).arrAt_eq_of_covers 20 _ (by decide +kernel) fun t hf y => ?_
  blk_simp
  obtain ⟨k, l, rfl⟩ : ∃ (k : Fin 512) (l : Fin 256), y = ix2 k l := idx2 y
  have hy : (win0_20.blk t).view.emb (ix2 k l) = ix2 k l := by blk_ext [e]
  rw [after20, hy]
  refine (out_sum (out20 m c) (fun t => o20 (iblk m c 0 t) (iblk m c 3 t) (iblk m c 8 t) (iblk m c 11 t) (iblk m c 12 t)) (fun t h i => congrFun (out20_first m c t h) i) (fun t h i => (congrFun (out20_pos m c t h) i).trans (add20 _ _ _ _ _ _ _ )) t (hl t hf) (ix2 k l)).trans ?_
  refine (Finset.sum_congr rfl fun p _ => cell20 m c (laid m c (Fin.cast N_0.symm p)) k l).trans ?_
  exact (Fin.sum_mul_add_fin (L := 8192) 16 512 (part20 m c k l)).trans ((r221_at (A2 m c) (A7 m c) (A8 m c) (A9 m c) (A10 m c) k l).symm)

set_option maxHeartbeats 2000000 in
/-- The gradient of the first norm's scale, after the run. -/
theorem final21 : (dats m 0 c).arrAt 21 cfg0.N = Cert.MixOutRefIdeal.Read.val_main_v223 (F := Ideal) (A0 m c) (A1 m c) (A2 m c) (A3 m c) (A4 m c) (A5 m c) (A6 m c) (A7 m c) (A9 m c) (A10 m c) := by
  have e : ∀ t : Fin cfg0.N, win0_21.index t = ![0, 0] := by decide +kernel
  have hl : ∀ t : Fin cfg0.N, (cfg0.win 21).flush t = true → t.val = 15 := by decide +kernel
  refine (dats m 0 c).arrAt_eq_of_covers 21 _ (by decide +kernel) fun t hf y => ?_
  blk_simp
  obtain ⟨k, l, rfl⟩ : ∃ (k : Fin 1) (l : Fin 512), y = ix2 k l := idx2 y
  have hy : (win0_21.blk t).view.emb (ix2 k l) = ix2 k l := by blk_ext [e]
  rw [after21, hy]
  refine (out_sum (out21 m c) (fun t => o21 (iblk m c 0 t) (iblk m c 1 t) (iblk m c 12 t)) (fun t h i => congrFun (out21_first m c t h) i) (fun t h i => (congrFun (out21_pos m c t h) i).trans (add21 _ _ _ _ _ )) t (hl t hf) (ix2 k l)).trans ?_
  refine (Finset.sum_congr rfl fun p _ => cell21 m c (laid m c (Fin.cast N_0.symm p)) k l).trans ?_
  exact (Fin.sum_mul_add_fin (L := 8192) 16 512 (part21 m c k l)).trans ((r223_at (A0 m c) (A1 m c) (A2 m c) (A3 m c) (A4 m c) (A5 m c) (A6 m c) (A7 m c) (A9 m c) (A10 m c) k l).symm)

set_option maxHeartbeats 2000000 in
/-- The gradient of the second norm's scale, after the run. -/
theorem final22 : (dats m 0 c).arrAt 22 cfg0.N = Cert.MixOutRefIdeal.Read.val_main_v225 (F := Ideal) (A0 m c) (A1 m c) (A2 m c) (A3 m c) (A4 m c) (A5 m c) (A6 m c) (A7 m c) (A9 m c) (A10 m c) := by
  have e : ∀ t : Fin cfg0.N, win0_22.index t = ![0, 0] := by decide +kernel
  have hl : ∀ t : Fin cfg0.N, (cfg0.win 22).flush t = true → t.val = 15 := by decide +kernel
  refine (dats m 0 c).arrAt_eq_of_covers 22 _ (by decide +kernel) fun t hf y => ?_
  blk_simp
  obtain ⟨k, l, rfl⟩ : ∃ (k : Fin 1) (l : Fin 256), y = ix2 k l := idx2 y
  have hy : (win0_22.blk t).view.emb (ix2 k l) = ix2 k l := by blk_ext [e]
  rw [after22, hy]
  refine (out_sum (out22 m c) (fun t => o22 (iblk m c 0 t) (iblk m c 2 t) (iblk m c 4 t) (iblk m c 5 t) (iblk m c 6 t) (iblk m c 7 t) (iblk m c 12 t)) (fun t h i => congrFun (out22_first m c t h) i) (fun t h i => (congrFun (out22_pos m c t h) i).trans (add22 _ _ _ _ _ _ _ _ _ )) t (hl t hf) (ix2 k l)).trans ?_
  refine (Finset.sum_congr rfl fun p _ => cell22 m c (laid m c (Fin.cast N_0.symm p)) k l).trans ?_
  exact (Fin.sum_mul_add_fin (L := 8192) 16 512 (part22 m c k l)).trans ((r225_at (A0 m c) (A1 m c) (A2 m c) (A3 m c) (A4 m c) (A5 m c) (A6 m c) (A7 m c) (A9 m c) (A10 m c) k l).symm)

set_option maxHeartbeats 2000000 in
/-- The gradient of the third norm's scale, after the run. -/
theorem final23 : (dats m 0 c).arrAt 23 cfg0.N = Cert.MixOutRefIdeal.Read.val_main_v227 (F := Ideal) (A0 m c) (A1 m c) (A2 m c) (A3 m c) (A4 m c) (A5 m c) (A6 m c) (A7 m c) (A9 m c) (A10 m c) := by
  have e : ∀ t : Fin cfg0.N, win0_23.index t = ![0, 0] := by decide +kernel
  have hl : ∀ t : Fin cfg0.N, (cfg0.win 23).flush t = true → t.val = 15 := by decide +kernel
  refine (dats m 0 c).arrAt_eq_of_covers 23 _ (by decide +kernel) fun t hf y => ?_
  blk_simp
  obtain ⟨k, l, rfl⟩ : ∃ (k : Fin 1) (l : Fin 256), y = ix2 k l := idx2 y
  have hy : (win0_23.blk t).view.emb (ix2 k l) = ix2 k l := by blk_ext [e]
  rw [after23, hy]
  refine (out_sum (out23 m c) (fun t => o23 (iblk m c 0 t) (iblk m c 3 t) (iblk m c 8 t) (iblk m c 12 t)) (fun t h i => congrFun (out23_first m c t h) i) (fun t h i => (congrFun (out23_pos m c t h) i).trans (add23 _ _ _ _ _ _ )) t (hl t hf) (ix2 k l)).trans ?_
  refine (Finset.sum_congr rfl fun p _ => cell23 m c (laid m c (Fin.cast N_0.symm p)) k l).trans ?_
  exact (Fin.sum_mul_add_fin (L := 8192) 16 512 (part23 m c k l)).trans ((r227_at (A0 m c) (A1 m c) (A2 m c) (A3 m c) (A4 m c) (A5 m c) (A6 m c) (A7 m c) (A9 m c) (A10 m c) k l).symm)

set_option maxHeartbeats 2000000 in
/-- The gradient of the output product's weight, after the run. -/
theorem final24 : (dats m 0 c).arrAt 24 cfg0.N = Cert.MixOutRefIdeal.Read.val_main_v101 (F := Ideal) (A0 m c) (A1 m c) (A2 m c) (A3 m c) (A4 m c) (A5 m c) (A6 m c) (A7 m c) (A8 m c) (A10 m c) := by
  have e : ∀ t : Fin cfg0.N, win0_24.index t = ![0, 0] := by decide +kernel
  have hl : ∀ t : Fin cfg0.N, (cfg0.win 24).flush t = true → t.val = 15 := by decide +kernel
  refine (dats m 0 c).arrAt_eq_of_covers 24 _ (by decide +kernel) fun t hf y => ?_
  blk_simp
  obtain ⟨k, l, rfl⟩ : ∃ (k : Fin 1024) (l : Fin 1024), y = ix2 k l := idx2 y
  have hy : (win0_24.blk t).view.emb (ix2 k l) = ix2 k l := by blk_ext [e]
  rw [after24, hy]
  refine (out_sum (out24 m c) (fun t => o24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (fun t h i => congrFun (out24_first m c t h) i) (fun t h i => (congrFun (out24_pos m c t h) i).trans (add24 _ _ _ _ _ _ _ _ _ _ _ _ _ _ )) t (hl t hf) (ix2 k l)).trans ?_
  refine (Finset.sum_congr rfl fun p _ => cell24 m c (laid m c (Fin.cast N_0.symm p)) k l).trans ?_
  exact (Fin.sum_mul_add_fin (L := 8192) 16 512 (part24 m c k l)).trans ((Finset.sum_congr rfl fun r _ => mul_comm _ _).trans (r101_at (A0 m c) (A1 m c) (A2 m c) (A3 m c) (A4 m c) (A5 m c) (A6 m c) (A7 m c) (A8 m c) (A10 m c) k l).symm)

end Cert.MixOutVal

end
-- ==== Proof.MixOut.Claims.lean ====
/- The claims about the output product's gradient call and its reference. -/
module

public import proofs.«01_k».proof.Defs
public import proofs.«01_k».proof.Proof.MixOut.Final
public import proofs.«01_k».proof.Proof.Gen.MixOut
public import proofs.«01_k».proof.Proof.Gen.MixOutRefIdeal.Run
public import Idealize.ShloMosaic.Adequacy
public import Idealize.ShloMosaic.Init
public import Idealize.ShloMosaic.Lib.ReduceAll

@[expose] public section

set_option maxRecDepth 16384

noncomputable section

namespace Cert.MixOutVal

open Idealize.ShloMosaic Idealize.ShloMosaic.TcCoe Idealize.SL.Sem Idealize.ShloMosaic.Pointwise Cert.Base Cert.Fin

/-- The call's frame: the run is that of the ideal program's text, at bit patterns. -/
theorem frame_kernel : Cert.quiescent_MixOut := fun m ρ _ => by
  refine Eq.mp ?_ (Cert.MixOutIdeal.Run.frame_run (F := Bits) m ρ)
  sl_kernel_rfl

/-- Its frame over the extended reals. -/
theorem frame_ideal : Cert.quiescent_MixOutIdeal := fun m ρ _ => Cert.MixOutIdeal.Run.frame_run m ρ

/-- The precondition's own side conditions. -/
instance finite_facts : Cert.Pre_finite_mixout.Facts := by constructor <;> decide

theorem frame_ideal_pre : Cert.quiescent_MixOutIdeal_pre_finite_mixout := fun m ρ _ => Cert.MixOutIdeal.Run.frame_run m ρ

/-- No operation is rewritten. -/
theorem preserves : Cert.preserves_MixOut_MixOutIdeal := trivial

/-- The reference leaves its arguments and, having no semaphore, every counter at zero. -/
theorem frame_ref : Cert.quiescent_MixOutRefIdeal := fun m ρ _ =>
  (θ_run Cert.MixOutRefIdeal.defs _ _).mono (fun r h => ⟨fun c => (h c).2.2.2.2.2.2.2.2.2.2.2.2, sem_eq_zero_of_no_sems (by decide) r.2⟩)
    (Cert.MixOutRefIdeal.Value.run (F := Ideal) m ρ)

theorem frame_ref_pre : Cert.quiescent_MixOutRefIdeal_pre_finite_mixout := fun m ρ _ => frame_ref m ρ trivial

/-- Finite arguments are arrays of reals. -/
theorem reals_of (a0 : Vec Ideal Cert.MixOutIdeal.S8192x512 .f32) (a1 : Vec Ideal Cert.MixOutIdeal.S8192x256 .f32) (a2 : Vec Ideal Cert.MixOutIdeal.S8192x256 .f32) (a3 : Vec Ideal Cert.MixOutIdeal.S256 .f32) (a4 : Vec Ideal Cert.MixOutIdeal.S256 .f32) (a5 : Vec Ideal Cert.MixOutIdeal.S256 .f32) (a6 : Vec Ideal Cert.MixOutIdeal.S256x256 .f32) (a7 : Vec Ideal Cert.MixOutIdeal.S256x512 .f32) (a8 : Vec Ideal Cert.MixOutIdeal.S1024 .f32) (a9 : Vec Ideal Cert.MixOutIdeal.S1024x1024 .f32) (a10 : Vec Ideal Cert.MixOutIdeal.S8192x1024 .f32)
    (h : Cert.Pre_finite_mixout.fn (F := Ideal) a0 a1 a2 a3 a4 a5 a6 a7 a8 a9 a10 = (fun _ => 1#1)) : Args a1 a3 a4 a5 a6 a8 a9 a10 := by
  have h0 := congrFun h ix0
  have two : ∀ a b : BitVec 1, IntOp.andi a b = 1#1 → a = 1#1 ∧ b = 1#1 := by decide
  simp only [Cert.Pre_finite_mixout.fn, Cert.Pre_finite_mixout.fn_part1, Cert.Pre_finite_mixout.fn_part2] at h0
  obtain ⟨h0, q7⟩ := two _ _ h0
  obtain ⟨h0, q6⟩ := two _ _ h0
  obtain ⟨h0, q5⟩ := two _ _ h0
  obtain ⟨h0, q4⟩ := two _ _ h0
  obtain ⟨h0, q3⟩ := two _ _ h0
  obtain ⟨h0, q2⟩ := two _ _ h0
  obtain ⟨h0, q1⟩ := two _ _ h0
  exact ⟨fun r l => of_cmp (Host.reduce_andi_all _ _ _ _ _ h0 (ix2 r l)),
    fun l => of_cmp (Host.reduce_andi_all _ _ _ _ _ q1 (ix1 l)),
    fun l => of_cmp (Host.reduce_andi_all _ _ _ _ _ q2 (ix1 l)),
    fun l => of_cmp (Host.reduce_andi_all _ _ _ _ _ q3 (ix1 l)),
    fun r l => of_cmp (Host.reduce_andi_all _ _ _ _ _ q4 (ix2 r l)),
    fun l => of_cmp (Host.reduce_andi_all _ _ _ _ _ q5 (ix1 l)),
    fun r l => of_cmp (Host.reduce_andi_all _ _ _ _ _ q6 (ix2 r l)),
    fun r l => of_cmp (Host.reduce_andi_all _ _ _ _ _ q7 (ix2 r l))⟩

section

open Cert.MixOutIdeal Cert.MixOutIdeal.Run

/-- The arrays the call leaves, and its arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = (dats m 0 c).arrAt 13 cfg0.N
      ∧ r.2.mem ((c.tc : Thread nD τ).loc main_v10_1) = (dats m 0 c).arrAt 14 cfg0.N
      ∧ r.2.mem ((c.tc : Thread nD τ).loc main_v10_2) = (dats m 0 c).arrAt 15 cfg0.N
      ∧ r.2.mem ((c.tc : Thread nD τ).loc main_v10_3) = (dats m 0 c).arrAt 16 cfg0.N
      ∧ r.2.mem ((c.tc : Thread nD τ).loc main_v10_4) = (dats m 0 c).arrAt 17 cfg0.N
      ∧ r.2.mem ((c.tc : Thread nD τ).loc main_v10_5) = (dats m 0 c).arrAt 18 cfg0.N
      ∧ r.2.mem ((c.tc : Thread nD τ).loc main_v10_6) = (dats m 0 c).arrAt 19 cfg0.N
      ∧ r.2.mem ((c.tc : Thread nD τ).loc main_v10_7) = (dats m 0 c).arrAt 20 cfg0.N
      ∧ r.2.mem ((c.tc : Thread nD τ).loc main_v10_8) = (dats m 0 c).arrAt 21 cfg0.N
      ∧ r.2.mem ((c.tc : Thread nD τ).loc main_v10_9) = (dats m 0 c).arrAt 22 cfg0.N
      ∧ r.2.mem ((c.tc : Thread nD τ).loc main_v10_10) = (dats m 0 c).arrAt 23 cfg0.N
      ∧ r.2.mem ((c.tc : Thread nD τ).loc main_v10_11) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (θ_run_and (run_main m ρ) (frame_run m ρ))
  obtain ⟨h1, h2⟩ := h
  have w := (h1 c).1
  exact ⟨w 13, w 14, w 15, w 16, w 17, w 18, w 19, w 20, w 21, w 22, w 23, w 24, h2.1 c⟩

end

set_option maxHeartbeats 4000000 in
/-- The call and the reference compute the same twelve gradients over the extended reals, where the arguments behind the layer norm's gradient are finite. -/
theorem algebraic : Cert.algebraic_MixOutIdeal_MixOutRefIdeal_pre_finite_mixout := by
  intro m ρ m' ρ' hp hag
  refine ⟨fun c => (Cert.MixOutIdeal.Run.dats m 0 c).arrAt 13 Cert.MixOutIdeal.cfg0.N, fun c => (Cert.MixOutIdeal.Run.dats m 0 c).arrAt 14 Cert.MixOutIdeal.cfg0.N, fun c => (Cert.MixOutIdeal.Run.dats m 0 c).arrAt 15 Cert.MixOutIdeal.cfg0.N, fun c => (Cert.MixOutIdeal.Run.dats m 0 c).arrAt 16 Cert.MixOutIdeal.cfg0.N, fun c => (Cert.MixOutIdeal.Run.dats m 0 c).arrAt 17 Cert.MixOutIdeal.cfg0.N, fun c => (Cert.MixOutIdeal.Run.dats m 0 c).arrAt 18 Cert.MixOutIdeal.cfg0.N, fun c => (Cert.MixOutIdeal.Run.dats m 0 c).arrAt 19 Cert.MixOutIdeal.cfg0.N, fun c => (Cert.MixOutIdeal.Run.dats m 0 c).arrAt 20 Cert.MixOutIdeal.cfg0.N, fun c => (Cert.MixOutIdeal.Run.dats m 0 c).arrAt 21 Cert.MixOutIdeal.cfg0.N, fun c => (Cert.MixOutIdeal.Run.dats m 0 c).arrAt 22 Cert.MixOutIdeal.cfg0.N, fun c => (Cert.MixOutIdeal.Run.dats m 0 c).arrAt 23 Cert.MixOutIdeal.cfg0.N, fun c => (Cert.MixOutIdeal.Run.dats m 0 c).arrAt 24 Cert.MixOutIdeal.cfg0.N, run_kernel m ρ,
    (θ_run Cert.MixOutRefIdeal.defs _ _).mono (fun r h c => ?_) (Cert.MixOutRefIdeal.Value.run (F := Ideal) m' ρ')⟩
  obtain ⟨h0, h1, h2, h3, h4, h5, h6, h7, h8, h9, h10, h11, hk⟩ := h c
  obtain ⟨e0, e1, e2, e3, e4, e5, e6, e7, e8, e9, e10⟩ := hag c
  have R := reals_of _ _ _ _ _ _ _ _ _ _ _ (hp c)
  refine ⟨h0.trans ?_, h1.trans ?_, h2.trans ?_, h3.trans ?_, h4.trans ?_, h5.trans ?_, h6.trans ?_, h7.trans ?_, h8.trans ?_, h9.trans ?_, h10.trans ?_, h11.trans ?_, hk⟩
  · refine (Cert.MixOutRefIdeal.Read.val_main_v168_eq _).trans ?_
    show Cert.MixOutRefIdeal.Read.val_main_v168 (F := Ideal) (m' (c.tc.loc Cert.MixOutRefIdeal.main_arg0)) (m' (c.tc.loc Cert.MixOutRefIdeal.main_arg8)) (m' (c.tc.loc Cert.MixOutRefIdeal.main_arg9)) (m' (c.tc.loc Cert.MixOutRefIdeal.main_arg10)) = _
    rw [e0, e8, e9, e10]
    exact (final13 m c).symm
  · refine (Cert.MixOutRefIdeal.Read.val_main_v214_eq _).trans ?_
    show Cert.MixOutRefIdeal.Read.val_main_v214 (F := Ideal) (m' (c.tc.loc Cert.MixOutRefIdeal.main_arg1)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg8)) (m' (c.tc.loc Cert.MixOutRefIdeal.main_arg9)) (m' (c.tc.loc Cert.MixOutRefIdeal.main_arg10)) = _
    rw [e1, e3, e4, e5, e6, e8, e9, e10]
    exact (final14 m c R).symm
  · refine (Cert.MixOutRefIdeal.Read.val_main_v177_eq _).trans ?_
    show Cert.MixOutRefIdeal.Read.val_main_v177 (F := Ideal) (m' (c.tc.loc Cert.MixOutRefIdeal.main_arg2)) (m' (c.tc.loc Cert.MixOutRefIdeal.main_arg7)) (m' (c.tc.loc Cert.MixOutRefIdeal.main_arg8)) (m' (c.tc.loc Cert.MixOutRefIdeal.main_arg9)) (m' (c.tc.loc Cert.MixOutRefIdeal.main_arg10)) = _
    rw [e2, e7, e8, e9, e10]
    exact (final15 m c).symm
  · refine (Cert.MixOutRefIdeal.Read.val_main_v218_eq _).trans ?_
    show Cert.MixOutRefIdeal.Read.val_main_v218 (F := Ideal) (m' (c.tc.loc Cert.MixOutRefIdeal.main_arg1)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg8)) (m' (c.tc.loc Cert.MixOutRefIdeal.main_arg9)) (m' (c.tc.loc Cert.MixOutRefIdeal.main_arg10)) = _
    rw [e1, e3, e4, e5, e6, e8, e9, e10]
    exact (final16 m c R).symm
  · refine (Cert.MixOutRefIdeal.Read.val_main_v219_eq _).trans ?_
    show Cert.MixOutRefIdeal.Read.val_main_v219 (F := Ideal) (m' (c.tc.loc Cert.MixOutRefIdeal.main_arg1)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg8)) (m' (c.tc.loc Cert.MixOutRefIdeal.main_arg9)) (m' (c.tc.loc Cert.MixOutRefIdeal.main_arg10)) = _
    rw [e1, e3, e4, e5, e6, e8, e9, e10]
    exact (final17 m c).symm
  · refine (Cert.MixOutRefIdeal.Read.val_main_v220_eq _).trans ?_
    show Cert.MixOutRefIdeal.Read.val_main_v220 (F := Ideal) (m' (c.tc.loc Cert.MixOutRefIdeal.main_arg1)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg8)) (m' (c.tc.loc Cert.MixOutRefIdeal.main_arg9)) (m' (c.tc.loc Cert.MixOutRefIdeal.main_arg10)) = _
    rw [e1, e3, e4, e5, e6, e8, e9, e10]
    exact (final18 m c).symm
  · refine (Cert.MixOutRefIdeal.Read.val_main_v179_eq _).trans ?_
    show Cert.MixOutRefIdeal.Read.val_main_v179 (F := Ideal) (m' (c.tc.loc Cert.MixOutRefIdeal.main_arg1)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg8)) (m' (c.tc.loc Cert.MixOutRefIdeal.main_arg9)) (m' (c.tc.loc Cert.MixOutRefIdeal.main_arg10)) = _
    rw [e1, e3, e4, e5, e6, e8, e9, e10]
    exact (final19 m c).symm
  · refine (Cert.MixOutRefIdeal.Read.val_main_v221_eq _).trans ?_
    show Cert.MixOutRefIdeal.Read.val_main_v221 (F := Ideal) (m' (c.tc.loc Cert.MixOutRefIdeal.main_arg2)) (m' (c.tc.loc Cert.MixOutRefIdeal.main_arg7)) (m' (c.tc.loc Cert.MixOutRefIdeal.main_arg8)) (m' (c.tc.loc Cert.MixOutRefIdeal.main_arg9)) (m' (c.tc.loc Cert.MixOutRefIdeal.main_arg10)) = _
    rw [e2, e7, e8, e9, e10]
    exact (final20 m c).symm
  · refine (Cert.MixOutRefIdeal.Read.val_main_v223_eq _).trans ?_
    show Cert.MixOutRefIdeal.Read.val_main_v223 (F := Ideal) (m' (c.tc.loc Cert.MixOutRefIdeal.main_arg0)) (m' (c.tc.loc Cert.MixOutRefIdeal.main_arg1)) (m' (c.tc.loc Cert.MixOutRefIdeal.main_arg2)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg7)) (m' (c.tc.loc Cert.MixOutRefIdeal.main_arg9)) (m' (c.tc.loc Cert.MixOutRefIdeal.main_arg10)) = _
    rw [e0, e1, e2, e3, e4, e5, e6, e7, e9, e10]
    exact (final21 m c).symm
  · refine (Cert.MixOutRefIdeal.Read.val_main_v225_eq _).trans ?_
    show Cert.MixOutRefIdeal.Read.val_main_v225 (F := Ideal) (m' (c.tc.loc Cert.MixOutRefIdeal.main_arg0)) (m' (c.tc.loc Cert.MixOutRefIdeal.main_arg1)) (m' (c.tc.loc Cert.MixOutRefIdeal.main_arg2)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg7)) (m' (c.tc.loc Cert.MixOutRefIdeal.main_arg9)) (m' (c.tc.loc Cert.MixOutRefIdeal.main_arg10)) = _
    rw [e0, e1, e2, e3, e4, e5, e6, e7, e9, e10]
    exact (final22 m c).symm
  · refine (Cert.MixOutRefIdeal.Read.val_main_v227_eq _).trans ?_
    show Cert.MixOutRefIdeal.Read.val_main_v227 (F := Ideal) (m' (c.tc.loc Cert.MixOutRefIdeal.main_arg0)) (m' (c.tc.loc Cert.MixOutRefIdeal.main_arg1)) (m' (c.tc.loc Cert.MixOutRefIdeal.main_arg2)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg7)) (m' (c.tc.loc Cert.MixOutRefIdeal.main_arg9)) (m' (c.tc.loc Cert.MixOutRefIdeal.main_arg10)) = _
    rw [e0, e1, e2, e3, e4, e5, e6, e7, e9, e10]
    exact (final23 m c).symm
  · refine (Cert.MixOutRefIdeal.Read.val_main_v101_eq _).trans ?_
    show Cert.MixOutRefIdeal.Read.val_main_v101 (F := Ideal) (m' (c.tc.loc Cert.MixOutRefIdeal.main_arg0)) (m' (c.tc.loc Cert.MixOutRefIdeal.main_arg1)) (m' (c.tc.loc Cert.MixOutRefIdeal.main_arg2)) (m' (c.tc.loc Cert.MixOutRefIdeal.main_arg3)) (m' (c.tc.loc Cert.MixOutRefIdeal.main_arg4)) (m' (c.tc.loc Cert.MixOutRefIdeal.main_arg5)) (m' (c.tc.loc Cert.MixOutRefIdeal.main_arg6)) (m' (c.tc.loc Cert.MixOutRefIdeal.main_arg7)) (m' (c.tc.loc Cert.MixOutRefIdeal.main_arg8)) (m' (c.tc.loc Cert.MixOutRefIdeal.main_arg10)) = _
    rw [e0, e1, e2, e3, e4, e5, e6, e7, e8, e10]
    exact (final24 m c).symm

end Cert.MixOutVal

end
-- ==== Proof.lean ====
/- The claims of every pair of programs, each proved in its own directory of modules. -/
module

public import proofs.«01_k».proof.Defs
public import proofs.«01_k».proof.Proof.Gen.SbRefIdeal.Run
public import proofs.«01_k».proof.Proof.Gen.SbRefIdeal.Read
public import proofs.«01_k».proof.Proof.Sb.Claims
public import proofs.«01_k».proof.Proof.Gen.XaMemIdeal.Value
public import proofs.«01_k».proof.Proof.Gen.XaMemRefIdeal.Run
public import proofs.«01_k».proof.Proof.Gen.XaMemRefIdeal.Read
public import proofs.«01_k».proof.Proof.XaMem.Claims
public import proofs.«01_k».proof.Proof.Gen.LossIdeal.Value
public import proofs.«01_k».proof.Proof.Gen.LossRefIdeal.Run
public import proofs.«01_k».proof.Proof.Gen.LossRefIdeal.Read
public import proofs.«01_k».proof.Proof.Loss.Claims
public import proofs.«01_k».proof.Proof.Gen.XaIdeal.Value
public import proofs.«01_k».proof.Proof.Gen.XaRefIdeal.Run
public import proofs.«01_k».proof.Proof.Gen.XaRefIdeal.Read
public import proofs.«01_k».proof.Proof.Xa.Claims
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Claims
public import proofs.«01_k».proof.Proof.Gen.MixInIdeal.Value
public import proofs.«01_k».proof.Proof.Gen.MixInRefIdeal.Run
public import proofs.«01_k».proof.Proof.Gen.MixInRefIdeal.Read
public import proofs.«01_k».proof.Proof.MixIn.Claims
public import proofs.«01_k».proof.Proof.Gen.ConvRefIdeal.Run
public import proofs.«01_k».proof.Proof.Gen.ConvRefIdeal.Read
public import proofs.«01_k».proof.Proof.Conv.Claims
public import proofs.«01_k».proof.Proof.Gen.SsmPrepRefIdeal.Run
public import proofs.«01_k».proof.Proof.Gen.SsmPrepRefIdeal.Read
public import proofs.«01_k».proof.Proof.SsmPrep.Claims
public import proofs.«01_k».proof.Proof.Gen.MixOutRefIdeal.Run
public import proofs.«01_k».proof.Proof.Gen.MixOutRefIdeal.Read
public import proofs.«01_k».proof.Proof.MixOut.Claims

@[expose] public section

noncomputable section

namespace Cert.Proof

/-- Everything that is claimed. -/
theorem claim : Cert.Claim :=
  ⟨Cert.Sb.Gen.facts,
    Cert.SbIdeal.Gen.facts,
    Cert.SbRefIdeal.Gen.facts,
    Cert.XaMem.Gen.facts,
    Cert.XaMemIdeal.Gen.facts,
    Cert.XaMemRefIdeal.Gen.facts,
    Cert.Loss.Gen.facts,
    Cert.LossIdeal.Gen.facts,
    Cert.LossRefIdeal.Gen.facts,
    Cert.Xa.Gen.facts,
    Cert.XaIdeal.Gen.facts,
    Cert.XaRefIdeal.Gen.facts,
    Cert.Ffn.Gen.facts,
    Cert.FfnIdeal.Gen.facts,
    Cert.FfnRefIdeal.Gen.facts,
    Cert.MixIn.Gen.facts,
    Cert.MixInIdeal.Gen.facts,
    Cert.MixInRefIdeal.Gen.facts,
    Cert.Conv.Gen.facts,
    Cert.ConvIdeal.Gen.facts,
    Cert.ConvRefIdeal.Gen.facts,
    Cert.SsmPrep.Gen.facts,
    Cert.SsmPrepIdeal.Gen.facts,
    Cert.SsmPrepRefIdeal.Gen.facts,
    Cert.MixOut.Gen.facts,
    Cert.MixOutIdeal.Gen.facts,
    Cert.MixOutRefIdeal.Gen.facts,
    Cert.SbVal.finite_facts,
    Cert.XaVal.finite_facts,
    Cert.MixInVal.finite_facts,
    Cert.MixOutVal.finite_facts,
    Cert.SbVal.frame_kernel,
    Cert.SbVal.frame_ideal,
    Cert.SbVal.frame_ideal_pre,
    Cert.SbVal.frame_ref,
    Cert.SbVal.frame_ref_pre,
    Cert.XaMemVal.frame_kernel,
    Cert.XaMemVal.frame_ideal,
    Cert.XaMemVal.frame_ref,
    Cert.LossVal.frame_kernel,
    Cert.LossVal.frame_ideal,
    Cert.LossVal.frame_ref,
    Cert.XaVal.frame_kernel,
    Cert.XaVal.frame_ideal,
    Cert.XaVal.frame_ideal_pre,
    Cert.XaVal.frame_ref,
    Cert.XaVal.frame_ref_pre,
    Cert.FfnVal.frame_kernel,
    Cert.FfnVal.frame_ideal,
    Cert.FfnVal.frame_ref,
    Cert.MixInVal.frame_kernel,
    Cert.MixInVal.frame_ideal,
    Cert.MixInVal.frame_ideal_pre,
    Cert.MixInVal.frame_ref,
    Cert.MixInVal.frame_ref_pre,
    Cert.ConvVal.frame_kernel,
    Cert.ConvVal.frame_ideal,
    Cert.ConvVal.frame_ref,
    Cert.SsmPrepVal.frame_kernel,
    Cert.SsmPrepVal.frame_ideal,
    Cert.SsmPrepVal.frame_ref,
    Cert.MixOutVal.frame_kernel,
    Cert.MixOutVal.frame_ideal,
    Cert.MixOutVal.frame_ideal_pre,
    Cert.MixOutVal.frame_ref,
    Cert.MixOutVal.frame_ref_pre,
    Cert.SbVal.preserves,
    Cert.SbVal.algebraic,
    Cert.XaMemVal.preserves,
    Cert.XaMemVal.algebraic,
    Cert.LossVal.preserves,
    Cert.LossVal.algebraic,
    Cert.XaVal.preserves,
    Cert.XaVal.algebraic,
    Cert.FfnVal.preserves,
    Cert.FfnVal.algebraic,
    Cert.MixInVal.preserves,
    Cert.MixInVal.algebraic,
    Cert.ConvVal.preserves,
    Cert.ConvVal.algebraic,
    Cert.SsmPrepVal.preserves,
    Cert.SsmPrepVal.algebraic,
    Cert.MixOutVal.preserves,
    Cert.MixOutVal.algebraic⟩

end Cert.Proof

end
